-- ==== Defs.lean ====
def Pre_XgradKernel (m : (ℓ : Loc Cert.XgradKernel.nD Cert.XgradKernel.τ Cert.XgradKernel.sig) → Buf (Elt Bits) ℓ) : Prop :=
  True

def Pre_XgradKernelIdeal (m : (ℓ : Loc Cert.XgradKernelIdeal.nD Cert.XgradKernelIdeal.τ Cert.XgradKernelIdeal.sig) → Buf (Elt Ideal) ℓ) : Prop :=
  True

def Pre_XgradKernelIdeal_xgrad_finite [hPre_xgrad_finite : Cert.Pre_xgrad_finite.Facts] (m : (ℓ : Loc Cert.XgradKernelIdeal.nD Cert.XgradKernelIdeal.τ Cert.XgradKernelIdeal.sig) → Buf (Elt Ideal) ℓ) : Prop :=
  ∀ c : Dev Cert.XgradKernelIdeal.nD,
    (Cert.Pre_xgrad_finite.fn (F := Ideal) (m ((c.tc : Thread Cert.XgradKernelIdeal.nD Cert.XgradKernelIdeal.τ).loc Cert.XgradKernelIdeal.main_arg0)) (m ((c.tc : Thread Cert.XgradKernelIdeal.nD Cert.XgradKernelIdeal.τ).loc Cert.XgradKernelIdeal.main_arg1)) (m ((c.tc : Thread Cert.XgradKernelIdeal.nD Cert.XgradKernelIdeal.τ).loc Cert.XgradKernelIdeal.main_arg2)) (m ((c.tc : Thread Cert.XgradKernelIdeal.nD Cert.XgradKernelIdeal.τ).loc Cert.XgradKernelIdeal.main_arg3)) (m ((c.tc : Thread Cert.XgradKernelIdeal.nD Cert.XgradKernelIdeal.τ).loc Cert.XgradKernelIdeal.main_arg4))) = (fun _ => 1#1)

def Pre_XgradReferenceIdeal (m : (ℓ : Loc Cert.XgradReferenceIdeal.nD Cert.XgradReferenceIdeal.τ Cert.XgradReferenceIdeal.sig) → Buf (Elt Ideal) ℓ) : Prop :=
  True

def Pre_XgradReferenceIdeal_xgrad_finite [hPre_xgrad_finite : Cert.Pre_xgrad_finite.Facts] (m : (ℓ : Loc Cert.XgradReferenceIdeal.nD Cert.XgradReferenceIdeal.τ Cert.XgradReferenceIdeal.sig) → Buf (Elt Ideal) ℓ) : Prop :=
  ∀ c : Dev Cert.XgradReferenceIdeal.nD,
    (Cert.Pre_xgrad_finite.fn (F := Ideal) (m ((c.tc : Thread Cert.XgradReferenceIdeal.nD Cert.XgradReferenceIdeal.τ).loc Cert.XgradReferenceIdeal.main_arg0)) (m ((c.tc : Thread Cert.XgradReferenceIdeal.nD Cert.XgradReferenceIdeal.τ).loc Cert.XgradReferenceIdeal.main_arg1)) (m ((c.tc : Thread Cert.XgradReferenceIdeal.nD Cert.XgradReferenceIdeal.τ).loc Cert.XgradReferenceIdeal.main_arg2)) (m ((c.tc : Thread Cert.XgradReferenceIdeal.nD Cert.XgradReferenceIdeal.τ).loc Cert.XgradReferenceIdeal.main_arg3)) (m ((c.tc : Thread Cert.XgradReferenceIdeal.nD Cert.XgradReferenceIdeal.τ).loc Cert.XgradReferenceIdeal.main_arg4))) = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_TailKernel (m : (ℓ : Loc Cert.TailKernel.nD Cert.TailKernel.τ Cert.TailKernel.sig) → Buf (Elt Bits) ℓ) : Prop :=
  True

def Pre_TailKernelIdeal (m : (ℓ : Loc Cert.TailKernelIdeal.nD Cert.TailKernelIdeal.τ Cert.TailKernelIdeal.sig) → Buf (Elt Ideal) ℓ) : Prop :=
  True

def Pre_TailKernelIdeal_tail_finite [hPre_tail_finite : Cert.Pre_tail_finite.Facts] (m : (ℓ : Loc Cert.TailKernelIdeal.nD Cert.TailKernelIdeal.τ Cert.TailKernelIdeal.sig) → Buf (Elt Ideal) ℓ) : Prop :=
  ∀ c : Dev Cert.TailKernelIdeal.nD,
    (Cert.Pre_tail_finite.fn (F := Ideal) (m ((c.tc : Thread Cert.TailKernelIdeal.nD Cert.TailKernelIdeal.τ).loc Cert.TailKernelIdeal.main_arg0)) (m ((c.tc : Thread Cert.TailKernelIdeal.nD Cert.TailKernelIdeal.τ).loc Cert.TailKernelIdeal.main_arg1)) (m ((c.tc : Thread Cert.TailKernelIdeal.nD Cert.TailKernelIdeal.τ).loc Cert.TailKernelIdeal.main_arg2)) (m ((c.tc : Thread Cert.TailKernelIdeal.nD Cert.TailKernelIdeal.τ).loc Cert.TailKernelIdeal.main_arg3)) (m ((c.tc : Thread Cert.TailKernelIdeal.nD Cert.TailKernelIdeal.τ).loc Cert.TailKernelIdeal.main_arg4)) (m ((c.tc : Thread Cert.TailKernelIdeal.nD Cert.TailKernelIdeal.τ).loc Cert.TailKernelIdeal.main_arg5)) (m ((c.tc : Thread Cert.TailKernelIdeal.nD Cert.TailKernelIdeal.τ).loc Cert.TailKernelIdeal.main_arg6)) (m ((c.tc : Thread Cert.TailKernelIdeal.nD Cert.TailKernelIdeal.τ).loc Cert.TailKernelIdeal.main_arg7)) (m ((c.tc : Thread Cert.TailKernelIdeal.nD Cert.TailKernelIdeal.τ).loc Cert.TailKernelIdeal.main_arg8)) (m ((c.tc : Thread Cert.TailKernelIdeal.nD Cert.TailKernelIdeal.τ).loc Cert.TailKernelIdeal.main_arg9))) = (fun _ => 1#1)

def Pre_TailReferenceIdeal (m : (ℓ : Loc Cert.TailReferenceIdeal.nD Cert.TailReferenceIdeal.τ Cert.TailReferenceIdeal.sig) → Buf (Elt Ideal) ℓ) : Prop :=
  True

def Pre_TailReferenceIdeal_tail_finite [hPre_tail_finite : Cert.Pre_tail_finite.Facts] (m : (ℓ : Loc Cert.TailReferenceIdeal.nD Cert.TailReferenceIdeal.τ Cert.TailReferenceIdeal.sig) → Buf (Elt Ideal) ℓ) : Prop :=
  ∀ c : Dev Cert.TailReferenceIdeal.nD,
    (Cert.Pre_tail_finite.fn (F := Ideal) (m ((c.tc : Thread Cert.TailReferenceIdeal.nD Cert.TailReferenceIdeal.τ).loc Cert.TailReferenceIdeal.main_arg0)) (m ((c.tc : Thread Cert.TailReferenceIdeal.nD Cert.TailReferenceIdeal.τ).loc Cert.TailReferenceIdeal.main_arg1)) (m ((c.tc : Thread Cert.TailReferenceIdeal.nD Cert.TailReferenceIdeal.τ).loc Cert.TailReferenceIdeal.main_arg2)) (m ((c.tc : Thread Cert.TailReferenceIdeal.nD Cert.TailReferenceIdeal.τ).loc Cert.TailReferenceIdeal.main_arg3)) (m ((c.tc : Thread Cert.TailReferenceIdeal.nD Cert.TailReferenceIdeal.τ).loc Cert.TailReferenceIdeal.main_arg4)) (m ((c.tc : Thread Cert.TailReferenceIdeal.nD Cert.TailReferenceIdeal.τ).loc Cert.TailReferenceIdeal.main_arg5)) (m ((c.tc : Thread Cert.TailReferenceIdeal.nD Cert.TailReferenceIdeal.τ).loc Cert.TailReferenceIdeal.main_arg6)) (m ((c.tc : Thread Cert.TailReferenceIdeal.nD Cert.TailReferenceIdeal.τ).loc Cert.TailReferenceIdeal.main_arg7)) (m ((c.tc : Thread Cert.TailReferenceIdeal.nD Cert.TailReferenceIdeal.τ).loc Cert.TailReferenceIdeal.main_arg8)) (m ((c.tc : Thread Cert.TailReferenceIdeal.nD Cert.TailReferenceIdeal.τ).loc Cert.TailReferenceIdeal.main_arg9))) = (fun _ => 1#1)

def Pre_FoxpreKernel (m : (ℓ : Loc Cert.FoxpreKernel.nD Cert.FoxpreKernel.τ Cert.FoxpreKernel.sig) → Buf (Elt Bits) ℓ) : Prop :=
  True

def Pre_FoxpreKernelIdeal (m : (ℓ : Loc Cert.FoxpreKernelIdeal.nD Cert.FoxpreKernelIdeal.τ Cert.FoxpreKernelIdeal.sig) → Buf (Elt Ideal) ℓ) : Prop :=
  True

def Pre_FoxpreKernelIdeal_foxpre_finite [hPre_foxpre_finite : Cert.Pre_foxpre_finite.Facts] (m : (ℓ : Loc Cert.FoxpreKernelIdeal.nD Cert.FoxpreKernelIdeal.τ Cert.FoxpreKernelIdeal.sig) → Buf (Elt Ideal) ℓ) : Prop :=
  ∀ c : Dev Cert.FoxpreKernelIdeal.nD,
    (Cert.Pre_foxpre_finite.fn (F := Ideal) (m ((c.tc : Thread Cert.FoxpreKernelIdeal.nD Cert.FoxpreKernelIdeal.τ).loc Cert.FoxpreKernelIdeal.main_arg0)) (m ((c.tc : Thread Cert.FoxpreKernelIdeal.nD Cert.FoxpreKernelIdeal.τ).loc Cert.FoxpreKernelIdeal.main_arg1)) (m ((c.tc : Thread Cert.FoxpreKernelIdeal.nD Cert.FoxpreKernelIdeal.τ).loc Cert.FoxpreKernelIdeal.main_arg2)) (m ((c.tc : Thread Cert.FoxpreKernelIdeal.nD Cert.FoxpreKernelIdeal.τ).loc Cert.FoxpreKernelIdeal.main_arg3)) (m ((c.tc : Thread Cert.FoxpreKernelIdeal.nD Cert.FoxpreKernelIdeal.τ).loc Cert.FoxpreKernelIdeal.main_arg4)) (m ((c.tc : Thread Cert.FoxpreKernelIdeal.nD Cert.FoxpreKernelIdeal.τ).loc Cert.FoxpreKernelIdeal.main_arg5)) (m ((c.tc : Thread Cert.FoxpreKernelIdeal.nD Cert.FoxpreKernelIdeal.τ).loc Cert.FoxpreKernelIdeal.main_arg6)) (m ((c.tc : Thread Cert.FoxpreKernelIdeal.nD Cert.FoxpreKernelIdeal.τ).loc Cert.FoxpreKernelIdeal.main_arg7)) (m ((c.tc : Thread Cert.FoxpreKernelIdeal.nD Cert.FoxpreKernelIdeal.τ).loc Cert.FoxpreKernelIdeal.main_arg8)) (m ((c.tc : Thread Cert.FoxpreKernelIdeal.nD Cert.FoxpreKernelIdeal.τ).loc Cert.FoxpreKernelIdeal.main_arg9))) = (fun _ => 1#1)

def Pre_FoxpreReferenceIdeal (m : (ℓ : Loc Cert.FoxpreReferenceIdeal.nD Cert.FoxpreReferenceIdeal.τ Cert.FoxpreReferenceIdeal.sig) → Buf (Elt Ideal) ℓ) : Prop :=
  True

def Pre_FoxpreReferenceIdeal_foxpre_finite [hPre_foxpre_finite : Cert.Pre_foxpre_finite.Facts] (m : (ℓ : Loc Cert.FoxpreReferenceIdeal.nD Cert.FoxpreReferenceIdeal.τ Cert.FoxpreReferenceIdeal.sig) → Buf (Elt Ideal) ℓ) : Prop :=
  ∀ c : Dev Cert.FoxpreReferenceIdeal.nD,
    (Cert.Pre_foxpre_finite.fn (F := Ideal) (m ((c.tc : Thread Cert.FoxpreReferenceIdeal.nD Cert.FoxpreReferenceIdeal.τ).loc Cert.FoxpreReferenceIdeal.main_arg0)) (m ((c.tc : Thread Cert.FoxpreReferenceIdeal.nD Cert.FoxpreReferenceIdeal.τ).loc Cert.FoxpreReferenceIdeal.main_arg1)) (m ((c.tc : Thread Cert.FoxpreReferenceIdeal.nD Cert.FoxpreReferenceIdeal.τ).loc Cert.FoxpreReferenceIdeal.main_arg2)) (m ((c.tc : Thread Cert.FoxpreReferenceIdeal.nD Cert.FoxpreReferenceIdeal.τ).loc Cert.FoxpreReferenceIdeal.main_arg3)) (m ((c.tc : Thread Cert.FoxpreReferenceIdeal.nD Cert.FoxpreReferenceIdeal.τ).loc Cert.FoxpreReferenceIdeal.main_arg4)) (m ((c.tc : Thread Cert.FoxpreReferenceIdeal.nD Cert.FoxpreReferenceIdeal.τ).loc Cert.FoxpreReferenceIdeal.main_arg5)) (m ((c.tc : Thread Cert.FoxpreReferenceIdeal.nD Cert.FoxpreReferenceIdeal.τ).loc Cert.FoxpreReferenceIdeal.main_arg6)) (m ((c.tc : Thread Cert.FoxpreReferenceIdeal.nD Cert.FoxpreReferenceIdeal.τ).loc Cert.FoxpreReferenceIdeal.main_arg7)) (m ((c.tc : Thread Cert.FoxpreReferenceIdeal.nD Cert.FoxpreReferenceIdeal.τ).loc Cert.FoxpreReferenceIdeal.main_arg8)) (m ((c.tc : Thread Cert.FoxpreReferenceIdeal.nD Cert.FoxpreReferenceIdeal.τ).loc Cert.FoxpreReferenceIdeal.main_arg9))) = (fun _ => 1#1)

def Pre_PostKernel (m : (ℓ : Loc Cert.PostKernel.nD Cert.PostKernel.τ Cert.PostKernel.sig) → Buf (Elt Bits) ℓ) : Prop :=
  True

def Pre_PostKernelIdeal (m : (ℓ : Loc Cert.PostKernelIdeal.nD Cert.PostKernelIdeal.τ Cert.PostKernelIdeal.sig) → Buf (Elt Ideal) ℓ) : Prop :=
  True

def Pre_PostKernelIdeal_post_finite [hPre_post_finite : Cert.Pre_post_finite.Facts] (m : (ℓ : Loc Cert.PostKernelIdeal.nD Cert.PostKernelIdeal.τ Cert.PostKernelIdeal.sig) → Buf (Elt Ideal) ℓ) : Prop :=
  ∀ c : Dev Cert.PostKernelIdeal.nD,
    (Cert.Pre_post_finite.fn (F := Ideal) (m ((c.tc : Thread Cert.PostKernelIdeal.nD Cert.PostKernelIdeal.τ).loc Cert.PostKernelIdeal.main_arg0)) (m ((c.tc : Thread Cert.PostKernelIdeal.nD Cert.PostKernelIdeal.τ).loc Cert.PostKernelIdeal.main_arg1)) (m ((c.tc : Thread Cert.PostKernelIdeal.nD Cert.PostKernelIdeal.τ).loc Cert.PostKernelIdeal.main_arg2)) (m ((c.tc : Thread Cert.PostKernelIdeal.nD Cert.PostKernelIdeal.τ).loc Cert.PostKernelIdeal.main_arg3)) (m ((c.tc : Thread Cert.PostKernelIdeal.nD Cert.PostKernelIdeal.τ).loc Cert.PostKernelIdeal.main_arg4)) (m ((c.tc : Thread Cert.PostKernelIdeal.nD Cert.PostKernelIdeal.τ).loc Cert.PostKernelIdeal.main_arg5)) (m ((c.tc : Thread Cert.PostKernelIdeal.nD Cert.PostKernelIdeal.τ).loc Cert.PostKernelIdeal.main_arg6)) (m ((c.tc : Thread Cert.PostKernelIdeal.nD Cert.PostKernelIdeal.τ).loc Cert.PostKernelIdeal.main_arg7)) (m ((c.tc : Thread Cert.PostKernelIdeal.nD Cert.PostKernelIdeal.τ).loc Cert.PostKernelIdeal.main_arg8))) = (fun _ => 1#1)

def Pre_PostReferenceIdeal (m : (ℓ : Loc Cert.PostReferenceIdeal.nD Cert.PostReferenceIdeal.τ Cert.PostReferenceIdeal.sig) → Buf (Elt Ideal) ℓ) : Prop :=
  True

def Pre_PostReferenceIdeal_post_finite [hPre_post_finite : Cert.Pre_post_finite.Facts] (m : (ℓ : Loc Cert.PostReferenceIdeal.nD Cert.PostReferenceIdeal.τ Cert.PostReferenceIdeal.sig) → Buf (Elt Ideal) ℓ) : Prop :=
  ∀ c : Dev Cert.PostReferenceIdeal.nD,
    (Cert.Pre_post_finite.fn (F := Ideal) (m ((c.tc : Thread Cert.PostReferenceIdeal.nD Cert.PostReferenceIdeal.τ).loc Cert.PostReferenceIdeal.main_arg0)) (m ((c.tc : Thread Cert.PostReferenceIdeal.nD Cert.PostReferenceIdeal.τ).loc Cert.PostReferenceIdeal.main_arg1)) (m ((c.tc : Thread Cert.PostReferenceIdeal.nD Cert.PostReferenceIdeal.τ).loc Cert.PostReferenceIdeal.main_arg2)) (m ((c.tc : Thread Cert.PostReferenceIdeal.nD Cert.PostReferenceIdeal.τ).loc Cert.PostReferenceIdeal.main_arg3)) (m ((c.tc : Thread Cert.PostReferenceIdeal.nD Cert.PostReferenceIdeal.τ).loc Cert.PostReferenceIdeal.main_arg4)) (m ((c.tc : Thread Cert.PostReferenceIdeal.nD Cert.PostReferenceIdeal.τ).loc Cert.PostReferenceIdeal.main_arg5)) (m ((c.tc : Thread Cert.PostReferenceIdeal.nD Cert.PostReferenceIdeal.τ).loc Cert.PostReferenceIdeal.main_arg6)) (m ((c.tc : Thread Cert.PostReferenceIdeal.nD Cert.PostReferenceIdeal.τ).loc Cert.PostReferenceIdeal.main_arg7)) (m ((c.tc : Thread Cert.PostReferenceIdeal.nD Cert.PostReferenceIdeal.τ).loc Cert.PostReferenceIdeal.main_arg8))) = (fun _ => 1#1)

def Pre_AttnfwdKernel (m : (ℓ : Loc Cert.AttnfwdKernel.nD Cert.AttnfwdKernel.τ Cert.AttnfwdKernel.sig) → Buf (Elt Bits) ℓ) : Prop :=
  True

def Pre_AttnfwdKernelIdeal (m : (ℓ : Loc Cert.AttnfwdKernelIdeal.nD Cert.AttnfwdKernelIdeal.τ Cert.AttnfwdKernelIdeal.sig) → Buf (Elt Ideal) ℓ) : Prop :=
  True

def Pre_AttnfwdKernelIdeal_attnf_finite [hPre_attnf_finite : Cert.Pre_attnf_finite.Facts] (m : (ℓ : Loc Cert.AttnfwdKernelIdeal.nD Cert.AttnfwdKernelIdeal.τ Cert.AttnfwdKernelIdeal.sig) → Buf (Elt Ideal) ℓ) : Prop :=
  ∀ c : Dev Cert.AttnfwdKernelIdeal.nD,
    (Cert.Pre_attnf_finite.fn (F := Ideal) (m ((c.tc : Thread Cert.AttnfwdKernelIdeal.nD Cert.AttnfwdKernelIdeal.τ).loc Cert.AttnfwdKernelIdeal.main_arg0)) (m ((c.tc : Thread Cert.AttnfwdKernelIdeal.nD Cert.AttnfwdKernelIdeal.τ).loc Cert.AttnfwdKernelIdeal.main_arg1)) (m ((c.tc : Thread Cert.AttnfwdKernelIdeal.nD Cert.AttnfwdKernelIdeal.τ).loc Cert.AttnfwdKernelIdeal.main_arg2)) (m ((c.tc : Thread Cert.AttnfwdKernelIdeal.nD Cert.AttnfwdKernelIdeal.τ).loc Cert.AttnfwdKernelIdeal.main_arg3))) = (fun _ => 1#1)

def Pre_AttnfwdReferenceIdeal (m : (ℓ : Loc Cert.AttnfwdReferenceIdeal.nD Cert.AttnfwdReferenceIdeal.τ Cert.AttnfwdReferenceIdeal.sig) → Buf (Elt Ideal) ℓ) : Prop :=
  True

def Pre_AttnfwdReferenceIdeal_attnf_finite [hPre_attnf_finite : Cert.Pre_attnf_finite.Facts] (m : (ℓ : Loc Cert.AttnfwdReferenceIdeal.nD Cert.AttnfwdReferenceIdeal.τ Cert.AttnfwdReferenceIdeal.sig) → Buf (Elt Ideal) ℓ) : Prop :=
  ∀ c : Dev Cert.AttnfwdReferenceIdeal.nD,
    (Cert.Pre_attnf_finite.fn (F := Ideal) (m ((c.tc : Thread Cert.AttnfwdReferenceIdeal.nD Cert.AttnfwdReferenceIdeal.τ).loc Cert.AttnfwdReferenceIdeal.main_arg0)) (m ((c.tc : Thread Cert.AttnfwdReferenceIdeal.nD Cert.AttnfwdReferenceIdeal.τ).loc Cert.AttnfwdReferenceIdeal.main_arg1)) (m ((c.tc : Thread Cert.AttnfwdReferenceIdeal.nD Cert.AttnfwdReferenceIdeal.τ).loc Cert.AttnfwdReferenceIdeal.main_arg2)) (m ((c.tc : Thread Cert.AttnfwdReferenceIdeal.nD Cert.AttnfwdReferenceIdeal.τ).loc Cert.AttnfwdReferenceIdeal.main_arg3))) = (fun _ => 1#1)

def Pre_PostfwdKernel (m : (ℓ : Loc Cert.PostfwdKernel.nD Cert.PostfwdKernel.τ Cert.PostfwdKernel.sig) → Buf (Elt Bits) ℓ) : Prop :=
  True

def Pre_PostfwdKernelIdeal (m : (ℓ : Loc Cert.PostfwdKernelIdeal.nD Cert.PostfwdKernelIdeal.τ Cert.PostfwdKernelIdeal.sig) → Buf (Elt Ideal) ℓ) : Prop :=
  True

def Pre_PostfwdKernelIdeal_postf_finite [hPre_postf_finite : Cert.Pre_postf_finite.Facts] (m : (ℓ : Loc Cert.PostfwdKernelIdeal.nD Cert.PostfwdKernelIdeal.τ Cert.PostfwdKernelIdeal.sig) → Buf (Elt Ideal) ℓ) : Prop :=
  ∀ c : Dev Cert.PostfwdKernelIdeal.nD,
    (Cert.Pre_postf_finite.fn (F := Ideal) (m ((c.tc : Thread Cert.PostfwdKernelIdeal.nD Cert.PostfwdKernelIdeal.τ).loc Cert.PostfwdKernelIdeal.main_arg0)) (m ((c.tc : Thread Cert.PostfwdKernelIdeal.nD Cert.PostfwdKernelIdeal.τ).loc Cert.PostfwdKernelIdeal.main_arg1)) (m ((c.tc : Thread Cert.PostfwdKernelIdeal.nD Cert.PostfwdKernelIdeal.τ).loc Cert.PostfwdKernelIdeal.main_arg2)) (m ((c.tc : Thread Cert.PostfwdKernelIdeal.nD Cert.PostfwdKernelIdeal.τ).loc Cert.PostfwdKernelIdeal.main_arg3)) (m ((c.tc : Thread Cert.PostfwdKernelIdeal.nD Cert.PostfwdKernelIdeal.τ).loc Cert.PostfwdKernelIdeal.main_arg4)) (m ((c.tc : Thread Cert.PostfwdKernelIdeal.nD Cert.PostfwdKernelIdeal.τ).loc Cert.PostfwdKernelIdeal.main_arg5)) (m ((c.tc : Thread Cert.PostfwdKernelIdeal.nD Cert.PostfwdKernelIdeal.τ).loc Cert.PostfwdKernelIdeal.main_arg6)) (m ((c.tc : Thread Cert.PostfwdKernelIdeal.nD Cert.PostfwdKernelIdeal.τ).loc Cert.PostfwdKernelIdeal.main_arg7))) = (fun _ => 1#1)

def Pre_PostfwdReferenceIdeal (m : (ℓ : Loc Cert.PostfwdReferenceIdeal.nD Cert.PostfwdReferenceIdeal.τ Cert.PostfwdReferenceIdeal.sig) → Buf (Elt Ideal) ℓ) : Prop :=
  True

def Pre_PostfwdReferenceIdeal_postf_finite [hPre_postf_finite : Cert.Pre_postf_finite.Facts] (m : (ℓ : Loc Cert.PostfwdReferenceIdeal.nD Cert.PostfwdReferenceIdeal.τ Cert.PostfwdReferenceIdeal.sig) → Buf (Elt Ideal) ℓ) : Prop :=
  ∀ c : Dev Cert.PostfwdReferenceIdeal.nD,
    (Cert.Pre_postf_finite.fn (F := Ideal) (m ((c.tc : Thread Cert.PostfwdReferenceIdeal.nD Cert.PostfwdReferenceIdeal.τ).loc Cert.PostfwdReferenceIdeal.main_arg0)) (m ((c.tc : Thread Cert.PostfwdReferenceIdeal.nD Cert.PostfwdReferenceIdeal.τ).loc Cert.PostfwdReferenceIdeal.main_arg1)) (m ((c.tc : Thread Cert.PostfwdReferenceIdeal.nD Cert.PostfwdReferenceIdeal.τ).loc Cert.PostfwdReferenceIdeal.main_arg2)) (m ((c.tc : Thread Cert.PostfwdReferenceIdeal.nD Cert.PostfwdReferenceIdeal.τ).loc Cert.PostfwdReferenceIdeal.main_arg3)) (m ((c.tc : Thread Cert.PostfwdReferenceIdeal.nD Cert.PostfwdReferenceIdeal.τ).loc Cert.PostfwdReferenceIdeal.main_arg4)) (m ((c.tc : Thread Cert.PostfwdReferenceIdeal.nD Cert.PostfwdReferenceIdeal.τ).loc Cert.PostfwdReferenceIdeal.main_arg5)) (m ((c.tc : Thread Cert.PostfwdReferenceIdeal.nD Cert.PostfwdReferenceIdeal.τ).loc Cert.PostfwdReferenceIdeal.main_arg6)) (m ((c.tc : Thread Cert.PostfwdReferenceIdeal.nD Cert.PostfwdReferenceIdeal.τ).loc Cert.PostfwdReferenceIdeal.main_arg7))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_XgradKernel [hXgradKernel : Cert.XgradKernel.Facts] : Prop :=
  ∀ (m : (ℓ : Loc Cert.XgradKernel.nD Cert.XgradKernel.τ Cert.XgradKernel.sig) → Buf (Elt Bits) ℓ) (g : Dev Cert.XgradKernel.nD → PrngReg), Pre_XgradKernel m →
    θ_run (Cert.XgradKernel.defs (F := Bits)) (onTc (τ := Cert.XgradKernel.τ) (Cert.XgradKernel.main (F := Bits))) ⟨m, fun _ => 0, g⟩ (fun r => (∀ c : Dev Cert.XgradKernel.nD,
      r.2.mem ((c.tc : Thread Cert.XgradKernel.nD Cert.XgradKernel.τ).loc Cert.XgradKernel.main_arg0) = m ((c.tc : Thread Cert.XgradKernel.nD Cert.XgradKernel.τ).loc Cert.XgradKernel.main_arg0)
      ∧ r.2.mem ((c.tc : Thread Cert.XgradKernel.nD Cert.XgradKernel.τ).loc Cert.XgradKernel.main_arg1) = m ((c.tc : Thread Cert.XgradKernel.nD Cert.XgradKernel.τ).loc Cert.XgradKernel.main_arg1)
      ∧ r.2.mem ((c.tc : Thread Cert.XgradKernel.nD Cert.XgradKernel.τ).loc Cert.XgradKernel.main_arg2) = m ((c.tc : Thread Cert.XgradKernel.nD Cert.XgradKernel.τ).loc Cert.XgradKernel.main_arg2)
      ∧ r.2.mem ((c.tc : Thread Cert.XgradKernel.nD Cert.XgradKernel.τ).loc Cert.XgradKernel.main_arg3) = m ((c.tc : Thread Cert.XgradKernel.nD Cert.XgradKernel.τ).loc Cert.XgradKernel.main_arg3)
      ∧ r.2.mem ((c.tc : Thread Cert.XgradKernel.nD Cert.XgradKernel.τ).loc Cert.XgradKernel.main_arg4) = m ((c.tc : Thread Cert.XgradKernel.nD Cert.XgradKernel.τ).loc Cert.XgradKernel.main_arg4))
      ∧ r.2.sem = fun _ => 0)

def quiescent_XgradKernelIdeal [hXgradKernelIdeal : Cert.XgradKernelIdeal.Facts] : Prop :=
  ∀ (m : (ℓ : Loc Cert.XgradKernelIdeal.nD Cert.XgradKernelIdeal.τ Cert.XgradKernelIdeal.sig) → Buf (Elt Ideal) ℓ) (g : Dev Cert.XgradKernelIdeal.nD → PrngReg), Pre_XgradKernelIdeal m →
    θ_run (Cert.XgradKernelIdeal.defs (F := Ideal)) (onTc (τ := Cert.XgradKernelIdeal.τ) (Cert.XgradKernelIdeal.main (F := Ideal))) ⟨m, fun _ => 0, g⟩ (fun r => (∀ c : Dev Cert.XgradKernelIdeal.nD,
      r.2.mem ((c.tc : Thread Cert.XgradKernelIdeal.nD Cert.XgradKernelIdeal.τ).loc Cert.XgradKernelIdeal.main_arg0) = m ((c.tc : Thread Cert.XgradKernelIdeal.nD Cert.XgradKernelIdeal.τ).loc Cert.XgradKernelIdeal.main_arg0)
      ∧ r.2.mem ((c.tc : Thread Cert.XgradKernelIdeal.nD Cert.XgradKernelIdeal.τ).loc Cert.XgradKernelIdeal.main_arg1) = m ((c.tc : Thread Cert.XgradKernelIdeal.nD Cert.XgradKernelIdeal.τ).loc Cert.XgradKernelIdeal.main_arg1)
      ∧ r.2.mem ((c.tc : Thread Cert.XgradKernelIdeal.nD Cert.XgradKernelIdeal.τ).loc Cert.XgradKernelIdeal.main_arg2) = m ((c.tc : Thread Cert.XgradKernelIdeal.nD Cert.XgradKernelIdeal.τ).loc Cert.XgradKernelIdeal.main_arg2)
      ∧ r.2.mem ((c.tc : Thread Cert.XgradKernelIdeal.nD Cert.XgradKernelIdeal.τ).loc Cert.XgradKernelIdeal.main_arg3) = m ((c.tc : Thread Cert.XgradKernelIdeal.nD Cert.XgradKernelIdeal.τ).loc Cert.XgradKernelIdeal.main_arg3)
      ∧ r.2.mem ((c.tc : Thread Cert.XgradKernelIdeal.nD Cert.XgradKernelIdeal.τ).loc Cert.XgradKernelIdeal.main_arg4) = m ((c.tc : Thread Cert.XgradKernelIdeal.nD Cert.XgradKernelIdeal.τ).loc Cert.XgradKernelIdeal.main_arg4))
      ∧ r.2.sem = fun _ => 0)

def quiescent_XgradKernelIdeal_pre_xgrad_finite [hXgradKernelIdeal : Cert.XgradKernelIdeal.Facts] [hPre_xgrad_finite : Cert.Pre_xgrad_finite.Facts] : Prop :=
  ∀ (m : (ℓ : Loc Cert.XgradKernelIdeal.nD Cert.XgradKernelIdeal.τ Cert.XgradKernelIdeal.sig) → Buf (Elt Ideal) ℓ) (g : Dev Cert.XgradKernelIdeal.nD → PrngReg), Pre_XgradKernelIdeal_xgrad_finite m →
    θ_run (Cert.XgradKernelIdeal.defs (F := Ideal)) (onTc (τ := Cert.XgradKernelIdeal.τ) (Cert.XgradKernelIdeal.main (F := Ideal))) ⟨m, fun _ => 0, g⟩ (fun r => (∀ c : Dev Cert.XgradKernelIdeal.nD,
      r.2.mem ((c.tc : Thread Cert.XgradKernelIdeal.nD Cert.XgradKernelIdeal.τ).loc Cert.XgradKernelIdeal.main_arg0) = m ((c.tc : Thread Cert.XgradKernelIdeal.nD Cert.XgradKernelIdeal.τ).loc Cert.XgradKernelIdeal.main_arg0)
      ∧ r.2.mem ((c.tc : Thread Cert.XgradKernelIdeal.nD Cert.XgradKernelIdeal.τ).loc Cert.XgradKernelIdeal.main_arg1) = m ((c.tc : Thread Cert.XgradKernelIdeal.nD Cert.XgradKernelIdeal.τ).loc Cert.XgradKernelIdeal.main_arg1)
      ∧ r.2.mem ((c.tc : Thread Cert.XgradKernelIdeal.nD Cert.XgradKernelIdeal.τ).loc Cert.XgradKernelIdeal.main_arg2) = m ((c.tc : Thread Cert.XgradKernelIdeal.nD Cert.XgradKernelIdeal.τ).loc Cert.XgradKernelIdeal.main_arg2)
      ∧ r.2.mem ((c.tc : Thread Cert.XgradKernelIdeal.nD Cert.XgradKernelIdeal.τ).loc Cert.XgradKernelIdeal.main_arg3) = m ((c.tc : Thread Cert.XgradKernelIdeal.nD Cert.XgradKernelIdeal.τ).loc Cert.XgradKernelIdeal.main_arg3)
      ∧ r.2.mem ((c.tc : Thread Cert.XgradKernelIdeal.nD Cert.XgradKernelIdeal.τ).loc Cert.XgradKernelIdeal.main_arg4) = m ((c.tc : Thread Cert.XgradKernelIdeal.nD Cert.XgradKernelIdeal.τ).loc Cert.XgradKernelIdeal.main_arg4))
      ∧ r.2.sem = fun _ => 0)

def quiescent_XgradReferenceIdeal [hXgradReferenceIdeal : Cert.XgradReferenceIdeal.Facts] : Prop :=
  ∀ (m : (ℓ : Loc Cert.XgradReferenceIdeal.nD Cert.XgradReferenceIdeal.τ Cert.XgradReferenceIdeal.sig) → Buf (Elt Ideal) ℓ) (g : Dev Cert.XgradReferenceIdeal.nD → PrngReg), Pre_XgradReferenceIdeal m →
    θ_run (Cert.XgradReferenceIdeal.defs (F := Ideal)) (onTc (τ := Cert.XgradReferenceIdeal.τ) (Cert.XgradReferenceIdeal.main (F := Ideal))) ⟨m, fun _ => 0, g⟩ (fun r => (∀ c : Dev Cert.XgradReferenceIdeal.nD,
      r.2.mem ((c.tc : Thread Cert.XgradReferenceIdeal.nD Cert.XgradReferenceIdeal.τ).loc Cert.XgradReferenceIdeal.main_arg0) = m ((c.tc : Thread Cert.XgradReferenceIdeal.nD Cert.XgradReferenceIdeal.τ).loc Cert.XgradReferenceIdeal.main_arg0)
      ∧ r.2.mem ((c.tc : Thread Cert.XgradReferenceIdeal.nD Cert.XgradReferenceIdeal.τ).loc Cert.XgradReferenceIdeal.main_arg1) = m ((c.tc : Thread Cert.XgradReferenceIdeal.nD Cert.XgradReferenceIdeal.τ).loc Cert.XgradReferenceIdeal.main_arg1)
      ∧ r.2.mem ((c.tc : Thread Cert.XgradReferenceIdeal.nD Cert.XgradReferenceIdeal.τ).loc Cert.XgradReferenceIdeal.main_arg2) = m ((c.tc : Thread Cert.XgradReferenceIdeal.nD Cert.XgradReferenceIdeal.τ).loc Cert.XgradReferenceIdeal.main_arg2)
      ∧ r.2.mem ((c.tc : Thread Cert.XgradReferenceIdeal.nD Cert.XgradReferenceIdeal.τ).loc Cert.XgradReferenceIdeal.main_arg3) = m ((c.tc : Thread Cert.XgradReferenceIdeal.nD Cert.XgradReferenceIdeal.τ).loc Cert.XgradReferenceIdeal.main_arg3)
      ∧ r.2.mem ((c.tc : Thread Cert.XgradReferenceIdeal.nD Cert.XgradReferenceIdeal.τ).loc Cert.XgradReferenceIdeal.main_arg4) = m ((c.tc : Thread Cert.XgradReferenceIdeal.nD Cert.XgradReferenceIdeal.τ).loc Cert.XgradReferenceIdeal.main_arg4))
      ∧ r.2.sem = fun _ => 0)

def quiescent_XgradReferenceIdeal_pre_xgrad_finite [hXgradReferenceIdeal : Cert.XgradReferenceIdeal.Facts] [hPre_xgrad_finite : Cert.Pre_xgrad_finite.Facts] : Prop :=
  ∀ (m : (ℓ : Loc Cert.XgradReferenceIdeal.nD Cert.XgradReferenceIdeal.τ Cert.XgradReferenceIdeal.sig) → Buf (Elt Ideal) ℓ) (g : Dev Cert.XgradReferenceIdeal.nD → PrngReg), Pre_XgradReferenceIdeal_xgrad_finite m →
    θ_run (Cert.XgradReferenceIdeal.defs (F := Ideal)) (onTc (τ := Cert.XgradReferenceIdeal.τ) (Cert.XgradReferenceIdeal.main (F := Ideal))) ⟨m, fun _ => 0, g⟩ (fun r => (∀ c : Dev Cert.XgradReferenceIdeal.nD,
      r.2.mem ((c.tc : Thread Cert.XgradReferenceIdeal.nD Cert.XgradReferenceIdeal.τ).loc Cert.XgradReferenceIdeal.main_arg0) = m ((c.tc : Thread Cert.XgradReferenceIdeal.nD Cert.XgradReferenceIdeal.τ).loc Cert.XgradReferenceIdeal.main_arg0)
      ∧ r.2.mem ((c.tc : Thread Cert.XgradReferenceIdeal.nD Cert.XgradReferenceIdeal.τ).loc Cert.XgradReferenceIdeal.main_arg1) = m ((c.tc : Thread Cert.XgradReferenceIdeal.nD Cert.XgradReferenceIdeal.τ).loc Cert.XgradReferenceIdeal.main_arg1)
      ∧ r.2.mem ((c.tc : Thread Cert.XgradReferenceIdeal.nD Cert.XgradReferenceIdeal.τ).loc Cert.XgradReferenceIdeal.main_arg2) = m ((c.tc : Thread Cert.XgradReferenceIdeal.nD Cert.XgradReferenceIdeal.τ).loc Cert.XgradReferenceIdeal.main_arg2)
      ∧ r.2.mem ((c.tc : Thread Cert.XgradReferenceIdeal.nD Cert.XgradReferenceIdeal.τ).loc Cert.XgradReferenceIdeal.main_arg3) = m ((c.tc : Thread Cert.XgradReferenceIdeal.nD Cert.XgradReferenceIdeal.τ).loc Cert.XgradReferenceIdeal.main_arg3)
      ∧ r.2.mem ((c.tc : Thread Cert.XgradReferenceIdeal.nD Cert.XgradReferenceIdeal.τ).loc Cert.XgradReferenceIdeal.main_arg4) = m ((c.tc : Thread Cert.XgradReferenceIdeal.nD Cert.XgradReferenceIdeal.τ).loc Cert.XgradReferenceIdeal.main_arg4))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_TailKernel [hTailKernel : Cert.TailKernel.Facts] : Prop :=
  ∀ (m : (ℓ : Loc Cert.TailKernel.nD Cert.TailKernel.τ Cert.TailKernel.sig) → Buf (Elt Bits) ℓ) (g : Dev Cert.TailKernel.nD → PrngReg), Pre_TailKernel m →
    θ_run (Cert.TailKernel.defs (F := Bits)) (onTc (τ := Cert.TailKernel.τ) (Cert.TailKernel.main (F := Bits))) ⟨m, fun _ => 0, g⟩ (fun r => (∀ c : Dev Cert.TailKernel.nD,
      r.2.mem ((c.tc : Thread Cert.TailKernel.nD Cert.TailKernel.τ).loc Cert.TailKernel.main_arg0) = m ((c.tc : Thread Cert.TailKernel.nD Cert.TailKernel.τ).loc Cert.TailKernel.main_arg0)
      ∧ r.2.mem ((c.tc : Thread Cert.TailKernel.nD Cert.TailKernel.τ).loc Cert.TailKernel.main_arg1) = m ((c.tc : Thread Cert.TailKernel.nD Cert.TailKernel.τ).loc Cert.TailKernel.main_arg1)
      ∧ r.2.mem ((c.tc : Thread Cert.TailKernel.nD Cert.TailKernel.τ).loc Cert.TailKernel.main_arg2) = m ((c.tc : Thread Cert.TailKernel.nD Cert.TailKernel.τ).loc Cert.TailKernel.main_arg2)
      ∧ r.2.mem ((c.tc : Thread Cert.TailKernel.nD Cert.TailKernel.τ).loc Cert.TailKernel.main_arg3) = m ((c.tc : Thread Cert.TailKernel.nD Cert.TailKernel.τ).loc Cert.TailKernel.main_arg3)
      ∧ r.2.mem ((c.tc : Thread Cert.TailKernel.nD Cert.TailKernel.τ).loc Cert.TailKernel.main_arg4) = m ((c.tc : Thread Cert.TailKernel.nD Cert.TailKernel.τ).loc Cert.TailKernel.main_arg4)
      ∧ r.2.mem ((c.tc : Thread Cert.TailKernel.nD Cert.TailKernel.τ).loc Cert.TailKernel.main_arg5) = m ((c.tc : Thread Cert.TailKernel.nD Cert.TailKernel.τ).loc Cert.TailKernel.main_arg5)
      ∧ r.2.mem ((c.tc : Thread Cert.TailKernel.nD Cert.TailKernel.τ).loc Cert.TailKernel.main_arg6) = m ((c.tc : Thread Cert.TailKernel.nD Cert.TailKernel.τ).loc Cert.TailKernel.main_arg6)
      ∧ r.2.mem ((c.tc : Thread Cert.TailKernel.nD Cert.TailKernel.τ).loc Cert.TailKernel.main_arg7) = m ((c.tc : Thread Cert.TailKernel.nD Cert.TailKernel.τ).loc Cert.TailKernel.main_arg7)
      ∧ r.2.mem ((c.tc : Thread Cert.TailKernel.nD Cert.TailKernel.τ).loc Cert.TailKernel.main_arg8) = m ((c.tc : Thread Cert.TailKernel.nD Cert.TailKernel.τ).loc Cert.TailKernel.main_arg8)
      ∧ r.2.mem ((c.tc : Thread Cert.TailKernel.nD Cert.TailKernel.τ).loc Cert.TailKernel.main_arg9) = m ((c.tc : Thread Cert.TailKernel.nD Cert.TailKernel.τ).loc Cert.TailKernel.main_arg9))
      ∧ r.2.sem = fun _ => 0)

def quiescent_TailKernelIdeal [hTailKernelIdeal : Cert.TailKernelIdeal.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ r.2.sem = fun _ => 0)

def quiescent_TailKernelIdeal_pre_tail_finite [hTailKernelIdeal : Cert.TailKernelIdeal.Facts] [hPre_tail_finite : Cert.Pre_tail_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg), Pre_TailKernelIdeal_tail_finite m →
    θ_run (Cert.TailKernelIdeal.defs (F := Ideal)) (onTc (τ := Cert.TailKernelIdeal.τ) (Cert.TailKernelIdeal.main (F := Ideal))) ⟨m, fun _ => 0, g⟩ (fun r => (∀ c : Dev Cert.TailKernelIdeal.nD,
      r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
      ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
      ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
      ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
      ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
      ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
      ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
      ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
      ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
      ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_TailReferenceIdeal_pre_tail_finite [hTailReferenceIdeal : Cert.TailReferenceIdeal.Facts] [hPre_tail_finite : Cert.Pre_tail_finite.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal_tail_finite m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9))
      ∧ r.2.sem = fun _ => 0)

def quiescent_FoxpreKernel [hFoxpreKernel : Cert.FoxpreKernel.Facts] : Prop :=
  ∀ (m : (ℓ : Loc Cert.FoxpreKernel.nD Cert.FoxpreKernel.τ Cert.FoxpreKernel.sig) → Buf (Elt Bits) ℓ) (g : Dev Cert.FoxpreKernel.nD → PrngReg), Pre_FoxpreKernel m →
    θ_run (Cert.FoxpreKernel.defs (F := Bits)) (onTc (τ := Cert.FoxpreKernel.τ) (Cert.FoxpreKernel.main (F := Bits))) ⟨m, fun _ => 0, g⟩ (fun r => (∀ c : Dev Cert.FoxpreKernel.nD,
      r.2.mem ((c.tc : Thread Cert.FoxpreKernel.nD Cert.FoxpreKernel.τ).loc Cert.FoxpreKernel.main_arg0) = m ((c.tc : Thread Cert.FoxpreKernel.nD Cert.FoxpreKernel.τ).loc Cert.FoxpreKernel.main_arg0)
      ∧ r.2.mem ((c.tc : Thread Cert.FoxpreKernel.nD Cert.FoxpreKernel.τ).loc Cert.FoxpreKernel.main_arg1) = m ((c.tc : Thread Cert.FoxpreKernel.nD Cert.FoxpreKernel.τ).loc Cert.FoxpreKernel.main_arg1)
      ∧ r.2.mem ((c.tc : Thread Cert.FoxpreKernel.nD Cert.FoxpreKernel.τ).loc Cert.FoxpreKernel.main_arg2) = m ((c.tc : Thread Cert.FoxpreKernel.nD Cert.FoxpreKernel.τ).loc Cert.FoxpreKernel.main_arg2)
      ∧ r.2.mem ((c.tc : Thread Cert.FoxpreKernel.nD Cert.FoxpreKernel.τ).loc Cert.FoxpreKernel.main_arg3) = m ((c.tc : Thread Cert.FoxpreKernel.nD Cert.FoxpreKernel.τ).loc Cert.FoxpreKernel.main_arg3)
      ∧ r.2.mem ((c.tc : Thread Cert.FoxpreKernel.nD Cert.FoxpreKernel.τ).loc Cert.FoxpreKernel.main_arg4) = m ((c.tc : Thread Cert.FoxpreKernel.nD Cert.FoxpreKernel.τ).loc Cert.FoxpreKernel.main_arg4)
      ∧ r.2.mem ((c.tc : Thread Cert.FoxpreKernel.nD Cert.FoxpreKernel.τ).loc Cert.FoxpreKernel.main_arg5) = m ((c.tc : Thread Cert.FoxpreKernel.nD Cert.FoxpreKernel.τ).loc Cert.FoxpreKernel.main_arg5)
      ∧ r.2.mem ((c.tc : Thread Cert.FoxpreKernel.nD Cert.FoxpreKernel.τ).loc Cert.FoxpreKernel.main_arg6) = m ((c.tc : Thread Cert.FoxpreKernel.nD Cert.FoxpreKernel.τ).loc Cert.FoxpreKernel.main_arg6)
      ∧ r.2.mem ((c.tc : Thread Cert.FoxpreKernel.nD Cert.FoxpreKernel.τ).loc Cert.FoxpreKernel.main_arg7) = m ((c.tc : Thread Cert.FoxpreKernel.nD Cert.FoxpreKernel.τ).loc Cert.FoxpreKernel.main_arg7)
      ∧ r.2.mem ((c.tc : Thread Cert.FoxpreKernel.nD Cert.FoxpreKernel.τ).loc Cert.FoxpreKernel.main_arg8) = m ((c.tc : Thread Cert.FoxpreKernel.nD Cert.FoxpreKernel.τ).loc Cert.FoxpreKernel.main_arg8)
      ∧ r.2.mem ((c.tc : Thread Cert.FoxpreKernel.nD Cert.FoxpreKernel.τ).loc Cert.FoxpreKernel.main_arg9) = m ((c.tc : Thread Cert.FoxpreKernel.nD Cert.FoxpreKernel.τ).loc Cert.FoxpreKernel.main_arg9))
      ∧ r.2.sem = fun _ => 0)

def quiescent_FoxpreKernelIdeal [hFoxpreKernelIdeal : Cert.FoxpreKernelIdeal.Facts] : Prop :=
  ∀ (m : (ℓ : Loc Cert.FoxpreKernelIdeal.nD Cert.FoxpreKernelIdeal.τ Cert.FoxpreKernelIdeal.sig) → Buf (Elt Ideal) ℓ) (g : Dev Cert.FoxpreKernelIdeal.nD → PrngReg), Pre_FoxpreKernelIdeal m →
    θ_run (Cert.FoxpreKernelIdeal.defs (F := Ideal)) (onTc (τ := Cert.FoxpreKernelIdeal.τ) (Cert.FoxpreKernelIdeal.main (F := Ideal))) ⟨m, fun _ => 0, g⟩ (fun r => (∀ c : Dev Cert.FoxpreKernelIdeal.nD,
      r.2.mem ((c.tc : Thread Cert.FoxpreKernelIdeal.nD Cert.FoxpreKernelIdeal.τ).loc Cert.FoxpreKernelIdeal.main_arg0) = m ((c.tc : Thread Cert.FoxpreKernelIdeal.nD Cert.FoxpreKernelIdeal.τ).loc Cert.FoxpreKernelIdeal.main_arg0)
      ∧ r.2.mem ((c.tc : Thread Cert.FoxpreKernelIdeal.nD Cert.FoxpreKernelIdeal.τ).loc Cert.FoxpreKernelIdeal.main_arg1) = m ((c.tc : Thread Cert.FoxpreKernelIdeal.nD Cert.FoxpreKernelIdeal.τ).loc Cert.FoxpreKernelIdeal.main_arg1)
      ∧ r.2.mem ((c.tc : Thread Cert.FoxpreKernelIdeal.nD Cert.FoxpreKernelIdeal.τ).loc Cert.FoxpreKernelIdeal.main_arg2) = m ((c.tc : Thread Cert.FoxpreKernelIdeal.nD Cert.FoxpreKernelIdeal.τ).loc Cert.FoxpreKernelIdeal.main_arg2)
      ∧ r.2.mem ((c.tc : Thread Cert.FoxpreKernelIdeal.nD Cert.FoxpreKernelIdeal.τ).loc Cert.FoxpreKernelIdeal.main_arg3) = m ((c.tc : Thread Cert.FoxpreKernelIdeal.nD Cert.FoxpreKernelIdeal.τ).loc Cert.FoxpreKernelIdeal.main_arg3)
      ∧ r.2.mem ((c.tc : Thread Cert.FoxpreKernelIdeal.nD Cert.FoxpreKernelIdeal.τ).loc Cert.FoxpreKernelIdeal.main_arg4) = m ((c.tc : Thread Cert.FoxpreKernelIdeal.nD Cert.FoxpreKernelIdeal.τ).loc Cert.FoxpreKernelIdeal.main_arg4)
      ∧ r.2.mem ((c.tc : Thread Cert.FoxpreKernelIdeal.nD Cert.FoxpreKernelIdeal.τ).loc Cert.FoxpreKernelIdeal.main_arg5) = m ((c.tc : Thread Cert.FoxpreKernelIdeal.nD Cert.FoxpreKernelIdeal.τ).loc Cert.FoxpreKernelIdeal.main_arg5)
      ∧ r.2.mem ((c.tc : Thread Cert.FoxpreKernelIdeal.nD Cert.FoxpreKernelIdeal.τ).loc Cert.FoxpreKernelIdeal.main_arg6) = m ((c.tc : Thread Cert.FoxpreKernelIdeal.nD Cert.FoxpreKernelIdeal.τ).loc Cert.FoxpreKernelIdeal.main_arg6)
      ∧ r.2.mem ((c.tc : Thread Cert.FoxpreKernelIdeal.nD Cert.FoxpreKernelIdeal.τ).loc Cert.FoxpreKernelIdeal.main_arg7) = m ((c.tc : Thread Cert.FoxpreKernelIdeal.nD Cert.FoxpreKernelIdeal.τ).loc Cert.FoxpreKernelIdeal.main_arg7)
      ∧ r.2.mem ((c.tc : Thread Cert.FoxpreKernelIdeal.nD Cert.FoxpreKernelIdeal.τ).loc Cert.FoxpreKernelIdeal.main_arg8) = m ((c.tc : Thread Cert.FoxpreKernelIdeal.nD Cert.FoxpreKernelIdeal.τ).loc Cert.FoxpreKernelIdeal.main_arg8)
      ∧ r.2.mem ((c.tc : Thread Cert.FoxpreKernelIdeal.nD Cert.FoxpreKernelIdeal.τ).loc Cert.FoxpreKernelIdeal.main_arg9) = m ((c.tc : Thread Cert.FoxpreKernelIdeal.nD Cert.FoxpreKernelIdeal.τ).loc Cert.FoxpreKernelIdeal.main_arg9))
      ∧ r.2.sem = fun _ => 0)

def quiescent_FoxpreKernelIdeal_pre_foxpre_finite [hFoxpreKernelIdeal : Cert.FoxpreKernelIdeal.Facts] [hPre_foxpre_finite : Cert.Pre_foxpre_finite.Facts] : Prop :=
  ∀ (m : (ℓ : Loc Cert.FoxpreKernelIdeal.nD Cert.FoxpreKernelIdeal.τ Cert.FoxpreKernelIdeal.sig) → Buf (Elt Ideal) ℓ) (g : Dev Cert.FoxpreKernelIdeal.nD → PrngReg), Pre_FoxpreKernelIdeal_foxpre_finite m →
    θ_run (Cert.FoxpreKernelIdeal.defs (F := Ideal)) (onTc (τ := Cert.FoxpreKernelIdeal.τ) (Cert.FoxpreKernelIdeal.main (F := Ideal))) ⟨m, fun _ => 0, g⟩ (fun r => (∀ c : Dev Cert.FoxpreKernelIdeal.nD,
      r.2.mem ((c.tc : Thread Cert.FoxpreKernelIdeal.nD Cert.FoxpreKernelIdeal.τ).loc Cert.FoxpreKernelIdeal.main_arg0) = m ((c.tc : Thread Cert.FoxpreKernelIdeal.nD Cert.FoxpreKernelIdeal.τ).loc Cert.FoxpreKernelIdeal.main_arg0)
      ∧ r.2.mem ((c.tc : Thread Cert.FoxpreKernelIdeal.nD Cert.FoxpreKernelIdeal.τ).loc Cert.FoxpreKernelIdeal.main_arg1) = m ((c.tc : Thread Cert.FoxpreKernelIdeal.nD Cert.FoxpreKernelIdeal.τ).loc Cert.FoxpreKernelIdeal.main_arg1)
      ∧ r.2.mem ((c.tc : Thread Cert.FoxpreKernelIdeal.nD Cert.FoxpreKernelIdeal.τ).loc Cert.FoxpreKernelIdeal.main_arg2) = m ((c.tc : Thread Cert.FoxpreKernelIdeal.nD Cert.FoxpreKernelIdeal.τ).loc Cert.FoxpreKernelIdeal.main_arg2)
      ∧ r.2.mem ((c.tc : Thread Cert.FoxpreKernelIdeal.nD Cert.FoxpreKernelIdeal.τ).loc Cert.FoxpreKernelIdeal.main_arg3) = m ((c.tc : Thread Cert.FoxpreKernelIdeal.nD Cert.FoxpreKernelIdeal.τ).loc Cert.FoxpreKernelIdeal.main_arg3)
      ∧ r.2.mem ((c.tc : Thread Cert.FoxpreKernelIdeal.nD Cert.FoxpreKernelIdeal.τ).loc Cert.FoxpreKernelIdeal.main_arg4) = m ((c.tc : Thread Cert.FoxpreKernelIdeal.nD Cert.FoxpreKernelIdeal.τ).loc Cert.FoxpreKernelIdeal.main_arg4)
      ∧ r.2.mem ((c.tc : Thread Cert.FoxpreKernelIdeal.nD Cert.FoxpreKernelIdeal.τ).loc Cert.FoxpreKernelIdeal.main_arg5) = m ((c.tc : Thread Cert.FoxpreKernelIdeal.nD Cert.FoxpreKernelIdeal.τ).loc Cert.FoxpreKernelIdeal.main_arg5)
      ∧ r.2.mem ((c.tc : Thread Cert.FoxpreKernelIdeal.nD Cert.FoxpreKernelIdeal.τ).loc Cert.FoxpreKernelIdeal.main_arg6) = m ((c.tc : Thread Cert.FoxpreKernelIdeal.nD Cert.FoxpreKernelIdeal.τ).loc Cert.FoxpreKernelIdeal.main_arg6)
      ∧ r.2.mem ((c.tc : Thread Cert.FoxpreKernelIdeal.nD Cert.FoxpreKernelIdeal.τ).loc Cert.FoxpreKernelIdeal.main_arg7) = m ((c.tc : Thread Cert.FoxpreKernelIdeal.nD Cert.FoxpreKernelIdeal.τ).loc Cert.FoxpreKernelIdeal.main_arg7)
      ∧ r.2.mem ((c.tc : Thread Cert.FoxpreKernelIdeal.nD Cert.FoxpreKernelIdeal.τ).loc Cert.FoxpreKernelIdeal.main_arg8) = m ((c.tc : Thread Cert.FoxpreKernelIdeal.nD Cert.FoxpreKernelIdeal.τ).loc Cert.FoxpreKernelIdeal.main_arg8)
      ∧ r.2.mem ((c.tc : Thread Cert.FoxpreKernelIdeal.nD Cert.FoxpreKernelIdeal.τ).loc Cert.FoxpreKernelIdeal.main_arg9) = m ((c.tc : Thread Cert.FoxpreKernelIdeal.nD Cert.FoxpreKernelIdeal.τ).loc Cert.FoxpreKernelIdeal.main_arg9))
      ∧ r.2.sem = fun _ => 0)

def quiescent_FoxpreReferenceIdeal [hFoxpreReferenceIdeal : Cert.FoxpreReferenceIdeal.Facts] : Prop :=
  ∀ (m : (ℓ : Loc Cert.FoxpreReferenceIdeal.nD Cert.FoxpreReferenceIdeal.τ Cert.FoxpreReferenceIdeal.sig) → Buf (Elt Ideal) ℓ) (g : Dev Cert.FoxpreReferenceIdeal.nD → PrngReg), Pre_FoxpreReferenceIdeal m →
    θ_run (Cert.FoxpreReferenceIdeal.defs (F := Ideal)) (onTc (τ := Cert.FoxpreReferenceIdeal.τ) (Cert.FoxpreReferenceIdeal.main (F := Ideal))) ⟨m, fun _ => 0, g⟩ (fun r => (∀ c : Dev Cert.FoxpreReferenceIdeal.nD,
      r.2.mem ((c.tc : Thread Cert.FoxpreReferenceIdeal.nD Cert.FoxpreReferenceIdeal.τ).loc Cert.FoxpreReferenceIdeal.main_arg0) = m ((c.tc : Thread Cert.FoxpreReferenceIdeal.nD Cert.FoxpreReferenceIdeal.τ).loc Cert.FoxpreReferenceIdeal.main_arg0)
      ∧ r.2.mem ((c.tc : Thread Cert.FoxpreReferenceIdeal.nD Cert.FoxpreReferenceIdeal.τ).loc Cert.FoxpreReferenceIdeal.main_arg1) = m ((c.tc : Thread Cert.FoxpreReferenceIdeal.nD Cert.FoxpreReferenceIdeal.τ).loc Cert.FoxpreReferenceIdeal.main_arg1)
      ∧ r.2.mem ((c.tc : Thread Cert.FoxpreReferenceIdeal.nD Cert.FoxpreReferenceIdeal.τ).loc Cert.FoxpreReferenceIdeal.main_arg2) = m ((c.tc : Thread Cert.FoxpreReferenceIdeal.nD Cert.FoxpreReferenceIdeal.τ).loc Cert.FoxpreReferenceIdeal.main_arg2)
      ∧ r.2.mem ((c.tc : Thread Cert.FoxpreReferenceIdeal.nD Cert.FoxpreReferenceIdeal.τ).loc Cert.FoxpreReferenceIdeal.main_arg3) = m ((c.tc : Thread Cert.FoxpreReferenceIdeal.nD Cert.FoxpreReferenceIdeal.τ).loc Cert.FoxpreReferenceIdeal.main_arg3)
      ∧ r.2.mem ((c.tc : Thread Cert.FoxpreReferenceIdeal.nD Cert.FoxpreReferenceIdeal.τ).loc Cert.FoxpreReferenceIdeal.main_arg4) = m ((c.tc : Thread Cert.FoxpreReferenceIdeal.nD Cert.FoxpreReferenceIdeal.τ).loc Cert.FoxpreReferenceIdeal.main_arg4)
      ∧ r.2.mem ((c.tc : Thread Cert.FoxpreReferenceIdeal.nD Cert.FoxpreReferenceIdeal.τ).loc Cert.FoxpreReferenceIdeal.main_arg5) = m ((c.tc : Thread Cert.FoxpreReferenceIdeal.nD Cert.FoxpreReferenceIdeal.τ).loc Cert.FoxpreReferenceIdeal.main_arg5)
      ∧ r.2.mem ((c.tc : Thread Cert.FoxpreReferenceIdeal.nD Cert.FoxpreReferenceIdeal.τ).loc Cert.FoxpreReferenceIdeal.main_arg6) = m ((c.tc : Thread Cert.FoxpreReferenceIdeal.nD Cert.FoxpreReferenceIdeal.τ).loc Cert.FoxpreReferenceIdeal.main_arg6)
      ∧ r.2.mem ((c.tc : Thread Cert.FoxpreReferenceIdeal.nD Cert.FoxpreReferenceIdeal.τ).loc Cert.FoxpreReferenceIdeal.main_arg7) = m ((c.tc : Thread Cert.FoxpreReferenceIdeal.nD Cert.FoxpreReferenceIdeal.τ).loc Cert.FoxpreReferenceIdeal.main_arg7)
      ∧ r.2.mem ((c.tc : Thread Cert.FoxpreReferenceIdeal.nD Cert.FoxpreReferenceIdeal.τ).loc Cert.FoxpreReferenceIdeal.main_arg8) = m ((c.tc : Thread Cert.FoxpreReferenceIdeal.nD Cert.FoxpreReferenceIdeal.τ).loc Cert.FoxpreReferenceIdeal.main_arg8)
      ∧ r.2.mem ((c.tc : Thread Cert.FoxpreReferenceIdeal.nD Cert.FoxpreReferenceIdeal.τ).loc Cert.FoxpreReferenceIdeal.main_arg9) = m ((c.tc : Thread Cert.FoxpreReferenceIdeal.nD Cert.FoxpreReferenceIdeal.τ).loc Cert.FoxpreReferenceIdeal.main_arg9))
      ∧ r.2.sem = fun _ => 0)

def quiescent_FoxpreReferenceIdeal_pre_foxpre_finite [hFoxpreReferenceIdeal : Cert.FoxpreReferenceIdeal.Facts] [hPre_foxpre_finite : Cert.Pre_foxpre_finite.Facts] : Prop :=
  ∀ (m : (ℓ : Loc Cert.FoxpreReferenceIdeal.nD Cert.FoxpreReferenceIdeal.τ Cert.FoxpreReferenceIdeal.sig) → Buf (Elt Ideal) ℓ) (g : Dev Cert.FoxpreReferenceIdeal.nD → PrngReg), Pre_FoxpreReferenceIdeal_foxpre_finite m →
    θ_run (Cert.FoxpreReferenceIdeal.defs (F := Ideal)) (onTc (τ := Cert.FoxpreReferenceIdeal.τ) (Cert.FoxpreReferenceIdeal.main (F := Ideal))) ⟨m, fun _ => 0, g⟩ (fun r => (∀ c : Dev Cert.FoxpreReferenceIdeal.nD,
      r.2.mem ((c.tc : Thread Cert.FoxpreReferenceIdeal.nD Cert.FoxpreReferenceIdeal.τ).loc Cert.FoxpreReferenceIdeal.main_arg0) = m ((c.tc : Thread Cert.FoxpreReferenceIdeal.nD Cert.FoxpreReferenceIdeal.τ).loc Cert.FoxpreReferenceIdeal.main_arg0)
      ∧ r.2.mem ((c.tc : Thread Cert.FoxpreReferenceIdeal.nD Cert.FoxpreReferenceIdeal.τ).loc Cert.FoxpreReferenceIdeal.main_arg1) = m ((c.tc : Thread Cert.FoxpreReferenceIdeal.nD Cert.FoxpreReferenceIdeal.τ).loc Cert.FoxpreReferenceIdeal.main_arg1)
      ∧ r.2.mem ((c.tc : Thread Cert.FoxpreReferenceIdeal.nD Cert.FoxpreReferenceIdeal.τ).loc Cert.FoxpreReferenceIdeal.main_arg2) = m ((c.tc : Thread Cert.FoxpreReferenceIdeal.nD Cert.FoxpreReferenceIdeal.τ).loc Cert.FoxpreReferenceIdeal.main_arg2)
      ∧ r.2.mem ((c.tc : Thread Cert.FoxpreReferenceIdeal.nD Cert.FoxpreReferenceIdeal.τ).loc Cert.FoxpreReferenceIdeal.main_arg3) = m ((c.tc : Thread Cert.FoxpreReferenceIdeal.nD Cert.FoxpreReferenceIdeal.τ).loc Cert.FoxpreReferenceIdeal.main_arg3)
      ∧ r.2.mem ((c.tc : Thread Cert.FoxpreReferenceIdeal.nD Cert.FoxpreReferenceIdeal.τ).loc Cert.FoxpreReferenceIdeal.main_arg4) = m ((c.tc : Thread Cert.FoxpreReferenceIdeal.nD Cert.FoxpreReferenceIdeal.τ).loc Cert.FoxpreReferenceIdeal.main_arg4)
      ∧ r.2.mem ((c.tc : Thread Cert.FoxpreReferenceIdeal.nD Cert.FoxpreReferenceIdeal.τ).loc Cert.FoxpreReferenceIdeal.main_arg5) = m ((c.tc : Thread Cert.FoxpreReferenceIdeal.nD Cert.FoxpreReferenceIdeal.τ).loc Cert.FoxpreReferenceIdeal.main_arg5)
      ∧ r.2.mem ((c.tc : Thread Cert.FoxpreReferenceIdeal.nD Cert.FoxpreReferenceIdeal.τ).loc Cert.FoxpreReferenceIdeal.main_arg6) = m ((c.tc : Thread Cert.FoxpreReferenceIdeal.nD Cert.FoxpreReferenceIdeal.τ).loc Cert.FoxpreReferenceIdeal.main_arg6)
      ∧ r.2.mem ((c.tc : Thread Cert.FoxpreReferenceIdeal.nD Cert.FoxpreReferenceIdeal.τ).loc Cert.FoxpreReferenceIdeal.main_arg7) = m ((c.tc : Thread Cert.FoxpreReferenceIdeal.nD Cert.FoxpreReferenceIdeal.τ).loc Cert.FoxpreReferenceIdeal.main_arg7)
      ∧ r.2.mem ((c.tc : Thread Cert.FoxpreReferenceIdeal.nD Cert.FoxpreReferenceIdeal.τ).loc Cert.FoxpreReferenceIdeal.main_arg8) = m ((c.tc : Thread Cert.FoxpreReferenceIdeal.nD Cert.FoxpreReferenceIdeal.τ).loc Cert.FoxpreReferenceIdeal.main_arg8)
      ∧ r.2.mem ((c.tc : Thread Cert.FoxpreReferenceIdeal.nD Cert.FoxpreReferenceIdeal.τ).loc Cert.FoxpreReferenceIdeal.main_arg9) = m ((c.tc : Thread Cert.FoxpreReferenceIdeal.nD Cert.FoxpreReferenceIdeal.τ).loc Cert.FoxpreReferenceIdeal.main_arg9))
      ∧ r.2.sem = fun _ => 0)

def quiescent_PostKernel [hPostKernel : Cert.PostKernel.Facts] : Prop :=
  ∀ (m : (ℓ : Loc Cert.PostKernel.nD Cert.PostKernel.τ Cert.PostKernel.sig) → Buf (Elt Bits) ℓ) (g : Dev Cert.PostKernel.nD → PrngReg), Pre_PostKernel m →
    θ_run (Cert.PostKernel.defs (F := Bits)) (onTc (τ := Cert.PostKernel.τ) (Cert.PostKernel.main (F := Bits))) ⟨m, fun _ => 0, g⟩ (fun r => (∀ c : Dev Cert.PostKernel.nD,
      r.2.mem ((c.tc : Thread Cert.PostKernel.nD Cert.PostKernel.τ).loc Cert.PostKernel.main_arg0) = m ((c.tc : Thread Cert.PostKernel.nD Cert.PostKernel.τ).loc Cert.PostKernel.main_arg0)
      ∧ r.2.mem ((c.tc : Thread Cert.PostKernel.nD Cert.PostKernel.τ).loc Cert.PostKernel.main_arg1) = m ((c.tc : Thread Cert.PostKernel.nD Cert.PostKernel.τ).loc Cert.PostKernel.main_arg1)
      ∧ r.2.mem ((c.tc : Thread Cert.PostKernel.nD Cert.PostKernel.τ).loc Cert.PostKernel.main_arg2) = m ((c.tc : Thread Cert.PostKernel.nD Cert.PostKernel.τ).loc Cert.PostKernel.main_arg2)
      ∧ r.2.mem ((c.tc : Thread Cert.PostKernel.nD Cert.PostKernel.τ).loc Cert.PostKernel.main_arg3) = m ((c.tc : Thread Cert.PostKernel.nD Cert.PostKernel.τ).loc Cert.PostKernel.main_arg3)
      ∧ r.2.mem ((c.tc : Thread Cert.PostKernel.nD Cert.PostKernel.τ).loc Cert.PostKernel.main_arg4) = m ((c.tc : Thread Cert.PostKernel.nD Cert.PostKernel.τ).loc Cert.PostKernel.main_arg4)
      ∧ r.2.mem ((c.tc : Thread Cert.PostKernel.nD Cert.PostKernel.τ).loc Cert.PostKernel.main_arg5) = m ((c.tc : Thread Cert.PostKernel.nD Cert.PostKernel.τ).loc Cert.PostKernel.main_arg5)
      ∧ r.2.mem ((c.tc : Thread Cert.PostKernel.nD Cert.PostKernel.τ).loc Cert.PostKernel.main_arg6) = m ((c.tc : Thread Cert.PostKernel.nD Cert.PostKernel.τ).loc Cert.PostKernel.main_arg6)
      ∧ r.2.mem ((c.tc : Thread Cert.PostKernel.nD Cert.PostKernel.τ).loc Cert.PostKernel.main_arg7) = m ((c.tc : Thread Cert.PostKernel.nD Cert.PostKernel.τ).loc Cert.PostKernel.main_arg7)
      ∧ r.2.mem ((c.tc : Thread Cert.PostKernel.nD Cert.PostKernel.τ).loc Cert.PostKernel.main_arg8) = m ((c.tc : Thread Cert.PostKernel.nD Cert.PostKernel.τ).loc Cert.PostKernel.main_arg8))
      ∧ r.2.sem = fun _ => 0)

def quiescent_PostKernelIdeal [hPostKernelIdeal : Cert.PostKernelIdeal.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ r.2.sem = fun _ => 0)

def quiescent_PostKernelIdeal_pre_post_finite [hPostKernelIdeal : Cert.PostKernelIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg), Pre_PostKernelIdeal_post_finite m →
    θ_run (Cert.PostKernelIdeal.defs (F := Ideal)) (onTc (τ := Cert.PostKernelIdeal.τ) (Cert.PostKernelIdeal.main (F := Ideal))) ⟨m, fun _ => 0, g⟩ (fun r => (∀ c : Dev Cert.PostKernelIdeal.nD,
      r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
      ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
      ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
      ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
      ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
      ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
      ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
      ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
      ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ r.2.sem = fun _ => 0)

def quiescent_PostReferenceIdeal [hPostReferenceIdeal : Cert.PostReferenceIdeal.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_PostReferenceIdeal_pre_post_finite [hPostReferenceIdeal : Cert.PostReferenceIdeal.Facts] [hPre_post_finite : Cert.Pre_post_finite.Facts] : Prop :=
  ∀ (m : (ℓ : Loc Cert.PostReferenceIdeal.nD Cert.PostReferenceIdeal.τ Cert.PostReferenceIdeal.sig) → Buf (Elt Ideal) ℓ) (g : Dev Cert.PostReferenceIdeal.nD → PrngReg), Pre_PostReferenceIdeal_post_finite m →
    θ_run (Cert.PostReferenceIdeal.defs (F := Ideal)) (onTc (τ := Cert.PostReferenceIdeal.τ) (Cert.PostReferenceIdeal.main (F := Ideal))) ⟨m, fun _ => 0, g⟩ (fun r => (∀ c : Dev Cert.PostReferenceIdeal.nD,
      r.2.mem ((c.tc : Thread Cert.PostReferenceIdeal.nD Cert.PostReferenceIdeal.τ).loc Cert.PostReferenceIdeal.main_arg0) = m ((c.tc : Thread Cert.PostReferenceIdeal.nD Cert.PostReferenceIdeal.τ).loc Cert.PostReferenceIdeal.main_arg0)
      ∧ r.2.mem ((c.tc : Thread Cert.PostReferenceIdeal.nD Cert.PostReferenceIdeal.τ).loc Cert.PostReferenceIdeal.main_arg1) = m ((c.tc : Thread Cert.PostReferenceIdeal.nD Cert.PostReferenceIdeal.τ).loc Cert.PostReferenceIdeal.main_arg1)
      ∧ r.2.mem ((c.tc : Thread Cert.PostReferenceIdeal.nD Cert.PostReferenceIdeal.τ).loc Cert.PostReferenceIdeal.main_arg2) = m ((c.tc : Thread Cert.PostReferenceIdeal.nD Cert.PostReferenceIdeal.τ).loc Cert.PostReferenceIdeal.main_arg2)
      ∧ r.2.mem ((c.tc : Thread Cert.PostReferenceIdeal.nD Cert.PostReferenceIdeal.τ).loc Cert.PostReferenceIdeal.main_arg3) = m ((c.tc : Thread Cert.PostReferenceIdeal.nD Cert.PostReferenceIdeal.τ).loc Cert.PostReferenceIdeal.main_arg3)
      ∧ r.2.mem ((c.tc : Thread Cert.PostReferenceIdeal.nD Cert.PostReferenceIdeal.τ).loc Cert.PostReferenceIdeal.main_arg4) = m ((c.tc : Thread Cert.PostReferenceIdeal.nD Cert.PostReferenceIdeal.τ).loc Cert.PostReferenceIdeal.main_arg4)
      ∧ r.2.mem ((c.tc : Thread Cert.PostReferenceIdeal.nD Cert.PostReferenceIdeal.τ).loc Cert.PostReferenceIdeal.main_arg5) = m ((c.tc : Thread Cert.PostReferenceIdeal.nD Cert.PostReferenceIdeal.τ).loc Cert.PostReferenceIdeal.main_arg5)
      ∧ r.2.mem ((c.tc : Thread Cert.PostReferenceIdeal.nD Cert.PostReferenceIdeal.τ).loc Cert.PostReferenceIdeal.main_arg6) = m ((c.tc : Thread Cert.PostReferenceIdeal.nD Cert.PostReferenceIdeal.τ).loc Cert.PostReferenceIdeal.main_arg6)
      ∧ r.2.mem ((c.tc : Thread Cert.PostReferenceIdeal.nD Cert.PostReferenceIdeal.τ).loc Cert.PostReferenceIdeal.main_arg7) = m ((c.tc : Thread Cert.PostReferenceIdeal.nD Cert.PostReferenceIdeal.τ).loc Cert.PostReferenceIdeal.main_arg7)
      ∧ r.2.mem ((c.tc : Thread Cert.PostReferenceIdeal.nD Cert.PostReferenceIdeal.τ).loc Cert.PostReferenceIdeal.main_arg8) = m ((c.tc : Thread Cert.PostReferenceIdeal.nD Cert.PostReferenceIdeal.τ).loc Cert.PostReferenceIdeal.main_arg8))
      ∧ r.2.sem = fun _ => 0)

def quiescent_AttnfwdKernel [hAttnfwdKernel : Cert.AttnfwdKernel.Facts] : Prop :=
  ∀ (m : (ℓ : Loc Cert.AttnfwdKernel.nD Cert.AttnfwdKernel.τ Cert.AttnfwdKernel.sig) → Buf (Elt Bits) ℓ) (g : Dev Cert.AttnfwdKernel.nD → PrngReg), Pre_AttnfwdKernel m →
    θ_run (Cert.AttnfwdKernel.defs (F := Bits)) (onTc (τ := Cert.AttnfwdKernel.τ) (Cert.AttnfwdKernel.main (F := Bits))) ⟨m, fun _ => 0, g⟩ (fun r => (∀ c : Dev Cert.AttnfwdKernel.nD,
      r.2.mem ((c.tc : Thread Cert.AttnfwdKernel.nD Cert.AttnfwdKernel.τ).loc Cert.AttnfwdKernel.main_arg0) = m ((c.tc : Thread Cert.AttnfwdKernel.nD Cert.AttnfwdKernel.τ).loc Cert.AttnfwdKernel.main_arg0)
      ∧ r.2.mem ((c.tc : Thread Cert.AttnfwdKernel.nD Cert.AttnfwdKernel.τ).loc Cert.AttnfwdKernel.main_arg1) = m ((c.tc : Thread Cert.AttnfwdKernel.nD Cert.AttnfwdKernel.τ).loc Cert.AttnfwdKernel.main_arg1)
      ∧ r.2.mem ((c.tc : Thread Cert.AttnfwdKernel.nD Cert.AttnfwdKernel.τ).loc Cert.AttnfwdKernel.main_arg2) = m ((c.tc : Thread Cert.AttnfwdKernel.nD Cert.AttnfwdKernel.τ).loc Cert.AttnfwdKernel.main_arg2)
      ∧ r.2.mem ((c.tc : Thread Cert.AttnfwdKernel.nD Cert.AttnfwdKernel.τ).loc Cert.AttnfwdKernel.main_arg3) = m ((c.tc : Thread Cert.AttnfwdKernel.nD Cert.AttnfwdKernel.τ).loc Cert.AttnfwdKernel.main_arg3))
      ∧ r.2.sem = fun _ => 0)

def quiescent_AttnfwdKernelIdeal [hAttnfwdKernelIdeal : Cert.AttnfwdKernelIdeal.Facts] : Prop :=
  ∀ (m : (ℓ : Loc Cert.AttnfwdKernelIdeal.nD Cert.AttnfwdKernelIdeal.τ Cert.AttnfwdKernelIdeal.sig) → Buf (Elt Ideal) ℓ) (g : Dev Cert.AttnfwdKernelIdeal.nD → PrngReg), Pre_AttnfwdKernelIdeal m →
    θ_run (Cert.AttnfwdKernelIdeal.defs (F := Ideal)) (onTc (τ := Cert.AttnfwdKernelIdeal.τ) (Cert.AttnfwdKernelIdeal.main (F := Ideal))) ⟨m, fun _ => 0, g⟩ (fun r => (∀ c : Dev Cert.AttnfwdKernelIdeal.nD,
      r.2.mem ((c.tc : Thread Cert.AttnfwdKernelIdeal.nD Cert.AttnfwdKernelIdeal.τ).loc Cert.AttnfwdKernelIdeal.main_arg0) = m ((c.tc : Thread Cert.AttnfwdKernelIdeal.nD Cert.AttnfwdKernelIdeal.τ).loc Cert.AttnfwdKernelIdeal.main_arg0)
      ∧ r.2.mem ((c.tc : Thread Cert.AttnfwdKernelIdeal.nD Cert.AttnfwdKernelIdeal.τ).loc Cert.AttnfwdKernelIdeal.main_arg1) = m ((c.tc : Thread Cert.AttnfwdKernelIdeal.nD Cert.AttnfwdKernelIdeal.τ).loc Cert.AttnfwdKernelIdeal.main_arg1)
      ∧ r.2.mem ((c.tc : Thread Cert.AttnfwdKernelIdeal.nD Cert.AttnfwdKernelIdeal.τ).loc Cert.AttnfwdKernelIdeal.main_arg2) = m ((c.tc : Thread Cert.AttnfwdKernelIdeal.nD Cert.AttnfwdKernelIdeal.τ).loc Cert.AttnfwdKernelIdeal.main_arg2)
      ∧ r.2.mem ((c.tc : Thread Cert.AttnfwdKernelIdeal.nD Cert.AttnfwdKernelIdeal.τ).loc Cert.AttnfwdKernelIdeal.main_arg3) = m ((c.tc : Thread Cert.AttnfwdKernelIdeal.nD Cert.AttnfwdKernelIdeal.τ).loc Cert.AttnfwdKernelIdeal.main_arg3))
      ∧ r.2.sem = fun _ => 0)

def quiescent_AttnfwdKernelIdeal_pre_attnf_finite [hAttnfwdKernelIdeal : Cert.AttnfwdKernelIdeal.Facts] [hPre_attnf_finite : Cert.Pre_attnf_finite.Facts] : Prop :=
  ∀ (m : (ℓ : Loc Cert.AttnfwdKernelIdeal.nD Cert.AttnfwdKernelIdeal.τ Cert.AttnfwdKernelIdeal.sig) → Buf (Elt Ideal) ℓ) (g : Dev Cert.AttnfwdKernelIdeal.nD → PrngReg), Pre_AttnfwdKernelIdeal_attnf_finite m →
    θ_run (Cert.AttnfwdKernelIdeal.defs (F := Ideal)) (onTc (τ := Cert.AttnfwdKernelIdeal.τ) (Cert.AttnfwdKernelIdeal.main (F := Ideal))) ⟨m, fun _ => 0, g⟩ (fun r => (∀ c : Dev Cert.AttnfwdKernelIdeal.nD,
      r.2.mem ((c.tc : Thread Cert.AttnfwdKernelIdeal.nD Cert.AttnfwdKernelIdeal.τ).loc Cert.AttnfwdKernelIdeal.main_arg0) = m ((c.tc : Thread Cert.AttnfwdKernelIdeal.nD Cert.AttnfwdKernelIdeal.τ).loc Cert.AttnfwdKernelIdeal.main_arg0)
      ∧ r.2.mem ((c.tc : Thread Cert.AttnfwdKernelIdeal.nD Cert.AttnfwdKernelIdeal.τ).loc Cert.AttnfwdKernelIdeal.main_arg1) = m ((c.tc : Thread Cert.AttnfwdKernelIdeal.nD Cert.AttnfwdKernelIdeal.τ).loc Cert.AttnfwdKernelIdeal.main_arg1)
      ∧ r.2.mem ((c.tc : Thread Cert.AttnfwdKernelIdeal.nD Cert.AttnfwdKernelIdeal.τ).loc Cert.AttnfwdKernelIdeal.main_arg2) = m ((c.tc : Thread Cert.AttnfwdKernelIdeal.nD Cert.AttnfwdKernelIdeal.τ).loc Cert.AttnfwdKernelIdeal.main_arg2)
      ∧ r.2.mem ((c.tc : Thread Cert.AttnfwdKernelIdeal.nD Cert.AttnfwdKernelIdeal.τ).loc Cert.AttnfwdKernelIdeal.main_arg3) = m ((c.tc : Thread Cert.AttnfwdKernelIdeal.nD Cert.AttnfwdKernelIdeal.τ).loc Cert.AttnfwdKernelIdeal.main_arg3))
      ∧ r.2.sem = fun _ => 0)

def quiescent_AttnfwdReferenceIdeal [hAttnfwdReferenceIdeal : Cert.AttnfwdReferenceIdeal.Facts] : Prop :=
  ∀ (m : (ℓ : Loc Cert.AttnfwdReferenceIdeal.nD Cert.AttnfwdReferenceIdeal.τ Cert.AttnfwdReferenceIdeal.sig) → Buf (Elt Ideal) ℓ) (g : Dev Cert.AttnfwdReferenceIdeal.nD → PrngReg), Pre_AttnfwdReferenceIdeal m →
    θ_run (Cert.AttnfwdReferenceIdeal.defs (F := Ideal)) (onTc (τ := Cert.AttnfwdReferenceIdeal.τ) (Cert.AttnfwdReferenceIdeal.main (F := Ideal))) ⟨m, fun _ => 0, g⟩ (fun r => (∀ c : Dev Cert.AttnfwdReferenceIdeal.nD,
      r.2.mem ((c.tc : Thread Cert.AttnfwdReferenceIdeal.nD Cert.AttnfwdReferenceIdeal.τ).loc Cert.AttnfwdReferenceIdeal.main_arg0) = m ((c.tc : Thread Cert.AttnfwdReferenceIdeal.nD Cert.AttnfwdReferenceIdeal.τ).loc Cert.AttnfwdReferenceIdeal.main_arg0)
      ∧ r.2.mem ((c.tc : Thread Cert.AttnfwdReferenceIdeal.nD Cert.AttnfwdReferenceIdeal.τ).loc Cert.AttnfwdReferenceIdeal.main_arg1) = m ((c.tc : Thread Cert.AttnfwdReferenceIdeal.nD Cert.AttnfwdReferenceIdeal.τ).loc Cert.AttnfwdReferenceIdeal.main_arg1)
      ∧ r.2.mem ((c.tc : Thread Cert.AttnfwdReferenceIdeal.nD Cert.AttnfwdReferenceIdeal.τ).loc Cert.AttnfwdReferenceIdeal.main_arg2) = m ((c.tc : Thread Cert.AttnfwdReferenceIdeal.nD Cert.AttnfwdReferenceIdeal.τ).loc Cert.AttnfwdReferenceIdeal.main_arg2)
      ∧ r.2.mem ((c.tc : Thread Cert.AttnfwdReferenceIdeal.nD Cert.AttnfwdReferenceIdeal.τ).loc Cert.AttnfwdReferenceIdeal.main_arg3) = m ((c.tc : Thread Cert.AttnfwdReferenceIdeal.nD Cert.AttnfwdReferenceIdeal.τ).loc Cert.AttnfwdReferenceIdeal.main_arg3))
      ∧ r.2.sem = fun _ => 0)

def quiescent_AttnfwdReferenceIdeal_pre_attnf_finite [hAttnfwdReferenceIdeal : Cert.AttnfwdReferenceIdeal.Facts] [hPre_attnf_finite : Cert.Pre_attnf_finite.Facts] : Prop :=
  ∀ (m : (ℓ : Loc Cert.AttnfwdReferenceIdeal.nD Cert.AttnfwdReferenceIdeal.τ Cert.AttnfwdReferenceIdeal.sig) → Buf (Elt Ideal) ℓ) (g : Dev Cert.AttnfwdReferenceIdeal.nD → PrngReg), Pre_AttnfwdReferenceIdeal_attnf_finite m →
    θ_run (Cert.AttnfwdReferenceIdeal.defs (F := Ideal)) (onTc (τ := Cert.AttnfwdReferenceIdeal.τ) (Cert.AttnfwdReferenceIdeal.main (F := Ideal))) ⟨m, fun _ => 0, g⟩ (fun r => (∀ c : Dev Cert.AttnfwdReferenceIdeal.nD,
      r.2.mem ((c.tc : Thread Cert.AttnfwdReferenceIdeal.nD Cert.AttnfwdReferenceIdeal.τ).loc Cert.AttnfwdReferenceIdeal.main_arg0) = m ((c.tc : Thread Cert.AttnfwdReferenceIdeal.nD Cert.AttnfwdReferenceIdeal.τ).loc Cert.AttnfwdReferenceIdeal.main_arg0)
      ∧ r.2.mem ((c.tc : Thread Cert.AttnfwdReferenceIdeal.nD Cert.AttnfwdReferenceIdeal.τ).loc Cert.AttnfwdReferenceIdeal.main_arg1) = m ((c.tc : Thread Cert.AttnfwdReferenceIdeal.nD Cert.AttnfwdReferenceIdeal.τ).loc Cert.AttnfwdReferenceIdeal.main_arg1)
      ∧ r.2.mem ((c.tc : Thread Cert.AttnfwdReferenceIdeal.nD Cert.AttnfwdReferenceIdeal.τ).loc Cert.AttnfwdReferenceIdeal.main_arg2) = m ((c.tc : Thread Cert.AttnfwdReferenceIdeal.nD Cert.AttnfwdReferenceIdeal.τ).loc Cert.AttnfwdReferenceIdeal.main_arg2)
      ∧ r.2.mem ((c.tc : Thread Cert.AttnfwdReferenceIdeal.nD Cert.AttnfwdReferenceIdeal.τ).loc Cert.AttnfwdReferenceIdeal.main_arg3) = m ((c.tc : Thread Cert.AttnfwdReferenceIdeal.nD Cert.AttnfwdReferenceIdeal.τ).loc Cert.AttnfwdReferenceIdeal.main_arg3))
      ∧ r.2.sem = fun _ => 0)

def quiescent_PostfwdKernel [hPostfwdKernel : Cert.PostfwdKernel.Facts] : Prop :=
  ∀ (m : (ℓ : Loc Cert.PostfwdKernel.nD Cert.PostfwdKernel.τ Cert.PostfwdKernel.sig) → Buf (Elt Bits) ℓ) (g : Dev Cert.PostfwdKernel.nD → PrngReg), Pre_PostfwdKernel m →
    θ_run (Cert.PostfwdKernel.defs (F := Bits)) (onTc (τ := Cert.PostfwdKernel.τ) (Cert.PostfwdKernel.main (F := Bits))) ⟨m, fun _ => 0, g⟩ (fun r => (∀ c : Dev Cert.PostfwdKernel.nD,
      r.2.mem ((c.tc : Thread Cert.PostfwdKernel.nD Cert.PostfwdKernel.τ).loc Cert.PostfwdKernel.main_arg0) = m ((c.tc : Thread Cert.PostfwdKernel.nD Cert.PostfwdKernel.τ).loc Cert.PostfwdKernel.main_arg0)
      ∧ r.2.mem ((c.tc : Thread Cert.PostfwdKernel.nD Cert.PostfwdKernel.τ).loc Cert.PostfwdKernel.main_arg1) = m ((c.tc : Thread Cert.PostfwdKernel.nD Cert.PostfwdKernel.τ).loc Cert.PostfwdKernel.main_arg1)
      ∧ r.2.mem ((c.tc : Thread Cert.PostfwdKernel.nD Cert.PostfwdKernel.τ).loc Cert.PostfwdKernel.main_arg2) = m ((c.tc : Thread Cert.PostfwdKernel.nD Cert.PostfwdKernel.τ).loc Cert.PostfwdKernel.main_arg2)
      ∧ r.2.mem ((c.tc : Thread Cert.PostfwdKernel.nD Cert.PostfwdKernel.τ).loc Cert.PostfwdKernel.main_arg3) = m ((c.tc : Thread Cert.PostfwdKernel.nD Cert.PostfwdKernel.τ).loc Cert.PostfwdKernel.main_arg3)
      ∧ r.2.mem ((c.tc : Thread Cert.PostfwdKernel.nD Cert.PostfwdKernel.τ).loc Cert.PostfwdKernel.main_arg4) = m ((c.tc : Thread Cert.PostfwdKernel.nD Cert.PostfwdKernel.τ).loc Cert.PostfwdKernel.main_arg4)
      ∧ r.2.mem ((c.tc : Thread Cert.PostfwdKernel.nD Cert.PostfwdKernel.τ).loc Cert.PostfwdKernel.main_arg5) = m ((c.tc : Thread Cert.PostfwdKernel.nD Cert.PostfwdKernel.τ).loc Cert.PostfwdKernel.main_arg5)
      ∧ r.2.mem ((c.tc : Thread Cert.PostfwdKernel.nD Cert.PostfwdKernel.τ).loc Cert.PostfwdKernel.main_arg6) = m ((c.tc : Thread Cert.PostfwdKernel.nD Cert.PostfwdKernel.τ).loc Cert.PostfwdKernel.main_arg6)
      ∧ r.2.mem ((c.tc : Thread Cert.PostfwdKernel.nD Cert.PostfwdKernel.τ).loc Cert.PostfwdKernel.main_arg7) = m ((c.tc : Thread Cert.PostfwdKernel.nD Cert.PostfwdKernel.τ).loc Cert.PostfwdKernel.main_arg7))
      ∧ r.2.sem = fun _ => 0)

def quiescent_PostfwdKernelIdeal [hPostfwdKernelIdeal : Cert.PostfwdKernelIdeal.Facts] : Prop :=
  ∀ (m : (ℓ : Loc Cert.PostfwdKernelIdeal.nD Cert.PostfwdKernelIdeal.τ Cert.PostfwdKernelIdeal.sig) → Buf (Elt Ideal) ℓ) (g : Dev Cert.PostfwdKernelIdeal.nD → PrngReg), Pre_PostfwdKernelIdeal m →
    θ_run (Cert.PostfwdKernelIdeal.defs (F := Ideal)) (onTc (τ := Cert.PostfwdKernelIdeal.τ) (Cert.PostfwdKernelIdeal.main (F := Ideal))) ⟨m, fun _ => 0, g⟩ (fun r => (∀ c : Dev Cert.PostfwdKernelIdeal.nD,
      r.2.mem ((c.tc : Thread Cert.PostfwdKernelIdeal.nD Cert.PostfwdKernelIdeal.τ).loc Cert.PostfwdKernelIdeal.main_arg0) = m ((c.tc : Thread Cert.PostfwdKernelIdeal.nD Cert.PostfwdKernelIdeal.τ).loc Cert.PostfwdKernelIdeal.main_arg0)
      ∧ r.2.mem ((c.tc : Thread Cert.PostfwdKernelIdeal.nD Cert.PostfwdKernelIdeal.τ).loc Cert.PostfwdKernelIdeal.main_arg1) = m ((c.tc : Thread Cert.PostfwdKernelIdeal.nD Cert.PostfwdKernelIdeal.τ).loc Cert.PostfwdKernelIdeal.main_arg1)
      ∧ r.2.mem ((c.tc : Thread Cert.PostfwdKernelIdeal.nD Cert.PostfwdKernelIdeal.τ).loc Cert.PostfwdKernelIdeal.main_arg2) = m ((c.tc : Thread Cert.PostfwdKernelIdeal.nD Cert.PostfwdKernelIdeal.τ).loc Cert.PostfwdKernelIdeal.main_arg2)
      ∧ r.2.mem ((c.tc : Thread Cert.PostfwdKernelIdeal.nD Cert.PostfwdKernelIdeal.τ).loc Cert.PostfwdKernelIdeal.main_arg3) = m ((c.tc : Thread Cert.PostfwdKernelIdeal.nD Cert.PostfwdKernelIdeal.τ).loc Cert.PostfwdKernelIdeal.main_arg3)
      ∧ r.2.mem ((c.tc : Thread Cert.PostfwdKernelIdeal.nD Cert.PostfwdKernelIdeal.τ).loc Cert.PostfwdKernelIdeal.main_arg4) = m ((c.tc : Thread Cert.PostfwdKernelIdeal.nD Cert.PostfwdKernelIdeal.τ).loc Cert.PostfwdKernelIdeal.main_arg4)
      ∧ r.2.mem ((c.tc : Thread Cert.PostfwdKernelIdeal.nD Cert.PostfwdKernelIdeal.τ).loc Cert.PostfwdKernelIdeal.main_arg5) = m ((c.tc : Thread Cert.PostfwdKernelIdeal.nD Cert.PostfwdKernelIdeal.τ).loc Cert.PostfwdKernelIdeal.main_arg5)
      ∧ r.2.mem ((c.tc : Thread Cert.PostfwdKernelIdeal.nD Cert.PostfwdKernelIdeal.τ).loc Cert.PostfwdKernelIdeal.main_arg6) = m ((c.tc : Thread Cert.PostfwdKernelIdeal.nD Cert.PostfwdKernelIdeal.τ).loc Cert.PostfwdKernelIdeal.main_arg6)
      ∧ r.2.mem ((c.tc : Thread Cert.PostfwdKernelIdeal.nD Cert.PostfwdKernelIdeal.τ).loc Cert.PostfwdKernelIdeal.main_arg7) = m ((c.tc : Thread Cert.PostfwdKernelIdeal.nD Cert.PostfwdKernelIdeal.τ).loc Cert.PostfwdKernelIdeal.main_arg7))
      ∧ r.2.sem = fun _ => 0)

def quiescent_PostfwdKernelIdeal_pre_postf_finite [hPostfwdKernelIdeal : Cert.PostfwdKernelIdeal.Facts] [hPre_postf_finite : Cert.Pre_postf_finite.Facts] : Prop :=
  ∀ (m : (ℓ : Loc Cert.PostfwdKernelIdeal.nD Cert.PostfwdKernelIdeal.τ Cert.PostfwdKernelIdeal.sig) → Buf (Elt Ideal) ℓ) (g : Dev Cert.PostfwdKernelIdeal.nD → PrngReg), Pre_PostfwdKernelIdeal_postf_finite m →
    θ_run (Cert.PostfwdKernelIdeal.defs (F := Ideal)) (onTc (τ := Cert.PostfwdKernelIdeal.τ) (Cert.PostfwdKernelIdeal.main (F := Ideal))) ⟨m, fun _ => 0, g⟩ (fun r => (∀ c : Dev Cert.PostfwdKernelIdeal.nD,
      r.2.mem ((c.tc : Thread Cert.PostfwdKernelIdeal.nD Cert.PostfwdKernelIdeal.τ).loc Cert.PostfwdKernelIdeal.main_arg0) = m ((c.tc : Thread Cert.PostfwdKernelIdeal.nD Cert.PostfwdKernelIdeal.τ).loc Cert.PostfwdKernelIdeal.main_arg0)
      ∧ r.2.mem ((c.tc : Thread Cert.PostfwdKernelIdeal.nD Cert.PostfwdKernelIdeal.τ).loc Cert.PostfwdKernelIdeal.main_arg1) = m ((c.tc : Thread Cert.PostfwdKernelIdeal.nD Cert.PostfwdKernelIdeal.τ).loc Cert.PostfwdKernelIdeal.main_arg1)
      ∧ r.2.mem ((c.tc : Thread Cert.PostfwdKernelIdeal.nD Cert.PostfwdKernelIdeal.τ).loc Cert.PostfwdKernelIdeal.main_arg2) = m ((c.tc : Thread Cert.PostfwdKernelIdeal.nD Cert.PostfwdKernelIdeal.τ).loc Cert.PostfwdKernelIdeal.main_arg2)
      ∧ r.2.mem ((c.tc : Thread Cert.PostfwdKernelIdeal.nD Cert.PostfwdKernelIdeal.τ).loc Cert.PostfwdKernelIdeal.main_arg3) = m ((c.tc : Thread Cert.PostfwdKernelIdeal.nD Cert.PostfwdKernelIdeal.τ).loc Cert.PostfwdKernelIdeal.main_arg3)
      ∧ r.2.mem ((c.tc : Thread Cert.PostfwdKernelIdeal.nD Cert.PostfwdKernelIdeal.τ).loc Cert.PostfwdKernelIdeal.main_arg4) = m ((c.tc : Thread Cert.PostfwdKernelIdeal.nD Cert.PostfwdKernelIdeal.τ).loc Cert.PostfwdKernelIdeal.main_arg4)
      ∧ r.2.mem ((c.tc : Thread Cert.PostfwdKernelIdeal.nD Cert.PostfwdKernelIdeal.τ).loc Cert.PostfwdKernelIdeal.main_arg5) = m ((c.tc : Thread Cert.PostfwdKernelIdeal.nD Cert.PostfwdKernelIdeal.τ).loc Cert.PostfwdKernelIdeal.main_arg5)
      ∧ r.2.mem ((c.tc : Thread Cert.PostfwdKernelIdeal.nD Cert.PostfwdKernelIdeal.τ).loc Cert.PostfwdKernelIdeal.main_arg6) = m ((c.tc : Thread Cert.PostfwdKernelIdeal.nD Cert.PostfwdKernelIdeal.τ).loc Cert.PostfwdKernelIdeal.main_arg6)
      ∧ r.2.mem ((c.tc : Thread Cert.PostfwdKernelIdeal.nD Cert.PostfwdKernelIdeal.τ).loc Cert.PostfwdKernelIdeal.main_arg7) = m ((c.tc : Thread Cert.PostfwdKernelIdeal.nD Cert.PostfwdKernelIdeal.τ).loc Cert.PostfwdKernelIdeal.main_arg7))
      ∧ r.2.sem = fun _ => 0)

def quiescent_PostfwdReferenceIdeal [hPostfwdReferenceIdeal : Cert.PostfwdReferenceIdeal.Facts] : Prop :=
  ∀ (m : (ℓ : Loc Cert.PostfwdReferenceIdeal.nD Cert.PostfwdReferenceIdeal.τ Cert.PostfwdReferenceIdeal.sig) → Buf (Elt Ideal) ℓ) (g : Dev Cert.PostfwdReferenceIdeal.nD → PrngReg), Pre_PostfwdReferenceIdeal m →
    θ_run (Cert.PostfwdReferenceIdeal.defs (F := Ideal)) (onTc (τ := Cert.PostfwdReferenceIdeal.τ) (Cert.PostfwdReferenceIdeal.main (F := Ideal))) ⟨m, fun _ => 0, g⟩ (fun r => (∀ c : Dev Cert.PostfwdReferenceIdeal.nD,
      r.2.mem ((c.tc : Thread Cert.PostfwdReferenceIdeal.nD Cert.PostfwdReferenceIdeal.τ).loc Cert.PostfwdReferenceIdeal.main_arg0) = m ((c.tc : Thread Cert.PostfwdReferenceIdeal.nD Cert.PostfwdReferenceIdeal.τ).loc Cert.PostfwdReferenceIdeal.main_arg0)
      ∧ r.2.mem ((c.tc : Thread Cert.PostfwdReferenceIdeal.nD Cert.PostfwdReferenceIdeal.τ).loc Cert.PostfwdReferenceIdeal.main_arg1) = m ((c.tc : Thread Cert.PostfwdReferenceIdeal.nD Cert.PostfwdReferenceIdeal.τ).loc Cert.PostfwdReferenceIdeal.main_arg1)
      ∧ r.2.mem ((c.tc : Thread Cert.PostfwdReferenceIdeal.nD Cert.PostfwdReferenceIdeal.τ).loc Cert.PostfwdReferenceIdeal.main_arg2) = m ((c.tc : Thread Cert.PostfwdReferenceIdeal.nD Cert.PostfwdReferenceIdeal.τ).loc Cert.PostfwdReferenceIdeal.main_arg2)
      ∧ r.2.mem ((c.tc : Thread Cert.PostfwdReferenceIdeal.nD Cert.PostfwdReferenceIdeal.τ).loc Cert.PostfwdReferenceIdeal.main_arg3) = m ((c.tc : Thread Cert.PostfwdReferenceIdeal.nD Cert.PostfwdReferenceIdeal.τ).loc Cert.PostfwdReferenceIdeal.main_arg3)
      ∧ r.2.mem ((c.tc : Thread Cert.PostfwdReferenceIdeal.nD Cert.PostfwdReferenceIdeal.τ).loc Cert.PostfwdReferenceIdeal.main_arg4) = m ((c.tc : Thread Cert.PostfwdReferenceIdeal.nD Cert.PostfwdReferenceIdeal.τ).loc Cert.PostfwdReferenceIdeal.main_arg4)
      ∧ r.2.mem ((c.tc : Thread Cert.PostfwdReferenceIdeal.nD Cert.PostfwdReferenceIdeal.τ).loc Cert.PostfwdReferenceIdeal.main_arg5) = m ((c.tc : Thread Cert.PostfwdReferenceIdeal.nD Cert.PostfwdReferenceIdeal.τ).loc Cert.PostfwdReferenceIdeal.main_arg5)
      ∧ r.2.mem ((c.tc : Thread Cert.PostfwdReferenceIdeal.nD Cert.PostfwdReferenceIdeal.τ).loc Cert.PostfwdReferenceIdeal.main_arg6) = m ((c.tc : Thread Cert.PostfwdReferenceIdeal.nD Cert.PostfwdReferenceIdeal.τ).loc Cert.PostfwdReferenceIdeal.main_arg6)
      ∧ r.2.mem ((c.tc : Thread Cert.PostfwdReferenceIdeal.nD Cert.PostfwdReferenceIdeal.τ).loc Cert.PostfwdReferenceIdeal.main_arg7) = m ((c.tc : Thread Cert.PostfwdReferenceIdeal.nD Cert.PostfwdReferenceIdeal.τ).loc Cert.PostfwdReferenceIdeal.main_arg7))
      ∧ r.2.sem = fun _ => 0)

def quiescent_PostfwdReferenceIdeal_pre_postf_finite [hPostfwdReferenceIdeal : Cert.PostfwdReferenceIdeal.Facts] [hPre_postf_finite : Cert.Pre_postf_finite.Facts] : Prop :=
  ∀ (m : (ℓ : Loc Cert.PostfwdReferenceIdeal.nD Cert.PostfwdReferenceIdeal.τ Cert.PostfwdReferenceIdeal.sig) → Buf (Elt Ideal) ℓ) (g : Dev Cert.PostfwdReferenceIdeal.nD → PrngReg), Pre_PostfwdReferenceIdeal_postf_finite m →
    θ_run (Cert.PostfwdReferenceIdeal.defs (F := Ideal)) (onTc (τ := Cert.PostfwdReferenceIdeal.τ) (Cert.PostfwdReferenceIdeal.main (F := Ideal))) ⟨m, fun _ => 0, g⟩ (fun r => (∀ c : Dev Cert.PostfwdReferenceIdeal.nD,
      r.2.mem ((c.tc : Thread Cert.PostfwdReferenceIdeal.nD Cert.PostfwdReferenceIdeal.τ).loc Cert.PostfwdReferenceIdeal.main_arg0) = m ((c.tc : Thread Cert.PostfwdReferenceIdeal.nD Cert.PostfwdReferenceIdeal.τ).loc Cert.PostfwdReferenceIdeal.main_arg0)
      ∧ r.2.mem ((c.tc : Thread Cert.PostfwdReferenceIdeal.nD Cert.PostfwdReferenceIdeal.τ).loc Cert.PostfwdReferenceIdeal.main_arg1) = m ((c.tc : Thread Cert.PostfwdReferenceIdeal.nD Cert.PostfwdReferenceIdeal.τ).loc Cert.PostfwdReferenceIdeal.main_arg1)
      ∧ r.2.mem ((c.tc : Thread Cert.PostfwdReferenceIdeal.nD Cert.PostfwdReferenceIdeal.τ).loc Cert.PostfwdReferenceIdeal.main_arg2) = m ((c.tc : Thread Cert.PostfwdReferenceIdeal.nD Cert.PostfwdReferenceIdeal.τ).loc Cert.PostfwdReferenceIdeal.main_arg2)
      ∧ r.2.mem ((c.tc : Thread Cert.PostfwdReferenceIdeal.nD Cert.PostfwdReferenceIdeal.τ).loc Cert.PostfwdReferenceIdeal.main_arg3) = m ((c.tc : Thread Cert.PostfwdReferenceIdeal.nD Cert.PostfwdReferenceIdeal.τ).loc Cert.PostfwdReferenceIdeal.main_arg3)
      ∧ r.2.mem ((c.tc : Thread Cert.PostfwdReferenceIdeal.nD Cert.PostfwdReferenceIdeal.τ).loc Cert.PostfwdReferenceIdeal.main_arg4) = m ((c.tc : Thread Cert.PostfwdReferenceIdeal.nD Cert.PostfwdReferenceIdeal.τ).loc Cert.PostfwdReferenceIdeal.main_arg4)
      ∧ r.2.mem ((c.tc : Thread Cert.PostfwdReferenceIdeal.nD Cert.PostfwdReferenceIdeal.τ).loc Cert.PostfwdReferenceIdeal.main_arg5) = m ((c.tc : Thread Cert.PostfwdReferenceIdeal.nD Cert.PostfwdReferenceIdeal.τ).loc Cert.PostfwdReferenceIdeal.main_arg5)
      ∧ r.2.mem ((c.tc : Thread Cert.PostfwdReferenceIdeal.nD Cert.PostfwdReferenceIdeal.τ).loc Cert.PostfwdReferenceIdeal.main_arg6) = m ((c.tc : Thread Cert.PostfwdReferenceIdeal.nD Cert.PostfwdReferenceIdeal.τ).loc Cert.PostfwdReferenceIdeal.main_arg6)
      ∧ r.2.mem ((c.tc : Thread Cert.PostfwdReferenceIdeal.nD Cert.PostfwdReferenceIdeal.τ).loc Cert.PostfwdReferenceIdeal.main_arg7) = m ((c.tc : Thread Cert.PostfwdReferenceIdeal.nD Cert.PostfwdReferenceIdeal.τ).loc Cert.PostfwdReferenceIdeal.main_arg7))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def preserves_XgradKernel_XgradKernelIdeal : Prop :=
  True

def algebraic_XgradKernelIdeal_XgradReferenceIdeal_pre_xgrad_finite [hXgradKernelIdeal : Cert.XgradKernelIdeal.Facts] [hXgradReferenceIdeal : Cert.XgradReferenceIdeal.Facts] [hPre_xgrad_finite : Cert.Pre_xgrad_finite.Facts] : Prop :=
  ∀ (m : (ℓ : Loc Cert.XgradKernelIdeal.nD Cert.XgradKernelIdeal.τ Cert.XgradKernelIdeal.sig) → Buf (Elt Ideal) ℓ) (g : Dev Cert.XgradKernelIdeal.nD → PrngReg)
    (m' : (ℓ : Loc Cert.XgradReferenceIdeal.nD Cert.XgradReferenceIdeal.τ Cert.XgradReferenceIdeal.sig) → Buf (Elt Ideal) ℓ) (g' : Dev Cert.XgradReferenceIdeal.nD → PrngReg), Pre_XgradKernelIdeal_xgrad_finite m →
    (∀ c : Dev Cert.XgradKernelIdeal.nD,
      m' ((c.tc : Thread Cert.XgradReferenceIdeal.nD Cert.XgradReferenceIdeal.τ).loc Cert.XgradReferenceIdeal.main_arg0) = m ((c.tc : Thread Cert.XgradKernelIdeal.nD Cert.XgradKernelIdeal.τ).loc Cert.XgradKernelIdeal.main_arg0)
      ∧ m' ((c.tc : Thread Cert.XgradReferenceIdeal.nD Cert.XgradReferenceIdeal.τ).loc Cert.XgradReferenceIdeal.main_arg1) = m ((c.tc : Thread Cert.XgradKernelIdeal.nD Cert.XgradKernelIdeal.τ).loc Cert.XgradKernelIdeal.main_arg1)
      ∧ m' ((c.tc : Thread Cert.XgradReferenceIdeal.nD Cert.XgradReferenceIdeal.τ).loc Cert.XgradReferenceIdeal.main_arg2) = m ((c.tc : Thread Cert.XgradKernelIdeal.nD Cert.XgradKernelIdeal.τ).loc Cert.XgradKernelIdeal.main_arg2)
      ∧ m' ((c.tc : Thread Cert.XgradReferenceIdeal.nD Cert.XgradReferenceIdeal.τ).loc Cert.XgradReferenceIdeal.main_arg3) = m ((c.tc : Thread Cert.XgradKernelIdeal.nD Cert.XgradKernelIdeal.τ).loc Cert.XgradKernelIdeal.main_arg3)
      ∧ m' ((c.tc : Thread Cert.XgradReferenceIdeal.nD Cert.XgradReferenceIdeal.τ).loc Cert.XgradReferenceIdeal.main_arg4) = m ((c.tc : Thread Cert.XgradKernelIdeal.nD Cert.XgradKernelIdeal.τ).loc Cert.XgradKernelIdeal.main_arg4)) →
    ∃ (v0 : (c : Dev Cert.XgradKernelIdeal.nD) → Buf (Elt Ideal) ((c.tc : Thread Cert.XgradKernelIdeal.nD Cert.XgradKernelIdeal.τ).loc Cert.XgradKernelIdeal.main_v16_0)) (v1 : (c : Dev Cert.XgradKernelIdeal.nD) → Buf (Elt Ideal) ((c.tc : Thread Cert.XgradKernelIdeal.nD Cert.XgradKernelIdeal.τ).loc Cert.XgradKernelIdeal.main_v16_1)),
      θ_run (Cert.XgradKernelIdeal.defs (F := Ideal)) (onTc (τ := Cert.XgradKernelIdeal.τ) (Cert.XgradKernelIdeal.main (F := Ideal))) ⟨m, fun _ => 0, g⟩ (fun r => ∀ c : Dev Cert.XgradKernelIdeal.nD,
          r.2.mem ((c.tc : Thread Cert.XgradKernelIdeal.nD Cert.XgradKernelIdeal.τ).loc Cert.XgradKernelIdeal.main_v16_0) = v0 c
          ∧ r.2.mem ((c.tc : Thread Cert.XgradKernelIdeal.nD Cert.XgradKernelIdeal.τ).loc Cert.XgradKernelIdeal.main_v16_1) = v1 c
          ∧ r.2.mem ((c.tc : Thread Cert.XgradKernelIdeal.nD Cert.XgradKernelIdeal.τ).loc Cert.XgradKernelIdeal.main_arg0) = m ((c.tc : Thread Cert.XgradKernelIdeal.nD Cert.XgradKernelIdeal.τ).loc Cert.XgradKernelIdeal.main_arg0)
          ∧ r.2.mem ((c.tc : Thread Cert.XgradKernelIdeal.nD Cert.XgradKernelIdeal.τ).loc Cert.XgradKernelIdeal.main_arg1) = m ((c.tc : Thread Cert.XgradKernelIdeal.nD Cert.XgradKernelIdeal.τ).loc Cert.XgradKernelIdeal.main_arg1)
          ∧ r.2.mem ((c.tc : Thread Cert.XgradKernelIdeal.nD Cert.XgradKernelIdeal.τ).loc Cert.XgradKernelIdeal.main_arg2) = m ((c.tc : Thread Cert.XgradKernelIdeal.nD Cert.XgradKernelIdeal.τ).loc Cert.XgradKernelIdeal.main_arg2)
          ∧ r.2.mem ((c.tc : Thread Cert.XgradKernelIdeal.nD Cert.XgradKernelIdeal.τ).loc Cert.XgradKernelIdeal.main_arg3) = m ((c.tc : Thread Cert.XgradKernelIdeal.nD Cert.XgradKernelIdeal.τ).loc Cert.XgradKernelIdeal.main_arg3)
          ∧ r.2.mem ((c.tc : Thread Cert.XgradKernelIdeal.nD Cert.XgradKernelIdeal.τ).loc Cert.XgradKernelIdeal.main_arg4) = m ((c.tc : Thread Cert.XgradKernelIdeal.nD Cert.XgradKernelIdeal.τ).loc Cert.XgradKernelIdeal.main_arg4))
      ∧ θ_run (Cert.XgradReferenceIdeal.defs (F := Ideal)) (onTc (τ := Cert.XgradReferenceIdeal.τ) (Cert.XgradReferenceIdeal.main (F := Ideal))) ⟨m', fun _ => 0, g'⟩ (fun r => ∀ c : Dev Cert.XgradReferenceIdeal.nD,
          r.2.mem ((c.tc : Thread Cert.XgradReferenceIdeal.nD Cert.XgradReferenceIdeal.τ).loc Cert.XgradReferenceIdeal.main_v39) = v0 c
          ∧ r.2.mem ((c.tc : Thread Cert.XgradReferenceIdeal.nD Cert.XgradReferenceIdeal.τ).loc Cert.XgradReferenceIdeal.main_v40) = v1 c
          ∧ r.2.mem ((c.tc : Thread Cert.XgradReferenceIdeal.nD Cert.XgradReferenceIdeal.τ).loc Cert.XgradReferenceIdeal.main_arg0) = m' ((c.tc : Thread Cert.XgradReferenceIdeal.nD Cert.XgradReferenceIdeal.τ).loc Cert.XgradReferenceIdeal.main_arg0)
          ∧ r.2.mem ((c.tc : Thread Cert.XgradReferenceIdeal.nD Cert.XgradReferenceIdeal.τ).loc Cert.XgradReferenceIdeal.main_arg1) = m' ((c.tc : Thread Cert.XgradReferenceIdeal.nD Cert.XgradReferenceIdeal.τ).loc Cert.XgradReferenceIdeal.main_arg1)
          ∧ r.2.mem ((c.tc : Thread Cert.XgradReferenceIdeal.nD Cert.XgradReferenceIdeal.τ).loc Cert.XgradReferenceIdeal.main_arg2) = m' ((c.tc : Thread Cert.XgradReferenceIdeal.nD Cert.XgradReferenceIdeal.τ).loc Cert.XgradReferenceIdeal.main_arg2)
          ∧ r.2.mem ((c.tc : Thread Cert.XgradReferenceIdeal.nD Cert.XgradReferenceIdeal.τ).loc Cert.XgradReferenceIdeal.main_arg3) = m' ((c.tc : Thread Cert.XgradReferenceIdeal.nD Cert.XgradReferenceIdeal.τ).loc Cert.XgradReferenceIdeal.main_arg3)
          ∧ r.2.mem ((c.tc : Thread Cert.XgradReferenceIdeal.nD Cert.XgradReferenceIdeal.τ).loc Cert.XgradReferenceIdeal.main_arg4) = m' ((c.tc : Thread Cert.XgradReferenceIdeal.nD Cert.XgradReferenceIdeal.τ).loc Cert.XgradReferenceIdeal.main_arg4))

def preserves_AttnKernel_AttnKernelIdeal : Prop :=
  IdealRules.named_const.Statement Cert.AttnKernelIdeal.κ "mask" .f32 0xF149F2CA#32 ⊥

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v32_0)) (v1 : (c : Dev Cert.AttnKernelIdeal.nD) → Buf (Elt Ideal) ((c.tc : Thread Cert.AttnKernelIdeal.nD Cert.AttnKernelIdeal.τ).loc Cert.AttnKernelIdeal.main_v32_1)) (v2 : (c : Dev Cert.AttnKernelIdeal.nD) → Buf (Elt Ideal) ((c.tc : Thread Cert.AttnKernelIdeal.nD Cert.AttnKernelIdeal.τ).loc Cert.AttnKernelIdeal.main_v32_2)) (v3 : (c : Dev Cert.AttnKernelIdeal.nD) → Buf (Elt Ideal) ((c.tc : Thread Cert.AttnKernelIdeal.nD Cert.AttnKernelIdeal.τ).loc Cert.AttnKernelIdeal.main_v35)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v32_0) = v0 c
          ∧ r.2.mem ((c.tc : Thread Cert.AttnKernelIdeal.nD Cert.AttnKernelIdeal.τ).loc Cert.AttnKernelIdeal.main_v32_1) = v1 c
          ∧ r.2.mem ((c.tc : Thread Cert.AttnKernelIdeal.nD Cert.AttnKernelIdeal.τ).loc Cert.AttnKernelIdeal.main_v32_2) = v2 c
          ∧ r.2.mem ((c.tc : Thread Cert.AttnKernelIdeal.nD Cert.AttnKernelIdeal.τ).loc Cert.AttnKernelIdeal.main_v35) = v3 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v73) = v0 c
          ∧ r.2.mem ((c.tc : Thread Cert.AttnReferenceIdeal.nD Cert.AttnReferenceIdeal.τ).loc Cert.AttnReferenceIdeal.main_v72) = v1 c
          ∧ r.2.mem ((c.tc : Thread Cert.AttnReferenceIdeal.nD Cert.AttnReferenceIdeal.τ).loc Cert.AttnReferenceIdeal.main_v47) = v2 c
          ∧ r.2.mem ((c.tc : Thread Cert.AttnReferenceIdeal.nD Cert.AttnReferenceIdeal.τ).loc Cert.AttnReferenceIdeal.main_v69) = v3 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_TailKernel_TailKernelIdeal : Prop :=
  True

def algebraic_TailKernelIdeal_TailReferenceIdeal_pre_tail_finite [hTailKernelIdeal : Cert.TailKernelIdeal.Facts] [hTailReferenceIdeal : Cert.TailReferenceIdeal.Facts] [hPre_tail_finite : Cert.Pre_tail_finite.Facts] : Prop :=
  ∀ (m : (ℓ : Loc Cert.TailKernelIdeal.nD Cert.TailKernelIdeal.τ Cert.TailKernelIdeal.sig) → Buf (Elt Ideal) ℓ) (g : Dev Cert.TailKernelIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailKernelIdeal_tail_finite m →
    (∀ c : Dev Cert.TailKernelIdeal.nD,
      m' ((c.tc : Thread Cert.TailReferenceIdeal.nD Cert.TailReferenceIdeal.τ).loc Cert.TailReferenceIdeal.main_arg0) = m ((c.tc : Thread Cert.TailKernelIdeal.nD Cert.TailKernelIdeal.τ).loc Cert.TailKernelIdeal.main_arg0)
      ∧ m' ((c.tc : Thread Cert.TailReferenceIdeal.nD Cert.TailReferenceIdeal.τ).loc Cert.TailReferenceIdeal.main_arg1) = m ((c.tc : Thread Cert.TailKernelIdeal.nD Cert.TailKernelIdeal.τ).loc Cert.TailKernelIdeal.main_arg1)
      ∧ m' ((c.tc : Thread Cert.TailReferenceIdeal.nD Cert.TailReferenceIdeal.τ).loc Cert.TailReferenceIdeal.main_arg2) = m ((c.tc : Thread Cert.TailKernelIdeal.nD Cert.TailKernelIdeal.τ).loc Cert.TailKernelIdeal.main_arg2)
      ∧ m' ((c.tc : Thread Cert.TailReferenceIdeal.nD Cert.TailReferenceIdeal.τ).loc Cert.TailReferenceIdeal.main_arg3) = m ((c.tc : Thread Cert.TailKernelIdeal.nD Cert.TailKernelIdeal.τ).loc Cert.TailKernelIdeal.main_arg3)
      ∧ m' ((c.tc : Thread Cert.TailReferenceIdeal.nD Cert.TailReferenceIdeal.τ).loc Cert.TailReferenceIdeal.main_arg4) = m ((c.tc : Thread Cert.TailKernelIdeal.nD Cert.TailKernelIdeal.τ).loc Cert.TailKernelIdeal.main_arg4)
      ∧ m' ((c.tc : Thread Cert.TailReferenceIdeal.nD Cert.TailReferenceIdeal.τ).loc Cert.TailReferenceIdeal.main_arg5) = m ((c.tc : Thread Cert.TailKernelIdeal.nD Cert.TailKernelIdeal.τ).loc Cert.TailKernelIdeal.main_arg5)
      ∧ m' ((c.tc : Thread Cert.TailReferenceIdeal.nD Cert.TailReferenceIdeal.τ).loc Cert.TailReferenceIdeal.main_arg6) = m ((c.tc : Thread Cert.TailKernelIdeal.nD Cert.TailKernelIdeal.τ).loc Cert.TailKernelIdeal.main_arg6)
      ∧ m' ((c.tc : Thread Cert.TailReferenceIdeal.nD Cert.TailReferenceIdeal.τ).loc Cert.TailReferenceIdeal.main_arg7) = m ((c.tc : Thread Cert.TailKernelIdeal.nD Cert.TailKernelIdeal.τ).loc Cert.TailKernelIdeal.main_arg7)
      ∧ m' ((c.tc : Thread Cert.TailReferenceIdeal.nD Cert.TailReferenceIdeal.τ).loc Cert.TailReferenceIdeal.main_arg8) = m ((c.tc : Thread Cert.TailKernelIdeal.nD Cert.TailKernelIdeal.τ).loc Cert.TailKernelIdeal.main_arg8)
      ∧ m' ((c.tc : Thread Cert.TailReferenceIdeal.nD Cert.TailReferenceIdeal.τ).loc Cert.TailReferenceIdeal.main_arg9) = m ((c.tc : Thread Cert.TailKernelIdeal.nD Cert.TailKernelIdeal.τ).loc Cert.TailKernelIdeal.main_arg9)) →
    ∃ (v0 : (c : Dev Cert.TailKernelIdeal.nD) → Buf (Elt Ideal) ((c.tc : Thread Cert.TailKernelIdeal.nD Cert.TailKernelIdeal.τ).loc Cert.TailKernelIdeal.main_v3_0)) (v1 : (c : Dev Cert.TailKernelIdeal.nD) → Buf (Elt Ideal) ((c.tc : Thread Cert.TailKernelIdeal.nD Cert.TailKernelIdeal.τ).loc Cert.TailKernelIdeal.main_v3_1)) (v2 : (c : Dev Cert.TailKernelIdeal.nD) → Buf (Elt Ideal) ((c.tc : Thread Cert.TailKernelIdeal.nD Cert.TailKernelIdeal.τ).loc Cert.TailKernelIdeal.main_v3_2)) (v3 : (c : Dev Cert.TailKernelIdeal.nD) → Buf (Elt Ideal) ((c.tc : Thread Cert.TailKernelIdeal.nD Cert.TailKernelIdeal.τ).loc Cert.TailKernelIdeal.main_v3_3)) (v4 : (c : Dev Cert.TailKernelIdeal.nD) → Buf (Elt Ideal) ((c.tc : Thread Cert.TailKernelIdeal.nD Cert.TailKernelIdeal.τ).loc Cert.TailKernelIdeal.main_v3_4)) (v5 : (c : Dev Cert.TailKernelIdeal.nD) → Buf (Elt Ideal) ((c.tc : Thread Cert.TailKernelIdeal.nD Cert.TailKernelIdeal.τ).loc Cert.TailKernelIdeal.main_v3_5)) (v6 : (c : Dev Cert.TailKernelIdeal.nD) → Buf (Elt Ideal) ((c.tc : Thread Cert.TailKernelIdeal.nD Cert.TailKernelIdeal.τ).loc Cert.TailKernelIdeal.main_v3_6)) (v7 : (c : Dev Cert.TailKernelIdeal.nD) → Buf (Elt Ideal) ((c.tc : Thread Cert.TailKernelIdeal.nD Cert.TailKernelIdeal.τ).loc Cert.TailKernelIdeal.main_v3_7)) (v8 : (c : Dev Cert.TailKernelIdeal.nD) → Buf (Elt Ideal) ((c.tc : Thread Cert.TailKernelIdeal.nD Cert.TailKernelIdeal.τ).loc Cert.TailKernelIdeal.main_v3_8)) (v9 : (c : Dev Cert.TailKernelIdeal.nD) → Buf (Elt Ideal) ((c.tc : Thread Cert.TailKernelIdeal.nD Cert.TailKernelIdeal.τ).loc Cert.TailKernelIdeal.main_v3_9)),
      θ_run (Cert.TailKernelIdeal.defs (F := Ideal)) (onTc (τ := Cert.TailKernelIdeal.τ) (Cert.TailKernelIdeal.main (F := Ideal))) ⟨m, fun _ => 0, g⟩ (fun r => ∀ c : Dev Cert.TailKernelIdeal.nD,
          r.2.mem ((c.tc : Thread Cert.TailKernelIdeal.nD Cert.TailKernelIdeal.τ).loc Cert.TailKernelIdeal.main_v3_0) = v0 c
          ∧ r.2.mem ((c.tc : Thread Cert.TailKernelIdeal.nD Cert.TailKernelIdeal.τ).loc Cert.TailKernelIdeal.main_v3_1) = v1 c
          ∧ r.2.mem ((c.tc : Thread Cert.TailKernelIdeal.nD Cert.TailKernelIdeal.τ).loc Cert.TailKernelIdeal.main_v3_2) = v2 c
          ∧ r.2.mem ((c.tc : Thread Cert.TailKernelIdeal.nD Cert.TailKernelIdeal.τ).loc Cert.TailKernelIdeal.main_v3_3) = v3 c
          ∧ r.2.mem ((c.tc : Thread Cert.TailKernelIdeal.nD Cert.TailKernelIdeal.τ).loc Cert.TailKernelIdeal.main_v3_4) = v4 c
          ∧ r.2.mem ((c.tc : Thread Cert.TailKernelIdeal.nD Cert.TailKernelIdeal.τ).loc Cert.TailKernelIdeal.main_v3_5) = v5 c
          ∧ r.2.mem ((c.tc : Thread Cert.TailKernelIdeal.nD Cert.TailKernelIdeal.τ).loc Cert.TailKernelIdeal.main_v3_6) = v6 c
          ∧ r.2.mem ((c.tc : Thread Cert.TailKernelIdeal.nD Cert.TailKernelIdeal.τ).loc Cert.TailKernelIdeal.main_v3_7) = v7 c
          ∧ r.2.mem ((c.tc : Thread Cert.TailKernelIdeal.nD Cert.TailKernelIdeal.τ).loc Cert.TailKernelIdeal.main_v3_8) = v8 c
          ∧ r.2.mem ((c.tc : Thread Cert.TailKernelIdeal.nD Cert.TailKernelIdeal.τ).loc Cert.TailKernelIdeal.main_v3_9) = v9 c
          ∧ r.2.mem ((c.tc : Thread Cert.TailKernelIdeal.nD Cert.TailKernelIdeal.τ).loc Cert.TailKernelIdeal.main_arg0) = m ((c.tc : Thread Cert.TailKernelIdeal.nD Cert.TailKernelIdeal.τ).loc Cert.TailKernelIdeal.main_arg0)
          ∧ r.2.mem ((c.tc : Thread Cert.TailKernelIdeal.nD Cert.TailKernelIdeal.τ).loc Cert.TailKernelIdeal.main_arg1) = m ((c.tc : Thread Cert.TailKernelIdeal.nD Cert.TailKernelIdeal.τ).loc Cert.TailKernelIdeal.main_arg1)
          ∧ r.2.mem ((c.tc : Thread Cert.TailKernelIdeal.nD Cert.TailKernelIdeal.τ).loc Cert.TailKernelIdeal.main_arg2) = m ((c.tc : Thread Cert.TailKernelIdeal.nD Cert.TailKernelIdeal.τ).loc Cert.TailKernelIdeal.main_arg2)
          ∧ r.2.mem ((c.tc : Thread Cert.TailKernelIdeal.nD Cert.TailKernelIdeal.τ).loc Cert.TailKernelIdeal.main_arg3) = m ((c.tc : Thread Cert.TailKernelIdeal.nD Cert.TailKernelIdeal.τ).loc Cert.TailKernelIdeal.main_arg3)
          ∧ r.2.mem ((c.tc : Thread Cert.TailKernelIdeal.nD Cert.TailKernelIdeal.τ).loc Cert.TailKernelIdeal.main_arg4) = m ((c.tc : Thread Cert.TailKernelIdeal.nD Cert.TailKernelIdeal.τ).loc Cert.TailKernelIdeal.main_arg4)
          ∧ r.2.mem ((c.tc : Thread Cert.TailKernelIdeal.nD Cert.TailKernelIdeal.τ).loc Cert.TailKernelIdeal.main_arg5) = m ((c.tc : Thread Cert.TailKernelIdeal.nD Cert.TailKernelIdeal.τ).loc Cert.TailKernelIdeal.main_arg5)
          ∧ r.2.mem ((c.tc : Thread Cert.TailKernelIdeal.nD Cert.TailKernelIdeal.τ).loc Cert.TailKernelIdeal.main_arg6) = m ((c.tc : Thread Cert.TailKernelIdeal.nD Cert.TailKernelIdeal.τ).loc Cert.TailKernelIdeal.main_arg6)
          ∧ r.2.mem ((c.tc : Thread Cert.TailKernelIdeal.nD Cert.TailKernelIdeal.τ).loc Cert.TailKernelIdeal.main_arg7) = m ((c.tc : Thread Cert.TailKernelIdeal.nD Cert.TailKernelIdeal.τ).loc Cert.TailKernelIdeal.main_arg7)
          ∧ r.2.mem ((c.tc : Thread Cert.TailKernelIdeal.nD Cert.TailKernelIdeal.τ).loc Cert.TailKernelIdeal.main_arg8) = m ((c.tc : Thread Cert.TailKernelIdeal.nD Cert.TailKernelIdeal.τ).loc Cert.TailKernelIdeal.main_arg8)
          ∧ r.2.mem ((c.tc : Thread Cert.TailKernelIdeal.nD Cert.TailKernelIdeal.τ).loc Cert.TailKernelIdeal.main_arg9) = m ((c.tc : Thread Cert.TailKernelIdeal.nD Cert.TailKernelIdeal.τ).loc Cert.TailKernelIdeal.main_arg9))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v63) = v0 c
          ∧ r.2.mem ((c.tc : Thread Cert.TailReferenceIdeal.nD Cert.TailReferenceIdeal.τ).loc Cert.TailReferenceIdeal.main_v95) = v1 c
          ∧ r.2.mem ((c.tc : Thread Cert.TailReferenceIdeal.nD Cert.TailReferenceIdeal.τ).loc Cert.TailReferenceIdeal.main_v97) = v2 c
          ∧ r.2.mem ((c.tc : Thread Cert.TailReferenceIdeal.nD Cert.TailReferenceIdeal.τ).loc Cert.TailReferenceIdeal.main_v113) = v3 c
          ∧ r.2.mem ((c.tc : Thread Cert.TailReferenceIdeal.nD Cert.TailReferenceIdeal.τ).loc Cert.TailReferenceIdeal.main_v107) = v4 c
          ∧ r.2.mem ((c.tc : Thread Cert.TailReferenceIdeal.nD Cert.TailReferenceIdeal.τ).loc Cert.TailReferenceIdeal.main_v94) = v5 c
          ∧ r.2.mem ((c.tc : Thread Cert.TailReferenceIdeal.nD Cert.TailReferenceIdeal.τ).loc Cert.TailReferenceIdeal.main_v114) = v6 c
          ∧ r.2.mem ((c.tc : Thread Cert.TailReferenceIdeal.nD Cert.TailReferenceIdeal.τ).loc Cert.TailReferenceIdeal.main_v116) = v7 c
          ∧ r.2.mem ((c.tc : Thread Cert.TailReferenceIdeal.nD Cert.TailReferenceIdeal.τ).loc Cert.TailReferenceIdeal.main_v111) = v8 c
          ∧ r.2.mem ((c.tc : Thread Cert.TailReferenceIdeal.nD Cert.TailReferenceIdeal.τ).loc Cert.TailReferenceIdeal.main_v117) = v9 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9))

def preserves_FoxpreKernel_FoxpreKernelIdeal : Prop :=
  True

def algebraic_FoxpreKernelIdeal_FoxpreReferenceIdeal_pre_foxpre_finite [hFoxpreKernelIdeal : Cert.FoxpreKernelIdeal.Facts] [hFoxpreReferenceIdeal : Cert.FoxpreReferenceIdeal.Facts] [hPre_foxpre_finite : Cert.Pre_foxpre_finite.Facts] : Prop :=
  ∀ (m : (ℓ : Loc Cert.FoxpreKernelIdeal.nD Cert.FoxpreKernelIdeal.τ Cert.FoxpreKernelIdeal.sig) → Buf (Elt Ideal) ℓ) (g : Dev Cert.FoxpreKernelIdeal.nD → PrngReg)
    (m' : (ℓ : Loc Cert.FoxpreReferenceIdeal.nD Cert.FoxpreReferenceIdeal.τ Cert.FoxpreReferenceIdeal.sig) → Buf (Elt Ideal) ℓ) (g' : Dev Cert.FoxpreReferenceIdeal.nD → PrngReg), Pre_FoxpreKernelIdeal_foxpre_finite m →
    (∀ c : Dev Cert.FoxpreKernelIdeal.nD,
      m' ((c.tc : Thread Cert.FoxpreReferenceIdeal.nD Cert.FoxpreReferenceIdeal.τ).loc Cert.FoxpreReferenceIdeal.main_arg0) = m ((c.tc : Thread Cert.FoxpreKernelIdeal.nD Cert.FoxpreKernelIdeal.τ).loc Cert.FoxpreKernelIdeal.main_arg0)
      ∧ m' ((c.tc : Thread Cert.FoxpreReferenceIdeal.nD Cert.FoxpreReferenceIdeal.τ).loc Cert.FoxpreReferenceIdeal.main_arg1) = m ((c.tc : Thread Cert.FoxpreKernelIdeal.nD Cert.FoxpreKernelIdeal.τ).loc Cert.FoxpreKernelIdeal.main_arg1)
      ∧ m' ((c.tc : Thread Cert.FoxpreReferenceIdeal.nD Cert.FoxpreReferenceIdeal.τ).loc Cert.FoxpreReferenceIdeal.main_arg2) = m ((c.tc : Thread Cert.FoxpreKernelIdeal.nD Cert.FoxpreKernelIdeal.τ).loc Cert.FoxpreKernelIdeal.main_arg2)
      ∧ m' ((c.tc : Thread Cert.FoxpreReferenceIdeal.nD Cert.FoxpreReferenceIdeal.τ).loc Cert.FoxpreReferenceIdeal.main_arg3) = m ((c.tc : Thread Cert.FoxpreKernelIdeal.nD Cert.FoxpreKernelIdeal.τ).loc Cert.FoxpreKernelIdeal.main_arg3)
      ∧ m' ((c.tc : Thread Cert.FoxpreReferenceIdeal.nD Cert.FoxpreReferenceIdeal.τ).loc Cert.FoxpreReferenceIdeal.main_arg4) = m ((c.tc : Thread Cert.FoxpreKernelIdeal.nD Cert.FoxpreKernelIdeal.τ).loc Cert.FoxpreKernelIdeal.main_arg4)
      ∧ m' ((c.tc : Thread Cert.FoxpreReferenceIdeal.nD Cert.FoxpreReferenceIdeal.τ).loc Cert.FoxpreReferenceIdeal.main_arg5) = m ((c.tc : Thread Cert.FoxpreKernelIdeal.nD Cert.FoxpreKernelIdeal.τ).loc Cert.FoxpreKernelIdeal.main_arg5)
      ∧ m' ((c.tc : Thread Cert.FoxpreReferenceIdeal.nD Cert.FoxpreReferenceIdeal.τ).loc Cert.FoxpreReferenceIdeal.main_arg6) = m ((c.tc : Thread Cert.FoxpreKernelIdeal.nD Cert.FoxpreKernelIdeal.τ).loc Cert.FoxpreKernelIdeal.main_arg6)
      ∧ m' ((c.tc : Thread Cert.FoxpreReferenceIdeal.nD Cert.FoxpreReferenceIdeal.τ).loc Cert.FoxpreReferenceIdeal.main_arg7) = m ((c.tc : Thread Cert.FoxpreKernelIdeal.nD Cert.FoxpreKernelIdeal.τ).loc Cert.FoxpreKernelIdeal.main_arg7)
      ∧ m' ((c.tc : Thread Cert.FoxpreReferenceIdeal.nD Cert.FoxpreReferenceIdeal.τ).loc Cert.FoxpreReferenceIdeal.main_arg8) = m ((c.tc : Thread Cert.FoxpreKernelIdeal.nD Cert.FoxpreKernelIdeal.τ).loc Cert.FoxpreKernelIdeal.main_arg8)
      ∧ m' ((c.tc : Thread Cert.FoxpreReferenceIdeal.nD Cert.FoxpreReferenceIdeal.τ).loc Cert.FoxpreReferenceIdeal.main_arg9) = m ((c.tc : Thread Cert.FoxpreKernelIdeal.nD Cert.FoxpreKernelIdeal.τ).loc Cert.FoxpreKernelIdeal.main_arg9)) →
    ∃ (v0 : (c : Dev Cert.FoxpreKernelIdeal.nD) → Buf (Elt Ideal) ((c.tc : Thread Cert.FoxpreKernelIdeal.nD Cert.FoxpreKernelIdeal.τ).loc Cert.FoxpreKernelIdeal.main_v14_0)) (v1 : (c : Dev Cert.FoxpreKernelIdeal.nD) → Buf (Elt Ideal) ((c.tc : Thread Cert.FoxpreKernelIdeal.nD Cert.FoxpreKernelIdeal.τ).loc Cert.FoxpreKernelIdeal.main_v14_1)) (v2 : (c : Dev Cert.FoxpreKernelIdeal.nD) → Buf (Elt Ideal) ((c.tc : Thread Cert.FoxpreKernelIdeal.nD Cert.FoxpreKernelIdeal.τ).loc Cert.FoxpreKernelIdeal.main_v14_2)) (v3 : (c : Dev Cert.FoxpreKernelIdeal.nD) → Buf (Elt Ideal) ((c.tc : Thread Cert.FoxpreKernelIdeal.nD Cert.FoxpreKernelIdeal.τ).loc Cert.FoxpreKernelIdeal.main_v14_3)) (v4 : (c : Dev Cert.FoxpreKernelIdeal.nD) → Buf (Elt Ideal) ((c.tc : Thread Cert.FoxpreKernelIdeal.nD Cert.FoxpreKernelIdeal.τ).loc Cert.FoxpreKernelIdeal.main_v14_4)),
      θ_run (Cert.FoxpreKernelIdeal.defs (F := Ideal)) (onTc (τ := Cert.FoxpreKernelIdeal.τ) (Cert.FoxpreKernelIdeal.main (F := Ideal))) ⟨m, fun _ => 0, g⟩ (fun r => ∀ c : Dev Cert.FoxpreKernelIdeal.nD,
          r.2.mem ((c.tc : Thread Cert.FoxpreKernelIdeal.nD Cert.FoxpreKernelIdeal.τ).loc Cert.FoxpreKernelIdeal.main_v14_0) = v0 c
          ∧ r.2.mem ((c.tc : Thread Cert.FoxpreKernelIdeal.nD Cert.FoxpreKernelIdeal.τ).loc Cert.FoxpreKernelIdeal.main_v14_1) = v1 c
          ∧ r.2.mem ((c.tc : Thread Cert.FoxpreKernelIdeal.nD Cert.FoxpreKernelIdeal.τ).loc Cert.FoxpreKernelIdeal.main_v14_2) = v2 c
          ∧ r.2.mem ((c.tc : Thread Cert.FoxpreKernelIdeal.nD Cert.FoxpreKernelIdeal.τ).loc Cert.FoxpreKernelIdeal.main_v14_3) = v3 c
          ∧ r.2.mem ((c.tc : Thread Cert.FoxpreKernelIdeal.nD Cert.FoxpreKernelIdeal.τ).loc Cert.FoxpreKernelIdeal.main_v14_4) = v4 c
          ∧ r.2.mem ((c.tc : Thread Cert.FoxpreKernelIdeal.nD Cert.FoxpreKernelIdeal.τ).loc Cert.FoxpreKernelIdeal.main_arg0) = m ((c.tc : Thread Cert.FoxpreKernelIdeal.nD Cert.FoxpreKernelIdeal.τ).loc Cert.FoxpreKernelIdeal.main_arg0)
          ∧ r.2.mem ((c.tc : Thread Cert.FoxpreKernelIdeal.nD Cert.FoxpreKernelIdeal.τ).loc Cert.FoxpreKernelIdeal.main_arg1) = m ((c.tc : Thread Cert.FoxpreKernelIdeal.nD Cert.FoxpreKernelIdeal.τ).loc Cert.FoxpreKernelIdeal.main_arg1)
          ∧ r.2.mem ((c.tc : Thread Cert.FoxpreKernelIdeal.nD Cert.FoxpreKernelIdeal.τ).loc Cert.FoxpreKernelIdeal.main_arg2) = m ((c.tc : Thread Cert.FoxpreKernelIdeal.nD Cert.FoxpreKernelIdeal.τ).loc Cert.FoxpreKernelIdeal.main_arg2)
          ∧ r.2.mem ((c.tc : Thread Cert.FoxpreKernelIdeal.nD Cert.FoxpreKernelIdeal.τ).loc Cert.FoxpreKernelIdeal.main_arg3) = m ((c.tc : Thread Cert.FoxpreKernelIdeal.nD Cert.FoxpreKernelIdeal.τ).loc Cert.FoxpreKernelIdeal.main_arg3)
          ∧ r.2.mem ((c.tc : Thread Cert.FoxpreKernelIdeal.nD Cert.FoxpreKernelIdeal.τ).loc Cert.FoxpreKernelIdeal.main_arg4) = m ((c.tc : Thread Cert.FoxpreKernelIdeal.nD Cert.FoxpreKernelIdeal.τ).loc Cert.FoxpreKernelIdeal.main_arg4)
          ∧ r.2.mem ((c.tc : Thread Cert.FoxpreKernelIdeal.nD Cert.FoxpreKernelIdeal.τ).loc Cert.FoxpreKernelIdeal.main_arg5) = m ((c.tc : Thread Cert.FoxpreKernelIdeal.nD Cert.FoxpreKernelIdeal.τ).loc Cert.FoxpreKernelIdeal.main_arg5)
          ∧ r.2.mem ((c.tc : Thread Cert.FoxpreKernelIdeal.nD Cert.FoxpreKernelIdeal.τ).loc Cert.FoxpreKernelIdeal.main_arg6) = m ((c.tc : Thread Cert.FoxpreKernelIdeal.nD Cert.FoxpreKernelIdeal.τ).loc Cert.FoxpreKernelIdeal.main_arg6)
          ∧ r.2.mem ((c.tc : Thread Cert.FoxpreKernelIdeal.nD Cert.FoxpreKernelIdeal.τ).loc Cert.FoxpreKernelIdeal.main_arg7) = m ((c.tc : Thread Cert.FoxpreKernelIdeal.nD Cert.FoxpreKernelIdeal.τ).loc Cert.FoxpreKernelIdeal.main_arg7)
          ∧ r.2.mem ((c.tc : Thread Cert.FoxpreKernelIdeal.nD Cert.FoxpreKernelIdeal.τ).loc Cert.FoxpreKernelIdeal.main_arg8) = m ((c.tc : Thread Cert.FoxpreKernelIdeal.nD Cert.FoxpreKernelIdeal.τ).loc Cert.FoxpreKernelIdeal.main_arg8)
          ∧ r.2.mem ((c.tc : Thread Cert.FoxpreKernelIdeal.nD Cert.FoxpreKernelIdeal.τ).loc Cert.FoxpreKernelIdeal.main_arg9) = m ((c.tc : Thread Cert.FoxpreKernelIdeal.nD Cert.FoxpreKernelIdeal.τ).loc Cert.FoxpreKernelIdeal.main_arg9))
      ∧ θ_run (Cert.FoxpreReferenceIdeal.defs (F := Ideal)) (onTc (τ := Cert.FoxpreReferenceIdeal.τ) (Cert.FoxpreReferenceIdeal.main (F := Ideal))) ⟨m', fun _ => 0, g'⟩ (fun r => ∀ c : Dev Cert.FoxpreReferenceIdeal.nD,
          r.2.mem ((c.tc : Thread Cert.FoxpreReferenceIdeal.nD Cert.FoxpreReferenceIdeal.τ).loc Cert.FoxpreReferenceIdeal.main_v109) = v0 c
          ∧ r.2.mem ((c.tc : Thread Cert.FoxpreReferenceIdeal.nD Cert.FoxpreReferenceIdeal.τ).loc Cert.FoxpreReferenceIdeal.main_v110) = v1 c
          ∧ r.2.mem ((c.tc : Thread Cert.FoxpreReferenceIdeal.nD Cert.FoxpreReferenceIdeal.τ).loc Cert.FoxpreReferenceIdeal.main_v102) = v2 c
          ∧ r.2.mem ((c.tc : Thread Cert.FoxpreReferenceIdeal.nD Cert.FoxpreReferenceIdeal.τ).loc Cert.FoxpreReferenceIdeal.main_v79) = v3 c
          ∧ r.2.mem ((c.tc : Thread Cert.FoxpreReferenceIdeal.nD Cert.FoxpreReferenceIdeal.τ).loc Cert.FoxpreReferenceIdeal.main_v107) = v4 c
          ∧ r.2.mem ((c.tc : Thread Cert.FoxpreReferenceIdeal.nD Cert.FoxpreReferenceIdeal.τ).loc Cert.FoxpreReferenceIdeal.main_arg0) = m' ((c.tc : Thread Cert.FoxpreReferenceIdeal.nD Cert.FoxpreReferenceIdeal.τ).loc Cert.FoxpreReferenceIdeal.main_arg0)
          ∧ r.2.mem ((c.tc : Thread Cert.FoxpreReferenceIdeal.nD Cert.FoxpreReferenceIdeal.τ).loc Cert.FoxpreReferenceIdeal.main_arg1) = m' ((c.tc : Thread Cert.FoxpreReferenceIdeal.nD Cert.FoxpreReferenceIdeal.τ).loc Cert.FoxpreReferenceIdeal.main_arg1)
          ∧ r.2.mem ((c.tc : Thread Cert.FoxpreReferenceIdeal.nD Cert.FoxpreReferenceIdeal.τ).loc Cert.FoxpreReferenceIdeal.main_arg2) = m' ((c.tc : Thread Cert.FoxpreReferenceIdeal.nD Cert.FoxpreReferenceIdeal.τ).loc Cert.FoxpreReferenceIdeal.main_arg2)
          ∧ r.2.mem ((c.tc : Thread Cert.FoxpreReferenceIdeal.nD Cert.FoxpreReferenceIdeal.τ).loc Cert.FoxpreReferenceIdeal.main_arg3) = m' ((c.tc : Thread Cert.FoxpreReferenceIdeal.nD Cert.FoxpreReferenceIdeal.τ).loc Cert.FoxpreReferenceIdeal.main_arg3)
          ∧ r.2.mem ((c.tc : Thread Cert.FoxpreReferenceIdeal.nD Cert.FoxpreReferenceIdeal.τ).loc Cert.FoxpreReferenceIdeal.main_arg4) = m' ((c.tc : Thread Cert.FoxpreReferenceIdeal.nD Cert.FoxpreReferenceIdeal.τ).loc Cert.FoxpreReferenceIdeal.main_arg4)
          ∧ r.2.mem ((c.tc : Thread Cert.FoxpreReferenceIdeal.nD Cert.FoxpreReferenceIdeal.τ).loc Cert.FoxpreReferenceIdeal.main_arg5) = m' ((c.tc : Thread Cert.FoxpreReferenceIdeal.nD Cert.FoxpreReferenceIdeal.τ).loc Cert.FoxpreReferenceIdeal.main_arg5)
          ∧ r.2.mem ((c.tc : Thread Cert.FoxpreReferenceIdeal.nD Cert.FoxpreReferenceIdeal.τ).loc Cert.FoxpreReferenceIdeal.main_arg6) = m' ((c.tc : Thread Cert.FoxpreReferenceIdeal.nD Cert.FoxpreReferenceIdeal.τ).loc Cert.FoxpreReferenceIdeal.main_arg6)
          ∧ r.2.mem ((c.tc : Thread Cert.FoxpreReferenceIdeal.nD Cert.FoxpreReferenceIdeal.τ).loc Cert.FoxpreReferenceIdeal.main_arg7) = m' ((c.tc : Thread Cert.FoxpreReferenceIdeal.nD Cert.FoxpreReferenceIdeal.τ).loc Cert.FoxpreReferenceIdeal.main_arg7)
          ∧ r.2.mem ((c.tc : Thread Cert.FoxpreReferenceIdeal.nD Cert.FoxpreReferenceIdeal.τ).loc Cert.FoxpreReferenceIdeal.main_arg8) = m' ((c.tc : Thread Cert.FoxpreReferenceIdeal.nD Cert.FoxpreReferenceIdeal.τ).loc Cert.FoxpreReferenceIdeal.main_arg8)
          ∧ r.2.mem ((c.tc : Thread Cert.FoxpreReferenceIdeal.nD Cert.FoxpreReferenceIdeal.τ).loc Cert.FoxpreReferenceIdeal.main_arg9) = m' ((c.tc : Thread Cert.FoxpreReferenceIdeal.nD Cert.FoxpreReferenceIdeal.τ).loc Cert.FoxpreReferenceIdeal.main_arg9))

def preserves_PostKernel_PostKernelIdeal : Prop :=
  True

def algebraic_PostKernelIdeal_PostReferenceIdeal_pre_post_finite [hPostKernelIdeal : Cert.PostKernelIdeal.Facts] [hPostReferenceIdeal : Cert.PostReferenceIdeal.Facts] [hPre_post_finite : Cert.Pre_post_finite.Facts] : Prop :=
  ∀ (m : (ℓ : Loc Cert.PostKernelIdeal.nD Cert.PostKernelIdeal.τ Cert.PostKernelIdeal.sig) → Buf (Elt Ideal) ℓ) (g : Dev Cert.PostKernelIdeal.nD → PrngReg)
    (m' : (ℓ : Loc Cert.PostReferenceIdeal.nD Cert.PostReferenceIdeal.τ Cert.PostReferenceIdeal.sig) → Buf (Elt Ideal) ℓ) (g' : Dev Cert.PostReferenceIdeal.nD → PrngReg), Pre_PostKernelIdeal_post_finite m →
    (∀ c : Dev Cert.PostKernelIdeal.nD,
      m' ((c.tc : Thread Cert.PostReferenceIdeal.nD Cert.PostReferenceIdeal.τ).loc Cert.PostReferenceIdeal.main_arg0) = m ((c.tc : Thread Cert.PostKernelIdeal.nD Cert.PostKernelIdeal.τ).loc Cert.PostKernelIdeal.main_arg0)
      ∧ m' ((c.tc : Thread Cert.PostReferenceIdeal.nD Cert.PostReferenceIdeal.τ).loc Cert.PostReferenceIdeal.main_arg1) = m ((c.tc : Thread Cert.PostKernelIdeal.nD Cert.PostKernelIdeal.τ).loc Cert.PostKernelIdeal.main_arg1)
      ∧ m' ((c.tc : Thread Cert.PostReferenceIdeal.nD Cert.PostReferenceIdeal.τ).loc Cert.PostReferenceIdeal.main_arg2) = m ((c.tc : Thread Cert.PostKernelIdeal.nD Cert.PostKernelIdeal.τ).loc Cert.PostKernelIdeal.main_arg2)
      ∧ m' ((c.tc : Thread Cert.PostReferenceIdeal.nD Cert.PostReferenceIdeal.τ).loc Cert.PostReferenceIdeal.main_arg3) = m ((c.tc : Thread Cert.PostKernelIdeal.nD Cert.PostKernelIdeal.τ).loc Cert.PostKernelIdeal.main_arg3)
      ∧ m' ((c.tc : Thread Cert.PostReferenceIdeal.nD Cert.PostReferenceIdeal.τ).loc Cert.PostReferenceIdeal.main_arg4) = m ((c.tc : Thread Cert.PostKernelIdeal.nD Cert.PostKernelIdeal.τ).loc Cert.PostKernelIdeal.main_arg4)
      ∧ m' ((c.tc : Thread Cert.PostReferenceIdeal.nD Cert.PostReferenceIdeal.τ).loc Cert.PostReferenceIdeal.main_arg5) = m ((c.tc : Thread Cert.PostKernelIdeal.nD Cert.PostKernelIdeal.τ).loc Cert.PostKernelIdeal.main_arg5)
      ∧ m' ((c.tc : Thread Cert.PostReferenceIdeal.nD Cert.PostReferenceIdeal.τ).loc Cert.PostReferenceIdeal.main_arg6) = m ((c.tc : Thread Cert.PostKernelIdeal.nD Cert.PostKernelIdeal.τ).loc Cert.PostKernelIdeal.main_arg6)
      ∧ m' ((c.tc : Thread Cert.PostReferenceIdeal.nD Cert.PostReferenceIdeal.τ).loc Cert.PostReferenceIdeal.main_arg7) = m ((c.tc : Thread Cert.PostKernelIdeal.nD Cert.PostKernelIdeal.τ).loc Cert.PostKernelIdeal.main_arg7)
      ∧ m' ((c.tc : Thread Cert.PostReferenceIdeal.nD Cert.PostReferenceIdeal.τ).loc Cert.PostReferenceIdeal.main_arg8) = m ((c.tc : Thread Cert.PostKernelIdeal.nD Cert.PostKernelIdeal.τ).loc Cert.PostKernelIdeal.main_arg8)) →
    ∃ (v0 : (c : Dev Cert.PostKernelIdeal.nD) → Buf (Elt Ideal) ((c.tc : Thread Cert.PostKernelIdeal.nD Cert.PostKernelIdeal.τ).loc Cert.PostKernelIdeal.main_v1_0)) (v1 : (c : Dev Cert.PostKernelIdeal.nD) → Buf (Elt Ideal) ((c.tc : Thread Cert.PostKernelIdeal.nD Cert.PostKernelIdeal.τ).loc Cert.PostKernelIdeal.main_v1_1)) (v2 : (c : Dev Cert.PostKernelIdeal.nD) → Buf (Elt Ideal) ((c.tc : Thread Cert.PostKernelIdeal.nD Cert.PostKernelIdeal.τ).loc Cert.PostKernelIdeal.main_v1_2)) (v3 : (c : Dev Cert.PostKernelIdeal.nD) → Buf (Elt Ideal) ((c.tc : Thread Cert.PostKernelIdeal.nD Cert.PostKernelIdeal.τ).loc Cert.PostKernelIdeal.main_v1_3)) (v4 : (c : Dev Cert.PostKernelIdeal.nD) → Buf (Elt Ideal) ((c.tc : Thread Cert.PostKernelIdeal.nD Cert.PostKernelIdeal.τ).loc Cert.PostKernelIdeal.main_v1_4)) (v5 : (c : Dev Cert.PostKernelIdeal.nD) → Buf (Elt Ideal) ((c.tc : Thread Cert.PostKernelIdeal.nD Cert.PostKernelIdeal.τ).loc Cert.PostKernelIdeal.main_v1_5)) (v6 : (c : Dev Cert.PostKernelIdeal.nD) → Buf (Elt Ideal) ((c.tc : Thread Cert.PostKernelIdeal.nD Cert.PostKernelIdeal.τ).loc Cert.PostKernelIdeal.main_v1_6)) (v7 : (c : Dev Cert.PostKernelIdeal.nD) → Buf (Elt Ideal) ((c.tc : Thread Cert.PostKernelIdeal.nD Cert.PostKernelIdeal.τ).loc Cert.PostKernelIdeal.main_v1_7)),
      θ_run (Cert.PostKernelIdeal.defs (F := Ideal)) (onTc (τ := Cert.PostKernelIdeal.τ) (Cert.PostKernelIdeal.main (F := Ideal))) ⟨m, fun _ => 0, g⟩ (fun r => ∀ c : Dev Cert.PostKernelIdeal.nD,
          r.2.mem ((c.tc : Thread Cert.PostKernelIdeal.nD Cert.PostKernelIdeal.τ).loc Cert.PostKernelIdeal.main_v1_0) = v0 c
          ∧ r.2.mem ((c.tc : Thread Cert.PostKernelIdeal.nD Cert.PostKernelIdeal.τ).loc Cert.PostKernelIdeal.main_v1_1) = v1 c
          ∧ r.2.mem ((c.tc : Thread Cert.PostKernelIdeal.nD Cert.PostKernelIdeal.τ).loc Cert.PostKernelIdeal.main_v1_2) = v2 c
          ∧ r.2.mem ((c.tc : Thread Cert.PostKernelIdeal.nD Cert.PostKernelIdeal.τ).loc Cert.PostKernelIdeal.main_v1_3) = v3 c
          ∧ r.2.mem ((c.tc : Thread Cert.PostKernelIdeal.nD Cert.PostKernelIdeal.τ).loc Cert.PostKernelIdeal.main_v1_4) = v4 c
          ∧ r.2.mem ((c.tc : Thread Cert.PostKernelIdeal.nD Cert.PostKernelIdeal.τ).loc Cert.PostKernelIdeal.main_v1_5) = v5 c
          ∧ r.2.mem ((c.tc : Thread Cert.PostKernelIdeal.nD Cert.PostKernelIdeal.τ).loc Cert.PostKernelIdeal.main_v1_6) = v6 c
          ∧ r.2.mem ((c.tc : Thread Cert.PostKernelIdeal.nD Cert.PostKernelIdeal.τ).loc Cert.PostKernelIdeal.main_v1_7) = v7 c
          ∧ r.2.mem ((c.tc : Thread Cert.PostKernelIdeal.nD Cert.PostKernelIdeal.τ).loc Cert.PostKernelIdeal.main_arg0) = m ((c.tc : Thread Cert.PostKernelIdeal.nD Cert.PostKernelIdeal.τ).loc Cert.PostKernelIdeal.main_arg0)
          ∧ r.2.mem ((c.tc : Thread Cert.PostKernelIdeal.nD Cert.PostKernelIdeal.τ).loc Cert.PostKernelIdeal.main_arg1) = m ((c.tc : Thread Cert.PostKernelIdeal.nD Cert.PostKernelIdeal.τ).loc Cert.PostKernelIdeal.main_arg1)
          ∧ r.2.mem ((c.tc : Thread Cert.PostKernelIdeal.nD Cert.PostKernelIdeal.τ).loc Cert.PostKernelIdeal.main_arg2) = m ((c.tc : Thread Cert.PostKernelIdeal.nD Cert.PostKernelIdeal.τ).loc Cert.PostKernelIdeal.main_arg2)
          ∧ r.2.mem ((c.tc : Thread Cert.PostKernelIdeal.nD Cert.PostKernelIdeal.τ).loc Cert.PostKernelIdeal.main_arg3) = m ((c.tc : Thread Cert.PostKernelIdeal.nD Cert.PostKernelIdeal.τ).loc Cert.PostKernelIdeal.main_arg3)
          ∧ r.2.mem ((c.tc : Thread Cert.PostKernelIdeal.nD Cert.PostKernelIdeal.τ).loc Cert.PostKernelIdeal.main_arg4) = m ((c.tc : Thread Cert.PostKernelIdeal.nD Cert.PostKernelIdeal.τ).loc Cert.PostKernelIdeal.main_arg4)
          ∧ r.2.mem ((c.tc : Thread Cert.PostKernelIdeal.nD Cert.PostKernelIdeal.τ).loc Cert.PostKernelIdeal.main_arg5) = m ((c.tc : Thread Cert.PostKernelIdeal.nD Cert.PostKernelIdeal.τ).loc Cert.PostKernelIdeal.main_arg5)
          ∧ r.2.mem ((c.tc : Thread Cert.PostKernelIdeal.nD Cert.PostKernelIdeal.τ).loc Cert.PostKernelIdeal.main_arg6) = m ((c.tc : Thread Cert.PostKernelIdeal.nD Cert.PostKernelIdeal.τ).loc Cert.PostKernelIdeal.main_arg6)
          ∧ r.2.mem ((c.tc : Thread Cert.PostKernelIdeal.nD Cert.PostKernelIdeal.τ).loc Cert.PostKernelIdeal.main_arg7) = m ((c.tc : Thread Cert.PostKernelIdeal.nD Cert.PostKernelIdeal.τ).loc Cert.PostKernelIdeal.main_arg7)
          ∧ r.2.mem ((c.tc : Thread Cert.PostKernelIdeal.nD Cert.PostKernelIdeal.τ).loc Cert.PostKernelIdeal.main_arg8) = m ((c.tc : Thread Cert.PostKernelIdeal.nD Cert.PostKernelIdeal.τ).loc Cert.PostKernelIdeal.main_arg8))
      ∧ θ_run (Cert.PostReferenceIdeal.defs (F := Ideal)) (onTc (τ := Cert.PostReferenceIdeal.τ) (Cert.PostReferenceIdeal.main (F := Ideal))) ⟨m', fun _ => 0, g'⟩ (fun r => ∀ c : Dev Cert.PostReferenceIdeal.nD,
          r.2.mem ((c.tc : Thread Cert.PostReferenceIdeal.nD Cert.PostReferenceIdeal.τ).loc Cert.PostReferenceIdeal.main_v104) = v0 c
          ∧ r.2.mem ((c.tc : Thread Cert.PostReferenceIdeal.nD Cert.PostReferenceIdeal.τ).loc Cert.PostReferenceIdeal.main_v103) = v1 c
          ∧ r.2.mem ((c.tc : Thread Cert.PostReferenceIdeal.nD Cert.PostReferenceIdeal.τ).loc Cert.PostReferenceIdeal.main_v102) = v2 c
          ∧ r.2.mem ((c.tc : Thread Cert.PostReferenceIdeal.nD Cert.PostReferenceIdeal.τ).loc Cert.PostReferenceIdeal.main_v101) = v3 c
          ∧ r.2.mem ((c.tc : Thread Cert.PostReferenceIdeal.nD Cert.PostReferenceIdeal.τ).loc Cert.PostReferenceIdeal.main_v49) = v4 c
          ∧ r.2.mem ((c.tc : Thread Cert.PostReferenceIdeal.nD Cert.PostReferenceIdeal.τ).loc Cert.PostReferenceIdeal.main_v76) = v5 c
          ∧ r.2.mem ((c.tc : Thread Cert.PostReferenceIdeal.nD Cert.PostReferenceIdeal.τ).loc Cert.PostReferenceIdeal.main_v69) = v6 c
          ∧ r.2.mem ((c.tc : Thread Cert.PostReferenceIdeal.nD Cert.PostReferenceIdeal.τ).loc Cert.PostReferenceIdeal.main_v105) = v7 c
          ∧ r.2.mem ((c.tc : Thread Cert.PostReferenceIdeal.nD Cert.PostReferenceIdeal.τ).loc Cert.PostReferenceIdeal.main_arg0) = m' ((c.tc : Thread Cert.PostReferenceIdeal.nD Cert.PostReferenceIdeal.τ).loc Cert.PostReferenceIdeal.main_arg0)
          ∧ r.2.mem ((c.tc : Thread Cert.PostReferenceIdeal.nD Cert.PostReferenceIdeal.τ).loc Cert.PostReferenceIdeal.main_arg1) = m' ((c.tc : Thread Cert.PostReferenceIdeal.nD Cert.PostReferenceIdeal.τ).loc Cert.PostReferenceIdeal.main_arg1)
          ∧ r.2.mem ((c.tc : Thread Cert.PostReferenceIdeal.nD Cert.PostReferenceIdeal.τ).loc Cert.PostReferenceIdeal.main_arg2) = m' ((c.tc : Thread Cert.PostReferenceIdeal.nD Cert.PostReferenceIdeal.τ).loc Cert.PostReferenceIdeal.main_arg2)
          ∧ r.2.mem ((c.tc : Thread Cert.PostReferenceIdeal.nD Cert.PostReferenceIdeal.τ).loc Cert.PostReferenceIdeal.main_arg3) = m' ((c.tc : Thread Cert.PostReferenceIdeal.nD Cert.PostReferenceIdeal.τ).loc Cert.PostReferenceIdeal.main_arg3)
          ∧ r.2.mem ((c.tc : Thread Cert.PostReferenceIdeal.nD Cert.PostReferenceIdeal.τ).loc Cert.PostReferenceIdeal.main_arg4) = m' ((c.tc : Thread Cert.PostReferenceIdeal.nD Cert.PostReferenceIdeal.τ).loc Cert.PostReferenceIdeal.main_arg4)
          ∧ r.2.mem ((c.tc : Thread Cert.PostReferenceIdeal.nD Cert.PostReferenceIdeal.τ).loc Cert.PostReferenceIdeal.main_arg5) = m' ((c.tc : Thread Cert.PostReferenceIdeal.nD Cert.PostReferenceIdeal.τ).loc Cert.PostReferenceIdeal.main_arg5)
          ∧ r.2.mem ((c.tc : Thread Cert.PostReferenceIdeal.nD Cert.PostReferenceIdeal.τ).loc Cert.PostReferenceIdeal.main_arg6) = m' ((c.tc : Thread Cert.PostReferenceIdeal.nD Cert.PostReferenceIdeal.τ).loc Cert.PostReferenceIdeal.main_arg6)
          ∧ r.2.mem ((c.tc : Thread Cert.PostReferenceIdeal.nD Cert.PostReferenceIdeal.τ).loc Cert.PostReferenceIdeal.main_arg7) = m' ((c.tc : Thread Cert.PostReferenceIdeal.nD Cert.PostReferenceIdeal.τ).loc Cert.PostReferenceIdeal.main_arg7)
          ∧ r.2.mem ((c.tc : Thread Cert.PostReferenceIdeal.nD Cert.PostReferenceIdeal.τ).loc Cert.PostReferenceIdeal.main_arg8) = m' ((c.tc : Thread Cert.PostReferenceIdeal.nD Cert.PostReferenceIdeal.τ).loc Cert.PostReferenceIdeal.main_arg8))

def preserves_AttnfwdKernel_AttnfwdKernelIdeal : Prop :=
  IdealRules.named_const.Statement Cert.AttnfwdKernelIdeal.κ "mask" .f32 0xF149F2CA#32 ⊥

def algebraic_AttnfwdKernelIdeal_AttnfwdReferenceIdeal_pre_attnf_finite [hAttnfwdKernelIdeal : Cert.AttnfwdKernelIdeal.Facts] [hAttnfwdReferenceIdeal : Cert.AttnfwdReferenceIdeal.Facts] [hPre_attnf_finite : Cert.Pre_attnf_finite.Facts] : Prop :=
  ∀ (m : (ℓ : Loc Cert.AttnfwdKernelIdeal.nD Cert.AttnfwdKernelIdeal.τ Cert.AttnfwdKernelIdeal.sig) → Buf (Elt Ideal) ℓ) (g : Dev Cert.AttnfwdKernelIdeal.nD → PrngReg)
    (m' : (ℓ : Loc Cert.AttnfwdReferenceIdeal.nD Cert.AttnfwdReferenceIdeal.τ Cert.AttnfwdReferenceIdeal.sig) → Buf (Elt Ideal) ℓ) (g' : Dev Cert.AttnfwdReferenceIdeal.nD → PrngReg), Pre_AttnfwdKernelIdeal_attnf_finite m →
    (∀ c : Dev Cert.AttnfwdKernelIdeal.nD,
      m' ((c.tc : Thread Cert.AttnfwdReferenceIdeal.nD Cert.AttnfwdReferenceIdeal.τ).loc Cert.AttnfwdReferenceIdeal.main_arg0) = m ((c.tc : Thread Cert.AttnfwdKernelIdeal.nD Cert.AttnfwdKernelIdeal.τ).loc Cert.AttnfwdKernelIdeal.main_arg0)
      ∧ m' ((c.tc : Thread Cert.AttnfwdReferenceIdeal.nD Cert.AttnfwdReferenceIdeal.τ).loc Cert.AttnfwdReferenceIdeal.main_arg1) = m ((c.tc : Thread Cert.AttnfwdKernelIdeal.nD Cert.AttnfwdKernelIdeal.τ).loc Cert.AttnfwdKernelIdeal.main_arg1)
      ∧ m' ((c.tc : Thread Cert.AttnfwdReferenceIdeal.nD Cert.AttnfwdReferenceIdeal.τ).loc Cert.AttnfwdReferenceIdeal.main_arg2) = m ((c.tc : Thread Cert.AttnfwdKernelIdeal.nD Cert.AttnfwdKernelIdeal.τ).loc Cert.AttnfwdKernelIdeal.main_arg2)
      ∧ m' ((c.tc : Thread Cert.AttnfwdReferenceIdeal.nD Cert.AttnfwdReferenceIdeal.τ).loc Cert.AttnfwdReferenceIdeal.main_arg3) = m ((c.tc : Thread Cert.AttnfwdKernelIdeal.nD Cert.AttnfwdKernelIdeal.τ).loc Cert.AttnfwdKernelIdeal.main_arg3)) →
    ∃ (v0 : (c : Dev Cert.AttnfwdKernelIdeal.nD) → Buf (Elt Ideal) ((c.tc : Thread Cert.AttnfwdKernelIdeal.nD Cert.AttnfwdKernelIdeal.τ).loc Cert.AttnfwdKernelIdeal.main_v2_0)) (v1 : (c : Dev Cert.AttnfwdKernelIdeal.nD) → Buf (Elt Ideal) ((c.tc : Thread Cert.AttnfwdKernelIdeal.nD Cert.AttnfwdKernelIdeal.τ).loc Cert.AttnfwdKernelIdeal.main_v2_1)),
      θ_run (Cert.AttnfwdKernelIdeal.defs (F := Ideal)) (onTc (τ := Cert.AttnfwdKernelIdeal.τ) (Cert.AttnfwdKernelIdeal.main (F := Ideal))) ⟨m, fun _ => 0, g⟩ (fun r => ∀ c : Dev Cert.AttnfwdKernelIdeal.nD,
          r.2.mem ((c.tc : Thread Cert.AttnfwdKernelIdeal.nD Cert.AttnfwdKernelIdeal.τ).loc Cert.AttnfwdKernelIdeal.main_v2_0) = v0 c
          ∧ r.2.mem ((c.tc : Thread Cert.AttnfwdKernelIdeal.nD Cert.AttnfwdKernelIdeal.τ).loc Cert.AttnfwdKernelIdeal.main_v2_1) = v1 c
          ∧ r.2.mem ((c.tc : Thread Cert.AttnfwdKernelIdeal.nD Cert.AttnfwdKernelIdeal.τ).loc Cert.AttnfwdKernelIdeal.main_arg0) = m ((c.tc : Thread Cert.AttnfwdKernelIdeal.nD Cert.AttnfwdKernelIdeal.τ).loc Cert.AttnfwdKernelIdeal.main_arg0)
          ∧ r.2.mem ((c.tc : Thread Cert.AttnfwdKernelIdeal.nD Cert.AttnfwdKernelIdeal.τ).loc Cert.AttnfwdKernelIdeal.main_arg1) = m ((c.tc : Thread Cert.AttnfwdKernelIdeal.nD Cert.AttnfwdKernelIdeal.τ).loc Cert.AttnfwdKernelIdeal.main_arg1)
          ∧ r.2.mem ((c.tc : Thread Cert.AttnfwdKernelIdeal.nD Cert.AttnfwdKernelIdeal.τ).loc Cert.AttnfwdKernelIdeal.main_arg2) = m ((c.tc : Thread Cert.AttnfwdKernelIdeal.nD Cert.AttnfwdKernelIdeal.τ).loc Cert.AttnfwdKernelIdeal.main_arg2)
          ∧ r.2.mem ((c.tc : Thread Cert.AttnfwdKernelIdeal.nD Cert.AttnfwdKernelIdeal.τ).loc Cert.AttnfwdKernelIdeal.main_arg3) = m ((c.tc : Thread Cert.AttnfwdKernelIdeal.nD Cert.AttnfwdKernelIdeal.τ).loc Cert.AttnfwdKernelIdeal.main_arg3))
      ∧ θ_run (Cert.AttnfwdReferenceIdeal.defs (F := Ideal)) (onTc (τ := Cert.AttnfwdReferenceIdeal.τ) (Cert.AttnfwdReferenceIdeal.main (F := Ideal))) ⟨m', fun _ => 0, g'⟩ (fun r => ∀ c : Dev Cert.AttnfwdReferenceIdeal.nD,
          r.2.mem ((c.tc : Thread Cert.AttnfwdReferenceIdeal.nD Cert.AttnfwdReferenceIdeal.τ).loc Cert.AttnfwdReferenceIdeal.main_v28) = v0 c
          ∧ r.2.mem ((c.tc : Thread Cert.AttnfwdReferenceIdeal.nD Cert.AttnfwdReferenceIdeal.τ).loc Cert.AttnfwdReferenceIdeal.main_v32) = v1 c
          ∧ r.2.mem ((c.tc : Thread Cert.AttnfwdReferenceIdeal.nD Cert.AttnfwdReferenceIdeal.τ).loc Cert.AttnfwdReferenceIdeal.main_arg0) = m' ((c.tc : Thread Cert.AttnfwdReferenceIdeal.nD Cert.AttnfwdReferenceIdeal.τ).loc Cert.AttnfwdReferenceIdeal.main_arg0)
          ∧ r.2.mem ((c.tc : Thread Cert.AttnfwdReferenceIdeal.nD Cert.AttnfwdReferenceIdeal.τ).loc Cert.AttnfwdReferenceIdeal.main_arg1) = m' ((c.tc : Thread Cert.AttnfwdReferenceIdeal.nD Cert.AttnfwdReferenceIdeal.τ).loc Cert.AttnfwdReferenceIdeal.main_arg1)
          ∧ r.2.mem ((c.tc : Thread Cert.AttnfwdReferenceIdeal.nD Cert.AttnfwdReferenceIdeal.τ).loc Cert.AttnfwdReferenceIdeal.main_arg2) = m' ((c.tc : Thread Cert.AttnfwdReferenceIdeal.nD Cert.AttnfwdReferenceIdeal.τ).loc Cert.AttnfwdReferenceIdeal.main_arg2)
          ∧ r.2.mem ((c.tc : Thread Cert.AttnfwdReferenceIdeal.nD Cert.AttnfwdReferenceIdeal.τ).loc Cert.AttnfwdReferenceIdeal.main_arg3) = m' ((c.tc : Thread Cert.AttnfwdReferenceIdeal.nD Cert.AttnfwdReferenceIdeal.τ).loc Cert.AttnfwdReferenceIdeal.main_arg3))

def preserves_PostfwdKernel_PostfwdKernelIdeal : Prop :=
  True

def algebraic_PostfwdKernelIdeal_PostfwdReferenceIdeal_pre_postf_finite [hPostfwdKernelIdeal : Cert.PostfwdKernelIdeal.Facts] [hPostfwdReferenceIdeal : Cert.PostfwdReferenceIdeal.Facts] [hPre_postf_finite : Cert.Pre_postf_finite.Facts] : Prop :=
  ∀ (m : (ℓ : Loc Cert.PostfwdKernelIdeal.nD Cert.PostfwdKernelIdeal.τ Cert.PostfwdKernelIdeal.sig) → Buf (Elt Ideal) ℓ) (g : Dev Cert.PostfwdKernelIdeal.nD → PrngReg)
    (m' : (ℓ : Loc Cert.PostfwdReferenceIdeal.nD Cert.PostfwdReferenceIdeal.τ Cert.PostfwdReferenceIdeal.sig) → Buf (Elt Ideal) ℓ) (g' : Dev Cert.PostfwdReferenceIdeal.nD → PrngReg), Pre_PostfwdKernelIdeal_postf_finite m →
    (∀ c : Dev Cert.PostfwdKernelIdeal.nD,
      m' ((c.tc : Thread Cert.PostfwdReferenceIdeal.nD Cert.PostfwdReferenceIdeal.τ).loc Cert.PostfwdReferenceIdeal.main_arg0) = m ((c.tc : Thread Cert.PostfwdKernelIdeal.nD Cert.PostfwdKernelIdeal.τ).loc Cert.PostfwdKernelIdeal.main_arg0)
      ∧ m' ((c.tc : Thread Cert.PostfwdReferenceIdeal.nD Cert.PostfwdReferenceIdeal.τ).loc Cert.PostfwdReferenceIdeal.main_arg1) = m ((c.tc : Thread Cert.PostfwdKernelIdeal.nD Cert.PostfwdKernelIdeal.τ).loc Cert.PostfwdKernelIdeal.main_arg1)
      ∧ m' ((c.tc : Thread Cert.PostfwdReferenceIdeal.nD Cert.PostfwdReferenceIdeal.τ).loc Cert.PostfwdReferenceIdeal.main_arg2) = m ((c.tc : Thread Cert.PostfwdKernelIdeal.nD Cert.PostfwdKernelIdeal.τ).loc Cert.PostfwdKernelIdeal.main_arg2)
      ∧ m' ((c.tc : Thread Cert.PostfwdReferenceIdeal.nD Cert.PostfwdReferenceIdeal.τ).loc Cert.PostfwdReferenceIdeal.main_arg3) = m ((c.tc : Thread Cert.PostfwdKernelIdeal.nD Cert.PostfwdKernelIdeal.τ).loc Cert.PostfwdKernelIdeal.main_arg3)
      ∧ m' ((c.tc : Thread Cert.PostfwdReferenceIdeal.nD Cert.PostfwdReferenceIdeal.τ).loc Cert.PostfwdReferenceIdeal.main_arg4) = m ((c.tc : Thread Cert.PostfwdKernelIdeal.nD Cert.PostfwdKernelIdeal.τ).loc Cert.PostfwdKernelIdeal.main_arg4)
      ∧ m' ((c.tc : Thread Cert.PostfwdReferenceIdeal.nD Cert.PostfwdReferenceIdeal.τ).loc Cert.PostfwdReferenceIdeal.main_arg5) = m ((c.tc : Thread Cert.PostfwdKernelIdeal.nD Cert.PostfwdKernelIdeal.τ).loc Cert.PostfwdKernelIdeal.main_arg5)
      ∧ m' ((c.tc : Thread Cert.PostfwdReferenceIdeal.nD Cert.PostfwdReferenceIdeal.τ).loc Cert.PostfwdReferenceIdeal.main_arg6) = m ((c.tc : Thread Cert.PostfwdKernelIdeal.nD Cert.PostfwdKernelIdeal.τ).loc Cert.PostfwdKernelIdeal.main_arg6)
      ∧ m' ((c.tc : Thread Cert.PostfwdReferenceIdeal.nD Cert.PostfwdReferenceIdeal.τ).loc Cert.PostfwdReferenceIdeal.main_arg7) = m ((c.tc : Thread Cert.PostfwdKernelIdeal.nD Cert.PostfwdKernelIdeal.τ).loc Cert.PostfwdKernelIdeal.main_arg7)) →
    ∃ (v0 : (c : Dev Cert.PostfwdKernelIdeal.nD) → Buf (Elt Ideal) ((c.tc : Thread Cert.PostfwdKernelIdeal.nD Cert.PostfwdKernelIdeal.τ).loc Cert.PostfwdKernelIdeal.main_v1)),
      θ_run (Cert.PostfwdKernelIdeal.defs (F := Ideal)) (onTc (τ := Cert.PostfwdKernelIdeal.τ) (Cert.PostfwdKernelIdeal.main (F := Ideal))) ⟨m, fun _ => 0, g⟩ (fun r => ∀ c : Dev Cert.PostfwdKernelIdeal.nD,
          r.2.mem ((c.tc : Thread Cert.PostfwdKernelIdeal.nD Cert.PostfwdKernelIdeal.τ).loc Cert.PostfwdKernelIdeal.main_v1) = v0 c
          ∧ r.2.mem ((c.tc : Thread Cert.PostfwdKernelIdeal.nD Cert.PostfwdKernelIdeal.τ).loc Cert.PostfwdKernelIdeal.main_arg0) = m ((c.tc : Thread Cert.PostfwdKernelIdeal.nD Cert.PostfwdKernelIdeal.τ).loc Cert.PostfwdKernelIdeal.main_arg0)
          ∧ r.2.mem ((c.tc : Thread Cert.PostfwdKernelIdeal.nD Cert.PostfwdKernelIdeal.τ).loc Cert.PostfwdKernelIdeal.main_arg1) = m ((c.tc : Thread Cert.PostfwdKernelIdeal.nD Cert.PostfwdKernelIdeal.τ).loc Cert.PostfwdKernelIdeal.main_arg1)
          ∧ r.2.mem ((c.tc : Thread Cert.PostfwdKernelIdeal.nD Cert.PostfwdKernelIdeal.τ).loc Cert.PostfwdKernelIdeal.main_arg2) = m ((c.tc : Thread Cert.PostfwdKernelIdeal.nD Cert.PostfwdKernelIdeal.τ).loc Cert.PostfwdKernelIdeal.main_arg2)
          ∧ r.2.mem ((c.tc : Thread Cert.PostfwdKernelIdeal.nD Cert.PostfwdKernelIdeal.τ).loc Cert.PostfwdKernelIdeal.main_arg3) = m ((c.tc : Thread Cert.PostfwdKernelIdeal.nD Cert.PostfwdKernelIdeal.τ).loc Cert.PostfwdKernelIdeal.main_arg3)
          ∧ r.2.mem ((c.tc : Thread Cert.PostfwdKernelIdeal.nD Cert.PostfwdKernelIdeal.τ).loc Cert.PostfwdKernelIdeal.main_arg4) = m ((c.tc : Thread Cert.PostfwdKernelIdeal.nD Cert.PostfwdKernelIdeal.τ).loc Cert.PostfwdKernelIdeal.main_arg4)
          ∧ r.2.mem ((c.tc : Thread Cert.PostfwdKernelIdeal.nD Cert.PostfwdKernelIdeal.τ).loc Cert.PostfwdKernelIdeal.main_arg5) = m ((c.tc : Thread Cert.PostfwdKernelIdeal.nD Cert.PostfwdKernelIdeal.τ).loc Cert.PostfwdKernelIdeal.main_arg5)
          ∧ r.2.mem ((c.tc : Thread Cert.PostfwdKernelIdeal.nD Cert.PostfwdKernelIdeal.τ).loc Cert.PostfwdKernelIdeal.main_arg6) = m ((c.tc : Thread Cert.PostfwdKernelIdeal.nD Cert.PostfwdKernelIdeal.τ).loc Cert.PostfwdKernelIdeal.main_arg6)
          ∧ r.2.mem ((c.tc : Thread Cert.PostfwdKernelIdeal.nD Cert.PostfwdKernelIdeal.τ).loc Cert.PostfwdKernelIdeal.main_arg7) = m ((c.tc : Thread Cert.PostfwdKernelIdeal.nD Cert.PostfwdKernelIdeal.τ).loc Cert.PostfwdKernelIdeal.main_arg7))
      ∧ θ_run (Cert.PostfwdReferenceIdeal.defs (F := Ideal)) (onTc (τ := Cert.PostfwdReferenceIdeal.τ) (Cert.PostfwdReferenceIdeal.main (F := Ideal))) ⟨m', fun _ => 0, g'⟩ (fun r => ∀ c : Dev Cert.PostfwdReferenceIdeal.nD,
          r.2.mem ((c.tc : Thread Cert.PostfwdReferenceIdeal.nD Cert.PostfwdReferenceIdeal.τ).loc Cert.PostfwdReferenceIdeal.main_v41) = v0 c
          ∧ r.2.mem ((c.tc : Thread Cert.PostfwdReferenceIdeal.nD Cert.PostfwdReferenceIdeal.τ).loc Cert.PostfwdReferenceIdeal.main_arg0) = m' ((c.tc : Thread Cert.PostfwdReferenceIdeal.nD Cert.PostfwdReferenceIdeal.τ).loc Cert.PostfwdReferenceIdeal.main_arg0)
          ∧ r.2.mem ((c.tc : Thread Cert.PostfwdReferenceIdeal.nD Cert.PostfwdReferenceIdeal.τ).loc Cert.PostfwdReferenceIdeal.main_arg1) = m' ((c.tc : Thread Cert.PostfwdReferenceIdeal.nD Cert.PostfwdReferenceIdeal.τ).loc Cert.PostfwdReferenceIdeal.main_arg1)
          ∧ r.2.mem ((c.tc : Thread Cert.PostfwdReferenceIdeal.nD Cert.PostfwdReferenceIdeal.τ).loc Cert.PostfwdReferenceIdeal.main_arg2) = m' ((c.tc : Thread Cert.PostfwdReferenceIdeal.nD Cert.PostfwdReferenceIdeal.τ).loc Cert.PostfwdReferenceIdeal.main_arg2)
          ∧ r.2.mem ((c.tc : Thread Cert.PostfwdReferenceIdeal.nD Cert.PostfwdReferenceIdeal.τ).loc Cert.PostfwdReferenceIdeal.main_arg3) = m' ((c.tc : Thread Cert.PostfwdReferenceIdeal.nD Cert.PostfwdReferenceIdeal.τ).loc Cert.PostfwdReferenceIdeal.main_arg3)
          ∧ r.2.mem ((c.tc : Thread Cert.PostfwdReferenceIdeal.nD Cert.PostfwdReferenceIdeal.τ).loc Cert.PostfwdReferenceIdeal.main_arg4) = m' ((c.tc : Thread Cert.PostfwdReferenceIdeal.nD Cert.PostfwdReferenceIdeal.τ).loc Cert.PostfwdReferenceIdeal.main_arg4)
          ∧ r.2.mem ((c.tc : Thread Cert.PostfwdReferenceIdeal.nD Cert.PostfwdReferenceIdeal.τ).loc Cert.PostfwdReferenceIdeal.main_arg5) = m' ((c.tc : Thread Cert.PostfwdReferenceIdeal.nD Cert.PostfwdReferenceIdeal.τ).loc Cert.PostfwdReferenceIdeal.main_arg5)
          ∧ r.2.mem ((c.tc : Thread Cert.PostfwdReferenceIdeal.nD Cert.PostfwdReferenceIdeal.τ).loc Cert.PostfwdReferenceIdeal.main_arg6) = m' ((c.tc : Thread Cert.PostfwdReferenceIdeal.nD Cert.PostfwdReferenceIdeal.τ).loc Cert.PostfwdReferenceIdeal.main_arg6)
          ∧ r.2.mem ((c.tc : Thread Cert.PostfwdReferenceIdeal.nD Cert.PostfwdReferenceIdeal.τ).loc Cert.PostfwdReferenceIdeal.main_arg7) = m' ((c.tc : Thread Cert.PostfwdReferenceIdeal.nD Cert.PostfwdReferenceIdeal.τ).loc Cert.PostfwdReferenceIdeal.main_arg7))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)) →
    ∃ (v0 : (c : Dev Cert.ProjKernelIdeal.nD) → Buf (Elt Ideal) ((c.tc : Thread Cert.ProjKernelIdeal.nD Cert.ProjKernelIdeal.τ).loc Cert.ProjKernelIdeal.main_v7_0)) (v1 : (c : Dev Cert.ProjKernelIdeal.nD) → Buf (Elt Ideal) ((c.tc : Thread Cert.ProjKernelIdeal.nD Cert.ProjKernelIdeal.τ).loc Cert.ProjKernelIdeal.main_v7_1)) (v2 : (c : Dev Cert.ProjKernelIdeal.nD) → Buf (Elt Ideal) ((c.tc : Thread Cert.ProjKernelIdeal.nD Cert.ProjKernelIdeal.τ).loc Cert.ProjKernelIdeal.main_v7_2)) (v3 : (c : Dev Cert.ProjKernelIdeal.nD) → Buf (Elt Ideal) ((c.tc : Thread Cert.ProjKernelIdeal.nD Cert.ProjKernelIdeal.τ).loc Cert.ProjKernelIdeal.main_v7_3)) (v4 : (c : Dev Cert.ProjKernelIdeal.nD) → Buf (Elt Ideal) ((c.tc : Thread Cert.ProjKernelIdeal.nD Cert.ProjKernelIdeal.τ).loc Cert.ProjKernelIdeal.main_v7_4)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v7_0) = v0 c
          ∧ r.2.mem ((c.tc : Thread Cert.ProjKernelIdeal.nD Cert.ProjKernelIdeal.τ).loc Cert.ProjKernelIdeal.main_v7_1) = v1 c
          ∧ r.2.mem ((c.tc : Thread Cert.ProjKernelIdeal.nD Cert.ProjKernelIdeal.τ).loc Cert.ProjKernelIdeal.main_v7_2) = v2 c
          ∧ r.2.mem ((c.tc : Thread Cert.ProjKernelIdeal.nD Cert.ProjKernelIdeal.τ).loc Cert.ProjKernelIdeal.main_v7_3) = v3 c
          ∧ r.2.mem ((c.tc : Thread Cert.ProjKernelIdeal.nD Cert.ProjKernelIdeal.τ).loc Cert.ProjKernelIdeal.main_v7_4) = v4 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v17) = v0 c
          ∧ r.2.mem ((c.tc : Thread Cert.ProjReferenceIdeal.nD Cert.ProjReferenceIdeal.τ).loc Cert.ProjReferenceIdeal.main_v18) = v1 c
          ∧ r.2.mem ((c.tc : Thread Cert.ProjReferenceIdeal.nD Cert.ProjReferenceIdeal.τ).loc Cert.ProjReferenceIdeal.main_v19) = v2 c
          ∧ r.2.mem ((c.tc : Thread Cert.ProjReferenceIdeal.nD Cert.ProjReferenceIdeal.τ).loc Cert.ProjReferenceIdeal.main_v20) = v3 c
          ∧ r.2.mem ((c.tc : Thread Cert.ProjReferenceIdeal.nD Cert.ProjReferenceIdeal.τ).loc Cert.ProjReferenceIdeal.main_v16) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def Claim : Prop :=
  ∃ (hXgradKernel : Cert.XgradKernel.Facts) (hXgradKernelIdeal : Cert.XgradKernelIdeal.Facts) (hXgradReferenceIdeal : Cert.XgradReferenceIdeal.Facts) (hAttnKernel : Cert.AttnKernel.Facts) (hAttnKernelIdeal : Cert.AttnKernelIdeal.Facts) (hAttnReferenceIdeal : Cert.AttnReferenceIdeal.Facts) (hTailKernel : Cert.TailKernel.Facts) (hTailKernelIdeal : Cert.TailKernelIdeal.Facts) (hTailReferenceIdeal : Cert.TailReferenceIdeal.Facts) (hFoxpreKernel : Cert.FoxpreKernel.Facts) (hFoxpreKernelIdeal : Cert.FoxpreKernelIdeal.Facts) (hFoxpreReferenceIdeal : Cert.FoxpreReferenceIdeal.Facts) (hPostKernel : Cert.PostKernel.Facts) (hPostKernelIdeal : Cert.PostKernelIdeal.Facts) (hPostReferenceIdeal : Cert.PostReferenceIdeal.Facts) (hAttnfwdKernel : Cert.AttnfwdKernel.Facts) (hAttnfwdKernelIdeal : Cert.AttnfwdKernelIdeal.Facts) (hAttnfwdReferenceIdeal : Cert.AttnfwdReferenceIdeal.Facts) (hPostfwdKernel : Cert.PostfwdKernel.Facts) (hPostfwdKernelIdeal : Cert.PostfwdKernelIdeal.Facts) (hPostfwdReferenceIdeal : Cert.PostfwdReferenceIdeal.Facts) (hProjKernel : Cert.ProjKernel.Facts) (hProjKernelIdeal : Cert.ProjKernelIdeal.Facts) (hProjReferenceIdeal : Cert.ProjReferenceIdeal.Facts) (hPre_xgrad_finite : Cert.Pre_xgrad_finite.Facts) (hPre_attn_finite : Cert.Pre_attn_finite.Facts) (hPre_tail_finite : Cert.Pre_tail_finite.Facts) (hPre_foxpre_finite : Cert.Pre_foxpre_finite.Facts) (hPre_post_finite : Cert.Pre_post_finite.Facts) (hPre_attnf_finite : Cert.Pre_attnf_finite.Facts) (hPre_postf_finite : Cert.Pre_postf_finite.Facts),
    quiescent_XgradKernel (hXgradKernel := hXgradKernel)
    ∧ quiescent_XgradKernelIdeal (hXgradKernelIdeal := hXgradKernelIdeal)
    ∧ quiescent_XgradKernelIdeal_pre_xgrad_finite (hXgradKernelIdeal := hXgradKernelIdeal) (hPre_xgrad_finite := hPre_xgrad_finite)
    ∧ quiescent_XgradReferenceIdeal (hXgradReferenceIdeal := hXgradReferenceIdeal)
    ∧ quiescent_XgradReferenceIdeal_pre_xgrad_finite (hXgradReferenceIdeal := hXgradReferenceIdeal) (hPre_xgrad_finite := hPre_xgrad_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_TailKernel (hTailKernel := hTailKernel)
    ∧ quiescent_TailKernelIdeal (hTailKernelIdeal := hTailKernelIdeal)
    ∧ quiescent_TailKernelIdeal_pre_tail_finite (hTailKernelIdeal := hTailKernelIdeal) (hPre_tail_finite := hPre_tail_finite)
    ∧ quiescent_TailReferenceIdeal (hTailReferenceIdeal := hTailReferenceIdeal)
    ∧ quiescent_TailReferenceIdeal_pre_tail_finite (hTailReferenceIdeal := hTailReferenceIdeal) (hPre_tail_finite := hPre_tail_finite)
    ∧ quiescent_FoxpreKernel (hFoxpreKernel := hFoxpreKernel)
    ∧ quiescent_FoxpreKernelIdeal (hFoxpreKernelIdeal := hFoxpreKernelIdeal)
    ∧ quiescent_FoxpreKernelIdeal_pre_foxpre_finite (hFoxpreKernelIdeal := hFoxpreKernelIdeal) (hPre_foxpre_finite := hPre_foxpre_finite)
    ∧ quiescent_FoxpreReferenceIdeal (hFoxpreReferenceIdeal := hFoxpreReferenceIdeal)
    ∧ quiescent_FoxpreReferenceIdeal_pre_foxpre_finite (hFoxpreReferenceIdeal := hFoxpreReferenceIdeal) (hPre_foxpre_finite := hPre_foxpre_finite)
    ∧ quiescent_PostKernel (hPostKernel := hPostKernel)
    ∧ quiescent_PostKernelIdeal (hPostKernelIdeal := hPostKernelIdeal)
    ∧ quiescent_PostKernelIdeal_pre_post_finite (hPostKernelIdeal := hPostKernelIdeal) (hPre_post_finite := hPre_post_finite)
    ∧ quiescent_PostReferenceIdeal (hPostReferenceIdeal := hPostReferenceIdeal)
    ∧ quiescent_PostReferenceIdeal_pre_post_finite (hPostReferenceIdeal := hPostReferenceIdeal) (hPre_post_finite := hPre_post_finite)
    ∧ quiescent_AttnfwdKernel (hAttnfwdKernel := hAttnfwdKernel)
    ∧ quiescent_AttnfwdKernelIdeal (hAttnfwdKernelIdeal := hAttnfwdKernelIdeal)
    ∧ quiescent_AttnfwdKernelIdeal_pre_attnf_finite (hAttnfwdKernelIdeal := hAttnfwdKernelIdeal) (hPre_attnf_finite := hPre_attnf_finite)
    ∧ quiescent_AttnfwdReferenceIdeal (hAttnfwdReferenceIdeal := hAttnfwdReferenceIdeal)
    ∧ quiescent_AttnfwdReferenceIdeal_pre_attnf_finite (hAttnfwdReferenceIdeal := hAttnfwdReferenceIdeal) (hPre_attnf_finite := hPre_attnf_finite)
    ∧ quiescent_PostfwdKernel (hPostfwdKernel := hPostfwdKernel)
    ∧ quiescent_PostfwdKernelIdeal (hPostfwdKernelIdeal := hPostfwdKernelIdeal)
    ∧ quiescent_PostfwdKernelIdeal_pre_postf_finite (hPostfwdKernelIdeal := hPostfwdKernelIdeal) (hPre_postf_finite := hPre_postf_finite)
    ∧ quiescent_PostfwdReferenceIdeal (hPostfwdReferenceIdeal := hPostfwdReferenceIdeal)
    ∧ quiescent_PostfwdReferenceIdeal_pre_postf_finite (hPostfwdReferenceIdeal := hPostfwdReferenceIdeal) (hPre_postf_finite := hPre_postf_finite)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_XgradKernel_XgradKernelIdeal
    ∧ algebraic_XgradKernelIdeal_XgradReferenceIdeal_pre_xgrad_finite (hXgradKernelIdeal := hXgradKernelIdeal) (hXgradReferenceIdeal := hXgradReferenceIdeal) (hPre_xgrad_finite := hPre_xgrad_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_TailKernel_TailKernelIdeal
    ∧ algebraic_TailKernelIdeal_TailReferenceIdeal_pre_tail_finite (hTailKernelIdeal := hTailKernelIdeal) (hTailReferenceIdeal := hTailReferenceIdeal) (hPre_tail_finite := hPre_tail_finite)
    ∧ preserves_FoxpreKernel_FoxpreKernelIdeal
    ∧ algebraic_FoxpreKernelIdeal_FoxpreReferenceIdeal_pre_foxpre_finite (hFoxpreKernelIdeal := hFoxpreKernelIdeal) (hFoxpreReferenceIdeal := hFoxpreReferenceIdeal) (hPre_foxpre_finite := hPre_foxpre_finite)
    ∧ preserves_PostKernel_PostKernelIdeal
    ∧ algebraic_PostKernelIdeal_PostReferenceIdeal_pre_post_finite (hPostKernelIdeal := hPostKernelIdeal) (hPostReferenceIdeal := hPostReferenceIdeal) (hPre_post_finite := hPre_post_finite)
    ∧ preserves_AttnfwdKernel_AttnfwdKernelIdeal
    ∧ algebraic_AttnfwdKernelIdeal_AttnfwdReferenceIdeal_pre_attnf_finite (hAttnfwdKernelIdeal := hAttnfwdKernelIdeal) (hAttnfwdReferenceIdeal := hAttnfwdReferenceIdeal) (hPre_attnf_finite := hPre_attnf_finite)
    ∧ preserves_PostfwdKernel_PostfwdKernelIdeal
    ∧ algebraic_PostfwdKernelIdeal_PostfwdReferenceIdeal_pre_postf_finite (hPostfwdKernelIdeal := hPostfwdKernelIdeal) (hPostfwdReferenceIdeal := hPostfwdReferenceIdeal) (hPre_postf_finite := hPre_postf_finite)
    ∧ preserves_ProjKernel_ProjKernelIdeal
    ∧ algebraic_ProjKernelIdeal_ProjReferenceIdeal (hProjKernelIdeal := hProjKernelIdeal) (hProjReferenceIdeal := hProjReferenceIdeal)
-- ==== Pre_attn_finite.lean ====
abbrev S8x2048x64 : Shape := ⟨3, ![8, 2048, 64]⟩
abbrev S8x2048 : Shape := ⟨2, ![8, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048x64 .f32) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S8x2048x64 .f32 := Host.absf main_arg4
  let main_cst_6 : FVec F S_ .f32 := constant S_ .f32 0x7F800000#32
  let main_v20 : FVec F S8x2048x64 .f32 := broadcastInDim S8x2048x64 ![] bcast_S_S8x2048x64 main_cst_6
  let main_v21 : IVec S8x2048x64 1 := cmpf .olt main_v19 main_v20
  let main_c_7 : IVec S_ 1 := constantI S_ 1 1#1
  let main_v22 : IVec S_ 1 := (fun x v => Host.reduce IntOp.andi x v reducesTo_S8x2048x64_S_d0_1_2 h_S_) main_v21 main_c_7
  let main_v23 : IVec S_ 1 := andi main_v18 main_v22
  main_v23

def fn {F : FTy → Type} [FloatOps F] (main_arg0 : FVec F S8x2048x64 .f32) (main_arg1 : FVec F S8x2048x64 .f32) (main_arg2 : FVec F S8x2048x64 .f32) (main_arg3 : FVec F S8x2048 .f32) (main_arg4 : FVec F S8x2048x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_arg4 main_v13 main_v16
-- ==== Pre_attnf_finite.lean ====
abbrev S8x2048x64 : Shape := ⟨3, ![8, 2048, 64]⟩
abbrev S8x2048 : Shape := ⟨2, ![8, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  main_v18

def fn {F : FTy → Type} [FloatOps F] (main_arg0 : FVec F S8x2048x64 .f32) (main_arg1 : FVec F S8x2048x64 .f32) (main_arg2 : FVec F S8x2048x64 .f32) (main_arg3 : FVec F S8x2048 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_v14 : FVec F S8x2048 .f32 := Host.absf main_arg3
  let main_cst_4 : FVec F S_ .f32 := constant S_ .f32 0x7F800000#32
  let main_v15 : FVec F S8x2048 .f32 := broadcastInDim S8x2048 ![] bcast_S_S8x2048 main_cst_4
  let main_v16 : IVec S8x2048 1 := cmpf .olt main_v14 main_v15
  fn_part1 (F := F) main_v13 main_v16
-- ==== Pre_foxpre_finite.lean ====
abbrev S2048x2056 : Shape := ⟨2, ![2048, 2056]⟩
abbrev S1x8 : Shape := ⟨2, ![1, 8]⟩
abbrev S1x64 : Shape := ⟨2, ![1, 64]⟩
abbrev S8x2048x64 : Shape := ⟨3, ![8, 2048, 64]⟩
abbrev S2048x512 : Shape := ⟨2, ![2048, 512]⟩
abbrev S8x2048 : Shape := ⟨2, ![8, 2048]⟩
abbrev S_ : Shape := ⟨0, ![]⟩
abbrev S2048x8 : Shape := ⟨2, ![2048, 8]⟩

class Facts : Prop where
  bcast_S_S2048x2056 : S_.BroadcastsInDim S2048x2056 (![] : Fin 0 → Fin S2048x2056.rank)
  reducesTo_S2048x2056_S_d0_1 : S2048x2056.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S1x64 : S_.BroadcastsInDim S1x64 (![] : Fin 0 → Fin S1x64.rank)
  reducesTo_S1x64_S_d0_1 : S1x64.ReducesTo [0, 1] S_
  bcast_S_S8x2048x64 : S_.BroadcastsInDim S8x2048x64 (![] : Fin 0 → Fin S8x2048x64.rank)
  reducesTo_S8x2048x64_S_d0_1_2 : S8x2048x64.ReducesTo [0, 1, 2] S_
  bcast_S_S8x2048 : S_.BroadcastsInDim S8x2048 (![] : Fin 0 → Fin S8x2048.rank)
  reducesTo_S8x2048_S_d0_1 : S8x2048.ReducesTo [0, 1] S_
  slices_S2048x2056_S2048x8_0_2048 : S2048x2056.Slices ![0, 2048] S2048x8
  bcast_S1x8_S2048x8_0_1 : S1x8.BroadcastsInDim S2048x8 (![0, 1] : Fin 2 → Fin S2048x8.rank)
  bcast_S_S2048x8 : S_.BroadcastsInDim S2048x8 (![] : Fin 0 → Fin S2048x8.rank)
  reducesTo_S2048x8_S_d0_1 : S2048x8.ReducesTo [0, 1] S_

variable [Facts]

def fn_part2 {F : FTy → Type} [FloatOps F] (main_arg0 : FVec F S2048x2056 .f32) (main_arg1 : FVec F S1x8 .f32) (main_arg9 : FVec F S8x2048 .f32) (main_v33 : IVec S_ 1) : IVec S_ 1 :=
  let main_v34 : FVec F S8x2048 .f32 := Host.absf main_arg9
  let main_cst_12 : FVec F S_ .f32 := constant S_ .f32 0x7F800000#32
  let main_v35 : FVec F S8x2048 .f32 := broadcastInDim S8x2048 ![] bcast_S_S8x2048 main_cst_12
  let main_v36 : IVec S8x2048 1 := cmpf .olt main_v34 main_v35
  let main_c_13 : IVec S_ 1 := constantI S_ 1 1#1
  let main_v37 : IVec S_ 1 := (fun x v => Host.reduce IntOp.andi x v reducesTo_S8x2048_S_d0_1 h_S_) main_v36 main_c_13
  let main_v38 : IVec S_ 1 := andi main_v33 main_v37
  let main_v39 : FVec F S2048x8 .f32 := (extractStridedSlice S2048x8 ![0, 2048] · slices_S2048x2056_S2048x8_0_2048) main_arg0
  let main_v40 : FVec F S2048x8 .f32 := broadcastInDim S2048x8 ![0, 1] bcast_S1x8_S2048x8_0_1 main_arg1
  let main_v41 : FVec F S2048x8 .f32 := addf main_v39 main_v40
  let main_cst_14 : FVec F S_ .f32 := constant S_ .f32 0x00000000#32
  let main_v42 : FVec F S2048x8 .f32 := broadcastInDim S2048x8 ![] bcast_S_S2048x8 main_cst_14
  let main_v43 : IVec S2048x8 1 := cmpf .une main_v41 main_v42
  let main_c_15 : IVec S_ 1 := constantI S_ 1 1#1
  let main_v44 : IVec S_ 1 := (fun x v => Host.reduce IntOp.andi x v reducesTo_S2048x8_S_d0_1 h_S_) main_v43 main_c_15
  let main_v45 : IVec S_ 1 := andi main_v38 main_v44
  main_v45

def fn_part1 {F : FTy → Type} [FloatOps F] (main_arg0 : FVec F S2048x2056 .f32) (main_arg1 : FVec F S1x8 .f32) (main_arg4 : FVec F S8x2048x64 .f32) (main_arg5 : FVec F S8x2048x64 .f32) (main_arg8 : FVec F S8x2048 .f32) (main_arg9 : FVec F S8x2048 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S8x2048x64 .f32 := Host.absf main_arg4
  let main_cst_6 : FVec F S_ .f32 := constant S_ .f32 0x7F800000#32
  let main_v20 : FVec F S8x2048x64 .f32 := broadcastInDim S8x2048x64 ![] bcast_S_S8x2048x64 main_cst_6
  let main_v21 : IVec S8x2048x64 1 := cmpf .olt main_v19 main_v20
  let main_c_7 : IVec S_ 1 := constantI S_ 1 1#1
  let main_v22 : IVec S_ 1 := (fun x v => Host.reduce IntOp.andi x v reducesTo_S8x2048x64_S_d0_1_2 h_S_) main_v21 main_c_7
  let main_v23 : IVec S_ 1 := andi main_v18 main_v22
  let main_v24 : FVec F S8x2048x64 .f32 := Host.absf main_arg5
  let main_cst_8 : FVec F S_ .f32 := constant S_ .f32 0x7F800000#32
  let main_v25 : FVec F S8x2048x64 .f32 := broadcastInDim S8x2048x64 ![] bcast_S_S8x2048x64 main_cst_8
  let main_v26 : IVec S8x2048x64 1 := cmpf .olt main_v24 main_v25
  let main_c_9 : IVec S_ 1 := constantI S_ 1 1#1
  let main_v27 : IVec S_ 1 := (fun x v => Host.reduce IntOp.andi x v reducesTo_S8x2048x64_S_d0_1_2 h_S_) main_v26 main_c_9
  let main_v28 : IVec S_ 1 := andi main_v23 main_v27
  let main_v29 : FVec F S8x2048 .f32 := Host.absf main_arg8
  let main_cst_10 : FVec F S_ .f32 := constant S_ .f32 0x7F800000#32
  let main_v30 : FVec F S8x2048 .f32 := broadcastInDim S8x2048 ![] bcast_S_S8x2048 main_cst_10
  let main_v31 : IVec S8x2048 1 := cmpf .olt main_v29 main_v30
  let main_c_11 : IVec S_ 1 := constantI S_ 1 1#1
  let main_v32 : IVec S_ 1 := (fun x v => Host.reduce IntOp.andi x v reducesTo_S8x2048_S_d0_1 h_S_) main_v31 main_c_11
  let main_v33 : IVec S_ 1 := andi main_v28 main_v32
  fn_part2 (F := F) main_arg0 main_arg1 main_arg9 main_v33

def fn {F : FTy → Type} [FloatOps F] (main_arg0 : FVec F S2048x2056 .f32) (main_arg1 : FVec F S1x8 .f32) (main_arg2 : FVec F S1x64 .f32) (main_arg3 : FVec F S1x64 .f32) (main_arg4 : FVec F S8x2048x64 .f32) (main_arg5 : FVec F S8x2048x64 .f32) (main_arg6 : FVec F S8x2048x64 .f32) (main_arg7 : FVec F S2048x512 .f32) (main_arg8 : FVec F S8x2048 .f32) (main_arg9 : FVec F S8x2048 .f32) : IVec S_ 1 :=
  let main_v0 : FVec F S2048x2056 .f32 := Host.absf main_arg0
  let main_cst : FVec F S_ .f32 := constant S_ .f32 0x7F800000#32
  let main_v1 : FVec F S2048x2056 .f32 := broadcastInDim S2048x2056 ![] bcast_S_S2048x2056 main_cst
  let main_v2 : IVec S2048x2056 1 := cmpf .olt main_v0 main_v1
  let main_c : IVec S_ 1 := constantI S_ 1 1#1
  let main_v3 : IVec S_ 1 := (fun x v => Host.reduce IntOp.andi x v reducesTo_S2048x2056_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg0 main_arg1 main_arg4 main_arg5 main_arg8 main_arg9 main_v13 main_v16
-- ==== Pre_post_finite.lean ====
abbrev S2048x512 : Shape := ⟨2, ![2048, 512]⟩
abbrev S1x512 : Shape := ⟨2, ![1, 512]⟩
abbrev S8x64 : Shape := ⟨2, ![8, 64]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg7 : FVec F S8x64 .f32) (main_arg8 : FVec F S2048x512 .f32) (main_v33 : IVec S_ 1) : IVec S_ 1 :=
  let main_v34 : FVec F S8x64 .f32 := Host.absf main_arg7
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  let main_v39 : FVec F S2048x512 .f32 := Host.absf main_arg8
  let main_cst_14 : FVec F S_ .f32 := constant S_ .f32 0x7F800000#32
  let main_v40 : FVec F S2048x512 .f32 := broadcastInDim S2048x512 ![] bcast_S_S2048x512 main_cst_14
  let main_v41 : IVec S2048x512 1 := cmpf .olt main_v39 main_v40
  let main_c_15 : IVec S_ 1 := constantI S_ 1 1#1
  let main_v42 : IVec S_ 1 := (fun x v => Host.reduce IntOp.andi x v reducesTo_S2048x512_S_d0_1 h_S_) main_v41 main_c_15
  let main_v43 : IVec S_ 1 := andi main_v38 main_v42
  main_v43

def fn_part1 {F : FTy → Type} [FloatOps F] (main_arg4 : FVec F S2048x512 .f32) (main_arg5 : FVec F S1x512 .f32) (main_arg6 : FVec F S1x512 .f32) (main_arg7 : FVec F S8x64 .f32) (main_arg8 : FVec F S2048x512 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_arg8 main_v33

def fn {F : FTy → Type} [FloatOps F] (main_arg0 : FVec F S2048x512 .f32) (main_arg1 : FVec F S2048x512 .f32) (main_arg2 : FVec F S2048x512 .f32) (main_arg3 : FVec F S2048x512 .f32) (main_arg4 : FVec F S2048x512 .f32) (main_arg5 : FVec F S1x512 .f32) (main_arg6 : FVec F S1x512 .f32) (main_arg7 : FVec F S8x64 .f32) (main_arg8 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_v13 main_v16
-- ==== Pre_postf_finite.lean ====
abbrev S2048x512 : Shape := ⟨2, ![2048, 512]⟩
abbrev S1x512 : Shape := ⟨2, ![1, 512]⟩
abbrev S8x64 : Shape := ⟨2, ![8, 64]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S8x64 : S_.BroadcastsInDim S8x64 (![] : Fin 0 → Fin S8x64.rank)
  reducesTo_S8x64_S_d0_1 : S8x64.ReducesTo [0, 1] S_

variable [Facts]

def fn_part2 {F : FTy → Type} [FloatOps F] (main_arg7 : FVec F S8x64 .f32) (main_v33 : IVec S_ 1) : IVec S_ 1 :=
  let main_v34 : FVec F S8x64 .f32 := Host.absf main_arg7
  let main_cst_12 : FVec F S_ .f32 := constant S_ .f32 0x7F800000#32
  let main_v35 : FVec F S8x64 .f32 := broadcastInDim S8x64 ![] bcast_S_S8x64 main_cst_12
  let main_v36 : IVec S8x64 1 := cmpf .olt main_v34 main_v35
  let main_c_13 : IVec S_ 1 := constantI S_ 1 1#1
  let main_v37 : IVec S_ 1 := (fun x v => Host.reduce IntOp.andi x v reducesTo_S8x64_S_d0_1 h_S_) main_v36 main_c_13
  let main_v38 : IVec S_ 1 := andi main_v33 main_v37
  main_v38

def fn_part1 {F : FTy → Type} [FloatOps F] (main_arg4 : FVec F S2048x512 .f32) (main_arg5 : FVec F S1x512 .f32) (main_arg6 : FVec F S1x512 .f32) (main_arg7 : FVec F S8x64 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  fn_part2 (F := F) main_arg7 main_v33

def fn {F : FTy → Type} [FloatOps F] (main_arg0 : FVec F S2048x512 .f32) (main_arg1 : FVec F S2048x512 .f32) (main_arg2 : FVec F S2048x512 .f32) (main_arg3 : FVec F S2048x512 .f32) (main_arg4 : FVec F S2048x512 .f32) (main_arg5 : FVec F S1x512 .f32) (main_arg6 : FVec F S1x512 .f32) (main_arg7 : FVec F S8x64 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_v13 main_v16
-- ==== Pre_tail_finite.lean ====
abbrev S2048x1024 : Shape := ⟨2, ![2048, 1024]⟩
abbrev S2048x512 : Shape := ⟨2, ![2048, 512]⟩
abbrev S8x2048x64 : Shape := ⟨3, ![8, 2048, 64]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S8x2048x64 : S_.BroadcastsInDim S8x2048x64 (![] : Fin 0 → Fin S8x2048x64.rank)
  reducesTo_S8x2048x64_S_d0_1_2 : S8x2048x64.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S512x1024 .f32) (main_arg8 : FVec F S1024x1024 .f32) (main_arg9 : FVec F S1x1024 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1x1024 .f32 := Host.absf main_arg9
  let main_cst_16 : FVec F S_ .f32 := constant S_ .f32 0x7F800000#32
  let main_v45 : FVec F S1x1024 .f32 := broadcastInDim S1x1024 ![] bcast_S_S1x1024 main_cst_16
  let main_v46 : IVec S1x1024 1 := cmpf .olt main_v44 main_v45
  let main_c_17 : IVec S_ 1 := constantI S_ 1 1#1
  let main_v47 : IVec S_ 1 := (fun x v => Host.reduce IntOp.andi x v reducesTo_S1x1024_S_d0_1 h_S_) main_v46 main_c_17
  let main_v48 : IVec S_ 1 := andi main_v43 main_v47
  main_v48

def fn_part1 {F : FTy → Type} [FloatOps F] (main_arg4 : FVec F S2048x2048 .f32) (main_arg5 : FVec F S2048x2048 .f32) (main_arg6 : FVec F S512x1024 .f32) (main_arg7 : FVec F S512x1024 .f32) (main_arg8 : FVec F S1024x1024 .f32) (main_arg9 : FVec F S1x1024 .f32) (main_v13 : IVec S_ 1) (main_v16 : IVec S8x2048x64 1) : IVec S_ 1 :=
  let main_c_5 : IVec S_ 1 := constantI S_ 1 1#1
  let main_v17 : IVec S_ 1 := (fun x v => Host.reduce IntOp.andi x v reducesTo_S8x2048x64_S_d0_1_2 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S2048x1024 .f32) (main_arg1 : FVec F S2048x1024 .f32) (main_arg2 : FVec F S2048x512 .f32) (main_arg3 : FVec F S8x2048x64 .f32) (main_arg4 : FVec F S2048x2048 .f32) (main_arg5 : FVec F S2048x2048 .f32) (main_arg6 : FVec F S512x1024 .f32) (main_arg7 : FVec F S512x1024 .f32) (main_arg8 : FVec F S1024x1024 .f32) (main_arg9 : FVec F S1x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S8x2048x64 .f32 := Host.absf main_arg3
  let main_cst_4 : FVec F S_ .f32 := constant S_ .f32 0x7F800000#32
  let main_v15 : FVec F S8x2048x64 .f32 := broadcastInDim S8x2048x64 ![] bcast_S_S8x2048x64 main_cst_4
  let main_v16 : IVec S8x2048x64 1 := cmpf .olt main_v14 main_v15
  fn_part1 (F := F) main_arg4 main_arg5 main_arg6 main_arg7 main_arg8 main_arg9 main_v13 main_v16
-- ==== Pre_xgrad_finite.lean ====
abbrev S2048x1024 : Shape := ⟨2, ![2048, 1024]⟩
abbrev S1x1024 : Shape := ⟨2, ![1, 1024]⟩
abbrev S1024x6280 : Shape := ⟨2, ![1024, 6280]⟩
abbrev S2048x6280 : Shape := ⟨2, ![2048, 6280]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x6280 : S_.BroadcastsInDim S1024x6280 (![] : Fin 0 → Fin S1024x6280.rank)
  reducesTo_S1024x6280_S_d0_1 : S1024x6280.ReducesTo [0, 1] S_
  bcast_S_S2048x6280 : S_.BroadcastsInDim S2048x6280 (![] : Fin 0 → Fin S2048x6280.rank)
  reducesTo_S2048x6280_S_d0_1 : S2048x6280.ReducesTo [0, 1] S_

variable [Facts]

def fn_part1 {F : FTy → Type} [FloatOps F] (main_v13 : IVec S_ 1) (main_v16 : IVec S2048x6280 1) : IVec S_ 1 :=
  let main_c_5 : IVec S_ 1 := constantI S_ 1 1#1
  let main_v17 : IVec S_ 1 := (fun x v => Host.reduce IntOp.andi x v reducesTo_S2048x6280_S_d0_1 h_S_) main_v16 main_c_5
  let main_v18 : IVec S_ 1 := andi main_v13 main_v17
  main_v18

def fn {F : FTy → Type} [FloatOps F] (main_arg0 : FVec F S2048x1024 .f32) (main_arg1 : FVec F S1x1024 .f32) (main_arg2 : FVec F S1024x6280 .f32) (main_arg3 : FVec F S2048x1024 .f32) (main_arg4 : FVec F S2048x6280 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x6280 .f32 := Host.absf main_arg2
  let main_cst_2 : FVec F S_ .f32 := constant S_ .f32 0x7F800000#32
  let main_v10 : FVec F S1024x6280 .f32 := broadcastInDim S1024x6280 ![] bcast_S_S1024x6280 main_cst_2
  let main_v11 : IVec S1024x6280 1 := cmpf .olt main_v9 main_v10
  let main_c_3 : IVec S_ 1 := constantI S_ 1 1#1
  let main_v12 : IVec S_ 1 := (fun x v => Host.reduce IntOp.andi x v reducesTo_S1024x6280_S_d0_1 h_S_) main_v11 main_c_3
  let main_v13 : IVec S_ 1 := andi main_v8 main_v12
  let main_v14 : FVec F S2048x6280 .f32 := Host.absf main_arg4
  let main_cst_4 : FVec F S_ .f32 := constant S_ .f32 0x7F800000#32
  let main_v15 : FVec F S2048x6280 .f32 := broadcastInDim S2048x6280 ![] bcast_S_S2048x6280 main_cst_4
  let main_v16 : IVec S2048x6280 1 := cmpf .olt main_v14 main_v15
  fn_part1 (F := F) main_v13 main_v16
-- ==== XgradKernel.lean ====
abbrev S2048x1024 : Shape := ⟨2, ![2048, 1024]⟩
abbrev S1x1024 : Shape := ⟨2, ![1, 1024]⟩
abbrev S1024x6280 : Shape := ⟨2, ![1024, 6280]⟩
abbrev S2048x6280 : Shape := ⟨2, ![2048, 6280]⟩
abbrev S6280x1024 : Shape := ⟨2, ![6280, 1024]⟩
abbrev S2176x1024 : Shape := ⟨2, ![2176, 1024]⟩
abbrev S2048x2176 : Shape := ⟨2, ![2048, 2176]⟩
abbrev S2048x2048 : Shape := ⟨2, ![2048, 2048]⟩
abbrev S8x1024 : Shape := ⟨2, ![8, 1024]⟩
abbrev S2048x8 : Shape := ⟨2, ![2048, 8]⟩
abbrev S_ : Shape := ⟨0, ![]⟩
abbrev S128x1024 : Shape := ⟨2, ![128, 1024]⟩
abbrev S2048x128 : Shape := ⟨2, ![2048, 128]⟩
abbrev S128x2176 : Shape := ⟨2, ![128, 2176]⟩
abbrev S128x2048 : Shape := ⟨2, ![128, 2048]⟩
abbrev S128x128 : Shape := ⟨2, ![128, 128]⟩
abbrev S128 : Shape := ⟨1, ![128]⟩
abbrev S128x1 : Shape := ⟨2, ![128, 1]⟩
abbrev S1024 : Shape := ⟨1, ![1024]⟩

abbrev nBuf : Space → Nat
  | .hbm => 27
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6280, .f32⟩
  | .hbm, ⟨3, _⟩ => ⟨S2048x1024, .f32⟩
  | .hbm, ⟨4, _⟩ => ⟨S2048x6280, .f32⟩
  | .hbm, ⟨5, _⟩ => ⟨S6280x1024, .f32⟩
  | .hbm, ⟨6, _⟩ => ⟨S6280x1024, .bf16⟩
  | .hbm, ⟨7, _⟩ => ⟨S2176x1024, .bf16⟩
  | .hbm, ⟨8, _⟩ => ⟨S2048x2176, .f32⟩
  | .hbm, ⟨9, _⟩ => ⟨S2048x2176, .bf16⟩
  | .hbm, ⟨10, _⟩ => ⟨S2048x1024, .bf16⟩
  | .hbm, ⟨11, _⟩ => ⟨S2048x2048, .f32⟩
  | .hbm, ⟨12, _⟩ => ⟨S2048x2048, .bf16⟩
  | .hbm, ⟨13, _⟩ => ⟨S2048x1024, .bf16⟩
  | .hbm, ⟨14, _⟩ => ⟨S2048x2048, .f32⟩
  | .hbm, ⟨15, _⟩ => ⟨S2048x2048, .bf16⟩
  | .hbm, ⟨16, _⟩ => ⟨S8x1024, .bf16⟩
  | .hbm, ⟨17, _⟩ => ⟨S2048x8, .f32⟩
  | .hbm, ⟨18, _⟩ => ⟨S_, .i32⟩
  | .hbm, ⟨19, _⟩ => ⟨S_, .bf16⟩
  | .hbm, ⟨20, _⟩ => ⟨S128x1024, .bf16⟩
  | .hbm, ⟨21, _⟩ => ⟨S_, .i32⟩
  | .hbm, ⟨22, _⟩ => ⟨S_, .f32⟩
  | .hbm, ⟨23, _⟩ => ⟨S2048x128, .f32⟩
  | .hbm, ⟨24, _⟩ => ⟨S2048x128, .bf16⟩
  | .hbm, ⟨25, _⟩ => ⟨S2048x1024, .f32⟩
  | .hbm, ⟨26, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S128x2176, .bf16⟩
  | .local _ .vmem, ⟨6, _⟩ => ⟨S128x2176, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x128, .bf16⟩
  | .local _ .vmem, ⟨12, _⟩ => ⟨S128x128, .bf16⟩
  | .local _ .vmem, ⟨13, _⟩ => ⟨S2176x1024, .bf16⟩
  | .local _ .vmem, ⟨14, _⟩ => ⟨S2048x1024, .bf16⟩
  | .local _ .vmem, ⟨15, _⟩ => ⟨S2048x1024, .bf16⟩
  | .local _ .vmem, ⟨16, _⟩ => ⟨S128x1024, .bf16⟩
  | .local _ .vmem, ⟨17, _⟩ => ⟨S128x1024, .f32⟩
  | .local _ .vmem, ⟨18, _⟩ => ⟨S128x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2176 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2176x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== XgradReferenceIdeal.lean ====
abbrev S2048x1024 : Shape := ⟨2, ![2048, 1024]⟩
abbrev S1x1024 : Shape := ⟨2, ![1, 1024]⟩
abbrev S1024x6280 : Shape := ⟨2, ![1024, 6280]⟩
abbrev S2048x6280 : Shape := ⟨2, ![2048, 6280]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6280, .f32⟩
  | .hbm, ⟨3, _⟩ => ⟨S2048x1024, .f32⟩
  | .hbm, ⟨4, _⟩ => ⟨S2048x6280, .f32⟩
  | .hbm, ⟨5, _⟩ => ⟨S1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S1x1024, .f32⟩
  | .hbm, ⟨24, _⟩ => ⟨S2048x1024, .f32⟩
  | .hbm, ⟨25, _⟩ => ⟨S2048x1024, .f32⟩
  | .hbm, ⟨26, _⟩ => ⟨S2048x6280, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== AttnKernel.lean ====
abbrev S8x2048x64 : Shape := ⟨3, ![8, 2048, 64]⟩
abbrev S8x2048 : Shape := ⟨2, ![8, 2048]⟩
abbrev S8x2048x1 : Shape := ⟨3, ![8, 2048, 1]⟩
abbrev S8x1x2048 : Shape := ⟨3, ![8, 1, 2048]⟩
abbrev S_ : Shape := ⟨0, ![]⟩
abbrev S8x2048x2048 : Shape := ⟨3, ![8, 2048, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x256x64 : Shape := ⟨3, ![1, 256, 64]⟩
abbrev S1x2048x64 : Shape := ⟨3, ![1, 2048, 64]⟩
abbrev S1x256x1 : Shape := ⟨3, ![1, 256, 1]⟩
abbrev S1x1x2048 : Shape := ⟨3, ![1, 1, 2048]⟩
abbrev S256x64 : Shape := ⟨2, ![256, 64]⟩
abbrev S256x1 : Shape := ⟨2, ![256, 1]⟩
abbrev S256 : Shape := ⟨1, ![256]⟩
abbrev S256x256 : Shape := ⟨2, ![256, 256]⟩
abbrev S1x1x256 : Shape := ⟨3, ![1, 1, 256]⟩
abbrev S1x256 : Shape := ⟨2, ![1, 256]⟩
abbrev S1x512x64 : Shape := ⟨3, ![1, 512, 64]⟩
abbrev S512x64 : Shape := ⟨2, ![512, 64]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x768x64 : Shape := ⟨3, ![1, 768, 64]⟩
abbrev S768x64 : Shape := ⟨2, ![768, 64]⟩
abbrev S256x768 : Shape := ⟨2, ![256, 768]⟩
abbrev S1x1x768 : Shape := ⟨3, ![1, 1, 768]⟩
abbrev S1x768 : Shape := ⟨2, ![1, 768]⟩
abbrev S768 : Shape := ⟨1, ![768]⟩
abbrev S1x1024x64 : Shape := ⟨3, ![1, 1024, 64]⟩
abbrev S1024x64 : Shape := ⟨2, ![1024, 64]⟩
abbrev S256x1024 : Shape := ⟨2, ![256, 1024]⟩
abbrev S1x1x1024 : Shape := ⟨3, ![1, 1, 1024]⟩
abbrev S1x1024 : Shape := ⟨2, ![1, 1024]⟩
abbrev S1024 : Shape := ⟨1, ![1024]⟩
abbrev S1x1280x64 : Shape := ⟨3, ![1, 1280, 64]⟩
abbrev S1280x64 : Shape := ⟨2, ![1280, 64]⟩
abbrev S256x1280 : Shape := ⟨2, ![256, 1280]⟩
abbrev S1x1x1280 : Shape := ⟨3, ![1, 1, 1280]⟩
abbrev S1x1280 : Shape := ⟨2, ![1, 1280]⟩
abbrev S1280 : Shape := ⟨1, ![1280]⟩
abbrev S1x1536x64 : Shape := ⟨3, ![1, 1536, 64]⟩
abbrev S1536x64 : Shape := ⟨2, ![1536, 64]⟩
abbrev S256x1536 : Shape := ⟨2, ![256, 1536]⟩
abbrev S1x1x1536 : Shape := ⟨3, ![1, 1, 1536]⟩
abbrev S1x1536 : Shape := ⟨2, ![1, 1536]⟩
abbrev S1536 : Shape := ⟨1, ![1536]⟩
abbrev S1x1792x64 : Shape := ⟨3, ![1, 1792, 64]⟩
abbrev S1792x64 : Shape := ⟨2, ![1792, 64]⟩
abbrev S256x1792 : Shape := ⟨2, ![256, 1792]⟩
abbrev S1x1x1792 : Shape := ⟨3, ![1, 1, 1792]⟩
abbrev S1x1792 : Shape := ⟨2, ![1, 1792]⟩
abbrev S1792 : Shape := ⟨1, ![1792]⟩

abbrev nBuf : Space → Nat
  | .hbm => 52
  | .vmem => 26
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048, .f32⟩
  | .hbm, ⟨4, _⟩ => ⟨S8x2048x64, .f32⟩
  | .hbm, ⟨5, _⟩ => ⟨S8x2048x1, .f32⟩
  | .hbm, ⟨6, _⟩ => ⟨S8x1x2048, .f32⟩
  | .hbm, ⟨7, _⟩ => ⟨S_, .f32⟩
  | .hbm, ⟨8, _⟩ => ⟨S8x2048x64, .f32⟩
  | .hbm, ⟨9, _⟩ => ⟨S8x2048x64, .f32⟩
  | .hbm, ⟨10, _⟩ => ⟨S8x2048x64, .bf16⟩
  | .hbm, ⟨11, _⟩ => ⟨S8x2048x64, .bf16⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S8x2048x1, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .bf16⟩
  | .hbm, ⟨37, _⟩ => ⟨S8x2048x64, .bf16⟩
  | .hbm, ⟨38, _⟩ => ⟨S8x2048x64, .f32⟩
  | .hbm, ⟨39, _⟩ => ⟨S8x2048x64, .f32⟩
  | .hbm, ⟨40, _⟩ => ⟨S8x2048x64, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x64, .f32⟩
  | .hbm, ⟨45, _⟩ => ⟨S8x2048x64, .f32⟩
  | .hbm, ⟨46, _⟩ => ⟨S8x2048x64, .f32⟩
  | .hbm, ⟨47, _⟩ => ⟨S8x2048x1, .f32⟩
  | .hbm, ⟨48, _⟩ => ⟨S8x1x2048, .f32⟩
  | .hbm, ⟨49, _⟩ => ⟨S8x2048, .f32⟩
  | .hbm, ⟨50, _⟩ => ⟨S8x2048, .f32⟩
  | .hbm, ⟨51, _⟩ => ⟨S8x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x1, .f32⟩
  | .local _ .vmem, ⟨7, _⟩ => ⟨S1x256x1, .f32⟩
  | .local _ .vmem, ⟨8, _⟩ => ⟨S1x1x2048, .f32⟩
  | .local _ .vmem, ⟨9, _⟩ => ⟨S1x1x2048, .f32⟩
  | .local _ .vmem, ⟨10, _⟩ => ⟨S1x256x64, .f32⟩
  | .local _ .vmem, ⟨11, _⟩ => ⟨S1x256x64, .f32⟩
  | .local _ .vmem, ⟨12, _⟩ => ⟨S1x256x1, .f32⟩
  | .local _ .vmem, ⟨13, _⟩ => ⟨S1x256x1, .f32⟩
  | .local _ .vmem, ⟨14, _⟩ => ⟨S1x256x64, .f32⟩
  | .local _ .vmem, ⟨15, _⟩ => ⟨S1x256x64, .f32⟩
  | .local _ .vmem, ⟨16, _⟩ => ⟨S1x256x64, .f32⟩
  | .local _ .vmem, ⟨17, _⟩ => ⟨S1x256x64, .f32⟩
  | .local _ .vmem, ⟨18, _⟩ => ⟨S1x2048x64, .f32⟩
  | .local _ .vmem, ⟨19, _⟩ => ⟨S1x2048x64, .f32⟩
  | .local _ .vmem, ⟨20, _⟩ => ⟨S1x2048x64, .f32⟩
  | .local _ .vmem, ⟨21, _⟩ => ⟨S1x2048x64, .f32⟩
  | .local _ .vmem, ⟨22, _⟩ => ⟨S1x256x1, .f32⟩
  | .local _ .vmem, ⟨23, _⟩ => ⟨S1x256x1, .f32⟩
  | .local _ .vmem, ⟨24, _⟩ => ⟨S1x1x2048, .f32⟩
  | .local _ .vmem, ⟨25, _⟩ => ⟨S1x1x2048, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev main_v32_3 : Ref sig .tc := ⟨.hbm, 47, rfl⟩
abbrev main_v32_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c1_i32 : BitVec 32 := 1#32
  let c0_i32_3 : BitVec 32 := 0#32
  let v9 : BitVec 1 := Scalar.cmpi .sgt c1_i32 c0_i32_3
  let v10 : BitVec 32 := Scalar.extui v9
  let c0_i32_4 : BitVec 32 := 0#32
  let v11 : BitVec 1 := Scalar.cmpi .slt c1_i32 c0_i32_4
  let v12 : BitVec 32 := Scalar.extui v11
  let v13 : BitVec 32 := Scalar.subi v10 v12
  let v14 : BitVec 1 := Scalar.cmpi .ne v8 v13
  let v15 : BitVec 32 := Scalar.remsi arg1 c1_i32
  let c0_i32_5 : BitVec 32 := 0#32
  let v16 : BitVec 1 := Scalar.cmpi .ne v15 c0_i32_5
  let v17 : BitVec 1 := Scalar.andi v14 v16
  let v3 : BitVec 32 := Scalar.divsi arg1 c1_i32
  let c1_i32_6 : BitVec 32 := 1#32
  let v18 : BitVec 32 := Scalar.subi v3 c1_i32_6
  let v19 : BitVec 32 := Scalar.select v17 v18 v3
  let c0_i32_7 : BitVec 32 := 0#32
  let v20 : BitVec 1 := Scalar.cmpi .eq v19 c0_i32_7
  let v21 : BitVec 32 := Scalar.extui v20
  let c0_i32_8 : BitVec 32 := 0#32
  let v22 : BitVec 1 := Scalar.cmpi .ne v21 c0_i32_8
  v22

def k0_cond3 (i : grid0.Coords) : BitVec 1 :=
  let arg1 : BitVec 32 := BitVec.ofNat 32 (i 1).val
  let c0_i32_10 : BitVec 32 := 0#32
  let v24 : BitVec 1 := Scalar.cmpi .sgt arg1 c0_i32_10
  let v25 : BitVec 32 := Scalar.extui v24
  let c0_i32_11 : BitVec 32 := 0#32
  let v26 : BitVec 1 := Scalar.cmpi .slt arg1 c0_i32_11
  let v27 : BitVec 32 := Scalar.extui v26
  let v28 : BitVec 32 := Scalar.subi v25 v27
  let c1_i32_9 : BitVec 32 := 1#32
  let c0_i32_12 : BitVec 32 := 0#32
  let v29 : BitVec 1 := Scalar.cmpi .sgt c1_i32_9 c0_i32_12
  let v30 : BitVec 32 := Scalar.extui v29
  let c0_i32_13 : BitVec 32 := 0#32
  let v31 : BitVec 1 := Scalar.cmpi .slt c1_i32_9 c0_i32_13
  let v32 : BitVec 32 := Scalar.extui v31
  let v33 : BitVec 32 := Scalar.subi v30 v32
  let v34 : BitVec 1 := Scalar.cmpi .ne v28 v33
  let v35 : BitVec 32 := Scalar.remsi arg1 c1_i32_9
  let c0_i32_14 : BitVec 32 := 0#32
  let v36 : BitVec 1 := Scalar.cmpi .ne v35 c0_i32_14
  let v37 : BitVec 1 := Scalar.andi v34 v36
  let v23 : BitVec 32 := Scalar.divsi arg1 c1_i32_9
  let c1_i32_15 : BitVec 32 := 1#32
  let v38 : BitVec 32 := Scalar.subi v23 c1_i32_15
  let v39 : BitVec 32 := Scalar.select v37 v38 v23
  let c1_i32_16 : BitVec 32 := 1#32
  let v40 : BitVec 1 := Scalar.cmpi .eq v39 c1_i32_16
  let v41 : BitVec 32 := Scalar.extui v40
  let c0_i32_17 : BitVec 32 := 0#32
  let v42 : BitVec 1 := Scalar.cmpi .ne v41 c0_i32_17
  v42

def k0_cond4 (i : grid0.Coords) : BitVec 1 :=
  let arg1 : BitVec 32 := BitVec.ofNat 32 (i 1).val
  let c0_i32_19 : BitVec 32 := 0#32
  let v44 : BitVec 1 := Scalar.cmpi .sgt arg1 c0_i32_19
  let v45 : BitVec 32 := Scalar.extui v44
  let c0_i32_20 : BitVec 32 := 0#32
  let v46 : BitVec 1 := Scalar.cmpi .slt arg1 c0_i32_20
  let v47 : BitVec 32 := Scalar.extui v46
  let v48 : BitVec 32 := Scalar.subi v45 v47
  let c1_i32_18 : BitVec 32 := 1#32
  let c0_i32_21 : BitVec 32 := 0#32
  let v49 : BitVec 1 := Scalar.cmpi .sgt c1_i32_18 c0_i32_21
  let v50 : BitVec 32 := Scalar.extui v49
  let c0_i32_22 : BitVec 32 := 0#32
  let v51 : BitVec 1 := Scalar.cmpi .slt c1_i32_18 c0_i32_22
  let v52 : BitVec 32 := Scalar.extui v51
  let v53 : BitVec 32 := Scalar.subi v50 v52
  let v54 : BitVec 1 := Scalar.cmpi .ne v48 v53
  let v55 : BitVec 32 := Scalar.remsi arg1 c1_i32_18
  let c0_i32_23 : BitVec 32 := 0#32
  let v56 : BitVec 1 := Scalar.cmpi .ne v55 c0_i32_23
  let v57 : BitVec 1 := Scalar.andi v54 v56
  let v43 : BitVec 32 := Scalar.divsi arg1 c1_i32_18
  let c1_i32_24 : BitVec 32 := 1#32
  let v58 : BitVec 32 := Scalar.subi v43 c1_i32_24
  let v59 : BitVec 32 := Scalar.select v57 v58 v43
  let c2_i32 : BitVec 32 := 2#32
  let v60 : BitVec 1 := Scalar.cmpi .eq v59 c2_i32
  let v61 : BitVec 32 := Scalar.extui v60
  let c0_i32_25 : BitVec 32 := 0#32
  let v62 : BitVec 1 := Scalar.cmpi .ne v61 c0_i32_25
  v62

def k0_cond5 (i : grid0.Coords) : BitVec 1 :=
  let arg1 : BitVec 32 := BitVec.ofNat 32 (i 1).val
  let c0_i32_27 : BitVec 32 := 0#32
  let v64 : BitVec 1 := Scalar.cmpi .sgt arg1 c0_i32_27
  let v65 : BitVec 32 := Scalar.extui v64
  let c0_i32_28 : BitVec 32 := 0#32
  let v66 : BitVec 1 := Scalar.cmpi .slt arg1 c0_i32_28
  let v67 : BitVec 32 := Scalar.extui v66
  let v68 : BitVec 32 := Scalar.subi v65 v67
  let c1_i32_26 : BitVec 32 := 1#32
  let c0_i32_29 : BitVec 32 := 0#32
  let v69 : BitVec 1 := Scalar.cmpi .sgt c1_i32_26 c0_i32_29
  let v70 : BitVec 32 := Scalar.extui v69
  let c0_i32_30 : BitVec 32 := 0#32
  let v71 : BitVec 1 := Scalar.cmpi .slt c1_i32_26 c0_i32_30
  let v72 : BitVec 32 := Scalar.extui v71
  let v73 : BitVec 32 := Scalar.subi v70 v72
  let v74 : BitVec 1 := Scalar.cmpi .ne v68 v73
  let v75 : BitVec 32 := Scalar.remsi arg1 c1_i32_26
  let c0_i32_31 : BitVec 32 := 0#32
  let v76 : BitVec 1 := Scalar.cmpi .ne v75 c0_i32_31
  let v77 : BitVec 1 := Scalar.andi v74 v76
  let v63 : BitVec 32 := Scalar.divsi arg1 c1_i32_26
  let c1_i32_32 : BitVec 32 := 1#32
  let v78 : BitVec 32 := Scalar.subi v63 c1_i32_32
  let v79 : BitVec 32 := Scalar.select v77 v78 v63
  let c3_i32 : BitVec 32 := 3#32
  let v80 : BitVec 1 := Scalar.cmpi .eq v79 c3_i32
  let v81 : BitVec 32 := Scalar.extui v80
  let c0_i32_33 : BitVec 32 := 0#32
  let v82 : BitVec 1 := Scalar.cmpi .ne v81 c0_i32_33
  v82

def k0_cond6 (i : grid0.Coords) : BitVec 1 :=
  let arg1 : BitVec 32 := BitVec.ofNat 32 (i 1).val
  let c0_i32_35 : BitVec 32 := 0#32
  let v84 : BitVec 1 := Scalar.cmpi .sgt arg1 c0_i32_35
  let v85 : BitVec 32 := Scalar.extui v84
  let c0_i32_36 : BitVec 32 := 0#32
  let v86 : BitVec 1 := Scalar.cmpi .slt arg1 c0_i32_36
  let v87 : BitVec 32 := Scalar.extui v86
  let v88 : BitVec 32 := Scalar.subi v85 v87
  let c1_i32_34 : BitVec 32 := 1#32
  let c0_i32_37 : BitVec 32 := 0#32
  let v89 : BitVec 1 := Scalar.cmpi .sgt c1_i32_34 c0_i32_37
  let v90 : BitVec 32 := Scalar.extui v89
  let c0_i32_38 : BitVec 32 := 0#32
  let v91 : BitVec 1 := Scalar.cmpi .slt c1_i32_34 c0_i32_38
  let v92 : BitVec 32 := Scalar.extui v91
  let v93 : BitVec 32 := Scalar.subi v90 v92
  let v94 : BitVec 1 := Scalar.cmpi .ne v88 v93
  let v95 : BitVec 32 := Scalar.remsi arg1 c1_i32_34
  let c0_i32_39 : BitVec 32 := 0#32
  let v96 : BitVec 1 := Scalar.cmpi .ne v95 c0_i32_39
  let v97 : BitVec 1 := Scalar.andi v94 v96
  let v83 : BitVec 32 := Scalar.divsi arg1 c1_i32_34
  let c1_i32_40 : BitVec 32 := 1#32
  let v98 : BitVec 32 := Scalar.subi v83 c1_i32_40
  let v99 : BitVec 32 := Scalar.select v97 v98 v83
  let c4_i32 : BitVec 32 := 4#32
  let v100 : BitVec 1 := Scalar.cmpi .eq v99 c4_i32
  let v101 : BitVec 32 := Scalar.extui v100
  let c0_i32_41 : BitVec 32 := 0#32
  let v102 : BitVec 1 := Scalar.cmpi .ne v101 c0_i32_41
  v102

def k0_cond7 (i : grid0.Coords) : BitVec 1 :=
  let arg1 : BitVec 32 := BitVec.ofNat 32 (i 1).val
  let c0_i32_43 : BitVec 32 := 0#32
  let v104 : BitVec 1 := Scalar.cmpi .sgt arg1 c0_i32_43
  let v105 : BitVec 32 := Scalar.extui v104
  let c0_i32_44 : BitVec 32 := 0#32
  let v106 : BitVec 1 := Scalar.cmpi .slt arg1 c0_i32_44
  let v107 : BitVec 32 := Scalar.extui v106
  let v108 : BitVec 32 := Scalar.subi v105 v107
  let c1_i32_42 : BitVec 32 := 1#32
  let c0_i32_45 : BitVec 32 := 0#32
  let v109 : BitVec 1 := Scalar.cmpi .sgt c1_i32_42 c0_i32_45
  let v110 : BitVec 32 := Scalar.extui v109
  let c0_i32_46 : BitVec 32 := 0#32
  let v111 : BitVec 1 := Scalar.cmpi .slt c1_i32_42 c0_i32_46
  let v112 : BitVec 32 := Scalar.extui v111
  let v113 : BitVec 32 := Scalar.subi v110 v112
  let v114 : BitVec 1 := Scalar.cmpi .ne v108 v113
  let v115 : BitVec 32 := Scalar.remsi arg1 c1_i32_42
  let c0_i32_47 : BitVec 32 := 0#32
  let v116 : BitVec 1 := Scalar.cmpi .ne v115 c0_i32_47
  let v117 : BitVec 1 := Scalar.andi v114 v116
  let v103 : BitVec 32 := Scalar.divsi arg1 c1_i32_42
  let c1_i32_48 : BitVec 32 := 1#32
  let v118 : BitVec 32 := Scalar.subi v103 c1_i32_48
  let v119 : BitVec 32 := Scalar.select v117 v118 v103
  let c5_i32 : BitVec 32 := 5#32
  let v120 : BitVec 1 := Scalar.cmpi .eq v119 c5_i32
  let v121 : BitVec 32 := Scalar.extui v120
  let c0_i32_49 : BitVec 32 := 0#32
  let v122 : BitVec 1 := Scalar.cmpi .ne v121 c0_i32_49
  v122

def k0_cond8 (i : grid0.Coords) : BitVec 1 :=
  let arg1 : BitVec 32 := BitVec.ofNat 32 (i 1).val
  let c0_i32_51 : BitVec 32 := 0#32
  let v124 : BitVec 1 := Scalar.cmpi .sgt arg1 c0_i32_51
  let v125 : BitVec 32 := Scalar.extui v124
  let c0_i32_52 : BitVec 32 := 0#32
  let v126 : BitVec 1 := Scalar.cmpi .slt arg1 c0_i32_52
  let v127 : BitVec 32 := Scalar.extui v126
  let v128 : BitVec 32 := Scalar.subi v125 v127
  let c1_i32_50 : BitVec 32 := 1#32
  let c0_i32_53 : BitVec 32 := 0#32
  let v129 : BitVec 1 := Scalar.cmpi .sgt c1_i32_50 c0_i32_53
  let v130 : BitVec 32 := Scalar.extui v129
  let c0_i32_54 : BitVec 32 := 0#32
  let v131 : BitVec 1 := Scalar.cmpi .slt c1_i32_50 c0_i32_54
  let v132 : BitVec 32 := Scalar.extui v131
  let v133 : BitVec 32 := Scalar.subi v130 v132
  let v134 : BitVec 1 := Scalar.cmpi .ne v128 v133
  let v135 : BitVec 32 := Scalar.remsi arg1 c1_i32_50
  let c0_i32_55 : BitVec 32 := 0#32
  let v136 : BitVec 1 := Scalar.cmpi .ne v135 c0_i32_55
  let v137 : BitVec 1 := Scalar.andi v134 v136
  let v123 : BitVec 32 := Scalar.divsi arg1 c1_i32_50
  let c1_i32_56 : BitVec 32 := 1#32
  let v138 : BitVec 32 := Scalar.subi v123 c1_i32_56
  let v139 : BitVec 32 := Scalar.select v137 v138 v123
  let c6_i32 : BitVec 32 := 6#32
  let v140 : BitVec 1 := Scalar.cmpi .eq v139 c6_i32
  let v141 : BitVec 32 := Scalar.extui v140
  let c0_i32_57 : BitVec 32 := 0#32
  let v142 : BitVec 1 := Scalar.cmpi .ne v141 c0_i32_57
  v142

def k0_cond9 (i : grid0.Coords) : BitVec 1 :=
  let arg1 : BitVec 32 := BitVec.ofNat 32 (i 1).val
  let c0_i32_59 : BitVec 32 := 0#32
  let v144 : BitVec 1 := Scalar.cmpi .sgt arg1 c0_i32_59
  let v145 : BitVec 32 := Scalar.extui v144
  let c0_i32_60 : BitVec 32 := 0#32
  let v146 : BitVec 1 := Scalar.cmpi .slt arg1 c0_i32_60
  let v147 : BitVec 32 := Scalar.extui v146
  let v148 : BitVec 32 := Scalar.subi v145 v147
  let c1_i32_58 : BitVec 32 := 1#32
  let c0_i32_61 : BitVec 32 := 0#32
  let v149 : BitVec 1 := Scalar.cmpi .sgt c1_i32_58 c0_i32_61
  let v150 : BitVec 32 := Scalar.extui v149
  let c0_i32_62 : BitVec 32 := 0#32
  let v151 : BitVec 1 := Scalar.cmpi .slt c1_i32_58 c0_i32_62
  let v152 : BitVec 32 := Scalar.extui v151
  let v153 : BitVec 32 := Scalar.subi v150 v152
  let v154 : BitVec 1 := Scalar.cmpi .ne v148 v153
  let v155 : BitVec 32 := Scalar.remsi arg1 c1_i32_58
  let c0_i32_63 : BitVec 32 := 0#32
  let v156 : BitVec 1 := Scalar.cmpi .ne v155 c0_i32_63
  let v157 : BitVec 1 := Scalar.andi v154 v156
  let v143 : BitVec 32 := Scalar.divsi arg1 c1_i32_58
  let c1_i32_64 : BitVec 32 := 1#32
  let v158 : BitVec 32 := Scalar.subi v143 c1_i32_64
  let v159 : BitVec 32 := Scalar.select v157 v158 v143
  let c7_i32 : BitVec 32 := 7#32
  let v160 : BitVec 1 := Scalar.cmpi .eq v159 c7_i32
  let v161 : BitVec 32 := Scalar.extui v160
  let c0_i32_65 : BitVec 32 := 0#32
  let v162 : BitVec 1 := Scalar.cmpi .ne v161 c0_i32_65
  v162

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2048x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== AttnKernelIdeal.lean ====
variable {F : FTy → Type} [FloatOps F] [Named F]
def κ : String → Option EReal := fun
  | "mask" => some ⊥
  | _ => none
-- ==== AttnReferenceIdeal.lean ====
abbrev S8x2048x64 : Shape := ⟨3, ![8, 2048, 64]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩

abbrev nBuf : Space → Nat
  | .hbm => 105
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048, .f32⟩
  | .hbm, ⟨4, _⟩ => ⟨S8x2048x64, .f32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S8x2048x1, .f32⟩
  | .hbm, ⟨10, _⟩ => ⟨S8x2048x2048, .f32⟩
  | .hbm, ⟨11, _⟩ => ⟨S8x2048x2048, .f32⟩
  | .hbm, ⟨12, _⟩ => ⟨S8x1x2048, .f32⟩
  | .hbm, ⟨13, _⟩ => ⟨S8x2048x2048, .f32⟩
  | .hbm, ⟨14, _⟩ => ⟨S8x2048x2048, .f32⟩
  | .hbm, ⟨15, _⟩ => ⟨S2048, .i32⟩
  | .hbm, ⟨16, _⟩ => ⟨S2048x1, .i32⟩
  | .hbm, ⟨17, _⟩ => ⟨S2048, .i32⟩
  | .hbm, ⟨18, _⟩ => ⟨S1x2048, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S_, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .i1⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S_, .f32⟩
  | .hbm, ⟨38, _⟩ => ⟨S8x2048, .f32⟩
  | .hbm, ⟨39, _⟩ => ⟨S8x2048, .f32⟩
  | .hbm, ⟨40, _⟩ => ⟨S_, .f32⟩
  | .hbm, ⟨41, _⟩ => ⟨S8x2048, .f32⟩
  | .hbm, ⟨42, _⟩ => ⟨S8x2048, .i1⟩
  | .hbm, ⟨43, _⟩ => ⟨S_, .f32⟩
  | .hbm, ⟨44, _⟩ => ⟨S8x2048, .f32⟩
  | .hbm, ⟨45, _⟩ => ⟨S8x2048, .i1⟩
  | .hbm, ⟨46, _⟩ => ⟨S_, .f32⟩
  | .hbm, ⟨47, _⟩ => ⟨S8x2048, .f32⟩
  | .hbm, ⟨48, _⟩ => ⟨S_, .f32⟩
  | .hbm, ⟨49, _⟩ => ⟨S8x2048, .f32⟩
  | .hbm, ⟨50, _⟩ => ⟨S_, .f32⟩
  | .hbm, ⟨51, _⟩ => ⟨S8x2048, .f32⟩
  | .hbm, ⟨52, _⟩ => ⟨S8x2048, .f32⟩
  | .hbm, ⟨53, _⟩ => ⟨S8x2048, .f32⟩
  | .hbm, ⟨54, _⟩ => ⟨S8x2048x1, .f32⟩
  | .hbm, ⟨55, _⟩ => ⟨S8x2048x2048, .f32⟩
  | .hbm, ⟨56, _⟩ => ⟨S8x2048x2048, .f32⟩
  | .hbm, ⟨57, _⟩ => ⟨S8x2048x2048, .f32⟩
  | .hbm, ⟨58, _⟩ => ⟨S_, .f32⟩
  | .hbm, ⟨59, _⟩ => ⟨S8x2048, .f32⟩
  | .hbm, ⟨60, _⟩ => ⟨S8x2048x1, .f32⟩
  | .hbm, ⟨61, _⟩ => ⟨S8x2048x2048, .f32⟩
  | .hbm, ⟨62, _⟩ => ⟨S8x2048x2048, .f32⟩
  | .hbm, ⟨63, _⟩ => ⟨S8x2048x1, .f32⟩
  | .hbm, ⟨64, _⟩ => ⟨S_, .f32⟩
  | .hbm, ⟨65, _⟩ => ⟨S8x2048x1, .f32⟩
  | .hbm, ⟨66, _⟩ => ⟨S8x2048x1, .f32⟩
  | .hbm, ⟨67, _⟩ => ⟨S8x2048x64, .f32⟩
  | .hbm, ⟨68, _⟩ => ⟨S8x64x2048, .f32⟩
  | .hbm, ⟨69, _⟩ => ⟨S8x2048x64, .f32⟩
  | .hbm, ⟨70, _⟩ => ⟨S8x2048x2048, .f32⟩
  | .hbm, ⟨71, _⟩ => ⟨S8x2048x2048, .f32⟩
  | .hbm, ⟨72, _⟩ => ⟨S8x2048x2048, .f32⟩
  | .hbm, ⟨73, _⟩ => ⟨S8x2048x2048, .f32⟩
  | .hbm, ⟨74, _⟩ => ⟨S_, .f32⟩
  | .hbm, ⟨75, _⟩ => ⟨S8x2048, .f32⟩
  | .hbm, ⟨76, _⟩ => ⟨S8x2048x1, .f32⟩
  | .hbm, ⟨77, _⟩ => ⟨S8x2048x1, .f32⟩
  | .hbm, ⟨78, _⟩ => ⟨S8x2048x2048, .f32⟩
  | .hbm, ⟨79, _⟩ => ⟨S8x2048x2048, .f32⟩
  | .hbm, ⟨80, _⟩ => ⟨S_, .f32⟩
  | .hbm, ⟨81, _⟩ => ⟨S8x2048, .f32⟩
  | .hbm, ⟨82, _⟩ => ⟨S8x2048x2048, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S8x2048x2048, .f32⟩
  | .hbm, ⟨87, _⟩ => ⟨S8x2048x2048, .f32⟩
  | .hbm, ⟨88, _⟩ => ⟨S8x2048x2048, .f32⟩
  | .hbm, ⟨89, _⟩ => ⟨S_, .f32⟩
  | .hbm, ⟨90, _⟩ => ⟨S8x2048, .f32⟩
  | .hbm, ⟨91, _⟩ => ⟨S8x1x2048, .f32⟩
  | .hbm, ⟨92, _⟩ => ⟨S_, .f32⟩
  | .hbm, ⟨93, _⟩ => ⟨S8x2048, .f32⟩
  | .hbm, ⟨94, _⟩ => ⟨S_, .f32⟩
  | .hbm, ⟨95, _⟩ => ⟨S8x2048, .f32⟩
  | .hbm, ⟨96, _⟩ => ⟨S8x2048x1, .f32⟩
  | .hbm, ⟨97, _⟩ => ⟨S_, .f32⟩
  | .hbm, ⟨98, _⟩ => ⟨S8x2048, .f32⟩
  | .hbm, ⟨99, _⟩ => ⟨S8x2048, .f32⟩
  | .hbm, ⟨100, _⟩ => ⟨S_, .f32⟩
  | .hbm, ⟨101, _⟩ => ⟨S8x2048x2048, .f32⟩
  | .hbm, ⟨102, _⟩ => ⟨S8x2048x2048, .f32⟩
  | .hbm, ⟨103, _⟩ => ⟨S8x2048x64, .f32⟩
  | .hbm, ⟨104, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_call0_v0 : Ref sig .tc := ⟨.hbm, 23, rfl⟩
abbrev main_v16_1 : Ref sig .tc := ⟨.hbm, 24, rfl⟩
abbrev main_call0_v2 : Ref sig .tc := ⟨.hbm, 25, rfl⟩
abbrev main_v16_0 : Ref sig .tc := ⟨.hbm, 26, rfl⟩
abbrev main_call0_cst : Ref sig .tc := ⟨.hbm, 27, rfl⟩
abbrev main_v16_2 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_v65 : Ref sig .tc := ⟨.hbm, 93, rfl⟩
abbrev main_cst_15 : Ref sig .tc := ⟨.hbm, 94, rfl⟩
abbrev main_v66 : Ref sig .tc := ⟨.hbm, 95, rfl⟩
abbrev main_v67 : Ref sig .tc := ⟨.hbm, 96, rfl⟩
abbrev main_cst_16 : Ref sig .tc := ⟨.hbm, 97, rfl⟩
abbrev main_v68 : Ref sig .tc := ⟨.hbm, 98, rfl⟩
abbrev main_v69 : Ref sig .tc := ⟨.hbm, 99, rfl⟩
abbrev main_cst_17 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== TailKernel.lean ====
abbrev S2048x1024 : Shape := ⟨2, ![2048, 1024]⟩
abbrev S2048x512 : Shape := ⟨2, ![2048, 512]⟩
abbrev S8x2048x64 : Shape := ⟨3, ![8, 2048, 64]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩
abbrev S1x1 : Shape := ⟨2, ![1, 1]⟩
abbrev S256x1024 : Shape := ⟨2, ![256, 1024]⟩
abbrev S256x512 : Shape := ⟨2, ![256, 512]⟩
abbrev S8x256x64 : Shape := ⟨3, ![8, 256, 64]⟩
abbrev S256x2048 : Shape := ⟨2, ![256, 2048]⟩
abbrev S1x256x64 : Shape := ⟨3, ![1, 256, 64]⟩
abbrev S256x64 : Shape := ⟨2, ![256, 64]⟩
abbrev S256 : Shape := ⟨1, ![256]⟩
abbrev S256x1 : Shape := ⟨2, ![256, 1]⟩
abbrev S1x256x1024 : Shape := ⟨3, ![1, 256, 1024]⟩
abbrev S1 : Shape := ⟨1, ![1]⟩
abbrev S1x1x1 : Shape := ⟨3, ![1, 1, 1]⟩
abbrev S1024 : Shape := ⟨1, ![1024]⟩

abbrev nBuf : Space → Nat
  | .hbm => 23
  | .vmem => 31
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S8x2048x64, .f32⟩
  | .hbm, ⟨4, _⟩ => ⟨S2048x2048, .f32⟩
  | .hbm, ⟨5, _⟩ => ⟨S2048x2048, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S1x1, .f32⟩
  | .hbm, ⟨14, _⟩ => ⟨S1x1024, .f32⟩
  | .hbm, ⟨15, _⟩ => ⟨S1024x1024, .f32⟩
  | .hbm, ⟨16, _⟩ => ⟨S512x1024, .f32⟩
  | .hbm, ⟨17, _⟩ => ⟨S512x1024, .f32⟩
  | .hbm, ⟨18, _⟩ => ⟨S2048x1024, .f32⟩
  | .hbm, ⟨19, _⟩ => ⟨S2048x512, .f32⟩
  | .hbm, ⟨20, _⟩ => ⟨S8x2048x64, .f32⟩
  | .hbm, ⟨21, _⟩ => ⟨S2048x512, .f32⟩
  | .hbm, ⟨22, _⟩ => ⟨S2048x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S8x256x64, .f32⟩
  | .local _ .vmem, ⟨7, _⟩ => ⟨S8x256x64, .f32⟩
  | .local _ .vmem, ⟨8, _⟩ => ⟨S256x512, .f32⟩
  | .local _ .vmem, ⟨9, _⟩ => ⟨S256x512, .f32⟩
  | .local _ .vmem, ⟨10, _⟩ => ⟨S256x2048, .f32⟩
  | .local _ .vmem, ⟨11, _⟩ => ⟨S256x2048, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1, .f32⟩
  | .local _ .vmem, ⟨17, _⟩ => ⟨S1x1024, .f32⟩
  | .local _ .vmem, ⟨18, _⟩ => ⟨S1024x1024, .f32⟩
  | .local _ .vmem, ⟨19, _⟩ => ⟨S512x1024, .f32⟩
  | .local _ .vmem, ⟨20, _⟩ => ⟨S512x1024, .f32⟩
  | .local _ .vmem, ⟨21, _⟩ => ⟨S256x1024, .f32⟩
  | .local _ .vmem, ⟨22, _⟩ => ⟨S256x1024, .f32⟩
  | .local _ .vmem, ⟨23, _⟩ => ⟨S256x512, .f32⟩
  | .local _ .vmem, ⟨24, _⟩ => ⟨S256x512, .f32⟩
  | .local _ .vmem, ⟨25, _⟩ => ⟨S8x256x64, .f32⟩
  | .local _ .vmem, ⟨26, _⟩ => ⟨S8x256x64, .f32⟩
  | .local _ .vmem, ⟨27, _⟩ => ⟨S256x512, .f32⟩
  | .local _ .vmem, ⟨28, _⟩ => ⟨S256x512, .f32⟩
  | .local _ .vmem, ⟨29, _⟩ => ⟨S256x2048, .bf16⟩
  | .local _ .vmem, ⟨30, _⟩ => ⟨S256x2048, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev main_v3_4 : Ref sig .tc := ⟨.hbm, 17, rfl⟩
abbrev main_v3_5 : Ref sig .tc := ⟨.hbm, 18, rfl⟩
abbrev main_v3_6 : Ref sig .tc := ⟨.hbm, 19, rfl⟩
abbrev main_v3_7 : Ref sig .tc := ⟨.hbm, 20, rfl⟩
abbrev main_v3_8 : Ref sig .tc := ⟨.hbm, 21, rfl⟩
abbrev main_v3_9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S8x256x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== TailReferenceIdeal.lean ====
abbrev S2048x1024 : Shape := ⟨2, ![2048, 1024]⟩
abbrev S2048x512 : Shape := ⟨2, ![2048, 512]⟩
abbrev S8x2048x64 : Shape := ⟨3, ![8, 2048, 64]⟩
abbrev S2048x2048 : Shape := ⟨2, ![2048, 2048]⟩
abbrev S512x1024 : Shape := ⟨2, ![512, 1024]⟩
abbrev S1024x1024 : Shape := ⟨2, ![1024, 1024]⟩
abbrev S1x1024 : Shape := ⟨2, ![1, 1024]⟩
abbrev S2048x8x64 : Shape := ⟨3, ![2048, 8, 64]⟩
abbrev S_ : Shape := ⟨0, ![]⟩
abbrev S1024 : Shape := ⟨1, ![1024]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S1024x512 : Shape := ⟨2, ![1024, 512]⟩

abbrev nBuf : Space → Nat
  | .hbm => 168
  | .vmem => 0
  | .smem => 0
  | _ => 0

abbrev hbmTy0_0 (i : Nat) : BufTy := match i % 128 with
  | 0 => ⟨S2048x1024, .f32⟩
  | 1 => ⟨S2048x1024, .f32⟩
  | 2 => ⟨S2048x512, .f32⟩
  | 3 => ⟨S8x2048x64, .f32⟩
  | 4 => ⟨S2048x2048, .f32⟩
  | 5 => ⟨S2048x2048, .f32⟩
  | 6 => ⟨S512x1024, .f32⟩
  | 7 => ⟨S512x1024, .f32⟩
  | 8 => ⟨S1024x1024, .f32⟩
  | 9 => ⟨S1x1024, .f32⟩
  | 10 => ⟨S2048x512, .f32⟩
  | 11 => ⟨S2048x512, .f32⟩
  | 12 => ⟨S2048x512, .f32⟩
  | 13 => ⟨S2048x512, .f32⟩
  | 14 => ⟨S2048x8x64, .f32⟩
  | 15 => ⟨S2048x512, .f32⟩
  | 16 => ⟨S2048x1024, .f32⟩
  | 17 => ⟨S2048x512, .f32⟩
  | 18 => ⟨S2048x512, .f32⟩
  | 19 => ⟨S_, .f32⟩
  | 20 => ⟨S2048x512, .f32⟩
  | 21 => ⟨S2048x512, .f32⟩
  | 22 => ⟨S_, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S2048x512, .f32⟩
  | 29 => ⟨S2048x512, .f32⟩
  | 30 => ⟨S2048x512, .f32⟩
  | 31 => ⟨S2048x1024, .f32⟩
  | 32 => ⟨S2048x1024, .f32⟩
  | 33 => ⟨S2048x1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S_, .f32⟩
  | 43 => ⟨S2048x1024, .f32⟩
  | 44 => ⟨S2048x1024, .f32⟩
  | 45 => ⟨S2048x1024, .f32⟩
  | 46 => ⟨S2048x1024, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S_, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S1024, .f32⟩
  | 64 => ⟨S2048x1024, .f32⟩
  | 65 => ⟨S_, .f32⟩
  | 66 => ⟨S2048, .f32⟩
  | 67 => ⟨S2048x1, .f32⟩
  | 68 => ⟨S_, .f32⟩
  | 69 => ⟨S2048x1, .f32⟩
  | 70 => ⟨S2048x1, .f32⟩
  | 71 => ⟨S_, .f32⟩
  | 72 => ⟨S2048x1, .f32⟩
  | 73 => ⟨S2048x1, .f32⟩
  | 74 => ⟨S2048x1, .f32⟩
  | 75 => ⟨S2048x1, .f32⟩
  | 76 => ⟨S_, .f32⟩
  | 77 => ⟨S2048x1, .f32⟩
  | 78 => ⟨S2048x1, .f32⟩
  | 79 => ⟨S2048x1024, .f32⟩
  | 80 => ⟨S2048x1024, .f32⟩
  | 81 => ⟨S1x1024, .f32⟩
  | 82 => ⟨S2048x1024, .f32⟩
  | 83 => ⟨S2048x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S_, .f32⟩
  | 90 => ⟨S2048, .f32⟩
  | 91 => ⟨S_, .f32⟩
  | 92 => ⟨S2048, .f32⟩
  | 93 => ⟨S2048, .f32⟩
  | 94 => ⟨S_, .f32⟩
  | 95 => ⟨S_, .f32⟩
  | 96 => ⟨S1, .f32⟩
  | 97 => ⟨S1x1, .f32⟩
  | 98 => ⟨S_, .f32⟩
  | 99 => ⟨S1x1, .f32⟩
  | 100 => ⟨S1x1, .f32⟩
  | 101 => ⟨S_, .f32⟩
  | 102 => ⟨S1x1, .f32⟩
  | 103 => ⟨S_, .f32⟩
  | 104 => ⟨S1x1, .f32⟩
  | 105 => ⟨S1x1, .f32⟩
  | 106 => ⟨S_, .f32⟩
  | 107 => ⟨S_, .f32⟩
  | 108 => ⟨S1, .f32⟩
  | 109 => ⟨S_, .f32⟩
  | 110 => ⟨S_, .f32⟩
  | 111 => ⟨S2048, .f32⟩
  | 112 => ⟨S_, .f32⟩
  | 113 => ⟨S2048, .f32⟩
  | 114 => ⟨S2048, .f32⟩
  | 115 => ⟨S2048x1024, .f32⟩
  | 116 => ⟨S2048x1024, .f32⟩
  | 117 => ⟨S2048x1024, .f32⟩
  | 118 => ⟨S_, .f32⟩
  | 119 => ⟨S1024, .f32⟩
  | 120 => ⟨S1x1024, .f32⟩
  | 121 => ⟨S2048x1024, .f32⟩
  | 122 => ⟨S2048x1024, .f32⟩
  | 123 => ⟨S_, .f32⟩
  | 124 => ⟨S1024, .f32⟩
  | 125 => ⟨S2048x1024, .f32⟩
  | 126 => ⟨S_, .f32⟩
  | 127 => ⟨S2048, .f32⟩
  | _ => ⟨S2048x1024, .f32⟩

abbrev hbmTy0_1 (i : Nat) : BufTy := match i % 128 with
  | 0 => ⟨S2048x1, .f32⟩
  | 1 => ⟨S2048x1024, .f32⟩
  | 2 => ⟨S2048x1024, .f32⟩
  | 3 => ⟨S2048x1, .f32⟩
  | 4 => ⟨S_, .f32⟩
  | 5 => ⟨S2048x1, .f32⟩
  | 6 => ⟨S2048x1, .f32⟩
  | 7 => ⟨S_, .f32⟩
  | 8 => ⟨S2048, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S1x1024, .f32⟩
  | 15 => ⟨S1024x1024, .f32⟩
  | 16 => ⟨S1024x1024, .f32⟩
  | 17 => ⟨S2048x1024, .f32⟩
  | 18 => ⟨S2048x1024, .f32⟩
  | 19 => ⟨S2048x1024, .f32⟩
  | 20 => ⟨S2048x1024, .f32⟩
  | 21 => ⟨S2048x1024, .f32⟩
  | 22 => ⟨S2048x1024, .f32⟩
  | 23 => ⟨S2048x1024, .f32⟩
  | 24 => ⟨S2048x2048, .f32⟩
  | 25 => ⟨S1024x512, .f32⟩
  | 26 => ⟨S512x1024, .f32⟩
  | 27 => ⟨S2048x512, .f32⟩
  | 28 => ⟨S2048x512, .f32⟩
  | 29 => ⟨S2048x512, .f32⟩
  | 30 => ⟨S2048x512, .f32⟩
  | 31 => ⟨S2048x512, .f32⟩
  | 32 => ⟨S2048x512, .f32⟩
  | 33 => ⟨S2048x512, .f32⟩
  | 34 => ⟨S1024x512, .f32⟩
  | 35 => ⟨S512x1024, .f32⟩
  | 36 => ⟨S2048x512, .f32⟩
  | 37 => ⟨S2048x8x64, .f32⟩
  | 38 => ⟨S8x2048x64, .f32⟩
  | 39 => ⟨S2048x2048, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v7_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v7_1 : Ref sig .tc := ⟨.hbm, 28, rfl⟩
abbrev main_v7_0 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_cst_6 : Ref sig .tc := ⟨.hbm, 68, rfl⟩
abbrev main_v39 : Ref sig .tc := ⟨.hbm, 69, rfl⟩
abbrev main_v40 : Ref sig .tc := ⟨.hbm, 70, rfl⟩
abbrev main_cst_7 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_8 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_9 : Ref sig .tc := ⟨.hbm, 86, rfl⟩
abbrev main_v54 : Ref sig .tc := ⟨.hbm, 87, rfl⟩
abbrev main_v55 : Ref sig .tc := ⟨.hbm, 88, rfl⟩
abbrev main_cst_10 : Ref sig .tc := ⟨.hbm, 89, rfl⟩
abbrev main_v56 : Ref sig .tc := ⟨.hbm, 90, rfl⟩
abbrev main_cst_11 : Ref sig .tc := ⟨.hbm, 91, rfl⟩
abbrev main_v57 : Ref sig .tc := ⟨.hbm, 92, rfl⟩
abbrev main_v58 : Ref sig .tc := ⟨.hbm, 93, rfl⟩
abbrev main_cst_12 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_cst_15 : Ref sig .tc := ⟨.hbm, 103, rfl⟩
abbrev main_v65 : Ref sig .tc := ⟨.hbm, 104, rfl⟩
abbrev main_v66 : Ref sig .tc := ⟨.hbm, 105, rfl⟩
abbrev main_cst_16 : Ref sig .tc := ⟨.hbm, 106, rfl⟩
abbrev main_v67 : Ref sig .tc := ⟨.hbm, 107, rfl⟩
abbrev main_v68 : Ref sig .tc := ⟨.hbm, 108, rfl⟩
abbrev main_cst_17 : Ref sig .tc := ⟨.hbm, 109, rfl⟩
abbrev main_v69 : Ref sig .tc := ⟨.hbm, 110, rfl⟩
abbrev main_v70 : Ref sig .tc := ⟨.hbm, 111, rfl⟩
abbrev main_cst_18 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_19 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_cst_20 : Ref sig .tc := ⟨.hbm, 123, rfl⟩
abbrev main_v80 : Ref sig .tc := ⟨.hbm, 124, rfl⟩
abbrev main_v81 : Ref sig .tc := ⟨.hbm, 125, rfl⟩
abbrev main_cst_21 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_cst_23 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_call1_v0 : Ref sig .tc := ⟨.hbm, 158, rfl⟩
abbrev main_call1_v1 : Ref sig .tc := ⟨.hbm, 159, rfl⟩
abbrev main_call1_v2 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩

abbrev nD : Nat := 1
abbrev τ : Topo := Topo.v7x

variable {F : FTy → Type} [FloatOps F]
-- ==== FoxpreKernel.lean ====
abbrev S2048x2056 : Shape := ⟨2, ![2048, 2056]⟩
abbrev S1x8 : Shape := ⟨2, ![1, 8]⟩
abbrev S1x64 : Shape := ⟨2, ![1, 64]⟩
abbrev S8x2048x64 : Shape := ⟨3, ![8, 2048, 64]⟩
abbrev S2048x512 : Shape := ⟨2, ![2048, 512]⟩
abbrev S8x2048 : Shape := ⟨2, ![8, 2048]⟩
abbrev S2048x2048 : Shape := ⟨2, ![2048, 2048]⟩
abbrev S2048x8 : Shape := ⟨2, ![2048, 8]⟩
abbrev S_ : Shape := ⟨0, ![]⟩
abbrev S2048x128 : Shape := ⟨2, ![2048, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x128 : Shape := ⟨2, ![1, 128]⟩
abbrev S256x2048 : Shape := ⟨2, ![256, 2048]⟩
abbrev S256x128 : Shape := ⟨2, ![256, 128]⟩
abbrev S8x256x64 : Shape := ⟨3, ![8, 256, 64]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S1x256x64 : Shape := ⟨3, ![1, 256, 64]⟩
abbrev S256x64 : Shape := ⟨2, ![256, 64]⟩
abbrev S128 : Shape := ⟨1, ![128]⟩
abbrev S512 : Shape := ⟨1, ![512]⟩
abbrev S256x384 : Shape := ⟨2, ![256, 384]⟩

abbrev nBuf : Space → Nat
  | .hbm => 37
  | .vmem => 27
  | .smem => 0
  | _ => 0

abbrev bufTy : (tb : Table) → Fin (tcTables nBuf tb) → BufTy
  | .hbm, ⟨0, _⟩ => ⟨S2048x2056, .f32⟩
  | .hbm, ⟨1, _⟩ => ⟨S1x8, .f32⟩
  | .hbm, ⟨2, _⟩ => ⟨S1x64, .f32⟩
  | .hbm, ⟨3, _⟩ => ⟨S1x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S2048x512, .f32⟩
  | .hbm, ⟨8, _⟩ => ⟨S8x2048, .f32⟩
  | .hbm, ⟨9, _⟩ => ⟨S8x2048, .f32⟩
  | .hbm, ⟨10, _⟩ => ⟨S2048x2048, .f32⟩
  | .hbm, ⟨11, _⟩ => ⟨S2048x8, .f32⟩
  | .hbm, ⟨12, _⟩ => ⟨S_, .i32⟩
  | .hbm, ⟨13, _⟩ => ⟨S_, .f32⟩
  | .hbm, ⟨14, _⟩ => ⟨S2048x128, .f32⟩
  | .hbm, ⟨15, _⟩ => ⟨S1x1x1x64, .f32⟩
  | .hbm, ⟨16, _⟩ => ⟨S1x1x8x64, .f32⟩
  | .hbm, ⟨17, _⟩ => ⟨S1x512, .f32⟩
  | .hbm, ⟨18, _⟩ => ⟨S1x1x1x64, .f32⟩
  | .hbm, ⟨19, _⟩ => ⟨S1x1x8x64, .f32⟩
  | .hbm, ⟨20, _⟩ => ⟨S1x512, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S2048x8, .f32⟩
  | .hbm, ⟨25, _⟩ => ⟨S_, .i32⟩
  | .hbm, ⟨26, _⟩ => ⟨S_, .f32⟩
  | .hbm, ⟨27, _⟩ => ⟨S2048x128, .f32⟩
  | .hbm, ⟨28, _⟩ => ⟨S2048x8, .f32⟩
  | .hbm, ⟨29, _⟩ => ⟨S_, .i32⟩
  | .hbm, ⟨30, _⟩ => ⟨S_, .f32⟩
  | .hbm, ⟨31, _⟩ => ⟨S2048x128, .f32⟩
  | .hbm, ⟨32, _⟩ => ⟨S2048x2048, .bf16⟩
  | .hbm, ⟨33, _⟩ => ⟨S2048x128, .bf16⟩
  | .hbm, ⟨34, _⟩ => ⟨S1x64, .f32⟩
  | .hbm, ⟨35, _⟩ => ⟨S1x64, .f32⟩
  | .hbm, ⟨36, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S1x512, .f32⟩
  | .local _ .vmem, ⟨5, _⟩ => ⟨S1x512, .f32⟩
  | .local _ .vmem, ⟨6, _⟩ => ⟨S1x128, .f32⟩
  | .local _ .vmem, ⟨7, _⟩ => ⟨S8x256x64, .f32⟩
  | .local _ .vmem, ⟨8, _⟩ => ⟨S8x256x64, .f32⟩
  | .local _ .vmem, ⟨9, _⟩ => ⟨S8x256x64, .f32⟩
  | .local _ .vmem, ⟨10, _⟩ => ⟨S8x256x64, .f32⟩
  | .local _ .vmem, ⟨11, _⟩ => ⟨S8x256x64, .f32⟩
  | .local _ .vmem, ⟨12, _⟩ => ⟨S8x256x64, .f32⟩
  | .local _ .vmem, ⟨13, _⟩ => ⟨S256x512, .f32⟩
  | .local _ .vmem, ⟨14, _⟩ => ⟨S256x512, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x2048, .bf16⟩
  | .local _ .vmem, ⟨20, _⟩ => ⟨S256x2048, .bf16⟩
  | .local _ .vmem, ⟨21, _⟩ => ⟨S256x128, .bf16⟩
  | .local _ .vmem, ⟨22, _⟩ => ⟨S256x128, .bf16⟩
  | .local _ .vmem, ⟨23, _⟩ => ⟨S1x64, .f32⟩
  | .local _ .vmem, ⟨24, _⟩ => ⟨S1x64, .f32⟩
  | .local _ .vmem, ⟨25, _⟩ => ⟨S1x128, .f32⟩
  | .local _ .vmem, ⟨26, _⟩ => ⟨S1x128, .f32⟩
  | _, _ => ⟨S2048x2056, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_call2_v0 : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_call3_v0 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v14_2 : Ref sig .tc := ⟨.hbm, 34, rfl⟩
abbrev main_v14_3 : Ref sig .tc := ⟨.hbm, 35, rfl⟩
abbrev main_v14_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_7 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== FoxpreReferenceIdeal.lean ====
abbrev S2048x2056 : Shape := ⟨2, ![2048, 2056]⟩
abbrev S1x8 : Shape := ⟨2, ![1, 8]⟩
abbrev S1x64 : Shape := ⟨2, ![1, 64]⟩
abbrev S8x2048x64 : Shape := ⟨3, ![8, 2048, 64]⟩
abbrev S2048x512 : Shape := ⟨2, ![2048, 512]⟩
abbrev S8x2048 : Shape := ⟨2, ![8, 2048]⟩
abbrev S2048x8 : Shape := ⟨2, ![2048, 8]⟩
abbrev S2048x8x64 : Shape := ⟨3, ![2048, 8, 64]⟩
abbrev S64 : Shape := ⟨1, ![64]⟩
abbrev S_ : Shape := ⟨0, ![]⟩
abbrev S2048x8x1 : Shape := ⟨3, ![2048, 8, 1]⟩
abbrev S1x1x64 : Shape := ⟨3, ![1, 1, 64]⟩
abbrev S8 : Shape := ⟨1, ![8]⟩
abbrev S2048x128 : Shape := ⟨2, ![2048, 128]⟩
abbrev S1x128 : Shape := ⟨2, ![1, 128]⟩
abbrev S2048x2048 : Shape := ⟨2, ![2048, 2048]⟩

abbrev nBuf : Space → Nat
  | .hbm => 197
  | .vmem => 0
  | .smem => 0
  | _ => 0

abbrev hbmTy0_0 (i : Nat) : BufTy := match i % 128 with
  | 0 => ⟨S2048x2056, .f32⟩
  | 1 => ⟨S1x8, .f32⟩
  | 2 => ⟨S1x64, .f32⟩
  | 3 => ⟨S1x64, .f32⟩
  | 4 => ⟨S8x2048x64, .f32⟩
  | 5 => ⟨S8x2048x64, .f32⟩
  | 6 => ⟨S8x2048x64, .f32⟩
  | 7 => ⟨S2048x512, .f32⟩
  | 8 => ⟨S8x2048, .f32⟩
  | 9 => ⟨S8x2048, .f32⟩
  | 10 => ⟨S2048x512, .f32⟩
  | 11 => ⟨S2048x512, .f32⟩
  | 12 => ⟨S2048x512, .f32⟩
  | 13 => ⟨S2048x512, .f32⟩
  | 14 => ⟨S2048x8, .f32⟩
  | 15 => ⟨S2048x8x64, .f32⟩
  | 16 => ⟨S64, .f32⟩
  | 17 => ⟨S2048x8x64, .f32⟩
  | 18 => ⟨S_, .f32⟩
  | 19 => ⟨S2048x8, .f32⟩
  | 20 => ⟨S2048x8x1, .f32⟩
  | 21 => ⟨S_, .f32⟩
  | 22 => ⟨S2048x8x1, .f32⟩
  | 23 => ⟨S2048x8x1, .f32⟩
  | 24 => ⟨S_, .f32⟩
  | 25 => ⟨S2048x8x1, .f32⟩
  | 26 => ⟨S2048x8x1, .f32⟩
  | 27 => ⟨S2048x8x1, .f32⟩
  | 28 => ⟨S2048x8x1, .f32⟩
  | 29 => ⟨S_, .f32⟩
  | 30 => ⟨S2048x8x1, .f32⟩
  | 31 => ⟨S2048x8x1, .f32⟩
  | 32 => ⟨S2048x8x64, .f32⟩
  | 33 => ⟨S2048x8x64, .f32⟩
  | 34 => ⟨S1x1x64, .f32⟩
  | 35 => ⟨S2048x8x64, .f32⟩
  | 36 => ⟨S2048x8x64, .f32⟩
  | 37 => ⟨S8x2048x64, .f32⟩
  | 38 => ⟨S2048x8x64, .f32⟩
  | 39 => ⟨S64, .f32⟩
  | 40 => ⟨S2048x8x64, .f32⟩
  | 41 => ⟨S_, .f32⟩
  | 42 => ⟨S2048x8, .f32⟩
  | 43 => ⟨S2048x8x1, .f32⟩
  | 44 => ⟨S_, .f32⟩
  | 45 => ⟨S2048x8x1, .f32⟩
  | 46 => ⟨S2048x8x1, .f32⟩
  | 47 => ⟨S_, .f32⟩
  | 48 => ⟨S2048x8x1, .f32⟩
  | 49 => ⟨S2048x8x1, .f32⟩
  | 50 => ⟨S2048x8x1, .f32⟩
  | 51 => ⟨S2048x8x1, .f32⟩
  | 52 => ⟨S_, .f32⟩
  | 53 => ⟨S2048x8x1, .f32⟩
  | 54 => ⟨S2048x8x1, .f32⟩
  | 55 => ⟨S2048x8x64, .f32⟩
  | 56 => ⟨S2048x8x64, .f32⟩
  | 57 => ⟨S1x1x64, .f32⟩
  | 58 => ⟨S2048x8x64, .f32⟩
  | 59 => ⟨S2048x8x64, .f32⟩
  | 60 => ⟨S8x2048x64, .f32⟩
  | 61 => ⟨S2048x8x64, .f32⟩
  | 62 => ⟨S8x2048x64, .f32⟩
  | 63 => ⟨S2048x8, .f32⟩
  | 64 => ⟨S2048x8, .f32⟩
  | 65 => ⟨S2048x8, .f32⟩
  | 66 => ⟨S_, .f32⟩
  | 67 => ⟨S2048x8, .f32⟩
  | 68 => ⟨S2048x8, .f32⟩
  | 69 => ⟨S2048x8, .f32⟩
  | 70 => ⟨S2048x8, .f32⟩
  | 71 => ⟨S2048x8, .i1⟩
  | 72 => ⟨S2048x8, .f32⟩
  | 73 => ⟨S2048x8, .f32⟩
  | 74 => ⟨S2048x8, .f32⟩
  | 75 => ⟨S2048x8, .f32⟩
  | 76 => ⟨S2048x8, .f32⟩
  | 77 => ⟨S2048x8, .f32⟩
  | 78 => ⟨S2048x8, .f32⟩
  | 79 => ⟨S2048x8, .f32⟩
  | 80 => ⟨S_, .f32⟩
  | 81 => ⟨S2048x8, .f32⟩
  | 82 => ⟨S2048x8, .i1⟩
  | 83 => ⟨S_, .f32⟩
  | 84 => ⟨S2048x8, .f32⟩
  | 85 => ⟨S2048x8, .f32⟩
  | 86 => ⟨S_, .f32⟩
  | 87 => ⟨S2048x8, .f32⟩
  | 88 => ⟨S2048x8, .i1⟩
  | 89 => ⟨S_, .f32⟩
  | 90 => ⟨S2048x8, .f32⟩
  | 91 => ⟨S2048x8, .f32⟩
  | 92 => ⟨S2048x8, .f32⟩
  | 93 => ⟨S2048x8, .f32⟩
  | 94 => ⟨S_, .f32⟩
  | 95 => ⟨S_, .f32⟩
  | 96 => ⟨S_, .i1⟩
  | 97 => ⟨S_, .f32⟩
  | 98 => ⟨S_, .f32⟩
  | 99 => ⟨S_, .f32⟩
  | 100 => ⟨S_, .f32⟩
  | 101 => ⟨S2048x8, .f32⟩
  | 102 => ⟨S2048x8, .i1⟩
  | 103 => ⟨S_, .f32⟩
  | 104 => ⟨S2048x8, .f32⟩
  | 105 => ⟨S2048x8, .f32⟩
  | 106 => ⟨S2048x8, .f32⟩
  | 107 => ⟨S2048x8, .f32⟩
  | 108 => ⟨S2048x8, .f32⟩
  | 109 => ⟨S_, .f32⟩
  | 110 => ⟨S2048x8, .f32⟩
  | 111 => ⟨S2048x8, .f32⟩
  | 112 => ⟨S2048x8, .f32⟩
  | 113 => ⟨S_, .f32⟩
  | 114 => ⟨S_, .f32⟩
  | 115 => ⟨S2048x8, .f32⟩
  | 116 => ⟨S8x2048, .f32⟩
  | 117 => ⟨S8x2048, .f32⟩
  | 118 => ⟨S2048x8, .f32⟩
  | 119 => ⟨S_, .f32⟩
  | 120 => ⟨S_, .f32⟩
  | 121 => ⟨S2048x8, .f32⟩
  | 122 => ⟨S2048x8, .f32⟩
  | 123 => ⟨S2048x8, .f32⟩
  | 124 => ⟨S2048x8, .f32⟩
  | 125 => ⟨S_, .f32⟩
  | 126 => ⟨S8, .f32⟩
  | 127 => ⟨S1x8, .f32⟩
  | _ => ⟨S2048x2056, .f32⟩

abbrev hbmTy0_1 (i : Nat) : BufTy := match i % 128 with
  | 0 => ⟨S2048x8x64, .f32⟩
  | 1 => ⟨S2048x512, .f32⟩
  | 2 => ⟨S2048x8x64, .f32⟩
  | 3 => ⟨S2048x8x64, .f32⟩
  | 4 => ⟨S_, .f32⟩
  | 5 => ⟨S64, .f32⟩
  | 6 => ⟨S1x1x64, .f32⟩
  | 7 => ⟨S2048x8x64, .f32⟩
  | 8 => ⟨S2048x8x64, .f32⟩
  | 9 => ⟨S_, .f32⟩
  | 10 => ⟨S64, .f32⟩
  | 11 => ⟨S2048x8x64, .f32⟩
  | 12 => ⟨S_, .f32⟩
  | 13 => ⟨S2048x8, .f32⟩
  | 14 => ⟨S2048x8x1, .f32⟩
  | 15 => ⟨S2048x8x64, .f32⟩
  | 16 => ⟨S2048x8x64, .f32⟩
  | 17 => ⟨S2048x8x1, .f32⟩
  | 18 => ⟨S_, .f32⟩
  | 19 => ⟨S2048x8x1, .f32⟩
  | 20 => ⟨S2048x8x1, .f32⟩
  | 21 => ⟨S_, .f32⟩
  | 22 => ⟨S2048x8, .f32⟩
  | 23 => ⟨S2048x8x64, .f32⟩
  | 24 => ⟨S2048x8x64, .f32⟩
  | 25 => ⟨S2048x8x64, .f32⟩
  | 26 => ⟨S2048x8x64, .f32⟩
  | 27 => ⟨S2048x8x64, .f32⟩
  | 28 => ⟨S1x64, .f32⟩
  | 29 => ⟨S2048x512, .f32⟩
  | 30 => ⟨S2048x8x64, .f32⟩
  | 31 => ⟨S2048x8x64, .f32⟩
  | 32 => ⟨S_, .f32⟩
  | 33 => ⟨S64, .f32⟩
  | 34 => ⟨S1x1x64, .f32⟩
  | 35 => ⟨S2048x8x64, .f32⟩
  | 36 => ⟨S2048x8x64, .f32⟩
  | 37 => ⟨S_, .f32⟩
  | 38 => ⟨S64, .f32⟩
  | 39 => ⟨S2048x8x64, .f32⟩
  | 40 => ⟨S_, .f32⟩
  | 41 => ⟨S2048x8, .f32⟩
  | 42 => ⟨S2048x8x1, .f32⟩
  | 43 => ⟨S2048x8x64, .f32⟩
  | 44 => ⟨S2048x8x64, .f32⟩
  | 45 => ⟨S2048x8x1, .f32⟩
  | 46 => ⟨S_, .f32⟩
  | 47 => ⟨S2048x8x1, .f32⟩
  | 48 => ⟨S2048x8x1, .f32⟩
  | 49 => ⟨S_, .f32⟩
  | 50 => ⟨S2048x8, .f32⟩
  | 51 => ⟨S2048x8x64, .f32⟩
  | 52 => ⟨S2048x8x64, .f32⟩
  | 53 => ⟨S2048x8x64, .f32⟩
  | 54 => ⟨S2048x8x64, .f32⟩
  | 55 => ⟨S2048x8x64, .f32⟩
  | 56 => ⟨S1x64, .f32⟩
  | 57 => ⟨S2048x512, .f32⟩
  | 58 => ⟨S2048x2056, .f32⟩
  | 59 => ⟨S2048x8, .f32⟩
  | 60 => ⟨S_, .i32⟩
  | 61 => ⟨S_, .f32⟩
  | 62 => ⟨S2048x128, .f32⟩
  | 63 => ⟨S_, .i32⟩
  | 64 => ⟨S_, .f32⟩
  | 65 => ⟨S1x128, .f32⟩
  | 66 => ⟨S2048x2048, .f32⟩
  | 67 => ⟨S2048x2048, .bf16⟩
  | 68 => ⟨S2048x128, .bf16⟩
  | _ => ⟨S2048x2056, .f32⟩

abbrev hbmTy (i : Nat) : BufTy := match i / 128 with
  | 0 => hbmTy0_0 i
  | 1 => hbmTy0_1 i
  | _ => ⟨S2048x2056, .f32⟩

abbrev bufTy : (tb : Table) → Fin (tcTables nBuf tb) → BufTy
  | .hbm, ⟨i, _⟩ => hbmTy i
  | _, _ => ⟨S2048x2056, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call0_v0 : Ref sig .tc := ⟨.hbm, 65, rfl⟩
abbrev main_call0_call0_cst : Ref sig .tc := ⟨.hbm, 66, rfl⟩
abbrev main_call0_call0_v0 : Ref sig .tc := ⟨.hbm, 67, rfl⟩
abbrev main_call0_call0_v1 : Ref sig .tc := ⟨.hbm, 68, rfl⟩
abbrev main_call0_call0_v2 : Ref sig .tc := ⟨.hbm, 69, rfl⟩
abbrev main_call0_call0_v3 : Ref sig .tc := ⟨.hbm, 70, rfl⟩
abbrev main_call0_call0_v4 : Ref sig .tc := ⟨.hbm, 71, rfl⟩
abbrev main_call0_call0_v5 : Ref sig .tc := ⟨.hbm, 72, rfl⟩
abbrev main_call0_call0_v6 : Ref sig .tc := ⟨.hbm, 73, rfl⟩
abbrev main_call0_call0_v7 : Ref sig .tc := ⟨.hbm, 74, rfl⟩
abbrev main_call0_call0_v8 : Ref sig .tc := ⟨.hbm, 75, rfl⟩
abbrev main_call0_call0_v9 : Ref sig .tc := ⟨.hbm, 76, rfl⟩
abbrev main_call0_call0_v10 : Ref sig .tc := ⟨.hbm, 77, rfl⟩
abbrev main_call0_call0_v11 : Ref sig .tc := ⟨.hbm, 78, rfl⟩
abbrev main_call0_v1_0 : Ref sig .tc := ⟨.hbm, 79, rfl⟩
abbrev main_call0_call0_cst_0 : Ref sig .tc := ⟨.hbm, 80, rfl⟩
abbrev main_call0_call0_v13 : Ref sig .tc := ⟨.hbm, 81, rfl⟩
abbrev main_call0_call0_v14 : Ref sig .tc := ⟨.hbm, 82, rfl⟩
abbrev main_call0_call0_cst_1 : Ref sig .tc := ⟨.hbm, 83, rfl⟩
abbrev main_call0_call0_v15 : Ref sig .tc := ⟨.hbm, 84, rfl⟩
abbrev main_call0_call0_v16 : Ref sig .tc := ⟨.hbm, 85, rfl⟩
abbrev main_call0_call0_cst_2 : Ref sig .tc := ⟨.hbm, 86, rfl⟩
abbrev main_call0_call0_v17 : Ref sig .tc := ⟨.hbm, 87, rfl⟩
abbrev main_call0_call0_v18 : Ref sig .tc := ⟨.hbm, 88, rfl⟩
abbrev main_call0_call0_cst_3 : Ref sig .tc := ⟨.hbm, 89, rfl⟩
abbrev main_call0_call0_v19 : Ref sig .tc := ⟨.hbm, 90, rfl⟩
abbrev main_call0_call0_v20 : Ref sig .tc := ⟨.hbm, 91, rfl⟩
abbrev main_call0_call0_v21 : Ref sig .tc := ⟨.hbm, 92, rfl⟩
abbrev main_v47_1 : Ref sig .tc := ⟨.hbm, 93, rfl⟩
abbrev main_call0_call0_cst_4 : Ref sig .tc := ⟨.hbm, 94, rfl⟩
abbrev main_call0_call0_cst_5 : Ref sig .tc := ⟨.hbm, 95, rfl⟩
abbrev main_call0_call0_v23 : Ref sig .tc := ⟨.hbm, 96, rfl⟩
abbrev main_call0_call0_cst_6 : Ref sig .tc := ⟨.hbm, 97, rfl⟩
abbrev main_call0_call0_cst_7 : Ref sig .tc := ⟨.hbm, 98, rfl⟩
abbrev main_call0_call0_v24 : Ref sig .tc := ⟨.hbm, 99, rfl⟩
abbrev main_call0_call0_cst_8 : Ref sig .tc := ⟨.hbm, 100, rfl⟩
abbrev main_call0_call0_v25 : Ref sig .tc := ⟨.hbm, 101, rfl⟩
abbrev main_call0_call0_v26 : Ref sig .tc := ⟨.hbm, 102, rfl⟩
abbrev main_call0_call0_cst_9 : Ref sig .tc := ⟨.hbm, 103, rfl⟩
abbrev main_call0_call0_v27 : Ref sig .tc := ⟨.hbm, 104, rfl⟩
abbrev main_call0_call0_v28 : Ref sig .tc := ⟨.hbm, 105, rfl⟩
abbrev main_call0_call0_v29 : Ref sig .tc := ⟨.hbm, 106, rfl⟩
abbrev main_call0_call0_v30 : Ref sig .tc := ⟨.hbm, 107, rfl⟩
abbrev main_call0_call0_v31 : Ref sig .tc := ⟨.hbm, 108, rfl⟩
abbrev main_call0_call0_cst_10 : Ref sig .tc := ⟨.hbm, 109, rfl⟩
abbrev main_call0_call0_v32 : Ref sig .tc := ⟨.hbm, 110, rfl⟩
abbrev main_v47_2 : Ref sig .tc := ⟨.hbm, 111, rfl⟩
abbrev main_v47_0 : Ref sig .tc := ⟨.hbm, 112, rfl⟩
abbrev main_call1_call0_cst : Ref sig .tc := ⟨.hbm, 113, rfl⟩
abbrev main_call1_call0_v0 : Ref sig .tc := ⟨.hbm, 114, rfl⟩
abbrev main_v48 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_call2_call0_cst : Ref sig .tc := ⟨.hbm, 119, rfl⟩
abbrev main_call2_call0_v0 : Ref sig .tc := ⟨.hbm, 120, rfl⟩
abbrev main_v52 : Ref sig .tc := ⟨.hbm, 121, rfl⟩
abbrev main_call3_v0 : Ref sig .tc := ⟨.hbm, 122, rfl⟩
abbrev main_call3_v1 : Ref sig .tc := ⟨.hbm, 123, rfl⟩
abbrev main_v53 : Ref sig .tc := ⟨.hbm, 124, rfl⟩
abbrev main_cst_7 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_cst_8 : Ref sig .tc := ⟨.hbm, 132, rfl⟩
abbrev main_v60 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_cst_9 : Ref sig .tc := ⟨.hbm, 137, rfl⟩
abbrev main_v64 : Ref sig .tc := ⟨.hbm, 138, rfl⟩
abbrev main_v65 : Ref sig .tc := ⟨.hbm, 139, rfl⟩
abbrev main_cst_10 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_11 : Ref sig .tc := ⟨.hbm, 146, rfl⟩
abbrev main_v71 : Ref sig .tc := ⟨.hbm, 147, rfl⟩
abbrev main_v72 : Ref sig .tc := ⟨.hbm, 148, rfl⟩
abbrev main_cst_12 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_cst_13 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_cst_14 : Ref sig .tc := ⟨.hbm, 165, rfl⟩
abbrev main_v87 : Ref sig .tc := ⟨.hbm, 166, rfl⟩
abbrev main_v88 : Ref sig .tc := ⟨.hbm, 167, rfl⟩
abbrev main_cst_15 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_cst_16 : Ref sig .tc := ⟨.hbm, 174, rfl⟩
abbrev main_v94 : Ref sig .tc := ⟨.hbm, 175, rfl⟩
abbrev main_v95 : Ref sig .tc := ⟨.hbm, 176, rfl⟩
abbrev main_cst_17 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_c : Ref sig .tc := ⟨.hbm, 188, rfl⟩
abbrev main_call4_v0 : Ref sig .tc := ⟨.hbm, 189, rfl⟩
abbrev main_v106 : Ref sig .tc := ⟨.hbm, 190, rfl⟩
abbrev main_c_18 : Ref sig .tc := ⟨.hbm, 191, rfl⟩
abbrev main_call5_v0 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩

abbrev nD : Nat := 1
abbrev τ : Topo := Topo.v7x

variable {F : FTy → Type} [FloatOps F]
-- ==== PostKernel.lean ====
abbrev S2048x512 : Shape := ⟨2, ![2048, 512]⟩
abbrev S1x512 : Shape := ⟨2, ![1, 512]⟩
abbrev S8x64 : Shape := ⟨2, ![8, 64]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x384 : Shape := ⟨2, ![256, 384]⟩
abbrev S256x256 : Shape := ⟨2, ![256, 256]⟩
abbrev S512 : Shape := ⟨1, ![512]⟩

abbrev nBuf : Space → Nat
  | .hbm => 18
  | .vmem => 28
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S1x512, .f32⟩
  | .hbm, ⟨6, _⟩ => ⟨S1x512, .f32⟩
  | .hbm, ⟨7, _⟩ => ⟨S8x64, .f32⟩
  | .hbm, ⟨8, _⟩ => ⟨S2048x512, .f32⟩
  | .hbm, ⟨9, _⟩ => ⟨S1x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S1x512, .f32⟩
  | .hbm, ⟨16, _⟩ => ⟨S1x512, .f32⟩
  | .hbm, ⟨17, _⟩ => ⟨S1x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev main_v1_6 : Ref sig .tc := ⟨.hbm, 16, rfl⟩
abbrev main_v1_7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem15_0 : DmaSem sig := 26
abbrev cc0_sem16_0 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== PostReferenceIdeal.lean ====
abbrev S2048x512 : Shape := ⟨2, ![2048, 512]⟩
abbrev S1x512 : Shape := ⟨2, ![1, 512]⟩
abbrev S8x64 : Shape := ⟨2, ![8, 64]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x8x64 : Shape := ⟨3, ![1, 8, 64]⟩

abbrev nBuf : Space → Nat
  | .hbm => 153
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x512, .f32⟩
  | 5 => ⟨S1x512, .f32⟩
  | 6 => ⟨S1x512, .f32⟩
  | 7 => ⟨S8x64, .f32⟩
  | 8 => ⟨S2048x512, .f32⟩
  | 9 => ⟨S2048x8x64, .f32⟩
  | 10 => ⟨S2048x8x64, .f32⟩
  | 11 => ⟨S2048x8x64, .f32⟩
  | 12 => ⟨S2048x8x64, .f32⟩
  | 13 => ⟨S_, .f32⟩
  | 14 => ⟨S2048x8, .f32⟩
  | 15 => ⟨S2048x8x1, .f32⟩
  | 16 => ⟨S_, .f32⟩
  | 17 => ⟨S2048x8x1, .f32⟩
  | 18 => ⟨S2048x8x1, .f32⟩
  | 19 => ⟨S2048x8x64, .f32⟩
  | 20 => ⟨S2048x8x64, .f32⟩
  | 21 => ⟨S2048x8x64, .f32⟩
  | 22 => ⟨S_, .f32⟩
  | 23 => ⟨S2048x8x64, .f32⟩
  | 24 => ⟨S2048x8x64, .f32⟩
  | 25 => ⟨S_, .f32⟩
  | 26 => ⟨S2048x8, .f32⟩
  | 27 => ⟨S2048x8x1, .f32⟩
  | 28 => ⟨S_, .f32⟩
  | 29 => ⟨S2048x8x1, .f32⟩
  | 30 => ⟨S2048x8x1, .f32⟩
  | 31 => ⟨S2048x8x64, .f32⟩
  | 32 => ⟨S2048x8x64, .f32⟩
  | 33 => ⟨S_, .f32⟩
  | 34 => ⟨S2048x8x1, .f32⟩
  | 35 => ⟨S2048x8x1, .f32⟩
  | 36 => ⟨S2048x8x1, .f32⟩
  | 37 => ⟨S2048x8x1, .f32⟩
  | 38 => ⟨S_, .f32⟩
  | 39 => ⟨S2048x8x1, .f32⟩
  | 40 => ⟨S2048x8x1, .f32⟩
  | 41 => ⟨S2048x8x64, .f32⟩
  | 42 => ⟨S2048x8x64, .f32⟩
  | 43 => ⟨S8x64, .f32⟩
  | 44 => ⟨S1x8x64, .f32⟩
  | 45 => ⟨S2048x8x64, .f32⟩
  | 46 => ⟨S2048x8x64, .f32⟩
  | 47 => ⟨S8x64, .f32⟩
  | 48 => ⟨S1x8x64, .f32⟩
  | 49 => ⟨S2048x8x64, .f32⟩
  | 50 => ⟨S2048x8x64, .f32⟩
  | 51 => ⟨S2048x8x64, .f32⟩
  | 52 => ⟨S1x8x64, .f32⟩
  | 53 => ⟨S2048x8x64, .f32⟩
  | 54 => ⟨S2048x8x64, .f32⟩
  | 55 => ⟨S_, .f32⟩
  | 56 => ⟨S2048x8, .f32⟩
  | 57 => ⟨S2048x8x1, .f32⟩
  | 58 => ⟨S2048x8x64, .f32⟩
  | 59 => ⟨S2048x8x64, .f32⟩
  | 60 => ⟨S2048x8x64, .f32⟩
  | 61 => ⟨S2048x512, .f32⟩
  | 62 => ⟨S2048x512, .f32⟩
  | 63 => ⟨S2048x512, .f32⟩
  | 64 => ⟨S_, .f32⟩
  | 65 => ⟨S2048x512, .f32⟩
  | 66 => ⟨S2048x512, .f32⟩
  | 67 => ⟨S_, .f32⟩
  | 68 => ⟨S2048x512, .f32⟩
  | 69 => ⟨S2048x512, .f32⟩
  | 70 => ⟨S_, .f32⟩
  | 71 => ⟨S2048x512, .f32⟩
  | 72 => ⟨S2048x512, .f32⟩
  | 73 => ⟨S2048x512, .f32⟩
  | 74 => ⟨S2048x512, .f32⟩
  | 75 => ⟨S2048x512, .f32⟩
  | 76 => ⟨S2048x512, .f32⟩
  | 77 => ⟨S2048x512, .f32⟩
  | 78 => ⟨S2048x512, .f32⟩
  | 79 => ⟨S2048x512, .f32⟩
  | 80 => ⟨S2048x512, .f32⟩
  | 81 => ⟨S2048x512, .f32⟩
  | 82 => ⟨S2048x8x64, .f32⟩
  | 83 => ⟨S2048x8x64, .f32⟩
  | 84 => ⟨S2048x8x64, .f32⟩
  | 85 => ⟨S2048x8x64, .f32⟩
  | 86 => ⟨S_, .f32⟩
  | 87 => ⟨S2048x8, .f32⟩
  | 88 => ⟨S2048x8x1, .f32⟩
  | 89 => ⟨S_, .f32⟩
  | 90 => ⟨S2048x8, .f32⟩
  | 91 => ⟨S2048x8x64, .f32⟩
  | 92 => ⟨S2048x8x64, .f32⟩
  | 93 => ⟨S_, .f32⟩
  | 94 => ⟨S8x64, .f32⟩
  | 95 => ⟨S1x8x64, .f32⟩
  | 96 => ⟨S2048x8x64, .f32⟩
  | 97 => ⟨S2048x8x64, .f32⟩
  | 98 => ⟨S_, .f32⟩
  | 99 => ⟨S8x64, .f32⟩
  | 100 => ⟨S2048x8x64, .f32⟩
  | 101 => ⟨S2048x8x64, .f32⟩
  | 102 => ⟨S_, .f32⟩
  | 103 => ⟨S8x64, .f32⟩
  | 104 => ⟨S1x8x64, .f32⟩
  | 105 => ⟨S_, .f32⟩
  | 106 => ⟨S8x64, .f32⟩
  | 107 => ⟨S1x512, .f32⟩
  | 108 => ⟨S2048x8x64, .f32⟩
  | 109 => ⟨S_, .f32⟩
  | 110 => ⟨S8x64, .f32⟩
  | 111 => ⟨S1x8x64, .f32⟩
  | 112 => ⟨S2048x8x64, .f32⟩
  | 113 => ⟨S2048x8x64, .f32⟩
  | 114 => ⟨S_, .f32⟩
  | 115 => ⟨S8x64, .f32⟩
  | 116 => ⟨S1x512, .f32⟩
  | 117 => ⟨S2048x8x64, .f32⟩
  | 118 => ⟨S_, .f32⟩
  | 119 => ⟨S2048x8, .f32⟩
  | 120 => ⟨S2048x8x1, .f32⟩
  | 121 => ⟨S2048x8x64, .f32⟩
  | 122 => ⟨S2048x8x64, .f32⟩
  | 123 => ⟨S2048x8x1, .f32⟩
  | 124 => ⟨S2048x8x64, .f32⟩
  | 125 => ⟨S_, .f32⟩
  | 126 => ⟨S2048x8, .f32⟩
  | 127 => ⟨S2048x8x1, .f32⟩
  | _ => ⟨S2048x512, .f32⟩

abbrev hbmTy0_1 (i : Nat) : BufTy := match i % 128 with
  | 0 => ⟨S_, .f32⟩
  | 1 => ⟨S2048x8x1, .f32⟩
  | 2 => ⟨S2048x8x1, .f32⟩
  | 3 => ⟨S_, .f32⟩
  | 4 => ⟨S2048x8, .f32⟩
  | 5 => ⟨S2048x8x64, .f32⟩
  | 6 => ⟨S2048x8x64, .f32⟩
  | 7 => ⟨S2048x8x64, .f32⟩
  | 8 => ⟨S_, .f32⟩
  | 9 => ⟨S2048x8, .f32⟩
  | 10 => ⟨S2048x8x1, .f32⟩
  | 11 => ⟨S2048x8x64, .f32⟩
  | 12 => ⟨S2048x8x1, .f32⟩
  | 13 => ⟨S_, .f32⟩
  | 14 => ⟨S2048x8x1, .f32⟩
  | 15 => ⟨S2048x8x1, .f32⟩
  | 16 => ⟨S_, .f32⟩
  | 17 => ⟨S2048x8, .f32⟩
  | 18 => ⟨S2048x8x64, .f32⟩
  | 19 => ⟨S2048x8x64, .f32⟩
  | 20 => ⟨S2048x512, .f32⟩
  | 21 => ⟨S2048x512, .f32⟩
  | 22 => ⟨S2048x512, .f32⟩
  | 23 => ⟨S2048x512, .f32⟩
  | 24 => ⟨S1x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_v45_2 : Ref sig .tc := ⟨.hbm, 69, rfl⟩
abbrev main_call0_cst_1 : Ref sig .tc := ⟨.hbm, 70, rfl⟩
abbrev main_call0_v6 : Ref sig .tc := ⟨.hbm, 71, rfl⟩
abbrev main_call0_v7 : Ref sig .tc := ⟨.hbm, 72, rfl⟩
abbrev main_v45_1 : Ref sig .tc := ⟨.hbm, 73, rfl⟩
abbrev main_v45_0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_7 : Ref sig .tc := ⟨.hbm, 86, rfl⟩
abbrev main_v54 : Ref sig .tc := ⟨.hbm, 87, rfl⟩
abbrev main_v55 : Ref sig .tc := ⟨.hbm, 88, rfl⟩
abbrev main_cst_8 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_9 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_14 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_15 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_16 : Ref sig .tc := ⟨.hbm, 125, rfl⟩
abbrev main_v84 : Ref sig .tc := ⟨.hbm, 126, rfl⟩
abbrev main_v85 : Ref sig .tc := ⟨.hbm, 127, rfl⟩
abbrev main_cst_17 : Ref sig .tc := ⟨.hbm, 128, rfl⟩
abbrev main_v86 : Ref sig .tc := ⟨.hbm, 129, rfl⟩
abbrev main_v87 : Ref sig .tc := ⟨.hbm, 130, rfl⟩
abbrev main_cst_18 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_20 : Ref sig .tc := ⟨.hbm, 141, rfl⟩
abbrev main_v96 : Ref sig .tc := ⟨.hbm, 142, rfl⟩
abbrev main_v97 : Ref sig .tc := ⟨.hbm, 143, rfl⟩
abbrev main_cst_21 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩

abbrev nD : Nat := 1
abbrev τ : Topo := Topo.v7x

variable {F : FTy → Type} [FloatOps F]
-- ==== AttnfwdKernel.lean ====
abbrev S8x2048x64 : Shape := ⟨3, ![8, 2048, 64]⟩
abbrev S8x2048 : Shape := ⟨2, ![8, 2048]⟩
abbrev S8x2048x1 : Shape := ⟨3, ![8, 2048, 1]⟩
abbrev S8x1x2048 : Shape := ⟨3, ![8, 1, 2048]⟩
abbrev S1x256x64 : Shape := ⟨3, ![1, 256, 64]⟩
abbrev S1x2048x64 : Shape := ⟨3, ![1, 2048, 64]⟩
abbrev S1x256x1 : Shape := ⟨3, ![1, 256, 1]⟩
abbrev S1x1x2048 : Shape := ⟨3, ![1, 1, 2048]⟩
abbrev S256x64 : Shape := ⟨2, ![256, 64]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S256x1 : Shape := ⟨2, ![256, 1]⟩
abbrev S1x512x64 : Shape := ⟨3, ![1, 512, 64]⟩
abbrev S512x64 : Shape := ⟨2, ![512, 64]⟩
abbrev S256x512 : Shape := ⟨2, ![256, 512]⟩
abbrev S1x1x512 : Shape := ⟨3, ![1, 1, 512]⟩
abbrev S1x512 : Shape := ⟨2, ![1, 512]⟩
abbrev S1x768x64 : Shape := ⟨3, ![1, 768, 64]⟩
abbrev S768x64 : Shape := ⟨2, ![768, 64]⟩
abbrev S256x768 : Shape := ⟨2, ![256, 768]⟩
abbrev S1x1x768 : Shape := ⟨3, ![1, 1, 768]⟩
abbrev S1x768 : Shape := ⟨2, ![1, 768]⟩
abbrev S1x1024x64 : Shape := ⟨3, ![1, 1024, 64]⟩
abbrev S1024x64 : Shape := ⟨2, ![1024, 64]⟩
abbrev S256x1024 : Shape := ⟨2, ![256, 1024]⟩
abbrev S1x1x1024 : Shape := ⟨3, ![1, 1, 1024]⟩
abbrev S1x1024 : Shape := ⟨2, ![1, 1024]⟩
abbrev S1x1280x64 : Shape := ⟨3, ![1, 1280, 64]⟩
abbrev S1280x64 : Shape := ⟨2, ![1280, 64]⟩
abbrev S256x1280 : Shape := ⟨2, ![256, 1280]⟩
abbrev S1x1x1280 : Shape := ⟨3, ![1, 1, 1280]⟩
abbrev S1x1280 : Shape := ⟨2, ![1, 1280]⟩
abbrev S1x1536x64 : Shape := ⟨3, ![1, 1536, 64]⟩
abbrev S1536x64 : Shape := ⟨2, ![1536, 64]⟩
abbrev S256x1536 : Shape := ⟨2, ![256, 1536]⟩
abbrev S1x1x1536 : Shape := ⟨3, ![1, 1, 1536]⟩
abbrev S1x1536 : Shape := ⟨2, ![1, 1536]⟩
abbrev S1x1792x64 : Shape := ⟨3, ![1, 1792, 64]⟩
abbrev S1792x64 : Shape := ⟨2, ![1792, 64]⟩
abbrev S256x1792 : Shape := ⟨2, ![256, 1792]⟩
abbrev S1x1x1792 : Shape := ⟨3, ![1, 1, 1792]⟩
abbrev S1x1792 : Shape := ⟨2, ![1, 1792]⟩

abbrev nBuf : Space → Nat
  | .hbm => 8
  | .vmem => 14
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048, .f32⟩
  | .hbm, ⟨4, _⟩ => ⟨S8x2048x1, .f32⟩
  | .hbm, ⟨5, _⟩ => ⟨S8x1x2048, .f32⟩
  | .hbm, ⟨6, _⟩ => ⟨S8x2048x64, .f32⟩
  | .hbm, ⟨7, _⟩ => ⟨S8x2048x1, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x256x1, .f32⟩
  | .local _ .vmem, ⟨7, _⟩ => ⟨S1x256x1, .f32⟩
  | .local _ .vmem, ⟨8, _⟩ => ⟨S1x1x2048, .f32⟩
  | .local _ .vmem, ⟨9, _⟩ => ⟨S1x1x2048, .f32⟩
  | .local _ .vmem, ⟨10, _⟩ => ⟨S1x256x64, .f32⟩
  | .local _ .vmem, ⟨11, _⟩ => ⟨S1x256x64, .f32⟩
  | .local _ .vmem, ⟨12, _⟩ => ⟨S1x256x1, .f32⟩
  | .local _ .vmem, ⟨13, _⟩ => ⟨S1x256x1, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg1 : BitVec 32 := BitVec.ofNat 32 (i 1).val
  let c0_i32_8 : BitVec 32 := 0#32
  let v21 : BitVec 1 := Scalar.cmpi .sgt arg1 c0_i32_8
  let v22 : BitVec 32 := Scalar.extui v21
  let c0_i32_9 : BitVec 32 := 0#32
  let v23 : BitVec 1 := Scalar.cmpi .slt arg1 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg1 c1_i32_7
  let c0_i32_12 : BitVec 32 := 0#32
  let v33 : BitVec 1 := Scalar.cmpi .ne v32 c0_i32_12
  let v34 : BitVec 1 := Scalar.andi v31 v33
  let v20 : BitVec 32 := Scalar.divsi arg1 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def k0_cond3 (i : grid0.Coords) : BitVec 1 :=
  let arg1 : BitVec 32 := BitVec.ofNat 32 (i 1).val
  let c0_i32_17 : BitVec 32 := 0#32
  let v41 : BitVec 1 := Scalar.cmpi .sgt arg1 c0_i32_17
  let v42 : BitVec 32 := Scalar.extui v41
  let c0_i32_18 : BitVec 32 := 0#32
  let v43 : BitVec 1 := Scalar.cmpi .slt arg1 c0_i32_18
  let v44 : BitVec 32 := Scalar.extui v43
  let v45 : BitVec 32 := Scalar.subi v42 v44
  let c1_i32_16 : BitVec 32 := 1#32
  let c0_i32_19 : BitVec 32 := 0#32
  let v46 : BitVec 1 := Scalar.cmpi .sgt c1_i32_16 c0_i32_19
  let v47 : BitVec 32 := Scalar.extui v46
  let c0_i32_20 : BitVec 32 := 0#32
  let v48 : BitVec 1 := Scalar.cmpi .slt c1_i32_16 c0_i32_20
  let v49 : BitVec 32 := Scalar.extui v48
  let v50 : BitVec 32 := Scalar.subi v47 v49
  let v51 : BitVec 1 := Scalar.cmpi .ne v45 v50
  let v52 : BitVec 32 := Scalar.remsi arg1 c1_i32_16
  let c0_i32_21 : BitVec 32 := 0#32
  let v53 : BitVec 1 := Scalar.cmpi .ne v52 c0_i32_21
  let v54 : BitVec 1 := Scalar.andi v51 v53
  let v40 : BitVec 32 := Scalar.divsi arg1 c1_i32_16
  let c1_i32_22 : BitVec 32 := 1#32
  let v55 : BitVec 32 := Scalar.subi v40 c1_i32_22
  let v56 : BitVec 32 := Scalar.select v54 v55 v40
  let c2_i32 : BitVec 32 := 2#32
  let v57 : BitVec 1 := Scalar.cmpi .eq v56 c2_i32
  let v58 : BitVec 32 := Scalar.extui v57
  let c0_i32_23 : BitVec 32 := 0#32
  let v59 : BitVec 1 := Scalar.cmpi .ne v58 c0_i32_23
  v59

def k0_cond4 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32_24 : BitVec 32 := 1#32
  let c0_i32_27 : BitVec 32 := 0#32
  let v66 : BitVec 1 := Scalar.cmpi .sgt c1_i32_24 c0_i32_27
  let v67 : BitVec 32 := Scalar.extui v66
  let c0_i32_28 : BitVec 32 := 0#32
  let v68 : BitVec 1 := Scalar.cmpi .slt c1_i32_24 c0_i32_28
  let v69 : BitVec 32 := Scalar.extui v68
  let v70 : BitVec 32 := Scalar.subi v67 v69
  let v71 : BitVec 1 := Scalar.cmpi .ne v65 v70
  let v72 : BitVec 32 := Scalar.remsi arg1 c1_i32_24
  let c0_i32_29 : BitVec 32 := 0#32
  let v73 : BitVec 1 := Scalar.cmpi .ne v72 c0_i32_29
  let v74 : BitVec 1 := Scalar.andi v71 v73
  let v60 : BitVec 32 := Scalar.divsi arg1 c1_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def k0_cond5 (i : grid0.Coords) : BitVec 1 :=
  let arg1 : BitVec 32 := BitVec.ofNat 32 (i 1).val
  let c0_i32_33 : BitVec 32 := 0#32
  let v81 : BitVec 1 := Scalar.cmpi .sgt arg1 c0_i32_33
  let v82 : BitVec 32 := Scalar.extui v81
  let c0_i32_34 : BitVec 32 := 0#32
  let v83 : BitVec 1 := Scalar.cmpi .slt arg1 c0_i32_34
  let v84 : BitVec 32 := Scalar.extui v83
  let v85 : BitVec 32 := Scalar.subi v82 v84
  let c1_i32_32 : BitVec 32 := 1#32
  let c0_i32_35 : BitVec 32 := 0#32
  let v86 : BitVec 1 := Scalar.cmpi .sgt c1_i32_32 c0_i32_35
  let v87 : BitVec 32 := Scalar.extui v86
  let c0_i32_36 : BitVec 32 := 0#32
  let v88 : BitVec 1 := Scalar.cmpi .slt c1_i32_32 c0_i32_36
  let v89 : BitVec 32 := Scalar.extui v88
  let v90 : BitVec 32 := Scalar.subi v87 v89
  let v91 : BitVec 1 := Scalar.cmpi .ne v85 v90
  let v92 : BitVec 32 := Scalar.remsi arg1 c1_i32_32
  let c0_i32_37 : BitVec 32 := 0#32
  let v93 : BitVec 1 := Scalar.cmpi .ne v92 c0_i32_37
  let v94 : BitVec 1 := Scalar.andi v91 v93
  let v80 : BitVec 32 := Scalar.divsi arg1 c1_i32_32
  let c1_i32_38 : BitVec 32 := 1#32
  let v95 : BitVec 32 := Scalar.subi v80 c1_i32_38
  let v96 : BitVec 32 := Scalar.select v94 v95 v80
  let c4_i32 : BitVec 32 := 4#32
  let v97 : BitVec 1 := Scalar.cmpi .eq v96 c4_i32
  let v98 : BitVec 32 := Scalar.extui v97
  let c0_i32_39 : BitVec 32 := 0#32
  let v99 : BitVec 1 := Scalar.cmpi .ne v98 c0_i32_39
  v99

def k0_cond6 (i : grid0.Coords) : BitVec 1 :=
  let arg1 : BitVec 32 := BitVec.ofNat 32 (i 1).val
  let c0_i32_41 : BitVec 32 := 0#32
  let v101 : BitVec 1 := Scalar.cmpi .sgt arg1 c0_i32_41
  let v102 : BitVec 32 := Scalar.extui v101
  let c0_i32_42 : BitVec 32 := 0#32
  let v103 : BitVec 1 := Scalar.cmpi .slt arg1 c0_i32_42
  let v104 : BitVec 32 := Scalar.extui v103
  let v105 : BitVec 32 := Scalar.subi v102 v104
  let c1_i32_40 : BitVec 32 := 1#32
  let c0_i32_43 : BitVec 32 := 0#32
  let v106 : BitVec 1 := Scalar.cmpi .sgt c1_i32_40 c0_i32_43
  let v107 : BitVec 32 := Scalar.extui v106
  let c0_i32_44 : BitVec 32 := 0#32
  let v108 : BitVec 1 := Scalar.cmpi .slt c1_i32_40 c0_i32_44
  let v109 : BitVec 32 := Scalar.extui v108
  let v110 : BitVec 32 := Scalar.subi v107 v109
  let v111 : BitVec 1 := Scalar.cmpi .ne v105 v110
  let v112 : BitVec 32 := Scalar.remsi arg1 c1_i32_40
  let c0_i32_45 : BitVec 32 := 0#32
  let v113 : BitVec 1 := Scalar.cmpi .ne v112 c0_i32_45
  let v114 : BitVec 1 := Scalar.andi v111 v113
  let v100 : BitVec 32 := Scalar.divsi arg1 c1_i32_40
  let c1_i32_46 : BitVec 32 := 1#32
  let v115 : BitVec 32 := Scalar.subi v100 c1_i32_46
  let v116 : BitVec 32 := Scalar.select v114 v115 v100
  let c5_i32 : BitVec 32 := 5#32
  let v117 : BitVec 1 := Scalar.cmpi .eq v116 c5_i32
  let v118 : BitVec 32 := Scalar.extui v117
  let c0_i32_47 : BitVec 32 := 0#32
  let v119 : BitVec 1 := Scalar.cmpi .ne v118 c0_i32_47
  v119

def k0_cond7 (i : grid0.Coords) : BitVec 1 :=
  let arg1 : BitVec 32 := BitVec.ofNat 32 (i 1).val
  let c0_i32_49 : BitVec 32 := 0#32
  let v121 : BitVec 1 := Scalar.cmpi .sgt arg1 c0_i32_49
  let v122 : BitVec 32 := Scalar.extui v121
  let c0_i32_50 : BitVec 32 := 0#32
  let v123 : BitVec 1 := Scalar.cmpi .slt arg1 c0_i32_50
  let v124 : BitVec 32 := Scalar.extui v123
  let v125 : BitVec 32 := Scalar.subi v122 v124
  let c1_i32_48 : BitVec 32 := 1#32
  let c0_i32_51 : BitVec 32 := 0#32
  let v126 : BitVec 1 := Scalar.cmpi .sgt c1_i32_48 c0_i32_51
  let v127 : BitVec 32 := Scalar.extui v126
  let c0_i32_52 : BitVec 32 := 0#32
  let v128 : BitVec 1 := Scalar.cmpi .slt c1_i32_48 c0_i32_52
  let v129 : BitVec 32 := Scalar.extui v128
  let v130 : BitVec 32 := Scalar.subi v127 v129
  let v131 : BitVec 1 := Scalar.cmpi .ne v125 v130
  let v132 : BitVec 32 := Scalar.remsi arg1 c1_i32_48
  let c0_i32_53 : BitVec 32 := 0#32
  let v133 : BitVec 1 := Scalar.cmpi .ne v132 c0_i32_53
  let v134 : BitVec 1 := Scalar.andi v131 v133
  let v120 : BitVec 32 := Scalar.divsi arg1 c1_i32_48
  let c1_i32_54 : BitVec 32 := 1#32
  let v135 : BitVec 32 := Scalar.subi v120 c1_i32_54
  let v136 : BitVec 32 := Scalar.select v134 v135 v120
  let c6_i32 : BitVec 32 := 6#32
  let v137 : BitVec 1 := Scalar.cmpi .eq v136 c6_i32
  let v138 : BitVec 32 := Scalar.extui v137
  let c0_i32_55 : BitVec 32 := 0#32
  let v139 : BitVec 1 := Scalar.cmpi .ne v138 c0_i32_55
  v139

def k0_cond8 (i : grid0.Coords) : BitVec 1 :=
  let arg1 : BitVec 32 := BitVec.ofNat 32 (i 1).val
  let c0_i32_57 : BitVec 32 := 0#32
  let v141 : BitVec 1 := Scalar.cmpi .sgt arg1 c0_i32_57
  let v142 : BitVec 32 := Scalar.extui v141
  let c0_i32_58 : BitVec 32 := 0#32
  let v143 : BitVec 1 := Scalar.cmpi .slt arg1 c0_i32_58
  let v144 : BitVec 32 := Scalar.extui v143
  let v145 : BitVec 32 := Scalar.subi v142 v144
  let c1_i32_56 : BitVec 32 := 1#32
  let c0_i32_59 : BitVec 32 := 0#32
  let v146 : BitVec 1 := Scalar.cmpi .sgt c1_i32_56 c0_i32_59
  let v147 : BitVec 32 := Scalar.extui v146
  let c0_i32_60 : BitVec 32 := 0#32
  let v148 : BitVec 1 := Scalar.cmpi .slt c1_i32_56 c0_i32_60
  let v149 : BitVec 32 := Scalar.extui v148
  let v150 : BitVec 32 := Scalar.subi v147 v149
  let v151 : BitVec 1 := Scalar.cmpi .ne v145 v150
  let v152 : BitVec 32 := Scalar.remsi arg1 c1_i32_56
  let c0_i32_61 : BitVec 32 := 0#32
  let v153 : BitVec 1 := Scalar.cmpi .ne v152 c0_i32_61
  let v154 : BitVec 1 := Scalar.andi v151 v153
  let v140 : BitVec 32 := Scalar.divsi arg1 c1_i32_56
  let c1_i32_62 : BitVec 32 := 1#32
  let v155 : BitVec 32 := Scalar.subi v140 c1_i32_62
  let v156 : BitVec 32 := Scalar.select v154 v155 v140
  let c7_i32 : BitVec 32 := 7#32
  let v157 : BitVec 1 := Scalar.cmpi .eq v156 c7_i32
  let v158 : BitVec 32 := Scalar.extui v157
  let c0_i32_63 : BitVec 32 := 0#32
  let v159 : BitVec 1 := Scalar.cmpi .ne v158 c0_i32_63
  v159

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnfwdKernelIdeal.lean ====
variable {F : FTy → Type} [FloatOps F] [Named F]
def κ : String → Option EReal := fun
  | "mask" => some ⊥
  | _ => none
-- ==== AttnfwdReferenceIdeal.lean ====
abbrev S8x2048x64 : Shape := ⟨3, ![8, 2048, 64]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩

abbrev nBuf : Space → Nat
  | .hbm => 46
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048, .f32⟩
  | .hbm, ⟨4, _⟩ => ⟨S8x2048x2048, .f32⟩
  | .hbm, ⟨5, _⟩ => ⟨S_, .f32⟩
  | .hbm, ⟨6, _⟩ => ⟨S8x2048x2048, .f32⟩
  | .hbm, ⟨7, _⟩ => ⟨S8x2048x2048, .f32⟩
  | .hbm, ⟨8, _⟩ => ⟨S8x2048x1, .f32⟩
  | .hbm, ⟨9, _⟩ => ⟨S8x2048x2048, .f32⟩
  | .hbm, ⟨10, _⟩ => ⟨S8x2048x2048, .f32⟩
  | .hbm, ⟨11, _⟩ => ⟨S8x1x2048, .f32⟩
  | .hbm, ⟨12, _⟩ => ⟨S8x2048x2048, .f32⟩
  | .hbm, ⟨13, _⟩ => ⟨S8x2048x2048, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x2048x2048, .i1⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x64, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x1, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== PostfwdKernel.lean ====
abbrev S2048x512 : Shape := ⟨2, ![2048, 512]⟩
abbrev S1x512 : Shape := ⟨2, ![1, 512]⟩
abbrev S8x64 : Shape := ⟨2, ![8, 64]⟩
abbrev S256x512 : Shape := ⟨2, ![256, 512]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 15
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S1x512, .f32⟩
  | .hbm, ⟨6, _⟩ => ⟨S1x512, .f32⟩
  | .hbm, ⟨7, _⟩ => ⟨S8x64, .f32⟩
  | .hbm, ⟨8, _⟩ => ⟨S1x512, .f32⟩
  | .hbm, ⟨9, _⟩ => ⟨S2048x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S256x512, .f32⟩
  | .local _ .vmem, ⟨14, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostfwdReferenceIdeal.lean ====
abbrev S2048x512 : Shape := ⟨2, ![2048, 512]⟩
abbrev S1x512 : Shape := ⟨2, ![1, 512]⟩
abbrev S8x64 : Shape := ⟨2, ![8, 64]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x8x64 : Shape := ⟨3, ![1, 8, 64]⟩

abbrev nBuf : Space → Nat
  | .hbm => 64
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S2048x512, .f32⟩
  | .hbm, ⟨5, _⟩ => ⟨S1x512, .f32⟩
  | .hbm, ⟨6, _⟩ => ⟨S1x512, .f32⟩
  | .hbm, ⟨7, _⟩ => ⟨S8x64, .f32⟩
  | .hbm, ⟨8, _⟩ => ⟨S2048x8x64, .f32⟩
  | .hbm, ⟨9, _⟩ => ⟨S2048x8x64, .f32⟩
  | .hbm, ⟨10, _⟩ => ⟨S2048x8x64, .f32⟩
  | .hbm, ⟨11, _⟩ => ⟨S2048x8x64, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S2048x8x64, .f32⟩
  | .hbm, ⟨19, _⟩ => ⟨S2048x8x64, .f32⟩
  | .hbm, ⟨20, _⟩ => ⟨S2048x8x64, .f32⟩
  | .hbm, ⟨21, _⟩ => ⟨S_, .f32⟩
  | .hbm, ⟨22, _⟩ => ⟨S2048x8, .f32⟩
  | .hbm, ⟨23, _⟩ => ⟨S2048x8x1, .f32⟩
  | .hbm, ⟨24, _⟩ => ⟨S_, .f32⟩
  | .hbm, ⟨25, _⟩ => ⟨S2048x8x1, .f32⟩
  | .hbm, ⟨26, _⟩ => ⟨S2048x8x1, .f32⟩
  | .hbm, ⟨27, _⟩ => ⟨S2048x8x64, .f32⟩
  | .hbm, ⟨28, _⟩ => ⟨S2048x8x64, .f32⟩
  | .hbm, ⟨29, _⟩ => ⟨S_, .f32⟩
  | .hbm, ⟨30, _⟩ => ⟨S2048x8x1, .f32⟩
  | .hbm, ⟨31, _⟩ => ⟨S2048x8x1, .f32⟩
  | .hbm, ⟨32, _⟩ => ⟨S2048x8x1, .f32⟩
  | .hbm, ⟨33, _⟩ => ⟨S2048x8x64, .f32⟩
  | .hbm, ⟨34, _⟩ => ⟨S2048x8x64, .f32⟩
  | .hbm, ⟨35, _⟩ => ⟨S8x64, .f32⟩
  | .hbm, ⟨36, _⟩ => ⟨S1x8x64, .f32⟩
  | .hbm, ⟨37, _⟩ => ⟨S2048x8x64, .f32⟩
  | .hbm, ⟨38, _⟩ => ⟨S2048x8x64, .f32⟩
  | .hbm, ⟨39, _⟩ => ⟨S8x64, .f32⟩
  | .hbm, ⟨40, _⟩ => ⟨S1x8x64, .f32⟩
  | .hbm, ⟨41, _⟩ => ⟨S2048x8x64, .f32⟩
  | .hbm, ⟨42, _⟩ => ⟨S2048x8x64, .f32⟩
  | .hbm, ⟨43, _⟩ => ⟨S2048x8x64, .f32⟩
  | .hbm, ⟨44, _⟩ => ⟨S1x8x64, .f32⟩
  | .hbm, ⟨45, _⟩ => ⟨S2048x8x64, .f32⟩
  | .hbm, ⟨46, _⟩ => ⟨S2048x8x64, .f32⟩
  | .hbm, ⟨47, _⟩ => ⟨S_, .f32⟩
  | .hbm, ⟨48, _⟩ => ⟨S2048x8, .f32⟩
  | .hbm, ⟨49, _⟩ => ⟨S2048x8x1, .f32⟩
  | .hbm, ⟨50, _⟩ => ⟨S2048x8x64, .f32⟩
  | .hbm, ⟨51, _⟩ => ⟨S2048x8x64, .f32⟩
  | .hbm, ⟨52, _⟩ => ⟨S2048x8x64, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S_, .f32⟩
  | .hbm, ⟨57, _⟩ => ⟨S2048x512, .f32⟩
  | .hbm, ⟨58, _⟩ => ⟨S2048x512, .f32⟩
  | .hbm, ⟨59, _⟩ => ⟨S_, .f32⟩
  | .hbm, ⟨60, _⟩ => ⟨S2048x512, .f32⟩
  | .hbm, ⟨61, _⟩ => ⟨S2048x512, .f32⟩
  | .hbm, ⟨62, _⟩ => ⟨S2048x512, .f32⟩
  | .hbm, ⟨63, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== ProjKernel.lean ====
abbrev S2048x1024 : Shape := ⟨2, ![2048, 1024]⟩
abbrev S1x1024 : Shape := ⟨2, ![1, 1024]⟩
abbrev S1024x6280 : Shape := ⟨2, ![1024, 6280]⟩
abbrev S6280x1024 : Shape := ⟨2, ![6280, 1024]⟩
abbrev S2176x1024 : Shape := ⟨2, ![2176, 1024]⟩
abbrev S8x1024 : Shape := ⟨2, ![8, 1024]⟩
abbrev S_ : Shape := ⟨0, ![]⟩
abbrev S128x1024 : Shape := ⟨2, ![128, 1024]⟩
abbrev S2048x2176 : Shape := ⟨2, ![2048, 2176]⟩
abbrev S2048x2048 : Shape := ⟨2, ![2048, 2048]⟩
abbrev S2048x128 : Shape := ⟨2, ![2048, 128]⟩
abbrev S256x1024 : Shape := ⟨2, ![256, 1024]⟩
abbrev S256x2176 : Shape := ⟨2, ![256, 2176]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6280, .f32⟩
  | .hbm, ⟨3, _⟩ => ⟨S6280x1024, .f32⟩
  | .hbm, ⟨4, _⟩ => ⟨S6280x1024, .bf16⟩
  | .hbm, ⟨5, _⟩ => ⟨S2176x1024, .bf16⟩
  | .hbm, ⟨6, _⟩ => ⟨S2048x1024, .bf16⟩
  | .hbm, ⟨7, _⟩ => ⟨S2048x1024, .bf16⟩
  | .hbm, ⟨8, _⟩ => ⟨S8x1024, .bf16⟩
  | .hbm, ⟨9, _⟩ => ⟨S_, .i32⟩
  | .hbm, ⟨10, _⟩ => ⟨S_, .bf16⟩
  | .hbm, ⟨11, _⟩ => ⟨S128x1024, .bf16⟩
  | .hbm, ⟨12, _⟩ => ⟨S2048x1024, .bf16⟩
  | .hbm, ⟨13, _⟩ => ⟨S2048x2176, .f32⟩
  | .hbm, ⟨14, _⟩ => ⟨S2048x2048, .f32⟩
  | .hbm, ⟨15, _⟩ => ⟨S2048x2048, .f32⟩
  | .hbm, ⟨16, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2176x1024, .bf16⟩
  | .local _ .vmem, ⟨4, _⟩ => ⟨S2048x1024, .bf16⟩
  | .local _ .vmem, ⟨5, _⟩ => ⟨S2048x1024, .bf16⟩
  | .local _ .vmem, ⟨6, _⟩ => ⟨S128x1024, .bf16⟩
  | .local _ .vmem, ⟨7, _⟩ => ⟨S256x1024, .bf16⟩
  | .local _ .vmem, ⟨8, _⟩ => ⟨S256x1024, .bf16⟩
  | .local _ .vmem, ⟨9, _⟩ => ⟨S256x2176, .f32⟩
  | .local _ .vmem, ⟨10, _⟩ => ⟨S256x2176, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x128, .f32⟩
  | .local _ .vmem, ⟨16, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2176x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2176 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ProjReferenceIdeal.lean ====
abbrev S2048x1024 : Shape := ⟨2, ![2048, 1024]⟩
abbrev S1x1024 : Shape := ⟨2, ![1, 1024]⟩
abbrev S1024x6280 : Shape := ⟨2, ![1024, 6280]⟩
abbrev S1024 : Shape := ⟨1, ![1024]⟩
abbrev S_ : Shape := ⟨0, ![]⟩
abbrev S2048 : Shape := ⟨1, ![2048]⟩
abbrev S2048x1 : Shape := ⟨2, ![2048, 1]⟩
abbrev S2048x6280 : Shape := ⟨2, ![2048, 6280]⟩
abbrev S2048x8 : Shape := ⟨2, ![2048, 8]⟩
abbrev S2048x128 : Shape := ⟨2, ![2048, 128]⟩
abbrev S2048x2176 : Shape := ⟨2, ![2048, 2176]⟩
abbrev S2048x2048 : Shape := ⟨2, ![2048, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x6280, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x6280, .f32⟩
  | .hbm, ⟨21, _⟩ => ⟨S2048x8, .f32⟩
  | .hbm, ⟨22, _⟩ => ⟨S_, .i32⟩
  | .hbm, ⟨23, _⟩ => ⟨S_, .f32⟩
  | .hbm, ⟨24, _⟩ => ⟨S2048x128, .f32⟩
  | .hbm, ⟨25, _⟩ => ⟨S2048x1024, .bf16⟩
  | .hbm, ⟨26, _⟩ => ⟨S2048x2176, .f32⟩
  | .hbm, ⟨27, _⟩ => ⟨S2048x2048, .f32⟩
  | .hbm, ⟨28, _⟩ => ⟨S2048x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.Reals.lean ====
/- Real numbers under the extended reals: what the value proofs share. An argument that the precondition says is
   finite is a real array; sums, products, quotients and roots of reals are reals again. -/
module

public import Idealize.ShloMosaic.Lib.Pointwise
public import Idealize.ShloMosaic.Lib.ReduceAll
public import Idealize.ShloMosaic.Lib.IdealHost
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.Reals

/-- A finite sum of reals, taken in the extended reals, is the real sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The f32 word of 1024. -/
theorem ofBits_1024 : Ideal.ofBits .f32 0x44800000#32 = ((1024 : ℝ) : EReal) := by
  simp [Ideal.ofBits, Ideal.ieee]; rw [← EReal.coe_mul]; norm_num

/-- The f32 word of −1/2. -/
theorem ofBits_neg_half : Ideal.ofBits .f32 0xBF000000#32 = ((-(1 / 2) : ℝ) : EReal) := by
  simp [Ideal.ofBits, Ideal.ieee]; rw [← EReal.coe_mul]; norm_num

/-- The norm's ε, the f32 word nearest to 10⁻⁶, as a real. -/
def eps : ℝ := 8796093 * 2 ^ (-43 : ℤ)

theorem eps_pos : 0 < eps := by unfold eps; positivity

theorem ofBits_eps : Ideal.ofBits .f32 0x358637BD#32 = (eps : EReal) := by
  simp [Ideal.ofBits, Ideal.ieee, eps]

/-- The reciprocal root of a positive real is a real. -/
theorem rsqrt_pos {r : ℝ} (h : 0 < r) : Ideal.rsqrt (r : EReal) = (((√r)⁻¹ : ℝ) : EReal) := by
  rw [Ideal.rsqrt_coe, if_neg (not_lt.2 h.le), if_neg h.ne']

/-- A quotient of reals by a real other than zero. -/
theorem div_real {y : ℝ} (h : y ≠ 0) (x : ℝ) : Ideal.div (x : EReal) (y : EReal) = ((x / y : ℝ) : EReal) := by
  rw [Ideal.div_coe h, ← EReal.coe_mul]; congr 1; ring

/-- An extended real whose absolute value lies below +∞ is a real. -/
theorem exists_of_abs_lt {x : EReal} (h : max x (-x) < ⊤) : ∃ r : ℝ, x = (r : EReal) := by
  induction x with
  | bot => simp at h
  | top => simp at h
  | coe r => exact ⟨r, rfl⟩

/-- The f32 word of +∞. -/
theorem ofBits_inf : Ideal.ofBits .f32 0x7F800000#32 = ⊤ := by
  simp [Ideal.ofBits, Ideal.ieee]

/-- What `jnp.all(jnp.abs(x) < jnp.inf)` says: the array is one of reals. -/
theorem exists_of_finite {s t u : Shape} {axes : List (Fin s.rank)} [Subsingleton t.Idx] (X : FVec Ideal s .f32) (B : FVec Ideal s .f32)
    (hB : ∀ i, B i = ⊤) (init : u.Idx → BitVec 1) (h : s.ReducesTo axes t) (hu : 0 < u.numel) (j : t.Idx)
    (e : Host.reduce IntOp.andi (cmpf .olt (Host.absf X) B) init h hu j = 1#1) : ∃ x : s.Idx → ℝ, ∀ i, X i = (x i : EReal) := by
  have hx : ∀ i, ∃ r : ℝ, X i = (r : EReal) := fun i => exists_of_abs_lt <| by
    have h1 := Host.reduce_andi_all _ init h hu j e i
    pointwise at h1
    rw [hB] at h1
    by_contra hn
    rw [decide_eq_false (show ¬FloatOps.absf (X i) < ⊤ from hn)] at h1
    exact absurd h1 (by decide)
  choose x hx using hx
  exact ⟨x, hx⟩

/-- An index of a matrix is its two coordinates. -/
theorem exists_ix2 {a b : Nat} (y : (⟨2, ![a, b]⟩ : Shape).Idx) : ∃ r l, y = ix2 r l :=
  ⟨y 0, y 1, by funext i; fin_cases i <;> rfl⟩

/-- An index of a one-row matrix is its second coordinate. -/
theorem exists_ix2_row {b : Nat} (y : (⟨2, ![1, b]⟩ : Shape).Idx) : ∃ l, y = ix2 0 l := by
  obtain ⟨r, l, rfl⟩ := exists_ix2 y
  exact ⟨l, by rw [Subsingleton.elim r 0]⟩

end Cert.Reals

end
-- ==== Proof.Xgrad.Pure.lean ====
/- The input projection's gradient fused with the RMS norm's: what one grid point of the kernel stores, and what the
   reference's derivative is, both as real formulas of the arguments. -/
module

public import proofs.«01_k».proof.Proof.Gen.XgradKernelIdeal.Frame
public import proofs.«01_k».proof.Proof.Gen.XgradReferenceIdeal.Run
public import proofs.«01_k».proof.Proof.Reals

@[expose] public section

set_option maxRecDepth 16384

noncomputable section

open Idealize.ShloMosaic Idealize.ShloMosaic.TcCoe Idealize.SL.Sem
open Cert.Reals

namespace Cert.Xgrad

/-- A row's mean square, the norm's ε added. -/
def ms (x : Fin 1024 → ℝ) : ℝ := (∑ k, x k * x k) / 1024 + eps

theorem ms_pos (x : Fin 1024 → ℝ) : 0 < ms x :=
  add_pos_of_nonneg_of_pos (div_nonneg (Finset.sum_nonneg fun k _ => mul_self_nonneg (x k)) (by norm_num)) eps_pos

/-- A row's reciprocal root mean square. -/
def rs (x : Fin 1024 → ℝ) : ℝ := (√(ms x))⁻¹

/-- The square of a row's factor. -/
theorem rs_sq (x : Fin 1024 → ℝ) : rs x * rs x = (ms x)⁻¹ := by
  rw [rs, ← mul_inv, Real.mul_self_sqrt (ms_pos x).le]

/-- The row's mean square as both programs spell it. -/
theorem ms_row (x : Fin 1024 → ℝ) :
    Ideal.div (∑ k, (x k : EReal) * (x k : EReal)) (Ideal.ofBits FTy.f32 0x44800000#32) + Ideal.ofBits FTy.f32 0x358637BD#32
      = (ms x : EReal) := by
  simp only [← EReal.coe_mul, coe_sum, ofBits_1024, ofBits_eps]
  rw [div_real (by norm_num), ← EReal.coe_add]; rfl

theorem rsqrt_ms (x : Fin 1024 → ℝ) : Ideal.rsqrt (ms x : EReal) = (rs x : EReal) := rsqrt_pos (ms_pos x)

theorem div_ms (x : Fin 1024 → ℝ) (y : ℝ) : Ideal.div (y : EReal) (ms x : EReal) = ((y / ms x : ℝ) : EReal) :=
  div_real (ms_pos x).ne' y

theorem div_1024 (y : ℝ) : Ideal.div (y : EReal) ((1024 : ℝ) : EReal) = ((y / 1024 : ℝ) : EReal) := div_real (by norm_num) y

/-- The gradient of one row of the norm's input, the cotangent `dh` of its output given. -/
def rowGrad (dh x g : Fin 1024 → ℝ) (l : Fin 1024) : ℝ :=
  rs x * (dh l * g l - x l * rs x * ((∑ k, dh k * g k * (x k * rs x)) / 1024))

/-- The same gradient as differentiating the norm line by line gives it. -/
theorem rowGrad_eq (dh x g : Fin 1024 → ℝ) (l : Fin 1024) :
    dh l * g l * rs x + (x l * ((∑ k, x k * (dh k * g k)) * (-(1 / 2) * (rs x / ms x)) / 1024)
      + (∑ k, x k * (dh k * g k)) * (-(1 / 2) * (rs x / ms x)) / 1024 * x l) = rowGrad dh x g l := by
  have h : ∑ k, dh k * g k * (x k * rs x) = rs x * ∑ k, x k * (dh k * g k) := by
    rw [Finset.mul_sum]; exact Finset.sum_congr rfl fun k _ => by ring
  rw [rowGrad, h, div_eq_mul_inv (rs x) (ms x), ← rs_sq]; ring

section Kernel
open Cert.XgradKernelIdeal Cert.XgradKernelIdeal.Gen

/-- The four products of the segments, added. -/
theorem pay6_at (v3 : Vec Ideal S128x2176 .bf16) (v5 v8 v10 v14 v16 v20 v22) (r : Fin 128) (l : Fin 1024) :
    k0_pay6 (F := Ideal) v3 v5 v8 v10 v14 v16 v20 v22 (ix2 r l)
      = ∑ k, v3 (ix2 r k) * v5 (ix2 k l) + ∑ k, v8 (ix2 r k) * v10 (ix2 k l) + ∑ k, v14 (ix2 r k) * v16 (ix2 k l)
        + ∑ k, v20 (ix2 r k) * v22 (ix2 k l) := by
  pointwise [k0_pay6]

/-- What the body stores into the block of `dx`. -/
theorem pay4_at (v25 v26 v44 v57) (r : Fin 128) (l : Fin 1024) (dh x g : Fin 1024 → ℝ)
    (h25 : ∀ k, v25 (ix2 r k) = (dh k : EReal)) (h26 : ∀ k, v26 (ix2 r k) = (x k : EReal)) (h44 : ∀ k, v44 (ix2 0 k) = (g k : EReal)) :
    k0_pay4 (F := Ideal) v25 v26 (k0_pay7 v26) v44 v57 (ix2 r l) = (rowGrad dh x g l : EReal) + v57 (ix2 r l) := by
  pointwise [k0_pay4, k0_pay7, k0_pay2, k0_pay1]
  simp only [h25, h26, h44, ms_row, rsqrt_ms]
  simp only [← EReal.coe_mul, coe_sum, ofBits_1024]
  rw [div_real (by norm_num)]
  simp only [← EReal.coe_mul, ← EReal.coe_sub]
  rfl

/-- What the body adds into the block of the norm weights' gradient. -/
theorem pay3_at (v25 v26 v44) (l : Fin 1024) (dh x : Fin 128 → Fin 1024 → ℝ)
    (h25 : ∀ r k, v25 (ix2 r k) = (dh r k : EReal)) (h26 : ∀ r k, v26 (ix2 r k) = (x r k : EReal)) :
    k0_pay3 (F := Ideal) v25 v26 (k0_pay7 v26) v44 (ix2 0 l)
      = v44 (ix2 0 l) + ((∑ r, dh r l * (x r l * rs (x r)) : ℝ) : EReal) := by
  pointwise [k0_pay3, k0_pay7, k0_pay2, k0_pay1]
  simp only [h25, h26, ms_row, rsqrt_ms]
  simp only [← EReal.coe_mul, coe_sum]

end Kernel

section Reference
open Cert.XgradReferenceIdeal Cert.XgradReferenceIdeal.Value

variable (m : (ℓ : Loc nD τ sig) → Buf (Elt Ideal) ℓ) (c : Dev nD)
  (x : Fin 2048 → Fin 1024 → ℝ) (g : Fin 1024 → ℝ) (w : Fin 1024 → Fin 6280 → ℝ) (du : Fin 2048 → Fin 6280 → ℝ)
  (hx : ∀ r k, (m ((c.tc : Thread nD τ).loc main_arg0) : FVec Ideal S2048x1024 .f32) (ix2 r k) = (x r k : EReal))
  (hg : ∀ k, (m ((c.tc : Thread nD τ).loc main_arg1) : FVec Ideal S1x1024 .f32) (ix2 0 k) = (g k : EReal))
  (hw : ∀ r k, (m ((c.tc : Thread nD τ).loc main_arg2) : FVec Ideal S1024x6280 .f32) (ix2 r k) = (w r k : EReal))
  (hdu : ∀ r k, (m ((c.tc : Thread nD τ).loc main_arg4) : FVec Ideal S2048x6280 .f32) (ix2 r k) = (du r k : EReal))

/-- The cotangent of the norm's output. -/
def dh (w : Fin 1024 → Fin 6280 → ℝ) (du : Fin 2048 → Fin 6280 → ℝ) (r : Fin 2048) (l : Fin 1024) : ℝ := ∑ k, du r k * w l k

include hx hg hw hdu in
/-- The reference's gradient of `x`, read at an index. -/
theorem ref_dx (r : Fin 2048) (l : Fin 1024) :
    (res_out0 m c : FVec Ideal S2048x1024 .f32) (ix2 r l)
      = (rowGrad (dh w du r) (x r) g l : EReal) + (m ((c.tc : Thread nD τ).loc main_arg3) : FVec Ideal S2048x1024 .f32) (ix2 r l) := by
  pointwise [res_out0, res_main_v39]
  simp only [hx, hg, hw, hdu, ms_row, rsqrt_ms]
  simp only [← EReal.coe_mul, coe_sum, ofBits_1024, ofBits_neg_half, div_ms, div_1024]
  rw [add_assoc, add_assoc, ← EReal.coe_add, ← EReal.coe_add, add_comm]
  simp only [Fin.sum_univ_one]
  rw [← rowGrad_eq]; rfl

/-- The reference's gradient of the norm's weights, over the arguments it reads. -/
def REFdg (X : FVec Ideal S2048x1024 .f32) (W : FVec Ideal S1024x6280 .f32) (DU : FVec Ideal S2048x6280 .f32) : FVec Ideal S1x1024 .f32 :=
  open Cert.XgradReferenceIdeal.Gen in
  broadcastInDim S1x1024 ![1] bcast_S1024_S1x1024_1 (Host.reduceAdd (shapeCast _ (Host.reduceAdd (mulf (mulf X (broadcastInDim S2048x1024 ![0, 1] bcast_S2048x1_S2048x1024_0_1 (Host.rsqrt (addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32)))))) (Host.dotGeneral dot_S2048x6280_S1024x6280_S2048x1024_1_1_0_0_n_n none DU W)) (constant S_ .f32 0x00000000#32) reducesTo_S2048x1024_S1024_d0 h_S_) shapeCasts_S1024_S1x1024) (constant S_ .f32 0x00000000#32) reducesTo_S1x1024_S1024_d0 h_S_)

omit m c in
/-- … read at an index. -/
theorem ref_dg (X W DU) (x : Fin 2048 → Fin 1024 → ℝ) (w : Fin 1024 → Fin 6280 → ℝ) (du : Fin 2048 → Fin 6280 → ℝ)
    (hx : ∀ r k, X (ix2 r k) = (x r k : EReal)) (hw : ∀ r k, W (ix2 r k) = (w r k : EReal)) (hdu : ∀ r k, DU (ix2 r k) = (du r k : EReal))
    (l : Fin 1024) : REFdg X W DU (ix2 0 l) = ((∑ r, dh w du r l * (x r l * rs (x r)) : ℝ) : EReal) := by
  pointwise [REFdg]
  simp only [hx, hw, hdu, ms_row, rsqrt_ms]
  simp only [← EReal.coe_mul, coe_sum, Fin.sum_univ_one]
  exact congrArg _ (Finset.sum_congr rfl fun r _ => mul_comm _ _)

end Reference

end Cert.Xgrad

end
-- ==== Proof.Xgrad.Blocks.lean ====
/- What the operands prepared on the host hold when the kernel starts, and what each grid point's block of them holds. -/
module

public import proofs.«01_k».proof.Proof.Xgrad.Pure

@[expose] public section

set_option maxRecDepth 16384

noncomputable section

open Idealize.ShloMosaic Idealize.ShloMosaic.TcCoe Idealize.SL.Sem
open Cert.Reals Cert.XgradKernelIdeal Cert.XgradKernelIdeal.Gen

namespace Cert.Xgrad

/-! ## A sum over all columns, segment by segment -/

/-- The columns in the kernel's order: the last, short segment padded with zeros. -/
theorem sum_segments (f : Fin 6280 → ℝ) :
    ∑ k : Fin 2176, f ⟨k, by omega⟩ + ∑ k : Fin 2048, f ⟨2176 + k, by omega⟩ + ∑ k : Fin 2048, f ⟨4232 + k, by omega⟩
      + ∑ k : Fin 128, (if h : k.val < 8 then f ⟨4224 + k, by omega⟩ else 0) = ∑ k, f k := by
  have h8 : ∑ k : Fin 128, (if h : k.val < 8 then f ⟨4224 + k, by omega⟩ else 0) = ∑ k : Fin 8, f ⟨4224 + k, by omega⟩ := by
    change ∑ k : Fin (8 + 120), _ = _
    rw [Fin.sum_univ_add, Finset.sum_eq_zero (s := (Finset.univ : Finset (Fin 120))), add_zero]
    · exact Finset.sum_congr rfl fun k _ => dif_pos k.isLt
    · exact fun k _ => dif_neg (by simp)
  have h : ∑ k, f k = ∑ k : Fin (2176 + (2048 + (8 + 2048))), f k := rfl
  rw [h8, h, Fin.sum_univ_add, Fin.sum_univ_add, Fin.sum_univ_add, add_assoc, add_assoc, add_comm (∑ k : Fin 2048, f ⟨4232 + k, _⟩)]
  refine congrArg _ (congrArg _ (congrArg _ ?_))
  · refine Finset.sum_congr rfl fun k _ => congrArg f (Fin.ext ?_)
    simp only [Fin.val_natAdd]; omega

/-! ## The operands at the kernel's start -/

variable (m : (ℓ : Loc nD τ sig) → Buf (Elt Ideal) ℓ) (c : Dev nD)

/-- The projection's weights, transposed. -/
def wT : FVec Ideal S6280x1024 .bf16 :=
  truncf .bf16 (transpose S6280x1024 [1, 0] (m ((c.tc : Thread nD τ).loc main_arg2) : FVec Ideal S1024x6280 .f32) transposes_S1024x6280_S6280x1024_1_0) bitsLt_bf16_f32

/-- The projection's cotangent. -/
abbrev dU : FVec Ideal S2048x6280 .f32 := m ((c.tc : Thread nD τ).loc main_arg4)

theorem V_v2 : (V m c main_v2 : FVec Ideal S2176x1024 .bf16)
    = extractStridedSlice S2176x1024 ![0, 0] (wT m c) slices_S6280x1024_S2176x1024_0_0 := by
  simp only [V, List.flatten_cons, List.flatten_nil, List.cons_append, List.nil_append, hostOps0, hostOps0_1, hostOps0_2, hostOps0_3, hostOps0_4]
  after_results
  rfl

theorem V_v5 : (V m c main_v5 : FVec Ideal S2048x1024 .bf16)
    = extractStridedSlice S2048x1024 ![2176, 0] (wT m c) slices_S6280x1024_S2048x1024_2176_0 := by
  simp only [V, List.flatten_cons, List.flatten_nil, List.cons_append, List.nil_append, hostOps0, hostOps0_1, hostOps0_2, hostOps0_3, hostOps0_4]
  after_results
  rfl

theorem V_v8 : (V m c main_v8 : FVec Ideal S2048x1024 .bf16)
    = extractStridedSlice S2048x1024 ![4232, 0] (wT m c) slices_S6280x1024_S2048x1024_4232_0 := by
  simp only [V, List.flatten_cons, List.flatten_nil, List.cons_append, List.nil_append, hostOps0, hostOps0_1, hostOps0_2, hostOps0_3, hostOps0_4]
  after_results
  rfl

theorem V_v13 : (V m c main_v13 : FVec Ideal S128x1024 .bf16)
    = pad S128x1024 ![0, 0] ![120, 0] ![0, 0] (extractStridedSlice S8x1024 ![4224, 0] (wT m c) slices_S6280x1024_S8x1024_4224_0)
        (sitofp .bf16 (constantI S_ 32 0#32)) pads_S8x1024_S128x1024_01200_000 h_S_ := by
  simp only [V, List.flatten_cons, List.flatten_nil, List.cons_append, List.nil_append, hostOps0, hostOps0_1, hostOps0_2, hostOps0_3, hostOps0_4]
  after_results
  rfl

theorem V_v4 : (V m c main_v4 : FVec Ideal S2048x2176 .bf16)
    = (truncf .bf16 (extractStridedSlice S2048x2176 ![0, 0] (dU m c) slices_S2048x6280_S2048x2176_0_0) bitsLt_bf16_f32 : FVec Ideal _ _) := by
  simp only [V, List.flatten_cons, List.flatten_nil, List.cons_append, List.nil_append, hostOps0, hostOps0_1, hostOps0_2, hostOps0_3, hostOps0_4]
  after_results

theorem V_v7 : (V m c main_v7 : FVec Ideal S2048x2048 .bf16)
    = (truncf .bf16 (extractStridedSlice S2048x2048 ![0, 2176] (dU m c) slices_S2048x6280_S2048x2048_0_2176) bitsLt_bf16_f32 : FVec Ideal _ _) := by
  simp only [V, List.flatten_cons, List.flatten_nil, List.cons_append, List.nil_append, hostOps0, hostOps0_1, hostOps0_2, hostOps0_3, hostOps0_4]
  after_results

theorem V_v10 : (V m c main_v10 : FVec Ideal S2048x2048 .bf16)
    = (truncf .bf16 (extractStridedSlice S2048x2048 ![0, 4232] (dU m c) slices_S2048x6280_S2048x2048_0_4232) bitsLt_bf16_f32 : FVec Ideal _ _) := by
  simp only [V, List.flatten_cons, List.flatten_nil, List.cons_append, List.nil_append, hostOps0, hostOps0_1, hostOps0_2, hostOps0_3, hostOps0_4]
  after_results

theorem V_v15 : (V m c main_v15 : FVec Ideal S2048x128 .bf16)
    = (truncf .bf16 (pad S2048x128 ![0, 0] ![0, 120] ![0, 0] (extractStridedSlice S2048x8 ![0, 4224] (dU m c) slices_S2048x6280_S2048x8_0_4224)
        (sitofp .f32 (constantI S_ 32 0#32)) pads_S2048x8_S2048x128_000_01200 h_S_) bitsLt_bf16_f32 : FVec Ideal _ _) := by
  simp only [V, List.flatten_cons, List.flatten_nil, List.cons_append, List.nil_append, hostOps0, hostOps0_1, hostOps0_2, hostOps0_3, hostOps0_4]
  after_results
  rfl

/-! ## The blocks -/

/-- The row of the whole arrays that row `r` of point `t`'s block is. -/
abbrev row (t : Fin cfg0.N) (r : Fin 128) : Fin 2048 := ⟨128 * t.val + r, by have : t.val < 16 := t.isLt; omega⟩

theorem idx : ∀ t : Fin cfg0.N, (win0_0.index t = ![t.val, 0] ∧ win0_1.index t = ![0, 0] ∧ win0_2.index t = ![t.val, 0])
    ∧ (win0_3.index t = ![t.val, 0] ∧ win0_4.index t = ![t.val, 0] ∧ win0_5.index t = ![t.val, 0] ∧ win0_6.index t = ![t.val, 0])
    ∧ (win0_7.index t = ![0, 0] ∧ win0_8.index t = ![0, 0] ∧ win0_9.index t = ![0, 0] ∧ win0_10.index t = ![0, 0])
    ∧ win0_11.index t = ![t.val, 0] ∧ win0_12.index t = ![0, 0] :=
  (by decide +kernel : ∀ t : Fin grid0.N, _)

theorem sitofp_zero (φ : FTy) : (FloatOps.sitofp φ 0#32 : Ideal φ) = (0 : EReal) := by
  simp [FloatOps.sitofp]

variable (x : Fin 2048 → Fin 1024 → ℝ) (g : Fin 1024 → ℝ) (w : Fin 1024 → Fin 6280 → ℝ) (du : Fin 2048 → Fin 6280 → ℝ)
  (hx : ∀ r k, (m ((c.tc : Thread nD τ).loc main_arg0) : FVec Ideal S2048x1024 .f32) (ix2 r k) = (x r k : EReal))
  (hg : ∀ k, (m ((c.tc : Thread nD τ).loc main_arg1) : FVec Ideal S1x1024 .f32) (ix2 0 k) = (g k : EReal))
  (hw : ∀ r k, (m ((c.tc : Thread nD τ).loc main_arg2) : FVec Ideal S1024x6280 .f32) (ix2 r k) = (w r k : EReal))
  (hdu : ∀ r k, (m ((c.tc : Thread nD τ).loc main_arg4) : FVec Ideal S2048x6280 .f32) (ix2 r k) = (du r k : EReal))
  (t : Fin cfg0.N)

section
include hx
theorem iblk0 (r : Fin 128) (k : Fin 1024) : (iblk m c 0 t : FVec Ideal S128x1024 .f32) (ix2 r k) = (x (row t r) k : EReal) := by
  rw [← hx]; blk_ext! [iblk, V, idx t]
end

section
include hg
theorem iblk1 (k : Fin 1024) : (iblk m c 1 t : FVec Ideal S1x1024 .f32) (ix2 0 k) = (g k : EReal) := by
  rw [← hg]; blk_ext! [iblk, V, idx t]
end

theorem iblk2 (r : Fin 128) (k : Fin 1024) : (iblk m c 2 t : FVec Ideal S128x1024 .f32) (ix2 r k)
    = (m ((c.tc : Thread nD τ).loc main_arg3) : FVec Ideal S2048x1024 .f32) (ix2 (row t r) k) := by
  blk_ext! [iblk, V, idx t]

section
include hdu
theorem iblk3 (r : Fin 128) (k : Fin 2176) : (iblk m c 3 t : FVec Ideal S128x2176 .bf16) (ix2 r k) = (du (row t r) ⟨k, by omega⟩ : EReal) := by
  have e : (win0_3.blk t).view.emb (ix2 r k) = ix2 (row t r) k := by blk_ext [idx t]
  blk_simp [iblk]
  rw [V_v4, e, ← hdu]
  pointwise

theorem iblk4 (r : Fin 128) (k : Fin 2048) : (iblk m c 4 t : FVec Ideal S128x2048 .bf16) (ix2 r k) = (du (row t r) ⟨2176 + k, by omega⟩ : EReal) := by
  have e : (win0_4.blk t).view.emb (ix2 r k) = ix2 (row t r) k := by blk_ext [idx t]
  blk_simp [iblk]
  rw [V_v7, e, ← hdu]
  pointwise

theorem iblk5 (r : Fin 128) (k : Fin 2048) : (iblk m c 5 t : FVec Ideal S128x2048 .bf16) (ix2 r k) = (du (row t r) ⟨4232 + k, by omega⟩ : EReal) := by
  have e : (win0_5.blk t).view.emb (ix2 r k) = ix2 (row t r) k := by blk_ext [idx t]
  blk_simp [iblk]
  rw [V_v10, e, ← hdu]
  pointwise

theorem iblk6 (r : Fin 128) (k : Fin 128) : (iblk m c 6 t : FVec Ideal S128x128 .bf16) (ix2 r k)
    = ((if h : k.val < 8 then du (row t r) ⟨4224 + k, by omega⟩ else 0 : ℝ) : EReal) := by
  have e : (win0_6.blk t).view.emb (ix2 r k) = ix2 (row t r) k := by blk_ext [idx t]
  blk_simp [iblk]
  rw [V_v15, e]
  pointwise
  have hr := (row t r).isLt
  split_ifs with h1 h2 h2
  · exact hdu _ _
  · exact absurd h1.2 h2
  · exact absurd ⟨hr, h2⟩ h1
  · exact sitofp_zero _
end

section
include hw
theorem iblk7 (k : Fin 2176) (l : Fin 1024) : (iblk m c 7 t : FVec Ideal S2176x1024 .bf16) (ix2 k l) = (w l ⟨k, by omega⟩ : EReal) := by
  have e : (win0_7.blk t).view.emb (ix2 k l) = ix2 k l := by blk_ext [idx t]
  blk_simp [iblk]
  rw [V_v2, e, ← hw]
  pointwise [wT]

theorem iblk8 (k : Fin 2048) (l : Fin 1024) : (iblk m c 8 t : FVec Ideal S2048x1024 .bf16) (ix2 k l) = (w l ⟨2176 + k, by omega⟩ : EReal) := by
  have e : (win0_8.blk t).view.emb (ix2 k l) = ix2 k l := by blk_ext [idx t]
  blk_simp [iblk]
  rw [V_v5, e, ← hw]
  pointwise [wT]

theorem iblk9 (k : Fin 2048) (l : Fin 1024) : (iblk m c 9 t : FVec Ideal S2048x1024 .bf16) (ix2 k l) = (w l ⟨4232 + k, by omega⟩ : EReal) := by
  have e : (win0_9.blk t).view.emb (ix2 k l) = ix2 k l := by blk_ext [idx t]
  blk_simp [iblk]
  rw [V_v8, e, ← hw]
  pointwise [wT]

theorem iblk10 (k : Fin 128) (l : Fin 1024) : (iblk m c 10 t : FVec Ideal S128x1024 .bf16) (ix2 k l)
    = ((if h : k.val < 8 then w l ⟨4224 + k, by omega⟩ else 0 : ℝ) : EReal) := by
  have e : (win0_10.blk t).view.emb (ix2 k l) = ix2 k l := by blk_ext [idx t]
  blk_simp [iblk]
  rw [V_v13, e]
  pointwise [wT]
  split_ifs
  · exact hw _ _
  · exact sitofp_zero _
end

include hw hdu in
/-- The products of point `t`'s blocks are the rows of the whole product. -/
theorem dh_at (r : Fin 128) (l : Fin 1024) :
    k0_pay6 (F := Ideal) (iblk m c 3 t) (iblk m c 7 t) (iblk m c 4 t) (iblk m c 8 t) (iblk m c 5 t) (iblk m c 9 t) (iblk m c 6 t) (iblk m c 10 t) (ix2 r l)
      = (dh w du (row t r) l : EReal) := by
  rw [pay6_at]
  simp only [iblk3 m c du hdu, iblk4 m c du hdu, iblk5 m c du hdu, iblk6 m c du hdu, iblk7 m c w hw, iblk8 m c w hw, iblk9 m c w hw, iblk10 m c w hw]
  simp only [← EReal.coe_mul, coe_sum, ← EReal.coe_add]
  rw [dh, ← sum_segments]
  refine congrArg _ (congrArg _ (Finset.sum_congr rfl fun k _ => ?_))
  split <;> simp

end Cert.Xgrad

end
-- ==== Proof.Xgrad.Value.lean ====
/- The kernel's two result arrays are the reference's. -/
module

public import proofs.«01_k».proof.Proof.Xgrad.Blocks
public import proofs.«01_k».proof.Proof.Gen.XgradKernelIdeal.Value

@[expose] public section

set_option maxRecDepth 16384

noncomputable section

open Idealize.ShloMosaic Idealize.ShloMosaic.TcCoe Idealize.SL.Sem
open Cert.Reals Cert.XgradKernelIdeal Cert.XgradKernelIdeal.Gen

namespace Cert.Xgrad

variable (m : (ℓ : Loc nD τ sig) → Buf (Elt Ideal) ℓ) (c : Dev nD)
  (x : Fin 2048 → Fin 1024 → ℝ) (g : Fin 1024 → ℝ) (w : Fin 1024 → Fin 6280 → ℝ) (du : Fin 2048 → Fin 6280 → ℝ)
  (hx : ∀ r k, (m ((c.tc : Thread nD τ).loc main_arg0) : FVec Ideal S2048x1024 .f32) (ix2 r k) = (x r k : EReal))
  (hg : ∀ k, (m ((c.tc : Thread nD τ).loc main_arg1) : FVec Ideal S1x1024 .f32) (ix2 0 k) = (g k : EReal))
  (hw : ∀ r k, (m ((c.tc : Thread nD τ).loc main_arg2) : FVec Ideal S1024x6280 .f32) (ix2 r k) = (w r k : EReal))
  (hdu : ∀ r k, (m ((c.tc : Thread nD τ).loc main_arg4) : FVec Ideal S2048x6280 .f32) (ix2 r k) = (du r k : EReal))

include hx hg hw hdu in
/-- The gradient of `x` the kernel leaves. -/
theorem final_dx (G : FVec Ideal S2048x1024 .f32)
    (hG : ∀ r l, G (ix2 r l) = (rowGrad (dh w du r) (x r) g l : EReal)
      + (m ((c.tc : Thread nD τ).loc main_arg3) : FVec Ideal S2048x1024 .f32) (ix2 r l)) :
    (dats m 0 c).arrAt 11 cfg0.N = G := by
  refine (dats m 0 c).arrAt_eq_of_covers 11 _ (by decide +kernel) fun t hf y => ?_
  blk_simp
  rw [after0_11]
  obtain ⟨r, l, rfl⟩ : ∃ (r : Fin 128) (l : Fin 1024), y = ix2 r l := exists_ix2 y
  have e : (win0_11.blk t).view.emb (ix2 r l) = ix2 (row t r) l := by blk_ext [idx t]
  rw [e, hG, ← iblk2 m c t]
  by_cases h : t.val % 16 = 0
  · rw [outsAt0_A m c t h]; frame_out
    exact pay4_at _ _ _ _ r l _ _ g (dh_at m c w du hw hdu t r) (iblk0 m c x hx t r) (iblk1 m c g hg t)
  · rw [outsAt0_B m c t h]; frame_out
    exact pay4_at _ _ _ _ r l _ _ g (dh_at m c w du hw hdu t r) (iblk0 m c x hx t r) (iblk1 m c g hg t)

include hx hw hdu in
/-- The gradient of the norm's weights the kernel leaves. -/
theorem final_dg (G : FVec Ideal S1x1024 .f32)
    (hG : ∀ l, G (ix2 0 l) = ((∑ r, dh w du r l * (x r l * rs (x r)) : ℝ) : EReal)) :
    (dats m 0 c).arrAt 12 cfg0.N = G := by
  refine (dats m 0 c).arrAt_eq_of_covers 12 _ (by decide +kernel) fun t hf y => ?_
  blk_simp
  obtain ⟨l, rfl⟩ : ∃ l : Fin 1024, y = ix2 0 l := exists_ix2_row y
  have e : (win0_12.blk t).view.emb (ix2 0 l) = ix2 0 l := by blk_ext [idx t]
  let part : Fin cfg0.N → S1x1024.Idx → EReal := fun s i => ((∑ r, dh w du (row s r) (i 1) * (x (row s r) (i 1) * rs (x (row s r))) : ℝ) : EReal)
  have hlast : t.val % 16 = 15 := (flush0_12 t).mp hf
  have hstep : ∀ (s : Fin cfg0.N) (acc : FVec Ideal S1x1024 .f32) (i : S1x1024.Idx), k0_pay3 (F := Ideal)
      (k0_pay6 (iblk m c 3 s) (iblk m c 7 s) (iblk m c 4 s) (iblk m c 8 s) (iblk m c 5 s) (iblk m c 9 s) (iblk m c 6 s) (iblk m c 10 s))
      (iblk m c 0 s) (k0_pay7 (iblk m c 0 s)) acc i = acc i + part s i := by
    intro s acc i
    obtain ⟨l, rfl⟩ := exists_ix2_row i
    exact pay3_at _ _ _ l _ _ (dh_at m c w du hw hdu s) (iblk0 m c x hx s)
  rw [e, hG, after0_12, Pipeline.eq_sum_fin_of_reset_step_apply_of_flush (fun n h => (outsAt0 m c n h).2) 16 (fun _ => (0 : EReal)) part
    (fun s h i => by
      rw [outsAt0_A m c s h]; frame_out
      refine (hstep s _ i).trans (congrArg (· + part s i) ?_)
      pointwise [k0_pay5])
    (fun s h i => by rw [outsAt0_B m c s h]; frame_out; exact hstep s _ i) t hlast (ix2 0 l)]
  have ht : t.val / 16 = 0 := Nat.div_eq_of_lt t.isLt
  simp only [zero_add, part, coe_sum]
  refine congrArg _ ?_
  refine Fin.sum_mul_add_congr (S := 16) (n := 128) fun s r hl => ?_
  have hrow : row ⟨16 * (t.val / 16) + s.val, (show 16 * (t.val / 16) + s.val < 16 by have := s.isLt; omega)⟩ r = ⟨s.val * 128 + r.val, hl⟩ :=
    Fin.ext (by simp only [row, ht]; omega)
  rw [hrow]
  rfl

end Cert.Xgrad

end
-- ==== Proof.Xgrad.Claim.lean ====
/- The kernel and the reference leave the same gradients. -/
module

public import proofs.«01_k».proof.Defs
public import proofs.«01_k».proof.Proof.Gen.Pre_xgrad_finite
public import proofs.«01_k».proof.Proof.Xgrad.Value

@[expose] public section

set_option maxRecDepth 16384

noncomputable section

open Idealize.ShloMosaic Idealize.ShloMosaic.TcCoe Idealize.SL.Sem
open Cert.Reals

namespace Cert.Xgrad

/-- The precondition, read: the arguments named in it are arrays of reals. -/
theorem reals_of_pre (A0 : FVec Ideal Cert.XgradKernelIdeal.S2048x1024 .f32) (A1 : FVec Ideal Cert.XgradKernelIdeal.S1x1024 .f32)
    (A2 : FVec Ideal Cert.XgradKernelIdeal.S1024x6280 .f32) (A3 : FVec Ideal Cert.XgradKernelIdeal.S2048x1024 .f32)
    (A4 : FVec Ideal Cert.XgradKernelIdeal.S2048x6280 .f32)
    (h : ∀ i, Cert.Pre_xgrad_finite.fn A0 A1 A2 A3 A4 i = 1#1) :
    (∃ x : Fin 2048 → Fin 1024 → ℝ, ∀ r k, A0 (ix2 r k) = (x r k : EReal)) ∧ (∃ g : Fin 1024 → ℝ, ∀ k, A1 (ix2 0 k) = (g k : EReal))
      ∧ (∃ w : Fin 1024 → Fin 6280 → ℝ, ∀ r k, A2 (ix2 r k) = (w r k : EReal))
      ∧ ∃ du : Fin 2048 → Fin 6280 → ℝ, ∀ r k, A4 (ix2 r k) = (du r k : EReal) := by
  have h := h (fun a => a.elim0)
  dsimp only [Cert.Pre_xgrad_finite.fn, Cert.Pre_xgrad_finite.fn_part1, andi] at h
  obtain ⟨h, h4⟩ := IntOp.andi_eq_one.mp h
  obtain ⟨h, h2⟩ := IntOp.andi_eq_one.mp h
  obtain ⟨h0, h1⟩ := IntOp.andi_eq_one.mp h
  have : Subsingleton Cert.Pre_xgrad_finite.S_.Idx := ⟨fun a b => funext fun i => i.elim0⟩
  obtain ⟨x, hx⟩ := exists_of_finite A0 _ (fun i => ofBits_inf) _ _ _ _ h0
  obtain ⟨g, hg⟩ := exists_of_finite A1 _ (fun i => ofBits_inf) _ _ _ _ h1
  obtain ⟨w, hw⟩ := exists_of_finite A2 _ (fun i => ofBits_inf) _ _ _ _ h2
  obtain ⟨du, hdu⟩ := exists_of_finite A4 _ (fun i => ofBits_inf) _ _ _ _ h4
  exact ⟨⟨fun r k => x (ix2 r k), fun r k => hx _⟩, ⟨fun k => g (ix2 0 k), fun k => hg _⟩,
    ⟨fun r k => w (ix2 r k), fun r k => hw _⟩, ⟨fun r k => du (ix2 r k), fun r k => hdu _⟩⟩

/-- The reference runs and keeps its arguments; it has no semaphore. -/
theorem ref_frame : Cert.quiescent_XgradReferenceIdeal := fun m ρ _ =>
  (θ_run _ _ _).mono (fun _ h => ⟨fun c => (h c).2.2, sem_eq_zero_of_no_sems rfl _⟩) (Cert.XgradReferenceIdeal.Value.run m ρ)

/-- The value claim. -/
theorem algebraic : Cert.algebraic_XgradKernelIdeal_XgradReferenceIdeal_pre_xgrad_finite := by
  intro m g m' g' hpre hargs
  have hfin := fun c => reals_of_pre _ _ _ _ _ fun i => congrFun (hpre c) i
  refine ⟨fun c => (Cert.XgradKernelIdeal.Gen.dats m 0 c).arrAt 11 _, fun c => (Cert.XgradKernelIdeal.Gen.dats m 0 c).arrAt 12 _,
    Cert.XgradKernelIdeal.Value.run_blocks m g, (θ_run _ _ _).mono (fun r h c => ?_) (Cert.XgradReferenceIdeal.Value.run m' g')⟩
  obtain ⟨h0, h1, hkept⟩ := h c
  obtain ⟨⟨x, hx⟩, ⟨gn, hg⟩, ⟨w, hw⟩, du, hdu⟩ := hfin c
  obtain ⟨a0, a1, a2, a3, a4⟩ := hargs c
  refine ⟨h0.trans (final_dx m c x gn w du hx hg hw hdu _ fun r l => ?_).symm, h1.trans (final_dg m c x w du hx hw hdu _ fun l => ?_).symm, hkept⟩
  · rw [← a3]
    exact ref_dx m' c x gn w du (fun r k => (congrFun a0 _).trans (hx r k)) (fun k => (congrFun a1 _).trans (hg k))
      (fun r k => (congrFun a2 _).trans (hw r k)) (fun r k => (congrFun a4 _).trans (hdu r k)) r l
  · exact ref_dg _ _ _ x w du (fun r k => (congrFun a0 _).trans (hx r k)) (fun r k => (congrFun a2 _).trans (hw r k))
      (fun r k => (congrFun a4 _).trans (hdu r k)) l

end Cert.Xgrad

end
-- ==== Proof.Attn.Run.lean ====
module

public import proofs.«01_k».proof.Proof.Gen.AttnKernelIdeal.Launch
public import proofs.«01_k».proof.Proof.Gen.AttnKernelIdeal.Skeleton
public import proofs.«01_k».proof.Proof.Gen.AttnKernelIdeal.Points
public import Idealize.ShloMosaic.Lib.Pipeline.FrameBody
public import Idealize.ShloMosaic.Lib.Ring
public import Idealize.ShloMosaic.Lib.Tactic
public import Idealize.ShloMosaic.Lib.WordCmp

/-! # One grid point of the attention's gradient, run

Each of the body's eight branches (one per group of queries) from the blocks it is handed to the blocks it leaves. -/

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The blocks of the eight inputs at one grid point. -/
structure Ins (F : FTy → Type) where
  q : Vec F S1x256x64 .f32
  k : Vec F S1x2048x64 .f32
  v : Vec F S1x2048x64 .f32
  cq : Vec F S1x256x1 .f32
  ck : Vec F S1x1x2048 .f32
  o : Vec F S1x256x64 .f32
  lse : Vec F S1x256x1 .f32
  ct : Vec F S1x256x64 .f32

/-- The three blocks that stay in place over a head's eight points. -/
structure Kept (F : FTy → Type) where
  dk : Vec F S1x2048x64 .f32
  dv : Vec F S1x2048x64 .f32
  dck : Vec F S1x1x2048 .f32

/-- The stores of one point into the five output blocks, last store first. -/
structure Stores (F : FTy → Type) [FloatOps F] where
  dq : List (View.Piece (Elt F) S1x256x64 .f32)
  dk : List (View.Piece (Elt F) S1x2048x64 .f32)
  dv : List (View.Piece (Elt F) S1x2048x64 .f32)
  dcq : List (View.Piece (Elt F) S1x256x1 .f32)
  dck : List (View.Piece (Elt F) S1x1x2048 .f32)

/-- The buffers the body is called on, each a whole one. -/
structure Refs where
  q : Memref sig .tc .vmem S1x256x64 .f32
  hq : q.IsWhole
  k : Memref sig .tc .vmem S1x2048x64 .f32
  hk : k.IsWhole
  v : Memref sig .tc .vmem S1x2048x64 .f32
  hv : v.IsWhole
  cq : Memref sig .tc .vmem S1x256x1 .f32
  hcq : cq.IsWhole
  ck : Memref sig .tc .vmem S1x1x2048 .f32
  hck : ck.IsWhole
  o : Memref sig .tc .vmem S1x256x64 .f32
  ho : o.IsWhole
  lse : Memref sig .tc .vmem S1x256x1 .f32
  hlse : lse.IsWhole
  ct : Memref sig .tc .vmem S1x256x64 .f32
  hct : ct.IsWhole
  dq : Memref sig .tc .vmem S1x256x64 .f32
  hdq : dq.IsWhole
  dk : Memref sig .tc .vmem S1x2048x64 .f32
  hdk : dk.IsWhole
  dv : Memref sig .tc .vmem S1x2048x64 .f32
  hdv : dv.IsWhole
  dcq : Memref sig .tc .vmem S1x256x1 .f32
  hdcq : dcq.IsWhole
  dck : Memref sig .tc .vmem S1x1x2048 .f32
  hdck : dck.IsWhole

/-- The body on the buffers `r`. -/
abbrev body (i : grid0.Coords) (r : Refs) : Prog (TpuEff nD τ sig (Elt F) Λ₀ .tc) PUnit :=
  cc0_fox_attn_bwd i r.q r.hq r.k r.hk r.v r.hv r.cq r.hcq r.ck r.hck r.o r.ho r.lse
    r.hlse r.ct r.hct r.dq r.hdq r.dk r.hdk r.dv r.hdv r.dcq r.hdcq r.dck r.hdck

/-- The buffer behind a memref, held whole at the contents `f`. -/
abbrev at_ {s : Shape} (c : Dev nD) (a : Memref sig .tc .vmem s .f32) (f : Buf (Elt F) (a.view.loc (c : Thread nD τ))) : sProp 𝕄 :=
  a.view.loc (c : Thread nD τ) ↦[a.view.set]{fullShare} f

/-- The body at `i` turns the inputs' and kept blocks into themselves and the stores `L`. -/
def Runs (c : Dev nD) (i : grid0.Coords) (r : Refs) (x : Ins F) (y : Kept F) (L : Stores F) : Prop :=
  ∀ f8 f11 (E : Set ℕ) (K : PUnit → sProp 𝕄),
    iprop(at_ c r.q (r.hq.unread x.q) ∗ at_ c r.k (r.hk.unread x.k) ∗ at_ c r.v (r.hv.unread x.v) ∗
          at_ c r.cq (r.hcq.unread x.cq) ∗ at_ c r.ck (r.hck.unread x.ck) ∗ at_ c r.o (r.ho.unread x.o) ∗
          at_ c r.lse (r.hlse.unread x.lse) ∗ at_ c r.ct (r.hct.unread x.ct) ∗ at_ c r.dq (f8) ∗
          at_ c r.dk (r.hdk.unread y.dk) ∗ at_ c r.dv (r.hdv.unread y.dv) ∗ at_ c r.dcq (f11) ∗
          at_ c r.dck (r.hdck.unread y.dck)
        ∗ (iprop(at_ c r.q (r.hq.unread x.q) ∗ at_ c r.k (r.hk.unread x.k) ∗ at_ c r.v (r.hv.unread x.v) ∗
          at_ c r.cq (r.hcq.unread x.cq) ∗ at_ c r.ck (r.hck.unread x.ck) ∗ at_ c r.o (r.ho.unread x.o) ∗
          at_ c r.lse (r.hlse.unread x.lse) ∗ at_ c r.ct (r.hct.unread x.ct) ∗ at_ c r.dq (r.dq.view.writes (Elt F) (f8) L.dq) ∗
          at_ c r.dk (r.dk.view.writes (Elt F) (r.hdk.unread y.dk) L.dk) ∗ at_ c r.dv (r.dv.view.writes (Elt F) (r.hdv.unread y.dv) L.dv) ∗ at_ c r.dcq (r.dcq.view.writes (Elt F) (f11) L.dcq) ∗
          at_ c r.dck (r.dck.view.writes (Elt F) (r.hdck.unread y.dck) L.dck)) -∗ K ⟨⟩))
      ⊢ wp frame (wpE (defs₀ (F := F)) Variants.none c none) E (body i r) K

/-- Which of the body's conditions hold at a point: the first two at a head's first point, and one for each later
    tile. -/
theorem conds (i : grid0.Coords) :
    (k0_cond1 i = 1#1 ↔ (i 1).val = 0) ∧ (k0_cond2 i = 1#1 ↔ (i 1).val = 0) ∧ (k0_cond3 i = 1#1 ↔ (i 1).val = 1)
    ∧ (k0_cond4 i = 1#1 ↔ (i 1).val = 2) ∧ (k0_cond5 i = 1#1 ↔ (i 1).val = 3) ∧ (k0_cond6 i = 1#1 ↔ (i 1).val = 4)
    ∧ (k0_cond7 i = 1#1 ↔ (i 1).val = 5) ∧ (k0_cond8 i = 1#1 ↔ (i 1).val = 6) ∧ (k0_cond9 i = 1#1 ↔ (i 1).val = 7) := by
  have h := (i 1).isLt
  unfold k0_cond1 k0_cond2 k0_cond3 k0_cond4 k0_cond5 k0_cond6 k0_cond7 k0_cond8 k0_cond9
  generalize (i 1).val = a at h ⊢
  change a < 8 at h
  interval_cases a <;> decide

set_option maxHeartbeats 8000000 in
/-- The stores of a point of the tile `g`, and that the body makes them. -/
noncomputable def run (c : Dev nD) (i : grid0.Coords) (g : Nat) (hi : (i 1).val = g) (r : Refs) (x : Ins F) (y : Kept F) :
    {L : Stores F // Runs c i r x y L} := by
  match g, hi with
  | 0, hi | 1, hi | 2, hi | 3, hi | 4, hi | 5, hi | 6, hi | 7, hi =>
    refine ⟨⟨?_, ?_, ?_, ?_, ?_⟩, ?run⟩
    case run =>
      obtain ⟨h1, h2, h3, h4, h5, h6, h7, h8, h9⟩ := conds i
      rw [hi] at h1 h2 h3 h4 h5 h6 h7 h8 h9
      simp at h1 h2 h3 h4 h5 h6 h7 h8 h9
      unfold Runs body at_; intro f8 f11 E K
      rw [cc0_fox_attn_bwd_eq_skeleton]; unfold cc0_fox_attn_bwd_skel
      simp only [k0_part1_eq_skeleton, k0_part2_eq_skeleton, k0_part3_eq_skeleton, k0_part4_eq_skeleton, k0_part5_eq_skeleton,
        k0_part6_eq_skeleton, k0_part7_eq_skeleton, k0_part8_eq_skeleton, k0_part9_eq_skeleton, k0_part10_eq_skeleton,
        k0_part11_eq_skeleton, k0_part12_eq_skeleton, k0_part13_eq_skeleton, k0_part14_eq_skeleton,
        k0_part15_eq_skeleton, k0_part16_eq_skeleton, k0_part17_eq_skeleton, k0_part18_eq_skeleton,
        k0_part19_eq_skeleton, k0_part20_eq_skeleton, k0_part21_eq_skeleton, k0_part22_eq_skeleton,
        k0_part23_eq_skeleton, k0_part24_eq_skeleton, k0_part25_eq_skeleton, k0_part26_eq_skeleton,
        k0_part27_eq_skeleton, k0_part28_eq_skeleton, k0_part29_eq_skeleton, k0_part30_eq_skeleton,
        k0_part31_eq_skeleton, k0_part32_eq_skeleton, k0_part33_eq_skeleton, k0_part34_eq_skeleton]
      iintro ⟨H0, H1, H2, H3, H4, H5, H6, H7, H8, H9, H10, H11, H12, Hk⟩
      sl_exec (disch := first | sl_exact h1 | sl_exact h2 | sl_exact h3 | sl_exact h4 | sl_exact h5 | sl_exact h6 | sl_exact h7 | sl_exact h8 | sl_exact h9)
      sl_step
      iapply Hk
      iframe
  | g + 8, hi => exact absurd (hi ▸ (i 1).isLt : g + 8 < 8) (by omega)

end Cert.AttnKernelIdeal.Hand

end
-- ==== Proof.Attn.Reads.lean ====
module

public import proofs.«01_k».proof.Proof.Attn.Run
public import Idealize.ShloMosaic.Lib.Pointwise
public import Idealize.ShloMosaic.Lib.WholeRead
public import Idealize.ShloMosaic.Lib.WritesUnit
public import Idealize.ShloMosaic.Lib.Pipeline.ReadBack

/-! # One point's stores, read at an index

What the body leaves in each output block, as one expression of the tile's number `g`: sums over the keys of the
earlier tiles, which every query of this tile attends, and over the tile's own keys, under the mask. -/

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.ShloMosaic.Rounds

/-- The logit of the tile's query `a` and key `j`, without the query's own decay. -/
def logitE (x : Ins Ideal) (a : Fin 256) (j : Fin 2048) : EReal :=
  (∑ d : Fin 64, x.q (ix3 0 a d) * Ideal.ofBits .f32 1040187392#32 * x.k (ix3 0 j d)) - x.ck (ix3 0 0 j)

/-- Its probability where no mask stands, -/
def probE (x : Ins Ideal) (a : Fin 256) (j : Fin 2048) : EReal :=
  Ideal.exp (logitE x a j + (x.cq (ix3 0 a 0) - x.lse (ix3 0 a 0)))

/-- and under the mask, the key the tile's own `b`-th. -/
def maskedE (i : grid0.Coords) (g : ℕ) (x : Ins Ideal) (a b : Fin 256) (j : Fin 2048) : EReal :=
  Ideal.exp (Scalar.select (IntOp.cmpi .sge (IntOp.addi (Scalar.muli (Scalar.subi (BitVec.ofNat 32 (i 1).val) (BitVec.ofNat 32 g)) 256#32)
      (BitVec.ofNat 32 a.val)) (BitVec.ofNat 32 b.val)) (logitE x a j) (Named.named (F := Ideal) κ "mask" (φ := .f32) 4048155338#32)
    + (x.cq (ix3 0 a 0) - x.lse (ix3 0 a 0)))

/-- The gradient of that probability before the softmax's own factor. -/
def slopeE (x : Ins Ideal) (a : Fin 256) (j : Fin 2048) : EReal :=
  (∑ d : Fin 64, x.ct (ix3 0 a d) * x.v (ix3 0 j d)) - ∑ d : Fin 64, x.ct (ix3 0 a d) * x.o (ix3 0 a d)

/-- A load after a store of the whole block reads what was stored. -/
theorem filled {s : Shape} {sp : Space} (v : View sig .tc sp s .f32) {off : Fin s.rank → ℕ} (inb : ∀ a, off a + s.size a ≤ s.size a) (Z : Vec Ideal s .f32)
    (r : Rect s) (h : ∀ a, off a = 0) (x : r.toLoadRect.shape.Idx) :
    v.readCov (Val := Elt Ideal) [⟨Rect.unit off (no_index s.size) inb, Z⟩] r.toLoadRect x = Z (r.toLoadRect.idx x) := by
  rw [View.readCov_fill v inb Z [] r h]

theorem none_before (f : Fin (256 * 0) → EReal) (s : EReal) : (∑ b, f b) + s = s := by
  rw [show (∑ b, f b) = 0 from Fintype.sum_empty (ι := Fin 0) f, zero_add]

set_option maxHeartbeats 6400000 in
/-- The five outputs' blocks after the point's stores. -/
theorem reads (c : Dev nD) (i : grid0.Coords) (g : ℕ) (hi : (i 1).val = g) (hg : 256 * g + 256 ≤ 2048) (r : Refs) (x : Ins Ideal) (y : Kept Ideal)
    (f8 : Buf (Elt Ideal) (r.dq.view.loc (c : Thread nD τ))) (f11 : Buf (Elt Ideal) (r.dcq.view.loc (c : Thread nD τ))) :
    (∀ a d, r.dq.view.read (Elt Ideal) (r.dq.view.writes (Elt Ideal) f8 (run c i g hi r x y).1.dq) (ix3 0 a d)
      = ((∑ b : Fin (256 * g), probE x a ⟨b.val, by omega⟩ * slopeE x a ⟨b.val, by omega⟩ * x.k (ix3 0 ⟨b.val, by omega⟩ d))
        + ∑ b : Fin 256, maskedE i g x a b ⟨256 * g + b.val, by omega⟩ * slopeE x a ⟨256 * g + b.val, by omega⟩ * x.k (ix3 0 ⟨256 * g + b.val, by omega⟩ d))
          * Ideal.ofBits .f32 1040187392#32)
    ∧ (∀ a, r.dcq.view.read (Elt Ideal) (r.dcq.view.writes (Elt Ideal) f11 (run c i g hi r x y).1.dcq) (ix3 0 a 0)
      = (∑ b : Fin (256 * g), probE x a ⟨b.val, by omega⟩ * slopeE x a ⟨b.val, by omega⟩)
        + ∑ b : Fin 256, maskedE i g x a b ⟨256 * g + b.val, by omega⟩ * slopeE x a ⟨256 * g + b.val, by omega⟩)
    ∧ (∀ (b : Fin 256) (d), r.dk.view.read (Elt Ideal) (r.dk.view.writes (Elt Ideal) (r.hdk.unread y.dk) (run c i g hi r x y).1.dk) (ix3 0 ⟨256 * g + b.val, by omega⟩ d)
      = (if g = 0 then 0 else y.dk (ix3 0 ⟨256 * g + b.val, by omega⟩ d))
        + ∑ a : Fin 256, maskedE i g x a b ⟨256 * g + b.val, by omega⟩ * slopeE x a ⟨256 * g + b.val, by omega⟩ * (x.q (ix3 0 a d) * Ideal.ofBits .f32 1040187392#32))
    ∧ (∀ (b : Fin (256 * g)) (d), r.dk.view.read (Elt Ideal) (r.dk.view.writes (Elt Ideal) (r.hdk.unread y.dk) (run c i g hi r x y).1.dk) (ix3 0 ⟨b.val, by omega⟩ d)
      = y.dk (ix3 0 ⟨b.val, by omega⟩ d)
        + ∑ a : Fin 256, probE x a ⟨b.val, by omega⟩ * slopeE x a ⟨b.val, by omega⟩ * (x.q (ix3 0 a d) * Ideal.ofBits .f32 1040187392#32))
    ∧ (∀ (j : Fin 2048) (_ : 256 * g + 256 ≤ j.val) (d), r.dk.view.read (Elt Ideal) (r.dk.view.writes (Elt Ideal) (r.hdk.unread y.dk) (run c i g hi r x y).1.dk) (ix3 0 j d)
      = if g = 0 then 0 else y.dk (ix3 0 j d))
    ∧ (∀ (b : Fin 256) (d), r.dv.view.read (Elt Ideal) (r.dv.view.writes (Elt Ideal) (r.hdv.unread y.dv) (run c i g hi r x y).1.dv) (ix3 0 ⟨256 * g + b.val, by omega⟩ d)
      = (if g = 0 then 0 else y.dv (ix3 0 ⟨256 * g + b.val, by omega⟩ d))
        + ∑ a : Fin 256, maskedE i g x a b ⟨256 * g + b.val, by omega⟩ * x.ct (ix3 0 a d))
    ∧ (∀ (b : Fin (256 * g)) (d), r.dv.view.read (Elt Ideal) (r.dv.view.writes (Elt Ideal) (r.hdv.unread y.dv) (run c i g hi r x y).1.dv) (ix3 0 ⟨b.val, by omega⟩ d)
      = y.dv (ix3 0 ⟨b.val, by omega⟩ d) + ∑ a : Fin 256, probE x a ⟨b.val, by omega⟩ * x.ct (ix3 0 a d))
    ∧ (∀ (j : Fin 2048) (_ : 256 * g + 256 ≤ j.val) (d), r.dv.view.read (Elt Ideal) (r.dv.view.writes (Elt Ideal) (r.hdv.unread y.dv) (run c i g hi r x y).1.dv) (ix3 0 j d)
      = if g = 0 then 0 else y.dv (ix3 0 j d))
    ∧ (∀ (b : Fin 256), r.dck.view.read (Elt Ideal) (r.dck.view.writes (Elt Ideal) (r.hdck.unread y.dck) (run c i g hi r x y).1.dck) (ix3 0 0 ⟨256 * g + b.val, by omega⟩)
      = (if g = 0 then 0 else y.dck (ix3 0 0 ⟨256 * g + b.val, by omega⟩))
        - ∑ a : Fin 256, maskedE i g x a b ⟨256 * g + b.val, by omega⟩ * slopeE x a ⟨256 * g + b.val, by omega⟩)
    ∧ (∀ (b : Fin (256 * g)), r.dck.view.read (Elt Ideal) (r.dck.view.writes (Elt Ideal) (r.hdck.unread y.dck) (run c i g hi r x y).1.dck) (ix3 0 0 ⟨b.val, by omega⟩)
      = y.dck (ix3 0 0 ⟨b.val, by omega⟩) - ∑ a : Fin 256, probE x a ⟨b.val, by omega⟩ * slopeE x a ⟨b.val, by omega⟩)
    ∧ (∀ (j : Fin 2048) (_ : 256 * g + 256 ≤ j.val), r.dck.view.read (Elt Ideal) (r.dck.view.writes (Elt Ideal) (r.hdck.unread y.dck) (run c i g hi r x y).1.dck) (ix3 0 0 j)
      = if g = 0 then 0 else y.dck (ix3 0 0 j)) := by
  match g, hi with

  | 0, hi =>
    refine ⟨fun a d => ?_, fun a => ?_, fun b d => ?_, fun b => b.elim0, fun j hj d => ?_, fun b d => ?_, fun b => b.elim0,
      fun j hj d => ?_, fun b => ?_, fun b => b.elim0, fun j hj => ?_⟩ <;> unfold run <;> dsimp only
    all_goals first
      | refine (View.read_writes_cons_unit_of_mem _ _ _ _ _ _ (ix3 0 a d) rfl (by intro e; fin_cases e <;> simp)).trans ?_
      | refine (View.read_writes_cons_unit_of_mem _ _ _ _ _ _ (ix3 0 a 0) rfl (by intro e; fin_cases e <;> simp)).trans ?_
      | refine (View.read_writes_cons_unit_of_mem _ _ _ _ _ _ (ix3 0 b d) rfl (by intro e; fin_cases e <;> simp)).trans ?_
      | refine (View.read_writes_cons_unit_of_mem _ _ _ _ _ _ (ix3 0 0 b) rfl (by intro e; fin_cases e <;> simp)).trans ?_
      | refine (View.read_writes_cons_unit_of_not_mem _ _ _ _ _ _ rfl 1 (.inr hj)).trans
          ((View.read_writes_cons_unit_of_mem _ _ _ _ _ _ (ix3 0 j d) rfl (by intro e; fin_cases e <;> simp)).trans ?_)
      | refine (View.read_writes_cons_unit_of_not_mem _ _ _ _ _ _ rfl 2 (.inr hj)).trans
          ((View.read_writes_cons_unit_of_mem _ _ _ _ _ _ (ix3 0 0 j) rfl (by intro e; fin_cases e <;> simp)).trans ?_)
    all_goals pointwise [filled,
      k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, k0_pay50, k0_pay51, k0_pay52, k0_pay53, k0_pay54, k0_pay55, k0_pay56,
      k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89,
      k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150,
      k0_pay151, k0_pay152, k0_pay153, k0_pay154, k0_pay155, k0_pay156, k0_pay157, k0_pay158, k0_pay159, k0_pay160,
      k0_pay161, k0_pay162, k0_pay163, k0_pay164, k0_pay165, run.sl.H10_1, run.sl.H12_1, run.sl.H9_1, run.sl.cst,
      run.sl.cst_1, run.sl.cst_105, run.sl.cst_105_1, run.sl.cst_105_2, run.sl.cst_105_3, run.sl.cst_105_4,
      run.sl.cst_2, run.sl.cst_3, run.sl.cst_4, run.sl.cst_5, run.sl.cst_6, run.sl.cst_83, run.sl.cst_83_1,
      run.sl.cst_83_2, run.sl.cst_83_3, run.sl.cst_83_4, run.sl.cst_83_5, run.sl.cst_83_6, run.sl.cst_87,
      run.sl.cst_87_1, run.sl.cst_87_2, run.sl.cst_87_3, run.sl.cst_87_4, run.sl.cst_87_5, run.sl.cst_88,
      run.sl.cst_98, run.sl.cst_98_1, run.sl.cst_98_2, run.sl.cst_98_3, run.sl.cst_98_4, run.sl.cst_98_5,
      run.sl.cst_99, run.sl.cst_99_1, run.sl.cst_99_2, run.sl.cst_99_3, run.sl.cst_99_4, run.sl.cst_99_5, run.sl.r,
      run.sl.r_1, run.sl.r_10, run.sl.r_11, run.sl.r_12, run.sl.r_13, run.sl.r_14, run.sl.r_15, run.sl.r_16,
      run.sl.r_17, run.sl.r_18, run.sl.r_19, run.sl.r_2, run.sl.r_20, run.sl.r_21, run.sl.r_22, run.sl.r_23,
      run.sl.r_24, run.sl.r_25, run.sl.r_26, run.sl.r_27, run.sl.r_28, run.sl.r_29, run.sl.r_3, run.sl.r_30,
      run.sl.r_31, run.sl.r_32, run.sl.r_33, run.sl.r_34, run.sl.r_35, run.sl.r_4, run.sl.r_5, run.sl.r_6, run.sl.r_7,
      run.sl.r_8, run.sl.r_9, run.sl.v164, run.sl.v164_1, run.sl.v164_2, run.sl.v164_3, run.sl.v164_4, run.sl.v164_5,
      run.sl.v164_6, run.sl.v165, run.sl.v165_1, run.sl.v165_2, run.sl.v165_3, run.sl.v165_4, run.sl.v165_5,
      run.sl.v165_6, run.sl.v166, run.sl.v166_1, run.sl.v166_2, run.sl.v166_3, run.sl.v166_4, run.sl.v166_5,
      run.sl.v166_6, run.sl.v167, run.sl.v167_1, run.sl.v167_2, run.sl.v167_3, run.sl.v167_4, run.sl.v167_5,
      run.sl.v167_6, run.sl.v169, run.sl.v169_1, run.sl.v169_2, run.sl.v169_3, run.sl.v169_4, run.sl.v169_5,
      run.sl.v169_6, run.sl.v170, run.sl.v170_1, run.sl.v170_2, run.sl.v170_3, run.sl.v170_4, run.sl.v170_5,
      run.sl.v170_6, run.sl.v172, run.sl.v172_1, run.sl.v172_2, run.sl.v172_3, run.sl.v172_4, run.sl.v172_5,
      run.sl.v172_6, run.sl.v174, run.sl.v174_1, run.sl.v174_2, run.sl.v174_3, run.sl.v174_4, run.sl.v174_5,
      run.sl.v174_6, run.sl.v175, run.sl.v175_1, run.sl.v175_2, run.sl.v175_3, run.sl.v175_4, run.sl.v175_5,
      run.sl.v175_6, run.sl.v179, run.sl.v179_1, run.sl.v179_2, run.sl.v179_3, run.sl.v179_4, run.sl.v179_5,
      run.sl.v179_6, run.sl.v180, run.sl.v180_1, run.sl.v180_2, run.sl.v180_3, run.sl.v180_4, run.sl.v180_5,
      run.sl.v180_6, run.sl.v181, run.sl.v181_1, run.sl.v181_2, run.sl.v181_3, run.sl.v181_4, run.sl.v181_5,
      run.sl.v181_6, run.sl.v182, run.sl.v182_1, run.sl.v182_2, run.sl.v182_3, run.sl.v182_4, run.sl.v182_5,
      run.sl.v182_6, run.sl.v183, run.sl.v184, run.sl.v184_1, run.sl.v184_2, run.sl.v184_3, run.sl.v184_4,
      run.sl.v184_5, run.sl.v184_6, run.sl.v185, run.sl.v185_1, run.sl.v185_2, run.sl.v185_3, run.sl.v185_4,
      run.sl.v185_5, run.sl.v186, run.sl.v186_1, run.sl.v186_2, run.sl.v186_3, run.sl.v186_4, run.sl.v186_5,
      run.sl.v186_6, run.sl.v187, run.sl.v188, run.sl.v188_1, run.sl.v188_2, run.sl.v188_3, run.sl.v188_4,
      run.sl.v188_5, run.sl.v188_6, run.sl.v189, run.sl.v189_1, run.sl.v189_2, run.sl.v189_3, run.sl.v189_4,
      run.sl.v189_5, run.sl.v190, run.sl.v190_1, run.sl.v190_2, run.sl.v190_3, run.sl.v190_4, run.sl.v190_5,
      run.sl.v190_6, run.sl.v191, run.sl.v191_1, run.sl.v191_2, run.sl.v191_3, run.sl.v191_4, run.sl.v191_5,
      run.sl.v191_6, run.sl.v192, run.sl.v192_1, run.sl.v192_2, run.sl.v192_3, run.sl.v192_4, run.sl.v192_5,
      run.sl.v192_6, run.sl.v193, run.sl.v193_1, run.sl.v193_2, run.sl.v193_3, run.sl.v193_4, run.sl.v193_5,
      run.sl.v193_6, run.sl.v195, run.sl.v195_1, run.sl.v195_2, run.sl.v195_3, run.sl.v195_4, run.sl.v195_5,
      run.sl.v196, run.sl.v196_1, run.sl.v196_2, run.sl.v196_3, run.sl.v196_4, run.sl.v196_5, run.sl.v197,
      run.sl.v197_1, run.sl.v197_2, run.sl.v197_3, run.sl.v197_4, run.sl.v197_5, run.sl.v198, run.sl.v198_1,
      run.sl.v198_2, run.sl.v198_3, run.sl.v198_4, run.sl.v198_5, run.sl.v199, run.sl.v199_1, run.sl.v199_2,
      run.sl.v199_3, run.sl.v199_4, run.sl.v199_5, run.sl.v200, run.sl.v200_1, run.sl.v200_2, run.sl.v200_3,
      run.sl.v200_4, run.sl.v200_5, run.sl.v203, run.sl.v203_1, run.sl.v203_2, run.sl.v203_3, run.sl.v203_4,
      run.sl.v203_5, run.sl.v205, run.sl.v205_1, run.sl.v205_2, run.sl.v205_3, run.sl.v205_4, run.sl.v205_5,
      run.sl.v206, run.sl.v206_1, run.sl.v206_2, run.sl.v206_3, run.sl.v206_4, run.sl.v206_5, run.sl.v207,
      run.sl.v207_1, run.sl.v207_2, run.sl.v207_3, run.sl.v207_4, run.sl.v207_5, run.sl.v208, run.sl.v208_1,
      run.sl.v208_2, run.sl.v208_3, run.sl.v208_4, run.sl.v208_5, run.sl.v209, run.sl.v209_1, run.sl.v209_2,
      run.sl.v209_3, run.sl.v209_4, run.sl.v209_5, run.sl.v210, run.sl.v210_1, run.sl.v210_2, run.sl.v210_3,
      run.sl.v210_4, run.sl.v210_5, run.sl.v211, run.sl.v211_1, run.sl.v211_2, run.sl.v211_3, run.sl.v211_4,
      run.sl.v211_5, run.sl.v213, run.sl.v213_1, run.sl.v213_2, run.sl.v213_3, run.sl.v213_4, run.sl.v213_5,
      run.sl.v215, run.sl.v215_1, run.sl.v215_2, run.sl.v215_3, run.sl.v215_4, run.sl.v215_5, run.sl.v216,
      run.sl.v216_1, run.sl.v216_2, run.sl.v216_3, run.sl.v216_4, run.sl.v216_5, run.sl.v219, run.sl.v219_1,
      run.sl.v219_2, run.sl.v219_3, run.sl.v219_4, run.sl.v219_5, run.sl.v221, run.sl.v221_1, run.sl.v221_2,
      run.sl.v221_3, run.sl.v221_4, run.sl.v221_5, run.sl.v221_6, run.sl.v222, run.sl.v222_1, run.sl.v222_2,
      run.sl.v222_3, run.sl.v222_4, run.sl.v222_5, run.sl.v223, run.sl.v223_1, run.sl.v223_2, run.sl.v223_3,
      run.sl.v223_4, run.sl.v223_5, run.sl.v224, run.sl.v224_1, run.sl.v224_2, run.sl.v224_3, run.sl.v224_4,
      run.sl.v224_5, run.sl.v227, run.sl.v227_1, run.sl.v227_2, run.sl.v227_3, run.sl.v227_4, run.sl.v227_5,
      run.sl.v229, run.sl.v23, run.sl.v237, run.sl.v23_1, run.sl.v23_2, run.sl.v23_3, run.sl.v23_4, run.sl.v23_5,
      run.sl.v23_6, run.sl.v23_7, run.sl.v24, run.sl.v24_1, run.sl.v24_2, run.sl.v24_3, run.sl.v24_4, run.sl.v24_5,
      run.sl.v24_6, run.sl.v24_7, run.sl.v25, run.sl.v25_1, run.sl.v25_2, run.sl.v25_3, run.sl.v25_4, run.sl.v25_5,
      run.sl.v25_6, run.sl.v25_7, run.sl.v26, run.sl.v264, run.sl.v264_1, run.sl.v264_2, run.sl.v264_3, run.sl.v264_4,
      run.sl.v264_5, run.sl.v265, run.sl.v265_1, run.sl.v265_2, run.sl.v265_3, run.sl.v265_4, run.sl.v265_5,
      run.sl.v266, run.sl.v266_1, run.sl.v266_2, run.sl.v266_3, run.sl.v266_4, run.sl.v266_5, run.sl.v267,
      run.sl.v267_1, run.sl.v267_2, run.sl.v267_3, run.sl.v267_4, run.sl.v267_5, run.sl.v268, run.sl.v268_1,
      run.sl.v268_2, run.sl.v268_3, run.sl.v268_4, run.sl.v268_5, run.sl.v269, run.sl.v269_1, run.sl.v269_2,
      run.sl.v269_3, run.sl.v269_4, run.sl.v269_5, run.sl.v26_1, run.sl.v26_2, run.sl.v26_3, run.sl.v26_4,
      run.sl.v26_5, run.sl.v26_6, run.sl.v26_7, run.sl.v27, run.sl.v270, run.sl.v270_1, run.sl.v270_2, run.sl.v270_3,
      run.sl.v270_4, run.sl.v270_5, run.sl.v271, run.sl.v271_1, run.sl.v271_2, run.sl.v271_3, run.sl.v271_4,
      run.sl.v271_5, run.sl.v272, run.sl.v272_1, run.sl.v272_2, run.sl.v272_3, run.sl.v272_4, run.sl.v272_5,
      run.sl.v272_6, run.sl.v273, run.sl.v273_1, run.sl.v273_2, run.sl.v273_3, run.sl.v273_4, run.sl.v273_5,
      run.sl.v275, run.sl.v275_1, run.sl.v275_2, run.sl.v275_3, run.sl.v275_4, run.sl.v275_5, run.sl.v276,
      run.sl.v276_1, run.sl.v276_2, run.sl.v276_3, run.sl.v276_4, run.sl.v276_5, run.sl.v279, run.sl.v279_1,
      run.sl.v279_2, run.sl.v279_3, run.sl.v279_4, run.sl.v279_5, run.sl.v27_1, run.sl.v27_2, run.sl.v27_3,
      run.sl.v27_4, run.sl.v27_5, run.sl.v27_6, run.sl.v27_7, run.sl.v28, run.sl.v280, run.sl.v280_1, run.sl.v280_2,
      run.sl.v280_3, run.sl.v280_4, run.sl.v280_5, run.sl.v280_6, run.sl.v281, run.sl.v281_1, run.sl.v281_2,
      run.sl.v281_3, run.sl.v281_4, run.sl.v281_5, run.sl.v282, run.sl.v282_1, run.sl.v282_2, run.sl.v282_3,
      run.sl.v282_4, run.sl.v282_5, run.sl.v283, run.sl.v283_1, run.sl.v283_2, run.sl.v283_3, run.sl.v283_4,
      run.sl.v283_5, run.sl.v284, run.sl.v284_1, run.sl.v284_2, run.sl.v284_3, run.sl.v284_4, run.sl.v284_5,
      run.sl.v287, run.sl.v287_1, run.sl.v287_2, run.sl.v287_3, run.sl.v287_4, run.sl.v287_5, run.sl.v288,
      run.sl.v288_1, run.sl.v288_2, run.sl.v288_3, run.sl.v288_4, run.sl.v288_5, run.sl.v288_6, run.sl.v289,
      run.sl.v289_1, run.sl.v289_2, run.sl.v289_3, run.sl.v289_4, run.sl.v289_5, run.sl.v28_1, run.sl.v28_2,
      run.sl.v28_3, run.sl.v28_4, run.sl.v28_5, run.sl.v28_6, run.sl.v28_7, run.sl.v290, run.sl.v290_1, run.sl.v290_2,
      run.sl.v290_3, run.sl.v290_4, run.sl.v290_5, run.sl.v291, run.sl.v291_1, run.sl.v291_2, run.sl.v291_3,
      run.sl.v291_4, run.sl.v291_5, run.sl.v292, run.sl.v292_1, run.sl.v292_2, run.sl.v292_3, run.sl.v292_4,
      run.sl.v292_5, run.sl.v295, run.sl.v295_1, run.sl.v295_2, run.sl.v295_3, run.sl.v295_4, run.sl.v295_5,
      run.sl.v34, run.sl.v34_1, run.sl.v34_2, run.sl.v34_3, run.sl.v34_4, run.sl.v34_5, run.sl.v34_6, run.sl.v34_7,
      run.sl.v35, run.sl.v35_1, run.sl.v35_2, run.sl.v35_3, run.sl.v35_4, run.sl.v35_5, run.sl.v35_6, run.sl.v35_7,
      run.sl.v36, run.sl.v36_1, run.sl.v36_2, run.sl.v36_3, run.sl.v36_4, run.sl.v36_5, run.sl.v36_6, run.sl.v36_7,
      run.sl.v37, run.sl.v37_1, run.sl.v37_2, run.sl.v37_3, run.sl.v37_4, run.sl.v37_5, run.sl.v37_6, run.sl.v37_7,
      Memref.IsWhole.readAt_unread, logitE, probE, maskedE, slopeE]
    all_goals first | rfl | exact (congrArg (· * _) (none_before _ _)).symm | exact (none_before _ _).symm
  | 1, hi | 2, hi | 3, hi | 4, hi | 5, hi | 6, hi | 7, hi =>
    refine ⟨fun a d => ?_, fun a => ?_, fun b d => ?_, fun b d => ?_, fun j hj d => ?_, fun b d => ?_, fun b d => ?_,
      fun j hj d => ?_, fun b => ?_, fun b => ?_, fun j hj => ?_⟩ <;> unfold run <;> dsimp only
    all_goals first
      | refine (View.read_writes_cons_unit_of_not_mem _ _ _ _ _ _ rfl 1 (.inl b.isLt)).trans
          ((View.read_writes_cons_unit_of_mem _ _ _ _ _ _ (ix3 0 b d) rfl (by intro e; fin_cases e <;> simp)).trans ?_)
      | refine (View.read_writes_cons_unit_of_not_mem _ _ _ _ _ _ rfl 2 (.inl b.isLt)).trans
          ((View.read_writes_cons_unit_of_mem _ _ _ _ _ _ (ix3 0 0 b) rfl (by intro e; fin_cases e <;> simp)).trans ?_)
      | refine (View.read_writes_cons_unit_of_mem _ _ _ _ _ _ (ix3 0 a d) rfl (by intro e; fin_cases e <;> simp)).trans ?_
      | refine (View.read_writes_cons_unit_of_mem _ _ _ _ _ _ (ix3 0 a 0) rfl (by intro e; fin_cases e <;> simp)).trans ?_
      | refine (View.read_writes_cons_unit_of_mem _ _ _ _ _ _ (ix3 0 b d) rfl (by intro e; fin_cases e <;> simp)).trans ?_
      | refine (View.read_writes_cons_unit_of_mem _ _ _ _ _ _ (ix3 0 0 b) rfl (by intro e; fin_cases e <;> simp)).trans ?_
      | exact (View.read_writes_cons_unit_of_not_mem _ _ _ _ _ _ rfl 1 (.inr hj)).trans ((View.read_writes_cons_unit_of_not_mem
          _ _ _ _ _ _ rfl 1 (.inr (Nat.le_trans (by decide) hj))).trans (congrFun (Memref.IsWhole.read_unread _ _) _))
      | exact (View.read_writes_cons_unit_of_not_mem _ _ _ _ _ _ rfl 2 (.inr hj)).trans ((View.read_writes_cons_unit_of_not_mem
          _ _ _ _ _ _ rfl 2 (.inr (Nat.le_trans (by decide) hj))).trans (congrFun (Memref.IsWhole.read_unread _ _) _))
    all_goals pointwise [
      k0_pay1, k0_pay2, k0_pay3, k0_pay4, k0_pay5, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23,
      k0_pay24, k0_pay25, k0_pay26, k0_pay27, k0_pay28, k0_pay29, k0_pay30, k0_pay31, k0_pay32, k0_pay33, k0_pay34,
      k0_pay35, k0_pay36, k0_pay37, k0_pay38, k0_pay39, k0_pay40, k0_pay41, k0_pay42, k0_pay43, k0_pay44, k0_pay45,
      k0_pay46, k0_pay47, k0_pay48, k0_pay49, k0_pay50, k0_pay51, k0_pay52, k0_pay53, k0_pay54, k0_pay55, k0_pay56,
      k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78,
      k0_pay79, k0_pay80, k0_pay81, k0_pay82, k0_pay83, k0_pay84, k0_pay85, k0_pay86, k0_pay87, k0_pay88, k0_pay89,
      k0_pay90, k0_pay91, k0_pay92, k0_pay93, k0_pay94, k0_pay95, k0_pay96, k0_pay97, k0_pay98, k0_pay99, k0_pay100,
      k0_pay101, k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119, k0_pay120,
      k0_pay121, k0_pay122, k0_pay123, k0_pay124, k0_pay125, k0_pay126, k0_pay127, k0_pay128, k0_pay129, k0_pay130,
      k0_pay131, k0_pay132, k0_pay133, k0_pay134, k0_pay135, k0_pay136, k0_pay137, k0_pay138, k0_pay139, k0_pay140,
      k0_pay141, k0_pay142, k0_pay143, k0_pay144, k0_pay145, k0_pay146, k0_pay147, k0_pay148, k0_pay149, k0_pay150,
      k0_pay151, k0_pay152, k0_pay153, k0_pay154, k0_pay155, k0_pay156, k0_pay157, k0_pay158, k0_pay159, k0_pay160,
      k0_pay161, k0_pay162, k0_pay163, k0_pay164, k0_pay165, run.sl.H10_1, run.sl.H12_1, run.sl.H9_1, run.sl.cst,
      run.sl.cst_1, run.sl.cst_105, run.sl.cst_105_1, run.sl.cst_105_2, run.sl.cst_105_3, run.sl.cst_105_4,
      run.sl.cst_2, run.sl.cst_3, run.sl.cst_4, run.sl.cst_5, run.sl.cst_6, run.sl.cst_83, run.sl.cst_83_1,
      run.sl.cst_83_2, run.sl.cst_83_3, run.sl.cst_83_4, run.sl.cst_83_5, run.sl.cst_83_6, run.sl.cst_87,
      run.sl.cst_87_1, run.sl.cst_87_2, run.sl.cst_87_3, run.sl.cst_87_4, run.sl.cst_87_5, run.sl.cst_88,
      run.sl.cst_98, run.sl.cst_98_1, run.sl.cst_98_2, run.sl.cst_98_3, run.sl.cst_98_4, run.sl.cst_98_5,
      run.sl.cst_99, run.sl.cst_99_1, run.sl.cst_99_2, run.sl.cst_99_3, run.sl.cst_99_4, run.sl.cst_99_5, run.sl.r,
      run.sl.r_1, run.sl.r_10, run.sl.r_11, run.sl.r_12, run.sl.r_13, run.sl.r_14, run.sl.r_15, run.sl.r_16,
      run.sl.r_17, run.sl.r_18, run.sl.r_19, run.sl.r_2, run.sl.r_20, run.sl.r_21, run.sl.r_22, run.sl.r_23,
      run.sl.r_24, run.sl.r_25, run.sl.r_26, run.sl.r_27, run.sl.r_28, run.sl.r_29, run.sl.r_3, run.sl.r_30,
      run.sl.r_31, run.sl.r_32, run.sl.r_33, run.sl.r_34, run.sl.r_35, run.sl.r_4, run.sl.r_5, run.sl.r_6, run.sl.r_7,
      run.sl.r_8, run.sl.r_9, run.sl.v164, run.sl.v164_1, run.sl.v164_2, run.sl.v164_3, run.sl.v164_4, run.sl.v164_5,
      run.sl.v164_6, run.sl.v165, run.sl.v165_1, run.sl.v165_2, run.sl.v165_3, run.sl.v165_4, run.sl.v165_5,
      run.sl.v165_6, run.sl.v166, run.sl.v166_1, run.sl.v166_2, run.sl.v166_3, run.sl.v166_4, run.sl.v166_5,
      run.sl.v166_6, run.sl.v167, run.sl.v167_1, run.sl.v167_2, run.sl.v167_3, run.sl.v167_4, run.sl.v167_5,
      run.sl.v167_6, run.sl.v169, run.sl.v169_1, run.sl.v169_2, run.sl.v169_3, run.sl.v169_4, run.sl.v169_5,
      run.sl.v169_6, run.sl.v170, run.sl.v170_1, run.sl.v170_2, run.sl.v170_3, run.sl.v170_4, run.sl.v170_5,
      run.sl.v170_6, run.sl.v172, run.sl.v172_1, run.sl.v172_2, run.sl.v172_3, run.sl.v172_4, run.sl.v172_5,
      run.sl.v172_6, run.sl.v174, run.sl.v174_1, run.sl.v174_2, run.sl.v174_3, run.sl.v174_4, run.sl.v174_5,
      run.sl.v174_6, run.sl.v175, run.sl.v175_1, run.sl.v175_2, run.sl.v175_3, run.sl.v175_4, run.sl.v175_5,
      run.sl.v175_6, run.sl.v179, run.sl.v179_1, run.sl.v179_2, run.sl.v179_3, run.sl.v179_4, run.sl.v179_5,
      run.sl.v179_6, run.sl.v180, run.sl.v180_1, run.sl.v180_2, run.sl.v180_3, run.sl.v180_4, run.sl.v180_5,
      run.sl.v180_6, run.sl.v181, run.sl.v181_1, run.sl.v181_2, run.sl.v181_3, run.sl.v181_4, run.sl.v181_5,
      run.sl.v181_6, run.sl.v182, run.sl.v182_1, run.sl.v182_2, run.sl.v182_3, run.sl.v182_4, run.sl.v182_5,
      run.sl.v182_6, run.sl.v183, run.sl.v184, run.sl.v184_1, run.sl.v184_2, run.sl.v184_3, run.sl.v184_4,
      run.sl.v184_5, run.sl.v184_6, run.sl.v185, run.sl.v185_1, run.sl.v185_2, run.sl.v185_3, run.sl.v185_4,
      run.sl.v185_5, run.sl.v186, run.sl.v186_1, run.sl.v186_2, run.sl.v186_3, run.sl.v186_4, run.sl.v186_5,
      run.sl.v186_6, run.sl.v187, run.sl.v188, run.sl.v188_1, run.sl.v188_2, run.sl.v188_3, run.sl.v188_4,
      run.sl.v188_5, run.sl.v188_6, run.sl.v189, run.sl.v189_1, run.sl.v189_2, run.sl.v189_3, run.sl.v189_4,
      run.sl.v189_5, run.sl.v190, run.sl.v190_1, run.sl.v190_2, run.sl.v190_3, run.sl.v190_4, run.sl.v190_5,
      run.sl.v190_6, run.sl.v191, run.sl.v191_1, run.sl.v191_2, run.sl.v191_3, run.sl.v191_4, run.sl.v191_5,
      run.sl.v191_6, run.sl.v192, run.sl.v192_1, run.sl.v192_2, run.sl.v192_3, run.sl.v192_4, run.sl.v192_5,
      run.sl.v192_6, run.sl.v193, run.sl.v193_1, run.sl.v193_2, run.sl.v193_3, run.sl.v193_4, run.sl.v193_5,
      run.sl.v193_6, run.sl.v195, run.sl.v195_1, run.sl.v195_2, run.sl.v195_3, run.sl.v195_4, run.sl.v195_5,
      run.sl.v196, run.sl.v196_1, run.sl.v196_2, run.sl.v196_3, run.sl.v196_4, run.sl.v196_5, run.sl.v197,
      run.sl.v197_1, run.sl.v197_2, run.sl.v197_3, run.sl.v197_4, run.sl.v197_5, run.sl.v198, run.sl.v198_1,
      run.sl.v198_2, run.sl.v198_3, run.sl.v198_4, run.sl.v198_5, run.sl.v199, run.sl.v199_1, run.sl.v199_2,
      run.sl.v199_3, run.sl.v199_4, run.sl.v199_5, run.sl.v200, run.sl.v200_1, run.sl.v200_2, run.sl.v200_3,
      run.sl.v200_4, run.sl.v200_5, run.sl.v203, run.sl.v203_1, run.sl.v203_2, run.sl.v203_3, run.sl.v203_4,
      run.sl.v203_5, run.sl.v205, run.sl.v205_1, run.sl.v205_2, run.sl.v205_3, run.sl.v205_4, run.sl.v205_5,
      run.sl.v206, run.sl.v206_1, run.sl.v206_2, run.sl.v206_3, run.sl.v206_4, run.sl.v206_5, run.sl.v207,
      run.sl.v207_1, run.sl.v207_2, run.sl.v207_3, run.sl.v207_4, run.sl.v207_5, run.sl.v208, run.sl.v208_1,
      run.sl.v208_2, run.sl.v208_3, run.sl.v208_4, run.sl.v208_5, run.sl.v209, run.sl.v209_1, run.sl.v209_2,
      run.sl.v209_3, run.sl.v209_4, run.sl.v209_5, run.sl.v210, run.sl.v210_1, run.sl.v210_2, run.sl.v210_3,
      run.sl.v210_4, run.sl.v210_5, run.sl.v211, run.sl.v211_1, run.sl.v211_2, run.sl.v211_3, run.sl.v211_4,
      run.sl.v211_5, run.sl.v213, run.sl.v213_1, run.sl.v213_2, run.sl.v213_3, run.sl.v213_4, run.sl.v213_5,
      run.sl.v215, run.sl.v215_1, run.sl.v215_2, run.sl.v215_3, run.sl.v215_4, run.sl.v215_5, run.sl.v216,
      run.sl.v216_1, run.sl.v216_2, run.sl.v216_3, run.sl.v216_4, run.sl.v216_5, run.sl.v219, run.sl.v219_1,
      run.sl.v219_2, run.sl.v219_3, run.sl.v219_4, run.sl.v219_5, run.sl.v221, run.sl.v221_1, run.sl.v221_2,
      run.sl.v221_3, run.sl.v221_4, run.sl.v221_5, run.sl.v221_6, run.sl.v222, run.sl.v222_1, run.sl.v222_2,
      run.sl.v222_3, run.sl.v222_4, run.sl.v222_5, run.sl.v223, run.sl.v223_1, run.sl.v223_2, run.sl.v223_3,
      run.sl.v223_4, run.sl.v223_5, run.sl.v224, run.sl.v224_1, run.sl.v224_2, run.sl.v224_3, run.sl.v224_4,
      run.sl.v224_5, run.sl.v227, run.sl.v227_1, run.sl.v227_2, run.sl.v227_3, run.sl.v227_4, run.sl.v227_5,
      run.sl.v229, run.sl.v23, run.sl.v237, run.sl.v23_1, run.sl.v23_2, run.sl.v23_3, run.sl.v23_4, run.sl.v23_5,
      run.sl.v23_6, run.sl.v23_7, run.sl.v24, run.sl.v24_1, run.sl.v24_2, run.sl.v24_3, run.sl.v24_4, run.sl.v24_5,
      run.sl.v24_6, run.sl.v24_7, run.sl.v25, run.sl.v25_1, run.sl.v25_2, run.sl.v25_3, run.sl.v25_4, run.sl.v25_5,
      run.sl.v25_6, run.sl.v25_7, run.sl.v26, run.sl.v264, run.sl.v264_1, run.sl.v264_2, run.sl.v264_3, run.sl.v264_4,
      run.sl.v264_5, run.sl.v265, run.sl.v265_1, run.sl.v265_2, run.sl.v265_3, run.sl.v265_4, run.sl.v265_5,
      run.sl.v266, run.sl.v266_1, run.sl.v266_2, run.sl.v266_3, run.sl.v266_4, run.sl.v266_5, run.sl.v267,
      run.sl.v267_1, run.sl.v267_2, run.sl.v267_3, run.sl.v267_4, run.sl.v267_5, run.sl.v268, run.sl.v268_1,
      run.sl.v268_2, run.sl.v268_3, run.sl.v268_4, run.sl.v268_5, run.sl.v269, run.sl.v269_1, run.sl.v269_2,
      run.sl.v269_3, run.sl.v269_4, run.sl.v269_5, run.sl.v26_1, run.sl.v26_2, run.sl.v26_3, run.sl.v26_4,
      run.sl.v26_5, run.sl.v26_6, run.sl.v26_7, run.sl.v27, run.sl.v270, run.sl.v270_1, run.sl.v270_2, run.sl.v270_3,
      run.sl.v270_4, run.sl.v270_5, run.sl.v271, run.sl.v271_1, run.sl.v271_2, run.sl.v271_3, run.sl.v271_4,
      run.sl.v271_5, run.sl.v272, run.sl.v272_1, run.sl.v272_2, run.sl.v272_3, run.sl.v272_4, run.sl.v272_5,
      run.sl.v272_6, run.sl.v273, run.sl.v273_1, run.sl.v273_2, run.sl.v273_3, run.sl.v273_4, run.sl.v273_5,
      run.sl.v275, run.sl.v275_1, run.sl.v275_2, run.sl.v275_3, run.sl.v275_4, run.sl.v275_5, run.sl.v276,
      run.sl.v276_1, run.sl.v276_2, run.sl.v276_3, run.sl.v276_4, run.sl.v276_5, run.sl.v279, run.sl.v279_1,
      run.sl.v279_2, run.sl.v279_3, run.sl.v279_4, run.sl.v279_5, run.sl.v27_1, run.sl.v27_2, run.sl.v27_3,
      run.sl.v27_4, run.sl.v27_5, run.sl.v27_6, run.sl.v27_7, run.sl.v28, run.sl.v280, run.sl.v280_1, run.sl.v280_2,
      run.sl.v280_3, run.sl.v280_4, run.sl.v280_5, run.sl.v280_6, run.sl.v281, run.sl.v281_1, run.sl.v281_2,
      run.sl.v281_3, run.sl.v281_4, run.sl.v281_5, run.sl.v282, run.sl.v282_1, run.sl.v282_2, run.sl.v282_3,
      run.sl.v282_4, run.sl.v282_5, run.sl.v283, run.sl.v283_1, run.sl.v283_2, run.sl.v283_3, run.sl.v283_4,
      run.sl.v283_5, run.sl.v284, run.sl.v284_1, run.sl.v284_2, run.sl.v284_3, run.sl.v284_4, run.sl.v284_5,
      run.sl.v287, run.sl.v287_1, run.sl.v287_2, run.sl.v287_3, run.sl.v287_4, run.sl.v287_5, run.sl.v288,
      run.sl.v288_1, run.sl.v288_2, run.sl.v288_3, run.sl.v288_4, run.sl.v288_5, run.sl.v288_6, run.sl.v289,
      run.sl.v289_1, run.sl.v289_2, run.sl.v289_3, run.sl.v289_4, run.sl.v289_5, run.sl.v28_1, run.sl.v28_2,
      run.sl.v28_3, run.sl.v28_4, run.sl.v28_5, run.sl.v28_6, run.sl.v28_7, run.sl.v290, run.sl.v290_1, run.sl.v290_2,
      run.sl.v290_3, run.sl.v290_4, run.sl.v290_5, run.sl.v291, run.sl.v291_1, run.sl.v291_2, run.sl.v291_3,
      run.sl.v291_4, run.sl.v291_5, run.sl.v292, run.sl.v292_1, run.sl.v292_2, run.sl.v292_3, run.sl.v292_4,
      run.sl.v292_5, run.sl.v295, run.sl.v295_1, run.sl.v295_2, run.sl.v295_3, run.sl.v295_4, run.sl.v295_5,
      run.sl.v34, run.sl.v34_1, run.sl.v34_2, run.sl.v34_3, run.sl.v34_4, run.sl.v34_5, run.sl.v34_6, run.sl.v34_7,
      run.sl.v35, run.sl.v35_1, run.sl.v35_2, run.sl.v35_3, run.sl.v35_4, run.sl.v35_5, run.sl.v35_6, run.sl.v35_7,
      run.sl.v36, run.sl.v36_1, run.sl.v36_2, run.sl.v36_3, run.sl.v36_4, run.sl.v36_5, run.sl.v36_6, run.sl.v36_7,
      run.sl.v37, run.sl.v37_1, run.sl.v37_2, run.sl.v37_3, run.sl.v37_4, run.sl.v37_5, run.sl.v37_6, run.sl.v37_7,
      Memref.IsWhole.readAt_unread, logitE, probE, maskedE, slopeE]
    all_goals rfl
  | g + 8, hi => exact absurd hg (by omega)

end Cert.AttnKernelIdeal.Hand

end
-- ==== Proof.Attn.Tile.lean ====
module

public import proofs.«01_k».proof.Proof.Reals
public import proofs.«01_k».proof.Proof.Attn.Reads

/-! # One point's stores over the reals

Where a tile's blocks are real, what the body adds to each output block: sums over all 2048 keys, the probabilities of
the keys after a query being zero. -/

@[expose] public section

set_option maxRecDepth 16384

noncomputable section

namespace Cert.AttnKernelIdeal.Hand

open Cert.AttnKernelIdeal Cert.AttnKernelIdeal.Gen Cert.Reals
open Idealize.ShloMosaic Idealize.ShloMosaic.TcCoe Idealize.ShloMosaic.Tactic
open Idealize.ShloMosaic.Rounds

/-- A tile's blocks as real arrays. -/
structure Tile where
  q : Fin 256 → Fin 64 → ℝ
  k : Fin 2048 → Fin 64 → ℝ
  v : Fin 2048 → Fin 64 → ℝ
  cq : Fin 256 → ℝ
  ck : Fin 2048 → ℝ
  o : Fin 256 → Fin 64 → ℝ
  lse : Fin 256 → ℝ
  ct : Fin 256 → Fin 64 → ℝ

/-- The blocks `x` hold the reals `T`. -/
structure Tile.Of (T : Tile) (x : Ins Ideal) : Prop where
  q : ∀ a d, x.q (ix3 0 a d) = (T.q a d : EReal)
  k : ∀ j d, x.k (ix3 0 j d) = (T.k j d : EReal)
  v : ∀ j d, x.v (ix3 0 j d) = (T.v j d : EReal)
  cq : ∀ a, x.cq (ix3 0 a 0) = (T.cq a : EReal)
  ck : ∀ j, x.ck (ix3 0 0 j) = (T.ck j : EReal)
  o : ∀ a d, x.o (ix3 0 a d) = (T.o a d : EReal)
  lse : ∀ a, x.lse (ix3 0 a 0) = (T.lse a : EReal)
  ct : ∀ a d, x.ct (ix3 0 a d) = (T.ct a d : EReal)

namespace Tile

variable (T : Tile)

/-- The logit of query `a` and key `j`, without the query's own decay. -/
def logit (a : Fin 256) (j : Fin 2048) : ℝ := (∑ d, T.q a d * (1 / 8) * T.k j d) - T.ck j

/-- The probability with which query `a` of tile `g` attends key `j`. -/
def prob (g : ℕ) (a : Fin 256) (j : Fin 2048) : ℝ :=
  if j.val ≤ 256 * g + a.val then Real.exp (T.logit a j + (T.cq a - T.lse a)) else 0

/-- The softmax's gradient before its own factor. -/
def slope (a : Fin 256) (j : Fin 2048) : ℝ := (∑ d, T.ct a d * T.v j d) - ∑ d, T.ct a d * T.o a d

/-- The logit's gradient. -/
def grad (g : ℕ) (a : Fin 256) (j : Fin 2048) : ℝ := T.prob g a j * T.slope a j

end Tile

/-- The scale, 1/8. -/
theorem ofBits_eighth : Ideal.ofBits .f32 1040187392#32 = ((1 / 8 : ℝ) : EReal) := by
  simp [Ideal.ofBits, Ideal.ieee]; rw [← EReal.coe_mul]; norm_num

/-- The mask's stand-in is −∞. -/
theorem mask_bot : Named.named (F := Ideal) κ "mask" (φ := .f32) 4048155338#32 = (⊥ : EReal) := by
  simp [Named.named, κ]

variable {T : Tile} {x : Ins Ideal}

theorem logitE_eq (h : T.Of x) (a : Fin 256) (j : Fin 2048) : logitE x a j = (T.logit a j : EReal) := by
  unfold logitE Tile.logit
  simp only [h.q, h.k, h.ck, ofBits_eighth, ← EReal.coe_mul, coe_sum, ← EReal.coe_sub]

theorem slopeE_eq (h : T.Of x) (a : Fin 256) (j : Fin 2048) : slopeE x a j = (T.slope a j : EReal) := by
  unfold slopeE Tile.slope
  simp only [h.ct, h.v, h.o, ← EReal.coe_mul, coe_sum, ← EReal.coe_sub]

/-- A key of an earlier tile stands before every query of this one. -/
theorem probE_eq (h : T.Of x) (g : ℕ) (a : Fin 256) (j : Fin 2048) (hj : j.val < 256 * g) : probE x a j = (T.prob g a j : EReal) := by
  unfold probE Tile.prob
  rw [if_pos (by omega), logitE_eq h, h.cq, h.lse, ← EReal.coe_sub, ← EReal.coe_add, Ideal.exp_coe]

/-- The mask's word says whether the key stands at or before the query. -/
theorem mask_iff (i : grid0.Coords) (g : ℕ) (hi : (i 1).val = g) (a b : Fin 256) :
    IntOp.cmpi .sge (IntOp.addi (Scalar.muli (Scalar.subi (BitVec.ofNat 32 (i 1).val) (BitVec.ofNat 32 g)) 256#32)
      (BitVec.ofNat 32 a.val)) (BitVec.ofNat 32 b.val) = 1#1 ↔ b.val ≤ a.val := by
  rw [hi]
  have e : IntOp.addi (Scalar.muli (Scalar.subi (BitVec.ofNat 32 g) (BitVec.ofNat 32 g)) 256#32) (BitVec.ofNat 32 a.val) = BitVec.ofNat 32 a.val := by
    show (BitVec.ofNat 32 g - BitVec.ofNat 32 g) * 256#32 + BitVec.ofNat 32 a.val = _
    rw [BitVec.sub_self, BitVec.zero_mul, BitVec.zero_add]
  rw [e]
  exact WordCmp.cmpi_sge_ofNat_eq_one_iff (by have := a.isLt; omega) (by have := b.isLt; omega)

theorem maskedE_eq (h : T.Of x) (i : grid0.Coords) (g : ℕ) (hi : (i 1).val = g) (a b : Fin 256) (j : Fin 2048) (hj : j.val = 256 * g + b.val) :
    maskedE i g x a b j = (T.prob g a j : EReal) := by
  unfold maskedE Tile.prob
  rw [logitE_eq h, h.cq, h.lse, mask_bot, ← EReal.coe_sub]
  by_cases hb : b.val ≤ a.val
  · rw [if_pos (by omega), Scalar.select, if_pos (show _ = (1 : BitVec 1) from (mask_iff i g hi a b).mpr hb), ← EReal.coe_add, Ideal.exp_coe]
  · rw [if_neg (by omega), Scalar.select, if_neg (show ¬_ = (1 : BitVec 1) from fun e => hb ((mask_iff i g hi a b).mp e)), EReal.bot_add, Ideal.exp_bot]; rfl

/-- The earlier tiles' keys and the tile's own are all keys, where nothing stands after them. -/
theorem sum_parts (n : ℕ) (hn : n + 256 ≤ 2048) (f : Fin 2048 → ℝ) (hf : ∀ j : Fin 2048, n + 256 ≤ j.val → f j = 0) :
    (∑ b : Fin n, f ⟨b.val, by omega⟩) + ∑ b : Fin 256, f ⟨n + b.val, by omega⟩ = ∑ j, f j := by
  obtain ⟨r, hr⟩ : ∃ r, 2048 = n + 256 + r := ⟨2048 - (n + 256), by omega⟩
  rw [← Equiv.sum_comp (finCongr hr.symm) f, Fin.sum_univ_add, Fin.sum_univ_add]
  rw [show (∑ b : Fin r, f (finCongr hr.symm (Fin.natAdd (n + 256) b))) = 0 from Finset.sum_eq_zero fun b _ => hf _ (by simp), add_zero]
  rfl

theorem prob_after (T : Tile) (g : ℕ) (a : Fin 256) (j : Fin 2048) (hj : 256 * g + 256 ≤ j.val) : T.prob g a j = 0 :=
  if_neg (by omega)

/-- A key is one of the tile's own, of an earlier tile's or of a later one's. -/
theorem key_cases (g : ℕ) (hg : 256 * g + 256 ≤ 2048) (j : Fin 2048) : (∃ b : Fin 256, j = ⟨256 * g + b.val, by omega⟩) ∨ (∃ b : Fin (256 * g), j = ⟨b.val, by omega⟩)
    ∨ 256 * g + 256 ≤ j.val := by
  rcases Nat.lt_or_ge j.val (256 * g) with h1 | h1
  · exact .inr (.inl ⟨⟨j.val, h1⟩, rfl⟩)
  · rcases Nat.lt_or_ge j.val (256 * g + 256) with h2 | h2
    · exact .inl ⟨⟨j.val - 256 * g, by omega⟩, Fin.ext (by show j.val = 256 * g + (j.val - 256 * g); omega)⟩
    · exact .inr (.inr h2)

/-- An earlier tile's key was no fresh one. -/
theorem not_first (g : ℕ) (b : Fin (256 * g)) : g ≠ 0 := fun e => by subst e; exact b.elim0

section Stores

variable (c : Dev nD) (i : grid0.Coords) (g : ℕ) (hi : (i 1).val = g) (hg : 256 * g + 256 ≤ 2048) (r : Refs) (h : T.Of x) (y : Kept Ideal)

include h hg

/-- What a point leaves in `dq`'s block, -/
theorem tile_dq (f8 : Buf (Elt Ideal) (r.dq.view.loc (c : Thread nD τ))) (a : Fin 256) (d : Fin 64) :
    r.dq.view.read (Elt Ideal) (r.dq.view.writes (Elt Ideal) f8 (run c i g hi r x y).1.dq) (ix3 0 a d)
      = (((∑ j, T.grad g a j * T.k j d) * (1 / 8) : ℝ) : EReal) := by
  rw [(reads c i g hi hg r x y f8 (r.hdcq.unread fun _ => 0)).1 a d, ofBits_eighth,
    ← sum_parts (256 * g) hg (fun j => T.grad g a j * T.k j d) fun j hj => by simp only [Tile.grad, prob_after T g a j hj, zero_mul]]
  simp only [Tile.grad, slopeE_eq h, h.k]
  rw [Finset.sum_congr rfl fun (b : Fin (256 * g)) _ => by rw [probE_eq h g a ⟨b.val, _⟩ b.isLt, ← EReal.coe_mul, ← EReal.coe_mul],
    Finset.sum_congr rfl fun (b : Fin 256) _ => by rw [maskedE_eq h i g hi a b _ rfl, ← EReal.coe_mul, ← EReal.coe_mul],
    coe_sum, coe_sum, ← EReal.coe_add, ← EReal.coe_mul]

/-- in `dcq`'s, -/
theorem tile_dcq (f11 : Buf (Elt Ideal) (r.dcq.view.loc (c : Thread nD τ))) (a : Fin 256) :
    r.dcq.view.read (Elt Ideal) (r.dcq.view.writes (Elt Ideal) f11 (run c i g hi r x y).1.dcq) (ix3 0 a 0)
      = ((∑ j, T.grad g a j : ℝ) : EReal) := by
  rw [(reads c i g hi hg r x y (r.hdq.unread fun _ => 0) f11).2.1 a,
    ← sum_parts (256 * g) hg (fun j => T.grad g a j) fun j hj => by simp only [Tile.grad, prob_after T g a j hj, zero_mul]]
  simp only [Tile.grad, slopeE_eq h]
  rw [Finset.sum_congr rfl fun (b : Fin (256 * g)) _ => by rw [probE_eq h g a ⟨b.val, _⟩ b.isLt, ← EReal.coe_mul],
    Finset.sum_congr rfl fun (b : Fin 256) _ => by rw [maskedE_eq h i g hi a b _ rfl, ← EReal.coe_mul],
    coe_sum, coe_sum, ← EReal.coe_add]

/-- and what it adds in `dk`'s, which a head's first point finds zero, -/
theorem tile_dk (j : Fin 2048) (d : Fin 64) :
    r.dk.view.read (Elt Ideal) (r.dk.view.writes (Elt Ideal) (r.hdk.unread y.dk) (run c i g hi r x y).1.dk) (ix3 0 j d)
      = (if g = 0 then 0 else y.dk (ix3 0 j d)) + ((∑ a, T.grad g a j * (T.q a d * (1 / 8)) : ℝ) : EReal) := by
  obtain ⟨_, _, h1, h2, h3, _⟩ := reads c i g hi hg r x y (r.hdq.unread fun _ => 0) (r.hdcq.unread fun _ => 0)
  rcases key_cases g hg j with ⟨b, rfl⟩ | ⟨b, rfl⟩ | hj
  · rw [h1 b d]; congr 1
    rw [← coe_sum]; refine Finset.sum_congr rfl fun a _ => ?_
    rw [maskedE_eq h i g hi a b _ rfl, slopeE_eq h, h.q, ofBits_eighth, ← EReal.coe_mul, ← EReal.coe_mul, ← EReal.coe_mul]; rfl
  · rw [h2 b d, if_neg (not_first g b)]; congr 1
    rw [← coe_sum]; refine Finset.sum_congr rfl fun a _ => ?_
    rw [probE_eq h g a ⟨b.val, _⟩ b.isLt, slopeE_eq h, h.q, ofBits_eighth, ← EReal.coe_mul, ← EReal.coe_mul, ← EReal.coe_mul]; rfl
  · rw [h3 j hj d, show (∑ a, T.grad g a j * (T.q a d * (1 / 8)) : ℝ) = 0 from
      Finset.sum_eq_zero fun a _ => by rw [Tile.grad, prob_after T g a j hj, zero_mul, zero_mul], EReal.coe_zero, add_zero]

/-- `dv`'s -/
theorem tile_dv (j : Fin 2048) (d : Fin 64) :
    r.dv.view.read (Elt Ideal) (r.dv.view.writes (Elt Ideal) (r.hdv.unread y.dv) (run c i g hi r x y).1.dv) (ix3 0 j d)
      = (if g = 0 then 0 else y.dv (ix3 0 j d)) + ((∑ a, T.prob g a j * T.ct a d : ℝ) : EReal) := by
  obtain ⟨_, _, _, _, _, h1, h2, h3, _⟩ := reads c i g hi hg r x y (r.hdq.unread fun _ => 0) (r.hdcq.unread fun _ => 0)
  rcases key_cases g hg j with ⟨b, rfl⟩ | ⟨b, rfl⟩ | hj
  · rw [h1 b d]; congr 1
    rw [← coe_sum]; refine Finset.sum_congr rfl fun a _ => ?_
    rw [maskedE_eq h i g hi a b _ rfl, h.ct, ← EReal.coe_mul]
  · rw [h2 b d, if_neg (not_first g b)]; congr 1
    rw [← coe_sum]; refine Finset.sum_congr rfl fun a _ => ?_
    rw [probE_eq h g a ⟨b.val, _⟩ b.isLt, h.ct, ← EReal.coe_mul]
  · rw [h3 j hj d, show (∑ a, T.prob g a j * T.ct a d : ℝ) = 0 from
      Finset.sum_eq_zero fun a _ => by rw [prob_after T g a j hj, zero_mul], EReal.coe_zero, add_zero]

/-- and `dck`'s. -/
theorem tile_dck (j : Fin 2048) :
    r.dck.view.read (Elt Ideal) (r.dck.view.writes (Elt Ideal) (r.hdck.unread y.dck) (run c i g hi r x y).1.dck) (ix3 0 0 j)
      = (if g = 0 then 0 else y.dck (ix3 0 0 j)) + ((-∑ a, T.grad g a j : ℝ) : EReal) := by
  obtain ⟨_, _, _, _, _, _, _, _, h1, h2, h3⟩ := reads c i g hi hg r x y (r.hdq.unread fun _ => 0) (r.hdcq.unread fun _ => 0)
  rcases key_cases g hg j with ⟨b, rfl⟩ | ⟨b, rfl⟩ | hj
  · rw [h1 b, sub_eq_add_neg]; congr 1
    rw [EReal.coe_neg, ← coe_sum]; refine congrArg _ (Finset.sum_congr rfl fun a _ => ?_)
    rw [maskedE_eq h i g hi a b _ rfl, slopeE_eq h, ← EReal.coe_mul]; rfl
  · rw [h2 b, if_neg (not_first g b), sub_eq_add_neg]; congr 1
    rw [EReal.coe_neg, ← coe_sum]; refine congrArg _ (Finset.sum_congr rfl fun a _ => ?_)
    rw [probE_eq h g a ⟨b.val, _⟩ b.isLt, slopeE_eq h, ← EReal.coe_mul]; rfl
  · rw [h3 j hj, show (∑ a, T.grad g a j : ℝ) = 0 from
      Finset.sum_eq_zero fun a _ => by rw [Tile.grad, prob_after T g a j hj, zero_mul], neg_zero, EReal.coe_zero, add_zero]

end Stores

end Cert.AttnKernelIdeal.Hand

end
-- ==== Proof.Attn.Frame.lean ====
module

public import Idealize.ShloMosaic.Lib.Claim
public import proofs.«01_k».proof.Proof.Gen.AttnKernelIdeal.Frame
public import proofs.«01_k».proof.Proof.Attn.Run

/-! # The frame of `AttnKernelIdeal`

What the five output blocks hold after each grid point, the pipeline's proof data, the body's obligation at every
point, and the launch. -/

@[expose] public section

set_option maxRecDepth 16384

noncomputable section

namespace Cert.AttnKernelIdeal.Hand

open Cert.AttnKernelIdeal Cert.AttnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-! ## What a point leaves -/

/-- The buffers the body is called on at point `t`. -/
def refs (t : Fin cfg0.N) : Refs where
  q := win0_0.stage (cfg0.slots t 0)
  hq := hstage0_0 ((cfg0.slots t 0).cast nbuf0_0)
  k := win0_1.stage (cfg0.slots t 1)
  hk := hstage0_1 ((cfg0.slots t 1).cast nbuf0_1)
  v := win0_2.stage (cfg0.slots t 2)
  hv := hstage0_2 ((cfg0.slots t 2).cast nbuf0_2)
  cq := win0_3.stage (cfg0.slots t 3)
  hcq := hstage0_3 ((cfg0.slots t 3).cast nbuf0_3)
  ck := win0_4.stage (cfg0.slots t 4)
  hck := hstage0_4 ((cfg0.slots t 4).cast nbuf0_4)
  o := win0_5.stage (cfg0.slots t 5)
  ho := hstage0_5 ((cfg0.slots t 5).cast nbuf0_5)
  lse := win0_6.stage (cfg0.slots t 6)
  hlse := hstage0_6 ((cfg0.slots t 6).cast nbuf0_6)
  ct := win0_7.stage (cfg0.slots t 7)
  hct := hstage0_7 ((cfg0.slots t 7).cast nbuf0_7)
  dq := win0_8.stage (cfg0.slots t 8)
  hdq := hstage0_8 ((cfg0.slots t 8).cast nbuf0_8)
  dk := win0_9.stage (cfg0.slots t 9)
  hdk := hstage0_9 ((cfg0.slots t 9).cast nbuf0_9)
  dv := win0_10.stage (cfg0.slots t 10)
  hdv := hstage0_10 ((cfg0.slots t 10).cast nbuf0_10)
  dcq := win0_11.stage (cfg0.slots t 11)
  hdcq := hstage0_11 ((cfg0.slots t 11).cast nbuf0_11)
  dck := win0_12.stage (cfg0.slots t 12)
  hdck := hstage0_12 ((cfg0.slots t 12).cast nbuf0_12)

/-- The inputs' blocks at point `t`. -/
def ins (c : Dev nD) (t : Fin cfg0.N) : Ins F :=
  ⟨iblk m c 0 t, iblk m c 1 t, iblk m c 2 t, iblk m c 3 t, iblk m c 4 t, iblk m c 5 t, iblk m c 6 t, iblk m c 7 t⟩

/-- The tile of queries a point works on. -/
theorem tile (t : Fin cfg0.N) : (grid0.coords t 1).val = t.val % 8 :=
  (Pipeline.Grid.coords_val t 1 (S := 1) (B := 8) (by decide) rfl).trans (by rw [Nat.div_one])

/-- The stores of point `t` over the kept blocks `y`. -/
def stores (c : Dev nD) (t : Fin cfg0.N) (y : Kept F) : Stores F :=
  (run c (grid0.coords t) (t.val % 8) (tile t) (refs t) (ins m c t) y).1

theorem stores_run (c : Dev nD) (t : Fin cfg0.N) (y : Kept F) :
    Runs c (grid0.coords t) (refs t) (ins m c t) y (stores m c t y) :=
  (run c (grid0.coords t) (t.val % 8) (tile t) (refs t) (ins m c t) y).2

/-- The kept blocks after point `t` found them as `y`. -/
def next (c : Dev nD) (t : Fin cfg0.N) (y : Kept F) : Kept F where
  dk := (refs t).dk.view.read (Elt F) ((refs t).dk.view.writes (Elt F) ((refs t).hdk.unread y.dk) (stores m c t y).dk)
  dv := (refs t).dv.view.read (Elt F) ((refs t).dv.view.writes (Elt F) ((refs t).hdv.unread y.dv) (stores m c t y).dv)
  dck := (refs t).dck.view.read (Elt F) ((refs t).dck.view.writes (Elt F) ((refs t).hdck.unread y.dck) (stores m c t y).dck)

/-- Any kept blocks. -/
def anyKept : Kept F := ⟨fun _ => Scalar.ofBits .f32 0, fun _ => Scalar.ofBits .f32 0, fun _ => Scalar.ofBits .f32 0⟩

/-- The kept blocks after the point at position `n`. -/
def keptAt (c : Dev nD) : (n : ℕ) → n < cfg0.N → Kept F
  | 0, h => next m c ⟨0, h⟩ anyKept
  | n + 1, h => next m c ⟨n + 1, h⟩ (keptAt c n (Nat.lt_of_succ_lt h))

/-- The kept blocks before point `t`, any at the first. -/
def prev (c : Dev nD) (t : Fin cfg0.N) : Kept F :=
  if h : t.val = 0 then anyKept else keptAt m c (t.val - 1) (Nat.lt_of_le_of_lt (Nat.sub_le _ _) t.isLt)

theorem keptAt_eq (c : Dev nD) (t : Fin cfg0.N) : keptAt m c t.val t.isLt = next m c t (prev m c t) := by
  obtain ⟨n, hn⟩ := t
  cases n with
  | zero => rfl
  | succ n => rfl

/-- The block of `dq` a point leaves. -/
def dqAt (c : Dev nD) (t : Fin cfg0.N) : Vec F S1x256x64 .f32 :=
  (refs t).dq.view.read (Elt F) ((refs t).dq.view.writes (Elt F) ((refs t).hdq.unread (fun _ => Scalar.ofBits .f32 0)) (stores m c t (prev m c t)).dq)

/-- The block of `dcq` a point leaves. -/
def dcqAt (c : Dev nD) (t : Fin cfg0.N) : Vec F S1x256x1 .f32 :=
  (refs t).dcq.view.read (Elt F) ((refs t).dcq.view.writes (Elt F) ((refs t).hdcq.unread (fun _ => Scalar.ofBits .f32 0)) (stores m c t (prev m c t)).dcq)

/-! ## A head's first point covers the kept blocks -/

/-- A store of the whole block covers it. -/
theorem whole_mem {s : Shape} {off : Fin s.rank → Nat} (h : off = fun _ => 0) (inb : ∀ a, off a + s.size a ≤ s.size a) (y : s.Idx) :
    y ∈ (Rect.unit off s.size inb).set := by
  subst h; show y ∈ (Rect.whole s).set; rw [Rect.set_whole]; exact Finset.mem_univ y

/-- At a head's first point the stores do not read the kept blocks. -/
theorem run_reset (c : Dev nD) (i : grid0.Coords) (hi : (i 1).val = 0) (r : Refs) (x : Ins F) (y y' : Kept F) :
    (run c i 0 hi r x y).1 = (run c i 0 hi r x y').1 := rfl

/-- and a whole store stands first in each list. -/
theorem run_covers (c : Dev nD) (i : grid0.Coords) (hi : (i 1).val = 0) (r : Refs) (x : Ins F) (y : Kept F) :
    (∀ j, ∃ p ∈ (run c i 0 hi r x y).1.dk, j ∈ p.1.set) ∧ (∀ j, ∃ p ∈ (run c i 0 hi r x y).1.dv, j ∈ p.1.set)
    ∧ (∀ j, ∃ p ∈ (run c i 0 hi r x y).1.dck, j ∈ p.1.set) :=
  ⟨fun j => ⟨_, List.mem_cons_of_mem _ (List.mem_singleton.mpr rfl), whole_mem (by decide) (by decide) j⟩,
    fun j => ⟨_, List.mem_cons_of_mem _ (List.mem_singleton.mpr rfl), whole_mem (by decide) (by decide) j⟩,
    fun j => ⟨_, List.mem_cons_of_mem _ (List.mem_singleton.mpr rfl), whole_mem (by decide) (by decide) j⟩⟩

/-- Every point stores `dq`'s and `dcq`'s blocks whole. -/
theorem run_rows (c : Dev nD) (i : grid0.Coords) (g : Nat) (hi : (i 1).val = g) (r : Refs) (x : Ins F) (y : Kept F) :
    (∀ j, ∃ p ∈ (run c i g hi r x y).1.dq, j ∈ p.1.set) ∧ (∀ j, ∃ p ∈ (run c i g hi r x y).1.dcq, j ∈ p.1.set) := by
  match g, hi with
  | 0, hi | 1, hi | 2, hi | 3, hi | 4, hi | 5, hi | 6, hi | 7, hi =>
    exact ⟨fun j => ⟨_, List.mem_singleton.mpr rfl, whole_mem (by decide) (by decide) j⟩,
      fun j => ⟨_, List.mem_singleton.mpr rfl, whole_mem (by decide) (by decide) j⟩⟩
  | g + 8, hi => exact absurd (hi ▸ (i 1).isLt : g + 8 < 8) (by omega)

theorem next_reset (c : Dev nD) (t : Fin cfg0.N) (h : t.val % 8 = 0) (y y' : Kept F) : next m c t y = next m c t y' := by
  have hs : ∀ (g : Nat) (hg : (grid0.coords t 1).val = g), g = 0 →
      (run c (grid0.coords t) g hg (refs t) (ins m c t) y).1 = (run c (grid0.coords t) g hg (refs t) (ins m c t) y').1 := by
    rintro g hg rfl; exact run_reset c _ hg _ _ _ _
  have hc : ∀ (g : Nat) (hg : (grid0.coords t 1).val = g), g = 0 →
      (∀ j, ∃ p ∈ (run c (grid0.coords t) g hg (refs t) (ins m c t) y).1.dk, j ∈ p.1.set)
      ∧ (∀ j, ∃ p ∈ (run c (grid0.coords t) g hg (refs t) (ins m c t) y).1.dv, j ∈ p.1.set)
      ∧ (∀ j, ∃ p ∈ (run c (grid0.coords t) g hg (refs t) (ins m c t) y).1.dck, j ∈ p.1.set) := by
    rintro g hg rfl; exact run_covers c _ hg _ _ _
  obtain ⟨h1, h2, h3⟩ := hc _ (tile t) h
  unfold next
  rw [show stores m c t y' = stores m c t y from (hs _ (tile t) h).symm]
  congr 1
  · exact View.read_writes_of_cover _ _ _ _ _ h1
  · exact View.read_writes_of_cover _ _ _ _ _ h2
  · exact View.read_writes_of_cover _ _ _ _ _ h3

theorem rows_cover (c : Dev nD) (t : Fin cfg0.N) (y : Kept F) :
    (∀ j, ∃ p ∈ (stores m c t y).dq, j ∈ p.1.set) ∧ (∀ j, ∃ p ∈ (stores m c t y).dcq, j ∈ p.1.set) :=
  run_rows c _ _ _ _ _ _

theorem run_same_rows (c : Dev nD) (i : grid0.Coords) (g : Nat) (hi : (i 1).val = g) (r : Refs) (x : Ins F) (y y' : Kept F) :
    (run c i g hi r x y).1.dq = (run c i g hi r x y').1.dq ∧ (run c i g hi r x y).1.dcq = (run c i g hi r x y').1.dcq := by
  match g, hi with
  | 0, hi | 1, hi | 2, hi | 3, hi | 4, hi | 5, hi | 6, hi | 7, hi => exact ⟨rfl, rfl⟩
  | g + 8, hi => exact absurd (hi ▸ (i 1).isLt : g + 8 < 8) (by omega)

/-- Whatever its buffer held and whatever the kept blocks are, the point leaves `dqAt`, -/
theorem read_dq (c : Dev nD) (t : Fin cfg0.N) (y : Kept F) (f) :
    (refs t).dq.view.read (Elt F) ((refs t).dq.view.writes (Elt F) f (stores m c t y).dq) = dqAt m c t := by
  unfold dqAt
  rw [show (stores m c t (prev m c t)).dq = (stores m c t y).dq from (run_same_rows c _ _ _ _ _ _ _).1]
  exact View.read_writes_of_cover _ _ _ _ _ (rows_cover m c t y).1

/-- and `dcqAt`. -/
theorem read_dcq (c : Dev nD) (t : Fin cfg0.N) (y : Kept F) (f) :
    (refs t).dcq.view.read (Elt F) ((refs t).dcq.view.writes (Elt F) f (stores m c t y).dcq) = dcqAt m c t := by
  unfold dcqAt
  rw [show (stores m c t (prev m c t)).dcq = (stores m c t y).dcq from (run_same_rows c _ _ _ _ _ _ _).2]
  exact View.read_writes_of_cover _ _ _ _ _ (rows_cover m c t y).2

/-! ## The pipeline's proof data -/

/-- The arrays as the region finds them; after point `t` each input's buffer at its block and the outputs' at what the
    point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqAt m c t
    | ⟨9, _⟩ => (keptAt m c t.val t.isLt).dk
    | ⟨10, _⟩ => (keptAt m c t.val t.isLt).dv
    | ⟨11, _⟩ => dcqAt m c t
    | ⟨12, _⟩ => (keptAt m c t.val t.isLt).dck
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t ∧ (dats m 0 c).after 1 t = iblk m c 1 t
    ∧ (dats m 0 c).after 2 t = iblk m c 2 t ∧ (dats m 0 c).after 3 t = iblk m c 3 t ∧ (dats m 0 c).after 4 t = iblk m c 4 t
    ∧ (dats m 0 c).after 5 t = iblk m c 5 t ∧ (dats m 0 c).after 6 t = iblk m c 6 t ∧ (dats m 0 c).after 7 t = iblk m c 7 t := by
  dsimp only [dats]; exact ⟨rfl, rfl, rfl, rfl, rfl, rfl, rfl, rfl⟩

theorem after_8 (c : Dev nD) (t : Fin cfg0.N) : (dats m 0 c).after 8 t = dqAt m c t := by dsimp only [dats]
theorem after_9 (c : Dev nD) (t : Fin cfg0.N) : (dats m 0 c).after 9 t = (keptAt m c t.val t.isLt).dk := by dsimp only [dats]
theorem after_10 (c : Dev nD) (t : Fin cfg0.N) : (dats m 0 c).after 10 t = (keptAt m c t.val t.isLt).dv := by dsimp only [dats]
theorem after_11 (c : Dev nD) (t : Fin cfg0.N) : (dats m 0 c).after 11 t = dcqAt m c t := by dsimp only [dats]
theorem after_12 (c : Dev nD) (t : Fin cfg0.N) : (dats m 0 c).after 12 t = (keptAt m c t.val t.isLt).dck := by dsimp only [dats]

theorem before_in (c : Dev nD) (t : Fin cfg0.N) :
    (∀ d, (dats m 0 c).before 0 t d = iblk m c 0 t) ∧ (∀ d, (dats m 0 c).before 1 t d = iblk m c 1 t)
    ∧ (∀ d, (dats m 0 c).before 2 t d = iblk m c 2 t) ∧ (∀ d, (dats m 0 c).before 3 t d = iblk m c 3 t)
    ∧ (∀ d, (dats m 0 c).before 4 t d = iblk m c 4 t) ∧ (∀ d, (dats m 0 c).before 5 t d = iblk m c 5 t)
    ∧ (∀ d, (dats m 0 c).before 6 t d = iblk m c 6 t) ∧ (∀ d, (dats m 0 c).before 7 t d = iblk m c 7 t) :=
  ⟨before0_0_of m _ (A_eq m c 0) (fun t => (after_in m c t).1) t, before0_1_of m _ (A_eq m c 1) (fun t => (after_in m c t).2.1) t,
    before0_2_of m _ (A_eq m c 2) (fun t => (after_in m c t).2.2.1) t, before0_3_of m _ (A_eq m c 3) (fun t => (after_in m c t).2.2.2.1) t,
    before0_4_of m _ (A_eq m c 4) (fun t => (after_in m c t).2.2.2.2.1) t, before0_5_of m _ (A_eq m c 5) (fun t => (after_in m c t).2.2.2.2.2.1) t,
    before0_6_of m _ (A_eq m c 6) (fun t => (after_in m c t).2.2.2.2.2.2.1) t, before0_7_of m _ (A_eq m c 7) (fun t => (after_in m c t).2.2.2.2.2.2.2) t⟩

/-- Some store of the body reaches each output at every point. -/
theorem live0 (w : Fin 13) (i : grid0.Coords) : idle0 w i = false := by
  obtain ⟨h1, h2, h3, h4, h5, h6, h7, h8, h9⟩ := conds i
  have h := (i 1).isLt
  have e : (i 1).val = 0 ∨ (i 1).val = 1 ∨ (i 1).val = 2 ∨ (i 1).val = 3 ∨ (i 1).val = 4 ∨ (i 1).val = 5 ∨ (i 1).val = 6 ∨ (i 1).val = 7 := by
    change (i 1).val < 8 at h; omega
  have key : (k0_cond2 i = 1#1 ∨ k0_cond3 i = 1#1 ∨ k0_cond4 i = 1#1 ∨ k0_cond5 i = 1#1 ∨ k0_cond6 i = 1#1 ∨ k0_cond7 i = 1#1
      ∨ k0_cond8 i = 1#1 ∨ k0_cond9 i = 1#1) := by
    rw [h2, h3, h4, h5, h6, h7, h8, h9]; exact e
  match w with
  | 0 | 1 | 2 | 3 | 4 | 5 | 6 | 7 => rfl
  | 8 | 9 | 10 | 11 | 12 =>
    dsimp only [idle0]
    rcases key with k | k | k | k | k | k | k | k <;> simp [k]

theorem live (w : Fin cfg0.W) (i : grid0.Coords) : cfg0.idle w i = false := by
  change idle0 w i = false
  exact live0 w i

/-- A kept output's buffer holds what the point before left, but at a head's first point. -/
theorem before_kept (c : Dev nD) (t : Fin cfg0.N) (h : ¬t.val % 8 = 0) :
    (∀ d, (dats m 0 c).before 9 t d = (prev m c t).dk) ∧ (∀ d, (dats m 0 c).before 10 t d = (prev m c t).dv)
    ∧ (∀ d, (dats m 0 c).before 12 t d = (prev m c t).dck) := by
  have h0 : t.val ≠ 0 := fun e => h (by rw [e])
  unfold prev; rw [dif_neg h0]
  refine ⟨fun d => ?_, fun d => ?_, fun d => ?_⟩
  · rw [Dat.before_out_kept _ 9 rfl t h0 (Bool.eq_false_iff.mpr fun h => by have := (flush0_9 _).mp h; dsimp only at this; omega)
      (live 9) (fun _ _ => rfl), after_9]
  · rw [Dat.before_out_kept _ 10 rfl t h0 (Bool.eq_false_iff.mpr fun h => by have := (flush0_10 _).mp h; dsimp only at this; omega)
      (live 10) (fun _ _ => rfl), after_10]
  · rw [Dat.before_out_kept _ 12 rfl t h0 (Bool.eq_false_iff.mpr fun h => by have := (flush0_12 _).mp h; dsimp only at this; omega)
      (live 12) (fun _ _ => rfl), after_12]

/-- Whatever the kept outputs' buffers hold, the point leaves `keptAt`. -/
theorem next_before (c : Dev nD) (t : Fin cfg0.N) (d9 d10 d12) :
    next m c t ⟨(dats m 0 c).before 9 t d9, (dats m 0 c).before 10 t d10, (dats m 0 c).before 12 t d12⟩ = keptAt m c t.val t.isLt := by
  rw [keptAt_eq]
  by_cases h : t.val % 8 = 0
  · exact next_reset m c t h _ _
  · obtain ⟨h9, h10, h12⟩ := before_kept m c t h
    rw [h9, h10, h12]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (refs t).q fullShare ((dats m 0 c).before 0 t d))
    ∗ (∃ d, owns (c : Thread nD τ) (refs t).k fullShare ((dats m 0 c).before 1 t d))
    ∗ (∃ d, owns (c : Thread nD τ) (refs t).v fullShare ((dats m 0 c).before 2 t d))
    ∗ (∃ d, owns (c : Thread nD τ) (refs t).cq fullShare ((dats m 0 c).before 3 t d))
    ∗ (∃ d, owns (c : Thread nD τ) (refs t).ck fullShare ((dats m 0 c).before 4 t d))
    ∗ (∃ d, owns (c : Thread nD τ) (refs t).o fullShare ((dats m 0 c).before 5 t d))
    ∗ (∃ d, owns (c : Thread nD τ) (refs t).lse fullShare ((dats m 0 c).before 6 t d))
    ∗ (∃ d, owns (c : Thread nD τ) (refs t).ct fullShare ((dats m 0 c).before 7 t d))
    ∗ (∃ d, owns (c : Thread nD τ) (refs t).dq fullShare ((dats m 0 c).before 8 t d))
    ∗ (∃ d, owns (c : Thread nD τ) (refs t).dk fullShare ((dats m 0 c).before 9 t d))
    ∗ (∃ d, owns (c : Thread nD τ) (refs t).dv fullShare ((dats m 0 c).before 10 t d))
    ∗ (∃ d, owns (c : Thread nD τ) (refs t).dcq fullShare ((dats m 0 c).before 11 t d))
    ∗ (∃ d, owns (c : Thread nD τ) (refs t).dck fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (refs t).q fullShare ((dats m 0 c).after 0 t)
    ∗ owns (c : Thread nD τ) (refs t).k fullShare ((dats m 0 c).after 1 t)
    ∗ owns (c : Thread nD τ) (refs t).v fullShare ((dats m 0 c).after 2 t)
    ∗ owns (c : Thread nD τ) (refs t).cq fullShare ((dats m 0 c).after 3 t)
    ∗ owns (c : Thread nD τ) (refs t).ck fullShare ((dats m 0 c).after 4 t)
    ∗ owns (c : Thread nD τ) (refs t).o fullShare ((dats m 0 c).after 5 t)
    ∗ owns (c : Thread nD τ) (refs t).lse fullShare ((dats m 0 c).after 6 t)
    ∗ owns (c : Thread nD τ) (refs t).ct fullShare ((dats m 0 c).after 7 t)
    ∗ owns (c : Thread nD τ) (refs t).dq fullShare ((dats m 0 c).after 8 t)
    ∗ owns (c : Thread nD τ) (refs t).dk fullShare ((dats m 0 c).after 9 t)
    ∗ owns (c : Thread nD τ) (refs t).dv fullShare ((dats m 0 c).after 10 t)
    ∗ owns (c : Thread nD τ) (refs t).dcq fullShare ((dats m 0 c).after 11 t)
    ∗ owns (c : Thread nD τ) (refs t).dck fullShare ((dats m 0 c).after 12 t))

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  change _ ⊢ wp frame _ _ (body (grid0.coords t) (refs t)) _
  obtain ⟨b0, b1, b2, b3, b4, b5, b6, b7⟩ := before_in m c t
  obtain ⟨a0, a1, a2, a3, a4, a5, a6, a7⟩ := after_in m c t
  simp only [b0, b1, b2, b3, b4, b5, b6, b7]
  rw [show (dats m 0 c).Φ t.succ = (dats m 0 c).Φ t.castSucc from rfl,
    show (dats m 0 c).owesAt () t.succ = (dats m 0 c).owesAt () t.castSucc from rfl,
    a0, a1, a2, a3, a4, a5, a6, a7, after_8, after_9, after_10, after_11, after_12]
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩, ⟨%d9, %f9, %hf9, H9⟩, ⟨%d10, %f10, %hf10, H10⟩, ⟨%d11, %f11, -, H11⟩, ⟨%d12, %f12, %hf12, H12⟩⟩
  obtain rfl := (refs t).hq.eq_unread hf0; obtain rfl := (refs t).hk.eq_unread hf1; obtain rfl := (refs t).hv.eq_unread hf2; obtain rfl := (refs t).hcq.eq_unread hf3; obtain rfl := (refs t).hck.eq_unread hf4; obtain rfl := (refs t).ho.eq_unread hf5; obtain rfl := (refs t).hlse.eq_unread hf6; obtain rfl := (refs t).hct.eq_unread hf7; obtain rfl := (refs t).hdk.eq_unread hf9; obtain rfl := (refs t).hdv.eq_unread hf10; obtain rfl := (refs t).hdck.eq_unread hf12
  have hn := next_before m c t d9 d10 d12
  iapply (stores_run m c t ⟨(dats m 0 c).before 9 t d9, (dats m 0 c).before 10 t d10, (dats m 0 c).before 12 t d12⟩ f8 f11 Set.univ _)
  unfold at_
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexists _; isplitr; · ipureintro; exact (refs t).hq.read_unread _
                  iexact H0
  isplitl [H1]; · iexists _; isplitr; · ipureintro; exact (refs t).hk.read_unread _
                  iexact H1
  isplitl [H2]; · iexists _; isplitr; · ipureintro; exact (refs t).hv.read_unread _
                  iexact H2
  isplitl [H3]; · iexists _; isplitr; · ipureintro; exact (refs t).hcq.read_unread _
                  iexact H3
  isplitl [H4]; · iexists _; isplitr; · ipureintro; exact (refs t).hck.read_unread _
                  iexact H4
  isplitl [H5]; · iexists _; isplitr; · ipureintro; exact (refs t).ho.read_unread _
                  iexact H5
  isplitl [H6]; · iexists _; isplitr; · ipureintro; exact (refs t).hlse.read_unread _
                  iexact H6
  isplitl [H7]; · iexists _; isplitr; · ipureintro; exact (refs t).hct.read_unread _
                  iexact H7
  isplitl [H8]
  · iexists _; isplitr; · ipureintro; exact read_dq m c t ⟨(dats m 0 c).before 9 t d9, (dats m 0 c).before 10 t d10, (dats m 0 c).before 12 t d12⟩ f8
    iexact H8
  isplitl [H9]
  · iexists _; isplitr; · ipureintro; exact congrArg Kept.dk hn
    iexact H9
  isplitl [H10]
  · iexists _; isplitr; · ipureintro; exact congrArg Kept.dv hn
    iexact H10
  isplitl [H11]
  · iexists _; isplitr; · ipureintro; exact read_dcq m c t ⟨(dats m 0 c).before 9 t d9, (dats m 0 c).before 10 t d10, (dats m 0 c).before 12 t d12⟩ f11
    iexact H11
  iexists _; isplitr; · ipureintro; exact congrArg Kept.dck hn
  iexact H12

theorem defs₀_row (t : Fin cfg0.N) :
    defs₀ (F := F) .tc cfg0.body (cfg0.bodyArgs t (cfg0.slots t)) = bodyAt0 t := by
  unfold defs₀; rw [Defs.onTc_tc]

/-- The library's body obligation: the body's triple restated, no output idle. -/
theorem body_obligation (c : Dev nD) : BodyObligation (dats (F := F) m 0 c) (defs₀ (F := F)) Variants.none () Set.univ := fun t => by
  rw [bigSep_W0, bigSep_W0, defs₀_row]
  rw [live 8 (cfg0.grid.coords t), live 9 (cfg0.grid.coords t)]
  exact triple_restated (sound_body m c t) rfl .rfl fun _ => .rfl

/-! ## The run and the frame -/

set_option backward.isDefEq.respectTransparency.types false in
/-- Every fair execution ends with the pipeline's arrays at what the proof data says, every other buffer at what the host
    lines leave, and no semaphore up. -/
theorem run_main_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end unchanged, no semaphore up. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.AttnKernelIdeal.Hand

end
-- ==== Proof.Attn.Math.lean ====
module

public import proofs.«01_k».proof.Proof.Reals

/-! # One head's attention over the reals

Causal attention with a decay and its gradient, in plain real arithmetic, and the two spellings of it that the programs
use: the softmax normalised by any row constant, and the row constant taken back through the logarithm. -/

@[expose] public section

noncomputable section

namespace Cert.Attn

open Cert.Reals Idealize.ShloMosaic

/-- The arrays of one head: queries, keys, values, accumulated log decay, and the output's gradient. -/
structure Head where
  q : Fin 2048 → Fin 64 → ℝ
  k : Fin 2048 → Fin 64 → ℝ
  v : Fin 2048 → Fin 64 → ℝ
  c : Fin 2048 → ℝ
  ct : Fin 2048 → Fin 64 → ℝ

namespace Head

variable (h : Head)

/-- The logit of query `r` and key `j`, without the query's decay. -/
def logit (r j : Fin 2048) : ℝ := (∑ d, h.q r d * (1 / 8) * h.k j d) - h.c j

/-- The exponential of a logit less `M`, zero for the keys after the query. -/
def expo (M : ℝ) (r j : Fin 2048) : ℝ := if j.val ≤ r.val then Real.exp (h.logit r j - M) else 0

/-- The softmax's denominator. -/
def den (M : ℝ) (r : Fin 2048) : ℝ := ∑ j, h.expo M r j

/-- The probabilities. -/
def prob (r j : Fin 2048) : ℝ := h.expo 0 r j / h.den 0 r

/-- The gradient of the probabilities. -/
def dprob (r j : Fin 2048) : ℝ := ∑ d, h.ct r d * h.v j d

/-- The softmax's row term. -/
def row (r : Fin 2048) : ℝ := ∑ j, h.prob r j * h.dprob r j

/-- The gradient of the logits. -/
def grad (r j : Fin 2048) : ℝ := h.prob r j * (h.dprob r j - h.row r)

/-- The gradients of queries, keys, values and decay. -/
def dq (r : Fin 2048) (d : Fin 64) : ℝ := (∑ j, h.grad r j * h.k j d) * (1 / 8)
def dk (j : Fin 2048) (d : Fin 64) : ℝ := ∑ r, h.grad r j * (h.q r d * (1 / 8))
def dv (j : Fin 2048) (d : Fin 64) : ℝ := ∑ r, h.prob r j * h.ct r d
def dc (r : Fin 2048) : ℝ := (∑ j, h.grad r j) - ∑ s, h.grad s r

/-- The attention's output. -/
def out (r : Fin 2048) (d : Fin 64) : ℝ := ∑ j, h.prob r j * h.v j d

theorem expo_nonneg (M : ℝ) (r j : Fin 2048) : 0 ≤ h.expo M r j := by
  unfold expo; split_ifs
  · exact (Real.exp_pos _).le
  · exact le_rfl

theorem den_pos (M : ℝ) (r : Fin 2048) : 0 < h.den M r :=
  Finset.sum_pos' (fun j _ => h.expo_nonneg M r j) ⟨r, Finset.mem_univ r, by unfold expo; rw [if_pos le_rfl]; exact Real.exp_pos _⟩

theorem expo_shift (M : ℝ) (r j : Fin 2048) : h.expo 0 r j = Real.exp M * h.expo M r j := by
  unfold expo; split_ifs
  · rw [← Real.exp_add]; congr 1; ring
  · rw [mul_zero]

theorem den_shift (M : ℝ) (r : Fin 2048) : h.den 0 r = Real.exp M * h.den M r := by
  unfold den; rw [Finset.mul_sum]; exact Finset.sum_congr rfl fun j _ => h.expo_shift M r j

/-- The row constant drops out of the softmax. -/
theorem prob_eq (M : ℝ) (r j : Fin 2048) : h.prob r j = h.expo M r j / h.den M r := by
  unfold prob; rw [h.expo_shift M, h.den_shift M, mul_div_mul_left _ _ (Real.exp_pos M).ne']

/-- The probability from the logarithm of the row's sum. -/
theorem prob_lse (M : ℝ) (r j : Fin 2048) :
    (if j.val ≤ r.val then Real.exp (h.logit r j + (h.c r - (M + Real.log (h.den M r) + h.c r))) else 0) = h.prob r j := by
  rw [h.prob_eq M]; unfold expo; split_ifs
  · rw [show h.logit r j + (h.c r - (M + Real.log (h.den M r) + h.c r)) = (h.logit r j - M) - Real.log (h.den M r) by ring,
      Real.exp_sub, Real.exp_log (h.den_pos M r)]
  · rw [zero_div]

/-- The row term is the output's gradient against the output. -/
theorem row_eq (r : Fin 2048) : ∑ d, h.ct r d * h.out r d = h.row r := by
  unfold out row dprob
  simp only [Finset.mul_sum]
  rw [Finset.sum_comm]
  exact Finset.sum_congr rfl fun j _ => Finset.sum_congr rfl fun d _ => by ring

/-- The softmax's derivative as the quotient rule writes it. -/
theorem grad_eq (M : ℝ) (r j : Fin 2048) :
    (h.dprob r j / h.den M r + -∑ l, h.dprob r l * (1 / (h.den M r * h.den M r)) * h.expo M r l) * h.expo M r j = h.grad r j := by
  have hd := (h.den_pos M r).ne'
  have e : ∑ l, h.dprob r l * (1 / (h.den M r * h.den M r)) * h.expo M r l = h.row r / h.den M r := by
    unfold row; rw [Finset.sum_div]
    refine Finset.sum_congr rfl fun l _ => ?_
    rw [h.prob_eq M]; field_simp
  rw [e, grad, h.prob_eq M]; field_simp; ring

end Head

/-- The arrays hold the reals of the eight heads. -/
structure Holds (H : Fin 8 → Head) (Q K V : FVec Ideal ⟨3, ![8, 2048, 64]⟩ .f32) (C : FVec Ideal ⟨2, ![8, 2048]⟩ .f32)
    (CT : FVec Ideal ⟨3, ![8, 2048, 64]⟩ .f32) : Prop where
  q : ∀ e r d, Q (ix3 e r d) = ((H e).q r d : EReal)
  k : ∀ e r d, K (ix3 e r d) = ((H e).k r d : EReal)
  v : ∀ e r d, V (ix3 e r d) = ((H e).v r d : EReal)
  c : ∀ e r, C (ix2 e r) = ((H e).c r : EReal)
  ct : ∀ e r d, CT (ix3 e r d) = ((H e).ct r d : EReal)

/-- The scale, 1/8. -/
theorem ofBits_scale : Ideal.ofBits .f32 1040187392#32 = ((1 / 8 : ℝ) : EReal) := by
  simp [Ideal.ofBits, Ideal.ieee]; rw [← EReal.coe_mul]; norm_num

/-- The maximum of finitely many extended reals, none +∞ and one a real, is a real. -/
theorem exists_max {ι : Type*} [Fintype ι] (f : ι → EReal) (hf : ∀ i, f i ≠ ⊤) (i₀ : ι) (h₀ : f i₀ ≠ ⊥) :
    ∃ M : ℝ, Finset.univ.fold max ⊥ f = (M : EReal) := by
  have hle : f i₀ ≤ Finset.univ.fold max ⊥ f := Finset.le_fold_max _ |>.mpr (.inr ⟨i₀, Finset.mem_univ _, le_rfl⟩)
  have hlt : Finset.univ.fold max ⊥ f < ⊤ := Finset.fold_max_lt _ |>.mpr ⟨bot_lt_top, fun i _ => lt_top_iff_ne_top.mpr (hf i)⟩
  refine ⟨(Finset.univ.fold max ⊥ f).toReal, (EReal.coe_toReal hlt.ne ?_).symm⟩
  exact fun e => h₀ (le_bot_iff.mp (e ▸ hle))

end Cert.Attn

end
-- ==== Proof.Max.lean ====
module

public import proofs.«01_k».proof.Proof.Attn.Math

/-! # A host row maximum at an index -/

@[expose] public section

noncomputable section

namespace Cert.Reals

open Idealize.ShloMosaic Idealize.ShloMosaic.StableHlo

/-- The pattern of −∞. -/
theorem ofBits_ninf : Ideal.ofBits .f32 4286578688#32 = ⊥ := by
  simp [Ideal.ofBits, Ideal.ieee]

/-- A pointwise maximum at an index. -/
theorem maximumf_at {s : Shape} (A B : FVec Ideal s .f32) (i : s.Idx) : maximumf A B i = max (A i) (B i) := rfl

/-- So a sum and a logarithm. -/
theorem addf_at {s : Shape} (A B : FVec Ideal s .f32) (i : s.Idx) : addf A B i = A i + B i := rfl
theorem log_at {s : Shape} (A : FVec Ideal s .f32) (i : s.Idx) : Host.log A i = Ideal.log (A i) := rfl

/-- The maximum along the last of three axes, at any extents. -/
theorem reduce_max {n0 n1 n2 : ℕ} {u : Shape} (x : FVec Ideal ⟨3, ![n0, n1, n2]⟩ .f32) (b : BitVec 32)
    (h : (⟨3, ![n0, n1, n2]⟩ : Shape).ReducesTo [2] ⟨2, ![n0, n1]⟩) (hu : 0 < u.numel) (e : Fin n0) (r : Fin n1) :
    Host.reduce FloatOps.maximumf x (constant u .f32 b) h hu (ix2 e r) = Finset.univ.fold max (Ideal.ofBits .f32 b) fun k => x (ix3 e r k) := by
  rw [Host.reduce_eq_fold, Shape.ReducesTo.fold_fiber_r3_a2]; rfl

/-- It is real where one entry is real and none is +∞. -/
theorem reduce_max_real {n0 n1 n2 : ℕ} {u : Shape} (x : FVec Ideal ⟨3, ![n0, n1, n2]⟩ .f32)
    (h : (⟨3, ![n0, n1, n2]⟩ : Shape).ReducesTo [2] ⟨2, ![n0, n1]⟩) (hu : 0 < u.numel) (e : Fin n0) (r : Fin n1)
    (j₀ : Fin n2) (hx : ∀ j, x (ix3 e r j) ≠ ⊤) (h₀ : x (ix3 e r j₀) ≠ ⊥) :
    ∃ M : ℝ, Host.reduce FloatOps.maximumf x (constant u .f32 4286578688#32) h hu (ix2 e r) = (M : EReal) := by
  obtain ⟨M, hM⟩ := Cert.Attn.exists_max (fun j => x (ix3 e r j)) hx j₀ h₀
  exact ⟨M, by rw [reduce_max, ofBits_ninf]; exact hM⟩

/-- An index of a block of one matrix is its last two coordinates. -/
theorem exists_ix3 {b c : Nat} (y : (⟨3, ![1, b, c]⟩ : Shape).Idx) : ∃ r l, y = ix3 0 r l :=
  ⟨y 1, y 2, by funext i; fin_cases i <;> first | rfl | exact Subsingleton.elim (α := Fin 1) _ _⟩

/-- An array that starts afresh at every eighth position and otherwise adds to the position before. -/
theorem acc_eq (X : ℕ → EReal) (p : ℕ → ℝ) (N : ℕ) (hX : ∀ n < N, X n = (if n % 8 = 0 then 0 else X (n - 1)) + (p n : EReal)) :
    ∀ n < N, X n = ((∑ s ∈ Finset.range (n % 8 + 1), p (8 * (n / 8) + s) : ℝ) : EReal) := by
  intro n
  induction n using Nat.strong_induction_on with
  | _ n ih =>
    intro hn
    rw [hX n hn]
    by_cases h : n % 8 = 0
    · rw [if_pos h, zero_add, h, zero_add, Finset.sum_range_one, show 8 * (n / 8) + 0 = n by omega]
    · rw [if_neg h, ih (n - 1) (by omega) (by omega), ← EReal.coe_add, show (n - 1) % 8 + 1 = n % 8 by omega,
        show (n - 1) / 8 = n / 8 by omega, Finset.sum_range_succ, show 8 * (n / 8) + n % 8 = n by omega]

end Cert.Reals

end
-- ==== Proof.Attn.Host.lean ====
module

public import proofs.«01_k».proof.Proof.Attn.Frame
public import proofs.«01_k».proof.Proof.Max

/-! # The host lines before the call

The output and the logarithm of the row sums, which the forward call saves, as the host computes them: real where the
arguments are. -/

@[expose] public section

set_option maxRecDepth 16384

noncomputable section

namespace Cert.AttnKernelIdeal.Hand

open Cert.AttnKernelIdeal Cert.AttnKernelIdeal.Gen Cert.Reals Cert.Attn
open Idealize.ShloMosaic Idealize.ShloMosaic.TcCoe Idealize.ShloMosaic.Tactic Idealize.ShloMosaic.StableHlo

/-- The decay as a column, -/
def colC (C : FVec Ideal S8x2048 .f32) : FVec Ideal S8x2048x1 .f32 := broadcastInDim S8x2048x1 ![0, 1] bcast_S8x2048_S8x2048x1_0_1 C

/-- and as a row. -/
def rowC (C : FVec Ideal S8x2048 .f32) : FVec Ideal S8x1x2048 .f32 := broadcastInDim S8x1x2048 ![0, 2] bcast_S8x2048_S8x1x2048_0_2 C

/-- The bit that says a key stands at or before the query. -/
def causal : IVec S8x2048x2048 1 :=
  broadcastInDim S8x2048x2048 ![1, 2] bcast_S2048x2048_S8x2048x2048_1_2 (cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0))))

/-- The masked scores. -/
def scores (Q K : FVec Ideal S8x2048x64 .f32) (C : FVec Ideal S8x2048 .f32) : FVec Ideal S8x2048x2048 .f32 :=
  select causal (subf (Host.dotGeneral dot_S8x2048x64_S8x2048x64_S8x2048x2048_2_2_1_1_0_0 none
      (truncf .bf16 (mulf Q (broadcastInDim S8x2048x64 ![] bcast_S_S8x2048x64 (constant S_ .f32 0x3E000000#32))) bitsLt_bf16_f32 : FVec Ideal S8x2048x64 .bf16)
      (truncf .bf16 K bitsLt_bf16_f32 : FVec Ideal S8x2048x64 .bf16) : FVec Ideal S8x2048x2048 .f32)
    (broadcastInDim S8x2048x2048 ![0, 1, 2] bcast_S8x1x2048_S8x2048x2048_0_1_2 (rowC C)))
    (broadcastInDim S8x2048x2048 ![] bcast_S_S8x2048x2048 (id (constant S_ .f32 0xFF800000#32)))

/-- Their row maximum. -/
def tops (L : FVec Ideal S8x2048x2048 .f32) : FVec Ideal S8x2048 .f32 :=
  Host.reduce FloatOps.maximumf L (constant S_ .f32 0xFF800000#32) reducesTo_S8x2048x2048_S8x2048_d2 h_S_

def topsC (L : FVec Ideal S8x2048x2048 .f32) : FVec Ideal S8x2048x1 .f32 := broadcastInDim S8x2048x1 ![0, 1] bcast_S8x2048_S8x2048x1_0_1 (tops L)

/-- The exponentials. -/
def expos (L : FVec Ideal S8x2048x2048 .f32) : FVec Ideal S8x2048x2048 .f32 :=
  Host.exp (subf L (broadcastInDim S8x2048x2048 ![0, 1, 2] bcast_S8x2048x1_S8x2048x2048_0_1_2 (topsC L)))

/-- Their row sums. -/
def dens (E : FVec Ideal S8x2048x2048 .f32) : FVec Ideal S8x2048x1 .f32 :=
  broadcastInDim S8x2048x1 ![0, 1] bcast_S8x2048_S8x2048x1_0_1 (Host.reduceAdd E (constant S_ .f32 0x00000000#32) reducesTo_S8x2048x2048_S8x2048_d2 h_S_)

/-- The output. -/
def outs (E : FVec Ideal S8x2048x2048 .f32) (V : FVec Ideal S8x2048x64 .f32) : FVec Ideal S8x2048x64 .f32 :=
  Host.divf (Host.dotGeneral dot_S8x2048x2048_S8x2048x64_S8x2048x64_2_1_1_2_0_0 none
      (truncf .bf16 E bitsLt_bf16_f32 : FVec Ideal S8x2048x2048 .bf16) (truncf .bf16 V bitsLt_bf16_f32 : FVec Ideal S8x2048x64 .bf16) : FVec Ideal S8x2048x64 .f32)
    (broadcastInDim S8x2048x64 ![0, 1, 2] bcast_S8x2048x1_S8x2048x64_0_1_2 (dens E))

/-- The logarithm of the row sums. -/
def lses (L : FVec Ideal S8x2048x2048 .f32) (C : FVec Ideal S8x2048 .f32) : FVec Ideal S8x2048x1 .f32 :=
  addf (addf (topsC L) (Host.log (dens (expos L)))) (colC C)

section Operands

variable (m : (ℓ : Loc nD τ sig) → Buf (Elt Ideal) ℓ) (c : Dev nD)

theorem V_v0 : (V m c main_v0 : FVec Ideal S8x2048x1 .f32) = colC (m ((c : Thread nD τ).loc main_arg3)) := by
  simp only [V, V0, List.flatten_cons, List.flatten_nil, List.cons_append, List.nil_append, hostOps0, hostOps0_1, hostOps0_2]
  after_results; rfl

theorem V_v1 : (V m c main_v1 : FVec Ideal S8x1x2048 .f32) = rowC (m ((c : Thread nD τ).loc main_arg3)) := by
  simp only [V, V0, List.flatten_cons, List.flatten_nil, List.cons_append, List.nil_append, hostOps0, hostOps0_1, hostOps0_2]
  after_results; rfl

theorem V_v28 : (V m c main_v28 : FVec Ideal S8x2048x64 .f32)
    = outs (expos (scores (m ((c : Thread nD τ).loc main_arg0)) (m ((c : Thread nD τ).loc main_arg1)) (m ((c : Thread nD τ).loc main_arg3)))) (m ((c : Thread nD τ).loc main_arg2)) := by
  simp only [V, V0, List.flatten_cons, List.flatten_nil, List.cons_append, List.nil_append, hostOps0, hostOps0_1, hostOps0_2]
  after_results
  unfold outs dens expos topsC tops scores causal rowC; rfl

theorem V_v31 : (V m c main_v31 : FVec Ideal S8x2048x1 .f32)
    = lses (scores (m ((c : Thread nD τ).loc main_arg0)) (m ((c : Thread nD τ).loc main_arg1)) (m ((c : Thread nD τ).loc main_arg3))) (m ((c : Thread nD τ).loc main_arg3)) := by
  simp only [V, V0, List.flatten_cons, List.flatten_nil, List.cons_append, List.nil_append, hostOps0, hostOps0_1, hostOps0_2]
  after_results
  unfold lses dens expos topsC tops scores causal rowC colC; rfl

end Operands

theorem causal_iff (e : Fin 8) (r j : Fin 2048) : causal (ix3 e r j) = 1#1 ↔ j.val ≤ r.val := by
  pointwise [causal]
  exact Idealize.ShloMosaic.WordCmp.cmpi_sge_ofNat_eq_one_iff (by omega) (by omega)

theorem scores_apply (Q K C) (e : Fin 8) (r j : Fin 2048) : scores Q K C (ix3 e r j) =
    if j.val ≤ r.val then (∑ x, Q (ix3 e r x) * Ideal.ofBits .f32 1040187392#32 * K (ix3 e j x)) - C (ix2 e j) else ⊥ := by
  pointwise [scores, rowC, id]
  rw [Scalar.select, ofBits_ninf]
  exact if_congr (causal_iff e r j) rfl rfl

theorem col_apply (T : FVec Ideal S8x2048 .f32) (e : Fin 8) (r : Fin 2048) :
    broadcastInDim S8x2048x1 ![0, 1] bcast_S8x2048_S8x2048x1_0_1 T (ix3 e r 0) = T (ix2 e r) := by
  pointwise []

theorem topsC_apply (L) (e : Fin 8) (r : Fin 2048) : topsC L (ix3 e r 0) = tops L (ix2 e r) := by
  rw [topsC, col_apply]

theorem expos_apply (L) (e : Fin 8) (r j : Fin 2048) : expos L (ix3 e r j) = Ideal.exp (L (ix3 e r j) - topsC L (ix3 e r 0)) := by
  pointwise [expos]

theorem dens_apply (E) (e : Fin 8) (r : Fin 2048) : dens E (ix3 e r 0) = ∑ j, E (ix3 e r j) := by
  pointwise [dens]

theorem outs_apply (E V) (e : Fin 8) (r : Fin 2048) (d : Fin 64) :
    outs E V (ix3 e r d) = Ideal.div (∑ j, E (ix3 e r j) * V (ix3 e j d)) (dens E (ix3 e r 0)) := by
  pointwise [outs]

theorem lses_apply (L C) (e : Fin 8) (r : Fin 2048) :
    lses L C (ix3 e r 0) = topsC L (ix3 e r 0) + Ideal.log (dens (expos L) (ix3 e r 0)) + C (ix2 e r) := by
  rw [lses, addf_at, addf_at, log_at, colC, col_apply]

section Real

variable {H : Fin 8 → Head} {Q K V CT : FVec Ideal S8x2048x64 .f32} {C : FVec Ideal S8x2048 .f32} (h : Holds H Q K V C CT)

include h

theorem scores_real (e : Fin 8) (r j : Fin 2048) :
    scores Q K C (ix3 e r j) = if j.val ≤ r.val then ((H e).logit r j : EReal) else ⊥ := by
  rw [scores_apply]
  simp only [h.q, h.k, h.c, ofBits_scale, ← EReal.coe_mul, coe_sum, ← EReal.coe_sub]
  rfl

/-- The output is the attention's; the row's logarithm is taken less some real and put back. -/
theorem saved_real : ∃ M : Fin 8 → Fin 2048 → ℝ, (∀ e r d, outs (expos (scores Q K C)) V (ix3 e r d) = ((H e).out r d : EReal))
    ∧ ∀ e r, lses (scores Q K C) C (ix3 e r 0) = ((M e r + Real.log ((H e).den (M e r) r) + (H e).c r : ℝ) : EReal) := by
  have key : ∀ e r, ∃ M : ℝ, topsC (scores Q K C) (ix3 e r 0) = (M : EReal) := fun e r => by
    obtain ⟨M, hM⟩ := reduce_max_real (scores Q K C) reducesTo_S8x2048x2048_S8x2048_d2 h_S_ e r r (fun j => by
        rw [scores_real h]; split_ifs
        · exact EReal.coe_ne_top _
        · exact bot_ne_top) (by rw [scores_real h, if_pos le_rfl]; exact EReal.coe_ne_bot _)
    have hm : tops (scores Q K C) (ix2 e r) = (M : EReal) := hM
    exact ⟨M, by rw [topsC_apply, hm]⟩
  choose M hM using key
  have hE : ∀ e r j, expos (scores Q K C) (ix3 e r j) = ((H e).expo (M e r) r j : EReal) := fun e r j => by
    rw [expos_apply, hM, scores_real h, Head.expo]
    split_ifs
    · rw [← EReal.coe_sub, Ideal.exp_coe]
    · rw [EReal.bot_sub, Ideal.exp_bot]; rfl
  have hD : ∀ e r, dens (expos (scores Q K C)) (ix3 e r 0) = ((H e).den (M e r) r : EReal) := fun e r => by
    rw [dens_apply, Finset.sum_congr rfl fun j _ => hE e r j, coe_sum]; rfl
  refine ⟨M, fun e r d => ?_, fun e r => ?_⟩
  · rw [outs_apply, hD]
    simp only [hE, h.v, ← EReal.coe_mul, coe_sum]
    rw [div_real ((H e).den_pos (M e r) r).ne', Head.out, Finset.sum_div]
    congr 1
    exact Finset.sum_congr rfl fun j _ => by rw [(H e).prob_eq (M e r)]; ring
  · rw [lses_apply, hM, hD, h.c, Ideal.log_coe, if_neg (not_le.mpr ((H e).den_pos (M e r) r)), ← EReal.coe_add, ← EReal.coe_add]

end Real

end Cert.AttnKernelIdeal.Hand

end
-- ==== Proof.Attn.Value.lean ====
module

public import proofs.«01_k».proof.Proof.Attn.Tile
public import proofs.«01_k».proof.Proof.Attn.Host

/-! # What the call leaves in its arrays

Each output array over the reals: the queries' rows a tile at a time, the keys' sums over a head's eight tiles. -/

@[expose] public section

set_option maxRecDepth 16384

noncomputable section

namespace Cert.AttnKernelIdeal.Hand

open Cert.AttnKernelIdeal Cert.AttnKernelIdeal.Gen Cert.Reals Cert.Attn
open Idealize.ShloMosaic Idealize.ShloMosaic.TcCoe Idealize.ShloMosaic.Tactic

/-- The head a point works on, -/
def head (t : Fin cfg0.N) : Fin 8 := ⟨t.val / 8, by have : t.val < 64 := t.isLt; omega⟩

/-- and its tile's queries. -/
def row (t : Fin cfg0.N) (a : Fin 256) : Fin 2048 := ⟨256 * (t.val % 8) + a.val, by omega⟩

theorem idx : ∀ t : Fin cfg0.N, (win0_0.index t = ![t.val / 8, t.val % 8, 0] ∧ win0_1.index t = ![t.val / 8, 0, 0] ∧ win0_2.index t = ![t.val / 8, 0, 0])
    ∧ (win0_3.index t = ![t.val / 8, t.val % 8, 0] ∧ win0_4.index t = ![t.val / 8, 0, 0] ∧ win0_5.index t = ![t.val / 8, t.val % 8, 0])
    ∧ (win0_6.index t = ![t.val / 8, t.val % 8, 0] ∧ win0_7.index t = ![t.val / 8, t.val % 8, 0] ∧ win0_8.index t = ![t.val / 8, t.val % 8, 0])
    ∧ (win0_9.index t = ![t.val / 8, 0, 0] ∧ win0_10.index t = ![t.val / 8, 0, 0])
    ∧ (win0_11.index t = ![t.val / 8, t.val % 8, 0] ∧ win0_12.index t = ![t.val / 8, 0, 0]) :=
  (by decide +kernel : ∀ t : Fin grid0.N, _)

/-- The reals of the point's blocks, where the saved rows were taken less `M`. -/
def tileOf (H : Fin 8 → Head) (M : Fin 8 → Fin 2048 → ℝ) (t : Fin cfg0.N) : Tile where
  q a := (H (head t)).q (row t a)
  k := (H (head t)).k
  v := (H (head t)).v
  cq a := (H (head t)).c (row t a)
  ck := (H (head t)).c
  o a := (H (head t)).out (row t a)
  lse a := M (head t) (row t a) + Real.log ((H (head t)).den (M (head t) (row t a)) (row t a)) + (H (head t)).c (row t a)
  ct a := (H (head t)).ct (row t a)

theorem tile_prob (H M) (t : Fin cfg0.N) (a : Fin 256) (j : Fin 2048) :
    (tileOf H M t).prob (t.val % 8) a j = (H (head t)).prob (row t a) j := (H (head t)).prob_lse (M (head t) (row t a)) (row t a) j

theorem tile_grad (H M) (t : Fin cfg0.N) (a : Fin 256) (j : Fin 2048) :
    (tileOf H M t).grad (t.val % 8) a j = (H (head t)).grad (row t a) j := by
  rw [Tile.grad, tile_prob, Head.grad, ← (H (head t)).row_eq]; rfl

section Launch

variable {H : Fin 8 → Head} {M : Fin 8 → Fin 2048 → ℝ} (m : (ℓ : Loc nD τ sig) → Buf (Elt Ideal) ℓ) (c : Dev nD)

/-- The launch's arguments and the saved arrays hold the heads' reals. -/
structure Launched (H : Fin 8 → Head) (M : Fin 8 → Fin 2048 → ℝ) (m : (ℓ : Loc nD τ sig) → Buf (Elt Ideal) ℓ) (c : Dev nD) : Prop where
  args : Holds H (m ((c : Thread nD τ).loc main_arg0)) (m ((c : Thread nD τ).loc main_arg1)) (m ((c : Thread nD τ).loc main_arg2))
    (m ((c : Thread nD τ).loc main_arg3)) (m ((c : Thread nD τ).loc main_arg4))
  o : ∀ e r d, outs (expos (scores (m ((c : Thread nD τ).loc main_arg0)) (m ((c : Thread nD τ).loc main_arg1)) (m ((c : Thread nD τ).loc main_arg3)))) (m ((c : Thread nD τ).loc main_arg2)) (ix3 e r d) = ((H e).out r d : EReal)
  lse : ∀ e r, lses (scores (m ((c : Thread nD τ).loc main_arg0)) (m ((c : Thread nD τ).loc main_arg1)) (m ((c : Thread nD τ).loc main_arg3))) (m ((c : Thread nD τ).loc main_arg3)) (ix3 e r 0) = ((M e r + Real.log ((H e).den (M e r) r) + (H e).c r : ℝ) : EReal)

variable {m c} (h : Launched H M m c)

/-- Each input's block at a point, its array named. -/
theorem read_0 (t : Fin cfg0.N) (A : Buf (Elt Ideal) ((c : Thread nD τ).loc main_arg0)) (a : Fin 256) (d : Fin 64) :
    (win0_0.blk t).view.read (Elt Ideal) A (ix3 0 a d) = (A : FVec Ideal S8x2048x64 .f32) (ix3 (head t) (row t a) d) := by
  have e : (win0_0.blk t).view.emb (ix3 0 a d) = ix3 (head t) (row t a) d := by blk_ext [idx t, head, row]
  blk_simp; rw [e]

theorem read_1 (t : Fin cfg0.N) (A : Buf (Elt Ideal) ((c : Thread nD τ).loc main_arg1)) (j : Fin 2048) (d : Fin 64) :
    (win0_1.blk t).view.read (Elt Ideal) A (ix3 0 j d) = (A : FVec Ideal S8x2048x64 .f32) (ix3 (head t) j d) := by
  have e : (win0_1.blk t).view.emb (ix3 0 j d) = ix3 (head t) j d := by blk_ext [idx t, head, row]
  blk_simp; rw [e]

theorem read_2 (t : Fin cfg0.N) (A : Buf (Elt Ideal) ((c : Thread nD τ).loc main_arg2)) (j : Fin 2048) (d : Fin 64) :
    (win0_2.blk t).view.read (Elt Ideal) A (ix3 0 j d) = (A : FVec Ideal S8x2048x64 .f32) (ix3 (head t) j d) := by
  have e : (win0_2.blk t).view.emb (ix3 0 j d) = ix3 (head t) j d := by blk_ext [idx t, head, row]
  blk_simp; rw [e]

theorem read_3 (t : Fin cfg0.N) (A : Buf (Elt Ideal) ((c : Thread nD τ).loc main_v0)) (a : Fin 256) :
    (win0_3.blk t).view.read (Elt Ideal) A (ix3 0 a 0) = (A : FVec Ideal S8x2048x1 .f32) (ix3 (head t) (row t a) 0) := by
  have e : (win0_3.blk t).view.emb (ix3 0 a 0) = ix3 (head t) (row t a) 0 := by blk_ext [idx t, head, row]
  blk_simp; rw [e]

theorem read_4 (t : Fin cfg0.N) (A : Buf (Elt Ideal) ((c : Thread nD τ).loc main_v1)) (j : Fin 2048) :
    (win0_4.blk t).view.read (Elt Ideal) A (ix3 0 0 j) = (A : FVec Ideal S8x1x2048 .f32) (ix3 (head t) 0 j) := by
  have e : (win0_4.blk t).view.emb (ix3 0 0 j) = ix3 (head t) 0 j := by blk_ext [idx t, head, row]
  blk_simp; rw [e]

theorem read_5 (t : Fin cfg0.N) (A : Buf (Elt Ideal) ((c : Thread nD τ).loc main_v28)) (a : Fin 256) (d : Fin 64) :
    (win0_5.blk t).view.read (Elt Ideal) A (ix3 0 a d) = (A : FVec Ideal S8x2048x64 .f32) (ix3 (head t) (row t a) d) := by
  have e : (win0_5.blk t).view.emb (ix3 0 a d) = ix3 (head t) (row t a) d := by blk_ext [idx t, head, row]
  blk_simp; rw [e]

theorem read_6 (t : Fin cfg0.N) (A : Buf (Elt Ideal) ((c : Thread nD τ).loc main_v31)) (a : Fin 256) :
    (win0_6.blk t).view.read (Elt Ideal) A (ix3 0 a 0) = (A : FVec Ideal S8x2048x1 .f32) (ix3 (head t) (row t a) 0) := by
  have e : (win0_6.blk t).view.emb (ix3 0 a 0) = ix3 (head t) (row t a) 0 := by blk_ext [idx t, head, row]
  blk_simp; rw [e]

theorem read_7 (t : Fin cfg0.N) (A : Buf (Elt Ideal) ((c : Thread nD τ).loc main_arg4)) (a : Fin 256) (d : Fin 64) :
    (win0_7.blk t).view.read (Elt Ideal) A (ix3 0 a d) = (A : FVec Ideal S8x2048x64 .f32) (ix3 (head t) (row t a) d) := by
  have e : (win0_7.blk t).view.emb (ix3 0 a d) = ix3 (head t) (row t a) d := by blk_ext [idx t, head, row]
  blk_simp; rw [e]

theorem rowC_apply (C : FVec Ideal S8x2048 .f32) (e : Fin 8) (j : Fin 2048) : rowC C (ix3 e 0 j) = C (ix2 e j) := by
  pointwise [rowC]

include h

set_option maxHeartbeats 1600000 in
theorem tile_of (t : Fin cfg0.N) : (tileOf H M t).Of (ins m c t) where
  q a d := by
    show (win0_0.blk t).view.read (Elt Ideal) (V m c main_arg0) (ix3 0 a d) = _
    rw [read_0, V_main_arg0]; exact h.args.q _ _ _
  k j d := by
    show (win0_1.blk t).view.read (Elt Ideal) (V m c main_arg1) (ix3 0 j d) = _
    rw [read_1, V_main_arg1]; exact h.args.k _ _ _
  v j d := by
    show (win0_2.blk t).view.read (Elt Ideal) (V m c main_arg2) (ix3 0 j d) = _
    rw [read_2, V_main_arg2]; exact h.args.v _ _ _
  cq a := by
    show (win0_3.blk t).view.read (Elt Ideal) (V m c main_v0) (ix3 0 a 0) = _
    rw [read_3, V_v0, colC, col_apply]; exact h.args.c _ _
  ck j := by
    show (win0_4.blk t).view.read (Elt Ideal) (V m c main_v1) (ix3 0 0 j) = _
    rw [read_4, V_v1, rowC_apply]; exact h.args.c _ _
  o a d := by
    show (win0_5.blk t).view.read (Elt Ideal) (V m c main_v28) (ix3 0 a d) = _
    rw [read_5, V_v28]; exact h.o _ _ _
  lse a := by
    show (win0_6.blk t).view.read (Elt Ideal) (V m c main_v31) (ix3 0 a 0) = _
    rw [read_6, V_v31]; exact h.lse _ _
  ct a d := by
    show (win0_7.blk t).view.read (Elt Ideal) (V m c main_arg4) (ix3 0 a d) = _
    rw [read_7, V_main_arg4]; exact h.args.ct _ _ _

omit h in
theorem tile_le (t : Fin cfg0.N) : 256 * (t.val % 8) + 256 ≤ 2048 := by omega

/-- The queries' gradient. -/
theorem final_dq (G : FVec Ideal S8x2048x64 .f32) (hG : ∀ e r d, G (ix3 e r d) = ((H e).dq r d : EReal)) :
    (dats m 0 c).arrAt 8 cfg0.N = G := by
  refine (dats m 0 c).arrAt_eq_of_covers 8 _ (by decide +kernel) fun t hf y => ?_
  blk_simp
  obtain ⟨a, d, rfl⟩ : ∃ (a : Fin 256) (d : Fin 64), y = ix3 0 a d := exists_ix3 y
  have e : (win0_8.blk t).view.emb (ix3 0 a d) = ix3 (head t) (row t a) d := by blk_ext [idx t, head, row]
  rw [e, hG, after_8]
  refine (tile_dq c _ _ (tile t) (tile_le t) (refs t) (tile_of h t) (prev m c t) _ a d).trans ?_
  simp only [tile_grad]; rfl

/-- The queries' share of the decay's gradient. -/
theorem final_dcq (G : FVec Ideal S8x2048x1 .f32) (hG : ∀ e r, G (ix3 e r 0) = ((∑ j, (H e).grad r j : ℝ) : EReal)) :
    (dats m 0 c).arrAt 11 cfg0.N = G := by
  refine (dats m 0 c).arrAt_eq_of_covers 11 _ (by decide +kernel) fun t hf y => ?_
  blk_simp
  obtain ⟨a, d, rfl⟩ : ∃ (a : Fin 256) (d : Fin 1), y = ix3 0 a d := exists_ix3 y
  obtain rfl : d = 0 := Subsingleton.elim _ _
  have e : (win0_11.blk t).view.emb (ix3 0 a 0) = ix3 (head t) (row t a) 0 := by blk_ext [idx t, head, row]
  rw [e, hG, after_11]
  refine (tile_dcq c _ _ (tile t) (tile_le t) (refs t) (tile_of h t) (prev m c t) _ a).trans ?_
  simp only [tile_grad]

omit h in
/-- A sum over the rows of a head, a tile at a time. -/
theorem sum_rows (n : ℕ) (hn : n < 64) (h7 : n % 8 = 7) (f : Fin 8 → Fin 2048 → ℝ) :
    ∑ s ∈ Finset.range (n % 8 + 1), (fun n => if hn : n < 64 then ∑ a, f (head ⟨n, hn⟩) (row ⟨n, hn⟩ a) else 0) (8 * (n / 8) + s)
      = ∑ r, f ⟨n / 8, by omega⟩ r := by
  rw [h7, Finset.sum_range]
  have e : ∀ s : Fin 8, (fun n => if hn : n < 64 then ∑ a, f (head ⟨n, hn⟩) (row ⟨n, hn⟩ a) else 0) (8 * (n / 8) + s.val)
      = ∑ a : Fin 256, f ⟨n / 8, by omega⟩ ⟨s.val * 256 + a.val, by omega⟩ := fun s => by
    have hs : 8 * (n / 8) + s.val < 64 := by omega
    simp only [dif_pos hs]
    refine Finset.sum_congr rfl fun a _ => ?_
    rw [show head ⟨8 * (n / 8) + s.val, hs⟩ = ⟨n / 8, by omega⟩ from Fin.ext (by show (8 * (n / 8) + s.val) / 8 = n / 8; omega),
      show row ⟨8 * (n / 8) + s.val, hs⟩ a = ⟨s.val * 256 + a.val, by omega⟩ from
        Fin.ext (by show 256 * ((8 * (n / 8) + s.val) % 8) + a.val = s.val * 256 + a.val; omega)]
  rw [Finset.sum_congr rfl fun s _ => e s]
  exact Fin.sum_mul_add_congr (S := 8) (n := 256) fun s a hl => rfl

omit h in
/-- A kept block's entry at a head's last tile, from what every tile adds to it. -/
theorem kept_sum (X : (n : ℕ) → n < cfg0.N → EReal) (f : Fin 8 → Fin 2048 → ℝ)
    (hX : ∀ t : Fin cfg0.N, X t.val t.isLt = (if t.val % 8 = 0 then 0 else if h : t.val = 0 then 0 else X (t.val - 1) (Nat.lt_of_le_of_lt (Nat.sub_le _ _) t.isLt))
      + ((∑ a, f (head t) (row t a) : ℝ) : EReal)) (t : Fin cfg0.N) (h7 : t.val % 8 = 7) :
    X t.val t.isLt = ((∑ r, f (head t) r : ℝ) : EReal) := by
  have hlt : t.val < 64 := t.isLt
  have key := acc_eq (fun n => if hn : n < 64 then X n hn else 0) (fun n => if hn : n < 64 then ∑ a, f (head ⟨n, hn⟩) (row ⟨n, hn⟩ a) else 0) 64
    (fun n hn => by
      have := hX ⟨n, hn⟩
      simp only [dif_pos hn]
      by_cases h0 : n % 8 = 0
      · rw [if_pos h0] at this ⊢; exact this
      · have h1 : ¬n = 0 := fun e => h0 (by rw [e])
        rw [if_neg h0, dif_neg h1] at this
        rw [if_neg h0, dif_pos (show n - 1 < 64 by omega)]; exact this) t.val hlt
  simp only [dif_pos hlt] at key
  rw [key]
  exact congrArg _ (sum_rows t.val hlt h7 f)

theorem kept_dk (t : Fin cfg0.N) (h7 : t.val % 8 = 7) (j : Fin 2048) (d : Fin 64) :
    (keptAt m c t.val t.isLt).dk (ix3 0 j d) = ((H (head t)).dk j d : EReal) := by
  refine kept_sum (fun n hn => (keptAt m c n hn).dk (ix3 0 j d)) (fun e r => (H e).grad r j * ((H e).q r d * (1 / 8))) (fun t => ?_) t h7
  rw [keptAt_eq]
  refine (tile_dk c _ _ (tile t) (tile_le t) (refs t) (tile_of h t) (prev m c t) j d).trans ?_
  simp only [tile_grad]
  congr 1
  split_ifs with h0 h1
  · rfl
  · exact absurd (by rw [h1]) h0
  · rw [prev, dif_neg h1]

theorem kept_dv (t : Fin cfg0.N) (h7 : t.val % 8 = 7) (j : Fin 2048) (d : Fin 64) :
    (keptAt m c t.val t.isLt).dv (ix3 0 j d) = ((H (head t)).dv j d : EReal) := by
  refine kept_sum (fun n hn => (keptAt m c n hn).dv (ix3 0 j d)) (fun e r => (H e).prob r j * (H e).ct r d) (fun t => ?_) t h7
  rw [keptAt_eq]
  refine (tile_dv c _ _ (tile t) (tile_le t) (refs t) (tile_of h t) (prev m c t) j d).trans ?_
  simp only [tile_prob]
  congr 1
  split_ifs with h0 h1
  · rfl
  · exact absurd (by rw [h1]) h0
  · rw [prev, dif_neg h1]

theorem kept_dck (t : Fin cfg0.N) (h7 : t.val % 8 = 7) (j : Fin 2048) :
    (keptAt m c t.val t.isLt).dck (ix3 0 0 j) = ((-∑ r, (H (head t)).grad r j : ℝ) : EReal) := by
  rw [← Finset.sum_neg_distrib]
  refine kept_sum (fun n hn => (keptAt m c n hn).dck (ix3 0 0 j)) (fun e r => -(H e).grad r j) (fun t => ?_) t h7
  rw [keptAt_eq]
  refine (tile_dck c _ _ (tile t) (tile_le t) (refs t) (tile_of h t) (prev m c t) j).trans ?_
  simp only [tile_grad, Finset.sum_neg_distrib]
  congr 1
  split_ifs with h0 h1
  · rfl
  · exact absurd (by rw [h1]) h0
  · rw [prev, dif_neg h1]

/-- The keys' gradient, -/
theorem final_dk (G : FVec Ideal S8x2048x64 .f32) (hG : ∀ e r d, G (ix3 e r d) = ((H e).dk r d : EReal)) :
    (dats m 0 c).arrAt 9 cfg0.N = G := by
  refine (dats m 0 c).arrAt_eq_of_covers 9 _ (by decide +kernel) fun t hf y => ?_
  blk_simp
  obtain ⟨j, d, rfl⟩ : ∃ (j : Fin 2048) (d : Fin 64), y = ix3 0 j d := exists_ix3 y
  have e : (win0_9.blk t).view.emb (ix3 0 j d) = ix3 (head t) j d := by blk_ext [idx t, head, row]
  rw [e, hG, after_9]
  exact kept_dk h t ((flush0_9 t).mp hf) j d

/-- the values', -/
theorem final_dv (G : FVec Ideal S8x2048x64 .f32) (hG : ∀ e r d, G (ix3 e r d) = ((H e).dv r d : EReal)) :
    (dats m 0 c).arrAt 10 cfg0.N = G := by
  refine (dats m 0 c).arrAt_eq_of_covers 10 _ (by decide +kernel) fun t hf y => ?_
  blk_simp
  obtain ⟨j, d, rfl⟩ : ∃ (j : Fin 2048) (d : Fin 64), y = ix3 0 j d := exists_ix3 y
  have e : (win0_10.blk t).view.emb (ix3 0 j d) = ix3 (head t) j d := by blk_ext [idx t, head, row]
  rw [e, hG, after_10]
  exact kept_dv h t ((flush0_10 t).mp hf) j d

/-- and the keys' share of the decay's. -/
theorem final_dck (G : FVec Ideal S8x1x2048 .f32) (hG : ∀ e j, G (ix3 e 0 j) = ((-∑ r, (H e).grad r j : ℝ) : EReal)) :
    (dats m 0 c).arrAt 12 cfg0.N = G := by
  refine (dats m 0 c).arrAt_eq_of_covers 12 _ (by decide +kernel) fun t hf y => ?_
  blk_simp
  obtain ⟨u, j, rfl⟩ : ∃ (u : Fin 1) (j : Fin 2048), y = ix3 0 u j := exists_ix3 y
  obtain rfl : u = 0 := Subsingleton.elim _ _
  have e : (win0_12.blk t).view.emb (ix3 0 0 j) = ix3 (head t) 0 j := by blk_ext [idx t, head, row]
  rw [e, hG, after_12]
  exact kept_dck h t ((flush0_12 t).mp hf) j

end Launch

end Cert.AttnKernelIdeal.Hand

end
-- ==== Proof.Attn.Ref.lean ====
module

public import proofs.«01_k».proof.Proof.Gen.AttnReferenceIdeal.Run
public import proofs.«01_k».proof.Proof.Attn.Math

/-! # The reference, read at an index

The derivative's stages under names of their own, each a real array once the arguments are. -/

@[expose] public section

set_option maxRecDepth 16384

noncomputable section

namespace Cert.AttnReferenceIdeal.Hand

open Cert.AttnReferenceIdeal Cert.AttnReferenceIdeal.Gen Cert.AttnReferenceIdeal.Value Cert.Reals Cert.Attn
open Idealize.ShloMosaic Idealize.ShloMosaic.TcCoe Idealize.ShloMosaic.StableHlo

/-- The bit that says a key stands at or before the query. -/
def causal : IVec S8x2048x2048 1 :=
  broadcastInDim S8x2048x2048 ![1, 2] bcast_S2048x2048_S8x2048x2048_1_2 (cmpi .sge (broadcastInDim S2048x2048 ![0, 1] bcast_S2048x1_S2048x2048_0_1 (broadcastInDim S2048x1 ![0] bcast_S2048_S2048x1_0 (iotaInDim S2048 32 0)))
    (broadcastInDim S2048x2048 ![0, 1] bcast_S1x2048_S2048x2048_0_1 (broadcastInDim S1x2048 ![1] bcast_S2048_S1x2048_1 (iotaInDim S2048 32 0))))

/-- The masked logits. -/
def logits (Q K : FVec Ideal S8x2048x64 .f32) (C : FVec Ideal S8x2048 .f32) : FVec Ideal S8x2048x2048 .f32 :=
  select causal (subf (addf (mulf (Host.dotGeneral dot_S8x2048x64_S8x2048x64_S8x2048x2048_2_2_1_1_0_0 none Q K : FVec Ideal S8x2048x2048 .f32)
    (broadcastInDim S8x2048x2048 ![] bcast_S_S8x2048x2048 (constant S_ .f32 0x3E000000#32)))
    (broadcastInDim S8x2048x2048 ![0, 1, 2] bcast_S8x2048x1_S8x2048x2048_0_1_2 (broadcastInDim S8x2048x1 ![0, 1] bcast_S8x2048_S8x2048x1_0_1 C)))
    (broadcastInDim S8x2048x2048 ![0, 1, 2] bcast_S8x1x2048_S8x2048x2048_0_1_2 (broadcastInDim S8x1x2048 ![0, 2] bcast_S8x2048_S8x1x2048_0_2 C)))
    (broadcastInDim S8x2048x2048 ![] bcast_S_S8x2048x2048 (id (constant S_ .f32 0xFF800000#32)))

/-- Their row maximum, -/
def rowMax₀ (L : FVec Ideal S8x2048x2048 .f32) : FVec Ideal S8x2048 .f32 :=
  Host.reduce FloatOps.maximumf L (constant S_ .f32 0xFF800000#32) reducesTo_S8x2048x2048_S8x2048_d2 h_S_

/-- no less than −∞. -/
def rowMax (L : FVec Ideal S8x2048x2048 .f32) : FVec Ideal S8x2048 .f32 :=
  maximumf (broadcastInDim S8x2048 ![] bcast_S_S8x2048 (constant S_ .f32 0xFF800000#32)) (rowMax₀ L)

/-- The exponentials. -/
def expos (L : FVec Ideal S8x2048x2048 .f32) : FVec Ideal S8x2048x2048 .f32 :=
  Host.exp (subf L (broadcastInDim S8x2048x2048 ![0, 1, 2] bcast_S8x2048x1_S8x2048x2048_0_1_2 (broadcastInDim S8x2048x1 ![0, 1] bcast_S8x2048_S8x2048x1_0_1 (rowMax L))))

/-- Their row sums. -/
def dens (E : FVec Ideal S8x2048x2048 .f32) : FVec Ideal S8x2048x1 .f32 :=
  broadcastInDim S8x2048x1 ![0, 1] bcast_S8x2048_S8x2048x1_0_1 (Host.reduceAdd E (constant S_ .f32 0x00000000#32) reducesTo_S8x2048x2048_S8x2048_d2 h_S_)

/-- The probabilities' gradient. -/
def dprobs (V CT : FVec Ideal S8x2048x64 .f32) : FVec Ideal S8x2048x2048 .f32 :=
  Host.dotGeneral dot_S8x2048x64_S8x2048x64_S8x2048x2048_2_2_1_1_0_0 none CT V

/-- The reciprocal of the squared row sum. -/
def recips (D : FVec Ideal S8x2048x1 .f32) : FVec Ideal S8x2048x1 .f32 :=
  Host.divf (broadcastInDim S8x2048x1 ![] bcast_S_S8x2048x1 (constant S_ .f32 0x3F800000#32)) (mulf D D)

/-- The row term of the quotient rule. -/
def rows (E P : FVec Ideal S8x2048x2048 .f32) (D : FVec Ideal S8x2048x1 .f32) : FVec Ideal S8x2048 .f32 :=
  Host.reduceAdd (mulf (mulf P (broadcastInDim S8x2048x2048 ![0, 1, 2] bcast_S8x2048x1_S8x2048x2048_0_1_2 (recips D))) E)
    (constant S_ .f32 0x00000000#32) reducesTo_S8x2048x2048_S8x2048_d2 h_S_

/-- The same, negated; the sum over an axis of one entry changes nothing. -/
def negRows (R : FVec Ideal S8x2048 .f32) : FVec Ideal S8x2048 .f32 :=
  Host.reduceAdd (Host.negf (shapeCast S8x2048x1 R shapeCasts_S8x2048_S8x2048x1))
    (constant S_ .f32 0x00000000#32) reducesTo_S8x2048x1_S8x2048_d2 h_S_

/-- The logits' gradient. -/
def grads (E : FVec Ideal S8x2048x2048 .f32) (P : FVec Ideal S8x2048x2048 .f32) : FVec Ideal S8x2048x2048 .f32 :=
  select causal (mulf (addf (Host.divf P (broadcastInDim S8x2048x2048 ![0, 1, 2] bcast_S8x2048x1_S8x2048x2048_0_1_2 (dens E)))
    (broadcastInDim S8x2048x2048 ![0, 1] bcast_S8x2048_S8x2048x2048_0_1 (negRows (rows E P (dens E))))) E)
    (broadcastInDim S8x2048x2048 ![] bcast_S_S8x2048x2048 (constant S_ .f32 0x00000000#32))

/-- The gradient of the decay from the logits'. -/
def ddecay (G : FVec Ideal S8x2048x2048 .f32) : FVec Ideal S8x2048 .f32 :=
  addf (Host.reduceAdd (shapeCast S8x1x2048 (Host.reduceAdd (Host.negf G) (constant S_ .f32 0x00000000#32) reducesTo_S8x2048x2048_S8x2048_d1 h_S_) shapeCasts_S8x2048_S8x1x2048)
      (constant S_ .f32 0x00000000#32) reducesTo_S8x1x2048_S8x2048_d1 h_S_)
    (Host.reduceAdd (shapeCast S8x2048x1 (Host.reduceAdd G (constant S_ .f32 0x00000000#32) reducesTo_S8x2048x2048_S8x2048_d2 h_S_) shapeCasts_S8x2048_S8x2048x1)
      (constant S_ .f32 0x00000000#32) reducesTo_S8x2048x1_S8x2048_d2 h_S_)

section Results

variable (m : (ℓ : Loc nD τ sig) → Buf (Elt Ideal) ℓ) (c : Dev nD)

/-- The exponentials of the launch's arguments, -/
def expos_ : FVec Ideal S8x2048x2048 .f32 :=
  expos (logits (m ((c.tc : Thread nD τ).loc main_arg0)) (m ((c.tc : Thread nD τ).loc main_arg1)) (m ((c.tc : Thread nD τ).loc main_arg3)))

/-- and the logits' gradient. -/
def grads_ : FVec Ideal S8x2048x2048 .f32 :=
  grads (expos_ m c) (dprobs (m ((c.tc : Thread nD τ).loc main_arg2)) (m ((c.tc : Thread nD τ).loc main_arg4)))

theorem out0 : res_main_v73 m c = Host.dotGeneral (φ₁ := .f32) (φ₂ := .f32) dot_S8x2048x2048_S8x2048x64_S8x2048x64_2_1_1_2_0_0 none
    (mulf (grads_ m c) (broadcastInDim S8x2048x2048 ![] bcast_S_S8x2048x2048 (constant S_ .f32 0x3E000000#32))) (m ((c.tc : Thread nD τ).loc main_arg1) : FVec Ideal S8x2048x64 .f32) := by
  unfold res_main_v73 grads_ grads negRows rows recips expos_ expos rowMax rowMax₀ dens dprobs logits causal; rfl

theorem out1 : res_main_v72 m c = Host.dotGeneral (φ₁ := .f32) (φ₂ := .f32) dot_S8x2048x2048_S8x2048x64_S8x2048x64_1_1_2_2_0_0 none
    (mulf (grads_ m c) (broadcastInDim S8x2048x2048 ![] bcast_S_S8x2048x2048 (constant S_ .f32 0x3E000000#32))) (m ((c.tc : Thread nD τ).loc main_arg0) : FVec Ideal S8x2048x64 .f32) := by
  unfold res_main_v72 grads_ grads negRows rows recips expos_ expos rowMax rowMax₀ dens dprobs logits causal; rfl

theorem out2 : res_main_v47 m c = transpose S8x2048x64 [0, 2, 1] (Host.dotGeneral (φ₁ := .f32) (φ₂ := .f32) dot_S8x2048x64_S8x2048x2048_S8x64x2048_1_1_2_2_0_0 none
    (m ((c.tc : Thread nD τ).loc main_arg4) : FVec Ideal S8x2048x64 .f32)
    (Host.divf (expos_ m c) (broadcastInDim S8x2048x2048 ![0, 1, 2] bcast_S8x2048x1_S8x2048x2048_0_1_2 (dens (expos_ m c))))) transposes_S8x64x2048_S8x2048x64_0_2_1 := by
  unfold res_main_v47 expos_ expos rowMax rowMax₀ dens logits causal; rfl

theorem out3 : res_main_v69 m c = ddecay (grads_ m c) := by
  unfold res_main_v69 ddecay grads_ grads negRows rows recips expos_ expos rowMax rowMax₀ dens dprobs logits causal; rfl

end Results

end Cert.AttnReferenceIdeal.Hand

end
-- ==== Proof.Attn.RefReads.lean ====
module

public import proofs.«01_k».proof.Proof.Attn.Ref
public import proofs.«01_k».proof.Proof.Max
public import Idealize.ShloMosaic.Lib.WordCmp

/-! # The reference's stages, read at an index

Each stage at an index, and, where the arguments are real, as the reals of `Head`. -/

@[expose] public section

set_option maxRecDepth 16384

noncomputable section

namespace Cert.AttnReferenceIdeal.Hand

open Cert.AttnReferenceIdeal Cert.AttnReferenceIdeal.Gen Cert.AttnReferenceIdeal.Value Cert.Reals Cert.Attn
open Idealize.ShloMosaic Idealize.ShloMosaic.TcCoe Idealize.ShloMosaic.StableHlo

theorem causal_iff (e : Fin 8) (r j : Fin 2048) : causal (ix3 e r j) = 1#1 ↔ j.val ≤ r.val := by
  pointwise [causal]
  exact Idealize.ShloMosaic.WordCmp.cmpi_sge_ofNat_eq_one_iff (by omega) (by omega)

theorem logits_apply (Q K C) (e : Fin 8) (r j : Fin 2048) : logits Q K C (ix3 e r j) =
    if j.val ≤ r.val then (∑ x, Q (ix3 e r x) * K (ix3 e j x)) * Ideal.ofBits .f32 1040187392#32 + C (ix2 e r) - C (ix2 e j) else ⊥ := by
  pointwise [logits, id]
  rw [Scalar.select, ofBits_ninf]
  exact if_congr (causal_iff e r j) rfl rfl

/-- The row maximum is real where one logit is real and none is +∞. -/
theorem rowMax_real (L) (e : Fin 8) (r j₀ : Fin 2048) (h : ∀ j, L (ix3 e r j) ≠ ⊤) (h₀ : L (ix3 e r j₀) ≠ ⊥) :
    ∃ M : ℝ, rowMax L (ix2 e r) = (M : EReal) := by
  obtain ⟨M, hM⟩ := reduce_max_real L reducesTo_S8x2048x2048_S8x2048_d2 h_S_ e r j₀ h h₀
  refine ⟨M, ?_⟩
  have hb : broadcastInDim S8x2048 ![] bcast_S_S8x2048 (constant (F := Ideal) S_ .f32 0xFF800000#32) (ix2 e r) = ⊥ := by
    pointwise []; exact ofBits_ninf
  have hm : rowMax₀ L (ix2 e r) = (M : EReal) := hM
  rw [rowMax, maximumf_at, hb, hm, max_bot_left]

theorem expos_apply (L) (e : Fin 8) (r j : Fin 2048) : expos L (ix3 e r j) = Ideal.exp (L (ix3 e r j) - rowMax L (ix2 e r)) := by
  pointwise [expos]

theorem dens_apply (E) (e : Fin 8) (r : Fin 2048) : dens E (ix3 e r 0) = ∑ j, E (ix3 e r j) := by
  pointwise [dens]

theorem dprobs_apply (V CT) (e : Fin 8) (r j : Fin 2048) : dprobs V CT (ix3 e r j) = ∑ d, CT (ix3 e r d) * V (ix3 e j d) := by
  pointwise [dprobs]

theorem recips_apply (D) (e : Fin 8) (r : Fin 2048) : recips D (ix3 e r 0) = Ideal.div 1 (D (ix3 e r 0) * D (ix3 e r 0)) := by
  pointwise [recips]

theorem rows_apply (E P D) (e : Fin 8) (r : Fin 2048) :
    rows E P D (ix2 e r) = ∑ j, P (ix3 e r j) * recips D (ix3 e r 0) * E (ix3 e r j) := by
  pointwise [rows]

theorem negRows_apply (R) (e : Fin 8) (r : Fin 2048) : negRows R (ix2 e r) = -R (ix2 e r) := by
  pointwise [negRows]
  exact Fin.sum_univ_one _

theorem grads_apply (E P) (e : Fin 8) (r j : Fin 2048) : grads E P (ix3 e r j) =
    if j.val ≤ r.val then (Ideal.div (P (ix3 e r j)) (dens E (ix3 e r 0)) + negRows (rows E P (dens E)) (ix2 e r)) * E (ix3 e r j) else 0 := by
  pointwise [grads]
  rw [Scalar.select]
  exact if_congr (causal_iff e r j) rfl rfl

theorem ddecay_apply (G) (e : Fin 8) (r : Fin 2048) : ddecay G (ix2 e r) = (∑ x, -G (ix3 e x r)) + ∑ x, G (ix3 e r x) := by
  pointwise [ddecay]
  simp

section Real

variable {H : Fin 8 → Head} {Q K V CT : FVec Ideal S8x2048x64 .f32} {C : FVec Ideal S8x2048 .f32} (h : Holds H Q K V C CT)

include h

theorem logits_real (e : Fin 8) (r j : Fin 2048) :
    logits Q K C (ix3 e r j) = if j.val ≤ r.val then (((H e).logit r j + (H e).c r : ℝ) : EReal) else ⊥ := by
  rw [logits_apply]
  refine if_congr Iff.rfl ?_ rfl
  simp only [h.q, h.k, h.c, ofBits_scale, ← EReal.coe_mul, coe_sum, ← EReal.coe_add, ← EReal.coe_sub]
  rw [Head.logit, Finset.sum_mul, Finset.sum_congr rfl fun d _ => show (H e).q r d * (H e).k j d * (1 / 8) = (H e).q r d * (1 / 8) * (H e).k j d by ring]
  congr 1; ring

/-- The exponentials, each row's less some real. -/
theorem expos_real : ∃ M : Fin 8 → Fin 2048 → ℝ, ∀ e r j, expos (logits Q K C) (ix3 e r j) = ((H e).expo (M e r) r j : EReal) := by
  have key : ∀ e r, ∃ M : ℝ, rowMax (logits Q K C) (ix2 e r) = (M : EReal) := fun e r => by
    refine rowMax_real _ e r r (fun j => ?_) ?_
    · rw [logits_real h]; split_ifs
      · exact EReal.coe_ne_top _
      · exact bot_ne_top
    · rw [logits_real h, if_pos le_rfl]; exact EReal.coe_ne_bot _
  choose M hM using key
  refine ⟨fun e r => M e r - (H e).c r, fun e r j => ?_⟩
  rw [expos_apply, hM, logits_real h, Head.expo]
  split_ifs
  · rw [← EReal.coe_sub, Ideal.exp_coe]; congr 2; ring
  · rw [EReal.bot_sub, Ideal.exp_bot]; rfl

omit h in
theorem dens_real (E) (e : Fin 8) (r : Fin 2048) (M : ℝ) (hE : ∀ j, E (ix3 e r j) = ((H e).expo M r j : EReal)) :
    dens E (ix3 e r 0) = ((H e).den M r : EReal) := by
  rw [dens_apply, Finset.sum_congr rfl fun j _ => hE j, coe_sum]; rfl

theorem dprobs_real (e : Fin 8) (r j : Fin 2048) : dprobs V CT (ix3 e r j) = ((H e).dprob r j : EReal) := by
  rw [dprobs_apply]; simp only [h.v, h.ct, ← EReal.coe_mul, coe_sum]; rfl

theorem grads_real (e : Fin 8) (r j : Fin 2048) :
    grads (expos (logits Q K C)) (dprobs V CT) (ix3 e r j) = ((H e).grad r j : EReal) := by
  obtain ⟨M, hM⟩ := expos_real h
  have hd := ((H e).den_pos (M e r) r).ne'
  rw [grads_apply, negRows_apply, rows_apply, recips_apply, dens_real _ e r _ (hM e r)]
  simp only [dprobs_real h, hM]
  rw [div_real hd, ← EReal.coe_mul, ← EReal.coe_one, div_real (mul_ne_zero hd hd)]
  simp only [← EReal.coe_mul, coe_sum, ← EReal.coe_neg, ← EReal.coe_add]
  rw [(H e).grad_eq]
  split_ifs with hj
  · rfl
  · rw [Head.grad, (H e).prob_eq 0, Head.expo, if_neg hj, zero_div, zero_mul]; rfl

theorem probs_real (e : Fin 8) (r j : Fin 2048) :
    Ideal.div (expos (logits Q K C) (ix3 e r j)) (dens (expos (logits Q K C)) (ix3 e r 0)) = ((H e).prob r j : EReal) := by
  obtain ⟨M, hM⟩ := expos_real h
  rw [dens_real _ e r _ (hM e r), hM, div_real ((H e).den_pos (M e r) r).ne', ← (H e).prob_eq]

theorem ddecay_real (e : Fin 8) (r : Fin 2048) : ddecay (grads (expos (logits Q K C)) (dprobs V CT)) (ix2 e r) = ((H e).dc r : EReal) := by
  rw [ddecay_apply]
  simp only [grads_real h, ← EReal.coe_neg, coe_sum, ← EReal.coe_add]
  rw [Head.dc, Finset.sum_neg_distrib]; congr 1; ring

end Real

section Results

variable {H : Fin 8 → Head} (m : (ℓ : Loc nD τ sig) → Buf (Elt Ideal) ℓ) (c : Dev nD)
  (h : Holds H (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)))

include h

theorem ref_dq (e : Fin 8) (r : Fin 2048) (d : Fin 64) : res_main_v73 m c (ix3 e r d) = ((H e).dq r d : EReal) := by
  rw [out0]
  pointwise []
  simp only [grads_, expos_, grads_real h, ofBits_scale, h.k, ← EReal.coe_mul, coe_sum]
  rw [Head.dq, Finset.sum_mul]; congr 1
  exact Finset.sum_congr rfl fun j _ => by ring

theorem ref_dk (e : Fin 8) (j : Fin 2048) (d : Fin 64) : res_main_v72 m c (ix3 e j d) = ((H e).dk j d : EReal) := by
  rw [out1]
  pointwise []
  simp only [grads_, expos_, grads_real h, ofBits_scale, h.q, ← EReal.coe_mul, coe_sum]
  rw [Head.dk]; congr 1
  exact Finset.sum_congr rfl fun j _ => by ring

theorem ref_dv (e : Fin 8) (j : Fin 2048) (d : Fin 64) : res_main_v47 m c (ix3 e j d) = ((H e).dv j d : EReal) := by
  rw [out2]
  pointwise []
  simp only [expos_, probs_real h, h.ct, ← EReal.coe_mul, coe_sum]
  rw [Head.dv]; congr 1
  exact Finset.sum_congr rfl fun j _ => by ring

theorem ref_dc (e : Fin 8) (r : Fin 2048) : res_main_v69 m c (ix2 e r) = ((H e).dc r : EReal) := by
  rw [out3]; exact ddecay_real h e r

end Results

end Cert.AttnReferenceIdeal.Hand

end
-- ==== Proof.Attn.Claim.lean ====
/- The kernel and the reference leave the same gradients of the attention. -/
module

public import proofs.«01_k».proof.Defs
public import proofs.«01_k».proof.Proof.Gen.Pre_attn_finite
public import proofs.«01_k».proof.Proof.Attn.Value
public import proofs.«01_k».proof.Proof.Attn.RefReads

@[expose] public section

set_option maxRecDepth 16384

noncomputable section

open Idealize.ShloMosaic Idealize.ShloMosaic.TcCoe Idealize.SL.Sem
open Cert.Reals Cert.Attn

namespace Cert.AttnKernelIdeal.Hand

open Cert.AttnKernelIdeal Cert.AttnKernelIdeal.Gen

variable {H : Fin 8 → Head} {M : Fin 8 → Fin 2048 → ℝ} {m : (ℓ : Loc nD τ sig) → Buf (Elt Ideal) ℓ} {c : Dev nD}

/-- Two arrays with a unit axis, the axis dropped and added. -/
theorem added_apply (A : FVec Ideal S8x2048x1 .f32) (B : FVec Ideal S8x1x2048 .f32) (e : Fin 8) (r : Fin 2048) :
    addf (F := Ideal) (φ := .f32) (shapeCast S8x2048 A shapeCasts_S8x2048x1_S8x2048) (shapeCast S8x2048 B shapeCasts_S8x1x2048_S8x2048) (ix2 e r)
      = A (ix3 e r 0) + B (ix3 e 0 r) := by
  pointwise

/-- The host's last lines: the two halves of the decay's gradient, added. -/
theorem tail_dc (h : Launched H M m c) (G : FVec Ideal S8x2048 .f32) (hG : ∀ e r, G (ix2 e r) = ((H e).dc r : EReal)) :
    Pipeline.afterTail₀ cfgs (dats m) 0 (V0 m) [hostOps1] c main_v35 = G := by
  have hq := final_dcq h (fun i => ((∑ j, (H (i 0)).grad (i 1) j : ℝ) : EReal)) fun e r => rfl
  have hk := final_dck h (fun i => ((-∑ r, (H (i 0)).grad r (i 2) : ℝ) : EReal)) fun e r => rfl
  unfold Pipeline.afterTail₀
  simp only [List.flatten_cons, List.flatten_nil, List.append_nil, hostOps1]
  after_results
  have eq := (Pipeline.withArrays_arr spec0 launch0.win.arr_inj c (V0 m c) (fun w => (dats m 0 c).arrAt w (cfgs 0).N) 11).trans hq
  have ek := (Pipeline.withArrays_arr spec0 launch0.win.arr_inj c (V0 m c) (fun w => (dats m 0 c).arrAt w (cfgs 0).N) 12).trans hk
  erw [eq, ek]
  refine funext fun i => ?_
  obtain ⟨e, r, rfl⟩ := exists_ix2 i
  refine (added_apply _ _ e r).trans ?_
  rw [hG]
  exact (EReal.coe_add _ _).symm.trans (congrArg _ (sub_eq_add_neg _ _).symm)

end Cert.AttnKernelIdeal.Hand

namespace Cert.Attn

/-- The precondition, read: every argument is an array of reals. -/
theorem reals_of_pre (A0 A1 A2 : FVec Ideal Cert.AttnKernelIdeal.S8x2048x64 .f32) (A3 : FVec Ideal Cert.AttnKernelIdeal.S8x2048 .f32)
    (A4 : FVec Ideal Cert.AttnKernelIdeal.S8x2048x64 .f32) (h : ∀ i, Cert.Pre_attn_finite.fn A0 A1 A2 A3 A4 i = 1#1) :
    ∃ H : Fin 8 → Head, Holds H A0 A1 A2 A3 A4 := by
  have h := h (fun a => a.elim0)
  dsimp only [Cert.Pre_attn_finite.fn, Cert.Pre_attn_finite.fn_part1, andi] at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have : Subsingleton Cert.Pre_attn_finite.S_.Idx := ⟨fun a b => funext fun i => i.elim0⟩
  obtain ⟨q, hq⟩ := exists_of_finite A0 _ (fun i => ofBits_inf) _ _ _ _ h0
  obtain ⟨k, hk⟩ := exists_of_finite A1 _ (fun i => ofBits_inf) _ _ _ _ h1
  obtain ⟨v, hv⟩ := exists_of_finite A2 _ (fun i => ofBits_inf) _ _ _ _ h2
  obtain ⟨d, hd⟩ := exists_of_finite A3 _ (fun i => ofBits_inf) _ _ _ _ h3
  obtain ⟨ct, hct⟩ := exists_of_finite A4 _ (fun i => ofBits_inf) _ _ _ _ h4
  exact ⟨fun e => ⟨fun r s => q (ix3 e r s), fun r s => k (ix3 e r s), fun r s => v (ix3 e r s), fun r => d (ix2 e r), fun r s => ct (ix3 e r s)⟩,
    fun _ _ _ => hq _, fun _ _ _ => hk _, fun _ _ _ => hv _, fun _ _ => hd _, fun _ _ _ => hct _⟩

/-- The reference runs and keeps its arguments; it has no semaphore. -/
theorem ref_frame : Cert.quiescent_AttnReferenceIdeal := fun m ρ _ =>
  (θ_run _ _ _).mono (fun _ h => ⟨fun c => (h c).2.2.2.2, sem_eq_zero_of_no_sems rfl _⟩) (Cert.AttnReferenceIdeal.Value.run m ρ)

/-- The mask's constant is named −∞. -/
theorem preserves : Cert.preserves_AttnKernel_AttnKernelIdeal :=
  IdealRules.named_const.statement Cert.AttnKernelIdeal.κ "mask" .f32 0xF149F2CA#32 ⊥ rfl

open Cert.AttnKernelIdeal Cert.AttnKernelIdeal.Gen Cert.AttnKernelIdeal.Hand in
/-- The value claim. -/
theorem algebraic : Cert.algebraic_AttnKernelIdeal_AttnReferenceIdeal_pre_attn_finite := by
  intro m g m' g' hpre hargs
  have hfin : ∀ c, ∃ H : Fin 8 → Head, _ := fun c => reals_of_pre _ _ _ _ _ fun i => congrFun (hpre c) i
  refine ⟨fun c => (dats m 0 c).arrAt 8 cfg0.N, fun c => (dats m 0 c).arrAt 9 cfg0.N, fun c => (dats m 0 c).arrAt 10 cfg0.N,
    fun c => Pipeline.afterTail₀ cfgs (dats m) 0 (V0 m) [hostOps1] c main_v35, ?_, ?_⟩
  · refine (θ_run _ _ _).mono (fun r hr c => ?_) (θ_run_and ((θ_run _ _ _).mono (fun _ h => h.1) (run_main_quiescent m g)) (frame (F := Ideal) m g))
    exact ⟨(hr.1 c).1 8, (hr.1 c).1 9, (hr.1 c).1 10,
      (hr.1 c).2 main_v35 (Pipeline.mem_restRefs_of main_v35 (by decide) (by decide)), hr.2.1 c⟩
  · refine (θ_run _ _ _).mono (fun r h c => ?_) (Cert.AttnReferenceIdeal.Value.run m' g')
    obtain ⟨h0, h1, h2, h3, hkept⟩ := h c
    obtain ⟨H, hH⟩ := hfin c
    obtain ⟨a0, a1, a2, a3, a4⟩ := hargs c
    obtain ⟨M, ho, hl⟩ := saved_real hH
    have hL : Launched H M m c := ⟨hH, ho, hl⟩
    have hR := hH
    rw [← a0, ← a1, ← a2, ← a3, ← a4] at hR
    exact ⟨h0.trans (final_dq hL _ fun e r d => Cert.AttnReferenceIdeal.Hand.ref_dq m' c hR e r d).symm,
      h1.trans (final_dk hL _ fun e r d => Cert.AttnReferenceIdeal.Hand.ref_dk m' c hR e r d).symm,
      h2.trans (final_dv hL _ fun e r d => Cert.AttnReferenceIdeal.Hand.ref_dv m' c hR e r d).symm,
      h3.trans (tail_dc hL _ fun e r => Cert.AttnReferenceIdeal.Hand.ref_dc m' c hR e r).symm, hkept⟩

end Cert.Attn

end
-- ==== Proof.Attn.Bits.lean ====
module

public import proofs.«01_k».proof.Defs
public import proofs.«01_k».proof.Proof.Gen.AttnKernel.Frame
public import proofs.«01_k».proof.Proof.Attn.Frame

/-! # The frame of `AttnKernel`

`AttnKernel` and `AttnKernelIdeal` differ in one constant only, the mask, which the second reads from a table of names.
Read at its own bits the table's constant is the printed one, so at `Bits` the two programs are the same and the frame
of the second is the frame of the first. -/

@[expose] public section

set_option maxRecDepth 16384

noncomputable section

open Idealize.ShloMosaic

namespace Cert.AttnKernel.Hand

/-- A named constant read at its printed bits. -/
instance named_bits : Named Bits := ⟨fun _ _ {φ} bits => Scalar.ofBits φ bits⟩
set_option maxHeartbeats 4000000
/-- The body is the same, -/
theorem rows : @Cert.AttnKernel.defs₀ Bits _ _ = @Cert.AttnKernelIdeal.defs₀ Bits _ _ _ := by
  unfold Cert.AttnKernel.defs₀ Cert.AttnKernelIdeal.defs₀
  refine congrArg Defs.onTc (funext fun l => funext fun a => ?_)
  match l, a with
  | 0, (t, s) => rfl

/-- and so is the table of bodies. -/
theorem table : @Cert.AttnKernel.defs Bits _ _ = @Cert.AttnKernelIdeal.defs Bits _ _ _ :=
  congrArg (Pipeline.defs (Cert.AttnKernel.pcfgs (F := Bits))) rows

theorem bits_frame : Cert.quiescent_AttnKernel := fun m ρ _ => by
  have h := Cert.AttnKernelIdeal.Hand.frame (F := Bits) m ρ
  rw [← table] at h
  exact h

end Cert.AttnKernel.Hand

end
-- ==== Proof.Tail.Math.lean ====
/- The end of the layer for one token, over the reals: the merge of the two mixers, the output projection, the final norm,
   the squared error, and the gradient of each. Everything but the sums over tokens stays inside a row. -/
module

public import proofs.«01_k».proof.Proof.Xgrad.Pure

@[expose] public section

set_option maxRecDepth 16384

noncomputable section

open Idealize.ShloMosaic Idealize.ShloMosaic.TcCoe Idealize.SL.Sem
open Cert.Reals Cert.Xgrad

namespace Cert.Tail

/-- The weights that every token shares. -/
structure Weights where
  wa : Fin 512 → Fin 1024 → ℝ
  wb : Fin 512 → Fin 1024 → ℝ
  wo : Fin 1024 → Fin 1024 → ℝ
  g : Fin 1024 → ℝ

/-- What belongs to one token: the stream, the target, the two mixers' outputs, the output gate and the two merge gates. -/
structure Row where
  x : Fin 1024 → ℝ
  t : Fin 1024 → ℝ
  ya : Fin 512 → ℝ
  o : Fin 512 → ℝ
  gate : Fin 512 → ℝ
  ga : Fin 1024 → ℝ
  gb : Fin 1024 → ℝ

/-- The logistic function. -/
def sg (z : ℝ) : ℝ := 1 / (1 + Real.exp (-z))

theorem div_one_exp (z : ℝ) : Ideal.div 1 (1 + Ideal.exp (-(z : EReal))) = (sg z : EReal) := by
  rw [← EReal.coe_neg, Ideal.exp_coe, show (1 : EReal) = ((1 : ℝ) : EReal) from rfl, ← EReal.coe_add,
    div_real (by have := Real.exp_pos (-z); positivity)]; rfl

theorem div_one_exp_sub (z : ℝ) : Ideal.div 1 (1 + Ideal.exp (0 - (z : EReal))) = (sg z : EReal) := by
  rw [zero_sub, div_one_exp]

variable (W : Weights) (R : Row)

def bigA (l : Fin 1024) : ℝ := ∑ k, R.ya k * W.wa k l
def yb (k : Fin 512) : ℝ := R.o k * (R.gate k * sg (R.gate k))
def bigB (l : Fin 1024) : ℝ := ∑ k, yb R k * W.wb k l
def merged (l : Fin 1024) : ℝ := sg (R.ga l) * bigA W R l + sg (R.gb l) * bigB W R l
/-- The stream after the layer. -/
def x2 (l : Fin 1024) : ℝ := R.x l + ∑ k, merged W R k * W.wo k l
/-- The final norm's output against the target. -/
def err (l : Fin 1024) : ℝ := x2 W R l * rs (x2 W R) * W.g l - R.t l
/-- The gradient of the final norm's output. -/
def dout (l : Fin 1024) : ℝ := err W R l * (1 / 1024)
/-- The gradient of the stream. -/
def dx (l : Fin 1024) : ℝ := rowGrad (dout W R) (x2 W R) W.g l
def dm (l : Fin 1024) : ℝ := ∑ k, dx W R k * W.wo l k
def dA (l : Fin 1024) : ℝ := dm W R l * sg (R.ga l)
def dB (l : Fin 1024) : ℝ := dm W R l * sg (R.gb l)
def dga (l : Fin 1024) : ℝ := dm W R l * bigA W R l * sg (R.ga l) * (1 - sg (R.ga l))
def dgb (l : Fin 1024) : ℝ := dm W R l * bigB W R l * sg (R.gb l) * (1 - sg (R.gb l))
def dya (k : Fin 512) : ℝ := ∑ l, dA W R l * W.wa k l
def dyb (k : Fin 512) : ℝ := ∑ l, dB W R l * W.wb k l
def dgate (k : Fin 512) : ℝ := dyb W R k * R.o k * (sg (R.gate k) * (1 + R.gate k * (1 - sg (R.gate k))))
def dov (k : Fin 512) : ℝ := dyb W R k * (R.gate k * sg (R.gate k))
/-- A token's share of the loss. -/
def rowLoss : ℝ := ∑ l, err W R l * err W R l

/-- The head and the lane of a column of the second mixer's output. -/
abbrev head (k : Fin 512) : Fin 8 := ⟨k / 64, by omega⟩
abbrev lane (k : Fin 512) : Fin 64 := ⟨k % 64, by omega⟩

/-- The f32 word of 1/1024. -/
theorem ofBits_inv_1024 : Ideal.ofBits .f32 0x3A800000#32 = ((1 / 1024 : ℝ) : EReal) := by
  simp [Ideal.ofBits, Ideal.ieee]; rw [← EReal.coe_mul]; norm_num

/-- The f32 word of 1/2048. -/
theorem ofBits_inv_2048 : Ideal.ofBits .f32 0x3A000000#32 = ((1 / 2048 : ℝ) : EReal) := by
  simp [Ideal.ofBits, Ideal.ieee]; rw [← EReal.coe_mul]; norm_num

/-- The f32 word of 1/2. -/
theorem ofBits_half : Ideal.ofBits .f32 0x3F000000#32 = ((1 / 2 : ℝ) : EReal) := by
  simp [Ideal.ofBits, Ideal.ieee]; rw [← EReal.coe_mul]; norm_num

/-- The f32 word of 2. -/
theorem ofBits_two : Ideal.ofBits .f32 0x40000000#32 = ((2 : ℝ) : EReal) := by
  simp [Ideal.ofBits, Ideal.ieee]; rw [← EReal.coe_mul]; norm_num

end Cert.Tail

end
-- ==== Proof.Tail.Tile.lean ====
/- What one grid point computes from its blocks, read at an index, as real formulas of the rows it holds. -/
module

public import proofs.«01_k».proof.Proof.Gen.TailKernelIdeal.Frame
public import proofs.«01_k».proof.Proof.Tail.Math

@[expose] public section

set_option maxRecDepth 16384

noncomputable section

open Idealize.ShloMosaic Idealize.ShloMosaic.TcCoe Idealize.SL.Sem
open Cert.Reals Cert.Xgrad Cert.TailKernelIdeal Cert.TailKernelIdeal.Gen

namespace Cert.Tail

/-! ## The parts of the blocks the body loads -/

/-- Head `h` of the second mixer's output. -/
abbrev part (O : FVec Ideal S8x256x64 .f32) (h : Nat) (inb : ∀ i : Fin 3, (![h, 0, 0] : Fin 3 → Nat) i + S1x256x64.size i ≤ S8x256x64.size i) :
    Vec Ideal S1x256x64 .f32 := View.ld O (Rect.unit (s := S8x256x64) ![h, 0, 0] S1x256x64.size inb)

theorem part_at (O h inb) (r : Fin 256) (k : Fin 64) (hh : h < 8) : part O h inb (ix3 0 r k) = O (ix3 ⟨h, hh⟩ r k) := by
  refine congrArg O ?_
  funext i; refine Fin.ext ?_; fin_cases i <;> simp [Rect.unit]

/-- The merge gate of the first mixer, -/
abbrev gateA (U : FVec Ideal S256x2048 .f32) : Vec Ideal S256x1024 .f32 :=
  View.ld U (Rect.unit (s := S256x2048) ![0, 0] S256x1024.size inb_S256x2048_S256x1024_0_0)

/-- and of the second. -/
abbrev gateB (U : FVec Ideal S256x2048 .f32) : Vec Ideal S256x1024 .f32 :=
  View.ld U (Rect.unit (s := S256x2048) ![0, 1024] S256x1024.size inb_S256x2048_S256x1024_0_1024)

theorem gateA_at (U) (r : Fin 256) (l : Fin 1024) : gateA U (ix2 r l) = U (ix2 r ⟨l, by omega⟩) := by
  refine congrArg U ?_
  funext i; refine Fin.ext ?_; fin_cases i <;> simp [Rect.unit]

theorem gateB_at (U) (r : Fin 256) (l : Fin 1024) : gateB U (ix2 r l) = U (ix2 r ⟨1024 + l, by omega⟩) := by
  refine congrArg U ?_
  funext i; refine Fin.ext ?_; fin_cases i <;> simp [Rect.unit]

/-- The eight heads' blocks side by side. -/
theorem pay16_at (O : FVec Ideal S8x256x64 .f32) (r : Fin 256) (k : Fin 512) :
    k0_pay16 (F := Ideal)
        (k0_pay9 (part O 0 inb_S8x256x64_S1x256x64_0_0_0)) (k0_pay10 (part O 1 inb_S8x256x64_S1x256x64_1_0_0))
        (k0_pay11 (part O 2 inb_S8x256x64_S1x256x64_2_0_0)) (k0_pay12 (part O 3 inb_S8x256x64_S1x256x64_3_0_0))
        (k0_pay13 (part O 4 inb_S8x256x64_S1x256x64_4_0_0)) (k0_pay14 (part O 5 inb_S8x256x64_S1x256x64_5_0_0))
        (k0_pay15 (part O 6 inb_S8x256x64_S1x256x64_6_0_0)) (part O 7 inb_S8x256x64_S1x256x64_7_0_0) (ix2 r k)
      = O (ix3 (head k) r (lane k)) := by
  pointwise [k0_pay16, k0_pay9, k0_pay10, k0_pay11, k0_pay12, k0_pay13, k0_pay14, k0_pay15]
  have e : ∀ (h : Fin 8) (l : Fin 64), h.val = k / 64 → l.val = k % 64 → O (ix3 h r l) = O (ix3 (head k) r (lane k)) := by
    intro h l h1 h2
    rw [show h = head k from Fin.ext h1, show l = lane k from Fin.ext h2]
  split_ifs <;> exact (part_at O _ _ r _ (by norm_num)).trans (e _ _ (by simp only; omega) (by simp only; omega))

/-! ## The body's values -/

section Values

variable (X T : Vec Ideal S256x1024 .f32) (YA GT : Vec Ideal S256x512 .f32) (O : FVec Ideal S8x256x64 .f32) (UG : FVec Ideal S256x2048 .f32)
  (WA WB : Vec Ideal S512x1024 .bf16) (WO : Vec Ideal S1024x1024 .bf16) (G : Vec Ideal S1x1024 .f32)

/-- The second mixer's gated output. -/
abbrev tYb : FVec Ideal S256x512 .f32 :=
  k0_pay17 (k0_pay8 GT)
    (k0_pay9 (part O 0 inb_S8x256x64_S1x256x64_0_0_0)) (k0_pay10 (part O 1 inb_S8x256x64_S1x256x64_1_0_0))
    (k0_pay11 (part O 2 inb_S8x256x64_S1x256x64_2_0_0)) (k0_pay12 (part O 3 inb_S8x256x64_S1x256x64_3_0_0))
    (k0_pay13 (part O 4 inb_S8x256x64_S1x256x64_4_0_0)) (k0_pay14 (part O 5 inb_S8x256x64_S1x256x64_5_0_0))
    (k0_pay15 (part O 6 inb_S8x256x64_S1x256x64_6_0_0)) (part O 7 inb_S8x256x64_S1x256x64_7_0_0)

/-- The second mixer's output, its heads side by side. -/
abbrev tO : FVec Ideal S256x512 .f32 :=
  k0_pay16
    (k0_pay9 (part O 0 inb_S8x256x64_S1x256x64_0_0_0)) (k0_pay10 (part O 1 inb_S8x256x64_S1x256x64_1_0_0))
    (k0_pay11 (part O 2 inb_S8x256x64_S1x256x64_2_0_0)) (k0_pay12 (part O 3 inb_S8x256x64_S1x256x64_3_0_0))
    (k0_pay13 (part O 4 inb_S8x256x64_S1x256x64_4_0_0)) (k0_pay14 (part O 5 inb_S8x256x64_S1x256x64_5_0_0))
    (k0_pay15 (part O 6 inb_S8x256x64_S1x256x64_6_0_0)) (part O 7 inb_S8x256x64_S1x256x64_7_0_0)

/-- Its projection. -/
abbrev tB : FVec Ideal S256x1024 .f32 :=
  k0_pay19 (k0_pay8 GT)
    (k0_pay9 (part O 0 inb_S8x256x64_S1x256x64_0_0_0)) (k0_pay10 (part O 1 inb_S8x256x64_S1x256x64_1_0_0))
    (k0_pay11 (part O 2 inb_S8x256x64_S1x256x64_2_0_0)) (k0_pay12 (part O 3 inb_S8x256x64_S1x256x64_3_0_0))
    (k0_pay13 (part O 4 inb_S8x256x64_S1x256x64_4_0_0)) (k0_pay14 (part O 5 inb_S8x256x64_S1x256x64_5_0_0))
    (k0_pay15 (part O 6 inb_S8x256x64_S1x256x64_6_0_0)) (part O 7 inb_S8x256x64_S1x256x64_7_0_0) WB

/-- The merge of the two mixers. -/
abbrev tM : FVec Ideal S256x1024 .f32 :=
  k0_pay22 YA (k0_pay8 GT)
    (k0_pay9 (part O 0 inb_S8x256x64_S1x256x64_0_0_0)) (k0_pay10 (part O 1 inb_S8x256x64_S1x256x64_1_0_0))
    (k0_pay11 (part O 2 inb_S8x256x64_S1x256x64_2_0_0)) (k0_pay12 (part O 3 inb_S8x256x64_S1x256x64_3_0_0))
    (k0_pay13 (part O 4 inb_S8x256x64_S1x256x64_4_0_0)) (k0_pay14 (part O 5 inb_S8x256x64_S1x256x64_5_0_0))
    (k0_pay15 (part O 6 inb_S8x256x64_S1x256x64_6_0_0)) (part O 7 inb_S8x256x64_S1x256x64_7_0_0) WA WB (gateA UG) (gateB UG)

/-- The stream after the layer. -/
abbrev tX2 : FVec Ideal S256x1024 .f32 :=
  k0_pay23 YA (k0_pay8 GT)
    (k0_pay9 (part O 0 inb_S8x256x64_S1x256x64_0_0_0)) (k0_pay10 (part O 1 inb_S8x256x64_S1x256x64_1_0_0))
    (k0_pay11 (part O 2 inb_S8x256x64_S1x256x64_2_0_0)) (k0_pay12 (part O 3 inb_S8x256x64_S1x256x64_3_0_0))
    (k0_pay13 (part O 4 inb_S8x256x64_S1x256x64_4_0_0)) (k0_pay14 (part O 5 inb_S8x256x64_S1x256x64_5_0_0))
    (k0_pay15 (part O 6 inb_S8x256x64_S1x256x64_6_0_0)) (part O 7 inb_S8x256x64_S1x256x64_7_0_0) WA WB (gateA UG) (gateB UG) X WO

variable (W : Weights) (R : Fin 256 → Row)

/-- The blocks hold these rows and weights. -/
structure Holds : Prop where
  x : ∀ r l, X (ix2 r l) = ((R r).x l : EReal)
  t : ∀ r l, T (ix2 r l) = ((R r).t l : EReal)
  ya : ∀ r k, YA (ix2 r k) = ((R r).ya k : EReal)
  gate : ∀ r k, GT (ix2 r k) = ((R r).gate k : EReal)
  o : ∀ r k, O (ix3 (head k) r (lane k)) = ((R r).o k : EReal)
  ga : ∀ r (l : Fin 1024), UG (ix2 r ⟨l, by omega⟩) = ((R r).ga l : EReal)
  gb : ∀ r (l : Fin 1024), UG (ix2 r ⟨1024 + l, by omega⟩) = ((R r).gb l : EReal)
  wa : ∀ k l, WA (ix2 k l) = (W.wa k l : EReal)
  wb : ∀ k l, WB (ix2 k l) = (W.wb k l : EReal)
  wo : ∀ k l, WO (ix2 k l) = (W.wo k l : EReal)
  g : ∀ l, G (ix2 0 l) = (W.g l : EReal)

variable {X T YA GT O UG WA WB WO G W R} (H : Holds X T YA GT O UG WA WB WO G W R)
include H

theorem sgGate_at (r k) : k0_pay7 (F := Ideal) GT (ix2 r k) = (sg ((R r).gate k) : EReal) := by
  pointwise [k0_pay7]; rw [H.gate, div_one_exp_sub]

theorem silu_at (r k) : k0_pay8 (F := Ideal) GT (ix2 r k) = (((R r).gate k * sg ((R r).gate k) : ℝ) : EReal) := by
  pointwise [k0_pay8]; rw [sgGate_at H, H.gate, ← EReal.coe_mul]

theorem sgA_at (r l) : k0_pay20 (F := Ideal) (gateA UG) (ix2 r l) = (sg ((R r).ga l) : EReal) := by
  pointwise [k0_pay20]; rw [gateA_at, H.ga, div_one_exp_sub]

theorem sgB_at (r l) : k0_pay21 (F := Ideal) (gateB UG) (ix2 r l) = (sg ((R r).gb l) : EReal) := by
  pointwise [k0_pay21]; rw [gateB_at, H.gb, div_one_exp_sub]

theorem tO_at (r k) : tO O (ix2 r k) = ((R r).o k : EReal) := (pay16_at O r k).trans (H.o r k)

theorem tYb_at (r k) : tYb GT O (ix2 r k) = (yb (R r) k : EReal) := by
  pointwise [k0_pay17]; simp only [silu_at H, tO_at H, ← EReal.coe_mul]; rfl

theorem tA_at (r l) : k0_pay18 (F := Ideal) YA WA (ix2 r l) = (bigA W (R r) l : EReal) := by
  pointwise [k0_pay18]; simp only [H.ya, H.wa, ← EReal.coe_mul, coe_sum]; rfl

theorem tB_at (r l) : tB GT O WB (ix2 r l) = (bigB W (R r) l : EReal) := by
  pointwise [k0_pay19]; simp only [tYb_at H, H.wb, ← EReal.coe_mul, coe_sum]; rfl

theorem tM_at (r l) : tM YA GT O UG WA WB (ix2 r l) = (merged W (R r) l : EReal) := by
  pointwise [k0_pay22]; simp only [sgA_at H, sgB_at H, tA_at H, tB_at H, ← EReal.coe_mul, ← EReal.coe_add]; rfl

theorem tX2_at (r l) : tX2 X YA GT O UG WA WB WO (ix2 r l) = (x2 W (R r) l : EReal) := by
  pointwise [k0_pay23]; simp only [tM_at H, H.wo, H.x, ← EReal.coe_mul, coe_sum, ← EReal.coe_add]; rfl

end Values

/-! ## From the stream on: the body's values over any block that holds it -/

section After

variable {Z T : Vec Ideal S256x1024 .f32} {G : Vec Ideal S1x1024 .f32} {W : Weights} {R : Fin 256 → Row}
  (hZ : ∀ r l, Z (ix2 r l) = (x2 W (R r) l : EReal)) (hT : ∀ r l, T (ix2 r l) = ((R r).t l : EReal)) (hG : ∀ l, G (ix2 0 l) = (W.g l : EReal))

include hZ in
theorem rs_at (r) : k0_pay24 (F := Ideal) Z (ix2 r 0) = (rs (x2 W (R r)) : EReal) := by
  pointwise [k0_pay24]; simp only [hZ, ms_row, rsqrt_ms]

include hZ in
theorem xn_at (r l) : k0_pay25 (F := Ideal) Z (ix2 r l) = ((x2 W (R r) l * rs (x2 W (R r)) : ℝ) : EReal) := by
  pointwise [k0_pay25]; rw [hZ, rs_at hZ, ← EReal.coe_mul]

include hZ hT hG

theorem err_at (r l) : k0_pay26 (F := Ideal) Z G T (ix2 r l) = (err W (R r) l : EReal) := by
  pointwise [k0_pay26]; rw [xn_at hZ, hG, hT, ← EReal.coe_mul, ← EReal.coe_sub]; rfl

theorem dout_at (r l) : k0_pay28 (F := Ideal) Z G T (ix2 r l) = (dout W (R r) l : EReal) := by
  pointwise [k0_pay28]; rw [err_at hZ hT hG, ofBits_inv_1024, ← EReal.coe_mul]; rfl

theorem loss_at (v) : k0_pay27 (F := Ideal) Z G T v (ix2 0 0) = v (ix2 0 0) + ((1 / 2048 * ∑ r, rowLoss W (R r) : ℝ) : EReal) := by
  pointwise [k0_pay27]; simp only [err_at hZ hT hG, ofBits_inv_2048, ← EReal.coe_mul, coe_sum]; rfl

theorem dg_at (v) (l) : k0_pay29 (F := Ideal) Z G T v (ix2 0 l)
    = v (ix2 0 l) + ((∑ r, dout W (R r) l * (x2 W (R r) l * rs (x2 W (R r))) : ℝ) : EReal) := by
  pointwise [k0_pay29]; simp only [dout_at hZ hT hG, xn_at hZ, ← EReal.coe_mul, coe_sum]

/-- The gradient of the stream. -/
theorem dx_at (r l) : k0_pay31 (F := Ideal) (k0_pay24 Z) (k0_pay25 Z) (k0_pay28 Z G T) (k0_pay30 G) (ix2 r l) = (dx W (R r) l : EReal) := by
  pointwise [k0_pay31, k0_pay30]
  simp only [dout_at hZ hT hG, xn_at hZ, rs_at hZ, hG, ← EReal.coe_mul, coe_sum, ofBits_1024, div_1024, ← EReal.coe_sub]
  rfl

end After

/-! ## The gradients below the stream's -/

section Below

variable {P Z : FVec Ideal S256x1024 .f32} {v71 : FVec Ideal S256x1 .f32} {v73 v91 v100 : FVec Ideal S256x1024 .f32} {W : Weights} {R : Fin 256 → Row}
  (hP : ∀ r l, k0_pay31 (F := Ideal) v71 v73 v91 v100 (ix2 r l) = (dx W (R r) l : EReal))
include hP

theorem dwo_at (M : FVec Ideal S256x1024 .f32) (hM : ∀ r l, M (ix2 r l) = (merged W (R r) l : EReal)) (v k l) :
    k0_pay32 (F := Ideal) M v71 v73 v91 v100 v (ix2 k l) = v (ix2 k l) + ((∑ r, merged W (R r) k * dx W (R r) l : ℝ) : EReal) := by
  pointwise [k0_pay32]; simp only [hM, hP, ← EReal.coe_mul, coe_sum]

variable {WO : Vec Ideal S1024x1024 .bf16} (hWO : ∀ k l, WO (ix2 k l) = (W.wo k l : EReal))
include hWO

theorem dm_at (r l) : k0_pay33 (F := Ideal) v71 v73 v91 v100 WO (ix2 r l) = (dm W (R r) l : EReal) := by
  pointwise [k0_pay33]; simp only [hP, hWO, ← EReal.coe_mul, coe_sum]; rfl

theorem dA_at (S : FVec Ideal S256x1024 .f32) (hS : ∀ r l, S (ix2 r l) = (sg ((R r).ga l) : EReal)) (r l) :
    k0_pay34 (F := Ideal) S v71 v73 v91 v100 WO (ix2 r l) = (dA W (R r) l : EReal) := by
  pointwise [k0_pay34]; rw [dm_at hP hWO, hS, ← EReal.coe_mul]; rfl

theorem dB_at (S : FVec Ideal S256x1024 .f32) (hS : ∀ r l, S (ix2 r l) = (sg ((R r).gb l) : EReal)) (r l) :
    k0_pay35 (F := Ideal) S v71 v73 v91 v100 WO (ix2 r l) = (dB W (R r) l : EReal) := by
  pointwise [k0_pay35]; rw [dm_at hP hWO, hS, ← EReal.coe_mul]; rfl

omit hP hWO in
theorem one_sub_coe (z : ℝ) : (1 : EReal) - (z : EReal) = ((1 - z : ℝ) : EReal) := by rw [EReal.coe_sub]; rfl

theorem dga_at (S A : FVec Ideal S256x1024 .f32) (hS : ∀ r l, S (ix2 r l) = (sg ((R r).ga l) : EReal))
    (hA : ∀ r l, A (ix2 r l) = (bigA W (R r) l : EReal)) (r l) :
    k0_pay36 (F := Ideal) A S v71 v73 v91 v100 WO (ix2 r l) = (dga W (R r) l : EReal) := by
  pointwise [k0_pay36]; rw [dm_at hP hWO, hS, hA, one_sub_coe, ← EReal.coe_mul, ← EReal.coe_mul, ← EReal.coe_mul]; rfl

theorem dgb_at (S B : FVec Ideal S256x1024 .f32) (hS : ∀ r l, S (ix2 r l) = (sg ((R r).gb l) : EReal))
    (hB : ∀ r l, B (ix2 r l) = (bigB W (R r) l : EReal)) (r l) :
    k0_pay37 (F := Ideal) B S v71 v73 v91 v100 WO (ix2 r l) = (dgb W (R r) l : EReal) := by
  pointwise [k0_pay37]; rw [dm_at hP hWO, hS, hB, one_sub_coe, ← EReal.coe_mul, ← EReal.coe_mul, ← EReal.coe_mul]; rfl

end Below

section Mixers

variable {DA DB : FVec Ideal S256x1024 .f32} {W : Weights} {R : Fin 256 → Row}

theorem dwa_at (hD : ∀ r l, DA (ix2 r l) = (dA W (R r) l : EReal)) (YA : Vec Ideal S256x512 .f32) (hY : ∀ r k, YA (ix2 r k) = ((R r).ya k : EReal)) (v k l) :
    k0_pay38 (F := Ideal) YA DA v (ix2 k l) = v (ix2 k l) + ((∑ r, (R r).ya k * dA W (R r) l : ℝ) : EReal) := by
  pointwise [k0_pay38]; simp only [hY, hD, ← EReal.coe_mul, coe_sum]

theorem dwb_at (hD : ∀ r l, DB (ix2 r l) = (dB W (R r) l : EReal)) (YB : FVec Ideal S256x512 .f32) (hY : ∀ r k, YB (ix2 r k) = (yb (R r) k : EReal)) (v k l) :
    k0_pay39 (F := Ideal) YB DB v (ix2 k l) = v (ix2 k l) + ((∑ r, yb (R r) k * dB W (R r) l : ℝ) : EReal) := by
  pointwise [k0_pay39]; simp only [hY, hD, ← EReal.coe_mul, coe_sum]

theorem dya_at (hD : ∀ r l, DA (ix2 r l) = (dA W (R r) l : EReal)) (WA : Vec Ideal S512x1024 .bf16) (hW : ∀ k l, WA (ix2 k l) = (W.wa k l : EReal)) (r k) :
    k0_pay40 (F := Ideal) DA WA (ix2 r k) = (dya W (R r) k : EReal) := by
  pointwise [k0_pay40]; simp only [hW, hD, ← EReal.coe_mul, coe_sum]; rfl

variable (hD : ∀ r l, DB (ix2 r l) = (dB W (R r) l : EReal)) {WB : Vec Ideal S512x1024 .bf16} (hW : ∀ k l, WB (ix2 k l) = (W.wb k l : EReal))
include hD hW

theorem dyb_at (r k) : k0_pay41 (F := Ideal) DB WB (ix2 r k) = (dyb W (R r) k : EReal) := by
  pointwise [k0_pay41]; simp only [hW, hD, ← EReal.coe_mul, coe_sum]; rfl

theorem dgate_at (GT : Vec Ideal S256x512 .f32) (S OO : FVec Ideal S256x512 .f32) (hG : ∀ r k, GT (ix2 r k) = ((R r).gate k : EReal))
    (hS : ∀ r k, S (ix2 r k) = (sg ((R r).gate k) : EReal)) (hO : ∀ r k, OO (ix2 r k) = ((R r).o k : EReal)) (r k) :
    k0_pay42 (F := Ideal) GT S OO DB WB (ix2 r k) = (dgate W (R r) k : EReal) := by
  pointwise [k0_pay42]
  rw [dyb_at hD hW, hG, hS, hO, one_sub_coe, show (1 : EReal) = ((1 : ℝ) : EReal) from rfl, ← EReal.coe_mul, ← EReal.coe_mul, ← EReal.coe_add, ← EReal.coe_mul, ← EReal.coe_mul]
  rfl

theorem dov_at (S : FVec Ideal S256x512 .f32) (hS : ∀ r k, S (ix2 r k) = (((R r).gate k * sg ((R r).gate k) : ℝ) : EReal)) (r k) :
    k0_pay43 (F := Ideal) S DB WB (ix2 r k) = (dov W (R r) k : EReal) := by
  pointwise [k0_pay43]; rw [dyb_at hD hW, hS, ← EReal.coe_mul]; rfl

end Mixers

end Cert.Tail

end
-- ==== Proof.Tail.Blocks.lean ====
/- What each grid point's blocks hold, and the sums over the grid. -/
module

public import proofs.«01_k».proof.Proof.Tail.Tile

@[expose] public section

set_option maxRecDepth 16384

noncomputable section

open Idealize.ShloMosaic Idealize.ShloMosaic.TcCoe Idealize.SL.Sem
open Cert.Reals Cert.Xgrad Cert.TailKernelIdeal Cert.TailKernelIdeal.Gen

namespace Cert.Tail

variable (m : (ℓ : Loc nD τ sig) → Buf (Elt Ideal) ℓ) (c : Dev nD)

/-- The row of the whole arrays that row `r` of point `t`'s block is. -/
abbrev row (t : Fin cfg0.N) (r : Fin 256) : Fin 2048 := ⟨256 * t.val + r, by have : t.val < 8 := t.isLt; omega⟩

theorem idx : ∀ t : Fin cfg0.N, (win0_0.index t = ![t.val, 0] ∧ win0_1.index t = ![t.val, 0] ∧ win0_2.index t = ![t.val, 0] ∧ win0_3.index t = ![0, t.val, 0])
    ∧ (win0_4.index t = ![t.val, 3] ∧ win0_5.index t = ![t.val, 0] ∧ win0_6.index t = ![0, 0] ∧ win0_7.index t = ![0, 0] ∧ win0_8.index t = ![0, 0] ∧ win0_9.index t = ![0, 0])
    ∧ (win0_10.index t = ![0, 0] ∧ win0_11.index t = ![0, 0] ∧ win0_12.index t = ![0, 0] ∧ win0_13.index t = ![0, 0] ∧ win0_14.index t = ![0, 0])
    ∧ win0_15.index t = ![t.val, 0] ∧ win0_16.index t = ![t.val, 0] ∧ win0_17.index t = ![0, t.val, 0] ∧ win0_18.index t = ![t.val, 0] ∧ win0_19.index t = ![t.val, 0] :=
  (by decide +kernel : ∀ t : Fin grid0.N, _)

/-! ## The weights, rounded on the host -/

theorem V_v0 : (V m c main_v0 : FVec Ideal S512x1024 .bf16)
    = (truncf .bf16 (m ((c.tc : Thread nD τ).loc main_arg6) : FVec Ideal S512x1024 .f32) bitsLt_bf16_f32 : FVec Ideal _ _) := by
  simp only [V, List.flatten_cons, List.flatten_nil, List.cons_append, List.nil_append, hostOps0]
  after_results

theorem V_v1 : (V m c main_v1 : FVec Ideal S512x1024 .bf16)
    = (truncf .bf16 (m ((c.tc : Thread nD τ).loc main_arg7) : FVec Ideal S512x1024 .f32) bitsLt_bf16_f32 : FVec Ideal _ _) := by
  simp only [V, List.flatten_cons, List.flatten_nil, List.cons_append, List.nil_append, hostOps0]
  after_results

theorem V_v2 : (V m c main_v2 : FVec Ideal S1024x1024 .bf16)
    = (truncf .bf16 (m ((c.tc : Thread nD τ).loc main_arg8) : FVec Ideal S1024x1024 .f32) bitsLt_bf16_f32 : FVec Ideal _ _) := by
  simp only [V, List.flatten_cons, List.flatten_nil, List.cons_append, List.nil_append, hostOps0]
  after_results

/-- The arguments are these reals. -/
structure Args (W : Weights) (R : Fin 2048 → Row) : Prop where
  x : ∀ r l, (m ((c.tc : Thread nD τ).loc main_arg0) : FVec Ideal S2048x1024 .f32) (ix2 r l) = ((R r).x l : EReal)
  t : ∀ r l, (m ((c.tc : Thread nD τ).loc main_arg1) : FVec Ideal S2048x1024 .f32) (ix2 r l) = ((R r).t l : EReal)
  ya : ∀ r k, (m ((c.tc : Thread nD τ).loc main_arg2) : FVec Ideal S2048x512 .f32) (ix2 r k) = ((R r).ya k : EReal)
  o : ∀ r k, (m ((c.tc : Thread nD τ).loc main_arg3) : FVec Ideal S8x2048x64 .f32) (ix3 (head k) r (lane k)) = ((R r).o k : EReal)
  gate : ∀ r (k : Fin 512), (m ((c.tc : Thread nD τ).loc main_arg4) : FVec Ideal S2048x2048 .f32) (ix2 r ⟨1536 + k, by omega⟩) = ((R r).gate k : EReal)
  ga : ∀ r (l : Fin 1024), (m ((c.tc : Thread nD τ).loc main_arg5) : FVec Ideal S2048x2048 .f32) (ix2 r ⟨l, by omega⟩) = ((R r).ga l : EReal)
  gb : ∀ r (l : Fin 1024), (m ((c.tc : Thread nD τ).loc main_arg5) : FVec Ideal S2048x2048 .f32) (ix2 r ⟨1024 + l, by omega⟩) = ((R r).gb l : EReal)
  wa : ∀ k l, (m ((c.tc : Thread nD τ).loc main_arg6) : FVec Ideal S512x1024 .f32) (ix2 k l) = (W.wa k l : EReal)
  wb : ∀ k l, (m ((c.tc : Thread nD τ).loc main_arg7) : FVec Ideal S512x1024 .f32) (ix2 k l) = (W.wb k l : EReal)
  wo : ∀ k l, (m ((c.tc : Thread nD τ).loc main_arg8) : FVec Ideal S1024x1024 .f32) (ix2 k l) = (W.wo k l : EReal)
  g : ∀ l, (m ((c.tc : Thread nD τ).loc main_arg9) : FVec Ideal S1x1024 .f32) (ix2 0 l) = (W.g l : EReal)

variable {m c} {W : Weights} {R : Fin 2048 → Row}

/-- Point `t`'s blocks hold its 256 rows and the weights. -/
theorem holds (A : Args m c W R) (t : Fin cfg0.N) :
    Holds (iblk m c 0 t) (iblk m c 1 t) (iblk m c 2 t) (iblk m c 4 t) (iblk m c 3 t) (iblk m c 5 t) (iblk m c 6 t) (iblk m c 7 t) (iblk m c 8 t) (iblk m c 9 t)
      W (fun r => R (row t r)) where
  x r l := by rw [← A.x]; blk_ext! [iblk, V, idx t]
  t r l := by rw [← A.t]; blk_ext! [iblk, V, idx t]
  ya r k := by rw [← A.ya]; blk_ext! [iblk, V, idx t]
  gate r k := by rw [← A.gate]; blk_ext! [iblk, V, idx t]
  o r k := by rw [← A.o]; blk_ext! [iblk, V, idx t]
  ga r l := by rw [← A.ga]; blk_ext! [iblk, V, idx t]
  gb r l := by rw [← A.gb]; blk_ext! [iblk, V, idx t]
  wa k l := by
    have e : (win0_6.blk t).view.emb (ix2 k l) = ix2 k l := by blk_ext [idx t]
    blk_simp [iblk]; rw [V_v0, e, ← A.wa]; pointwise
  wb k l := by
    have e : (win0_7.blk t).view.emb (ix2 k l) = ix2 k l := by blk_ext [idx t]
    blk_simp [iblk]; rw [V_v1, e, ← A.wb]; pointwise
  wo k l := by
    have e : (win0_8.blk t).view.emb (ix2 k l) = ix2 k l := by blk_ext [idx t]
    blk_simp [iblk]; rw [V_v2, e, ← A.wo]; pointwise
  g l := by rw [← A.g]; blk_ext! [iblk, V, idx t]

/-- An index of an array of matrices is its three coordinates. -/
theorem exists_coords {a b d : Nat} (y : (⟨3, ![a, b, d]⟩ : Shape).Idx) : ∃ h r l, y = ix3 h r l :=
  ⟨y 0, y 1, y 2, by funext i; fin_cases i <;> rfl⟩

/-- The grid's last point closes the sum over all rows. -/
theorem sum_tiles (f : Fin 2048 → ℝ) (t : Fin cfg0.N) (b : ∀ s : Fin 8, 8 * (t.val / 8) + s.val < cfg0.N) :
    ∑ s : Fin 8, ∑ r : Fin 256, f (row ⟨8 * (t.val / 8) + s.val, b s⟩ r) = ∑ r, f r := by
  have ht : t.val / 8 = 0 := Nat.div_eq_of_lt t.isLt
  refine Fin.sum_mul_add_congr (S := 8) (n := 256) fun s r hl => ?_
  exact congrArg f (Fin.ext (by simp only [row, ht]; omega))

end Cert.Tail

end
-- ==== Proof.Tail.Value.lean ====
/- The kernel's ten result arrays, as real formulas of the arguments. -/
module

public import proofs.«01_k».proof.Proof.Tail.Blocks
public import proofs.«01_k».proof.Proof.Gen.TailKernelIdeal.Value

@[expose] public section

set_option maxRecDepth 16384

noncomputable section

open Idealize.ShloMosaic Idealize.ShloMosaic.TcCoe Idealize.SL.Sem
open Cert.Reals Cert.Xgrad Cert.TailKernelIdeal Cert.TailKernelIdeal.Gen

namespace Cert.Tail

variable {m : (ℓ : Loc nD τ sig) → Buf (Elt Ideal) ℓ} {c : Dev nD} {W : Weights} {R : Fin 2048 → Row} (A : Args m c W R)
include A

/-! ## What point `t` computes -/

section Point
variable (t : Fin cfg0.N)

/-- The stream after the layer, in the point's rows. -/
theorem z_at (r l) : tX2 (iblk m c 0 t) (iblk m c 2 t) (iblk m c 4 t) (iblk m c 3 t) (iblk m c 5 t) (iblk m c 6 t) (iblk m c 7 t) (iblk m c 8 t) (ix2 r l)
    = (x2 W (R (row t r)) l : EReal) := tX2_at (holds A t) r l

/-- Its gradient. -/
theorem p_at (r l) : k0_pay31 (F := Ideal) (k0_pay24 (tX2 (iblk m c 0 t) (iblk m c 2 t) (iblk m c 4 t) (iblk m c 3 t) (iblk m c 5 t) (iblk m c 6 t) (iblk m c 7 t) (iblk m c 8 t)))
    (k0_pay25 (tX2 (iblk m c 0 t) (iblk m c 2 t) (iblk m c 4 t) (iblk m c 3 t) (iblk m c 5 t) (iblk m c 6 t) (iblk m c 7 t) (iblk m c 8 t)))
    (k0_pay28 (tX2 (iblk m c 0 t) (iblk m c 2 t) (iblk m c 4 t) (iblk m c 3 t) (iblk m c 5 t) (iblk m c 6 t) (iblk m c 7 t) (iblk m c 8 t)) (iblk m c 9 t) (iblk m c 1 t))
    (k0_pay30 (iblk m c 9 t)) (ix2 r l) = (dx W (R (row t r)) l : EReal) :=
  dx_at (R := fun r => R (row t r)) (z_at A t) (holds A t).t (holds A t).g r l

end Point

/-! ## The arrays written row block by row block -/

/-- The gradient of the stream. -/
theorem final_dx (G : FVec Ideal S2048x1024 .f32) (hG : ∀ r l, G (ix2 r l) = (dx W (R r) l : EReal)) : (dats m 0 c).arrAt 15 cfg0.N = G := by
  refine (dats m 0 c).arrAt_eq_of_covers 15 _ (by decide +kernel) fun t hf y => ?_
  blk_simp
  rw [after0_15]
  obtain ⟨r, l, rfl⟩ : ∃ (r : Fin 256) (l : Fin 1024), y = ix2 r l := exists_ix2 y
  have e : (win0_15.blk t).view.emb (ix2 r l) = ix2 (row t r) l := by blk_ext [idx t]
  rw [e, hG]
  by_cases h : t.val % 8 = 0
  · rw [outsAt0_A m c t h]; frame_out; exact p_at A t r l
  · rw [outsAt0_B m c t h]; frame_out; exact p_at A t r l

/-- The gradient of the first mixer's output. -/
theorem final_dya (G : FVec Ideal S2048x512 .f32) (hG : ∀ r k, G (ix2 r k) = (dya W (R r) k : EReal)) : (dats m 0 c).arrAt 16 cfg0.N = G := by
  refine (dats m 0 c).arrAt_eq_of_covers 16 _ (by decide +kernel) fun t hf y => ?_
  blk_simp
  rw [after0_16]
  obtain ⟨r, l, rfl⟩ : ∃ (r : Fin 256) (l : Fin 512), y = ix2 r l := exists_ix2 y
  have e : (win0_16.blk t).view.emb (ix2 r l) = ix2 (row t r) l := by blk_ext [idx t]
  rw [e, hG]
  by_cases h : t.val % 8 = 0
  · rw [outsAt0_A m c t h]; frame_out
    exact dya_at (R := fun r => R (row t r)) (dA_at (p_at A t) (holds A t).wo _ (sgA_at (holds A t))) _ (holds A t).wa r l
  · rw [outsAt0_B m c t h]; frame_out
    exact dya_at (R := fun r => R (row t r)) (dA_at (p_at A t) (holds A t).wo _ (sgA_at (holds A t))) _ (holds A t).wa r l

/-- The gradient of the output gate. -/
theorem final_dgate (G : FVec Ideal S2048x512 .f32) (hG : ∀ r k, G (ix2 r k) = (dgate W (R r) k : EReal)) : (dats m 0 c).arrAt 18 cfg0.N = G := by
  refine (dats m 0 c).arrAt_eq_of_covers 18 _ (by decide +kernel) fun t hf y => ?_
  blk_simp
  rw [after0_18]
  obtain ⟨r, l, rfl⟩ : ∃ (r : Fin 256) (l : Fin 512), y = ix2 r l := exists_ix2 y
  have e : (win0_18.blk t).view.emb (ix2 r l) = ix2 (row t r) l := by blk_ext [idx t]
  rw [e, hG]
  by_cases h : t.val % 8 = 0
  · rw [outsAt0_A m c t h]; frame_out
    exact dgate_at (R := fun r => R (row t r)) (dB_at (p_at A t) (holds A t).wo _ (sgB_at (holds A t))) (holds A t).wb _ _ _
      (holds A t).gate (sgGate_at (holds A t)) (tO_at (holds A t)) r l
  · rw [outsAt0_B m c t h]; frame_out
    exact dgate_at (R := fun r => R (row t r)) (dB_at (p_at A t) (holds A t).wo _ (sgB_at (holds A t))) (holds A t).wb _ _ _
      (holds A t).gate (sgGate_at (holds A t)) (tO_at (holds A t)) r l

/-- The gradient of the second mixer's output, head by head. -/
theorem final_do (G : FVec Ideal S8x2048x64 .f32) (hG : ∀ r k, G (ix3 (head k) r (lane k)) = (dov W (R r) k : EReal)) : (dats m 0 c).arrAt 17 cfg0.N = G := by
  refine (dats m 0 c).arrAt_eq_of_covers 17 _ (by decide +kernel) fun t hf y => ?_
  blk_simp
  rw [after0_17]
  obtain ⟨a, r, d, rfl⟩ : ∃ (a : Fin 8) (r : Fin 256) (d : Fin 64), y = ix3 a r d := exists_coords y
  have e : (win0_17.blk t).view.emb (ix3 a r d) = ix3 a (row t r) d := by blk_ext [idx t]
  have hk := hG (row t r) ⟨64 * a + d, by omega⟩
  rw [show head ⟨64 * a + d, by omega⟩ = a from Fin.ext (by simp only; omega), show lane ⟨64 * a + d, by omega⟩ = d from Fin.ext (by simp only; omega)] at hk
  have hD := dov_at (R := fun r => R (row t r)) (dB_at (p_at A t) (holds A t).wo _ (sgB_at (holds A t))) (holds A t).wb _ (silu_at (holds A t))
    r ⟨64 * a + d, by omega⟩
  rw [e, hk, ← hD]
  by_cases h : t.val % 8 = 0
  on_goal 1 => rw [outsAt0_A m c t h]
  on_goal 2 => rw [outsAt0_B m c t h]
  all_goals
    frame_out
    generalize k0_pay43 (F := Ideal) _ _ _ = D
    clear hD hk h hG
    canon_tiles x h
    all_goals
      obtain ⟨a', r', d', rfl⟩ : ∃ (a' : Fin 1) (r' : Fin 256) (d' : Fin 64), x = ix3 a' r' d' := exists_coords x
      pointwise [k0_pay1, k0_pay51, k0_pay50, k0_pay49, k0_pay48, k0_pay47, k0_pay46, k0_pay45, k0_pay44]
      obtain rfl : r = r' := Fin.ext h1
      obtain rfl : d = d' := Fin.ext h2
      exact congrArg (fun k => D (ix2 r k)) (Fin.ext (by simp at h0 ⊢; omega))

/-- The gradient of the two merge gates. -/
theorem final_dug (G : FVec Ideal S2048x2048 .bf16) (hA : ∀ r (l : Fin 1024), G (ix2 r ⟨l, by omega⟩) = (dga W (R r) l : EReal))
    (hB : ∀ r (l : Fin 1024), G (ix2 r ⟨1024 + l, by omega⟩) = (dgb W (R r) l : EReal)) : (dats m 0 c).arrAt 19 cfg0.N = G := by
  refine (dats m 0 c).arrAt_eq_of_covers 19 _ (by decide +kernel) fun t hf y => ?_
  blk_simp
  rw [after0_19]
  obtain ⟨r, l, rfl⟩ : ∃ (r : Fin 256) (l : Fin 2048), y = ix2 r l := exists_ix2 y
  have e : (win0_19.blk t).view.emb (ix2 r l) = ix2 (row t r) l := by blk_ext [idx t]
  have hDA := dga_at (R := fun r => R (row t r)) (p_at A t) (holds A t).wo _ _ (sgA_at (holds A t)) (tA_at (holds A t)) r
  have hDB := dgb_at (R := fun r => R (row t r)) (p_at A t) (holds A t).wo _ _ (sgB_at (holds A t)) (tB_at (holds A t)) r
  simp only [← hA, ← hB] at hDA hDB
  rw [e]
  by_cases h : t.val % 8 = 0
  on_goal 1 => rw [outsAt0_A m c t h]
  on_goal 2 => rw [outsAt0_B m c t h]
  all_goals
    frame_out
    generalize k0_pay36 (F := Ideal) _ _ _ _ _ _ _ = DA at hDA ⊢
    generalize k0_pay37 (F := Ideal) _ _ _ _ _ _ _ = DB at hDB ⊢
    clear h hA hB
    canon_tiles x h
    all_goals
      obtain ⟨r', l', rfl⟩ : ∃ (r' : Fin 256) (l' : Fin 1024), x = ix2 r' l' := exists_ix2 x
      obtain rfl : r = r' := Fin.ext h0
      first
        | exact (hDB l').trans (congrArg (fun k => G (ix2 (row t r) k)) (Fin.ext h1.symm))
        | exact (hDA l').trans (congrArg (fun k => G (ix2 (row t r) k)) (Fin.ext h1.symm))

/-! ## The arrays added up over the grid -/

/-- The loss. -/
theorem final_loss (G : FVec Ideal S1x1 .f32) (hG : G (ix2 0 0) = ((∑ r, 1 / 2048 * rowLoss W (R r) : ℝ) : EReal)) : (dats m 0 c).arrAt 10 cfg0.N = G := by
  refine (dats m 0 c).arrAt_eq_of_covers 10 _ (by decide +kernel) fun t hf y => ?_
  blk_simp
  obtain ⟨l, rfl⟩ : ∃ l : Fin 1, y = ix2 0 l := exists_ix2_row y
  rw [Subsingleton.elim l 0]
  have e : (win0_10.blk t).view.emb (ix2 0 0) = ix2 0 0 := by blk_ext [idx t]
  let part : Fin cfg0.N → S1x1.Idx → EReal := fun s i => ((∑ r, 1 / 2048 * rowLoss W (R (row s r)) : ℝ) : EReal)
  have hlast : t.val % 8 = 7 := (flush0_10 t).mp hf
  have hs (s : Fin cfg0.N) (acc : Vec Ideal S1x1 .f32) (i : S1x1.Idx) : k0_pay27 (F := Ideal)
      (tX2 (iblk m c 0 s) (iblk m c 2 s) (iblk m c 4 s) (iblk m c 3 s) (iblk m c 5 s) (iblk m c 6 s) (iblk m c 7 s) (iblk m c 8 s))
      (iblk m c 9 s) (iblk m c 1 s) acc i = acc i + part s i := by
    obtain ⟨l, rfl⟩ := exists_ix2_row i
    rw [Subsingleton.elim l 0]
    exact (loss_at (R := fun r => R (row s r)) (z_at A s) (holds A s).t (holds A s).g acc).trans (by rw [Finset.mul_sum])
  rw [e, hG, after0_10, Pipeline.eq_sum_fin_of_reset_step_apply_of_flush (fun n h => (outsAt0 m c n h).1) 8 (fun _ => (0 : EReal)) part
    (fun s h i => by
      rw [outsAt0_A m c s h]; frame_out
      refine (hs s _ i).trans (congrArg (· + part s i) ?_)
      pointwise [k0_pay2])
    (fun s h i => by rw [outsAt0_B m c s h]; frame_out; exact hs s _ i) t hlast (ix2 0 0)]
  simp only [zero_add, part, coe_sum]
  exact congrArg _ (sum_tiles (fun r => 1 / 2048 * rowLoss W (R r)) t _)

/-- The gradient of the norm's weights. -/
theorem final_dg (G : FVec Ideal S1x1024 .f32)
    (hG : ∀ l, G (ix2 0 l) = ((∑ r, dout W (R r) l * (x2 W (R r) l * rs (x2 W (R r))) : ℝ) : EReal)) : (dats m 0 c).arrAt 11 cfg0.N = G := by
  refine (dats m 0 c).arrAt_eq_of_covers 11 _ (by decide +kernel) fun t hf y => ?_
  blk_simp
  obtain ⟨l, rfl⟩ : ∃ l : Fin 1024, y = ix2 0 l := exists_ix2_row y
  have e : (win0_11.blk t).view.emb (ix2 0 l) = ix2 0 l := by blk_ext [idx t]
  let part : Fin cfg0.N → S1x1024.Idx → EReal := fun s i => ((∑ r, dout W (R (row s r)) (i 1) * (x2 W (R (row s r)) (i 1) * rs (x2 W (R (row s r)))) : ℝ) : EReal)
  have hlast : t.val % 8 = 7 := (flush0_11 t).mp hf
  rw [e, hG, after0_11, Pipeline.eq_sum_fin_of_reset_step_apply_of_flush (fun n h => (outsAt0 m c n h).2.1) 8 (fun _ => (0 : EReal)) part
    (fun s h i => by
      rw [outsAt0_A m c s h]; frame_out
      obtain ⟨l, rfl⟩ := exists_ix2_row i
      refine (dg_at (R := fun r => R (row s r)) (z_at A s) (holds A s).t (holds A s).g _ l).trans (congrArg (· + part s (ix2 0 l)) ?_)
      pointwise [k0_pay3])
    (fun s h i => by
      rw [outsAt0_B m c s h]; frame_out
      obtain ⟨l, rfl⟩ := exists_ix2_row i
      exact dg_at (R := fun r => R (row s r)) (z_at A s) (holds A s).t (holds A s).g _ l) t hlast (ix2 0 l)]
  simp only [zero_add, part, coe_sum]
  exact congrArg _ (sum_tiles (fun r => dout W (R r) l * (x2 W (R r) l * rs (x2 W (R r)))) t _)

/-- The gradient of the output projection. -/
theorem final_dwo (G : FVec Ideal S1024x1024 .f32)
    (hG : ∀ k l, G (ix2 k l) = ((∑ r, merged W (R r) k * dx W (R r) l : ℝ) : EReal)) : (dats m 0 c).arrAt 12 cfg0.N = G := by
  refine (dats m 0 c).arrAt_eq_of_covers 12 _ (by decide +kernel) fun t hf y => ?_
  blk_simp
  obtain ⟨k, l, rfl⟩ : ∃ k l : Fin 1024, y = ix2 k l := exists_ix2 y
  have e : (win0_12.blk t).view.emb (ix2 k l) = ix2 k l := by blk_ext [idx t]
  let part : Fin cfg0.N → S1024x1024.Idx → EReal := fun s i => ((∑ r, merged W (R (row s r)) (i 0) * dx W (R (row s r)) (i 1) : ℝ) : EReal)
  have hlast : t.val % 8 = 7 := (flush0_12 t).mp hf
  rw [e, hG, after0_12, Pipeline.eq_sum_fin_of_reset_step_apply_of_flush (fun n h => (outsAt0 m c n h).2.2.1) 8 (fun _ => (0 : EReal)) part
    (fun s h i => by
      rw [outsAt0_A m c s h]; frame_out
      obtain ⟨k, l, rfl⟩ := exists_ix2 i
      refine (dwo_at (R := fun r => R (row s r)) (p_at A s) _ (tM_at (holds A s)) _ k l).trans (congrArg (· + part s (ix2 k l)) ?_)
      pointwise [k0_pay4])
    (fun s h i => by
      rw [outsAt0_B m c s h]; frame_out
      obtain ⟨k, l, rfl⟩ := exists_ix2 i
      exact dwo_at (R := fun r => R (row s r)) (p_at A s) _ (tM_at (holds A s)) _ k l) t hlast (ix2 k l)]
  simp only [zero_add, part, coe_sum]
  exact congrArg _ (sum_tiles (fun r => merged W (R r) k * dx W (R r) l) t _)

/-- The gradient of the first mixer's projection. -/
theorem final_dwa (G : FVec Ideal S512x1024 .f32)
    (hG : ∀ k l, G (ix2 k l) = ((∑ r, (R r).ya k * dA W (R r) l : ℝ) : EReal)) : (dats m 0 c).arrAt 13 cfg0.N = G := by
  refine (dats m 0 c).arrAt_eq_of_covers 13 _ (by decide +kernel) fun t hf y => ?_
  blk_simp
  obtain ⟨k, l, rfl⟩ : ∃ (k : Fin 512) (l : Fin 1024), y = ix2 k l := exists_ix2 y
  have e : (win0_13.blk t).view.emb (ix2 k l) = ix2 k l := by blk_ext [idx t]
  let part : Fin cfg0.N → S512x1024.Idx → EReal := fun s i => ((∑ r, (R (row s r)).ya (i 0) * dA W (R (row s r)) (i 1) : ℝ) : EReal)
  have hlast : t.val % 8 = 7 := (flush0_13 t).mp hf
  rw [e, hG, after0_13, Pipeline.eq_sum_fin_of_reset_step_apply_of_flush (fun n h => (outsAt0 m c n h).2.2.2.1) 8 (fun _ => (0 : EReal)) part
    (fun s h i => by
      rw [outsAt0_A m c s h]; frame_out
      obtain ⟨k, l, rfl⟩ := exists_ix2 i
      refine (dwa_at (R := fun r => R (row s r)) (dA_at (p_at A s) (holds A s).wo _ (sgA_at (holds A s))) _ (holds A s).ya _ k l).trans
        (congrArg (· + part s (ix2 k l)) ?_)
      pointwise [k0_pay5])
    (fun s h i => by
      rw [outsAt0_B m c s h]; frame_out
      obtain ⟨k, l, rfl⟩ := exists_ix2 i
      exact dwa_at (R := fun r => R (row s r)) (dA_at (p_at A s) (holds A s).wo _ (sgA_at (holds A s))) _ (holds A s).ya _ k l) t hlast (ix2 k l)]
  simp only [zero_add, part, coe_sum]
  exact congrArg _ (sum_tiles (fun r => (R r).ya k * dA W (R r) l) t _)

/-- The gradient of the second mixer's projection. -/
theorem final_dwb (G : FVec Ideal S512x1024 .f32)
    (hG : ∀ k l, G (ix2 k l) = ((∑ r, yb (R r) k * dB W (R r) l : ℝ) : EReal)) : (dats m 0 c).arrAt 14 cfg0.N = G := by
  refine (dats m 0 c).arrAt_eq_of_covers 14 _ (by decide +kernel) fun t hf y => ?_
  blk_simp
  obtain ⟨k, l, rfl⟩ : ∃ (k : Fin 512) (l : Fin 1024), y = ix2 k l := exists_ix2 y
  have e : (win0_14.blk t).view.emb (ix2 k l) = ix2 k l := by blk_ext [idx t]
  let part : Fin cfg0.N → S512x1024.Idx → EReal := fun s i => ((∑ r, yb (R (row s r)) (i 0) * dB W (R (row s r)) (i 1) : ℝ) : EReal)
  have hlast : t.val % 8 = 7 := (flush0_14 t).mp hf
  rw [e, hG, after0_14, Pipeline.eq_sum_fin_of_reset_step_apply_of_flush (fun n h => (outsAt0 m c n h).2.2.2.2.1) 8 (fun _ => (0 : EReal)) part
    (fun s h i => by
      rw [outsAt0_A m c s h]; frame_out
      obtain ⟨k, l, rfl⟩ := exists_ix2 i
      refine (dwb_at (R := fun r => R (row s r)) (dB_at (p_at A s) (holds A s).wo _ (sgB_at (holds A s))) _ (tYb_at (holds A s)) _ k l).trans
        (congrArg (· + part s (ix2 k l)) ?_)
      pointwise [k0_pay6])
    (fun s h i => by
      rw [outsAt0_B m c s h]; frame_out
      obtain ⟨k, l, rfl⟩ := exists_ix2 i
      exact dwb_at (R := fun r => R (row s r)) (dB_at (p_at A s) (holds A s).wo _ (sgB_at (holds A s))) _ (tYb_at (holds A s)) _ k l) t hlast (ix2 k l)]
  simp only [zero_add, part, coe_sum]
  exact congrArg _ (sum_tiles (fun r => yb (R r) k * dB W (R r) l) t _)

end Cert.Tail

end
-- ==== Proof.Tail.Ref.lean ====
/- The reference's stages under names of their own, each read at an index as a real formula of the rows. -/
module

public import proofs.«01_k».proof.Proof.Gen.TailReferenceIdeal.Run
public import proofs.«01_k».proof.Proof.Tail.Math

@[expose] public section

set_option maxRecDepth 16384

noncomputable section

namespace Cert.TailReferenceIdeal.Hand

open Cert.TailReferenceIdeal Cert.TailReferenceIdeal.Gen Cert.TailReferenceIdeal.Value Cert.Reals Cert.Xgrad Cert.Tail
open Idealize.ShloMosaic Idealize.ShloMosaic.TcCoe Idealize.ShloMosaic.StableHlo

/-! ## Forward -/

def gateOf (UB : FVec Ideal S2048x2048 .f32) : FVec Ideal S2048x512 .f32 := extractStridedSlice S2048x512 ![0, 1536] UB slices_S2048x2048_S2048x512_0_1536
def gaOf (UG : FVec Ideal S2048x2048 .f32) : FVec Ideal S2048x1024 .f32 := extractStridedSlice S2048x1024 ![0, 0] UG slices_S2048x2048_S2048x1024_0_0
def gbOf (UG : FVec Ideal S2048x2048 .f32) : FVec Ideal S2048x1024 .f32 := extractStridedSlice S2048x1024 ![0, 1024] UG slices_S2048x2048_S2048x1024_0_1024
def flat (O : FVec Ideal S8x2048x64 .f32) : FVec Ideal S2048x512 .f32 :=
  shapeCast _ (transpose S2048x8x64 [1, 0, 2] O transposes_S8x2048x64_S2048x8x64_1_0_2) shapeCasts_S2048x8x64_S2048x512
def sgN (Z : FVec Ideal S2048x512 .f32) : FVec Ideal S2048x512 .f32 :=
  Host.divf (broadcastInDim S2048x512 ![] bcast_S_S2048x512 (constant S_ .f32 0x3F800000#32)) (addf (broadcastInDim S2048x512 ![] bcast_S_S2048x512 (constant S_ .f32 0x3F800000#32)) (Host.exp (Host.negf Z)))
def sgW (Z : FVec Ideal S2048x1024 .f32) : FVec Ideal S2048x1024 .f32 :=
  Host.divf (broadcastInDim S2048x1024 ![] bcast_S_S2048x1024 (constant S_ .f32 0x3F800000#32)) (addf (broadcastInDim S2048x1024 ![] bcast_S_S2048x1024 (constant S_ .f32 0x3F800000#32)) (Host.exp (Host.negf Z)))
/-- A mixer's projection. -/
def proj (Y : FVec Ideal S2048x512 .f32) (W : FVec Ideal S512x1024 .f32) : FVec Ideal S2048x1024 .f32 :=
  Host.dotGeneral dot_S2048x512_S512x1024_S2048x1024_1_0_0_1_n_n none Y W
def merge (GA GB A B : FVec Ideal S2048x1024 .f32) : FVec Ideal S2048x1024 .f32 := addf (mulf (sgW GA) A) (mulf (sgW GB) B)
def stream (X M : FVec Ideal S2048x1024 .f32) (WO : FVec Ideal S1024x1024 .f32) : FVec Ideal S2048x1024 .f32 :=
  addf X (Host.dotGeneral dot_S2048x1024_S1024x1024_S2048x1024_1_0_0_1_n_n none M WO)
def msOf (Z : FVec Ideal S2048x1024 .f32) : FVec Ideal S2048x1 .f32 :=
  addf (Host.divf (broadcastInDim S2048x1 ![0] bcast_S2048_S2048x1_0 (Host.reduceAdd (mulf Z Z) (constant S_ .f32 0x00000000#32) reducesTo_S2048x1024_S2048_d1 h_S_))
    (broadcastInDim S2048x1 ![] bcast_S_S2048x1 (constant S_ .f32 0x44800000#32))) (broadcastInDim S2048x1 ![] bcast_S_S2048x1 (constant S_ .f32 0x358637BD#32))
def rsOf (M : FVec Ideal S2048x1 .f32) : FVec Ideal S2048x1 .f32 := Host.rsqrt M
def normed (Z : FVec Ideal S2048x1024 .f32) : FVec Ideal S2048x1024 .f32 :=
  mulf Z (broadcastInDim S2048x1024 ![0, 1] bcast_S2048x1_S2048x1024_0_1 (rsOf (msOf Z)))
def weights (G : FVec Ideal S1x1024 .f32) : FVec Ideal S2048x1024 .f32 :=
  broadcastInDim S2048x1024 ![0, 1] bcast_S1x1024_S2048x1024_0_1 (broadcastInDim S1x1024 ![1] bcast_S1024_S1x1024_1 (shapeCast _ G shapeCasts_S1x1024_S1024))
def errOf (Z : FVec Ideal S2048x1024 .f32) (G : FVec Ideal S1x1024 .f32) (T : FVec Ideal S2048x1024 .f32) : FVec Ideal S2048x1024 .f32 :=
  subf (mulf (normed Z) (weights G)) T
def lossOf (E : FVec Ideal S2048x1024 .f32) : FVec Ideal S1x1 .f32 :=
  mulf (broadcastInDim S1x1 ![] bcast_S_S1x1 (constant S_ .f32 0x3F000000#32)) (broadcastInDim S1x1 ![1] bcast_S1_S1x1_1 (broadcastInDim S1 ![] bcast_S_S1
    (Host.reduceAdd (Host.divf (Host.reduceAdd (mulf E E) (constant S_ .f32 0x00000000#32) reducesTo_S2048x1024_S2048_d1 h_S_)
      (broadcastInDim S2048 ![] bcast_S_S2048 (constant S_ .f32 0x44800000#32))) (constant S_ .f32 0x00000000#32) reducesTo_S2048_S_d0 h_S_)))

/-! ## Backward -/

/-- The derivative of the loss by one squared error, a constant. -/
def seed : FVec Ideal S2048x1024 .f32 :=
  broadcastInDim S2048x1024 ![0] bcast_S2048_S2048x1024_0 (Host.divf (broadcastInDim S2048 ![] bcast_S_S2048
    (Host.reduceAdd (broadcastInDim S1 ![] bcast_S_S1 (Host.reduceAdd (mulf (broadcastInDim S1x1 ![] bcast_S_S1x1 (constant S_ .f32 0x3F000000#32))
      (broadcastInDim S1x1 ![] bcast_S_S1x1 (constant S_ .f32 0x3F800000#32))) (constant S_ .f32 0x00000000#32) reducesTo_S1x1_S_d0_1 h_S_))
      (constant S_ .f32 0x00000000#32) reducesTo_S1_S_d0 h_S_)) (broadcastInDim S2048 ![] bcast_S_S2048 (constant S_ .f32 0x44800000#32)))
def doutOf (E : FVec Ideal S2048x1024 .f32) : FVec Ideal S2048x1024 .f32 :=
  mulf seed (mulf (broadcastInDim S2048x1024 ![] bcast_S_S2048x1024 (constant S_ .f32 0x40000000#32)) E)
def dgOf (N D : FVec Ideal S2048x1024 .f32) : FVec Ideal S1x1024 .f32 :=
  broadcastInDim S1x1024 ![1] bcast_S1024_S1x1024_1 (Host.reduceAdd (shapeCast _ (Host.reduceAdd (mulf N D) (constant S_ .f32 0x00000000#32) reducesTo_S2048x1024_S1024_d0 h_S_) shapeCasts_S1024_S1x1024)
    (constant S_ .f32 0x00000000#32) reducesTo_S1x1024_S1024_d0 h_S_)
/-- What differentiating the row factor leaves in every entry of a row. -/
def rowTerm (Z D : FVec Ideal S2048x1024 .f32) : FVec Ideal S2048x1024 .f32 :=
  broadcastInDim S2048x1024 ![0] bcast_S2048_S2048x1024_0 (Host.reduceAdd (Host.divf (mulf (shapeCast _ (Host.reduceAdd (mulf Z D) (constant S_ .f32 0x00000000#32) reducesTo_S2048x1024_S2048_d1 h_S_) shapeCasts_S2048_S2048x1)
    (mulf (broadcastInDim S2048x1 ![] bcast_S_S2048x1 (constant S_ .f32 0xBF000000#32)) (Host.divf (rsOf (msOf Z)) (msOf Z))))
    (broadcastInDim S2048x1 ![] bcast_S_S2048x1 (constant S_ .f32 0x44800000#32))) (constant S_ .f32 0x00000000#32) reducesTo_S2048x1_S2048_d1 h_S_)
/-- The gradient of the stream, `D` the cotangent of the normalised stream. -/
def dxOf (Z D : FVec Ideal S2048x1024 .f32) : FVec Ideal S2048x1024 .f32 :=
  addf (addf (mulf D (broadcastInDim S2048x1024 ![0, 1] bcast_S2048x1_S2048x1024_0_1 (rsOf (msOf Z)))) (mulf Z (rowTerm Z D))) (mulf (rowTerm Z D) Z)
def dwoOf (P M : FVec Ideal S2048x1024 .f32) : FVec Ideal S1024x1024 .f32 :=
  transpose S1024x1024 [1, 0] (Host.dotGeneral dot_S2048x1024_S2048x1024_S1024x1024_0_0_1_1_n_n none P M : FVec Ideal S1024x1024 .f32) transposes_S1024x1024_S1024x1024_1_0
def dmOf (P : FVec Ideal S2048x1024 .f32) (WO : FVec Ideal S1024x1024 .f32) : FVec Ideal S2048x1024 .f32 :=
  Host.dotGeneral dot_S2048x1024_S1024x1024_S2048x1024_1_1_0_0_n_n none P WO
def gated (U D : FVec Ideal S2048x1024 .f32) : FVec Ideal S2048x1024 .f32 := mulf (sgW U) D
def dgateW (U D B : FVec Ideal S2048x1024 .f32) : FVec Ideal S2048x1024 .f32 :=
  mulf (mulf D B) (mulf (sgW U) (subf (broadcastInDim S2048x1024 ![] bcast_S_S2048x1024 (constant S_ .f32 0x3F800000#32)) (sgW U)))
def dprojW (D : FVec Ideal S2048x1024 .f32) (Y : FVec Ideal S2048x512 .f32) : FVec Ideal S512x1024 .f32 :=
  transpose S512x1024 [1, 0] (Host.dotGeneral dot_S2048x1024_S2048x512_S1024x512_0_0_1_1_n_n none D Y : FVec Ideal S1024x512 .f32) transposes_S1024x512_S512x1024_1_0
def dprojY (D : FVec Ideal S2048x1024 .f32) (W : FVec Ideal S512x1024 .f32) : FVec Ideal S2048x512 .f32 :=
  Host.dotGeneral dot_S2048x1024_S512x1024_S2048x512_1_1_0_0_n_n none D W
def silu (Z : FVec Ideal S2048x512 .f32) : FVec Ideal S2048x512 .f32 := mulf Z (sgN Z)
def dgateOf (Z F D : FVec Ideal S2048x512 .f32) : FVec Ideal S2048x512 .f32 :=
  addf (mulf (mulf F D) (sgN Z)) (mulf (mulf Z (mulf F D)) (mulf (sgN Z) (subf (broadcastInDim S2048x512 ![] bcast_S_S2048x512 (constant S_ .f32 0x3F800000#32)) (sgN Z))))
def doOf (D S : FVec Ideal S2048x512 .f32) : FVec Ideal S8x2048x64 .f32 :=
  transpose S8x2048x64 [1, 0, 2] (shapeCast _ (mulf D S) shapeCasts_S2048x512_S2048x8x64 : FVec Ideal S2048x8x64 .f32) transposes_S2048x8x64_S8x2048x64_1_0_2

/-! ## The reference's results are these stages composed -/

variable (m : (ℓ : Loc nD τ sig) → Buf (Elt Ideal) ℓ) (c : Dev nD)

abbrev X : FVec Ideal S2048x1024 .f32 := m ((c.tc : Thread nD τ).loc main_arg0)
abbrev T : FVec Ideal S2048x1024 .f32 := m ((c.tc : Thread nD τ).loc main_arg1)
abbrev YA : FVec Ideal S2048x512 .f32 := m ((c.tc : Thread nD τ).loc main_arg2)
abbrev O : FVec Ideal S8x2048x64 .f32 := m ((c.tc : Thread nD τ).loc main_arg3)
abbrev UB : FVec Ideal S2048x2048 .f32 := m ((c.tc : Thread nD τ).loc main_arg4)
abbrev UG : FVec Ideal S2048x2048 .f32 := m ((c.tc : Thread nD τ).loc main_arg5)
abbrev WA : FVec Ideal S512x1024 .f32 := m ((c.tc : Thread nD τ).loc main_arg6)
abbrev WB : FVec Ideal S512x1024 .f32 := m ((c.tc : Thread nD τ).loc main_arg7)
abbrev WO : FVec Ideal S1024x1024 .f32 := m ((c.tc : Thread nD τ).loc main_arg8)
abbrev G : FVec Ideal S1x1024 .f32 := m ((c.tc : Thread nD τ).loc main_arg9)

def yB := mulf (flat (O m c)) (silu (gateOf (UB m c)))
def pA := proj (YA m c) (WA m c)
def pB := proj (yB m c) (WB m c)
def mrg := merge (gaOf (UG m c)) (gbOf (UG m c)) (pA m c) (pB m c)
def z := stream (X m c) (mrg m c) (WO m c)
def er := errOf (z m c) (G m c) (T m c)
def dOut := doutOf (er m c)
def dX := dxOf (z m c) (mulf (dOut m c) (weights (G m c)))
def dM := dmOf (dX m c) (WO m c)
def dPA := gated (gaOf (UG m c)) (dM m c)
def dPB := gated (gbOf (UG m c)) (dM m c)
def dYB := dprojY (dPB m c) (WB m c)

theorem out0 : (res_out0 m c : FVec Ideal S1x1 .f32) = lossOf (er m c) := by
  unfold res_out0 res_main_v63; rfl
theorem out1 : (res_out1 m c : FVec Ideal S1x1024 .f32) = dgOf (normed (z m c)) (dOut m c) := by
  unfold res_out1 res_main_v95; rfl
theorem out2 : (res_out2 m c : FVec Ideal S1024x1024 .f32) = dwoOf (dX m c) (mrg m c) := by
  unfold res_out2 res_main_v97; rfl
theorem out3 : (res_out3 m c : FVec Ideal S512x1024 .f32) = dprojW (dPA m c) (YA m c) := by
  unfold res_out3 res_main_v113; rfl
theorem out4 : (res_out4 m c : FVec Ideal S512x1024 .f32) = dprojW (dPB m c) (yB m c) := by
  unfold res_out4 res_main_v107; rfl
theorem out5 : (res_out5 m c : FVec Ideal S2048x1024 .f32) = dX m c := by
  unfold res_out5 res_main_v94; rfl
theorem out6 : (res_out6 m c : FVec Ideal S2048x512 .f32) = dprojY (dPA m c) (WA m c) := by
  unfold res_out6 res_main_v114; rfl
theorem out7 : (res_out7 m c : FVec Ideal S8x2048x64 .f32) = doOf (dYB m c) (silu (gateOf (UB m c))) := by
  unfold res_out7 res_main_v116; rfl
theorem out8 : (res_out8 m c : FVec Ideal S2048x512 .f32) = dgateOf (gateOf (UB m c)) (flat (O m c)) (dYB m c) := by
  unfold res_out8 res_main_v111; rfl
theorem out9 : (res_out9 m c : FVec Ideal S2048x2048 .bf16)
    = (truncf .bf16 (fn_main_v105 (F := Ideal) (dgateW (gaOf (UG m c)) (dM m c) (pA m c)) (dgateW (gbOf (UG m c)) (dM m c) (pB m c))) bitsLt_bf16_f32 : FVec Ideal _ _) := by
  unfold res_out9 res_main_v117; rfl

end Cert.TailReferenceIdeal.Hand

end
-- ==== Proof.Tail.RefReads.lean ====
/- The reference's stages read at an index, as real formulas of the rows. -/
module

public import proofs.«01_k».proof.Proof.Tail.Ref

@[expose] public section

set_option maxRecDepth 16384

noncomputable section

namespace Cert.TailReferenceIdeal.Hand

open Cert.TailReferenceIdeal Cert.TailReferenceIdeal.Gen Cert.TailReferenceIdeal.Value Cert.Reals Cert.Xgrad Cert.Tail
open Idealize.ShloMosaic Idealize.ShloMosaic.TcCoe Idealize.ShloMosaic.StableHlo

/-! ## The stages over any arrays of reals -/

theorem gateOf_at (UB) (r k) : gateOf UB (ix2 r k) = UB (ix2 r ⟨1536 + k, by omega⟩) := by pointwise [gateOf]
theorem gaOf_at (UG) (r l) : gaOf UG (ix2 r l) = UG (ix2 r ⟨l, by omega⟩) := by pointwise [gaOf]
theorem gbOf_at (UG) (r l) : gbOf UG (ix2 r l) = UG (ix2 r ⟨1024 + l, by omega⟩) := by pointwise [gbOf]
theorem flat_at (O) (r k) : flat O (ix2 r k) = O (ix3 (head k) r (lane k)) := by
  pointwise [flat]

theorem sgN_at (Z) (r k) (a : ℝ) (h : Z (ix2 r k) = (a : EReal)) : sgN Z (ix2 r k) = (sg a : EReal) := by
  pointwise [sgN]; rw [h, div_one_exp]
theorem sgW_at (Z) (r l) (a : ℝ) (h : Z (ix2 r l) = (a : EReal)) : sgW Z (ix2 r l) = (sg a : EReal) := by
  pointwise [sgW]; rw [h, div_one_exp]

theorem silu_at (Z) (r k) (a : ℝ) (h : Z (ix2 r k) = (a : EReal)) : silu Z (ix2 r k) = ((a * sg a : ℝ) : EReal) := by
  pointwise [silu]; rw [sgN_at Z r k a h, h, ← EReal.coe_mul]

theorem proj_at (Y W) (r l) (y : Fin 512 → ℝ) (w : Fin 512 → Fin 1024 → ℝ) (hY : ∀ k, Y (ix2 r k) = (y k : EReal)) (hW : ∀ k l, W (ix2 k l) = (w k l : EReal)) :
    proj Y W (ix2 r l) = ((∑ k, y k * w k l : ℝ) : EReal) := by
  pointwise [proj]; simp only [hY, hW, ← EReal.coe_mul, coe_sum]

theorem dprojY_at (D W) (r k) (d : Fin 1024 → ℝ) (w : Fin 512 → Fin 1024 → ℝ) (hD : ∀ l, D (ix2 r l) = (d l : EReal)) (hW : ∀ k l, W (ix2 k l) = (w k l : EReal)) :
    dprojY D W (ix2 r k) = ((∑ l, d l * w k l : ℝ) : EReal) := by
  pointwise [dprojY]; simp only [hD, hW, ← EReal.coe_mul, coe_sum]

theorem dprojW_at (D Y) (k l) (d : Fin 2048 → Fin 1024 → ℝ) (y : Fin 2048 → Fin 512 → ℝ) (hD : ∀ r l, D (ix2 r l) = (d r l : EReal)) (hY : ∀ r k, Y (ix2 r k) = (y r k : EReal)) :
    dprojW D Y (ix2 k l) = ((∑ r, y r k * d r l : ℝ) : EReal) := by
  pointwise [dprojW]; simp only [hD, hY, ← EReal.coe_mul, coe_sum]
  exact congrArg _ (Finset.sum_congr rfl fun r _ => mul_comm _ _)

theorem dwoOf_at (P M) (k l) (p q : Fin 2048 → Fin 1024 → ℝ) (hP : ∀ r l, P (ix2 r l) = (p r l : EReal)) (hM : ∀ r l, M (ix2 r l) = (q r l : EReal)) :
    dwoOf P M (ix2 k l) = ((∑ r, q r k * p r l : ℝ) : EReal) := by
  pointwise [dwoOf]; simp only [hP, hM, ← EReal.coe_mul, coe_sum]
  exact congrArg _ (Finset.sum_congr rfl fun r _ => mul_comm _ _)

section Norm
variable {Z : FVec Ideal S2048x1024 .f32} {z : Fin 2048 → Fin 1024 → ℝ} (hZ : ∀ r l, Z (ix2 r l) = (z r l : EReal))
include hZ

theorem msOf_at (r) : msOf Z (ix2 r 0) = (ms (z r) : EReal) := by
  pointwise [msOf]; simp only [hZ, ms_row]

theorem rsOf_at (r) : rsOf (msOf Z) (ix2 r 0) = (rs (z r) : EReal) := by
  pointwise [rsOf]; rw [msOf_at hZ, rsqrt_ms]

theorem normed_at (r l) : normed Z (ix2 r l) = ((z r l * rs (z r) : ℝ) : EReal) := by
  pointwise [normed]; rw [rsOf_at hZ, hZ, ← EReal.coe_mul]

theorem dxOf_at {D : FVec Ideal S2048x1024 .f32} (g : Fin 1024 → ℝ) (d : Fin 2048 → Fin 1024 → ℝ) (hD : ∀ r l, D (ix2 r l) = ((d r l * g l : ℝ) : EReal)) (r l) :
    dxOf Z D (ix2 r l) = (rowGrad (d r) (z r) g l : EReal) := by
  pointwise [dxOf, rowTerm]
  simp only [hZ, hD, msOf_at hZ, rsOf_at hZ, div_ms, Fin.sum_univ_one, ofBits_1024, ofBits_neg_half, ← EReal.coe_mul, coe_sum, div_1024, ← EReal.coe_add]
  rw [← rowGrad_eq, add_assoc]

end Norm

theorem weights_at (G : FVec Ideal S1x1024 .f32) (r l) : weights G (ix2 r l) = G (ix2 0 l) := by pointwise [weights]

theorem seed_at (r l) : seed (ix2 r l) = ((1 / 2 / 1024 : ℝ) : EReal) := by
  pointwise [seed]
  simp only [ofBits_half, ofBits_1024, Fin.sum_univ_one, mul_one, div_1024]

theorem doutOf_at (E) (r l) (e : ℝ) (h : E (ix2 r l) = (e : EReal)) : doutOf E (ix2 r l) = ((e * (1 / 1024) : ℝ) : EReal) := by
  pointwise [doutOf]; rw [seed_at, h, ofBits_two, ← EReal.coe_mul, ← EReal.coe_mul]; congr 1; ring

theorem lossOf_at (E) (e : Fin 2048 → Fin 1024 → ℝ) (h : ∀ r l, E (ix2 r l) = (e r l : EReal)) :
    lossOf E (ix2 0 0) = ((∑ r, 1 / 2048 * ∑ l, e r l * e r l : ℝ) : EReal) := by
  pointwise [lossOf]
  simp only [h, ofBits_half, ofBits_1024, ← EReal.coe_mul, coe_sum, div_1024]
  congr 1; rw [Finset.mul_sum]; exact Finset.sum_congr rfl fun r _ => by ring

theorem dgOf_at (N D) (n d : Fin 2048 → Fin 1024 → ℝ) (hN : ∀ r l, N (ix2 r l) = (n r l : EReal)) (hD : ∀ r l, D (ix2 r l) = (d r l : EReal)) (l) :
    dgOf N D (ix2 0 l) = ((∑ r, d r l * n r l : ℝ) : EReal) := by
  pointwise [dgOf]
  simp only [hN, hD, ← EReal.coe_mul, coe_sum, Fin.sum_univ_one]
  exact congrArg _ (Finset.sum_congr rfl fun r _ => mul_comm _ _)

theorem one_sub_coe (a : ℝ) : (1 : EReal) - (a : EReal) = ((1 - a : ℝ) : EReal) := by rw [EReal.coe_sub]; rfl

theorem dgateW_at (U D B) (r l) (u d b : ℝ) (hU : U (ix2 r l) = (u : EReal)) (hD : D (ix2 r l) = (d : EReal)) (hB : B (ix2 r l) = (b : EReal)) :
    dgateW U D B (ix2 r l) = ((d * b * sg u * (1 - sg u) : ℝ) : EReal) := by
  pointwise [dgateW]; rw [sgW_at U r l u hU, hD, hB, one_sub_coe]; simp only [← EReal.coe_mul]; congr 1; ring

theorem dgateOf_at (Z F D) (r k) (a f d : ℝ) (hZ : Z (ix2 r k) = (a : EReal)) (hF : F (ix2 r k) = (f : EReal)) (hD : D (ix2 r k) = (d : EReal)) :
    dgateOf Z F D (ix2 r k) = ((d * f * (sg a * (1 + a * (1 - sg a))) : ℝ) : EReal) := by
  pointwise [dgateOf]; rw [sgN_at Z r k a hZ, hZ, hF, hD, one_sub_coe]; simp only [← EReal.coe_mul, ← EReal.coe_add]; congr 1; ring

theorem doOf_at (D S) (r) (k : Fin 512) : doOf D S (ix3 (head k) r (lane k)) = D (ix2 r k) * S (ix2 r k) := by
  pointwise [doOf]

/-! ## The reference over the arguments -/

variable {m : (ℓ : Loc nD τ sig) → Buf (Elt Ideal) ℓ} {c : Dev nD}

/-- The arguments are these reals. -/
structure Args (m : (ℓ : Loc nD τ sig) → Buf (Elt Ideal) ℓ) (c : Dev nD) (W : Weights) (R : Fin 2048 → Row) : Prop where
  x : ∀ r l, X m c (ix2 r l) = ((R r).x l : EReal)
  t : ∀ r l, T m c (ix2 r l) = ((R r).t l : EReal)
  ya : ∀ r k, YA m c (ix2 r k) = ((R r).ya k : EReal)
  o : ∀ r k, O m c (ix3 (head k) r (lane k)) = ((R r).o k : EReal)
  gate : ∀ r (k : Fin 512), UB m c (ix2 r ⟨1536 + k, by omega⟩) = ((R r).gate k : EReal)
  ga : ∀ r (l : Fin 1024), UG m c (ix2 r ⟨l, by omega⟩) = ((R r).ga l : EReal)
  gb : ∀ r (l : Fin 1024), UG m c (ix2 r ⟨1024 + l, by omega⟩) = ((R r).gb l : EReal)
  wa : ∀ k l, WA m c (ix2 k l) = (W.wa k l : EReal)
  wb : ∀ k l, WB m c (ix2 k l) = (W.wb k l : EReal)
  wo : ∀ k l, WO m c (ix2 k l) = (W.wo k l : EReal)
  g : ∀ l, G m c (ix2 0 l) = (W.g l : EReal)

variable {W : Weights} {R : Fin 2048 → Row} (A : Args m c W R)
include A

theorem gate_at (r k) : gateOf (UB m c) (ix2 r k) = ((R r).gate k : EReal) := (gateOf_at _ r k).trans (A.gate r k)
theorem ga_at (r l) : gaOf (UG m c) (ix2 r l) = ((R r).ga l : EReal) := (gaOf_at _ r l).trans (A.ga r l)
theorem gb_at (r l) : gbOf (UG m c) (ix2 r l) = ((R r).gb l : EReal) := (gbOf_at _ r l).trans (A.gb r l)
theorem o_at (r k) : flat (O m c) (ix2 r k) = ((R r).o k : EReal) := (flat_at _ r k).trans (A.o r k)

theorem yB_at (r k) : yB m c (ix2 r k) = (yb (R r) k : EReal) := by
  pointwise [yB]; rw [o_at A, silu_at _ r k _ (gate_at A r k), ← EReal.coe_mul]; rfl

theorem pA_at (r l) : pA m c (ix2 r l) = (bigA W (R r) l : EReal) := proj_at _ _ r l _ _ (A.ya r) A.wa
theorem pB_at (r l) : pB m c (ix2 r l) = (bigB W (R r) l : EReal) := proj_at _ _ r l _ _ (yB_at A r) A.wb

theorem mrg_at (r l) : mrg m c (ix2 r l) = (merged W (R r) l : EReal) := by
  pointwise [mrg, merge]
  rw [sgW_at _ r l _ (ga_at A r l), sgW_at _ r l _ (gb_at A r l), pA_at A, pB_at A, ← EReal.coe_mul, ← EReal.coe_mul, ← EReal.coe_add]; rfl

theorem z_at (r l) : z m c (ix2 r l) = (x2 W (R r) l : EReal) := by
  pointwise [z, stream]; simp only [mrg_at A, A.wo, A.x, ← EReal.coe_mul, coe_sum, ← EReal.coe_add]; rfl

theorem er_at (r l) : er m c (ix2 r l) = (err W (R r) l : EReal) := by
  pointwise [er, errOf]
  rw [normed_at (z_at A), weights_at, A.g, A.t, ← EReal.coe_mul, ← EReal.coe_sub]; rfl

theorem dOut_at (r l) : dOut m c (ix2 r l) = (dout W (R r) l : EReal) := doutOf_at _ r l _ (er_at A r l)

theorem dX_at (r l) : dX m c (ix2 r l) = (dx W (R r) l : EReal) :=
  dxOf_at (z_at A) W.g (fun r => dout W (R r)) (fun r l => by
    pointwise; rw [dOut_at A, weights_at, A.g, ← EReal.coe_mul]) r l

theorem dM_at (r l) : dM m c (ix2 r l) = (dm W (R r) l : EReal) := by
  pointwise [dM, dmOf]; simp only [dX_at A, A.wo, ← EReal.coe_mul, coe_sum]; rfl

theorem dPA_at (r l) : dPA m c (ix2 r l) = (dA W (R r) l : EReal) := by
  pointwise [dPA, gated]; rw [sgW_at _ r l _ (ga_at A r l), dM_at A, ← EReal.coe_mul, mul_comm]; rfl

theorem dPB_at (r l) : dPB m c (ix2 r l) = (dB W (R r) l : EReal) := by
  pointwise [dPB, gated]; rw [sgW_at _ r l _ (gb_at A r l), dM_at A, ← EReal.coe_mul, mul_comm]; rfl

theorem dYB_at (r k) : dYB m c (ix2 r k) = (dyb W (R r) k : EReal) := dprojY_at _ _ r k _ _ (dPB_at A r) A.wb

/-! ## The results -/

theorem loss_at : (res_out0 m c : FVec Ideal S1x1 .f32) (ix2 0 0) = ((∑ r, 1 / 2048 * rowLoss W (R r) : ℝ) : EReal) := by
  rw [out0]; exact lossOf_at _ _ (er_at A)
theorem dg_at (l) : (res_out1 m c : FVec Ideal S1x1024 .f32) (ix2 0 l) = ((∑ r, dout W (R r) l * (x2 W (R r) l * rs (x2 W (R r))) : ℝ) : EReal) := by
  rw [out1]; exact dgOf_at _ _ _ _ (normed_at (z_at A)) (dOut_at A) l
theorem dwo_at (k l) : (res_out2 m c : FVec Ideal S1024x1024 .f32) (ix2 k l) = ((∑ r, merged W (R r) k * dx W (R r) l : ℝ) : EReal) := by
  rw [out2]; exact dwoOf_at _ _ k l _ _ (dX_at A) (mrg_at A)
theorem dwa_at (k l) : (res_out3 m c : FVec Ideal S512x1024 .f32) (ix2 k l) = ((∑ r, (R r).ya k * dA W (R r) l : ℝ) : EReal) := by
  rw [out3]; exact dprojW_at _ _ k l _ _ (dPA_at A) A.ya
theorem dwb_at (k l) : (res_out4 m c : FVec Ideal S512x1024 .f32) (ix2 k l) = ((∑ r, yb (R r) k * dB W (R r) l : ℝ) : EReal) := by
  rw [out4]; exact dprojW_at _ _ k l _ _ (dPB_at A) (yB_at A)
theorem dx_at (r l) : (res_out5 m c : FVec Ideal S2048x1024 .f32) (ix2 r l) = (dx W (R r) l : EReal) := by
  rw [out5]; exact dX_at A r l
theorem dya_at (r k) : (res_out6 m c : FVec Ideal S2048x512 .f32) (ix2 r k) = (dya W (R r) k : EReal) := by
  rw [out6]; exact dprojY_at _ _ r k _ _ (dPA_at A r) A.wa
theorem do_at (r k) : (res_out7 m c : FVec Ideal S8x2048x64 .f32) (ix3 (head k) r (lane k)) = (dov W (R r) k : EReal) := by
  rw [out7, doOf_at, dYB_at A, silu_at _ r k _ (gate_at A r k), ← EReal.coe_mul]; rfl
theorem dgate_at (r k) : (res_out8 m c : FVec Ideal S2048x512 .f32) (ix2 r k) = (dgate W (R r) k : EReal) := by
  rw [out8]; exact dgateOf_at _ _ _ r k _ _ _ (gate_at A r k) (o_at A r k) (dYB_at A r k)
theorem dga_at (r) (l : Fin 1024) : (res_out9 m c : FVec Ideal S2048x2048 .bf16) (ix2 r ⟨l, by omega⟩) = (dga W (R r) l : EReal) := by
  rw [out9]
  pointwise [fn_main_v105]
  exact dgateW_at _ _ _ r l _ _ _ (ga_at A r l) (dM_at A r l) (pA_at A r l)
theorem dgb_at (r) (l : Fin 1024) : (res_out9 m c : FVec Ideal S2048x2048 .bf16) (ix2 r ⟨1024 + l, by omega⟩) = (dgb W (R r) l : EReal) := by
  rw [out9]
  pointwise [fn_main_v105]
  exact dgateW_at _ _ _ r l _ _ _ (gb_at A r l) (dM_at A r l) (pB_at A r l)

end Cert.TailReferenceIdeal.Hand

end
-- ==== Proof.Tail.Claim.lean ====
/- The kernel and the reference leave the same loss and the same gradients of the layer's tail. -/
module

public import proofs.«01_k».proof.Defs
public import proofs.«01_k».proof.Proof.Gen.Pre_tail_finite
public import proofs.«01_k».proof.Proof.Tail.Value
public import proofs.«01_k».proof.Proof.Tail.RefReads

@[expose] public section

set_option maxRecDepth 16384

noncomputable section

open Idealize.ShloMosaic Idealize.ShloMosaic.TcCoe Idealize.SL.Sem
open Cert.Reals

namespace Cert.Tail

open Cert.TailKernelIdeal in
/-- The precondition, read: every argument is an array of reals, which are the rows and the weights. -/
theorem reals_of_pre (A0 A1 : FVec Ideal S2048x1024 .f32) (A2 : FVec Ideal S2048x512 .f32) (A3 : FVec Ideal S8x2048x64 .f32) (A4 A5 : FVec Ideal S2048x2048 .f32)
    (A6 A7 : FVec Ideal S512x1024 .f32) (A8 : FVec Ideal S1024x1024 .f32) (A9 : FVec Ideal S1x1024 .f32)
    (h : ∀ i, Cert.Pre_tail_finite.fn A0 A1 A2 A3 A4 A5 A6 A7 A8 A9 i = 1#1) :
    ∃ (W : Weights) (R : Fin 2048 → Row), (∀ r l, A0 (ix2 r l) = ((R r).x l : EReal)) ∧ (∀ r l, A1 (ix2 r l) = ((R r).t l : EReal))
      ∧ (∀ r k, A2 (ix2 r k) = ((R r).ya k : EReal)) ∧ (∀ r k, A3 (ix3 (head k) r (lane k)) = ((R r).o k : EReal))
      ∧ (∀ r (k : Fin 512), A4 (ix2 r ⟨1536 + k, by omega⟩) = ((R r).gate k : EReal))
      ∧ (∀ r (l : Fin 1024), A5 (ix2 r ⟨l, by omega⟩) = ((R r).ga l : EReal))
      ∧ (∀ r (l : Fin 1024), A5 (ix2 r ⟨1024 + l, by omega⟩) = ((R r).gb l : EReal))
      ∧ (∀ k l, A6 (ix2 k l) = (W.wa k l : EReal)) ∧ (∀ k l, A7 (ix2 k l) = (W.wb k l : EReal))
      ∧ (∀ k l, A8 (ix2 k l) = (W.wo k l : EReal)) ∧ ∀ l, A9 (ix2 0 l) = (W.g l : EReal) := by
  have h := h (fun a => a.elim0)
  dsimp only [Cert.Pre_tail_finite.fn, Cert.Pre_tail_finite.fn_part1, Cert.Pre_tail_finite.fn_part2, andi] at h
  obtain ⟨h, h9⟩ := IntOp.andi_eq_one.mp h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have : Subsingleton Cert.Pre_tail_finite.S_.Idx := ⟨fun a b => funext fun i => i.elim0⟩
  obtain ⟨a0, e0⟩ := exists_of_finite A0 _ (fun i => ofBits_inf) _ _ _ _ h0
  obtain ⟨a1, e1⟩ := exists_of_finite A1 _ (fun i => ofBits_inf) _ _ _ _ h1
  obtain ⟨a2, e2⟩ := exists_of_finite A2 _ (fun i => ofBits_inf) _ _ _ _ h2
  obtain ⟨a3, e3⟩ := exists_of_finite A3 _ (fun i => ofBits_inf) _ _ _ _ h3
  obtain ⟨a4, e4⟩ := exists_of_finite A4 _ (fun i => ofBits_inf) _ _ _ _ h4
  obtain ⟨a5, e5⟩ := exists_of_finite A5 _ (fun i => ofBits_inf) _ _ _ _ h5
  obtain ⟨a6, e6⟩ := exists_of_finite A6 _ (fun i => ofBits_inf) _ _ _ _ h6
  obtain ⟨a7, e7⟩ := exists_of_finite A7 _ (fun i => ofBits_inf) _ _ _ _ h7
  obtain ⟨a8, e8⟩ := exists_of_finite A8 _ (fun i => ofBits_inf) _ _ _ _ h8
  obtain ⟨a9, e9⟩ := exists_of_finite A9 _ (fun i => ofBits_inf) _ _ _ _ h9
  exact ⟨⟨fun k l => a6 (ix2 k l), fun k l => a7 (ix2 k l), fun k l => a8 (ix2 k l), fun l => a9 (ix2 0 l)⟩,
    fun r => ⟨fun l => a0 (ix2 r l), fun l => a1 (ix2 r l), fun k => a2 (ix2 r k), fun k => a3 (ix3 (head k) r (lane k)),
      fun k => a4 (ix2 r ⟨1536 + k, by omega⟩), fun l => a5 (ix2 r ⟨l, by omega⟩), fun l => a5 (ix2 r ⟨1024 + l, by omega⟩)⟩,
    fun _ _ => e0 _, fun _ _ => e1 _, fun _ _ => e2 _, fun _ _ => e3 _, fun _ _ => e4 _, fun _ _ => e5 _, fun _ _ => e5 _,
    fun _ _ => e6 _, fun _ _ => e7 _, fun _ _ => e8 _, fun _ => e9 _⟩

/-- The reference runs and keeps its arguments; it has no semaphore. -/
theorem ref_frame : Cert.quiescent_TailReferenceIdeal := fun m ρ _ =>
  (θ_run _ _ _).mono (fun _ h => ⟨fun c => (h c).2.2.2.2.2.2.2.2.2.2, sem_eq_zero_of_no_sems rfl _⟩) (Cert.TailReferenceIdeal.Value.run m ρ)

/-- The value claim. -/
theorem algebraic : Cert.algebraic_TailKernelIdeal_TailReferenceIdeal_pre_tail_finite := by
  intro m g m' g' hpre hargs
  have hfin := fun c => reals_of_pre _ _ _ _ _ _ _ _ _ _ fun i => congrFun (hpre c) i
  refine ⟨fun c => (Cert.TailKernelIdeal.Gen.dats m 0 c).arrAt 10 _, fun c => (Cert.TailKernelIdeal.Gen.dats m 0 c).arrAt 11 _,
    fun c => (Cert.TailKernelIdeal.Gen.dats m 0 c).arrAt 12 _, fun c => (Cert.TailKernelIdeal.Gen.dats m 0 c).arrAt 13 _,
    fun c => (Cert.TailKernelIdeal.Gen.dats m 0 c).arrAt 14 _, fun c => (Cert.TailKernelIdeal.Gen.dats m 0 c).arrAt 15 _,
    fun c => (Cert.TailKernelIdeal.Gen.dats m 0 c).arrAt 16 _, fun c => (Cert.TailKernelIdeal.Gen.dats m 0 c).arrAt 17 _,
    fun c => (Cert.TailKernelIdeal.Gen.dats m 0 c).arrAt 18 _, fun c => (Cert.TailKernelIdeal.Gen.dats m 0 c).arrAt 19 _,
    Cert.TailKernelIdeal.Value.run_blocks m g, (θ_run _ _ _).mono (fun r h c => ?_) (Cert.TailReferenceIdeal.Value.run m' g')⟩
  obtain ⟨h0, h1, h2, h3, h4, h5, h6, h7, h8, h9, hkept⟩ := h c
  obtain ⟨W, R, e0, e1, e2, e3, e4, e5, e5', e6, e7, e8, e9⟩ := hfin c
  obtain ⟨a0, a1, a2, a3, a4, a5, a6, a7, a8, a9⟩ := hargs c
  have K : Cert.Tail.Args m c W R := ⟨e0, e1, e2, e3, e4, e5, e5', e6, e7, e8, e9⟩
  have A : Cert.TailReferenceIdeal.Hand.Args m' c W R :=
    ⟨fun r l => (congrFun a0 _).trans (e0 r l), fun r l => (congrFun a1 _).trans (e1 r l), fun r k => (congrFun a2 _).trans (e2 r k),
      fun r k => (congrFun a3 _).trans (e3 r k), fun r k => (congrFun a4 _).trans (e4 r k), fun r l => (congrFun a5 _).trans (e5 r l),
      fun r l => (congrFun a5 _).trans (e5' r l), fun k l => (congrFun a6 _).trans (e6 k l), fun k l => (congrFun a7 _).trans (e7 k l),
      fun k l => (congrFun a8 _).trans (e8 k l), fun l => (congrFun a9 _).trans (e9 l)⟩
  exact ⟨h0.trans (final_loss K _ (TailReferenceIdeal.Hand.loss_at A)).symm,
    h1.trans (final_dg K _ (TailReferenceIdeal.Hand.dg_at A)).symm,
    h2.trans (final_dwo K _ (TailReferenceIdeal.Hand.dwo_at A)).symm,
    h3.trans (final_dwa K _ (TailReferenceIdeal.Hand.dwa_at A)).symm,
    h4.trans (final_dwb K _ (TailReferenceIdeal.Hand.dwb_at A)).symm,
    h5.trans (final_dx K _ (TailReferenceIdeal.Hand.dx_at A)).symm,
    h6.trans (final_dya K _ (TailReferenceIdeal.Hand.dya_at A)).symm,
    h7.trans (final_do K _ (TailReferenceIdeal.Hand.do_at A)).symm,
    h8.trans (final_dgate K _ (TailReferenceIdeal.Hand.dgate_at A)).symm,
    h9.trans (final_dug K _ (TailReferenceIdeal.Hand.dga_at A) (TailReferenceIdeal.Hand.dgb_at A)).symm, hkept⟩

end Cert.Tail

end
-- ==== Proof.HeadSums.lean ====
/- Sums over the 64 lanes of a head: a block of 512 columns is four groups of 128 lanes, each of two heads, and the body sums
   the lower and the upper half of a group under a lane mask. -/
module

public import proofs.«01_k».proof.Proof.Tail.Math

@[expose] public section

noncomputable section

open Idealize.ShloMosaic Idealize.ShloMosaic.TcCoe Idealize.SL.Sem
open Cert.Reals

namespace Cert.HeadSums

/-- Column `j` of the head that column `k` lies in. -/
def hd (k : Fin 512) (j : Fin 64) : Fin 512 := ⟨64 * (k / 64) + j, by have := k.isLt; have := j.isLt; omega⟩

/-- The sum over the head of column `k`. -/
def hsum {M : Type} [AddCommMonoid M] (f : Fin 512 → M) (k : Fin 512) : M := ∑ j, f (hd k j)

theorem hd_hd (k : Fin 512) (j i : Fin 64) : hd (hd k j) i = hd k i := by
  refine Fin.ext ?_; simp only [hd]; have := j.isLt; omega

theorem hsum_hd {M : Type} [AddCommMonoid M] (f : Fin 512 → M) (k : Fin 512) (j : Fin 64) : hsum f (hd k j) = hsum f k := by
  simp only [hsum, hd_hd]

theorem coe_hsum (f : Fin 512 → ℝ) (k : Fin 512) : hsum (fun k => (f k : EReal)) k = ((hsum f k : ℝ) : EReal) :=
  coe_sum _ _

/-- The lane mask: the lower half of a group's lanes. -/
def mask (l : Fin 128) : BitVec 1 := if l.val < 64 then 1#1 else 0#1

theorem mask_eq (l : Fin 128) : IntOp.cmpi .slt (BitVec.ofNat 32 l) 64#32 = mask l := by
  have : IntOp.cmpi .slt (BitVec.ofNat 32 l) (BitVec.ofNat 32 64) = 1#1 ↔ l.val < 64 :=
    WordCmp.cmpi_slt_ofNat_eq_one_iff (by have := l.isLt; omega) (by omega)
  by_cases hl : l.val < 64
  · rw [mask, if_pos hl]; exact this.mpr hl
  · rw [mask, if_neg hl]
    exact (WordCmp.cmpi_slt_ofNat_eq_zero_iff (w := 32) (b := 64) (by have := l.isLt; omega) (by omega)).mpr (by omega)

theorem select_mask {α : Type} (l : Fin 128) (a b : α) : Scalar.select (mask l) a b = if l.val < 64 then a else b := by
  by_cases hl : l.val < 64 <;> simp [mask, hl, Scalar.select]

theorem sum_low {M : Type} [AddCommMonoid M] (f : Fin 128 → M) :
    (∑ l : Fin 128, if l.val < 64 then f l else 0) = ∑ j : Fin 64, f ⟨j, by omega⟩ := by
  rw [show (∑ l : Fin 128, if l.val < 64 then f l else 0) = ∑ l : Fin (64 + 64), if l.val < 64 then f l else 0 from rfl, Fin.sum_univ_add]
  simp; rfl

theorem sum_high {M : Type} [AddCommMonoid M] (f : Fin 128 → M) :
    (∑ l : Fin 128, if l.val < 64 then 0 else f l) = ∑ j : Fin 64, f ⟨64 + j, by omega⟩ := by
  rw [show (∑ l : Fin 128, if l.val < 64 then 0 else f l) = ∑ l : Fin (64 + 64), if l.val < 64 then 0 else f l from rfl, Fin.sum_univ_add]
  simp; rfl

/-- Both halves' sums, each under its mask, at lane `l`. -/
theorem sum_group {M : Type} [AddCommMonoid M] (f : Fin 128 → M) (l : Fin 128) :
    (if l.val < 64 then ∑ x : Fin 128, (if x.val < 64 then f x else 0) else ∑ x : Fin 128, if x.val < 64 then 0 else f x)
      = ∑ j : Fin 64, f ⟨64 * (l / 64) + j, by omega⟩ := by
  rw [sum_low, sum_high]
  split_ifs with h
  · exact Finset.sum_congr rfl fun j _ => congrArg f (Fin.ext (by simp only; omega))
  · exact Finset.sum_congr rfl fun j _ => congrArg f (Fin.ext (by simp only; omega))

/-- The same with the mask as the body computes it. -/
theorem select_group (f : Fin 128 → EReal) (l : Fin 128) :
    Scalar.select (IntOp.cmpi .slt (BitVec.ofNat 32 l) 64#32)
        (∑ x : Fin 128, Scalar.select (IntOp.cmpi .slt (BitVec.ofNat 32 x) 64#32) (f x) 0)
        (∑ x : Fin 128, Scalar.select (IntOp.cmpi .slt (BitVec.ofNat 32 x) 64#32) 0 (f x))
      = ∑ j : Fin 64, f ⟨64 * (l / 64) + j, by omega⟩ := by
  simp only [mask_eq, select_mask]; exact sum_group f l

theorem sum_select_low (f : Fin 128 → EReal) :
    (∑ x : Fin 128, Scalar.select (IntOp.cmpi .slt (BitVec.ofNat 32 x) 64#32) (f x) 0) = ∑ j : Fin 64, f ⟨j, by omega⟩ := by
  simp only [mask_eq, select_mask, sum_low]

end Cert.HeadSums
end
-- ==== Proof.Foxpre.Tile.lean ====
/- The head sums as the body takes them, forward and backward. -/
module

public import proofs.«01_k».proof.Proof.Gen.FoxpreKernelIdeal.Frame
public import proofs.«01_k».proof.Proof.HeadSums

@[expose] public section

set_option maxRecDepth 16384

noncomputable section

open Idealize.ShloMosaic Idealize.ShloMosaic.TcCoe Idealize.SL.Sem
open Cert.Reals Cert.HeadSums Cert.FoxpreKernelIdeal Cert.FoxpreKernelIdeal.Gen

namespace Cert.Foxpre

/-! ## The sums of squares -/

section Squares
variable (x : FVec Ideal S256x512 .f32) (r : Fin 256)

theorem low_at (l : Fin 128) : k0_pay14 (iota Kind.tc S256x128 32 [1] iota_S256x128_d1_w32) 64#32 (ix2 r l) = mask l := by
  pointwise [k0_pay14]; exact mask_eq l

theorem low'_at (l : Fin 128) : k0_pay25 (ix2 r l) = mask l := by
  pointwise [k0_pay25]; exact mask_eq l

theorem pay15_at (l : Fin 128) : k0_pay15 (F := Ideal) x (iota Kind.tc S256x128 32 [1] iota_S256x128_d1_w32) 64#32 (ix2 r l)
    = ∑ j : Fin 64, x (ix2 r ⟨64 * (l.val / 64) + j, by omega⟩) := by
  pointwise [k0_pay15, k0_pay14]
  exact select_group (fun l => x (ix2 r ⟨l.val, by omega⟩)) l

theorem pay16_at (l : Fin 128) : k0_pay16 (F := Ideal) x (iota Kind.tc S256x128 32 [1] iota_S256x128_d1_w32) 64#32 (ix2 r l)
    = ∑ j : Fin 64, x (ix2 r ⟨128 + (64 * (l.val / 64) + j), by omega⟩) := by
  pointwise [k0_pay16, k0_pay14]
  exact select_group (fun l => x (ix2 r ⟨128 + l.val, by omega⟩)) l

theorem pay17_at (l : Fin 128) : k0_pay17 (F := Ideal) x (iota Kind.tc S256x128 32 [1] iota_S256x128_d1_w32) 64#32 (ix2 r l)
    = ∑ j : Fin 64, x (ix2 r ⟨256 + (64 * (l.val / 64) + j), by omega⟩) := by
  pointwise [k0_pay17, k0_pay14]
  exact select_group (fun l => x (ix2 r ⟨256 + l.val, by omega⟩)) l

theorem pay18_at (l : Fin 128) : k0_pay18 (F := Ideal) x (ix2 r l) = x (ix2 r ⟨384 + l.val, by omega⟩) := by
  pointwise [k0_pay18]

theorem pay19_at (l : Fin 128) : k0_pay19 (F := Ideal) x (iota Kind.tc S256x128 32 [1] iota_S256x128_d1_w32) 64#32 (ix2 r l)
    = if l.val < 64 then x (ix2 r ⟨384 + l.val, by omega⟩) else 0 := by
  rw [← select_mask, ← mask_eq]
  pointwise [k0_pay19, k0_pay18, k0_pay14]

theorem pay26_at (l : Fin 128) : k0_pay26 (F := Ideal) x (ix2 r l) = ∑ j : Fin 64, k0_pay24 x (ix2 r ⟨64 * (l.val / 64) + j, by omega⟩) := by
  pointwise [k0_pay26, k0_pay25]
  exact select_group (fun l => k0_pay24 x (ix2 r ⟨l.val, by omega⟩)) l

theorem pay28_at : k0_pay28 (F := Ideal) x (ix2 r 0) = ∑ j : Fin 64, k0_pay24 x (ix2 r ⟨128 + j, by omega⟩) := by
  pointwise [k0_pay28, k0_pay27, k0_pay25]
  exact sum_select_low (fun l => k0_pay24 x (ix2 r ⟨128 + l.val, by omega⟩))

theorem pay29_at (l : Fin 128) :
    k0_pay29 (F := Ideal) x (ix2 r l) = if l.val < 64 then 0 else k0_pay24 x (ix2 r ⟨128 + l.val, by omega⟩) := by
  rw [← select_mask, ← mask_eq]
  pointwise [k0_pay29, k0_pay27, k0_pay25]

variable (f : Fin 512 → EReal)

theorem pay20_at (v34 v48 v62 v76 v77 v79) (k : Fin 512) (h34 : ∀ l, v34 (ix2 r l) = mask l)
    (h48 : ∀ l, v48 (ix2 r l) = ∑ j : Fin 64, f ⟨64 * (l.val / 64) + j, by omega⟩)
    (h62 : ∀ l, v62 (ix2 r l) = ∑ j : Fin 64, f ⟨128 + (64 * (l.val / 64) + j), by omega⟩)
    (h76 : ∀ l, v76 (ix2 r l) = ∑ j : Fin 64, f ⟨256 + (64 * (l.val / 64) + j), by omega⟩)
    (h77 : ∀ l, v77 (ix2 r l) = f ⟨384 + l.val, by omega⟩) (h79 : ∀ l : Fin 128, v79 (ix2 r l) = if l.val < 64 then f ⟨384 + l.val, by omega⟩ else 0) :
    k0_pay20 (F := Ideal) v34 v48 v62 v76 v77 v79 (ix2 r k)
      = hsum f k * Ideal.ofBits FTy.f32 0x3C800000#32 + Ideal.ofBits FTy.f32 0x358637BD#32 := by
  pointwise [k0_pay20]
  simp only [h34, h48, h62, h76, h77, h79, select_mask, sum_low, sum_high]
  congr 2
  have hk := k.isLt
  split_ifs <;> exact Finset.sum_congr rfl fun j _ => congrArg f (Fin.ext (by simp only [hd] <;> omega))

theorem pay30_at (v101 v104 v118 v123 v125) (k : Fin 512) (h101 : ∀ k, v101 (ix2 r k) = f k) (h104 : ∀ l, v104 (ix2 r l) = mask l)
    (h118 : ∀ l, v118 (ix2 r l) = ∑ j : Fin 64, f ⟨64 * (l.val / 64) + j, by omega⟩)
    (h123 : v123 (ix2 r 0) = ∑ j : Fin 64, f ⟨128 + j, by omega⟩)
    (h125 : ∀ l : Fin 128, v125 (ix2 r l) = if l.val < 64 then 0 else f ⟨128 + l.val, by omega⟩) :
    k0_pay30 (F := Ideal) v101 v104 v118 v123 v125 (ix2 r k)
      = hsum f k * Ideal.ofBits FTy.f32 0x3C800000#32 + Ideal.ofBits FTy.f32 0x358637BD#32 := by
  pointwise [k0_pay30]
  simp only [h101, h104, h118, h123, h125, select_mask, sum_low, sum_high]
  congr 2
  have hk := k.isLt
  split_ifs <;> exact Finset.sum_congr rfl fun j _ => congrArg f (Fin.ext (by simp only [hd] <;> omega))

end Squares

/-! ## The sums' transposes -/

section Transposes
variable (r : Fin 256) (f : Fin 512 → EReal)

theorem pay62_at (v24 v28 v104 v169 v223) (k : Fin 512) (h104 : ∀ l, v104 (ix2 r l) = mask l) (h : ∀ k, k0_pay58 v24 v28 v169 v223 (ix2 r k) = f k) :
    k0_pay62 (F := Ideal) v24 v28 v104 v169 v223 (ix2 r k) = if k.val < 384 then 0 else hsum f k := by
  pointwise [k0_pay62]
  simp only [h, h104, select_mask, sum_low, sum_high, Fin.sum_univ_one]
  have hk := k.isLt
  split_ifs <;> simp only [add_zero, zero_add] <;> exact Finset.sum_congr rfl fun j _ => congrArg f (Fin.ext (by simp only [hd] <;> omega))

theorem pay66_at (v104 v251 v273 v278 v279) (k : Fin 512) (h104 : ∀ l, v104 (ix2 r l) = mask l)
    (h251 : ∀ l, v251 (ix2 r l) = f ⟨128 + l.val, by omega⟩) (h273 : ∀ k, v273 (ix2 r k) = if k.val < 384 then 0 else hsum f k)
    (h278 : v278 (ix2 r 0) = ∑ j : Fin 64, f ⟨256 + (64 + j), by omega⟩) (h279 : v279 (ix1 r) = ∑ j : Fin 64, f ⟨256 + j, by omega⟩) :
    k0_pay66 (F := Ideal) v104 v251 v273 v278 v279 (ix2 r k) = if k.val < 128 then 0 else hsum f k := by
  pointwise [k0_pay66]
  simp only [h251, h273, h278, h279, h104, select_mask, sum_low, sum_high, Fin.sum_univ_one]
  have hk := k.isLt
  split_ifs <;> first | omega | skip
  all_goals simp only [add_zero, zero_add]
  all_goals exact Finset.sum_congr rfl fun j _ => congrArg f (Fin.ext (by simp only [hd] <;> omega))

theorem pay70_at (v24 v104 v246 v319 v322 v324) (k : Fin 512) (h104 : ∀ l, v104 (ix2 r l) = mask l)
    (h319 : ∀ k, v319 (ix2 r k) = if k.val < 128 then 0 else hsum f k)
    (h322 : ∀ l : Fin 128, v322 (ix2 r l) = if l.val < 64 then f ⟨l.val, by omega⟩ else 0) (h324 : v324 (ix2 r 0) = ∑ j : Fin 64, f ⟨64 + j, by omega⟩) :
    k0_pay70 (F := Ideal) v24 v104 v246 v319 v322 v324 (ix2 r k) = v246 (ix2 r k) + v24 (ix2 r k) * hsum f k + hsum f k * v24 (ix2 r k) := by
  pointwise [k0_pay70]
  simp only [h319, h322, h324, h104, select_mask, sum_low, sum_high, Fin.sum_univ_one]
  have hk := k.isLt
  split_ifs <;> first | omega | skip
  all_goals simp only [add_zero, zero_add]
  all_goals refine congrArg (fun s => v246 (ix2 r k) + v24 (ix2 r k) * s + s * v24 (ix2 r k)) ?_
  all_goals exact Finset.sum_congr rfl fun j _ => congrArg f (Fin.ext (by simp only [hd] <;> omega))

theorem pay80_at (v22 v27 v34 v99 v206) (h34 : ∀ l, v34 (ix2 r l) = mask l) (h : ∀ k, k0_pay74 v22 v27 v99 v206 (ix2 r k) = f k) :
    k0_pay80 (F := Ideal) v22 v27 v34 v99 v206 (ix2 r 0) = ∑ j : Fin 64, f ⟨384 + j, by omega⟩ := by
  pointwise [k0_pay80, k0_pay79, k0_pay78]
  simp only [h, h34, select_mask, sum_low]

theorem pay81_at (v22 v27 v34 v99 v206) (l : Fin 128) (h34 : ∀ l, v34 (ix2 r l) = mask l) (h : ∀ k, k0_pay74 v22 v27 v99 v206 (ix2 r k) = f k) :
    k0_pay81 (F := Ideal) v22 v27 v34 v99 v206 (ix2 r l) = if l.val < 64 then 0 else ∑ j : Fin 64, f ⟨384 + (64 + j), by omega⟩ := by
  pointwise [k0_pay81, k0_pay79, k0_pay78]
  simp only [h, h34, select_mask, sum_high, Fin.sum_univ_one]

theorem pay82_at (v34 v357 v365 v370) (k : Fin 512) (h34 : ∀ l, v34 (ix2 r l) = mask l) (h357 : ∀ l, v357 (ix2 r l) = f ⟨256 + l.val, by omega⟩)
    (h365 : v365 (ix2 r 0) = ∑ j : Fin 64, f ⟨384 + j, by omega⟩)
    (h370 : ∀ l : Fin 128, v370 (ix2 r l) = if l.val < 64 then 0 else ∑ j : Fin 64, f ⟨384 + (64 + j), by omega⟩) :
    k0_pay82 (F := Ideal) v34 v357 v365 v370 (ix2 r k) = if k.val < 256 then 0 else hsum f k := by
  pointwise [k0_pay82]
  simp only [h34, h357, h365, h370, select_mask, sum_low, sum_high, Fin.sum_univ_one]
  have hk := k.isLt
  split_ifs <;> first | omega | skip
  all_goals simp only [add_zero, zero_add]
  all_goals exact Finset.sum_congr rfl fun j _ => congrArg f (Fin.ext (by simp only [hd] <;> omega))

theorem pay84_at (v34 v356) (l : Fin 128) (h34 : ∀ l, v34 (ix2 r l) = mask l) (h356 : ∀ l, v356 (ix2 r l) = f ⟨128 + l.val, by omega⟩) :
    k0_pay84 (F := Ideal) v34 v356 (ix2 r l) = if l.val < 64 then 0 else ∑ j : Fin 64, f ⟨128 + (64 + j), by omega⟩ := by
  pointwise [k0_pay84, k0_pay83]
  simp only [h34, h356, select_mask, sum_high, Fin.sum_univ_one]

theorem pay85_at (v34 v356) (h34 : ∀ l, v34 (ix2 r l) = mask l) (h356 : ∀ l, v356 (ix2 r l) = f ⟨128 + l.val, by omega⟩) :
    k0_pay85 (F := Ideal) v34 v356 (ix1 r) = ∑ j : Fin 64, f ⟨128 + j, by omega⟩ := by
  pointwise [k0_pay85, k0_pay83]
  simp only [h34, h356, select_mask, sum_low, Fin.sum_univ_one]

theorem pay86_at (v22 v34 v351 v355 v401 v413 v414) (k : Fin 512) (h34 : ∀ l, v34 (ix2 r l) = mask l)
    (h355 : ∀ l, v355 (ix2 r l) = f ⟨l.val, by omega⟩) (h401 : ∀ k, v401 (ix2 r k) = if k.val < 256 then 0 else hsum f k)
    (h413 : ∀ l : Fin 128, v413 (ix2 r l) = if l.val < 64 then 0 else ∑ j : Fin 64, f ⟨128 + (64 + j), by omega⟩)
    (h414 : v414 (ix1 r) = ∑ j : Fin 64, f ⟨128 + j, by omega⟩) :
    k0_pay86 (F := Ideal) v22 v34 v351 v355 v401 v413 v414 (ix2 r k) = v351 (ix2 r k) + v22 (ix2 r k) * hsum f k + hsum f k * v22 (ix2 r k) := by
  pointwise [k0_pay86]
  simp only [h34, h355, h401, h413, h414, select_mask, sum_low, sum_high, Fin.sum_univ_one]
  have hk := k.isLt
  split_ifs <;> first | omega | skip
  all_goals simp only [add_zero, zero_add]
  all_goals refine congrArg (fun s => v351 (ix2 r k) + v22 (ix2 r k) * s + s * v22 (ix2 r k)) ?_
  all_goals exact Finset.sum_congr rfl fun j _ => congrArg f (Fin.ext (by simp only [hd] <;> omega))

end Transposes

end Cert.Foxpre
end
-- ==== Proof.HeadNorm.lean ====
/- The RMS norm of a head's 64 columns and its gradient, over the reals; columns are numbered through all eight heads. -/
module

public import proofs.«01_k».proof.Proof.HeadSums

@[expose] public section

noncomputable section

open Idealize.ShloMosaic Idealize.ShloMosaic.TcCoe Idealize.SL.Sem
open Cert.Reals Cert.HeadSums

namespace Cert.HeadNorm

theorem hsum_nonneg (f : Fin 512 → ℝ) (h : ∀ k, 0 ≤ f k) (k : Fin 512) : 0 ≤ hsum f k := Finset.sum_nonneg fun _ _ => h _

/-- The mean square of the head of column `k`, the norm's ε added. -/
def ms (x : Fin 512 → ℝ) (k : Fin 512) : ℝ := hsum (fun k => x k * x k) k * (1 / 64) + eps

theorem ms_pos (x : Fin 512 → ℝ) (k : Fin 512) : 0 < ms x k :=
  add_pos_of_nonneg_of_pos (mul_nonneg (hsum_nonneg _ (fun k => mul_self_nonneg (x k)) k) (by norm_num)) eps_pos

/-- Its reciprocal root. -/
def rs (x : Fin 512 → ℝ) (k : Fin 512) : ℝ := (√(ms x k))⁻¹

theorem rsqrt_ms (x : Fin 512 → ℝ) (k : Fin 512) : Ideal.rsqrt (ms x k : EReal) = (rs x k : EReal) := rsqrt_pos (ms_pos x k)

theorem div_ms (x : Fin 512 → ℝ) (k : Fin 512) (y : ℝ) : Ideal.div (y : EReal) (ms x k : EReal) = ((y / ms x k : ℝ) : EReal) :=
  div_real (ms_pos x k).ne' y

theorem ofBits_inv64 : Ideal.ofBits .f32 0x3C800000#32 = ((1 / 64 : ℝ) : EReal) := by
  simp [Ideal.ofBits, Ideal.ieee]; rw [← EReal.coe_mul]; norm_num

theorem ofBits_64 : Ideal.ofBits .f32 0x42800000#32 = ((64 : ℝ) : EReal) := by
  simp [Ideal.ofBits, Ideal.ieee]; rw [← EReal.coe_mul]; norm_num

/-- What one column adds to its head's part of the gradient. -/
def back (d x g : Fin 512 → ℝ) (k : Fin 512) : ℝ := x k * (d k * g k) * (-(1 / 2) * (rs x k / ms x k)) * (1 / 64)

/-- The gradient of one row of the norm's input, the cotangent `d` of its output and the gains `g` given. -/
def grad (d x g : Fin 512 → ℝ) (k : Fin 512) : ℝ := d k * g k * rs x k + x k * hsum (back d x g) k + hsum (back d x g) k * x k

theorem ms_hd (x : Fin 512 → ℝ) (k j) : ms x (hd k j) = ms x k := by rw [ms, hsum_hd]; rfl

theorem rs_hd (x : Fin 512 → ℝ) (k j) : rs x (hd k j) = rs x k := by rw [rs, ms_hd]; rfl

/-- The gradient with the head's factor taken out of the sum. -/
theorem hsum_back (d x g : Fin 512 → ℝ) (k : Fin 512) :
    hsum (back d x g) k = hsum (fun k => x k * (d k * g k)) k * (-(1 / 2) * (rs x k / ms x k)) / 64 := by
  rw [hsum, hsum, Finset.sum_mul, Finset.sum_div]
  exact Finset.sum_congr rfl fun j _ => by rw [back, ms_hd, rs_hd]; ring

end Cert.HeadNorm

end
-- ==== Proof.Foxpre.Norms.lean ====
/- The two head norms' gradients and the forget gate's, as the body computes them, read at an index. -/
module

public import proofs.«01_k».proof.Proof.Foxpre.Tile
public import proofs.«01_k».proof.Proof.HeadNorm
public import proofs.«01_k».proof.Proof.Tail.Math

@[expose] public section

set_option maxRecDepth 16384

noncomputable section

open Idealize.ShloMosaic Idealize.ShloMosaic.TcCoe Idealize.SL.Sem
open Cert.Reals Cert.HeadSums Cert.HeadNorm Cert.Tail Cert.FoxpreKernelIdeal Cert.FoxpreKernelIdeal.Gen

namespace Cert.Foxpre

/-! ## The first norm -/

section Query
variable (A : Vec Ideal S256x512 .f32) (G : Vec Ideal S1x512 .f32) (D : FVec Ideal S256x512 .f32)

/-- The lane mask. -/
abbrev low : IVec S256x128 1 := k0_pay14 (iota Kind.tc S256x128 32 [1] iota_S256x128_d1_w32) 64#32
abbrev q15 : FVec Ideal S256x128 .f32 := k0_pay15 (k0_pay13 A) (iota Kind.tc S256x128 32 [1] iota_S256x128_d1_w32) 64#32
abbrev q16 : FVec Ideal S256x128 .f32 := k0_pay16 (k0_pay13 A) (iota Kind.tc S256x128 32 [1] iota_S256x128_d1_w32) 64#32
abbrev q17 : FVec Ideal S256x128 .f32 := k0_pay17 (k0_pay13 A) (iota Kind.tc S256x128 32 [1] iota_S256x128_d1_w32) 64#32
abbrev q19 : FVec Ideal S256x128 .f32 := k0_pay19 (k0_pay13 A) (iota Kind.tc S256x128 32 [1] iota_S256x128_d1_w32) 64#32
/-- The reciprocal roots. -/
abbrev qRs : FVec Ideal S256x512 .f32 := k0_pay21 low (q15 A) (q16 A) (q17 A) (k0_pay18 (k0_pay13 A)) (q19 A)
/-- Their factor in the gradient. -/
abbrev qC : FVec Ideal S256x512 .f32 := k0_pay22 low (q15 A) (q16 A) (q17 A) (k0_pay18 (k0_pay13 A)) (q19 A)
/-- The normalised operand. -/
abbrev qN : FVec Ideal S256x512 .f32 := k0_pay23 (k0_pay9 A) low (q15 A) (q16 A) (q17 A) (k0_pay18 (k0_pay13 A)) (q19 A)
/-- The operand's gradient. -/
abbrev dQ : FVec Ideal S256x512 .f32 :=
  k0_pay86 (k0_pay9 A) low (k0_pay73 G (qRs A) D) (k0_pay75 (k0_pay9 A) G (qC A) D)
    (k0_pay82 low (k0_pay77 (k0_pay9 A) G (qC A) D) (k0_pay80 (k0_pay9 A) G low (qC A) D) (k0_pay81 (k0_pay9 A) G low (qC A) D))
    (k0_pay84 low (k0_pay76 (k0_pay9 A) G (qC A) D)) (k0_pay85 low (k0_pay76 (k0_pay9 A) G (qC A) D))

variable {A G D} {r : Fin 256} {d x g : Fin 512 → ℝ} (hA : ∀ k, A (ix2 r k) = (x k : EReal)) (hG : ∀ k, G (ix2 0 k) = (g k : EReal))
  (hD : ∀ k, D (ix2 r k) = (d k : EReal))

include hA

theorem q13_at (k) : k0_pay13 (F := Ideal) A (ix2 r k) = ((x k * x k : ℝ) : EReal) := by
  pointwise [k0_pay13, k0_pay9]; rw [hA, EReal.coe_mul]

theorem qMs_at (k) : k0_pay20 (F := Ideal) low (q15 A) (q16 A) (q17 A) (k0_pay18 (k0_pay13 A)) (q19 A) (ix2 r k) = (ms x k : EReal) := by
  rw [pay20_at r (fun k => k0_pay13 (F := Ideal) A (ix2 r k)) _ _ _ _ _ _ k (low_at r) (pay15_at _ r) (pay16_at _ r) (pay17_at _ r)
    (pay18_at _ r) (pay19_at _ r)]
  simp only [q13_at hA, coe_hsum, ofBits_inv64, ofBits_eps, ← EReal.coe_mul, ← EReal.coe_add]; rfl

theorem qRs_at (k) : qRs A (ix2 r k) = (rs x k : EReal) := by
  pointwise [k0_pay21]; rw [qMs_at hA, rsqrt_ms]

theorem qC_at (k) : qC A (ix2 r k) = ((-(1 / 2) * (rs x k / ms x k) : ℝ) : EReal) := by
  pointwise [k0_pay22]
  simp only [qMs_at hA, qRs_at hA, div_ms, ofBits_neg_half, ← EReal.coe_mul]

theorem qN_at (k) : qN A (ix2 r k) = ((x k * rs x k : ℝ) : EReal) := by
  pointwise [k0_pay23, k0_pay9]
  simp only [qRs_at hA, hA, ← EReal.coe_mul]

include hG hD

theorem q73_at (k) : k0_pay73 (F := Ideal) G (qRs A) D (ix2 r k) = ((d k * g k * rs x k : ℝ) : EReal) := by
  pointwise [k0_pay73, k0_pay72]
  simp only [qRs_at hA, hD, hG, ← EReal.coe_mul]

theorem q74_at (k) : k0_pay74 (F := Ideal) (k0_pay9 A) G (qC A) D (ix2 r k) = (back d x g k : EReal) := by
  pointwise [k0_pay74, k0_pay72, k0_pay9]
  simp only [qC_at hA, hA, hD, hG, ofBits_inv64, ← EReal.coe_mul]; rfl

theorem dQ_at (k) : dQ A G D (ix2 r k) = (grad d x g k : EReal) := by
  have h := q74_at hA hG hD
  have h75 (l : Fin 128) : k0_pay75 (F := Ideal) (k0_pay9 A) G (qC A) D (ix2 r l) = (back d x g ⟨l.val, by omega⟩ : EReal) := by
    rw [← h]; pointwise [k0_pay75]
  have h76 (l : Fin 128) : k0_pay76 (F := Ideal) (k0_pay9 A) G (qC A) D (ix2 r l) = (back d x g ⟨128 + l.val, by omega⟩ : EReal) := by
    rw [← h]; pointwise [k0_pay76]
  have h77 (l : Fin 128) : k0_pay77 (F := Ideal) (k0_pay9 A) G (qC A) D (ix2 r l) = (back d x g ⟨256 + l.val, by omega⟩ : EReal) := by
    rw [← h]; pointwise [k0_pay77]
  refine (pay86_at r (fun k => (back d x g k : EReal)) _ _ _ _ _ _ _ k (low_at r) h75
    (fun k => pay82_at r _ _ _ _ _ k (low_at r) h77 (pay80_at r _ _ _ _ _ _ (low_at r) h) (fun l => pay81_at r _ _ _ _ _ _ l (low_at r) h))
    (fun l => pay84_at r (fun k => (back d x g k : EReal)) _ _ l (low_at r) h76) (pay85_at r (fun k => (back d x g k : EReal)) _ _ (low_at r) h76)).trans ?_
  rw [q73_at hA hG hD, show k0_pay9 (F := Ideal) A (ix2 r k) = (x k : EReal) from (by pointwise [k0_pay9]; exact hA k)]
  simp only [coe_hsum, ← EReal.coe_mul, ← EReal.coe_add]; rfl

end Query

/-! ## The second norm -/

section Key
variable (A : Vec Ideal S256x512 .f32) (G : Vec Ideal S1x512 .f32) (D : FVec Ideal S256x512 .f32)

abbrev kA : FVec Ideal S256x512 .f32 := k0_pay10 A
/-- The reciprocal roots. -/
abbrev kRs : FVec Ideal S256x512 .f32 := k0_pay31 (k0_pay24 (kA A)) k0_pay25 (k0_pay26 (kA A)) (k0_pay28 (kA A)) (k0_pay29 (kA A))
/-- Their factor in the gradient. -/
abbrev kC : FVec Ideal S256x512 .f32 := k0_pay32 (k0_pay24 (kA A)) k0_pay25 (k0_pay26 (kA A)) (k0_pay28 (kA A)) (k0_pay29 (kA A))
/-- The normalised operand. -/
abbrev kN : FVec Ideal S256x512 .f32 := k0_pay33 (kA A) (k0_pay24 (kA A)) k0_pay25 (k0_pay26 (kA A)) (k0_pay28 (kA A)) (k0_pay29 (kA A))
/-- The operand's gradient. -/
abbrev dK : FVec Ideal S256x512 .f32 :=
  k0_pay70 (kA A) k0_pay25 (k0_pay57 G (kRs A) D)
    (k0_pay66 k0_pay25 (k0_pay60 (kA A) G (kC A) D) (k0_pay62 (kA A) G k0_pay25 (kC A) D) (k0_pay64 (kA A) G k0_pay25 (kC A) D)
      (k0_pay65 (kA A) G k0_pay25 (kC A) D))
    (k0_pay68 k0_pay25 (k0_pay59 (kA A) G (kC A) D)) (k0_pay69 k0_pay25 (k0_pay59 (kA A) G (kC A) D))

variable {A G D} {r : Fin 256} {d x g : Fin 512 → ℝ} (hA : ∀ k, A (ix2 r k) = (x k : EReal)) (hG : ∀ k, G (ix2 0 k) = (g k : EReal))
  (hD : ∀ k, D (ix2 r k) = (d k : EReal))

include hA

theorem kA_at (k) : kA A (ix2 r k) = (x k : EReal) := by
  pointwise [k0_pay10]; exact hA k

theorem k24_at (k) : k0_pay24 (kA A) (ix2 r k) = ((x k * x k : ℝ) : EReal) := by
  pointwise [k0_pay24]; rw [kA_at hA, EReal.coe_mul]

theorem kMs_at (k) : k0_pay30 (k0_pay24 (kA A)) k0_pay25 (k0_pay26 (kA A)) (k0_pay28 (kA A)) (k0_pay29 (kA A)) (ix2 r k) = (ms x k : EReal) := by
  rw [pay30_at r (fun k => k0_pay24 (kA A) (ix2 r k)) _ _ _ _ _ k (fun _ => rfl) (low'_at r) (pay26_at _ r) (pay28_at _ r) (pay29_at _ r)]
  simp only [k24_at hA, coe_hsum, ofBits_inv64, ofBits_eps, ← EReal.coe_mul, ← EReal.coe_add]; rfl

theorem kRs_at (k) : kRs A (ix2 r k) = (rs x k : EReal) := by
  pointwise [k0_pay31]; rw [kMs_at hA, rsqrt_ms]

theorem kC_at (k) : kC A (ix2 r k) = ((-(1 / 2) * (rs x k / ms x k) : ℝ) : EReal) := by
  pointwise [k0_pay32]
  simp only [kMs_at hA, kRs_at hA, div_ms, ofBits_neg_half, ← EReal.coe_mul]

theorem kN_at (k) : kN A (ix2 r k) = ((x k * rs x k : ℝ) : EReal) := by
  pointwise [k0_pay33]
  simp only [kRs_at hA, kA_at hA, ← EReal.coe_mul]

include hG hD

theorem k57_at (k) : k0_pay57 (F := Ideal) G (kRs A) D (ix2 r k) = ((d k * g k * rs x k : ℝ) : EReal) := by
  pointwise [k0_pay57, k0_pay56]
  simp only [kRs_at hA, hD, hG, ← EReal.coe_mul]

theorem k58_at (k) : k0_pay58 (F := Ideal) (kA A) G (kC A) D (ix2 r k) = (back d x g k : EReal) := by
  pointwise [k0_pay58, k0_pay56]
  simp only [kC_at hA, kA_at hA, hD, hG, ofBits_inv64, ← EReal.coe_mul]; rfl

theorem dK_at (k) : dK A G D (ix2 r k) = (grad d x g k : EReal) := by
  have h := k58_at hA hG hD
  have h59 (l : Fin 128) : k0_pay59 (F := Ideal) (kA A) G (kC A) D (ix2 r l) = (back d x g ⟨l.val, by omega⟩ : EReal) := by
    rw [← h]; pointwise [k0_pay59]
  have h60 (l : Fin 128) : k0_pay60 (F := Ideal) (kA A) G (kC A) D (ix2 r l) = (back d x g ⟨128 + l.val, by omega⟩ : EReal) := by
    rw [← h]; pointwise [k0_pay60]
  have h61 (l : Fin 128) : k0_pay61 (F := Ideal) (kA A) G (kC A) D (ix2 r l) = (back d x g ⟨256 + l.val, by omega⟩ : EReal) := by
    rw [← h]; pointwise [k0_pay61]
  have h64 : k0_pay64 (F := Ideal) (kA A) G k0_pay25 (kC A) D (ix2 r 0) = ∑ j : Fin 64, (back d x g ⟨256 + (64 + j), by omega⟩ : EReal) := by
    pointwise [k0_pay64, k0_pay63]
    simp only [low'_at, h61, select_mask, sum_high]
  have h65 : k0_pay65 (F := Ideal) (kA A) G k0_pay25 (kC A) D (ix1 r) = ∑ j : Fin 64, (back d x g ⟨256 + j, by omega⟩ : EReal) := by
    pointwise [k0_pay65, k0_pay63]
    simp only [low'_at, h61, select_mask, sum_low]
  have h68 (l : Fin 128) : k0_pay68 (F := Ideal) k0_pay25 (k0_pay59 (kA A) G (kC A) D) (ix2 r l)
      = if l.val < 64 then (back d x g ⟨l.val, by omega⟩ : EReal) else 0 := by
    pointwise [k0_pay68, k0_pay67]
    simp only [low'_at, h59, select_mask]
  have h69 : k0_pay69 (F := Ideal) k0_pay25 (k0_pay59 (kA A) G (kC A) D) (ix2 r 0) = ∑ j : Fin 64, (back d x g ⟨64 + j, by omega⟩ : EReal) := by
    pointwise [k0_pay69, k0_pay67]
    simp only [low'_at, h59, select_mask, sum_high]
  refine (pay70_at r (fun k => (back d x g k : EReal)) _ _ _ _ _ _ k (low'_at r)
    (fun k => pay66_at r _ _ _ _ _ _ k (low'_at r) h60 (fun k => pay62_at r _ _ _ _ _ _ k (low'_at r) h) h64 h65) h68 h69).trans ?_
  rw [k57_at hA hG hD, kA_at hA]
  simp only [coe_hsum, ← EReal.coe_mul, ← EReal.coe_add]; rfl

end Key

/-! ## The forget gate -/

section Forget

/-- The slope of log σ. -/
def dls (z : ℝ) : ℝ := 1 / (1 + Real.exp z)

variable {L X : FVec Ideal S256x128 .f32} {r : Fin 256} {l : Fin 128} {dl x : ℝ}

/-- The body's slope of log σ is that of log σ wherever a cotangent arrives, but at zero. -/
theorem pay53_at (hL : L (ix2 r l) = (dl : EReal)) (hX : X (ix2 r l) = (x : EReal)) (h0 : x ≠ 0 ∨ dl = 0) :
    k0_pay53 (F := Ideal) L (k0_pay35 X (FloatOps.ofBits FTy.f32 0#32)) (k0_pay50 L (k0_pay36 X) (k0_pay37 X) (k0_pay38 X))
      (k0_pay51 L (k0_pay36 X) (k0_pay37 X) (k0_pay38 X)) k0_pay52 (ix2 r l) = ((dl * dls x : ℝ) : EReal) := by
  pointwise [k0_pay53, k0_pay35, k0_pay50, k0_pay51, k0_pay52, k0_pay48, k0_pay49, k0_pay37, k0_pay36, k0_pay38]
  rw [hL, hX, Ideal.absf_def, ← EReal.coe_neg, ← EReal.coe_strictMono.monotone.map_max]
  simp only [zero_sub (( _ : ℝ) : EReal), ← EReal.coe_neg]
  rw [Ideal.exp_coe,
    show (1 : EReal) = ((1 : ℝ) : EReal) from rfl, ← EReal.coe_add,
    div_real (by have := Real.exp_pos (-max x (-x)); positivity), ofBits_half]
  simp only [← EReal.coe_zero, EReal.coe_le_coe_iff, EReal.coe_lt_coe_iff, EReal.coe_eq_coe_iff]
  by_cases hx : 0 ≤ x
  · have he := Real.exp_pos x
    rw [if_pos hx, if_pos hx, if_neg (not_lt.mpr hx), max_eq_left (by linarith)]
    have key : (-dl) / (1 + Real.exp (-x)) * Real.exp (-x) = -(dl * dls x) := by
      rw [dls, Real.exp_neg]; field_simp; ring
    rcases h0 with h0 | h0
    · rw [if_neg (Ne.symm h0)]
      simp only [← EReal.coe_mul, ← EReal.coe_sub, ← EReal.coe_add, key]
      norm_num
    · subst h0
      split_ifs <;> simp only [← EReal.coe_mul, ← EReal.coe_sub, ← EReal.coe_add, key] <;> norm_num
  · push Not at hx
    have he := Real.exp_pos x
    rw [if_neg (not_le.mpr hx), if_neg (not_le.mpr hx), if_pos hx, max_eq_right (by linarith), neg_neg]
    simp only [← EReal.coe_mul, ← EReal.coe_sub, ← EReal.coe_add]
    refine congrArg _ ?_
    rw [dls]; field_simp; ring

/-- The slope's factor before the sums: the body's triangle of ones adds up the rows from this one on, and the carry the later tiles'. -/
theorem pay7_at (A B : Vec Ideal S256x128 .f32) (c : Vec Ideal S1x128 .f32) (r : Fin 256) (l : Fin 128) {a b : Fin 256 → ℝ} {z : ℝ}
    (hA : ∀ i, A (ix2 i l) = (a i : EReal)) (hB : ∀ i, B (ix2 i l) = (b i : EReal)) (hc : c (ix2 0 l) = (z : EReal)) :
    k0_pay7 (F := Ideal) A B c (ix2 r l) = (((∑ i, if r ≤ i then a i + b i else 0) + z : ℝ) : EReal) := by
  pointwise [k0_pay7]
  rw [EReal.coe_add, ← coe_sum, hc]
  refine congrArg (· + (z : EReal)) (Finset.sum_congr rfl fun i _ => ?_)
  rw [hA, hB, ← EReal.coe_add]
  by_cases hr : r ≤ i
  · rw [if_pos hr, (WordCmp.cmpi_sge_ofNat_eq_one_iff (w := 32) (by omega) (by omega)).mpr (by exact hr)]
    exact (congrArg (· * _) (show (((BitVec.setWidth 32 1#1).toInt : ℝ) : EReal) = 1 by simp)).trans (one_mul _)
  · rw [if_neg hr, (WordCmp.cmpi_sge_ofNat_eq_zero_iff (w := 32) (by omega) (by omega)).mpr (by exact hr)]
    exact (congrArg (· * _) (show (((BitVec.setWidth 32 0#1).toInt : ℝ) : EReal) = 0 by simp)).trans (zero_mul _)

end Forget

end Cert.Foxpre

end
-- ==== Proof.Foxpre.Parts.lean ====
/- The tile's heads side by side, its results' columns, and its sums over rows, read at an index. -/
module

public import proofs.«01_k».proof.Proof.Foxpre.Norms

@[expose] public section

set_option maxRecDepth 16384

noncomputable section

open Idealize.ShloMosaic Idealize.ShloMosaic.TcCoe Idealize.SL.Sem
open Cert.Reals Cert.HeadSums Cert.HeadNorm Cert.Tail Cert.FoxpreKernelIdeal Cert.FoxpreKernelIdeal.Gen

namespace Cert.Foxpre

/-- Head `h` of a block of heads. -/
abbrev hpart (O : FVec Ideal S8x256x64 .f32) (h : Nat) (inb : ∀ i : Fin 3, (![h, 0, 0] : Fin 3 → Nat) i + S1x256x64.size i ≤ S8x256x64.size i) :
    Vec Ideal S1x256x64 .f32 := View.ld O (Rect.unit (s := S8x256x64) ![h, 0, 0] S1x256x64.size inb)

theorem hpart_at (O h inb) (r : Fin 256) (k : Fin 64) (hh : h < 8) : hpart O h inb (ix3 0 r k) = O (ix3 ⟨h, hh⟩ r k) := by
  refine congrArg O ?_
  funext i; refine Fin.ext ?_; fin_cases i <;> simp [Rect.unit]

/-- The first norm's operand, -/
abbrev colA (U : FVec Ideal S256x2048 .f32) : Vec Ideal S256x512 .f32 :=
  View.ld U (Rect.unit (s := S256x2048) ![0, 0] S256x512.size inb_S256x2048_S256x512_0_0)

/-- and the second's. -/
abbrev colB (U : FVec Ideal S256x2048 .f32) : Vec Ideal S256x512 .f32 :=
  View.ld U (Rect.unit (s := S256x2048) ![0, 512] S256x512.size inb_S256x2048_S256x512_0_512)

theorem colA_at (U) (r : Fin 256) (l : Fin 512) : colA U (ix2 r l) = U (ix2 r ⟨l, by omega⟩) := by
  refine congrArg U ?_
  funext i; refine Fin.ext ?_; fin_cases i <;> simp [Rect.unit]

theorem colB_at (U) (r : Fin 256) (l : Fin 512) : colB U (ix2 r l) = U (ix2 r ⟨512 + l, by omega⟩) := by
  refine congrArg U ?_
  funext i; refine Fin.ext ?_; fin_cases i <;> simp [Rect.unit]

section Heads
variable (X : Vec Ideal S8x256x64 .f32) (r : Fin 256)

/-- The first norm's cotangent. -/
abbrev hq : FVec Ideal S256x512 .f32 :=
  k0_pay46 (k0_pay39 (hpart X 0 inb_S8x256x64_S1x256x64_0_0_0)) (k0_pay40 (hpart X 1 inb_S8x256x64_S1x256x64_1_0_0))
    (k0_pay41 (hpart X 2 inb_S8x256x64_S1x256x64_2_0_0)) (k0_pay42 (hpart X 3 inb_S8x256x64_S1x256x64_3_0_0))
    (k0_pay43 (hpart X 4 inb_S8x256x64_S1x256x64_4_0_0)) (k0_pay44 (hpart X 5 inb_S8x256x64_S1x256x64_5_0_0))
    (k0_pay45 (hpart X 6 inb_S8x256x64_S1x256x64_6_0_0)) (hpart X 7 inb_S8x256x64_S1x256x64_7_0_0)

/-- The second norm's. -/
abbrev hk : FVec Ideal S256x512 .f32 :=
  k0_pay47 (hpart X 0 inb_S8x256x64_S1x256x64_0_0_0) (hpart X 1 inb_S8x256x64_S1x256x64_1_0_0) (hpart X 2 inb_S8x256x64_S1x256x64_2_0_0)
    (hpart X 3 inb_S8x256x64_S1x256x64_3_0_0) (hpart X 4 inb_S8x256x64_S1x256x64_4_0_0) (hpart X 5 inb_S8x256x64_S1x256x64_5_0_0)
    (hpart X 6 inb_S8x256x64_S1x256x64_6_0_0) (hpart X 7 inb_S8x256x64_S1x256x64_7_0_0)

theorem hq_at (k) : hq X (ix2 r k) = X (ix3 (head k) r (lane k)) := by
  pointwise [k0_pay46, k0_pay39, k0_pay40, k0_pay41, k0_pay42, k0_pay43, k0_pay44, k0_pay45]
  have e : ∀ (h : Fin 8) (l : Fin 64), h.val = k / 64 → l.val = k % 64 → X (ix3 h r l) = X (ix3 (head k) r (lane k)) := by
    intro h l h1 h2
    rw [show h = head k from Fin.ext h1, show l = lane k from Fin.ext h2]
  split_ifs <;> exact (hpart_at X _ _ r _ (by norm_num)).trans (e _ _ (by simp only; omega) (by simp only; omega))

theorem hk_at (k) : hk X (ix2 r k) = X (ix3 (head k) r (lane k)) := by
  pointwise [k0_pay47]
  have e : ∀ (h : Fin 8) (l : Fin 64), h.val = k / 64 → l.val = k % 64 → X (ix3 h r l) = X (ix3 (head k) r (lane k)) := by
    intro h l h1 h2
    rw [show h = head k from Fin.ext h1, show l = lane k from Fin.ext h2]
  split_ifs <;> exact (hpart_at X _ _ r _ (by norm_num)).trans (e _ _ (by simp only; omega) (by simp only; omega))

/-- The tile of the projections' gradients. -/
abbrev hub (K Q : FVec Ideal S256x512 .f32) (B : Vec Ideal S256x512 .f32) : FVec Ideal S256x2048 .bf16 :=
  k0_pay90 K Q (k0_pay87 (hpart X 0 inb_S8x256x64_S1x256x64_0_0_0)) (k0_pay88 (hpart X 1 inb_S8x256x64_S1x256x64_1_0_0))
    (k0_pay89 (hpart X 2 inb_S8x256x64_S1x256x64_2_0_0)) (hpart X 3 inb_S8x256x64_S1x256x64_3_0_0)
    (hpart X 4 inb_S8x256x64_S1x256x64_4_0_0) (hpart X 5 inb_S8x256x64_S1x256x64_5_0_0)
    (hpart X 6 inb_S8x256x64_S1x256x64_6_0_0) (hpart X 7 inb_S8x256x64_S1x256x64_7_0_0) B

variable (K Q : FVec Ideal S256x512 .f32) (B : Vec Ideal S256x512 .f32) (k : Fin 512)

theorem hub_q : hub X K Q B (ix2 r ⟨k.val, by omega⟩) = Q (ix2 r k) := by
  pointwise [k0_pay90]

theorem hub_k : hub X K Q B (ix2 r ⟨512 + k.val, by omega⟩) = K (ix2 r k) := by
  pointwise [k0_pay90]

theorem hub_v : hub X K Q B (ix2 r ⟨1024 + k.val, by omega⟩) = X (ix3 (head k) r (lane k)) := by
  pointwise [k0_pay90, k0_pay87, k0_pay88, k0_pay89]
  rw [dif_neg (by omega), dif_neg (by omega), dif_pos (by omega)]
  simp only [show 1024 + k.val - 512 - 512 = k.val by omega]
  have e : ∀ (h : Fin 8) (l : Fin 64), h.val = k / 64 → l.val = k % 64 → X (ix3 h r l) = X (ix3 (head k) r (lane k)) := by
    intro h l h1 h2
    rw [show h = head k from Fin.ext h1, show l = lane k from Fin.ext h2]
  split_ifs <;> exact (hpart_at X _ _ r _ (by norm_num)).trans (e _ _ (by simp only; omega) (by simp only; omega))

theorem hub_g : hub X K Q B (ix2 r ⟨1536 + k.val, by omega⟩) = B (ix2 r k) := by
  pointwise [k0_pay90]
  rw [dif_neg (by omega), dif_neg (by omega), dif_neg (by omega)]
  exact congrArg (fun k => B (ix2 r k)) (Fin.ext (by simp only; omega))

end Heads

section Sums

theorem pay92_at (A D : FVec Ideal S256x512 .f32) (p : Vec Ideal S1x64 .f32) (l : Fin 64) :
    k0_pay92 (F := Ideal) (k0_pay71 A D) p (ix2 0 l)
      = p (ix2 0 l) + ∑ h : Fin 8, ∑ r : Fin 256, A (ix2 r ⟨64 * h + l, by omega⟩) * D (ix2 r ⟨64 * h + l, by omega⟩) := by
  pointwise [k0_pay92, k0_pay71]
  norm_num [Fin.sum_univ_eight]

theorem pay1_at (A D : FVec Ideal S256x512 .f32) (p : Vec Ideal S1x64 .f32) (l : Fin 64) :
    k0_pay1 (F := Ideal) (k0_pay55 A D) p (ix2 0 l)
      = p (ix2 0 l) + ∑ h : Fin 8, ∑ r : Fin 256, A (ix2 r ⟨64 * h + l, by omega⟩) * D (ix2 r ⟨64 * h + l, by omega⟩) := by
  pointwise [k0_pay1, k0_pay55]
  norm_num [Fin.sum_univ_eight]

theorem pay2_at (a b c d e) (p : Vec Ideal S1x128 .f32) (l : Fin 128) :
    k0_pay2 (F := Ideal) (k0_pay54 a b c d e) p (ix2 0 l) = p (ix2 0 l) + ∑ r : Fin 256, k0_pay53 (F := Ideal) a b c d e (ix2 r l) := by
  pointwise [k0_pay2, k0_pay54]

theorem pay34_at (A : Vec Ideal S256x128 .f32) (B : Vec Ideal S1x128 .f32) (r : Fin 256) (l : Fin 128) :
    k0_pay34 (F := Ideal) (k0_pay11 A) (k0_pay12 B) (ix2 r l) = A (ix2 r l) + B (ix2 0 l) := by
  pointwise [k0_pay34, k0_pay11, k0_pay12]

theorem pay8_at (A B : Vec Ideal S256x128 .f32) (c : Vec Ideal S1x128 .f32) (l : Fin 128) :
    k0_pay8 (F := Ideal) A B c (ix2 0 l) = k0_pay7 (F := Ideal) A B c (ix2 0 l) := by
  pointwise [k0_pay8]

theorem pay91_at (A : FVec Ideal S256x128 .f32) (r : Fin 256) (l : Fin 128) : k0_pay91 (F := Ideal) A (ix2 r l) = A (ix2 r l) := by
  pointwise [k0_pay91]

end Sums

end Cert.Foxpre

end
-- ==== Proof.Foxpre.Blocks.lean ====
/- What each grid point's blocks hold, the sums over the grid, and the carried suffix sum. -/
module

public import proofs.«01_k».proof.Proof.Foxpre.Parts

@[expose] public section

set_option maxRecDepth 16384

noncomputable section

open Idealize.ShloMosaic Idealize.ShloMosaic.TcCoe Idealize.SL.Sem
open Cert.Reals Cert.HeadSums Cert.HeadNorm Cert.Tail Cert.FoxpreKernelIdeal Cert.FoxpreKernelIdeal.Gen

namespace Cert.Foxpre

/-! ## The reals -/

/-- The eight columns of the forget gate in an array of 128, zeros behind them. -/
def pad8 (f : Fin 8 → ℝ) (l : Fin 128) : ℝ := if h : l.val < 8 then f ⟨l, h⟩ else 0

/-- The arguments: the two norms' operands, their cotangents and gains, the forget gate's logits and bias, and the cotangent of its sum. -/
structure Data where
  q : Fin 2048 → Fin 512 → ℝ
  k : Fin 2048 → Fin 512 → ℝ
  dq : Fin 2048 → Fin 512 → ℝ
  dk : Fin 2048 → Fin 512 → ℝ
  gq : Fin 64 → ℝ
  gk : Fin 64 → ℝ
  f : Fin 2048 → Fin 8 → ℝ
  fb : Fin 8 → ℝ
  cq : Fin 2048 → Fin 8 → ℝ
  ck : Fin 2048 → Fin 8 → ℝ

/-- The rows from `r` on. -/
def suf (d : Fin 2048 → ℝ) (r : Fin 2048) : ℝ := ∑ j, if r ≤ j then d j else 0

namespace Data
variable (D : Data)
/-- The gradient of log σ of the forget gate. -/
def dl (r : Fin 2048) (h : Fin 8) : ℝ := suf (fun j => D.cq j h + D.ck j h) r
/-- The gradient of its logits. -/
def df (r : Fin 2048) (h : Fin 8) : ℝ := D.dl r h * dls (D.f r h + D.fb h)
def dxq (r : Fin 2048) : Fin 512 → ℝ := grad (D.dq r) (D.q r) (fun k => D.gq (lane k))
def dxk (r : Fin 2048) : Fin 512 → ℝ := grad (D.dk r) (D.k r) (fun k => D.gk (lane k))
end Data

/-! ## The rows of a point's blocks: the grid runs from the last to the first -/

abbrev row (t : Fin cfg0.N) (r : Fin 256) : Fin 2048 := ⟨256 * (7 - t.val) + r, by omega⟩

theorem idx : ∀ t : Fin cfg0.N, (win0_0.index t = ![7 - t.val, 0] ∧ win0_1.index t = ![7 - t.val, 0] ∧ win0_2.index t = ![0, 0] ∧ win0_3.index t = ![0, 0])
    ∧ (win0_4.index t = ![0, 0] ∧ win0_5.index t = ![0, 7 - t.val, 0] ∧ win0_6.index t = ![0, 7 - t.val, 0] ∧ win0_7.index t = ![0, 7 - t.val, 0] ∧ win0_8.index t = ![7 - t.val, 0])
    ∧ (win0_9.index t = ![7 - t.val, 0] ∧ win0_10.index t = ![7 - t.val, 0] ∧ win0_11.index t = ![7 - t.val, 0] ∧ win0_12.index t = ![7 - t.val, 0])
    ∧ win0_13.index t = ![0, 0] ∧ win0_14.index t = ![0, 0] ∧ win0_15.index t = ![0, 0] :=
  (by decide +kernel : ∀ t : Fin grid0.N, _)

/-- The grid's last point closes the sum over all rows. -/
theorem sum_tiles (f : Fin 2048 → ℝ) (t : Fin cfg0.N) (b : ∀ s : Fin 8, 8 * (t.val / 8) + s.val < cfg0.N) :
    ∑ s : Fin 8, ∑ r : Fin 256, f (row ⟨8 * (t.val / 8) + s.val, b s⟩ r) = ∑ r, f r := by
  have ht : t.val / 8 = 0 := Nat.div_eq_of_lt t.isLt
  rw [← Equiv.sum_comp Fin.revPerm]
  refine Fin.sum_mul_add_congr (S := 8) (n := 256) fun s r hl => ?_
  exact congrArg f (Fin.ext (by simp only [row, ht, Fin.revPerm_apply, Fin.val_rev]; omega))

/-- A row's suffix sum is that inside its tile and that from the next tile on. -/
theorem suf_row (d : Fin 2048 → ℝ) (t : Fin cfg0.N) (r : Fin 256) :
    suf d (row t r) = (∑ i, if r ≤ i then d (row t i) else 0)
      + if h : t.val % 8 = 0 then 0 else suf d (row ⟨t.val - 1, by have := t.isLt; omega⟩ 0) := by
  have ht : t.val < 8 := t.isLt
  have e : (∑ i, if r ≤ i then d (row t i) else 0) = ∑ j : Fin 2048, if row t r ≤ j ∧ j.val < 256 * (7 - t.val) + 256 then d j else 0 := by
    refine Fintype.sum_of_injective (row t) (fun a b h => Fin.ext (by have := congrArg Fin.val h; simp only [row] at this; omega)) _ _ (fun j hj => ?_) fun i => ?_
    · refine if_neg fun ⟨h1, h2⟩ => hj ⟨⟨j.val - 256 * (7 - t.val), by omega⟩, Fin.ext ?_⟩
      have := Fin.le_def.mp h1; simp only [row] at this ⊢; omega
    · have h : row t r ≤ row t i ∧ (row t i).val < 256 * (7 - t.val) + 256 ↔ r ≤ i := by
        rw [Fin.le_def, Fin.le_def]; simp only [row]; omega
      simp only [h]
  rw [e, suf]
  split_ifs with h
  · rw [add_zero]
    refine Finset.sum_congr rfl fun j _ => ?_
    have : row t r ≤ j ∧ j.val < 256 * (7 - t.val) + 256 ↔ row t r ≤ j := by omega
    simp only [this]
  · rw [suf, ← Finset.sum_add_distrib]
    refine Finset.sum_congr rfl fun j _ => ?_
    simp only [Fin.le_def, row]
    split_ifs <;> first | (exfalso; simp at *; omega) | simp

/-! ## The operands the host prepares -/

section Host
variable (m : (ℓ : Loc nD τ sig) → Buf (Elt Ideal) ℓ) (c : Dev nD)

theorem V_v0 : (V m c main_v0 : FVec Ideal S2048x2048 .f32)
    = (extractStridedSlice S2048x2048 ![0, 0] (m ((c.tc : Thread nD τ).loc main_arg0) : FVec Ideal S2048x2056 .f32) slices_S2048x2056_S2048x2048_0_0 : FVec Ideal S2048x2048 .f32) := by
  simp only [V, List.flatten_cons, List.flatten_nil, List.cons_append, List.nil_append, hostOps0, hostOps0_1, hostOps0_2, hostOps0_3, hostOps0_4]
  after_results

theorem V_v2 : (V m c main_v2 : FVec Ideal S2048x128 .f32)
    = (pad S2048x128 ![0, 0] ![0, 120] ![0, 0]
        (extractStridedSlice S2048x8 ![0, 2048] (m ((c.tc : Thread nD τ).loc main_arg0) : FVec Ideal S2048x2056 .f32) slices_S2048x2056_S2048x8_0_2048)
        (sitofp FTy.f32 (constantI S_ 32 0#32)) pads_S2048x8_S2048x128_000_01200 h_S_ : FVec Ideal S2048x128 .f32) := by
  simp only [V, List.flatten_cons, List.flatten_nil, List.cons_append, List.nil_append, hostOps0, hostOps0_1, hostOps0_2, hostOps0_3, hostOps0_4]
  after_results
  rfl

theorem V_v5 : (V m c main_v5 : FVec Ideal S1x512 .f32)
    = (shapeCast S1x512 (broadcastInDim S1x1x8x64 ![0, 1, 2, 3] bcast_S1x1x1x64_S1x1x8x64_0_1_2_3
        (shapeCast S1x1x1x64 (m ((c.tc : Thread nD τ).loc main_arg2) : FVec Ideal S1x64 .f32) shapeCasts_S1x64_S1x1x1x64)) shapeCasts_S1x1x8x64_S1x512 : FVec Ideal S1x512 .f32) := by
  simp only [V, List.flatten_cons, List.flatten_nil, List.cons_append, List.nil_append, hostOps0, hostOps0_1, hostOps0_2, hostOps0_3, hostOps0_4]
  after_results
  rfl

theorem V_v8 : (V m c main_v8 : FVec Ideal S1x512 .f32)
    = (shapeCast S1x512 (broadcastInDim S1x1x8x64 ![0, 1, 2, 3] bcast_S1x1x1x64_S1x1x8x64_0_1_2_3
        (shapeCast S1x1x1x64 (m ((c.tc : Thread nD τ).loc main_arg3) : FVec Ideal S1x64 .f32) shapeCasts_S1x64_S1x1x1x64)) shapeCasts_S1x1x8x64_S1x512 : FVec Ideal S1x512 .f32) := by
  simp only [V, List.flatten_cons, List.flatten_nil, List.cons_append, List.nil_append, hostOps0, hostOps0_1, hostOps0_2, hostOps0_3, hostOps0_4]
  after_results
  rfl

theorem V_v9 : (V m c main_v9 : FVec Ideal S1x128 .f32)
    = (pad S1x128 ![0, 0] ![0, 120] ![0, 0] (m ((c.tc : Thread nD τ).loc main_arg1) : FVec Ideal S1x8 .f32)
        (sitofp FTy.f32 (constantI S_ 32 0#32)) pads_S1x8_S1x128_000_01200 h_S_ : FVec Ideal S1x128 .f32) := by
  simp only [V, List.flatten_cons, List.flatten_nil, List.cons_append, List.nil_append, hostOps0, hostOps0_1, hostOps0_2, hostOps0_3, hostOps0_4]
  after_results
  rfl

theorem V_v11 : (V m c main_v11 : FVec Ideal S2048x128 .f32)
    = (pad S2048x128 ![0, 0] ![0, 120] ![0, 0]
        (transpose S2048x8 [1, 0] (m ((c.tc : Thread nD τ).loc main_arg8) : FVec Ideal S8x2048 .f32) transposes_S8x2048_S2048x8_1_0)
        (sitofp FTy.f32 (constantI S_ 32 0#32)) pads_S2048x8_S2048x128_000_01200 h_S_ : FVec Ideal S2048x128 .f32) := by
  simp only [V, List.flatten_cons, List.flatten_nil, List.cons_append, List.nil_append, hostOps0, hostOps0_1, hostOps0_2, hostOps0_3, hostOps0_4]
  after_results
  rfl

theorem V_v13 : (V m c main_v13 : FVec Ideal S2048x128 .f32)
    = (pad S2048x128 ![0, 0] ![0, 120] ![0, 0]
        (transpose S2048x8 [1, 0] (m ((c.tc : Thread nD τ).loc main_arg9) : FVec Ideal S8x2048 .f32) transposes_S8x2048_S2048x8_1_0)
        (sitofp FTy.f32 (constantI S_ 32 0#32)) pads_S2048x8_S2048x128_000_01200 h_S_ : FVec Ideal S2048x128 .f32) := by
  simp only [V, List.flatten_cons, List.flatten_nil, List.cons_append, List.nil_append, hostOps0, hostOps0_1, hostOps0_2, hostOps0_3, hostOps0_4]
  after_results
  rfl

end Host

/-! ## The host's operands at an index -/

theorem padded_at (X : FVec Ideal S2048x8 .f32) (r : Fin 2048) (f : Fin 8 → ℝ) (h : ∀ l, X (ix2 r l) = (f l : EReal)) (l : Fin 128) :
    pad S2048x128 ![0, 0] ![0, 120] ![0, 0] X (sitofp FTy.f32 (constantI S_ 32 0#32)) pads_S2048x8_S2048x128_000_01200 h_S_ (ix2 r l)
      = (pad8 f l : EReal) := by
  pointwise
  split_ifs with hl
  · rw [h]; simp [pad8, hl]
  · rw [pad8, dif_neg hl]; show ((((0#32 : BitVec 32).toInt : ℤ) : ℝ) : EReal) = _; simp

theorem padded1_at (X : FVec Ideal S1x8 .f32) (f : Fin 8 → ℝ) (h : ∀ l, X (ix2 0 l) = (f l : EReal)) (l : Fin 128) :
    pad S1x128 ![0, 0] ![0, 120] ![0, 0] X (sitofp FTy.f32 (constantI S_ 32 0#32)) pads_S1x8_S1x128_000_01200 h_S_ (ix2 0 l)
      = (pad8 f l : EReal) := by
  pointwise
  split_ifs with hl
  · rw [h]; simp [pad8, hl]
  · rw [pad8, dif_neg hl]; show ((((0#32 : BitVec 32).toInt : ℤ) : ℝ) : EReal) = _; simp

theorem tiled_at (X : FVec Ideal S1x64 .f32) (k : Fin 512) :
    shapeCast S1x512 (broadcastInDim S1x1x8x64 ![0, 1, 2, 3] bcast_S1x1x1x64_S1x1x8x64_0_1_2_3 (shapeCast S1x1x1x64 X shapeCasts_S1x64_S1x1x1x64))
      shapeCasts_S1x1x8x64_S1x512 (ix2 0 k) = X (ix2 0 (lane k)) := by
  pointwise

/-! ## The blocks -/

section Blocks
variable (m : (ℓ : Loc nD τ sig) → Buf (Elt Ideal) ℓ) (c : Dev nD)

/-- The arguments are these reals. -/
structure Args (D : Data) : Prop where
  q : ∀ r (k : Fin 512), (m ((c.tc : Thread nD τ).loc main_arg0) : FVec Ideal S2048x2056 .f32) (ix2 r ⟨k, by omega⟩) = (D.q r k : EReal)
  k : ∀ r (k : Fin 512), (m ((c.tc : Thread nD τ).loc main_arg0) : FVec Ideal S2048x2056 .f32) (ix2 r ⟨512 + k, by omega⟩) = (D.k r k : EReal)
  f : ∀ r (l : Fin 8), (m ((c.tc : Thread nD τ).loc main_arg0) : FVec Ideal S2048x2056 .f32) (ix2 r ⟨2048 + l, by omega⟩) = (D.f r l : EReal)
  fb : ∀ l, (m ((c.tc : Thread nD τ).loc main_arg1) : FVec Ideal S1x8 .f32) (ix2 0 l) = (D.fb l : EReal)
  gq : ∀ l, (m ((c.tc : Thread nD τ).loc main_arg2) : FVec Ideal S1x64 .f32) (ix2 0 l) = (D.gq l : EReal)
  gk : ∀ l, (m ((c.tc : Thread nD τ).loc main_arg3) : FVec Ideal S1x64 .f32) (ix2 0 l) = (D.gk l : EReal)
  dq : ∀ r k, (m ((c.tc : Thread nD τ).loc main_arg4) : FVec Ideal S8x2048x64 .f32) (ix3 (head k) r (lane k)) = (D.dq r k : EReal)
  dk : ∀ r k, (m ((c.tc : Thread nD τ).loc main_arg5) : FVec Ideal S8x2048x64 .f32) (ix3 (head k) r (lane k)) = (D.dk r k : EReal)
  cq : ∀ r l, (m ((c.tc : Thread nD τ).loc main_arg8) : FVec Ideal S8x2048 .f32) (ix2 l r) = (D.cq r l : EReal)
  ck : ∀ r l, (m ((c.tc : Thread nD τ).loc main_arg9) : FVec Ideal S8x2048 .f32) (ix2 l r) = (D.ck r l : EReal)
  ne : ∀ r l, D.f r l + D.fb l ≠ 0

variable {m c} {D : Data} (A : Args m c D) (t : Fin cfg0.N) (r : Fin 256)
include A

theorem q_at (k) : colA (iblk m c 0 t) (ix2 r k) = (D.q (row t r) k : EReal) := by
  have e : (win0_0.blk t).view.emb (ix2 r ⟨k.val, by omega⟩) = ix2 (row t r) ⟨k.val, by omega⟩ := by blk_ext [idx t]
  rw [colA_at]; blk_simp [iblk]; rw [V_v0, e, ← A.q]; pointwise

theorem k_at (k) : colB (iblk m c 0 t) (ix2 r k) = (D.k (row t r) k : EReal) := by
  have e : (win0_0.blk t).view.emb (ix2 r ⟨512 + k.val, by omega⟩) = ix2 (row t r) ⟨512 + k.val, by omega⟩ := by blk_ext [idx t]
  rw [colB_at]; blk_simp [iblk]; rw [V_v0, e, ← A.k]; pointwise

theorem f_at (l : Fin 128) : (iblk m c 1 t : Vec Ideal S256x128 .f32) (ix2 r l) = (pad8 (D.f (row t r)) l : EReal) := by
  have e : (win0_1.blk t).view.emb (ix2 r l) = ix2 (row t r) l := by blk_ext [idx t]
  blk_simp [iblk]; rw [V_v2, e]
  exact padded_at _ _ _ (fun l => by rw [← A.f]; pointwise) l

theorem gq_at (k : Fin 512) : (iblk m c 2 t : Vec Ideal S1x512 .f32) (ix2 0 k) = (D.gq (lane k) : EReal) := by
  have e : (win0_2.blk t).view.emb (ix2 0 k) = ix2 0 k := by blk_ext [idx t]
  blk_simp [iblk]; rw [V_v5, e, ← A.gq]; exact tiled_at _ k

theorem gk_at (k : Fin 512) : (iblk m c 3 t : Vec Ideal S1x512 .f32) (ix2 0 k) = (D.gk (lane k) : EReal) := by
  have e : (win0_3.blk t).view.emb (ix2 0 k) = ix2 0 k := by blk_ext [idx t]
  blk_simp [iblk]; rw [V_v8, e, ← A.gk]; exact tiled_at _ k

theorem fb_at (l : Fin 128) : (iblk m c 4 t : Vec Ideal S1x128 .f32) (ix2 0 l) = (pad8 D.fb l : EReal) := by
  have e : (win0_4.blk t).view.emb (ix2 0 l) = ix2 0 l := by blk_ext [idx t]
  blk_simp [iblk]; rw [V_v9, e]; exact padded1_at _ _ A.fb l

theorem dq_at (k : Fin 512) : (iblk m c 5 t : Vec Ideal S8x256x64 .f32) (ix3 (head k) r (lane k)) = (D.dq (row t r) k : EReal) := by
  rw [← A.dq]; blk_ext! [iblk, V, idx t]

theorem dk_at (k : Fin 512) : (iblk m c 6 t : Vec Ideal S8x256x64 .f32) (ix3 (head k) r (lane k)) = (D.dk (row t r) k : EReal) := by
  rw [← A.dk]; blk_ext! [iblk, V, idx t]

theorem cq_at (l : Fin 128) : (iblk m c 9 t : Vec Ideal S256x128 .f32) (ix2 r l) = (pad8 (D.cq (row t r)) l : EReal) := by
  have e : (win0_9.blk t).view.emb (ix2 r l) = ix2 (row t r) l := by blk_ext [idx t]
  blk_simp [iblk]; rw [V_v11, e]
  exact padded_at _ _ _ (fun l => by rw [← A.cq]; pointwise) l

theorem ck_at (l : Fin 128) : (iblk m c 10 t : Vec Ideal S256x128 .f32) (ix2 r l) = (pad8 (D.ck (row t r)) l : EReal) := by
  have e : (win0_10.blk t).view.emb (ix2 r l) = ix2 (row t r) l := by blk_ext [idx t]
  blk_simp [iblk]; rw [V_v13, e]
  exact padded_at _ _ _ (fun l => by rw [← A.ck]; pointwise) l

omit A in
theorem dv_at (k : Fin 512) : (iblk m c 7 t : Vec Ideal S8x256x64 .f32) (ix3 (head k) r (lane k))
    = (m ((c.tc : Thread nD τ).loc main_arg6) : FVec Ideal S8x2048x64 .f32) (ix3 (head k) (row t r) (lane k)) := by
  blk_ext! [iblk, V, idx t]

omit A in
theorem dg_at (k : Fin 512) : (iblk m c 8 t : Vec Ideal S256x512 .f32) (ix2 r k)
    = (m ((c.tc : Thread nD τ).loc main_arg7) : FVec Ideal S2048x512 .f32) (ix2 (row t r) k) := by
  blk_ext! [iblk, V, idx t]

end Blocks

end Cert.Foxpre

end
-- ==== Proof.Foxpre.Value.lean ====
/- The kernel's five result arrays, as real formulas of the arguments. -/
module

public import proofs.«01_k».proof.Proof.Foxpre.Blocks
public import proofs.«01_k».proof.Proof.Gen.FoxpreKernelIdeal.Value
public import Idealize.ShloMosaic.Lib.Pipeline.ReadBack

@[expose] public section

set_option maxRecDepth 16384

noncomputable section

open Idealize.ShloMosaic Idealize.ShloMosaic.TcCoe Idealize.SL.Sem
open Cert.Reals Cert.HeadSums Cert.HeadNorm Cert.Tail Cert.FoxpreKernelIdeal Cert.FoxpreKernelIdeal.Gen

namespace Cert.Foxpre

variable {m : (ℓ : Loc nD τ sig) → Buf (Elt Ideal) ℓ} {c : Dev nD} {D : Data} (A : Args m c D)

/-! ## The projections' gradients -/

theorem cols (l : Fin 2048) : ∃ k : Fin 512, l = ⟨k.val, by omega⟩ ∨ l = ⟨512 + k.val, by omega⟩ ∨ l = ⟨1024 + k.val, by omega⟩ ∨ l = ⟨1536 + k.val, by omega⟩ := by
  refine ⟨⟨l.val % 512, by omega⟩, ?_⟩
  simp only [Fin.ext_iff]; omega

include A in
theorem dQ_blk (t : Fin cfg0.N) (r k) : dQ (colA (iblk m c 0 t)) (iblk m c 2 t) (hq (iblk m c 5 t)) (ix2 r k) = (D.dxq (row t r) k : EReal) :=
  Foxpre.dQ_at (x := D.q (row t r)) (g := fun k => D.gq (lane k)) (d := D.dq (row t r)) (q_at A t r) (gq_at A t)
    (fun k => (hq_at _ r k).trans (dq_at A t r k)) k

include A in
theorem dK_blk (t : Fin cfg0.N) (r k) : dK (colB (iblk m c 0 t)) (iblk m c 3 t) (hk (iblk m c 6 t)) (ix2 r k) = (D.dxk (row t r) k : EReal) :=
  Foxpre.dK_at (x := D.k (row t r)) (g := fun k => D.gk (lane k)) (d := D.dk (row t r)) (k_at A t r) (gk_at A t)
    (fun k => (hk_at _ r k).trans (dk_at A t r k)) k

include A in
theorem final_ub (G : FVec Ideal S2048x2048 .bf16)
    (hq : ∀ r (k : Fin 512), G (ix2 r ⟨k.val, by omega⟩) = (D.dxq r k : EReal)) (hk : ∀ r (k : Fin 512), G (ix2 r ⟨512 + k.val, by omega⟩) = (D.dxk r k : EReal))
    (hv : ∀ r (k : Fin 512), G (ix2 r ⟨1024 + k.val, by omega⟩) = (m ((c.tc : Thread nD τ).loc main_arg6) : FVec Ideal S8x2048x64 .f32) (ix3 (head k) r (lane k)))
    (hg : ∀ r (k : Fin 512), G (ix2 r ⟨1536 + k.val, by omega⟩) = (m ((c.tc : Thread nD τ).loc main_arg7) : FVec Ideal S2048x512 .f32) (ix2 r k)) :
    (dats m 0 c).arrAt 11 cfg0.N = G := by
  refine (dats m 0 c).arrAt_eq_of_covers 11 _ (by decide +kernel) fun t hf y => ?_
  blk_simp
  rw [after0_11]
  obtain ⟨r, l, rfl⟩ : ∃ (r : Fin 256) (l : Fin 2048), y = ix2 r l := exists_ix2 y
  have e : (win0_11.blk t).view.emb (ix2 r l) = ix2 (row t r) l := by blk_ext [idx t]
  have key : hub (iblk m c 7 t) (dK (colB (iblk m c 0 t)) (iblk m c 3 t) (Foxpre.hk (iblk m c 6 t)))
      (dQ (colA (iblk m c 0 t)) (iblk m c 2 t) (Foxpre.hq (iblk m c 5 t))) (iblk m c 8 t) (ix2 r l) = G (ix2 (row t r) l) := by
    obtain ⟨k, rfl | rfl | rfl | rfl⟩ := cols l
    · exact (hub_q _ _ _ _ _ _).trans ((dQ_blk A t r k).trans (hq _ _).symm)
    · exact (hub_k _ _ _ _ _ _).trans ((dK_blk A t r k).trans (hk _ _).symm)
    · exact (hub_v _ _ _ _ _ _).trans ((dv_at t r k).trans (hv _ _).symm)
    · exact (hub_g _ _ _ _ _ _).trans ((dg_at t r k).trans (hg _ _).symm)
  rw [e]
  by_cases h : t.val % 8 = 0
  · rw [outsAt0_A m c t h]; frame_out; exact key
  · rw [outsAt0_B m c t h]; frame_out; exact key

/-! ## The carried suffix sum -/

/-- The columns behind the forget gate are zero. -/
theorem pad8_add (f g : Fin 8 → ℝ) (l) : pad8 f l + pad8 g l = pad8 (fun h => f h + g h) l := by
  unfold pad8; split_ifs <;> simp

theorem suf_pad (f : Fin 2048 → Fin 8 → ℝ) (r l) : suf (fun j => pad8 (f j) l) r = pad8 (fun h => suf (fun j => f j h) r) l := by
  unfold pad8 suf; split_ifs <;> simp

/-- The sum's gradient in the tile, from what the later tiles left. -/
theorem L_at (t : Fin cfg0.N) (r : Fin 256) (l : Fin 128) (cr : Vec Ideal S1x128 .f32)
    (hc : cr (ix2 0 l) = ((if h : t.val % 8 = 0 then 0 else pad8 (D.dl (row ⟨t.val - 1, by have := t.isLt; omega⟩ 0)) l : ℝ) : EReal)) (A : Args m c D) :
    k0_pay7 (F := Ideal) (iblk m c 9 t) (iblk m c 10 t) cr (ix2 r l) = (pad8 (D.dl (row t r)) l : EReal) := by
  rw [pay7_at _ _ _ r l (fun i => cq_at A t i l) (fun i => ck_at A t i l) hc]
  refine congrArg _ ?_
  have e (r) : pad8 (D.dl r) l = suf (fun j => pad8 (D.cq j) l + pad8 (D.ck j) l) r := by
    simp only [pad8_add]; rw [suf_pad]; rfl
  rw [e (row t r), suf_row]
  split_ifs
  · rfl
  · rw [e]

include A in
/-- The carry after a point is the sum's gradient at its first row. -/
theorem carry_at (n : Nat) : ∀ (t : Fin cfg0.N) (_ : t.val = n) (l : Fin 128),
    (outsAt0 m c t.val t.isLt).2.2.2.2.2 (ix2 0 l) = (pad8 (D.dl (row t 0)) l : EReal) := by
  induction n with
  | zero =>
    intro t ht l
    have h : t.val % 8 = 0 := by rw [ht]
    rw [outsAt0_A m c t h]; frame_out
    refine (pay8_at _ _ _ l).trans (L_at t 0 l _ ?_ A)
    rw [dif_pos h, EReal.coe_zero]; pointwise [k0_pay3]
  | succ n ih =>
    intro t ht l
    have hlt : t.val < 8 := t.isLt
    have h : ¬ t.val % 8 = 0 := by omega
    rw [outsAt0_B m c t h]; frame_out
    refine (pay8_at _ _ _ l).trans (L_at t 0 l _ ?_ A)
    rw [dif_neg h]
    simp only [read_unread_whole]
    exact ih ⟨t.val - 1, by omega⟩ (by simp only; omega) l

/-! ## The forget gate's gradient -/

/-- The gradient of the logits in a tile, with the carry `cr`. -/
abbrev dF (U P : Vec Ideal S256x128 .f32) (b : Vec Ideal S1x128 .f32) (R : Vec Ideal S256x128 .f32) (cr : Vec Ideal S1x128 .f32) : FVec Ideal S256x128 .f32 :=
  k0_pay53 (k0_pay7 P R cr) (k0_pay35 (k0_pay34 (k0_pay11 U) (k0_pay12 b)) (FloatOps.ofBits FTy.f32 0#32))
    (k0_pay50 (k0_pay7 P R cr) (k0_pay36 (k0_pay34 (k0_pay11 U) (k0_pay12 b))) (k0_pay37 (k0_pay34 (k0_pay11 U) (k0_pay12 b))) (k0_pay38 (k0_pay34 (k0_pay11 U) (k0_pay12 b))))
    (k0_pay51 (k0_pay7 P R cr) (k0_pay36 (k0_pay34 (k0_pay11 U) (k0_pay12 b))) (k0_pay37 (k0_pay34 (k0_pay11 U) (k0_pay12 b))) (k0_pay38 (k0_pay34 (k0_pay11 U) (k0_pay12 b))))
    k0_pay52

include A in
theorem dF_at (t : Fin cfg0.N) (r : Fin 256) (l : Fin 128) (cr : Vec Ideal S1x128 .f32)
    (hc : cr (ix2 0 l) = ((if h : t.val % 8 = 0 then 0 else pad8 (D.dl (row ⟨t.val - 1, by have := t.isLt; omega⟩ 0)) l : ℝ) : EReal)) :
    dF (iblk m c 1 t) (iblk m c 9 t) (iblk m c 4 t) (iblk m c 10 t) cr (ix2 r l) = (pad8 (D.df (row t r)) l : EReal) := by
  refine (pay53_at (L_at t r l cr hc A) (x := pad8 (fun h => D.f (row t r) h + D.fb h) l) ?_ ?_).trans (congrArg _ ?_)
  · rw [pay34_at, f_at A, fb_at A, ← EReal.coe_add, pad8_add]
  · unfold pad8; split_ifs with h
    · exact .inl (A.ne _ _)
    · exact .inr rfl
  · unfold pad8; split_ifs
    · rfl
    · exact zero_mul _

include A in
theorem carry_A (t : Fin cfg0.N) (h : t.val % 8 = 0) (l) : k0_pay3 (F := Ideal) (ix2 0 l)
    = ((if h : t.val % 8 = 0 then 0 else pad8 (D.dl (row ⟨t.val - 1, by have := t.isLt; omega⟩ 0)) l : ℝ) : EReal) := by
  rw [dif_pos h, EReal.coe_zero]; pointwise [k0_pay3]

include A in
theorem carry_B (t : Fin cfg0.N) (h : ¬ t.val % 8 = 0) (b) (l) : (outsAt0 m c (t.val - 1) b).2.2.2.2.2 (ix2 0 l)
    = ((if h : t.val % 8 = 0 then 0 else pad8 (D.dl (row ⟨t.val - 1, by have := t.isLt; omega⟩ 0)) l : ℝ) : EReal) := by
  rw [dif_neg h]; exact carry_at A _ ⟨t.val - 1, b⟩ rfl l

include A in
theorem final_uf (G : FVec Ideal S2048x128 .bf16) (hG : ∀ r l, G (ix2 r l) = (pad8 (D.df r) l : EReal)) : (dats m 0 c).arrAt 12 cfg0.N = G := by
  refine (dats m 0 c).arrAt_eq_of_covers 12 _ (by decide +kernel) fun t hf y => ?_
  blk_simp
  rw [after0_12]
  obtain ⟨r, l, rfl⟩ : ∃ (r : Fin 256) (l : Fin 128), y = ix2 r l := exists_ix2 y
  have e : (win0_12.blk t).view.emb (ix2 r l) = ix2 (row t r) l := by blk_ext [idx t]
  rw [e, hG]
  by_cases h : t.val % 8 = 0
  · rw [outsAt0_A m c t h]; frame_out
    exact (pay91_at _ r l).trans (dF_at A t r l _ (carry_A A t h l))
  · rw [outsAt0_B m c t h]; frame_out
    simp only [read_unread_whole]
    exact (pay91_at _ r l).trans (dF_at A t r l _ (carry_B A t h _ l))

include A in
theorem final_fb (G : FVec Ideal S1x128 .f32) (hG : ∀ l, G (ix2 0 l) = ((∑ r, pad8 (D.df r) l : ℝ) : EReal)) : (dats m 0 c).arrAt 15 cfg0.N = G := by
  refine (dats m 0 c).arrAt_eq_of_covers 15 _ (by decide +kernel) fun t hf y => ?_
  blk_simp
  obtain ⟨l, rfl⟩ : ∃ l : Fin 128, y = ix2 0 l := exists_ix2_row y
  have e : (win0_15.blk t).view.emb (ix2 0 l) = ix2 0 l := by blk_ext [idx t]
  let part : Fin cfg0.N → S1x128.Idx → EReal := fun s i => ((∑ r, pad8 (D.df (row s r)) (i 1) : ℝ) : EReal)
  have hlast : t.val % 8 = 7 := (flush0_15 t).mp hf
  rw [e, hG, after0_15, Pipeline.eq_sum_fin_of_reset_step_apply_of_flush (fun n h => (outsAt0 m c n h).2.2.2.2.1) 8 (fun _ => (0 : EReal)) part
    (fun s h i => by
      rw [outsAt0_A m c s h]; frame_out
      obtain ⟨l, rfl⟩ := exists_ix2_row i
      refine (pay2_at _ _ _ _ _ _ l).trans (congrArg₂ (· + ·) ?_ ?_)
      · pointwise [k0_pay6]
      · exact (Finset.sum_congr rfl fun r _ => dF_at A s r l _ (carry_A A s h l)).trans (coe_sum _ _))
    (fun s h i => by
      rw [outsAt0_B m c s h]; frame_out
      simp only [read_unread_whole]
      obtain ⟨l, rfl⟩ := exists_ix2_row i
      refine (pay2_at _ _ _ _ _ _ l).trans (congrArg₂ (· + ·) rfl ?_)
      exact (Finset.sum_congr rfl fun r _ => dF_at A s r l _ (carry_B A s h _ l)).trans (coe_sum _ _)) t hlast (ix2 0 l)]
  simp only [zero_add, part, coe_sum]
  exact congrArg _ (sum_tiles (fun r => pad8 (D.df r) l) t _)

/-! ## The gains' gradients -/

/-- What a row adds to the gradient of a gain. -/
def gain (x d : Fin 512 → ℝ) (l : Fin 64) : ℝ := ∑ h : Fin 8, x ⟨64 * h + l, by omega⟩ * rs x ⟨64 * h + l, by omega⟩ * d ⟨64 * h + l, by omega⟩

include A in
theorem gq_tile (s : Fin cfg0.N) (p : Vec Ideal S1x64 .f32) (l : Fin 64) :
    k0_pay92 (F := Ideal) (k0_pay71 (qN (colA (iblk m c 0 s))) (hq (iblk m c 5 s))) p (ix2 0 l)
      = p (ix2 0 l) + ((∑ r, gain (D.q (row s r)) (D.dq (row s r)) l : ℝ) : EReal) := by
  rw [pay92_at]
  have e (r k) : hq (iblk m c 5 s) (ix2 r k) = (D.dq (row s r) k : EReal) := (hq_at _ r k).trans (dq_at A s r k)
  simp only [qN_at (q_at A s _), e, ← EReal.coe_mul, coe_sum]
  rw [Finset.sum_comm]; rfl

include A in
theorem gk_tile (s : Fin cfg0.N) (p : Vec Ideal S1x64 .f32) (l : Fin 64) :
    k0_pay1 (F := Ideal) (k0_pay55 (kN (colB (iblk m c 0 s))) (hk (iblk m c 6 s))) p (ix2 0 l)
      = p (ix2 0 l) + ((∑ r, gain (D.k (row s r)) (D.dk (row s r)) l : ℝ) : EReal) := by
  rw [pay1_at]
  have e (r k) : hk (iblk m c 6 s) (ix2 r k) = (D.dk (row s r) k : EReal) := (hk_at _ r k).trans (dk_at A s r k)
  simp only [kN_at (k_at A s _), e, ← EReal.coe_mul, coe_sum]
  rw [Finset.sum_comm]; rfl

include A in
theorem final_gq (G : FVec Ideal S1x64 .f32) (hG : ∀ l, G (ix2 0 l) = ((∑ r, gain (D.q r) (D.dq r) l : ℝ) : EReal)) : (dats m 0 c).arrAt 13 cfg0.N = G := by
  refine (dats m 0 c).arrAt_eq_of_covers 13 _ (by decide +kernel) fun t hf y => ?_
  blk_simp
  obtain ⟨l, rfl⟩ : ∃ l : Fin 64, y = ix2 0 l := exists_ix2_row y
  have e : (win0_13.blk t).view.emb (ix2 0 l) = ix2 0 l := by blk_ext [idx t]
  let part : Fin cfg0.N → S1x64.Idx → EReal := fun s i => ((∑ r, gain (D.q (row s r)) (D.dq (row s r)) (i 1) : ℝ) : EReal)
  have hlast : t.val % 8 = 7 := (flush0_13 t).mp hf
  rw [e, hG, after0_13, Pipeline.eq_sum_fin_of_reset_step_apply_of_flush (fun n h => (outsAt0 m c n h).2.2.1) 8 (fun _ => (0 : EReal)) part
    (fun s h i => by
      rw [outsAt0_A m c s h]; frame_out
      obtain ⟨l, rfl⟩ := exists_ix2_row i
      refine (gq_tile A s _ l).trans (congrArg (· + part s (ix2 0 l)) ?_)
      pointwise [k0_pay4])
    (fun s h i => by
      rw [outsAt0_B m c s h]; frame_out
      obtain ⟨l, rfl⟩ := exists_ix2_row i
      exact gq_tile A s _ l) t hlast (ix2 0 l)]
  simp only [zero_add, part, coe_sum]
  exact congrArg _ (sum_tiles (fun r => gain (D.q r) (D.dq r) l) t _)

include A in
theorem final_gk (G : FVec Ideal S1x64 .f32) (hG : ∀ l, G (ix2 0 l) = ((∑ r, gain (D.k r) (D.dk r) l : ℝ) : EReal)) : (dats m 0 c).arrAt 14 cfg0.N = G := by
  refine (dats m 0 c).arrAt_eq_of_covers 14 _ (by decide +kernel) fun t hf y => ?_
  blk_simp
  obtain ⟨l, rfl⟩ : ∃ l : Fin 64, y = ix2 0 l := exists_ix2_row y
  have e : (win0_14.blk t).view.emb (ix2 0 l) = ix2 0 l := by blk_ext [idx t]
  let part : Fin cfg0.N → S1x64.Idx → EReal := fun s i => ((∑ r, gain (D.k (row s r)) (D.dk (row s r)) (i 1) : ℝ) : EReal)
  have hlast : t.val % 8 = 7 := (flush0_14 t).mp hf
  rw [e, hG, after0_14, Pipeline.eq_sum_fin_of_reset_step_apply_of_flush (fun n h => (outsAt0 m c n h).2.2.2.1) 8 (fun _ => (0 : EReal)) part
    (fun s h i => by
      rw [outsAt0_A m c s h]; frame_out
      obtain ⟨l, rfl⟩ := exists_ix2_row i
      refine (gk_tile A s _ l).trans (congrArg (· + part s (ix2 0 l)) ?_)
      pointwise [k0_pay5])
    (fun s h i => by
      rw [outsAt0_B m c s h]; frame_out
      obtain ⟨l, rfl⟩ := exists_ix2_row i
      exact gk_tile A s _ l) t hlast (ix2 0 l)]
  simp only [zero_add, part, coe_sum]
  exact congrArg _ (sum_tiles (fun r => gain (D.k r) (D.dk r) l) t _)

end Cert.Foxpre

end
-- ==== Proof.Foxpre.Ref.lean ====
/- The reference's stages under names of their own, each read at an index as a real formula of the rows. -/
module

public import proofs.«01_k».proof.Proof.Gen.FoxpreReferenceIdeal.Run
public import proofs.«01_k».proof.Proof.Foxpre.Blocks

@[expose] public section

set_option maxRecDepth 16384

noncomputable section

namespace Cert.FoxpreReferenceIdeal.Hand

open Cert.FoxpreReferenceIdeal Cert.FoxpreReferenceIdeal.Gen Cert.FoxpreReferenceIdeal.Value Cert.Reals Cert.HeadSums Cert.HeadNorm Cert.Tail
open Cert.Foxpre (dls suf pad8 Data)
open Idealize.ShloMosaic Idealize.ShloMosaic.TcCoe Idealize.ShloMosaic.StableHlo

/-- Lane `j` of head `h`. -/
def col (h : Fin 8) (j : Fin 64) : Fin 512 := ⟨64 * h + j, by omega⟩

/-! ## A head norm -/

def msR (x : FVec Ideal S2048x8x64 .f32) : FVec Ideal S2048x8x1 .f32 :=
  addf (Host.divf (broadcastInDim S2048x8x1 ![0, 1] bcast_S2048x8_S2048x8x1_0_1 (Host.reduceAdd (mulf x x) (constant S_ .f32 0x00000000#32) reducesTo_S2048x8x64_S2048x8_d2 h_S_)) (broadcastInDim S2048x8x1 ![] bcast_S_S2048x8x1 (constant S_ .f32 0x42800000#32))) (broadcastInDim S2048x8x1 ![] bcast_S_S2048x8x1 (constant S_ .f32 0x358637BD#32))
def rsR (x : FVec Ideal S2048x8x64 .f32) : FVec Ideal S2048x8x1 .f32 := Host.rsqrt (msR x)
def nR (x : FVec Ideal S2048x8x64 .f32) : FVec Ideal S2048x8x64 .f32 :=
  mulf x (broadcastInDim S2048x8x64 ![0, 1, 2] bcast_S2048x8x1_S2048x8x64_0_1_2 (rsR x))
def gR (g : FVec Ideal S1x64 .f32) : FVec Ideal S1x1x64 .f32 := broadcastInDim S1x1x64 ![2] bcast_S64_S1x1x64_2 (shapeCast _ g shapeCasts_S1x64_S64)
def dR (d : FVec Ideal S8x2048x64 .f32) : FVec Ideal S2048x8x64 .f32 := transpose S2048x8x64 [1, 0, 2] d transposes_S8x2048x64_S2048x8x64_1_0_2
/-- The cotangent of the normalised operand. -/
def cR (d : FVec Ideal S8x2048x64 .f32) (g : FVec Ideal S1x64 .f32) : FVec Ideal S2048x8x64 .f32 :=
  mulf (dR d) (broadcastInDim S2048x8x64 ![0, 1, 2] bcast_S1x1x64_S2048x8x64_0_1_2 (gR g))
/-- What differentiating the head's factor leaves in every lane. -/
def bR (x c : FVec Ideal S2048x8x64 .f32) : FVec Ideal S2048x8x64 .f32 :=
  broadcastInDim S2048x8x64 ![0, 1] bcast_S2048x8_S2048x8x64_0_1 (Host.reduceAdd (Host.divf (mulf (shapeCast _ (Host.reduceAdd (mulf x c) (constant S_ .f32 0x00000000#32) reducesTo_S2048x8x64_S2048x8_d2 h_S_) shapeCasts_S2048x8_S2048x8x1) (mulf (broadcastInDim S2048x8x1 ![] bcast_S_S2048x8x1 (constant S_ .f32 0xBF000000#32)) (Host.divf (rsR x) (msR x)))) (broadcastInDim S2048x8x1 ![] bcast_S_S2048x8x1 (constant S_ .f32 0x42800000#32))) (constant S_ .f32 0x00000000#32) reducesTo_S2048x8x1_S2048x8_d2 h_S_)
/-- The operand's gradient. -/
def gradR (x c : FVec Ideal S2048x8x64 .f32) : FVec Ideal S2048x512 .f32 :=
  shapeCast _ (addf (addf (mulf c (broadcastInDim S2048x8x64 ![0, 1, 2] bcast_S2048x8x1_S2048x8x64_0_1_2 (rsR x))) (mulf x (bR x c))) (mulf (bR x c) x)) shapeCasts_S2048x8x64_S2048x512
/-- The gain's gradient. -/
def gainR (n d : FVec Ideal S2048x8x64 .f32) : FVec Ideal S1x64 .f32 :=
  broadcastInDim S1x64 ![1] bcast_S64_S1x64_1 (Host.reduceAdd (shapeCast _ (Host.reduceAdd (mulf n d) (constant S_ .f32 0x00000000#32) reducesTo_S2048x8x64_S64_d0_1 h_S_) shapeCasts_S64_S1x1x64) (constant S_ .f32 0x00000000#32) reducesTo_S1x1x64_S64_d0_1 h_S_)

section Norm
variable {x : FVec Ideal S2048x8x64 .f32} {c : FVec Ideal S2048x8x64 .f32} {r : Fin 2048} {d xr g : Fin 512 → ℝ}
  (hx : ∀ (h : Fin 8) (j : Fin 64), x (ix3 r h j) = (xr (col h j) : EReal))
  (hc : ∀ (h : Fin 8) (j : Fin 64), c (ix3 r h j) = ((d (col h j) * g (col h j) : ℝ) : EReal))

/-- The columns of head `h` are the head of any of them. -/
theorem sum_head (f : Fin 512 → ℝ) (k : Fin 512) : ∑ j : Fin 64, f (col (head k) j) = hsum f k := rfl

include hx

theorem msR_at (k : Fin 512) : msR x (ix3 r (head k) 0) = (ms xr k : EReal) := by
  pointwise [msR]
  simp only [hx, ← EReal.coe_mul, coe_sum, ofBits_64, ofBits_eps]
  rw [div_real (by norm_num), ← EReal.coe_add, ms, mul_one_div]
  rfl

theorem rsR_at (k : Fin 512) : rsR x (ix3 r (head k) 0) = (rs xr k : EReal) := by
  pointwise [rsR]; rw [msR_at hx, rsqrt_ms]

theorem x_lane (k : Fin 512) : x (ix3 r (head k) (lane k)) = (xr k : EReal) := by
  rw [hx]; exact congrArg (fun k => ((xr k : ℝ) : EReal)) (Fin.ext (Nat.div_add_mod k.val 64))

theorem nR_at (k : Fin 512) : nR x (ix3 r (head k) (lane k)) = ((xr k * rs xr k : ℝ) : EReal) := by
  pointwise [nR]
  exact (congrArg₂ (· * ·) (x_lane hx k) (rsR_at hx k)).trans (EReal.coe_mul _ _).symm

include hc

theorem c_lane (k : Fin 512) : c (ix3 r (head k) (lane k)) = ((d k * g k : ℝ) : EReal) := by
  rw [hc]; exact congrArg (fun k => ((d k * g k : ℝ) : EReal)) (Fin.ext (Nat.div_add_mod k.val 64))

theorem bR_at (k : Fin 512) : bR x c (ix3 r (head k) (lane k)) = ((hsum (back d xr g) k : ℝ) : EReal) := by
  rw [hsum_back]
  pointwise [bR]
  simp only [Fin.sum_univ_one]
  simp only [show ∀ (h : k.val / 64 < 8), (⟨k.val / 64, h⟩ : Fin 8) = head k from fun _ => rfl, msR_at hx, rsR_at hx, hx, hc, ← EReal.coe_mul, coe_sum, ofBits_64, ofBits_neg_half, div_ms]
  rw [div_real (by norm_num)]
  rfl

theorem gradR_at (k : Fin 512) : gradR x c (ix2 r k) = (grad d xr g k : EReal) := by
  pointwise [gradR]
  have e := c_lane hx hc k; have e1 := x_lane hx k; have e2 := rsR_at hx k; have e3 := bR_at hx hc k
  simp only [head, lane] at e e1 e2 e3
  rw [e, e1, e2, e3, ← EReal.coe_mul, ← EReal.coe_mul, ← EReal.coe_mul, ← EReal.coe_add, ← EReal.coe_add]
  rfl

end Norm

/-! ## The forget gate -/

/-- softplus as it is written for the host. -/
def spR (u : FVec Ideal S2048x8 .f32) : FVec Ideal S2048x8 .f32 :=
  select (cmpf .une (subf u (broadcastInDim S2048x8 ![] bcast_S_S2048x8 (constant S_ .f32 0x00000000#32))) (subf u (broadcastInDim S2048x8 ![] bcast_S_S2048x8 (constant S_ .f32 0x00000000#32)))) (addf u (broadcastInDim S2048x8 ![] bcast_S_S2048x8 (constant S_ .f32 0x00000000#32))) (addf (maximumf u (broadcastInDim S2048x8 ![] bcast_S_S2048x8 (constant S_ .f32 0x00000000#32))) (Host.log1p (Host.exp (Host.negf (Host.absf (subf u (broadcastInDim S2048x8 ![] bcast_S_S2048x8 (constant S_ .f32 0x00000000#32))))))))
/-- The slope of softplus, from its input and its value. -/
def slopeR (u s : FVec Ideal S2048x8 .f32) : FVec Ideal S2048x8 .f32 :=
  Host.exp (subf (select (cmpf .oeq u (broadcastInDim S2048x8 ![] bcast_S_S2048x8 (constant S_ .f32 0x7F800000#32))) (broadcastInDim S2048x8 ![] bcast_S_S2048x8 (constant S_ .f32 0x00000000#32)) u) (select (cmpf .oeq s (broadcastInDim S2048x8 ![] bcast_S_S2048x8 (constant S_ .f32 0x7F800000#32))) (broadcastInDim S2048x8 ![] bcast_S_S2048x8 (constant S_ .f32 0x00000000#32)) s))
def uR (u : FVec Ideal S2048x2056 .f32) (b : FVec Ideal S1x8 .f32) : FVec Ideal S2048x8 .f32 :=
  Host.negf (addf (extractStridedSlice S2048x8 ![0, 2048] u slices_S2048x2056_S2048x8_0_2048) (broadcastInDim S2048x8 ![0, 1] bcast_S1x8_S2048x8_0_1 b))
def sufR (a b : FVec Ideal S8x2048 .f32) : FVec Ideal S2048x8 .f32 :=
  Host.reduceWindowAdd ![2048, 1] ![1, 1] ![0, 0] ![2047, 0] (transpose S2048x8 [1, 0] (addf a b) transposes_S8x2048_S2048x8_1_0) (broadcastInDim S_ ![] bcast_S_S_ (constant S_ .f32 0x00000000#32)) reduceWindows_S2048x8_S2048x8_w2048s1p0_2047_w1s1p0_0 h_S_
/-- The forget gate's gradient. -/
def dfR (u : FVec Ideal S2048x2056 .f32) (b : FVec Ideal S1x8 .f32) (cq ck : FVec Ideal S8x2048 .f32) : FVec Ideal S2048x8 .f32 :=
  Host.negf (mulf (Host.negf (sufR cq ck)) (slopeR (uR u b) (spR (uR u b))))

theorem softplus (u : ℝ) : max u 0 + Real.log (1 + Real.exp (-|u|)) = Real.log (1 + Real.exp u) := by
  rcases le_total 0 u with h | h
  · rw [max_eq_left h, abs_of_nonneg h]
    refine Real.exp_injective ?_
    rw [Real.exp_add, Real.exp_log (by positivity), Real.exp_log (by positivity), mul_add, ← Real.exp_add]
    simp [add_comm]
  · rw [max_eq_right h, abs_of_nonpos h, neg_neg, zero_add]

theorem spR_at (u : FVec Ideal S2048x8 .f32) (r l) (z : ℝ) (h : u (ix2 r l) = (z : EReal)) :
    spR u (ix2 r l) = (Real.log (1 + Real.exp z) : ℝ) := by
  pointwise [spR]
  rw [h, if_neg (by simp), Ideal.absf_def, ← EReal.coe_neg, ← EReal.coe_zero, ← EReal.coe_strictMono.monotone.map_max, ← EReal.coe_strictMono.monotone.map_max,
    ← abs, ← EReal.coe_neg, Ideal.exp_coe, Ideal.log1p, ← EReal.coe_one, ← EReal.coe_add, Ideal.log_coe, if_neg (by have := Real.exp_pos (-|z|); linarith), ← EReal.coe_add, softplus]

theorem slopeR_at (u s : FVec Ideal S2048x8 .f32) (r l) (z y : ℝ) (h : u (ix2 r l) = (z : EReal)) (hs : s (ix2 r l) = (y : EReal)) :
    slopeR u s (ix2 r l) = (Real.exp (z - y) : ℝ) := by
  pointwise [slopeR]
  rw [h, hs, ofBits_inf, if_neg (EReal.coe_ne_top _), if_neg (EReal.coe_ne_top _), ← EReal.coe_sub, Ideal.exp_coe]

theorem dls_neg (z : ℝ) : Real.exp (-z - Real.log (1 + Real.exp (-z))) = dls z := by
  rw [Real.exp_sub, Real.exp_log (by positivity), Real.exp_neg, dls]
  field_simp
  ring

/-! ## The suffix sum -/

/-- A left fold of additions is the sum. -/
theorem foldl_add {α : Type} (l : List α) (g : α → EReal) (v : EReal) : l.foldl (fun r n => r + g n) v = v + (l.map g).sum := by
  induction l generalizing v with
  | nil => simp
  | cons a l ih => rw [List.foldl_cons, ih, List.map_cons, List.sum_cons, add_assoc]

/-- The window's places, counted. -/
theorem sum_window (F : Shape.Idx ⟨2, ![2048, 1]⟩ → EReal) : ∑ i, F i = ∑ n : Fin 2048, F (ix2 n 0) := by
  refine (Fintype.sum_bijective (fun n : Fin 2048 => (ix2 n 0 : Shape.Idx ⟨2, ![2048, 1]⟩)) ⟨fun a b h => ?_, fun i => ?_⟩ _ _ (fun _ => rfl)).symm
  · exact congrFun h 0
  · refine ⟨i 0, ?_⟩
    funext a
    match a with
    | 0 => rfl
    | 1 => exact (Subsingleton.elim (α := Fin 1) _ _)

theorem suf_eq (d : Fin 2048 → ℝ) (r : Fin 2048) : suf d r = ∑ n : Fin 2048, if h : r.val + n.val < 2048 then d ⟨r.val + n.val, h⟩ else 0 := by
  rw [suf, ← Equiv.sum_comp (Equiv.addLeft r)]
  refine Finset.sum_congr rfl fun n _ => ?_
  have e : ((Equiv.addLeft r) n).val = (r.val + n.val) % 2048 := Fin.val_add r n
  have := r.isLt; have := n.isLt
  by_cases h : r.val + n.val < 2048
  · rw [dif_pos h, if_pos (by rw [Fin.le_def, e]; omega)]; exact congrArg d (Fin.ext (by rw [e]; exact Nat.mod_eq_of_lt h))
  · rw [dif_neg h, if_neg (by rw [Fin.le_def, e]; omega)]

theorem sufR_at (X : FVec Ideal S2048x8 .f32) (r : Fin 2048) (l : Fin 8) (d : Fin 2048 → ℝ) (h : ∀ j, X (ix2 j l) = (d j : EReal)) :
    Host.reduceWindowAdd (t := S2048x8) ![2048, 1] ![1, 1] ![0, 0] ![2047, 0] X (broadcastInDim S_ ![] bcast_S_S_ (constant (F := Ideal) S_ .f32 0x00000000#32))
      reduceWindows_S2048x8_S2048x8_w2048s1p0_2047_w1s1p0_0 h_S_ (ix2 r l) = (suf d r : EReal) := by
  have hz : (broadcastInDim S_ ![] bcast_S_S_ (constant (F := Ideal) S_ .f32 0x00000000#32)) (Shape.Idx.first h_S_) = (0 : EReal) := by
    pointwise
  unfold Host.reduceWindowAdd
  rw [Ideal.hostReduceWindowAdd_def, hz]
  unfold Ideal.hostReduceWindowAdd Host.reduceWindow
  simp only
  rw [foldl_add, zero_add, ← Fin.sum_univ_def]
  refine (Equiv.sum_comp (Shape.rowMajor ⟨2, ![2048, 1]⟩).symm (fun i => if h : ∀ a : Fin 2, ![0, 0] a ≤ (ix2 r l (Fin.cast rfl a)).val * ![1, 1] a + (i a).val ∧
    (ix2 r l (Fin.cast rfl a)).val * ![1, 1] a + (i a).val - ![0, 0] a < ![2048, 8] a
    then X fun a => ⟨(ix2 r l (Fin.cast rfl a)).val * ![1, 1] a + (i a).val - ![0, 0] a, (h a).2⟩ else 0)).trans ?_
  rw [suf_eq, ← coe_sum]
  rw [sum_window]
  refine Finset.sum_congr rfl fun n _ => ?_
  have e : (∀ a : Fin 2, ![0, 0] a ≤ (ix2 r l (Fin.cast rfl a)).val * ![1, 1] a + ((ix2 n 0 : Shape.Idx ⟨2, ![2048, 1]⟩) a).val ∧
    (ix2 r l (Fin.cast rfl a)).val * ![1, 1] a + ((ix2 n 0 : Shape.Idx ⟨2, ![2048, 1]⟩) a).val - ![0, 0] a < ![2048, 8] a) ↔ r.val + n.val < 2048 := by
    have := l.isLt
    rw [Fin.forall_fin_two]
    simp [ix2]
  by_cases hn : r.val + n.val < 2048
  · rw [dif_pos (e.2 hn), dif_pos hn, ← h]
    refine congrArg X ?_
    funext a
    match a with
    | 0 => exact Fin.ext (by simp [ix2])
    | 1 => exact Fin.ext (by simp [ix2])
  · rw [dif_neg (fun h => hn (e.1 h)), dif_neg hn]; rfl

theorem dfR_at (u : FVec Ideal S2048x2056 .f32) (b : FVec Ideal S1x8 .f32) (cq ck : FVec Ideal S8x2048 .f32) (r : Fin 2048) (l : Fin 8)
    (f fb : ℝ) (q k : Fin 2048 → ℝ) (hf : u (ix2 r ⟨2048 + l, by omega⟩) = (f : EReal)) (hb : b (ix2 0 l) = (fb : EReal))
    (hq : ∀ j, cq (ix2 l j) = (q j : EReal)) (hk : ∀ j, ck (ix2 l j) = (k j : EReal)) :
    dfR u b cq ck (ix2 r l) = ((suf (fun j => q j + k j) r * dls (f + fb) : ℝ) : EReal) := by
  have hu : uR u b (ix2 r l) = ((-(f + fb) : ℝ) : EReal) := by
    pointwise [uR]; rw [hf, hb, ← EReal.coe_add, ← EReal.coe_neg]
  have hs : sufR cq ck (ix2 r l) = (suf (fun j => q j + k j) r : EReal) :=
    sufR_at _ r l _ fun j => by pointwise; rw [hq, hk, ← EReal.coe_add]
  pointwise [dfR]
  rw [hs, slopeR_at _ _ r l _ _ hu (spR_at _ r l _ hu), dls_neg, ← EReal.coe_neg, ← EReal.coe_mul, ← EReal.coe_neg, neg_mul, neg_neg]

/-- A sum over the first two axes of three. -/
theorem sum_first_two {n0 n1 n2 : ℕ} (h : (⟨3, ![n0, n1, n2]⟩ : Shape).ReducesTo [0, 1] ⟨1, ![n2]⟩) (v : (⟨3, ![n0, n1, n2]⟩ : Shape).Idx → EReal) (init : EReal) (l : Fin n2) :
    Ideal.hostReduceAdd h v init (ix1 l) = init + ∑ r : Fin n0, ∑ k : Fin n1, v (ix3 r k l) := by
  unfold Ideal.hostReduceAdd
  have e : ∀ i, h.drop i = ix1 l ↔ i 2 = l := fun i => by
    have e0 : ((h.drop i 0 : Fin _) : ℕ) = (i 2).val := h.drop_apply_val i 0
    refine ⟨fun w => Fin.ext ?_, fun w => ?_⟩
    · rw [← e0, w]; rfl
    · funext a
      match a with
      | 0 => exact Fin.ext (e0.trans (congrArg Fin.val w))
  congr 1
  rw [← Finset.sum_product']
  symm
  refine Finset.sum_bij (fun p _ => ix3 p.1 p.2 l) (fun p _ => ?_) (fun p _ q _ w => ?_) (fun i hi => ?_) (fun _ _ => rfl)
  · exact Finset.mem_filter.2 ⟨Finset.mem_univ _, (e _).2 rfl⟩
  · exact Prod.ext (congrFun w 0) (congrFun w 1)
  · refine ⟨(i 0, i 1), Finset.mem_product.2 ⟨Finset.mem_univ _, Finset.mem_univ _⟩, ?_⟩
    have := (e i).1 (Finset.mem_filter.1 hi).2
    funext a
    match a with
    | 0 => rfl
    | 1 => rfl
    | 2 => exact this.symm

theorem gainR_at (n d : FVec Ideal S2048x8x64 .f32) (l : Fin 64) (f : Fin 2048 → Fin 512 → ℝ)
    (h : ∀ r h (l : Fin 64), n (ix3 r h l) * d (ix3 r h l) = (f r (col h l) : EReal)) :
    gainR n d (ix2 0 l) = ((∑ r, ∑ h : Fin 8, f r (col h l) : ℝ) : EReal) := by
  pointwise [gainR]
  rw [sum_first_two, zero_add, Fin.sum_univ_one, Fin.sum_univ_one]
  pointwise
  rw [sum_first_two, zero_add, ← coe_sum]
  refine Finset.sum_congr rfl fun r _ => ?_
  rw [← coe_sum]
  refine Finset.sum_congr rfl fun k _ => ?_
  pointwise
  exact h _ _ _

end Cert.FoxpreReferenceIdeal.Hand

end
-- ==== Proof.Foxpre.RefReads.lean ====
/- The reference's results, read at an index. -/
module

public import proofs.«01_k».proof.Proof.Foxpre.Ref
public import proofs.«01_k».proof.Proof.Foxpre.Value

@[expose] public section

set_option maxRecDepth 16384

noncomputable section

namespace Cert.FoxpreReferenceIdeal.Hand

open Cert.FoxpreReferenceIdeal Cert.FoxpreReferenceIdeal.Gen Cert.FoxpreReferenceIdeal.Value Cert.Reals Cert.HeadSums Cert.HeadNorm Cert.Tail
open Cert.Foxpre (dls suf pad8 Data gain)
open Idealize.ShloMosaic Idealize.ShloMosaic.TcCoe Idealize.ShloMosaic.StableHlo

section Stages
variable (m : (ℓ : Loc nD τ sig) → Buf (Elt Ideal) ℓ) (c : Dev nD)

abbrev A0 : FVec Ideal S2048x2056 .f32 := m ((c.tc : Thread nD τ).loc main_arg0)
abbrev A1 : FVec Ideal S1x8 .f32 := m ((c.tc : Thread nD τ).loc main_arg1)
abbrev A2 : FVec Ideal S1x64 .f32 := m ((c.tc : Thread nD τ).loc main_arg2)
abbrev A3 : FVec Ideal S1x64 .f32 := m ((c.tc : Thread nD τ).loc main_arg3)
abbrev A4 : FVec Ideal S8x2048x64 .f32 := m ((c.tc : Thread nD τ).loc main_arg4)
abbrev A5 : FVec Ideal S8x2048x64 .f32 := m ((c.tc : Thread nD τ).loc main_arg5)
abbrev A6 : FVec Ideal S8x2048x64 .f32 := m ((c.tc : Thread nD τ).loc main_arg6)
abbrev A7 : FVec Ideal S2048x512 .f32 := m ((c.tc : Thread nD τ).loc main_arg7)
abbrev A8 : FVec Ideal S8x2048 .f32 := m ((c.tc : Thread nD τ).loc main_arg8)
abbrev A9 : FVec Ideal S8x2048 .f32 := m ((c.tc : Thread nD τ).loc main_arg9)

/-- The queries' columns by head, and the keys'. -/
def qOf (u : FVec Ideal S2048x2056 .f32) : FVec Ideal S2048x8x64 .f32 := shapeCast _ (extractStridedSlice S2048x512 ![0, 0] u slices_S2048x2056_S2048x512_0_0 : FVec Ideal S2048x512 .f32) shapeCasts_S2048x512_S2048x8x64
def kOf (u : FVec Ideal S2048x2056 .f32) : FVec Ideal S2048x8x64 .f32 := shapeCast _ (extractStridedSlice S2048x512 ![0, 512] u slices_S2048x2056_S2048x512_0_512 : FVec Ideal S2048x512 .f32) shapeCasts_S2048x512_S2048x8x64
/-- The gradient of the values, by row. -/
def vOf (d : FVec Ideal S8x2048x64 .f32) : FVec Ideal S2048x512 .f32 := shapeCast _ (transpose S2048x8x64 [1, 0, 2] d transposes_S8x2048x64_S2048x8x64_1_0_2 : FVec Ideal S2048x8x64 .f32) shapeCasts_S2048x8x64_S2048x512
/-- The five gradients side by side. -/
def joined (a b d e : FVec Ideal S2048x512 .f32) (f : FVec Ideal S2048x8 .f32) : FVec Ideal S2048x2056 .f32 :=
  concatenate S2048x2056 1 [⟨S2048x512, a⟩, ⟨S2048x512, b⟩, ⟨S2048x512, d⟩, ⟨S2048x512, e⟩, ⟨S2048x8, f⟩] concatenates_S2048x512_S2048x512_S2048x512_S2048x512_S2048x8_S2048x2056_d1

def dxqR : FVec Ideal S2048x512 .f32 := gradR (qOf (A0 m c)) (cR (A4 m c) (A2 m c))
def dxkR : FVec Ideal S2048x512 .f32 := gradR (kOf (A0 m c)) (cR (A5 m c) (A3 m c))
def dfgR : FVec Ideal S2048x8 .f32 := dfR (A0 m c) (A1 m c) (A8 m c) (A9 m c)
def duR : FVec Ideal S2048x2056 .f32 := joined (dxqR m c) (dxkR m c) (vOf (A6 m c)) (A7 m c) (dfgR m c)

def ubR : FVec Ideal S2048x2048 .bf16 := truncf .bf16 (extractStridedSlice S2048x2048 ![0, 0] (duR m c) slices_S2048x2056_S2048x2048_0_0) bitsLt_bf16_f32
def ufR : FVec Ideal S2048x128 .bf16 := truncf .bf16 (pad S2048x128 ![0, 0] ![0, 120] ![0, 0] (extractStridedSlice S2048x8 ![0, 2048] (duR m c) slices_S2048x2056_S2048x8_0_2048) (sitofp .f32 (constantI S_ 32 0#32)) pads_S2048x8_S2048x128_000_01200 h_S_) bitsLt_bf16_f32
def gqR : FVec Ideal S1x64 .f32 := gainR (nR (qOf (A0 m c))) (dR (A4 m c))
def gkR : FVec Ideal S1x64 .f32 := gainR (nR (kOf (A0 m c))) (dR (A5 m c))
def fbR : FVec Ideal S1x128 .f32 := pad S1x128 ![0, 0] ![0, 120] ![0, 0] (shapeCast _ (Host.reduceAdd (dfgR m c) (constant S_ .f32 0x00000000#32) reducesTo_S2048x8_S8_d0 h_S_ : FVec Ideal S8 .f32) shapeCasts_S8_S1x8) (sitofp .f32 (constantI S_ 32 0#32)) pads_S1x8_S1x128_000_01200 h_S_

theorem v53_eq : res_main_v53 (launchContents m c) = dfgR m c := by
  unfold res_main_v53 res_main_call0_v1_0 res_main_call0_call0_v3 res_main_call0_v0 res_main_call0_call0_cst
  rfl
theorem q_eq : res_main_v5 (launchContents m c) = qOf (A0 m c) := rfl
theorem k_eq : res_main_v24 (launchContents m c) = kOf (A0 m c) := rfl
theorem msq_eq : res_main_v13 (launchContents m c) = msR (qOf (A0 m c)) := by unfold res_main_v13; rw [q_eq]; rfl
theorem msk_eq : res_main_v32 (launchContents m c) = msR (kOf (A0 m c)) := by unfold res_main_v32; rw [k_eq]; rfl
theorem rsq_eq : res_main_v14 (launchContents m c) = rsR (qOf (A0 m c)) := by unfold res_main_v14; rw [msq_eq]; rfl
theorem rsk_eq : res_main_v33 (launchContents m c) = rsR (kOf (A0 m c)) := by unfold res_main_v33; rw [msk_eq]; rfl
theorem nq_eq : res_main_v19 (launchContents m c) = nR (qOf (A0 m c)) := by unfold res_main_v19; rw [q_eq, rsq_eq]; rfl
theorem nk_eq : res_main_v38 (launchContents m c) = nR (kOf (A0 m c)) := by unfold res_main_v38; rw [k_eq, rsk_eq]; rfl
theorem dq_eq : res_main_v81 (launchContents m c) = dR (A4 m c) := rfl
theorem dk_eq : res_main_v58 (launchContents m c) = dR (A5 m c) := rfl
theorem cq_eq : res_main_v86 (launchContents m c) = cR (A4 m c) (A2 m c) := rfl
theorem ck_eq : res_main_v63 (launchContents m c) = cR (A5 m c) (A3 m c) := rfl
theorem bq_eq : res_main_v97 (launchContents m c) = bR (qOf (A0 m c)) (cR (A4 m c) (A2 m c)) := by unfold res_main_v97; rw [q_eq, cq_eq, rsq_eq, msq_eq]; rfl
theorem bk_eq : res_main_v74 (launchContents m c) = bR (kOf (A0 m c)) (cR (A5 m c) (A3 m c)) := by unfold res_main_v74; rw [k_eq, ck_eq, rsk_eq, msk_eq]; rfl
theorem du_eq : res_main_v104 (launchContents m c) = duR m c := by
  unfold res_main_v104; rw [q_eq, k_eq, cq_eq, ck_eq, rsq_eq, rsk_eq, bq_eq, bk_eq, v53_eq]; rfl

end Stages

theorem joined_a (a b d e : FVec Ideal S2048x512 .f32) (f : FVec Ideal S2048x8 .f32) (r) (k : Fin 512) : joined a b d e f (ix2 r ⟨k, by omega⟩) = a (ix2 r k) := by
  pointwise [joined]
theorem joined_b (a b d e : FVec Ideal S2048x512 .f32) (f : FVec Ideal S2048x8 .f32) (r) (k : Fin 512) : joined a b d e f (ix2 r ⟨512 + k, by omega⟩) = b (ix2 r k) := by
  pointwise [joined]
theorem joined_d (a b d e : FVec Ideal S2048x512 .f32) (f : FVec Ideal S2048x8 .f32) (r) (k : Fin 512) : joined a b d e f (ix2 r ⟨1024 + k, by omega⟩) = d (ix2 r k) := by
  pointwise [joined]
  rw [dif_neg (by omega), dif_neg (by omega), dif_pos (by omega)]
  simp only [show 1024 + k.val - 512 - 512 = k.val by omega]
theorem joined_e (a b d e : FVec Ideal S2048x512 .f32) (f : FVec Ideal S2048x8 .f32) (r) (k : Fin 512) : joined a b d e f (ix2 r ⟨1536 + k, by omega⟩) = e (ix2 r k) := by
  pointwise [joined]
  rw [dif_neg (by omega), dif_neg (by omega), dif_neg (by omega), dif_pos (by omega)]
  simp only [show 1536 + k.val - 512 - 512 - 512 = k.val by omega]
theorem joined_f (a b d e : FVec Ideal S2048x512 .f32) (f : FVec Ideal S2048x8 .f32) (r) (k : Fin 8) : joined a b d e f (ix2 r ⟨2048 + k, by omega⟩) = f (ix2 r k) := by
  pointwise [joined]
  rw [dif_neg (by omega), dif_neg (by omega), dif_neg (by omega), dif_neg (by omega)]
  simp only [show 2048 + k.val - 512 - 512 - 512 - 512 = k.val by omega]

/-! ## The reference over the arguments -/

variable {m : (ℓ : Loc nD τ sig) → Buf (Elt Ideal) ℓ} {c : Dev nD}

/-- The arguments are these reals. -/
structure Args (m : (ℓ : Loc nD τ sig) → Buf (Elt Ideal) ℓ) (c : Dev nD) (D : Data) : Prop where
  q : ∀ r (k : Fin 512), A0 m c (ix2 r ⟨k, by omega⟩) = (D.q r k : EReal)
  k : ∀ r (k : Fin 512), A0 m c (ix2 r ⟨512 + k, by omega⟩) = (D.k r k : EReal)
  f : ∀ r (l : Fin 8), A0 m c (ix2 r ⟨2048 + l, by omega⟩) = (D.f r l : EReal)
  fb : ∀ l, A1 m c (ix2 0 l) = (D.fb l : EReal)
  gq : ∀ l, A2 m c (ix2 0 l) = (D.gq l : EReal)
  gk : ∀ l, A3 m c (ix2 0 l) = (D.gk l : EReal)
  dq : ∀ r k, A4 m c (ix3 (head k) r (lane k)) = (D.dq r k : EReal)
  dk : ∀ r k, A5 m c (ix3 (head k) r (lane k)) = (D.dk r k : EReal)
  cq : ∀ r l, A8 m c (ix2 l r) = (D.cq r l : EReal)
  ck : ∀ r l, A9 m c (ix2 l r) = (D.ck r l : EReal)

/-- An array read by head holds the columns. -/
theorem by_head {X : FVec Ideal S8x2048x64 .f32} {d : Fin 2048 → Fin 512 → ℝ} (h : ∀ r k, X (ix3 (head k) r (lane k)) = (d r k : EReal)) (r) (i : Fin 8) (j : Fin 64) :
    X (ix3 i r j) = (d r (col i j) : EReal) := by
  rw [← h]
  exact congrArg₂ (fun i j => X (ix3 i r j)) (Fin.ext (by simp only [head, col]; omega)) (Fin.ext (by simp only [lane, col]; omega))

theorem lane_of (i : Fin 8) (j : Fin 64) : lane (col i j) = j := Fin.ext (by simp only [lane, col]; omega)

/-- The cotangent of a normalised operand. -/
theorem cR_at {d : FVec Ideal S8x2048x64 .f32} {g : FVec Ideal S1x64 .f32} {dr : Fin 2048 → Fin 512 → ℝ} {gr : Fin 64 → ℝ}
    (h : ∀ r k, d (ix3 (head k) r (lane k)) = (dr r k : EReal)) (hg : ∀ l, g (ix2 0 l) = (gr l : EReal)) (r) (i : Fin 8) (j : Fin 64) :
    cR d g (ix3 r i j) = ((dr r (col i j) * gr (lane (col i j)) : ℝ) : EReal) := by
  pointwise [cR, dR, gR]
  rw [by_head h, hg, ← EReal.coe_mul, lane_of]

/-- What a row adds to the gain's gradient. -/
theorem gain_at {x : FVec Ideal S2048x8x64 .f32} {d : FVec Ideal S8x2048x64 .f32} {xr dr : Fin 2048 → Fin 512 → ℝ}
    (hx : ∀ r (h : Fin 8) (j : Fin 64), x (ix3 r h j) = (xr r (col h j) : EReal))
    (h : ∀ r k, d (ix3 (head k) r (lane k)) = (dr r k : EReal)) (l) :
    gainR (nR x) (dR d) (ix2 0 l) = ((∑ r, gain (xr r) (dr r) l : ℝ) : EReal) := by
  refine gainR_at _ _ l (fun r k => xr r k * rs (xr r) k * dr r k) fun r i j => ?_
  have e := nR_at (hx r) (col i j)
  rw [lane_of, show head (col i j) = i from Fin.ext (by simp only [head, col]; omega)] at e
  rw [e]
  pointwise [dR]
  rw [by_head h, ← EReal.coe_mul]

variable {D : Data} (A : Args m c D)
include A

theorem q3 (r) (h : Fin 8) (j : Fin 64) : qOf (A0 m c) (ix3 r h j) = (D.q r (col h j) : EReal) := by
  rw [← A.q]; pointwise [qOf]; exact congrArg (fun k => A0 m c (ix2 r k)) (Fin.ext (by simp only [col]; omega))
theorem k3 (r) (h : Fin 8) (j : Fin 64) : kOf (A0 m c) (ix3 r h j) = (D.k r (col h j) : EReal) := by
  rw [← A.k]; pointwise [kOf]; exact congrArg (fun k => A0 m c (ix2 r k)) (Fin.ext (by simp only [col]; omega))

theorem dxq_at (r k) : dxqR m c (ix2 r k) = (D.dxq r k : EReal) := gradR_at (q3 A r) (cR_at A.dq A.gq r) k
theorem dxk_at (r k) : dxkR m c (ix2 r k) = (D.dxk r k : EReal) := gradR_at (k3 A r) (cR_at A.dk A.gk r) k
theorem dfg_at (r l) : dfgR m c (ix2 r l) = (D.df r l : EReal) := dfR_at _ _ _ _ r l _ _ _ _ (A.f r l) (A.fb l) (fun j => A.cq j l) (fun j => A.ck j l)

theorem ub_q (r) (k : Fin 512) : ubR m c (ix2 r ⟨k.val, by omega⟩) = (D.dxq r k : EReal) := by
  pointwise [ubR]; exact (joined_a _ _ _ _ _ r k).trans (dxq_at A r k)
theorem ub_k (r) (k : Fin 512) : ubR m c (ix2 r ⟨512 + k.val, by omega⟩) = (D.dxk r k : EReal) := by
  pointwise [ubR]; exact (joined_b _ _ _ _ _ r k).trans (dxk_at A r k)
omit A in
theorem ub_v (r) (k : Fin 512) : ubR m c (ix2 r ⟨1024 + k.val, by omega⟩) = A6 m c (ix3 (head k) r (lane k)) := by
  pointwise [ubR]; exact (joined_d _ _ _ _ _ r k).trans (by pointwise [vOf])
omit A in
theorem ub_g (r) (k : Fin 512) : ubR m c (ix2 r ⟨1536 + k.val, by omega⟩) = A7 m c (ix2 r k) := by
  pointwise [ubR]; exact joined_e _ _ _ _ _ r k
theorem uf_at (r l) : ufR m c (ix2 r l) = (pad8 (D.df r) l : EReal) := by
  pointwise [ufR]
  split_ifs with hl
  · exact ((joined_f _ _ _ _ _ r ⟨l, hl⟩).trans (dfg_at A r ⟨l, hl⟩)).trans (by rw [pad8, dif_pos hl])
  · rw [pad8, dif_neg hl]; show ((((0#32 : BitVec 32).toInt : ℤ) : ℝ) : EReal) = _; simp
theorem gq_at (l) : gqR m c (ix2 0 l) = ((∑ r, gain (D.q r) (D.dq r) l : ℝ) : EReal) := gain_at (q3 A) A.dq l
theorem gk_at (l) : gkR m c (ix2 0 l) = ((∑ r, gain (D.k r) (D.dk r) l : ℝ) : EReal) := gain_at (k3 A) A.dk l
theorem fb_at (l) : fbR m c (ix2 0 l) = ((∑ r, pad8 (D.df r) l : ℝ) : EReal) := by
  pointwise [fbR]
  split_ifs with hl
  · simp only [dfg_at A, coe_sum, pad8, dif_pos hl]
  · simp only [pad8, dif_neg hl]; show ((((0#32 : BitVec 32).toInt : ℤ) : ℝ) : EReal) = _; simp

end Cert.FoxpreReferenceIdeal.Hand

end
-- ==== Proof.Foxpre.Claim.lean ====
/- The kernel and the reference leave the same gradients of the head norms and of the forget gate. -/
module

public import proofs.«01_k».proof.Defs
public import proofs.«01_k».proof.Proof.Gen.Pre_foxpre_finite
public import proofs.«01_k».proof.Proof.Foxpre.Value
public import proofs.«01_k».proof.Proof.Foxpre.RefReads

@[expose] public section

set_option maxRecDepth 16384

noncomputable section

open Idealize.ShloMosaic Idealize.ShloMosaic.TcCoe Idealize.SL.Sem
open Cert.Reals Cert.Tail

namespace Cert.Foxpre

open Cert.FoxpreKernelIdeal in
/-- The precondition, read: the arguments it names are arrays of reals, and no logit with its bias is zero. -/
theorem reals_of_pre (A0 : FVec Ideal S2048x2056 .f32) (A1 : FVec Ideal S1x8 .f32) (A2 A3 : FVec Ideal S1x64 .f32) (A4 A5 A6 : FVec Ideal S8x2048x64 .f32)
    (A7 : FVec Ideal S2048x512 .f32) (A8 A9 : FVec Ideal S8x2048 .f32)
    (h : ∀ i, Cert.Pre_foxpre_finite.fn A0 A1 A2 A3 A4 A5 A6 A7 A8 A9 i = 1#1) :
    ∃ D : Data, (∀ r (k : Fin 512), A0 (ix2 r ⟨k, by omega⟩) = (D.q r k : EReal)) ∧ (∀ r (k : Fin 512), A0 (ix2 r ⟨512 + k, by omega⟩) = (D.k r k : EReal))
      ∧ (∀ r (l : Fin 8), A0 (ix2 r ⟨2048 + l, by omega⟩) = (D.f r l : EReal)) ∧ (∀ l, A1 (ix2 0 l) = (D.fb l : EReal))
      ∧ (∀ l, A2 (ix2 0 l) = (D.gq l : EReal)) ∧ (∀ l, A3 (ix2 0 l) = (D.gk l : EReal))
      ∧ (∀ r k, A4 (ix3 (head k) r (lane k)) = (D.dq r k : EReal)) ∧ (∀ r k, A5 (ix3 (head k) r (lane k)) = (D.dk r k : EReal))
      ∧ (∀ r l, A8 (ix2 l r) = (D.cq r l : EReal)) ∧ (∀ r l, A9 (ix2 l r) = (D.ck r l : EReal)) ∧ ∀ r l, D.f r l + D.fb l ≠ 0 := by
  have h := h (fun a => a.elim0)
  dsimp only [Cert.Pre_foxpre_finite.fn, Cert.Pre_foxpre_finite.fn_part1, Cert.Pre_foxpre_finite.fn_part2, andi] at h
  obtain ⟨h, hne⟩ := IntOp.andi_eq_one.mp h
  obtain ⟨h, h9⟩ := IntOp.andi_eq_one.mp h
  obtain ⟨h, h8⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have : Subsingleton Cert.Pre_foxpre_finite.S_.Idx := ⟨fun a b => funext fun i => i.elim0⟩
  obtain ⟨a0, e0⟩ := exists_of_finite A0 _ (fun i => ofBits_inf) _ _ _ _ h0
  obtain ⟨a1, e1⟩ := exists_of_finite A1 _ (fun i => ofBits_inf) _ _ _ _ h1
  obtain ⟨a2, e2⟩ := exists_of_finite A2 _ (fun i => ofBits_inf) _ _ _ _ h2
  obtain ⟨a3, e3⟩ := exists_of_finite A3 _ (fun i => ofBits_inf) _ _ _ _ h3
  obtain ⟨a4, e4⟩ := exists_of_finite A4 _ (fun i => ofBits_inf) _ _ _ _ h4
  obtain ⟨a5, e5⟩ := exists_of_finite A5 _ (fun i => ofBits_inf) _ _ _ _ h5
  obtain ⟨a8, e8⟩ := exists_of_finite A8 _ (fun i => ofBits_inf) _ _ _ _ h8
  obtain ⟨a9, e9⟩ := exists_of_finite A9 _ (fun i => ofBits_inf) _ _ _ _ h9
  refine ⟨⟨fun r k => a0 (ix2 r ⟨k, by omega⟩), fun r k => a0 (ix2 r ⟨512 + k, by omega⟩), fun r k => a4 (ix3 (head k) r (lane k)), fun r k => a5 (ix3 (head k) r (lane k)),
      fun l => a2 (ix2 0 l), fun l => a3 (ix2 0 l), fun r l => a0 (ix2 r ⟨2048 + l, by omega⟩), fun l => a1 (ix2 0 l), fun r l => a8 (ix2 l r), fun r l => a9 (ix2 l r)⟩,
    fun _ _ => e0 _, fun _ _ => e0 _, fun _ _ => e0 _, fun _ => e1 _, fun _ => e2 _, fun _ => e3 _, fun _ _ => e4 _, fun _ _ => e5 _, fun _ _ => e8 _, fun _ _ => e9 _, fun r l => ?_⟩
  have hn := Host.reduce_andi_all _ _ _ _ _ hne (ix2 r l)
  pointwise at hn
  rw [e0, e1, ← EReal.coe_add] at hn
  intro hz
  rw [hz] at hn
  simp at hn

/-- The reference runs and keeps its arguments; it has no semaphore. -/
theorem ref_frame : Cert.quiescent_FoxpreReferenceIdeal := fun m ρ _ =>
  (θ_run _ _ _).mono (fun _ h => ⟨fun c => (h c).2.2.2.2.2, sem_eq_zero_of_no_sems rfl _⟩) (Cert.FoxpreReferenceIdeal.Value.run m ρ)

/-- The value claim. -/
theorem algebraic : Cert.algebraic_FoxpreKernelIdeal_FoxpreReferenceIdeal_pre_foxpre_finite := by
  intro m g m' g' hpre hargs
  have hfin := fun c => reals_of_pre _ _ _ _ _ _ _ _ _ _ fun i => congrFun (hpre c) i
  refine ⟨fun c => (Cert.FoxpreKernelIdeal.Gen.dats m 0 c).arrAt 11 _, fun c => (Cert.FoxpreKernelIdeal.Gen.dats m 0 c).arrAt 12 _,
    fun c => (Cert.FoxpreKernelIdeal.Gen.dats m 0 c).arrAt 13 _, fun c => (Cert.FoxpreKernelIdeal.Gen.dats m 0 c).arrAt 14 _,
    fun c => (Cert.FoxpreKernelIdeal.Gen.dats m 0 c).arrAt 15 _,
    Cert.FoxpreKernelIdeal.Value.run_blocks m g, (θ_run _ _ _).mono (fun r h c => ?_) (Cert.FoxpreReferenceIdeal.Value.run m' g')⟩
  obtain ⟨h0, h1, h2, h3, h4, hkept⟩ := h c
  rw [FoxpreReferenceIdeal.Hand.du_eq] at h0 h1
  rw [FoxpreReferenceIdeal.Hand.nq_eq, FoxpreReferenceIdeal.Hand.dq_eq] at h2
  rw [FoxpreReferenceIdeal.Hand.nk_eq, FoxpreReferenceIdeal.Hand.dk_eq] at h3
  rw [FoxpreReferenceIdeal.Hand.v53_eq] at h4
  obtain ⟨D, e0, e0', e0'', e1, e2, e3, e4, e5, e8, e9, ne⟩ := hfin c
  obtain ⟨a0, a1, a2, a3, a4, a5, a6, a7, a8, a9⟩ := hargs c
  have K : Cert.Foxpre.Args m c D := ⟨e0, e0', e0'', e1, e2, e3, e4, e5, e8, e9, ne⟩
  have A : Cert.FoxpreReferenceIdeal.Hand.Args m' c D :=
    ⟨fun r l => (congrFun a0 _).trans (e0 r l), fun r l => (congrFun a0 _).trans (e0' r l), fun r k => (congrFun a0 _).trans (e0'' r k),
      fun l => (congrFun a1 _).trans (e1 l), fun l => (congrFun a2 _).trans (e2 l), fun l => (congrFun a3 _).trans (e3 l),
      fun r k => (congrFun a4 _).trans (e4 r k), fun r k => (congrFun a5 _).trans (e5 r k), fun r l => (congrFun a8 _).trans (e8 r l),
      fun r l => (congrFun a9 _).trans (e9 r l)⟩
  exact ⟨h0.trans (final_ub K _ (FoxpreReferenceIdeal.Hand.ub_q A) (FoxpreReferenceIdeal.Hand.ub_k A)
        (fun r k => (FoxpreReferenceIdeal.Hand.ub_v r k).trans (congrFun a6 _)) (fun r k => (FoxpreReferenceIdeal.Hand.ub_g r k).trans (congrFun a7 _))).symm,
    h1.trans (final_uf K _ (FoxpreReferenceIdeal.Hand.uf_at A)).symm,
    h2.trans (final_gq K _ (FoxpreReferenceIdeal.Hand.gq_at A)).symm,
    h3.trans (final_gk K _ (FoxpreReferenceIdeal.Hand.gk_at A)).symm,
    h4.trans (final_fb K _ (FoxpreReferenceIdeal.Hand.fb_at A)).symm, hkept⟩

end Cert.Foxpre

end
-- ==== Proof.Post.Math.lean ====
/- The recurrent mixer's output stage for one row and its gradient, over the reals: a norm over each head's 64 columns that takes
   the mean away, a bonus from the products of two operands, and a gate. Columns are numbered through all eight heads. -/
module

public import proofs.«01_k».proof.Proof.HeadNorm
public import proofs.«01_k».proof.Proof.Tail.Math

@[expose] public section

noncomputable section

open Idealize.ShloMosaic Idealize.ShloMosaic.TcCoe Idealize.SL.Sem
open Cert.Reals Cert.HeadSums Cert.HeadNorm Cert.Tail

namespace Cert.Post

/-- The norm's ε. -/
def nu : ℝ := 10995116 * 2 ^ (-34 : ℤ)

theorem nu_pos : 0 < nu := by unfold nu; positivity

theorem ofBits_nu : Ideal.ofBits .f32 0x3A27C5AC#32 = (nu : EReal) := by
  simp [Ideal.ofBits, Ideal.ieee, nu]

variable (x : Fin 512 → ℝ) (k : Fin 512)

/-- A column without its head's mean. -/
def cen : ℝ := x k - hsum x k * (1 / 64)

/-- The head's variance, ε added. -/
def vr : ℝ := hsum (fun k => cen x k * cen x k) k * (1 / 64) + nu

theorem vr_pos : 0 < vr x k :=
  add_pos_of_nonneg_of_pos (mul_nonneg (hsum_nonneg _ (fun k => mul_self_nonneg (cen x k)) k) (by norm_num)) nu_pos

/-- Its reciprocal root. -/
def rv : ℝ := (√(vr x k))⁻¹

theorem rsqrt_vr : Ideal.rsqrt (vr x k : EReal) = (rv x k : EReal) := rsqrt_pos (vr_pos x k)

theorem div_vr (y : ℝ) : Ideal.div (y : EReal) (vr x k : EReal) = ((y / vr x k : ℝ) : EReal) := div_real (vr_pos x k).ne' y

theorem vr_hd (j) : vr x (hd k j) = vr x k := by rw [vr, hsum_hd]; rfl

theorem rv_hd (j) : rv x (hd k j) = rv x k := by rw [rv, vr_hd]; rfl

/-- What one column adds to its head's part of the gradient through the variance, `u` the cotangent of the normalised operand. -/
def part (u x : Fin 512 → ℝ) (k : Fin 512) : ℝ := cen x k * u k * (-(1 / 2) * (rv x k / vr x k)) * (1 / 64)

/-- The gradient of the centred operand. -/
def dcen (u x : Fin 512 → ℝ) (k : Fin 512) : ℝ := u k * rv x k + cen x k * hsum (part u x) k + hsum (part u x) k * cen x k

/-- The gradient of the operand. -/
def dnorm (u x : Fin 512 → ℝ) (k : Fin 512) : ℝ := dcen u x k + hsum (fun k => (0 - dcen u x k) * (1 / 64)) k

/-- The head's factor taken out of the sum. -/
theorem hsum_part (u x : Fin 512 → ℝ) (k : Fin 512) :
    hsum (part u x) k = hsum (fun k => cen x k * u k) k * (-(1 / 2) * (rv x k / vr x k)) / 64 := by
  rw [hsum, hsum, Finset.sum_mul, Finset.sum_div]
  exact Finset.sum_congr rfl fun j _ => by rw [part, vr_hd, rv_hd]; ring

/-- The arguments. -/
structure Data where
  y : Fin 2048 → Fin 512 → ℝ
  r : Fin 2048 → Fin 512 → ℝ
  k : Fin 2048 → Fin 512 → ℝ
  v : Fin 2048 → Fin 512 → ℝ
  g : Fin 2048 → Fin 512 → ℝ
  w : Fin 512 → ℝ
  b : Fin 512 → ℝ
  p : Fin 512 → ℝ
  d : Fin 2048 → Fin 512 → ℝ

/-- The gated cotangent. -/
def gated (d g : Fin 512 → ℝ) (k : Fin 512) : ℝ := d k * (g k * sg (g k))

/-- The value before the gate. -/
def inner (y r q v w b p : Fin 512 → ℝ) (k : Fin 512) : ℝ := cen y k * rv y k * w k + b k + hsum (fun k => r k * q k * p k) k * v k

/-- The gate's gradient. -/
def dg (d g o : Fin 512 → ℝ) (k : Fin 512) : ℝ := d k * o k * (sg (g k) * (1 + g k * (1 - sg (g k))))

/-- The cotangent of the bonus' sum. -/
def dbonus (d g v : Fin 512 → ℝ) (k : Fin 512) : ℝ := hsum (fun k => gated d g k * v k) k

namespace Data
variable (D : Data) (r : Fin 2048)
def dn : Fin 512 → ℝ := gated (D.d r) (D.g r)
def db : Fin 512 → ℝ := dbonus (D.d r) (D.g r) (D.v r)
def dy : Fin 512 → ℝ := dnorm (fun k => D.dn r k * D.w k) (D.y r)
def dr (k : Fin 512) : ℝ := D.db r k * D.p k * D.k r k
def dk (k : Fin 512) : ℝ := D.r r k * (D.db r k * D.p k)
def dv (k : Fin 512) : ℝ := hsum (fun k => D.r r k * D.k r k * D.p k) k * D.dn r k
def dgate : Fin 512 → ℝ := dg (D.d r) (D.g r) (inner (D.y r) (D.r r) (D.k r) (D.v r) D.w D.b D.p)
def dw (k : Fin 512) : ℝ := cen (D.y r) k * rv (D.y r) k * D.dn r k
def dp (k : Fin 512) : ℝ := D.r r k * D.k r k * D.db r k
end Data

end Cert.Post
end
-- ==== Proof.Post.Tile.lean ====
/- The head sums as the body takes them, forward and backward, read at an index. -/
module

public import proofs.«01_k».proof.Proof.Gen.PostKernelIdeal.Frame
public import proofs.«01_k».proof.Proof.Post.Math

@[expose] public section

set_option maxRecDepth 16384

noncomputable section

open Idealize.ShloMosaic Idealize.ShloMosaic.TcCoe Idealize.SL.Sem
open Cert.Reals Cert.HeadSums Cert.PostKernelIdeal Cert.PostKernelIdeal.Gen

namespace Cert.Post

theorem m6_at (r : Fin 256) (l : Fin 128) : k0_pay6 (ix2 r l) = mask l := by pointwise [k0_pay6]; exact mask_eq l
theorem m12_at (r : Fin 256) (l : Fin 128) : k0_pay12 (ix2 r l) = mask l := by pointwise [k0_pay12]; exact mask_eq l
theorem m26_at (r : Fin 256) (l : Fin 128) : k0_pay26 (ix2 r l) = mask l := by pointwise [k0_pay26]; exact mask_eq l

/-! ## The sums -/

section Sums
variable (r : Fin 256) (f : Fin 512 → EReal)

theorem pay7_at (x) (l : Fin 128) (h : ∀ k, x (ix2 r k) = f k) :
    k0_pay7 (F := Ideal) x (ix2 r l) = ∑ j : Fin 64, f ⟨64 * (l.val / 64) + j, by omega⟩ := by
  pointwise [k0_pay7]
  simp only [h, m6_at, select_mask]
  exact sum_group (fun l => f ⟨l.val, by omega⟩) l

theorem pay8_at (x) (l : Fin 128) (h : ∀ k, x (ix2 r k) = f k) : k0_pay8 (F := Ideal) x (ix2 r l) = f ⟨128 + l, by omega⟩ := by
  pointwise [k0_pay8]; exact h _

theorem pay9_at (x) (h : ∀ k, x (ix2 r k) = f k) : k0_pay9 (F := Ideal) x (ix1 r) = ∑ j : Fin 64, f ⟨128 + j, by omega⟩ := by
  pointwise [k0_pay9, k0_pay8]
  simp only [h, m6_at, select_mask]
  exact sum_low (fun l => f ⟨128 + l.val, by omega⟩)

theorem pay10_at (x) (k : Fin 512) (h : ∀ k, x (ix2 r k) = f k) :
    k0_pay10 (F := Ideal) x k0_pay6 (k0_pay7 x) (k0_pay8 x) (k0_pay9 x) (ix2 r k) = f k - hsum f k * Ideal.ofBits FTy.f32 0x3C800000#32 := by
  pointwise [k0_pay10]
  simp only [h, m6_at, pay7_at r f _ _ h, pay8_at r f _ _ h, pay9_at r f _ h, select_mask, sum_low, sum_high]
  congr 2
  have hk := k.isLt
  split_ifs <;> exact Finset.sum_congr rfl fun j _ => congrArg f (Fin.ext (by simp only [hd] <;> omega))

theorem pay14_at (v78 v79) (l : Fin 128) (hm : ∀ l, v78 (ix2 r l) = mask l) (h : ∀ l : Fin 128, v79 (ix2 r l) = f ⟨l, by omega⟩) :
    k0_pay14 (F := Ideal) v78 v79 (FloatOps.ofBits FTy.f32 0#32) (ix2 r l) = ∑ j : Fin 64, f ⟨64 * (l.val / 64) + j, by omega⟩ := by
  pointwise [k0_pay14]
  simp only [h, hm, select_mask]
  exact sum_group (fun l => f ⟨l.val, by omega⟩) l

theorem pay15_at (x v78) (l : Fin 128) (hm : ∀ l, v78 (ix2 r l) = mask l) (h : ∀ k, x (ix2 r k) = f k) :
    k0_pay15 (F := Ideal) x v78 (ix2 r l) = ∑ j : Fin 64, f ⟨128 + (64 * (l.val / 64) + j), by omega⟩ := by
  pointwise [k0_pay15]
  simp only [h, hm, select_mask]
  exact sum_group (fun l => f ⟨128 + l.val, by omega⟩) l

theorem pay16_at (x v78) (l : Fin 128) (hm : ∀ l, v78 (ix2 r l) = mask l) (h : ∀ k, x (ix2 r k) = f k) :
    k0_pay16 (F := Ideal) x v78 (ix2 r l) = ∑ j : Fin 64, f ⟨256 + (64 * (l.val / 64) + j), by omega⟩ := by
  pointwise [k0_pay16]
  simp only [h, hm, select_mask]
  exact sum_group (fun l => f ⟨256 + l.val, by omega⟩) l

theorem pay17_at (x) (l : Fin 128) (h : ∀ k, x (ix2 r k) = f k) : k0_pay17 (F := Ideal) x (ix2 r l) = f ⟨384 + l, by omega⟩ := by
  pointwise [k0_pay17]; exact h _

theorem pay18_at (x v78) (hm : ∀ l, v78 (ix2 r l) = mask l) (h : ∀ k, x (ix2 r k) = f k) :
    k0_pay18 (F := Ideal) x v78 (ix2 r 0) = ∑ j : Fin 64, f ⟨384 + j, by omega⟩ := by
  pointwise [k0_pay18, k0_pay17]
  simp only [h, hm, select_mask]
  exact sum_low (fun l => f ⟨384 + l.val, by omega⟩)

theorem pay19_at (v78 v92 x) (k : Fin 512) (hm : ∀ l, v78 (ix2 r l) = mask l) (h : ∀ k, x (ix2 r k) = f k)
    (h92 : ∀ l : Fin 128, v92 (ix2 r l) = ∑ j : Fin 64, f ⟨64 * (l.val / 64) + j, by omega⟩) :
    k0_pay19 (F := Ideal) v78 v92 (k0_pay15 x v78) (k0_pay16 x v78) (k0_pay17 x) (k0_pay18 x v78)
      (FloatOps.ofBits FTy.f32 0#32) (ix2 r k) = hsum f k * Ideal.ofBits FTy.f32 0x3C800000#32 + Ideal.ofBits FTy.f32 0x3A27C5AC#32 := by
  pointwise [k0_pay19]
  simp only [hm, h92, pay15_at r f _ _ _ hm h, pay16_at r f _ _ _ hm h, pay17_at r f _ _ h, pay18_at r f _ _ hm h, select_mask, sum_high]
  congr 2
  have hk := k.isLt
  split_ifs <;> exact Finset.sum_congr rfl fun j _ => congrArg f (Fin.ext (by simp only [hd] <;> omega))

theorem pay27_at (a b p) (l : Fin 128) (h : ∀ k, k0_pay25 a b p (ix2 r k) = f k) :
    k0_pay27 (F := Ideal) a b p (ix2 r l) = ∑ j : Fin 64, f ⟨64 * (l.val / 64) + j, by omega⟩ := by
  pointwise [k0_pay27]
  simp only [h, m26_at, select_mask]
  exact sum_group (fun l => f ⟨l.val, by omega⟩) l

theorem pay28_at (a b p) (l : Fin 128) (h : ∀ k, k0_pay25 a b p (ix2 r k) = f k) : k0_pay28 (F := Ideal) a b p (ix2 r l) = f ⟨128 + l, by omega⟩ := by
  pointwise [k0_pay28]; exact h _

theorem pay29_at (a b p) (h : ∀ k, k0_pay25 a b p (ix2 r k) = f k) : k0_pay29 (F := Ideal) a b p (ix2 r 0) = ∑ j : Fin 64, f ⟨128 + j, by omega⟩ := by
  pointwise [k0_pay29, k0_pay28]
  simp only [h, m26_at, select_mask]
  exact sum_low (fun l => f ⟨128 + l.val, by omega⟩)

theorem pay30_at (a b p) (k : Fin 512) (h : ∀ k, k0_pay25 a b p (ix2 r k) = f k) :
    k0_pay30 (F := Ideal) (k0_pay25 a b p) k0_pay26 (k0_pay27 a b p) (k0_pay28 a b p) (k0_pay29 a b p) (FloatOps.ofBits FTy.f32 0#32) (ix2 r k)
      = hsum f k := by
  pointwise [k0_pay30]
  simp only [h, m26_at, pay27_at r f _ _ _ _ h, pay28_at r f _ _ _ _ h, pay29_at r f _ _ _ h, select_mask, sum_low, sum_high]
  have hk := k.isLt
  split_ifs <;> exact Finset.sum_congr rfl fun j _ => congrArg f (Fin.ext (by simp only [hd] <;> omega))

end Sums

/-! ## The sums' transposes -/

section Transposes
variable (r : Fin 256) (f : Fin 512 → EReal)

theorem pay43_at (v g s d) (k : Fin 512) (h : ∀ k, k0_pay39 v g s d (ix2 r k) = f k) :
    k0_pay43 (F := Ideal) v g k0_pay26 s d (ix2 r k) = if k.val < 384 then 0 else hsum f k := by
  pointwise [k0_pay43]
  simp only [h, m26_at, select_mask, sum_low, sum_high, Fin.sum_univ_one]
  have hk := k.isLt
  split_ifs <;> simp only [add_zero, zero_add] <;> exact Finset.sum_congr rfl fun j _ => congrArg f (Fin.ext (by simp only [hd] <;> omega))

theorem pay46_at (v g s d) (k : Fin 512) (h : ∀ k, k0_pay39 v g s d (ix2 r k) = f k) :
    k0_pay46 (F := Ideal) k0_pay26 (k0_pay41 v g s d) (k0_pay42 v g s d) (k0_pay43 v g k0_pay26 s d) k0_pay44 (k0_pay45 v g k0_pay26 s d) (ix2 r k)
      = if k.val < 128 then 0 else hsum f k := by
  pointwise [k0_pay46, k0_pay41, k0_pay42, k0_pay44, k0_pay45]
  simp only [h, m26_at, pay43_at r f _ _ _ _ _ h, select_mask, sum_low, sum_high, Fin.sum_univ_one]
  have hk := k.isLt
  split_ifs <;> first | omega | skip
  all_goals simp only [add_zero, zero_add]
  all_goals exact Finset.sum_congr rfl fun j _ => congrArg f (Fin.ext (by simp only [hd] <;> omega))

theorem pay47_at (v241 v310) (k : Fin 512) (h : ∀ l : Fin 128, v241 (ix2 r l) = f ⟨l, by omega⟩) (h310 : ∀ k, v310 (ix2 r k) = if k.val < 128 then 0 else hsum f k) :
    k0_pay47 (F := Ideal) k0_pay26 v241 v310 (FloatOps.ofBits FTy.f32 0#32) (ix2 r k) = hsum f k := by
  pointwise [k0_pay47]
  simp only [h, h310, m26_at, select_mask, sum_low, sum_high, Fin.sum_univ_one]
  have hk := k.isLt
  split_ifs <;> first | omega | skip
  all_goals simp only [add_zero, zero_add]
  all_goals exact Finset.sum_congr rfl fun j _ => congrArg f (Fin.ext (by simp only [hd] <;> omega))

theorem pay64_at (w c t d) (k : Fin 512) (h : ∀ k, k0_pay56 w c t d (ix2 r k) = f k) :
    k0_pay64 (F := Ideal) k0_pay12 (k0_pay59 w c t d) (k0_pay62 w c k0_pay12 t d) (k0_pay63 w c k0_pay12 t d) (ix2 r k)
      = if k.val < 256 then 0 else hsum f k := by
  pointwise [k0_pay64, k0_pay59, k0_pay62, k0_pay63, k0_pay60, k0_pay61]
  simp only [h, m12_at, select_mask, sum_low, sum_high, Fin.sum_univ_one]
  have hk := k.isLt
  split_ifs <;> first | omega | skip
  all_goals simp only [add_zero, zero_add]
  all_goals exact Finset.sum_congr rfl fun j _ => congrArg f (Fin.ext (by simp only [hd] <;> omega))

theorem pay68_at (w c t d v347) (k : Fin 512) (h : ∀ k, k0_pay56 w c t d (ix2 r k) = f k) :
    k0_pay68 (F := Ideal) c k0_pay12 v347 (k0_pay57 w c t d)
      (k0_pay64 k0_pay12 (k0_pay59 w c t d) (k0_pay62 w c k0_pay12 t d) (k0_pay63 w c k0_pay12 t d)) (k0_pay66 k0_pay12 (k0_pay58 w c t d))
      (k0_pay67 k0_pay12 (k0_pay58 w c t d)) (ix2 r k) = v347 (ix2 r k) + c (ix2 r k) * hsum f k + hsum f k * c (ix2 r k) := by
  pointwise [k0_pay68, k0_pay66, k0_pay67, k0_pay57, k0_pay58, k0_pay65]
  simp only [h, m12_at, pay64_at r f _ _ _ _ _ h, select_mask, sum_low, sum_high, Fin.sum_univ_one]
  have hk := k.isLt
  split_ifs <;> first | omega | skip
  all_goals simp only [add_zero, zero_add]
  all_goals refine congrArg (fun s => v347 (ix2 r k) + c (ix2 r k) * s + s * c (ix2 r k)) ?_
  all_goals exact Finset.sum_congr rfl fun j _ => congrArg f (Fin.ext (by simp only [hd] <;> omega))

theorem pay74_at (e z) (k : Fin 512) (h : ∀ k, k0_pay70 e z (ix2 r k) = f k) :
    k0_pay74 (F := Ideal) k0_pay6 e z (ix2 r k) = e (ix2 r k) + if k.val < 384 then 0 else hsum f k := by
  pointwise [k0_pay74]
  simp only [h, m6_at, select_mask, sum_low, sum_high, Fin.sum_univ_one]
  refine congrArg _ ?_
  have hk := k.isLt
  split_ifs <;> simp only [add_zero, zero_add] <;> exact Finset.sum_congr rfl fun j _ => congrArg f (Fin.ext (by simp only [hd] <;> omega))

theorem pay79_at (e z) (k : Fin 512) (h : ∀ k, k0_pay70 e z (ix2 r k) = f k) :
    k0_pay79 (F := Ideal) k0_pay6 (k0_pay72 e z) (k0_pay74 k0_pay6 e z) (k0_pay76 k0_pay6 e z) (k0_pay77 k0_pay6 e z) k0_pay78 (ix2 r k)
      = e (ix2 r k) + if k.val < 128 then 0 else hsum f k := by
  pointwise [k0_pay79, k0_pay72, k0_pay73, k0_pay75, k0_pay76, k0_pay77, k0_pay78]
  simp only [h, m6_at, pay74_at r f _ _ _ h, select_mask, sum_low, sum_high, Fin.sum_univ_one]
  have hk := k.isLt
  split_ifs <;> first | omega | skip
  all_goals simp only [add_zero, zero_add]
  all_goals refine congrArg _ ?_
  all_goals exact Finset.sum_congr rfl fun j _ => congrArg f (Fin.ext (by simp only [hd] <;> omega))

theorem pay83_at (e z) (k : Fin 512) (h : ∀ k, k0_pay70 e z (ix2 r k) = f k) :
    k0_pay83 (F := Ideal) k0_pay6
      (k0_pay79 k0_pay6 (k0_pay72 e z) (k0_pay74 k0_pay6 e z) (k0_pay76 k0_pay6 e z) (k0_pay77 k0_pay6 e z) k0_pay78)
      (k0_pay81 k0_pay6 (k0_pay71 e z)) (k0_pay82 k0_pay6 (k0_pay71 e z)) (ix2 r k) = e (ix2 r k) + hsum f k := by
  pointwise [k0_pay83, k0_pay71, k0_pay81, k0_pay82, k0_pay80]
  simp only [h, m6_at, pay79_at r f _ _ _ h, select_mask, sum_low, sum_high, Fin.sum_univ_one]
  have hk := k.isLt
  split_ifs <;> first | omega | skip
  all_goals simp only [add_zero, zero_add]
  all_goals refine congrArg _ ?_
  all_goals exact Finset.sum_congr rfl fun j _ => congrArg f (Fin.ext (by simp only [hd] <;> omega))

end Transposes

end Cert.Post
end
-- ==== Proof.Post.Parts.lean ====
/- A tile's results, as the body computes them, read at an index. -/
module

public import proofs.«01_k».proof.Proof.Post.Tile

@[expose] public section

set_option maxRecDepth 16384

noncomputable section

open Idealize.ShloMosaic Idealize.ShloMosaic.TcCoe Idealize.SL.Sem
open Cert.Reals Cert.HeadSums Cert.HeadNorm Cert.Tail Cert.PostKernelIdeal Cert.PostKernelIdeal.Gen

namespace Cert.Post

/-- The f32 word of 0. -/
abbrev z0 : Ideal .f32 := FloatOps.ofBits FTy.f32 0#32

/-! ## The payloads' last operations, over any operands -/

section Payloads
variable (i : Fin 256) (l : Fin 512) (z : Ideal .f32)

theorem pay11_eq (a b c d e) : k0_pay11 (F := Ideal) a b c d e (ix2 i l) = k0_pay10 a b c d e (ix2 i l) * k0_pay10 a b c d e (ix2 i l) := by pointwise [k0_pay11]
theorem pay13_eq (a b c d e) (l : Fin 128) : k0_pay13 (F := Ideal) a b c d e (ix2 i l) = k0_pay11 a b c d e (ix2 i ⟨l, by omega⟩) := by pointwise [k0_pay13]
theorem pay20_eq (a b c d e f) : k0_pay20 (F := Ideal) a b c d e f z (ix2 i l) = Ideal.rsqrt (k0_pay19 a b c d e f z (ix2 i l)) := by pointwise [k0_pay20]
theorem pay21_eq (a b c d e f) : k0_pay21 (F := Ideal) a b c d e f z (ix2 i l)
    = Ideal.ofBits FTy.f32 0xBF000000#32 * Ideal.div (k0_pay20 a b c d e f z (ix2 i l)) (k0_pay19 a b c d e f z (ix2 i l)) := by pointwise [k0_pay21]
theorem pay22_eq (x a b c d e f) : k0_pay22 (F := Ideal) x a b c d e f z (ix2 i l) = x (ix2 i l) * k0_pay20 a b c d e f z (ix2 i l) := by pointwise [k0_pay22]
theorem pay23_eq (w v x a b c d e f) : k0_pay23 (F := Ideal) w v x a b c d e f z (ix2 i l)
    = k0_pay22 x a b c d e f z (ix2 i l) * w (ix2 0 l) + v (ix2 0 l) := by pointwise [k0_pay23]
theorem pay31_eq (v n a b c d e) : k0_pay31 (F := Ideal) v n a b c d e z (ix2 i l) = n (ix2 i l) + k0_pay30 a b c d e z (ix2 i l) * v (ix2 i l) := by pointwise [k0_pay31]
theorem pay36_eq (g s d) : k0_pay36 (F := Ideal) g s d (ix2 i l) = d (ix2 i l) * (g (ix2 i l) * s (ix2 i l)) := by pointwise [k0_pay36]
theorem pay37_eq (g o e s q d) : k0_pay37 (F := Ideal) g o e s q d (ix2 i l) = o (ix2 i l) * d (ix2 i l) * s (ix2 i l)
    + (0 - (0 - g (ix2 i l) * (o (ix2 i l) * d (ix2 i l)) * Ideal.div 1 (q (ix2 i l)) * 1) * e (ix2 i l)) := by pointwise [k0_pay37]
theorem pay38_eq (g b s d) : k0_pay38 (F := Ideal) g b s d (ix2 i l) = b (ix2 i l) * k0_pay36 g s d (ix2 i l) := by pointwise [k0_pay38]
theorem pay39_eq (v g s d) : k0_pay39 (F := Ideal) v g s d (ix2 i l) = k0_pay36 g s d (ix2 i l) * v (ix2 i l) := by pointwise [k0_pay39]
theorem pay40_eq (v g s d) (l : Fin 128) : k0_pay40 (F := Ideal) v g s d (ix2 i l) = k0_pay39 v g s d (ix2 i ⟨l, by omega⟩) := by pointwise [k0_pay40]
theorem pay49_eq (p a b c) : k0_pay49 (F := Ideal) p a b c z (ix2 i l) = k0_pay47 a b c z (ix2 i l) * p (ix2 0 l) := by pointwise [k0_pay49]
theorem pay50_eq (r p a b c) : k0_pay50 (F := Ideal) r p a b c z (ix2 i l) = r (ix2 i l) * k0_pay49 p a b c z (ix2 i l) := by pointwise [k0_pay50]
theorem pay51_eq (k p a b c) : k0_pay51 (F := Ideal) k p a b c z (ix2 i l) = k0_pay49 p a b c z (ix2 i l) * k (ix2 i l) := by pointwise [k0_pay51]
theorem pay55_eq (w s d) : k0_pay55 (F := Ideal) w s d (ix2 i l) = d (ix2 i l) * w (ix2 0 l) * s (ix2 i l) := by pointwise [k0_pay55, k0_pay54]
theorem pay56_eq (w c t d) : k0_pay56 (F := Ideal) w c t d (ix2 i l)
    = c (ix2 i l) * (d (ix2 i l) * w (ix2 0 l)) * t (ix2 i l) * Ideal.ofBits FTy.f32 0x3C800000#32 := by pointwise [k0_pay56, k0_pay54]
theorem pay70_eq (e) : k0_pay70 (F := Ideal) e k0_pay69 (ix2 i l) = (0 - e (ix2 i l)) * Ideal.ofBits FTy.f32 0x3C800000#32 := by pointwise [k0_pay70, k0_pay69]
/-- The tile's sums over rows. -/
theorem pay48_eq (q a b c) : k0_pay48 (F := Ideal) q a b c z (ix2 0 l) = ∑ i : Fin 256, q (ix2 i l) * k0_pay47 a b c z (ix2 i l) := by pointwise [k0_pay48]
theorem pay52_eq (d) : k0_pay52 (F := Ideal) d (ix2 0 l) = ∑ i : Fin 256, d (ix2 i l) := by pointwise [k0_pay52]
theorem pay53_eq (n d) : k0_pay53 (F := Ideal) n d (ix2 0 l) = ∑ i : Fin 256, n (ix2 i l) * d (ix2 i l) := by pointwise [k0_pay53]

end Payloads

section Names
variable (Y R K V G Dy : Vec Ideal S256x512 .f32) (W B P : Vec Ideal S1x512 .f32)

/-- The centred operand. -/
abbrev tC : FVec Ideal S256x512 .f32 := k0_pay10 Y k0_pay6 (k0_pay7 Y) (k0_pay8 Y) (k0_pay9 Y)
/-- Its square. -/
abbrev tS : FVec Ideal S256x512 .f32 := k0_pay11 Y k0_pay6 (k0_pay7 Y) (k0_pay8 Y) (k0_pay9 Y)
/-- The first group's sums of squares. -/
abbrev tS0 : FVec Ideal S256x128 .f32 := k0_pay14 k0_pay12 (k0_pay13 Y k0_pay6 (k0_pay7 Y) (k0_pay8 Y) (k0_pay9 Y)) z0
/-- The reciprocal roots, -/
abbrev tRs : FVec Ideal S256x512 .f32 := k0_pay20 k0_pay12 (tS0 Y) (k0_pay15 (tS Y) k0_pay12) (k0_pay16 (tS Y) k0_pay12) (k0_pay17 (tS Y)) (k0_pay18 (tS Y) k0_pay12) z0
/-- their factor in the gradient, -/
abbrev tF : FVec Ideal S256x512 .f32 := k0_pay21 k0_pay12 (tS0 Y) (k0_pay15 (tS Y) k0_pay12) (k0_pay16 (tS Y) k0_pay12) (k0_pay17 (tS Y)) (k0_pay18 (tS Y) k0_pay12) z0
/-- the normalised operand, -/
abbrev tN : FVec Ideal S256x512 .f32 := k0_pay22 (tC Y) k0_pay12 (tS0 Y) (k0_pay15 (tS Y) k0_pay12) (k0_pay16 (tS Y) k0_pay12) (k0_pay17 (tS Y)) (k0_pay18 (tS Y) k0_pay12) z0
/-- and the norm's output. -/
abbrev tO : FVec Ideal S256x512 .f32 := k0_pay23 W B (tC Y) k0_pay12 (tS0 Y) (k0_pay15 (tS Y) k0_pay12) (k0_pay16 (tS Y) k0_pay12) (k0_pay17 (tS Y)) (k0_pay18 (tS Y) k0_pay12) z0
/-- The bonus' sums. -/
abbrev tB : FVec Ideal S256x512 .f32 :=
  k0_pay30 (k0_pay25 R K (k0_pay5 P)) k0_pay26 (k0_pay27 R K (k0_pay5 P)) (k0_pay28 R K (k0_pay5 P)) (k0_pay29 R K (k0_pay5 P)) z0
/-- The value before the gate. -/
abbrev tI : FVec Ideal S256x512 .f32 :=
  k0_pay31 V (tO Y W B) (k0_pay25 R K (k0_pay5 P)) k0_pay26 (k0_pay27 R K (k0_pay5 P)) (k0_pay28 R K (k0_pay5 P)) (k0_pay29 R K (k0_pay5 P)) z0
/-- The gated cotangent. -/
abbrev tD : FVec Ideal S256x512 .f32 := k0_pay36 G (k0_pay34 G) Dy
/-- The bonus' cotangent but its first group. -/
abbrev tE : FVec Ideal S256x512 .f32 :=
  k0_pay46 k0_pay26 (k0_pay41 V G (k0_pay34 G) Dy) (k0_pay42 V G (k0_pay34 G) Dy) (k0_pay43 V G k0_pay26 (k0_pay34 G) Dy) k0_pay44 (k0_pay45 V G k0_pay26 (k0_pay34 G) Dy)
/-- The centred operand's gradient. -/
abbrev tG : FVec Ideal S256x512 .f32 :=
  k0_pay68 (tC Y) k0_pay12 (k0_pay55 W (tRs Y) (tD G Dy)) (k0_pay57 W (tC Y) (tF Y) (tD G Dy))
    (k0_pay64 k0_pay12 (k0_pay59 W (tC Y) (tF Y) (tD G Dy)) (k0_pay62 W (tC Y) k0_pay12 (tF Y) (tD G Dy)) (k0_pay63 W (tC Y) k0_pay12 (tF Y) (tD G Dy)))
    (k0_pay66 k0_pay12 (k0_pay58 W (tC Y) (tF Y) (tD G Dy))) (k0_pay67 k0_pay12 (k0_pay58 W (tC Y) (tF Y) (tD G Dy)))

abbrev tdy : FVec Ideal S256x512 .f32 :=
  k0_pay83 k0_pay6
    (k0_pay79 k0_pay6 (k0_pay72 (tG Y G Dy W) k0_pay69) (k0_pay74 k0_pay6 (tG Y G Dy W) k0_pay69) (k0_pay76 k0_pay6 (tG Y G Dy W) k0_pay69)
      (k0_pay77 k0_pay6 (tG Y G Dy W) k0_pay69) k0_pay78)
    (k0_pay81 k0_pay6 (k0_pay71 (tG Y G Dy W) k0_pay69)) (k0_pay82 k0_pay6 (k0_pay71 (tG Y G Dy W) k0_pay69))
abbrev tdr : FVec Ideal S256x512 .f32 := k0_pay51 K (k0_pay5 P) k0_pay26 (k0_pay40 V G (k0_pay34 G) Dy) (tE V G Dy) z0
abbrev tdk : FVec Ideal S256x512 .f32 := k0_pay50 R (k0_pay5 P) k0_pay26 (k0_pay40 V G (k0_pay34 G) Dy) (tE V G Dy) z0
abbrev tdv : FVec Ideal S256x512 .f32 := k0_pay38 G (tB R K P) (k0_pay34 G) Dy
abbrev tdg : FVec Ideal S256x512 .f32 := k0_pay37 G (tI Y R K V W B P) (k0_pay32 G) (k0_pay34 G) (k0_pay35 G) Dy
/-- The tile's sums for the parameters. -/
abbrev tdp : FVec Ideal S1x512 .f32 := k0_pay48 (k0_pay24 R K) k0_pay26 (k0_pay40 V G (k0_pay34 G) Dy) (tE V G Dy) z0
abbrev tdw : FVec Ideal S1x512 .f32 := k0_pay53 (tN Y) (tD G Dy)
abbrev tdb : FVec Ideal S1x512 .f32 := k0_pay52 (tD G Dy)

variable {Y R K V G Dy W B P} {i : Fin 256} {y q k v g d w b p : Fin 512 → ℝ}

section Norm
variable (hY : ∀ k, Y (ix2 i k) = (y k : EReal))
include hY

theorem tC_at (l) : tC Y (ix2 i l) = (cen y l : EReal) := by
  refine (pay10_at i (fun k => (y k : EReal)) Y l hY).trans ?_
  rw [coe_hsum, ofBits_inv64, ← EReal.coe_mul, ← EReal.coe_sub]; rfl

theorem tS_at (l) : tS Y (ix2 i l) = ((cen y l * cen y l : ℝ) : EReal) := by
  refine (pay11_eq i l _ _ _ _ _).trans ((congrArg₂ (· * ·) (tC_at hY l) (tC_at hY l)).trans ?_); rw [← EReal.coe_mul]

theorem tS0_at (l : Fin 128) : tS0 Y (ix2 i l) = ∑ j : Fin 64, ((cen y ⟨64 * (l.val / 64) + j, by omega⟩ * cen y ⟨64 * (l.val / 64) + j, by omega⟩ : ℝ) : EReal) :=
  pay14_at i (fun k => ((cen y k * cen y k : ℝ) : EReal)) _ _ l (m12_at i) fun l => (pay13_eq i _ _ _ _ _ l).trans (tS_at hY _)

theorem tV_at (l) : k0_pay19 k0_pay12 (tS0 Y) (k0_pay15 (tS Y) k0_pay12) (k0_pay16 (tS Y) k0_pay12) (k0_pay17 (tS Y)) (k0_pay18 (tS Y) k0_pay12) z0 (ix2 i l)
    = (vr y l : EReal) := by
  refine (pay19_at i (fun k => ((cen y k * cen y k : ℝ) : EReal)) _ _ _ l (m12_at i) (tS_at hY) (tS0_at hY)).trans ?_
  rw [coe_hsum, ofBits_inv64, ofBits_nu, ← EReal.coe_mul, ← EReal.coe_add]; rfl

theorem tRs_at (l) : tRs Y (ix2 i l) = (rv y l : EReal) := by
  exact (pay20_eq i l z0 _ _ _ _ _ _).trans ((congrArg Ideal.rsqrt (tV_at hY l)).trans (rsqrt_vr y l))

theorem tF_at (l) : tF Y (ix2 i l) = ((-(1 / 2) * (rv y l / vr y l) : ℝ) : EReal) := by
  refine (pay21_eq i l z0 _ _ _ _ _ _).trans ((congrArg₂ (fun a b => Ideal.ofBits FTy.f32 0xBF000000#32 * Ideal.div a b) (tRs_at hY l) (tV_at hY l)).trans ?_)
  rw [div_vr, ofBits_neg_half, ← EReal.coe_mul]

theorem tN_at (l) : tN Y (ix2 i l) = ((cen y l * rv y l : ℝ) : EReal) := by
  refine (pay22_eq i l z0 _ _ _ _ _ _ _).trans ((congrArg₂ (· * ·) (tC_at hY l) (tRs_at hY l)).trans ?_)
  rw [← EReal.coe_mul]

theorem tO_at (hW : ∀ k, W (ix2 0 k) = (w k : EReal)) (hB : ∀ k, B (ix2 0 k) = (b k : EReal)) (l) :
    tO Y W B (ix2 i l) = ((cen y l * rv y l * w l + b l : ℝ) : EReal) := by
  refine (pay23_eq i l z0 _ _ _ _ _ _ _ _ _).trans ?_
  rw [hW, hB]
  refine (congrArg (fun a => a * (w l : EReal) + (b l : EReal)) (tN_at hY l)).trans ?_
  rw [← EReal.coe_mul, ← EReal.coe_add]

end Norm

theorem tsg_at (hG : ∀ k, G (ix2 i k) = (g k : EReal)) (l) : k0_pay34 (F := Ideal) G (ix2 i l) = (sg (g l) : EReal) := by
  pointwise [k0_pay34, k0_pay33, k0_pay32]
  rw [hG]; exact div_one_exp_sub _

theorem tD_at (hG : ∀ k, G (ix2 i k) = (g k : EReal)) (hD : ∀ k, Dy (ix2 i k) = (d k : EReal)) (l) : tD G Dy (ix2 i l) = (gated d g l : EReal) := by
  refine (pay36_eq i l _ _ _).trans ?_
  rw [tsg_at hG, hG, hD, ← EReal.coe_mul, ← EReal.coe_mul]; rfl

section Bonus
variable (hR : ∀ l, R (ix2 i l) = (q l : EReal)) (hK : ∀ l, K (ix2 i l) = (k l : EReal)) (hP : ∀ l, P (ix2 0 l) = (p l : EReal))
  (hV : ∀ l, V (ix2 i l) = (v l : EReal)) (hG : ∀ k, G (ix2 i k) = (g k : EReal)) (hD : ∀ k, Dy (ix2 i k) = (d k : EReal))

include hR hK hP in
theorem tB_at (l) : tB R K P (ix2 i l) = ((hsum (fun l => q l * k l * p l) l : ℝ) : EReal) := by
  refine (pay30_at i (fun l => ((q l * k l * p l : ℝ) : EReal)) _ _ _ l fun l => ?_).trans (coe_hsum _ _)
  pointwise [k0_pay25, k0_pay24, k0_pay5]
  rw [hR, hK, hP, ← EReal.coe_mul, ← EReal.coe_mul]

include hV hG hD in
theorem t39_at (l) : k0_pay39 (F := Ideal) V G (k0_pay34 G) Dy (ix2 i l) = ((gated d g l * v l : ℝ) : EReal) := by
  rw [pay39_eq, hV]; refine (congrArg (· * (v l : EReal)) (tD_at hG hD l)).trans ?_
  rw [← EReal.coe_mul]

include hV hG hD in
/-- The bonus' cotangent. -/
theorem t47_at (l) : k0_pay47 (F := Ideal) k0_pay26 (k0_pay40 V G (k0_pay34 G) Dy) (tE V G Dy) z0 (ix2 i l) = (dbonus d g v l : EReal) := by
  have h := t39_at hV hG hD
  exact (pay47_at i (fun l => ((gated d g l * v l : ℝ) : EReal)) _ _ l (fun l => (pay40_eq i _ _ _ _ l).trans (h _))
    fun l => pay46_at i _ _ _ _ _ l h).trans (coe_hsum _ _)

include hP hV hG hD in
theorem t49_at (l) : k0_pay49 (F := Ideal) (k0_pay5 P) k0_pay26 (k0_pay40 V G (k0_pay34 G) Dy) (tE V G Dy) z0 (ix2 i l) = ((dbonus d g v l * p l : ℝ) : EReal) := by
  have e : k0_pay5 (F := Ideal) P (ix2 0 l) = (p l : EReal) := by pointwise [k0_pay5]; exact hP l
  refine (pay49_eq i l z0 _ _ _ _).trans ?_
  rw [e]; refine (congrArg (· * (p l : EReal)) (t47_at hV hG hD l)).trans ?_
  rw [← EReal.coe_mul]

include hK hP hV hG hD in
theorem tdr_at (l) : tdr K V G Dy P (ix2 i l) = ((dbonus d g v l * p l * k l : ℝ) : EReal) := by
  refine (pay51_eq i l z0 _ _ _ _ _).trans ?_
  rw [hK]; refine (congrArg (· * (k l : EReal)) (t49_at hP hV hG hD l)).trans ?_
  rw [← EReal.coe_mul]

include hR hP hV hG hD in
theorem tdk_at (l) : tdk R V G Dy P (ix2 i l) = ((q l * (dbonus d g v l * p l) : ℝ) : EReal) := by
  refine (pay50_eq i l z0 _ _ _ _ _).trans ?_
  rw [hR]; refine (congrArg ((q l : EReal) * ·) (t49_at hP hV hG hD l)).trans ?_
  rw [← EReal.coe_mul]

include hR hK hP hG hD in
theorem tdv_at (l) : tdv R K G Dy P (ix2 i l) = ((hsum (fun l => q l * k l * p l) l * gated d g l : ℝ) : EReal) := by
  refine (pay38_eq i l _ _ _ _).trans ((congrArg₂ (· * ·) (tB_at hR hK hP l) (tD_at hG hD l)).trans ?_)
  rw [← EReal.coe_mul]

end Bonus

theorem tdg_at (hY : ∀ k, Y (ix2 i k) = (y k : EReal)) (hR : ∀ l, R (ix2 i l) = (q l : EReal)) (hK : ∀ l, K (ix2 i l) = (k l : EReal))
    (hV : ∀ l, V (ix2 i l) = (v l : EReal)) (hG : ∀ k, G (ix2 i k) = (g k : EReal)) (hW : ∀ k, W (ix2 0 k) = (w k : EReal))
    (hB : ∀ k, B (ix2 0 k) = (b k : EReal)) (hP : ∀ l, P (ix2 0 l) = (p l : EReal)) (hD : ∀ k, Dy (ix2 i k) = (d k : EReal)) (l) :
    tdg Y R K V G Dy W B P (ix2 i l) = (dg d g (inner y q k v w b p) l : EReal) := by
  have hI : tI Y R K V W B P (ix2 i l) = (inner y q k v w b p l : EReal) := by
    refine (pay31_eq i l z0 _ _ _ _ _ _ _).trans ?_
    rw [hV]; refine (congrArg₂ (fun a b => a + b * (v l : EReal)) (tO_at hY hW hB l) (tB_at hR hK hP l)).trans ?_
    rw [← EReal.coe_mul, ← EReal.coe_add]; rfl
  have hs := tsg_at hG l
  have he : k0_pay32 (F := Ideal) G (ix2 i l) = (Real.exp (-g l) : EReal) := by
    pointwise [k0_pay32]; rw [hG, zero_sub, ← EReal.coe_neg, Ideal.exp_coe]
  have h1 : k0_pay35 (F := Ideal) G (ix2 i l) = (((1 + Real.exp (-g l)) * (1 + Real.exp (-g l)) : ℝ) : EReal) := by
    pointwise [k0_pay35, k0_pay33]
    rw [he, show (1 : EReal) = ((1 : ℝ) : EReal) from rfl, ← EReal.coe_add, ← EReal.coe_mul]
  have hp := Real.exp_pos (-g l)
  refine (pay37_eq i l _ _ _ _ _ _).trans ?_
  rw [hI, hs, he, h1, hG, hD, show (1 : EReal) = ((1 : ℝ) : EReal) from rfl, div_real (by positivity)]
  simp only [← EReal.coe_mul, zero_sub (( _ : ℝ) : EReal), ← EReal.coe_neg, ← EReal.coe_add]
  refine congrArg _ ?_
  rw [dg, sg]; field_simp; ring

section Grad
variable (hY : ∀ k, Y (ix2 i k) = (y k : EReal)) (hG : ∀ k, G (ix2 i k) = (g k : EReal)) (hW : ∀ k, W (ix2 0 k) = (w k : EReal))
  (hD : ∀ k, Dy (ix2 i k) = (d k : EReal))
include hY hG hW hD

theorem t56_at (l) : k0_pay56 (F := Ideal) W (tC Y) (tF Y) (tD G Dy) (ix2 i l) = (part (fun l => gated d g l * w l) y l : EReal) := by
  refine (pay56_eq i l _ _ _ _).trans ?_
  rw [hW, ofBits_inv64]
  refine (congrArg₂ (fun a b => a * b * ((1 / 64 : ℝ) : EReal)) (congrArg₂ (fun a b => a * (b * (w l : EReal))) (tC_at hY l) (tD_at hG hD l)) (tF_at hY l)).trans ?_
  simp only [← EReal.coe_mul]; rfl

theorem tG_at (l) : tG Y G Dy W (ix2 i l) = (dcen (fun l => gated d g l * w l) y l : EReal) := by
  refine (pay68_at i (fun l => (part (fun l => gated d g l * w l) y l : EReal)) W _ _ _ _ l (t56_at hY hG hW hD)).trans ?_
  have h55 : k0_pay55 (F := Ideal) W (tRs Y) (tD G Dy) (ix2 i l) = ((gated d g l * w l * rv y l : ℝ) : EReal) := by
    refine (pay55_eq i l _ _ _).trans ?_
    rw [hW]; refine (congrArg₂ (fun a b => a * (w l : EReal) * b) (tD_at hG hD l) (tRs_at hY l)).trans ?_
    simp only [← EReal.coe_mul]
  rw [h55, tC_at hY, coe_hsum]
  simp only [← EReal.coe_mul, ← EReal.coe_add]; rfl

theorem tdy_at (l) : tdy Y G Dy W (ix2 i l) = (dnorm (fun l => gated d g l * w l) y l : EReal) := by
  refine (pay83_at i (fun l => (((0 - dcen (fun l => gated d g l * w l) y l) * (1 / 64) : ℝ) : EReal)) _ _ l fun l => ?_).trans ?_
  · refine (pay70_eq i _ _).trans ?_
    refine (congrArg (fun a => (0 - a) * Ideal.ofBits FTy.f32 0x3C800000#32) (tG_at hY hG hW hD l)).trans ?_
    rw [ofBits_inv64, ← EReal.coe_zero, ← EReal.coe_sub, ← EReal.coe_mul]
  · rw [tG_at hY hG hW hD, coe_hsum, ← EReal.coe_add]; rfl

end Grad
end Names

end Cert.Post
end
-- ==== Proof.Post.Value.lean ====
/- The kernel's eight result arrays, as real formulas of the arguments. -/
module

public import proofs.«01_k».proof.Proof.Post.Parts
public import proofs.«01_k».proof.Proof.Gen.PostKernelIdeal.Value
public import Idealize.ShloMosaic.Lib.Pipeline.ReadBack

@[expose] public section

set_option maxRecDepth 16384

noncomputable section

open Idealize.ShloMosaic Idealize.ShloMosaic.TcCoe Idealize.SL.Sem
open Cert.Reals Cert.HeadSums Cert.HeadNorm Cert.Tail Cert.PostKernelIdeal Cert.PostKernelIdeal.Gen

namespace Cert.Post

/-- Row `r` of the tile of point `t`. -/
abbrev row (t : Fin cfg0.N) (r : Fin 256) : Fin 2048 := ⟨256 * t.val + r, by have := t.isLt; change t.val < 8 at this; omega⟩

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0]) ∧ (win0_5.index t = ![0, 0] ∧ win0_6.index t = ![0, 0] ∧ win0_7.index t = ![0, 0] ∧ win0_8.index t = ![t.val, 0])
    ∧ (win0_9.index t = ![t.val, 0] ∧ win0_10.index t = ![t.val, 0] ∧ win0_11.index t = ![t.val, 0] ∧ win0_12.index t = ![t.val, 0] ∧ win0_13.index t = ![t.val, 0])
    ∧ win0_14.index t = ![0, 0] ∧ win0_15.index t = ![0, 0] ∧ win0_16.index t = ![0, 0] :=
  (by decide +kernel : ∀ t : Fin grid0.N, _)

/-- The grid's last point closes the sum over all rows. -/
theorem sum_tiles (f : Fin 2048 → ℝ) (t : Fin cfg0.N) (b : ∀ s : Fin 8, 8 * (t.val / 8) + s.val < cfg0.N) :
    ∑ s : Fin 8, ∑ r : Fin 256, f (row ⟨8 * (t.val / 8) + s.val, b s⟩ r) = ∑ r, f r := by
  have ht : t.val / 8 = 0 := Nat.div_eq_of_lt t.isLt
  refine Fin.sum_mul_add_congr (S := 8) (n := 256) fun s r hl => ?_
  exact congrArg f (Fin.ext (by simp only [row, ht]; omega))

/-! ## The blocks -/

section Blocks
variable (m : (ℓ : Loc nD τ sig) → Buf (Elt Ideal) ℓ) (c : Dev nD)

theorem V_v0 : (V m c main_v0 : FVec Ideal S1x512 .f32)
    = (shapeCast S1x512 (m ((c.tc : Thread nD τ).loc main_arg7) : FVec Ideal S8x64 .f32) shapeCasts_S8x64_S1x512 : FVec Ideal S1x512 .f32) := by
  simp only [V, List.flatten_cons, List.flatten_nil, List.cons_append, List.nil_append, hostOps0]
  after_results
  rfl

/-- A matrix of heads and lanes read as one row. -/
theorem flat_at (X : FVec Ideal S8x64 .f32) (k : Fin 512) : (shapeCast S1x512 X shapeCasts_S8x64_S1x512 : FVec Ideal S1x512 .f32) (ix2 0 k) = X (ix2 (head k) (lane k)) := by
  pointwise

/-- The arguments are these reals. -/
structure Args (D : Data) : Prop where
  y : ∀ r k, (m ((c.tc : Thread nD τ).loc main_arg0) : FVec Ideal S2048x512 .f32) (ix2 r k) = (D.y r k : EReal)
  r : ∀ r k, (m ((c.tc : Thread nD τ).loc main_arg1) : FVec Ideal S2048x512 .f32) (ix2 r k) = (D.r r k : EReal)
  k : ∀ r k, (m ((c.tc : Thread nD τ).loc main_arg2) : FVec Ideal S2048x512 .f32) (ix2 r k) = (D.k r k : EReal)
  v : ∀ r k, (m ((c.tc : Thread nD τ).loc main_arg3) : FVec Ideal S2048x512 .f32) (ix2 r k) = (D.v r k : EReal)
  g : ∀ r k, (m ((c.tc : Thread nD τ).loc main_arg4) : FVec Ideal S2048x512 .f32) (ix2 r k) = (D.g r k : EReal)
  w : ∀ k, (m ((c.tc : Thread nD τ).loc main_arg5) : FVec Ideal S1x512 .f32) (ix2 0 k) = (D.w k : EReal)
  b : ∀ k, (m ((c.tc : Thread nD τ).loc main_arg6) : FVec Ideal S1x512 .f32) (ix2 0 k) = (D.b k : EReal)
  p : ∀ k, (m ((c.tc : Thread nD τ).loc main_arg7) : FVec Ideal S8x64 .f32) (ix2 (head k) (lane k)) = (D.p k : EReal)
  d : ∀ r k, (m ((c.tc : Thread nD τ).loc main_arg8) : FVec Ideal S2048x512 .f32) (ix2 r k) = (D.d r k : EReal)

variable {m c} {D : Data} (A : Args m c D) (t : Fin cfg0.N) (r : Fin 256) (k : Fin 512)
include A

theorem y_at : (iblk m c 0 t : Vec Ideal S256x512 .f32) (ix2 r k) = (D.y (row t r) k : EReal) := by rw [← A.y]; blk_ext! [iblk, V, idx t]
theorem r_at : (iblk m c 1 t : Vec Ideal S256x512 .f32) (ix2 r k) = (D.r (row t r) k : EReal) := by rw [← A.r]; blk_ext! [iblk, V, idx t]
theorem k_at : (iblk m c 2 t : Vec Ideal S256x512 .f32) (ix2 r k) = (D.k (row t r) k : EReal) := by rw [← A.k]; blk_ext! [iblk, V, idx t]
theorem v_at : (iblk m c 3 t : Vec Ideal S256x512 .f32) (ix2 r k) = (D.v (row t r) k : EReal) := by rw [← A.v]; blk_ext! [iblk, V, idx t]
theorem g_at : (iblk m c 4 t : Vec Ideal S256x512 .f32) (ix2 r k) = (D.g (row t r) k : EReal) := by rw [← A.g]; blk_ext! [iblk, V, idx t]
theorem w_at : (iblk m c 5 t : Vec Ideal S1x512 .f32) (ix2 0 k) = (D.w k : EReal) := by rw [← A.w]; blk_ext! [iblk, V, idx t]
theorem b_at : (iblk m c 6 t : Vec Ideal S1x512 .f32) (ix2 0 k) = (D.b k : EReal) := by rw [← A.b]; blk_ext! [iblk, V, idx t]
theorem d_at : (iblk m c 8 t : Vec Ideal S256x512 .f32) (ix2 r k) = (D.d (row t r) k : EReal) := by rw [← A.d]; blk_ext! [iblk, V, idx t]
theorem p_at : (iblk m c 7 t : Vec Ideal S1x512 .f32) (ix2 0 k) = (D.p k : EReal) := by
  have e : (win0_7.blk t).view.emb (ix2 0 k) = ix2 0 k := by blk_ext [idx t]
  blk_simp [iblk]; rw [V_v0, e, ← A.p]; exact flat_at _ k

end Blocks

variable {m : (ℓ : Loc nD τ sig) → Buf (Elt Ideal) ℓ} {c : Dev nD} {D : Data} (A : Args m c D)
include A

/-! ## The gradients by row -/

theorem final_y (G : FVec Ideal S2048x512 .f32) (hG : ∀ r k, G (ix2 r k) = (D.dy r k : EReal)) : (dats m 0 c).arrAt 9 cfg0.N = G := by
  refine (dats m 0 c).arrAt_eq_of_covers 9 _ (by decide +kernel) fun t hf y => ?_
  blk_simp
  rw [after0_9]
  obtain ⟨r, l, rfl⟩ : ∃ (r : Fin 256) (l : Fin 512), y = ix2 r l := exists_ix2 y
  have e : (win0_9.blk t).view.emb (ix2 r l) = ix2 (row t r) l := by blk_ext [idx t]
  have key : tdy (iblk m c 0 t) (iblk m c 4 t) (iblk m c 8 t) (iblk m c 5 t) (ix2 r l) = (D.dy (row t r) l : EReal) :=
    tdy_at (y_at A t r) (g_at A t r) (w_at A t) (d_at A t r) l
  rw [e, hG]
  by_cases h : t.val % 8 = 0
  · rw [outsAt0_A m c t h]; frame_out; exact key
  · rw [outsAt0_B m c t h]; frame_out; exact key

theorem final_r (G : FVec Ideal S2048x512 .f32) (hG : ∀ r k, G (ix2 r k) = (D.dr r k : EReal)) : (dats m 0 c).arrAt 10 cfg0.N = G := by
  refine (dats m 0 c).arrAt_eq_of_covers 10 _ (by decide +kernel) fun t hf y => ?_
  blk_simp
  rw [after0_10]
  obtain ⟨r, l, rfl⟩ : ∃ (r : Fin 256) (l : Fin 512), y = ix2 r l := exists_ix2 y
  have e : (win0_10.blk t).view.emb (ix2 r l) = ix2 (row t r) l := by blk_ext [idx t]
  have key : tdr (iblk m c 2 t) (iblk m c 3 t) (iblk m c 4 t) (iblk m c 8 t) (iblk m c 7 t) (ix2 r l) = (D.dr (row t r) l : EReal) :=
    tdr_at (k_at A t r) (p_at A t) (v_at A t r) (g_at A t r) (d_at A t r) l
  rw [e, hG]
  by_cases h : t.val % 8 = 0
  · rw [outsAt0_A m c t h]; frame_out; exact key
  · rw [outsAt0_B m c t h]; frame_out; exact key

theorem final_k (G : FVec Ideal S2048x512 .f32) (hG : ∀ r k, G (ix2 r k) = (D.dk r k : EReal)) : (dats m 0 c).arrAt 11 cfg0.N = G := by
  refine (dats m 0 c).arrAt_eq_of_covers 11 _ (by decide +kernel) fun t hf y => ?_
  blk_simp
  rw [after0_11]
  obtain ⟨r, l, rfl⟩ : ∃ (r : Fin 256) (l : Fin 512), y = ix2 r l := exists_ix2 y
  have e : (win0_11.blk t).view.emb (ix2 r l) = ix2 (row t r) l := by blk_ext [idx t]
  have key : tdk (iblk m c 1 t) (iblk m c 3 t) (iblk m c 4 t) (iblk m c 8 t) (iblk m c 7 t) (ix2 r l) = (D.dk (row t r) l : EReal) :=
    tdk_at (r_at A t r) (p_at A t) (v_at A t r) (g_at A t r) (d_at A t r) l
  rw [e, hG]
  by_cases h : t.val % 8 = 0
  · rw [outsAt0_A m c t h]; frame_out; exact key
  · rw [outsAt0_B m c t h]; frame_out; exact key

theorem final_v (G : FVec Ideal S2048x512 .f32) (hG : ∀ r k, G (ix2 r k) = (D.dv r k : EReal)) : (dats m 0 c).arrAt 12 cfg0.N = G := by
  refine (dats m 0 c).arrAt_eq_of_covers 12 _ (by decide +kernel) fun t hf y => ?_
  blk_simp
  rw [after0_12]
  obtain ⟨r, l, rfl⟩ : ∃ (r : Fin 256) (l : Fin 512), y = ix2 r l := exists_ix2 y
  have e : (win0_12.blk t).view.emb (ix2 r l) = ix2 (row t r) l := by blk_ext [idx t]
  have key : tdv (iblk m c 1 t) (iblk m c 2 t) (iblk m c 4 t) (iblk m c 8 t) (iblk m c 7 t) (ix2 r l) = (D.dv (row t r) l : EReal) :=
    tdv_at (r_at A t r) (k_at A t r) (p_at A t) (g_at A t r) (d_at A t r) l
  rw [e, hG]
  by_cases h : t.val % 8 = 0
  · rw [outsAt0_A m c t h]; frame_out; exact key
  · rw [outsAt0_B m c t h]; frame_out; exact key

theorem final_g (G : FVec Ideal S2048x512 .f32) (hG : ∀ r k, G (ix2 r k) = (D.dgate r k : EReal)) : (dats m 0 c).arrAt 13 cfg0.N = G := by
  refine (dats m 0 c).arrAt_eq_of_covers 13 _ (by decide +kernel) fun t hf y => ?_
  blk_simp
  rw [after0_13]
  obtain ⟨r, l, rfl⟩ : ∃ (r : Fin 256) (l : Fin 512), y = ix2 r l := exists_ix2 y
  have e : (win0_13.blk t).view.emb (ix2 r l) = ix2 (row t r) l := by blk_ext [idx t]
  have key : tdg (iblk m c 0 t) (iblk m c 1 t) (iblk m c 2 t) (iblk m c 3 t) (iblk m c 4 t) (iblk m c 8 t) (iblk m c 5 t) (iblk m c 6 t) (iblk m c 7 t) (ix2 r l)
      = (D.dgate (row t r) l : EReal) :=
    tdg_at (y_at A t r) (r_at A t r) (k_at A t r) (v_at A t r) (g_at A t r) (w_at A t) (b_at A t) (p_at A t) (d_at A t r) l
  rw [e, hG]
  by_cases h : t.val % 8 = 0
  · rw [outsAt0_A m c t h]; frame_out; exact key
  · rw [outsAt0_B m c t h]; frame_out; exact key

/-! ## The parameters' gradients -/

theorem w_tile (s : Fin cfg0.N) (l : Fin 512) : tdw (iblk m c 0 s) (iblk m c 4 s) (iblk m c 8 s) (ix2 0 l) = ((∑ r, D.dw (row s r) l : ℝ) : EReal) := by
  refine (pay53_eq l _ _).trans (Eq.trans (Finset.sum_congr rfl fun r _ => ?_) (coe_sum _ _))
  refine (congrArg₂ (· * ·) (tN_at (y_at A s r) l) (tD_at (g_at A s r) (d_at A s r) l)).trans ?_
  rw [← EReal.coe_mul]; rfl

theorem b_tile (s : Fin cfg0.N) (l : Fin 512) : tdb (iblk m c 4 s) (iblk m c 8 s) (ix2 0 l) = ((∑ r, D.dn (row s r) l : ℝ) : EReal) :=
  (pay52_eq l _).trans (Eq.trans (Finset.sum_congr rfl fun r _ => tD_at (g_at A s r) (d_at A s r) l) (coe_sum _ _))

theorem p_tile (s : Fin cfg0.N) (l : Fin 512) :
    tdp (iblk m c 1 s) (iblk m c 2 s) (iblk m c 3 s) (iblk m c 4 s) (iblk m c 8 s) (ix2 0 l) = ((∑ r, D.dp (row s r) l : ℝ) : EReal) := by
  refine (pay48_eq l z0 _ _ _ _).trans (Eq.trans (Finset.sum_congr rfl fun r _ => ?_) (coe_sum _ _))
  have e : k0_pay24 (F := Ideal) (iblk m c 1 s) (iblk m c 2 s) (ix2 r l) = ((D.r (row s r) l * D.k (row s r) l : ℝ) : EReal) := by
    pointwise [k0_pay24]; rw [r_at A, k_at A, ← EReal.coe_mul]
  refine (congrArg₂ (· * ·) e (t47_at (v_at A s r) (g_at A s r) (d_at A s r) l)).trans ?_
  rw [← EReal.coe_mul]; rfl

omit A in
theorem pay84_eq (v p) (l : Fin 512) : k0_pay84 (F := Ideal) v p (ix2 0 l) = p (ix2 0 l) + v (ix2 0 l) := by pointwise [k0_pay84]
omit A in
theorem pay85_eq (v p) (l : Fin 512) : k0_pay85 (F := Ideal) v p (ix2 0 l) = p (ix2 0 l) + v (ix2 0 l) := by pointwise [k0_pay85]
omit A in
theorem pay1_eq (v p) (l : Fin 512) : k0_pay1 (F := Ideal) v p (ix2 0 l) = p (ix2 0 l) + v (ix2 0 l) := by pointwise [k0_pay1]

theorem final_w (G : FVec Ideal S1x512 .f32) (hG : ∀ l, G (ix2 0 l) = ((∑ r, D.dw r l : ℝ) : EReal)) : (dats m 0 c).arrAt 14 cfg0.N = G := by
  refine (dats m 0 c).arrAt_eq_of_covers 14 _ (by decide +kernel) fun t hf y => ?_
  blk_simp
  obtain ⟨l, rfl⟩ : ∃ l : Fin 512, y = ix2 0 l := exists_ix2_row y
  have e : (win0_14.blk t).view.emb (ix2 0 l) = ix2 0 l := by blk_ext [idx t]
  let sums : Fin cfg0.N → S1x512.Idx → EReal := fun s i => ((∑ r, D.dw (row s r) (i 1) : ℝ) : EReal)
  have hlast : t.val % 8 = 7 := (flush0_14 t).mp hf
  rw [e, hG, after0_14, Pipeline.eq_sum_fin_of_reset_step_apply_of_flush (fun n h => (outsAt0 m c n h).2.2.2.2.2.1) 8 (fun _ => (0 : EReal)) sums
    (fun s h i => by
      rw [outsAt0_A m c s h]; frame_out
      obtain ⟨l, rfl⟩ := exists_ix2_row i
      refine (pay84_eq _ _ l).trans (congrArg₂ (· + ·) ?_ (w_tile A s l))
      pointwise [k0_pay2])
    (fun s h i => by
      rw [outsAt0_B m c s h]; frame_out
      obtain ⟨l, rfl⟩ := exists_ix2_row i
      exact (pay84_eq _ _ l).trans (congrArg₂ (· + ·) rfl (w_tile A s l))) t hlast (ix2 0 l)]
  simp only [zero_add, sums, coe_sum]
  exact congrArg _ (sum_tiles (fun r => D.dw r l) t _)

theorem final_b (G : FVec Ideal S1x512 .f32) (hG : ∀ l, G (ix2 0 l) = ((∑ r, D.dn r l : ℝ) : EReal)) : (dats m 0 c).arrAt 15 cfg0.N = G := by
  refine (dats m 0 c).arrAt_eq_of_covers 15 _ (by decide +kernel) fun t hf y => ?_
  blk_simp
  obtain ⟨l, rfl⟩ : ∃ l : Fin 512, y = ix2 0 l := exists_ix2_row y
  have e : (win0_15.blk t).view.emb (ix2 0 l) = ix2 0 l := by blk_ext [idx t]
  let sums : Fin cfg0.N → S1x512.Idx → EReal := fun s i => ((∑ r, D.dn (row s r) (i 1) : ℝ) : EReal)
  have hlast : t.val % 8 = 7 := (flush0_15 t).mp hf
  rw [e, hG, after0_15, Pipeline.eq_sum_fin_of_reset_step_apply_of_flush (fun n h => (outsAt0 m c n h).2.2.2.2.2.2.1) 8 (fun _ => (0 : EReal)) sums
    (fun s h i => by
      rw [outsAt0_A m c s h]; frame_out
      obtain ⟨l, rfl⟩ := exists_ix2_row i
      refine (pay85_eq _ _ l).trans (congrArg₂ (· + ·) ?_ (b_tile A s l))
      pointwise [k0_pay3])
    (fun s h i => by
      rw [outsAt0_B m c s h]; frame_out
      obtain ⟨l, rfl⟩ := exists_ix2_row i
      exact (pay85_eq _ _ l).trans (congrArg₂ (· + ·) rfl (b_tile A s l))) t hlast (ix2 0 l)]
  simp only [zero_add, sums, coe_sum]
  exact congrArg _ (sum_tiles (fun r => D.dn r l) t _)

theorem final_p (G : FVec Ideal S1x512 .f32) (hG : ∀ l, G (ix2 0 l) = ((∑ r, D.dp r l : ℝ) : EReal)) : (dats m 0 c).arrAt 16 cfg0.N = G := by
  refine (dats m 0 c).arrAt_eq_of_covers 16 _ (by decide +kernel) fun t hf y => ?_
  blk_simp
  obtain ⟨l, rfl⟩ : ∃ l : Fin 512, y = ix2 0 l := exists_ix2_row y
  have e : (win0_16.blk t).view.emb (ix2 0 l) = ix2 0 l := by blk_ext [idx t]
  let sums : Fin cfg0.N → S1x512.Idx → EReal := fun s i => ((∑ r, D.dp (row s r) (i 1) : ℝ) : EReal)
  have hlast : t.val % 8 = 7 := (flush0_16 t).mp hf
  rw [e, hG, after0_16, Pipeline.eq_sum_fin_of_reset_step_apply_of_flush (fun n h => (outsAt0 m c n h).2.2.2.2.2.2.2) 8 (fun _ => (0 : EReal)) sums
    (fun s h i => by
      rw [outsAt0_A m c s h]; frame_out
      obtain ⟨l, rfl⟩ := exists_ix2_row i
      refine (pay1_eq _ _ l).trans (congrArg₂ (· + ·) ?_ (p_tile A s l))
      pointwise [k0_pay4])
    (fun s h i => by
      rw [outsAt0_B m c s h]; frame_out
      obtain ⟨l, rfl⟩ := exists_ix2_row i
      exact (pay1_eq _ _ l).trans (congrArg₂ (· + ·) rfl (p_tile A s l))) t hlast (ix2 0 l)]
  simp only [zero_add, sums, coe_sum]
  exact congrArg _ (sum_tiles (fun r => D.dp r l) t _)

end Cert.Post
end
-- ==== Proof.Post.Ref.lean ====
/- The reference's stages under names of their own, each read at an index as a real formula of the rows. -/
module

public import proofs.«01_k».proof.Proof.Gen.PostReferenceIdeal.Run
public import proofs.«01_k».proof.Proof.Foxpre.Ref
public import proofs.«01_k».proof.Proof.Post.Math

@[expose] public section

set_option maxRecDepth 16384

noncomputable section

namespace Cert.PostReferenceIdeal.Hand

open Cert.PostReferenceIdeal Cert.PostReferenceIdeal.Gen Cert.PostReferenceIdeal.Value Cert.Reals Cert.HeadSums Cert.HeadNorm Cert.Tail
open Cert.Post (cen vr rv nu ofBits_nu rsqrt_vr div_vr part dcen dnorm hsum_part gated inner dg dbonus Data)
open Cert.FoxpreReferenceIdeal.Hand (col)
open Idealize.ShloMosaic Idealize.ShloMosaic.TcCoe Idealize.ShloMosaic.StableHlo

/-- The array holds `f` in row `r`, a column being a lane of a head. -/
def Row3 (X : FVec Ideal S2048x8x64 .f32) (r : Fin 2048) (f : Fin 512 → ℝ) : Prop := ∀ (h : Fin 8) (j : Fin 64), X (ix3 r h j) = (f (col h j) : EReal)

/-- A sum over a head's lanes. -/
theorem sum_col (f : Fin 512 → ℝ) (h : Fin 8) (j : Fin 64) : ∑ i, f (col h i) = hsum f (col h j) :=
  Finset.sum_congr rfl fun i _ => congrArg f (Fin.ext (by simp only [hd, col]; omega))

/-- The lanes' sum as the host takes it. -/
def red (X : FVec Ideal S2048x8x64 .f32) : FVec Ideal S2048x8 .f32 := Host.reduceAdd X (constant S_ .f32 0x00000000#32) reducesTo_S2048x8x64_S2048x8_d2 h_S_
theorem red_at {X : FVec Ideal S2048x8x64 .f32} {r f} (hX : Row3 X r f) (h : Fin 8) (j : Fin 64) : red X (ix2 r h) = ((hsum f (col h j) : ℝ) : EReal) := by
  pointwise [red]
  simp only [hX h, coe_sum]
  exact congrArg _ (sum_col f h j)

/-- A sum over the one lane of a column. -/
def red1 (X : FVec Ideal S2048x8x1 .f32) : FVec Ideal S2048x8x64 .f32 :=
  broadcastInDim S2048x8x64 ![0, 1] bcast_S2048x8_S2048x8x64_0_1 (Host.reduceAdd X (constant S_ .f32 0x00000000#32) reducesTo_S2048x8x1_S2048x8_d2 h_S_)
theorem red1_at {X : FVec Ideal S2048x8x1 .f32} {r} {f : Fin 512 → ℝ} (hX : ∀ h j, X (ix3 r h 0) = (f (col h j) : EReal)) : Row3 (red1 X) r f := fun h j => by
  pointwise [red1]
  rw [Fin.sum_univ_one, hX h j]

def hR (x : FVec Ideal S2048x512 .f32) : FVec Ideal S2048x8x64 .f32 := shapeCast _ x shapeCasts_S2048x512_S2048x8x64
def fR (x : FVec Ideal S2048x8x64 .f32) : FVec Ideal S2048x512 .f32 := shapeCast _ x shapeCasts_S2048x8x64_S2048x512
def oneR (x : FVec Ideal S2048x8x1 .f32) : FVec Ideal S2048x8x64 .f32 := broadcastInDim S2048x8x64 ![0, 1, 2] bcast_S2048x8x1_S2048x8x64_0_1_2 x
def c64 : FVec Ideal S2048x8x1 .f32 := broadcastInDim S2048x8x1 ![] bcast_S_S2048x8x1 (constant S_ .f32 0x42800000#32)
def headsR (x : FVec Ideal S8x64 .f32) : FVec Ideal S2048x8x64 .f32 := broadcastInDim S2048x8x64 ![0, 1, 2] bcast_S1x8x64_S2048x8x64_0_1_2 (broadcastInDim S1x8x64 ![1, 2] bcast_S8x64_S1x8x64_1_2 x)
def wR (x : FVec Ideal S1x512 .f32) : FVec Ideal S2048x8x64 .f32 := headsR (shapeCast _ x shapeCasts_S1x512_S8x64)

theorem hR_at {x : FVec Ideal S2048x512 .f32} {r} {f : Fin 512 → ℝ} (hx : ∀ k, x (ix2 r k) = (f k : EReal)) : Row3 (hR x) r f := fun h j => by
  rw [← hx]; pointwise [hR]; exact congrArg (fun k => x (ix2 r k)) (Fin.ext (by simp only [col]; omega))
theorem fR_at {x : FVec Ideal S2048x8x64 .f32} {r f} (hx : Row3 x r f) (k : Fin 512) : fR x (ix2 r k) = (f k : EReal) := by
  pointwise [fR]; rw [hx]; exact congrArg (fun k => ((f k : ℝ) : EReal)) (Fin.ext (Nat.div_add_mod k.val 64))
theorem oneR_at {x : FVec Ideal S2048x8x1 .f32} {r} {f : Fin 512 → ℝ} (hx : ∀ h j, x (ix3 r h 0) = (f (col h j) : EReal)) : Row3 (oneR x) r f := fun h j => by
  pointwise [oneR]; exact hx h j
theorem headsR_at {x : FVec Ideal S8x64 .f32} {f : Fin 512 → ℝ} (hx : ∀ h j, x (ix2 h j) = (f (col h j) : EReal)) (r) : Row3 (headsR x) r f := fun h j => by
  pointwise [headsR]; exact hx h j
theorem wR_at {x : FVec Ideal S1x512 .f32} {f : Fin 512 → ℝ} (hx : ∀ k, x (ix2 0 k) = (f k : EReal)) (r) : Row3 (wR x) r f :=
  headsR_at (fun h j => by
    rw [← hx]; pointwise; exact congrArg (fun k => x (ix2 0 k)) (Fin.ext (by simp only [col]; omega))) r

theorem mul_at {x y : FVec Ideal S2048x8x64 .f32} {r f g} (hx : Row3 x r f) (hy : Row3 y r g) : Row3 (mulf x y) r (fun k => f k * g k) := fun h j => by
  pointwise; rw [hx, hy, ← EReal.coe_mul]
theorem add_at {x y : FVec Ideal S2048x8x64 .f32} {r f g} (hx : Row3 x r f) (hy : Row3 y r g) : Row3 (addf x y) r (fun k => f k + g k) := fun h j => by
  pointwise; rw [hx, hy, ← EReal.coe_add]
theorem neg_at {x : FVec Ideal S2048x8x64 .f32} {r f} (hx : Row3 x r f) : Row3 (Host.negf x) r (fun k => -f k) := fun h j => by
  pointwise; rw [hx, ← EReal.coe_neg]

/-! ## The head norm -/

def cenR (x : FVec Ideal S2048x8x64 .f32) : FVec Ideal S2048x8x64 .f32 :=
  subf x (oneR (Host.divf (broadcastInDim S2048x8x1 ![0, 1] bcast_S2048x8_S2048x8x1_0_1 (red x)) c64))
def vrR (c : FVec Ideal S2048x8x64 .f32) : FVec Ideal S2048x8x1 .f32 :=
  addf (Host.divf (broadcastInDim S2048x8x1 ![0, 1] bcast_S2048x8_S2048x8x1_0_1 (red (mulf c c))) c64) (broadcastInDim S2048x8x1 ![] bcast_S_S2048x8x1 (constant S_ .f32 0x3A27C5AC#32))
def rvR (c : FVec Ideal S2048x8x64 .f32) : FVec Ideal S2048x8x1 .f32 := Host.rsqrt (vrR c)
/-- The normalised operand. -/
def nR (c : FVec Ideal S2048x8x64 .f32) : FVec Ideal S2048x8x64 .f32 := mulf c (oneR (rvR c))
/-- What differentiating the head's factor leaves in every lane. -/
def bR (c u : FVec Ideal S2048x8x64 .f32) : FVec Ideal S2048x8x64 .f32 :=
  red1 (Host.divf (mulf (shapeCast _ (red (mulf c u)) shapeCasts_S2048x8_S2048x8x1) (mulf (broadcastInDim S2048x8x1 ![] bcast_S_S2048x8x1 (constant S_ .f32 0xBF000000#32)) (Host.divf (rvR c) (vrR c)))) c64)
/-- The gradient of the centred operand, its two parts. -/
def pR (c u : FVec Ideal S2048x8x64 .f32) : FVec Ideal S2048x8x64 .f32 := mulf u (oneR (rvR c))
def qR (c u : FVec Ideal S2048x8x64 .f32) : FVec Ideal S2048x8x64 .f32 := mulf (bR c u) (mulf (broadcastInDim S2048x8x64 ![] bcast_S_S2048x8x64 (constant S_ .f32 0x40000000#32)) c)
/-- What the mean takes of it. -/
def mR (p q : FVec Ideal S2048x8x64 .f32) : FVec Ideal S2048x8x64 .f32 :=
  red1 (Host.divf (addf (shapeCast _ (red (Host.negf p)) shapeCasts_S2048x8_S2048x8x1) (shapeCast _ (red (Host.negf q)) shapeCasts_S2048x8_S2048x8x1)) c64)
/-- The operand's gradient. -/
def gradR (c u : FVec Ideal S2048x8x64 .f32) : FVec Ideal S2048x512 .f32 := fR (addf (addf (pR c u) (qR c u)) (mR (pR c u) (qR c u)))

theorem div64 (a : ℝ) : Ideal.div (a : EReal) ((64 : ℝ) : EReal) = ((a * (1 / 64) : ℝ) : EReal) := by
  rw [div_real (by norm_num), mul_one_div]

section Norm
variable {x u : FVec Ideal S2048x8x64 .f32} {r : Fin 2048} {xr ur : Fin 512 → ℝ}

theorem cenR_at (hx : Row3 x r xr) : Row3 (cenR x) r (cen xr) := fun h j => by
  pointwise [cenR, oneR, c64]
  rw [hx, red_at hx h j, ofBits_64, div64, ← EReal.coe_sub]; rfl

variable {c : FVec Ideal S2048x8x64 .f32} (hc : Row3 c r (cen xr))
include hc

theorem vrR_at (h j) : vrR c (ix3 r h 0) = (vr xr (col h j) : EReal) := by
  pointwise [vrR, c64]
  rw [red_at (mul_at hc hc) h j, ofBits_64, ofBits_nu, div64, ← EReal.coe_add]; rfl

theorem rvR_at (h j) : rvR c (ix3 r h 0) = (rv xr (col h j) : EReal) := by
  pointwise [rvR]; rw [vrR_at hc h j, rsqrt_vr]

theorem nR_at : Row3 (nR c) r (fun k => cen xr k * rv xr k) := mul_at hc (oneR_at (rvR_at hc))

variable (hu : Row3 u r ur)
include hu

theorem bR_at : Row3 (bR c u) r (hsum (part ur xr)) :=
  red1_at fun h j => by
    rw [hsum_part]
    pointwise [c64]
    rw [red_at (mul_at hc hu) h j, rvR_at hc h j, vrR_at hc h j, div_vr, ofBits_64, ofBits_neg_half, ← EReal.coe_mul, ← EReal.coe_mul, div_real (by norm_num)]

theorem pR_at : Row3 (pR c u) r (fun k => ur k * rv xr k) := mul_at hu (oneR_at (rvR_at hc))
theorem qR_at : Row3 (qR c u) r (fun k => hsum (part ur xr) k * (2 * cen xr k)) :=
  mul_at (bR_at hc hu) (mul_at (f := fun _ => 2) (fun h j => by pointwise; exact ofBits_two) hc)

omit hc hu in
theorem mR_at {p q : FVec Ideal S2048x8x64 .f32} {pr qr : Fin 512 → ℝ} (hp : Row3 p r pr) (hq : Row3 q r qr) :
    Row3 (mR p q) r (hsum fun k => (0 - (pr k + qr k)) * (1 / 64)) :=
  red1_at fun h j => by
    pointwise [c64]
    rw [red_at (neg_at hp) h j, red_at (neg_at hq) h j, ofBits_64, ← EReal.coe_add, div64, hsum, hsum, hsum, ← Finset.sum_add_distrib, Finset.sum_mul]
    exact congrArg _ (Finset.sum_congr rfl fun i _ => by ring)

theorem gradR_at (k : Fin 512) : gradR c u (ix2 r k) = (dnorm ur xr k : EReal) := by
  refine (fR_at (add_at (add_at (pR_at hc hu) (qR_at hc hu)) (mR_at (pR_at hc hu) (qR_at hc hu))) k).trans (congrArg _ ?_)
  have e : ∀ k, ur k * rv xr k + hsum (part ur xr) k * (2 * cen xr k) = dcen ur xr k := fun k => by rw [dcen]; ring
  simp only [e]
  rfl

end Norm

/-! ## The gate -/

def sigR (g : FVec Ideal S2048x512 .f32) : FVec Ideal S2048x512 .f32 :=
  Host.divf (broadcastInDim S2048x512 ![] bcast_S_S2048x512 (constant S_ .f32 0x3F800000#32)) (addf (broadcastInDim S2048x512 ![] bcast_S_S2048x512 (constant S_ .f32 0x3F800000#32)) (Host.exp (Host.negf g)))
def dnR (d g : FVec Ideal S2048x512 .f32) : FVec Ideal S2048x512 .f32 := mulf d (mulf g (sigR g))
def dgR (d g o : FVec Ideal S2048x512 .f32) : FVec Ideal S2048x512 .f32 :=
  addf (mulf (mulf o d) (sigR g)) (mulf (mulf g (mulf o d)) (mulf (sigR g) (subf (broadcastInDim S2048x512 ![] bcast_S_S2048x512 (constant S_ .f32 0x3F800000#32)) (sigR g))))
/-- The bonus, every lane of a head the same. -/
def bonusR (r k p : FVec Ideal S2048x8x64 .f32) : FVec Ideal S2048x8x64 .f32 :=
  oneR (broadcastInDim S2048x8x1 ![0, 1] bcast_S2048x8_S2048x8x1_0_1 (red (mulf (mulf r k) p)))
/-- The cotangent of the bonus' sum. -/
def dbR (d v : FVec Ideal S2048x8x64 .f32) : FVec Ideal S2048x8x64 .f32 := red1 (shapeCast _ (red (mulf d v)) shapeCasts_S2048x8_S2048x8x1)
/-- A parameter's gradient: the rows' sum. -/
def sumR (x : FVec Ideal S2048x8x64 .f32) : FVec Ideal S1x512 .f32 :=
  shapeCast _ (Host.reduceAdd (shapeCast _ (Host.reduceAdd x (constant S_ .f32 0x00000000#32) reducesTo_S2048x8x64_S8x64_d0 h_S_ : FVec Ideal S8x64 .f32) shapeCasts_S8x64_S1x8x64) (constant S_ .f32 0x00000000#32) reducesTo_S1x8x64_S8x64_d0 h_S_ : FVec Ideal S8x64 .f32) shapeCasts_S8x64_S1x512

section Gate
variable {r : Fin 2048} {d g o : FVec Ideal S2048x512 .f32} {dr gr or : Fin 512 → ℝ}
  (hd : ∀ k, d (ix2 r k) = (dr k : EReal)) (hg : ∀ k, g (ix2 r k) = (gr k : EReal)) (ho : ∀ k, o (ix2 r k) = (or k : EReal))

include hg
theorem sigR_at (k) : sigR g (ix2 r k) = (sg (gr k) : EReal) := by pointwise [sigR]; rw [hg, div_one_exp]
include hd
theorem dnR_at (k) : dnR d g (ix2 r k) = (gated dr gr k : EReal) := by
  pointwise [dnR]; rw [sigR_at hg, hd, hg, ← EReal.coe_mul, ← EReal.coe_mul]; rfl
include ho
theorem dgR_at (k) : dgR d g o (ix2 r k) = (dg dr gr or k : EReal) := by
  pointwise [dgR]
  rw [sigR_at hg, hd, hg, ho, ← EReal.coe_one]
  simp only [← EReal.coe_mul, ← EReal.coe_add, ← EReal.coe_sub]
  refine congrArg _ ?_
  rw [dg]; ring
end Gate

theorem bonusR_at {x y p : FVec Ideal S2048x8x64 .f32} {r} {xr yr pr : Fin 512 → ℝ} (hx : Row3 x r xr) (hy : Row3 y r yr) (hp : Row3 p r pr) :
    Row3 (bonusR x y p) r (hsum fun k => xr k * yr k * pr k) :=
  oneR_at fun h j => by pointwise; exact red_at (mul_at (mul_at hx hy) hp) h j

theorem dbR_at {d v : FVec Ideal S2048x8x64 .f32} {r} {dr vr : Fin 512 → ℝ} (hd : Row3 d r dr) (hv : Row3 v r vr) : Row3 (dbR d v) r (hsum fun k => dr k * vr k) :=
  red1_at fun h j => by pointwise; exact red_at (mul_at hd hv) h j

theorem sumR_at {x : FVec Ideal S2048x8x64 .f32} {f : Fin 2048 → Fin 512 → ℝ} (hx : ∀ r, Row3 x r (f r)) (k : Fin 512) : sumR x (ix2 0 k) = ((∑ r, f r k : ℝ) : EReal) := by
  pointwise [sumR]
  simp only [Fin.sum_univ_one, hx _ _ _, coe_sum]
  exact congrArg _ (Finset.sum_congr rfl fun r _ => congrArg (f r) (Fin.ext (Nat.div_add_mod k.val 64)))

end Cert.PostReferenceIdeal.Hand

end
-- ==== Proof.Post.RefReads.lean ====
/- The reference's results, read at an index. -/
module

public import proofs.«01_k».proof.Proof.Post.Ref

@[expose] public section

set_option maxRecDepth 16384

noncomputable section

namespace Cert.PostReferenceIdeal.Hand

open Cert.PostReferenceIdeal Cert.PostReferenceIdeal.Gen Cert.PostReferenceIdeal.Value Cert.Reals Cert.HeadSums Cert.HeadNorm Cert.Tail
open Cert.Post (cen rv gated inner Data)
open Cert.FoxpreReferenceIdeal.Hand (col)
open Idealize.ShloMosaic Idealize.ShloMosaic.TcCoe Idealize.ShloMosaic.StableHlo

section Stages
variable (m : (ℓ : Loc nD τ sig) → Buf (Elt Ideal) ℓ) (c : Dev nD)

abbrev A0 : FVec Ideal S2048x512 .f32 := m ((c.tc : Thread nD τ).loc main_arg0)
abbrev A1 : FVec Ideal S2048x512 .f32 := m ((c.tc : Thread nD τ).loc main_arg1)
abbrev A2 : FVec Ideal S2048x512 .f32 := m ((c.tc : Thread nD τ).loc main_arg2)
abbrev A3 : FVec Ideal S2048x512 .f32 := m ((c.tc : Thread nD τ).loc main_arg3)
abbrev A4 : FVec Ideal S2048x512 .f32 := m ((c.tc : Thread nD τ).loc main_arg4)
abbrev A5 : FVec Ideal S1x512 .f32 := m ((c.tc : Thread nD τ).loc main_arg5)
abbrev A6 : FVec Ideal S1x512 .f32 := m ((c.tc : Thread nD τ).loc main_arg6)
abbrev A7 : FVec Ideal S8x64 .f32 := m ((c.tc : Thread nD τ).loc main_arg7)
abbrev A8 : FVec Ideal S2048x512 .f32 := m ((c.tc : Thread nD τ).loc main_arg8)

/-- The centred operand, the gated cotangent, the bonus' cotangent, the value before the gate. -/
def cenOf : FVec Ideal S2048x8x64 .f32 := cenR (hR (A0 m c))
def dnOf : FVec Ideal S2048x8x64 .f32 := hR (dnR (A8 m c) (A4 m c))
def dbOf : FVec Ideal S2048x8x64 .f32 := dbR (dnOf m c) (hR (A3 m c))
def bonusOf : FVec Ideal S2048x8x64 .f32 := bonusR (hR (A1 m c)) (hR (A2 m c)) (headsR (A7 m c))
def innerOf : FVec Ideal S2048x512 .f32 := fR (addf (addf (mulf (nR (cenOf m c)) (wR (A5 m c))) (wR (A6 m c))) (mulf (bonusOf m c) (hR (A3 m c))))

def dyOf : FVec Ideal S2048x512 .f32 := gradR (cenOf m c) (mulf (dnOf m c) (wR (A5 m c)))
def drOf : FVec Ideal S2048x512 .f32 := fR (mulf (mulf (dbOf m c) (headsR (A7 m c))) (hR (A2 m c)))
def dkOf : FVec Ideal S2048x512 .f32 := fR (mulf (hR (A1 m c)) (mulf (dbOf m c) (headsR (A7 m c))))
def dvOf : FVec Ideal S2048x512 .f32 := fR (mulf (bonusOf m c) (dnOf m c))
def dgOf : FVec Ideal S2048x512 .f32 := dgR (A8 m c) (A4 m c) (innerOf m c)
def dwOf : FVec Ideal S1x512 .f32 := sumR (mulf (nR (cenOf m c)) (dnOf m c))
def dbiasOf : FVec Ideal S1x512 .f32 := sumR (dnOf m c)
def dpOf : FVec Ideal S1x512 .f32 := sumR (mulf (mulf (hR (A1 m c)) (hR (A2 m c))) (dbOf m c))

theorem dy_eq : res_main_v104 m c = dyOf m c := by
  unfold res_main_v104
  rfl
theorem dg_eq : res_main_v49 m c = dgOf m c := by
  unfold res_main_v49
  rfl

/-- The run, its results by these names and its arguments kept. -/
theorem run_named (ρ : Dev nD → PrngReg) :
    θ_run defs (onTc (τ := τ) (main (F := Ideal))) ⟨m, fun _ => 0, ρ⟩ fun r => ∀ c : Dev nD,
      (r.2.mem ((c.tc : Thread nD τ).loc main_v104) = dyOf m c
      ∧ r.2.mem ((c.tc : Thread nD τ).loc main_v103) = drOf m c
      ∧ r.2.mem ((c.tc : Thread nD τ).loc main_v102) = dkOf m c
      ∧ r.2.mem ((c.tc : Thread nD τ).loc main_v101) = dvOf m c
      ∧ r.2.mem ((c.tc : Thread nD τ).loc main_v49) = dgOf m c
      ∧ r.2.mem ((c.tc : Thread nD τ).loc main_v76) = dwOf m c
      ∧ r.2.mem ((c.tc : Thread nD τ).loc main_v69) = dbiasOf m c
      ∧ r.2.mem ((c.tc : Thread nD τ).loc main_v105) = dpOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run _ _ _).mono (fun _ h c => ⟨⟨(h c).1.trans (dy_eq m c), (h c).2.1, (h c).2.2.1, (h c).2.2.2.1, (h c).2.2.2.2.1.trans (dg_eq m c),
    (h c).2.2.2.2.2.1, (h c).2.2.2.2.2.2.1, (h c).2.2.2.2.2.2.2.1⟩, (h c).2.2.2.2.2.2.2.2⟩) (run m ρ)

end Stages

/-! ## The reference over the arguments -/

/-- The arguments are these reals. -/
structure Args (m : (ℓ : Loc nD τ sig) → Buf (Elt Ideal) ℓ) (c : Dev nD) (D : Data) : Prop where
  y : ∀ r k, A0 m c (ix2 r k) = (D.y r k : EReal)
  r : ∀ r k, A1 m c (ix2 r k) = (D.r r k : EReal)
  k : ∀ r k, A2 m c (ix2 r k) = (D.k r k : EReal)
  v : ∀ r k, A3 m c (ix2 r k) = (D.v r k : EReal)
  g : ∀ r k, A4 m c (ix2 r k) = (D.g r k : EReal)
  w : ∀ k, A5 m c (ix2 0 k) = (D.w k : EReal)
  b : ∀ k, A6 m c (ix2 0 k) = (D.b k : EReal)
  p : ∀ h j, A7 m c (ix2 h j) = (D.p (col h j) : EReal)
  d : ∀ r k, A8 m c (ix2 r k) = (D.d r k : EReal)

variable {m : (ℓ : Loc nD τ sig) → Buf (Elt Ideal) ℓ} {c : Dev nD} {D : Data} (A : Args m c D) (r : Fin 2048)
include A

theorem cen3 : Row3 (cenOf m c) r (cen (D.y r)) := cenR_at (hR_at (A.y r))
theorem dn3 : Row3 (dnOf m c) r (D.dn r) := hR_at (dnR_at (A.d r) (A.g r))
theorem db3 : Row3 (dbOf m c) r (D.db r) := dbR_at (dn3 A r) (hR_at (A.v r))
theorem bonus3 : Row3 (bonusOf m c) r (hsum fun k => D.r r k * D.k r k * D.p k) := bonusR_at (hR_at (A.r r)) (hR_at (A.k r)) (headsR_at A.p r)
theorem inner_at (k) : innerOf m c (ix2 r k) = (inner (D.y r) (D.r r) (D.k r) (D.v r) D.w D.b D.p k : EReal) :=
  fR_at (add_at (add_at (mul_at (nR_at (cen3 A r)) (wR_at A.w r)) (wR_at A.b r)) (mul_at (bonus3 A r) (hR_at (A.v r)))) k

theorem dy_at (k) : dyOf m c (ix2 r k) = (D.dy r k : EReal) := gradR_at (cen3 A r) (mul_at (dn3 A r) (wR_at A.w r)) k
theorem dr_at (k) : drOf m c (ix2 r k) = (D.dr r k : EReal) := fR_at (mul_at (mul_at (db3 A r) (headsR_at A.p r)) (hR_at (A.k r))) k
theorem dk_at (k) : dkOf m c (ix2 r k) = (D.dk r k : EReal) := fR_at (mul_at (hR_at (A.r r)) (mul_at (db3 A r) (headsR_at A.p r))) k
theorem dv_at (k) : dvOf m c (ix2 r k) = (D.dv r k : EReal) := fR_at (mul_at (bonus3 A r) (dn3 A r)) k
theorem dg_at (k) : dgOf m c (ix2 r k) = (D.dgate r k : EReal) := dgR_at (A.d r) (A.g r) (inner_at A r) k

omit r
theorem dw_at (k) : dwOf m c (ix2 0 k) = ((∑ r, D.dw r k : ℝ) : EReal) := sumR_at (fun r => mul_at (nR_at (cen3 A r)) (dn3 A r)) k
theorem dbias_at (k) : dbiasOf m c (ix2 0 k) = ((∑ r, D.dn r k : ℝ) : EReal) := sumR_at (dn3 A) k
theorem dp_at (k) : dpOf m c (ix2 0 k) = ((∑ r, D.dp r k : ℝ) : EReal) := sumR_at (fun r => mul_at (mul_at (hR_at (A.r r)) (hR_at (A.k r))) (db3 A r)) k

end Cert.PostReferenceIdeal.Hand

end
-- ==== Proof.Post.Claim.lean ====
/- The kernel and the reference leave the same gradients of the head norm, the bonus and the gate. -/
module

public import proofs.«01_k».proof.Defs
public import proofs.«01_k».proof.Proof.Gen.Pre_post_finite
public import proofs.«01_k».proof.Proof.Post.Value
public import proofs.«01_k».proof.Proof.Post.RefReads

@[expose] public section

set_option maxRecDepth 16384

noncomputable section

open Idealize.ShloMosaic Idealize.ShloMosaic.TcCoe Idealize.SL.Sem
open Cert.Reals Cert.Tail

namespace Cert.Post

open Cert.FoxpreReferenceIdeal.Hand (col)

open Cert.PostKernelIdeal in
/-- The precondition, read: the arguments are arrays of reals. -/
theorem reals_of_pre (A0 A1 A2 A3 A4 : FVec Ideal S2048x512 .f32) (A5 A6 : FVec Ideal S1x512 .f32) (A7 : FVec Ideal S8x64 .f32) (A8 : FVec Ideal S2048x512 .f32)
    (h : ∀ i, Cert.Pre_post_finite.fn A0 A1 A2 A3 A4 A5 A6 A7 A8 i = 1#1) :
    ∃ D : Data, (∀ r k, A0 (ix2 r k) = (D.y r k : EReal)) ∧ (∀ r k, A1 (ix2 r k) = (D.r r k : EReal)) ∧ (∀ r k, A2 (ix2 r k) = (D.k r k : EReal))
      ∧ (∀ r k, A3 (ix2 r k) = (D.v r k : EReal)) ∧ (∀ r k, A4 (ix2 r k) = (D.g r k : EReal)) ∧ (∀ k, A5 (ix2 0 k) = (D.w k : EReal))
      ∧ (∀ k, A6 (ix2 0 k) = (D.b k : EReal)) ∧ (∀ k, A7 (ix2 (head k) (lane k)) = (D.p k : EReal)) ∧ ∀ r k, A8 (ix2 r k) = (D.d r k : EReal) := by
  have h := h (fun a => a.elim0)
  dsimp only [Cert.Pre_post_finite.fn, Cert.Pre_post_finite.fn_part1, Cert.Pre_post_finite.fn_part2, andi] at h
  obtain ⟨h, h8⟩ := IntOp.andi_eq_one.mp h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have : Subsingleton Cert.Pre_post_finite.S_.Idx := ⟨fun a b => funext fun i => i.elim0⟩
  obtain ⟨a0, e0⟩ := exists_of_finite A0 _ (fun i => ofBits_inf) _ _ _ _ h0
  obtain ⟨a1, e1⟩ := exists_of_finite A1 _ (fun i => ofBits_inf) _ _ _ _ h1
  obtain ⟨a2, e2⟩ := exists_of_finite A2 _ (fun i => ofBits_inf) _ _ _ _ h2
  obtain ⟨a3, e3⟩ := exists_of_finite A3 _ (fun i => ofBits_inf) _ _ _ _ h3
  obtain ⟨a4, e4⟩ := exists_of_finite A4 _ (fun i => ofBits_inf) _ _ _ _ h4
  obtain ⟨a5, e5⟩ := exists_of_finite A5 _ (fun i => ofBits_inf) _ _ _ _ h5
  obtain ⟨a6, e6⟩ := exists_of_finite A6 _ (fun i => ofBits_inf) _ _ _ _ h6
  obtain ⟨a7, e7⟩ := exists_of_finite A7 _ (fun i => ofBits_inf) _ _ _ _ h7
  obtain ⟨a8, e8⟩ := exists_of_finite A8 _ (fun i => ofBits_inf) _ _ _ _ h8
  exact ⟨⟨fun r k => a0 (ix2 r k), fun r k => a1 (ix2 r k), fun r k => a2 (ix2 r k), fun r k => a3 (ix2 r k), fun r k => a4 (ix2 r k), fun k => a5 (ix2 0 k),
      fun k => a6 (ix2 0 k), fun k => a7 (ix2 (head k) (lane k)), fun r k => a8 (ix2 r k)⟩,
    fun _ _ => e0 _, fun _ _ => e1 _, fun _ _ => e2 _, fun _ _ => e3 _, fun _ _ => e4 _, fun _ => e5 _, fun _ => e6 _, fun _ => e7 _, fun _ _ => e8 _⟩

/-- The reference runs and keeps its arguments; it has no semaphore. -/
theorem ref_frame : Cert.quiescent_PostReferenceIdeal := fun m ρ _ =>
  (θ_run _ _ _).mono (fun _ h => ⟨fun c => (h c).2.2.2.2.2.2.2.2, sem_eq_zero_of_no_sems rfl _⟩) (Cert.PostReferenceIdeal.Value.run m ρ)

/-- The value claim. -/
theorem algebraic : Cert.algebraic_PostKernelIdeal_PostReferenceIdeal_pre_post_finite := by
  intro m g m' g' hpre hargs
  have hfin := fun c => reals_of_pre _ _ _ _ _ _ _ _ _ fun i => congrFun (hpre c) i
  refine ⟨fun c => (Cert.PostKernelIdeal.Gen.dats m 0 c).arrAt 9 _, fun c => (Cert.PostKernelIdeal.Gen.dats m 0 c).arrAt 10 _,
    fun c => (Cert.PostKernelIdeal.Gen.dats m 0 c).arrAt 11 _, fun c => (Cert.PostKernelIdeal.Gen.dats m 0 c).arrAt 12 _,
    fun c => (Cert.PostKernelIdeal.Gen.dats m 0 c).arrAt 13 _, fun c => (Cert.PostKernelIdeal.Gen.dats m 0 c).arrAt 14 _,
    fun c => (Cert.PostKernelIdeal.Gen.dats m 0 c).arrAt 15 _, fun c => (Cert.PostKernelIdeal.Gen.dats m 0 c).arrAt 16 _,
    Cert.PostKernelIdeal.Value.run_blocks m g, (θ_run _ _ _).mono (fun r h c => ?_) (Cert.PostReferenceIdeal.Hand.run_named m' g')⟩
  obtain ⟨⟨h0, h1, h2, h3, h4, h5, h6, h7⟩, hkept⟩ := h c
  obtain ⟨D, e0, e1, e2, e3, e4, e5, e6, e7, e8⟩ := hfin c
  obtain ⟨a0, a1, a2, a3, a4, a5, a6, a7, a8⟩ := hargs c
  have K : Cert.Post.Args m c D := ⟨e0, e1, e2, e3, e4, e5, e6, e7, e8⟩
  have A : Cert.PostReferenceIdeal.Hand.Args m' c D :=
    ⟨fun r k => (congrFun a0 _).trans (e0 r k), fun r k => (congrFun a1 _).trans (e1 r k), fun r k => (congrFun a2 _).trans (e2 r k),
      fun r k => (congrFun a3 _).trans (e3 r k), fun r k => (congrFun a4 _).trans (e4 r k), fun k => (congrFun a5 _).trans (e5 k),
      fun k => (congrFun a6 _).trans (e6 k), fun h j => (congrFun a7 _).trans (by
        rw [← e7]
        exact congrArg₂ (fun i j => (m ((c.tc : Thread _ _).loc Cert.PostKernelIdeal.main_arg7) : FVec Ideal Cert.PostKernelIdeal.S8x64 .f32) (ix2 i j))
          (Fin.ext (by simp only [head, col]; omega)) (Fin.ext (by simp only [lane, col]; omega))),
      fun r k => (congrFun a8 _).trans (e8 r k)⟩
  exact ⟨h0.trans (final_y K _ (PostReferenceIdeal.Hand.dy_at A)).symm, h1.trans (final_r K _ (PostReferenceIdeal.Hand.dr_at A)).symm,
    h2.trans (final_k K _ (PostReferenceIdeal.Hand.dk_at A)).symm, h3.trans (final_v K _ (PostReferenceIdeal.Hand.dv_at A)).symm,
    h4.trans (final_g K _ (PostReferenceIdeal.Hand.dg_at A)).symm, h5.trans (final_w K _ (PostReferenceIdeal.Hand.dw_at A)).symm,
    h6.trans (final_b K _ (PostReferenceIdeal.Hand.dbias_at A)).symm, h7.trans (final_p K _ (PostReferenceIdeal.Hand.dp_at A)).symm, hkept⟩

end Cert.Post

end
-- ==== Proof.Attnfwd.Reads.lean ====
module

public import proofs.«01_k».proof.Proof.Gen.AttnfwdKernelIdeal.Frame
public import proofs.«01_k».proof.Proof.Max
public import Idealize.ShloMosaic.Lib.Pointwise
public import Idealize.ShloMosaic.Lib.WholeRead
public import Idealize.ShloMosaic.Lib.WritesUnit
public import Idealize.ShloMosaic.Lib.Pipeline.ReadBack

/-! # One point's stores, read at an index

What the body leaves in its two output blocks, as one expression of the tile's number `g`: sums and maxima over the keys of
the earlier tiles, which every query of this tile attends, and over the tile's own keys, under the mask. -/

@[expose] public section

set_option maxRecDepth 16384

noncomputable section

namespace Cert.AttnfwdKernelIdeal.Hand

open Cert.AttnfwdKernelIdeal Cert.AttnfwdKernelIdeal.Gen Cert.Reals
open Idealize.ShloMosaic Idealize.ShloMosaic.TcCoe Idealize.ShloMosaic.Tactic
open Idealize.ShloMosaic.Rounds

/-- The blocks of the five inputs at one grid point. -/
structure Ins where
  q : Vec Ideal S1x256x64 .f32
  k : Vec Ideal S1x2048x64 .f32
  v : Vec Ideal S1x2048x64 .f32
  cq : Vec Ideal S1x256x1 .f32
  ck : Vec Ideal S1x1x2048 .f32

/-- The buffers the body is called on, each a whole one. -/
structure Refs where
  q : Memref sig .tc .vmem S1x256x64 .f32
  hq : q.IsWhole
  k : Memref sig .tc .vmem S1x2048x64 .f32
  hk : k.IsWhole
  v : Memref sig .tc .vmem S1x2048x64 .f32
  hv : v.IsWhole
  cq : Memref sig .tc .vmem S1x256x1 .f32
  hcq : cq.IsWhole
  ck : Memref sig .tc .vmem S1x1x2048 .f32
  hck : ck.IsWhole
  o : Memref sig .tc .vmem S1x256x64 .f32
  ho : o.IsWhole
  lse : Memref sig .tc .vmem S1x256x1 .f32
  hlse : lse.IsWhole

/-- The `b`-th key of the earlier tiles, -/
def early (g : ℕ) (hg : 256 * g + 256 ≤ 2048) (b : Fin (256 * g)) : Fin 2048 := ⟨b.val, by omega⟩

/-- and of the tile itself. -/
def own (g : ℕ) (hg : 256 * g + 256 ≤ 2048) (b : Fin 256) : Fin 2048 := ⟨256 * g + b.val, by omega⟩

/-- The logit of the tile's query `a` and key `j`, without the query's own decay, -/
def logitE (x : Ins) (a : Fin 256) (j : Fin 2048) : EReal :=
  (∑ d : Fin 64, x.q (ix3 0 a d) * Ideal.ofBits .f32 1040187392#32 * x.k (ix3 0 j d)) - x.ck (ix3 0 0 j)

/-- and under the mask, the key the tile's own `b`-th. -/
def maskedE (i : grid0.Coords) (g : ℕ) (hg : 256 * g + 256 ≤ 2048) (x : Ins) (a b : Fin 256) : EReal :=
  Scalar.select (IntOp.cmpi .sge (IntOp.addi (Scalar.muli (Scalar.subi (BitVec.ofNat 32 (i 1).val) (BitVec.ofNat 32 g)) 256#32)
      (BitVec.ofNat 32 a.val)) (BitVec.ofNat 32 b.val)) (logitE x a (own g hg b)) (Named.named (F := Ideal) κ "mask" (φ := .f32) 4048155338#32)

/-- The maximum of a row's logits. -/
def topE (i : grid0.Coords) (g : ℕ) (hg : 256 * g + 256 ≤ 2048) (x : Ins) (a : Fin 256) : EReal :=
  max (Finset.fold max (Ideal.ofBits .f32 4286578688#32) (fun b => logitE x a (early g hg b)) Finset.univ)
    (Finset.fold max (Ideal.ofBits .f32 4286578688#32) (fun b => maskedE i g hg x a b) Finset.univ)

/-- The sum of the row's exponentials, -/
def denE (i : grid0.Coords) (g : ℕ) (hg : 256 * g + 256 ≤ 2048) (x : Ins) (a : Fin 256) : EReal :=
  (∑ b, Ideal.exp (logitE x a (early g hg b) - topE i g hg x a)) + ∑ b, Ideal.exp (maskedE i g hg x a b - topE i g hg x a)

/-- and of their products with the values. -/
def numE (i : grid0.Coords) (g : ℕ) (hg : 256 * g + 256 ≤ 2048) (x : Ins) (a : Fin 256) (d : Fin 64) : EReal :=
  (∑ b, Ideal.exp (logitE x a (early g hg b) - topE i g hg x a) * x.v (ix3 0 (early g hg b) d))
    + ∑ b, Ideal.exp (maskedE i g hg x a b - topE i g hg x a) * x.v (ix3 0 (own g hg b) d)

/-- What a point of tile `g` leaves in the output's block and in the block of the rows' logarithms. -/
def Reads (i : grid0.Coords) (g : ℕ) (hg : 256 * g + 256 ≤ 2048) (x : Ins) (O : Vec Ideal S1x256x64 .f32) (L : Vec Ideal S1x256x1 .f32) : Prop :=
  (∀ a d, O (ix3 0 a d) = Ideal.div (numE i g hg x a d) (denE i g hg x a))
    ∧ ∀ a, L (ix3 0 a 0) = topE i g hg x a + Ideal.log (denE i g hg x a) + x.cq (ix3 0 a 0)

theorem none_before (f : Fin (256 * 0) → EReal) (s : EReal) : (∑ b, f b) + s = s := by
  rw [show (∑ b, f b) = 0 from Fintype.sum_empty (ι := Fin 0) f, zero_add]

theorem none_above (f : Fin (256 * 0) → EReal) (s : EReal) : max (Finset.fold max (Ideal.ofBits .f32 4286578688#32) f Finset.univ) s = s := by
  rw [show Finset.fold max (Ideal.ofBits .f32 4286578688#32) f Finset.univ = Ideal.ofBits .f32 4286578688#32 from rfl, ofBits_ninf, max_bot_left]

set_option maxHeartbeats 12800000 in
/-- The output blocks after the point's stores, tile by tile. -/
theorem reads (c : Dev nD) (i : grid0.Coords) (r : Refs) (x : Ins) :
    (∀ h0 h1 h2 h3 h4 h5 h6 h7, Reads i 0 (by decide) x
      (out0_A_5 c i r.q r.hq r.k r.hk r.v r.hv r.cq r.hcq r.ck r.hck r.o r.ho r.lse r.hlse h0 h1 h2 h3 h4 h5 h6 h7 x.q x.k x.v x.cq x.ck)
      (out0_A_6 c i r.q r.hq r.k r.hk r.v r.hv r.cq r.hcq r.ck r.hck r.o r.ho r.lse r.hlse h0 h1 h2 h3 h4 h5 h6 h7 x.q x.k x.v x.cq x.ck))
    ∧ (∀ h0 h1 h2 h3 h4 h5 h6 h7, Reads i 1 (by decide) x
      (out0_B_5 c i r.q r.hq r.k r.hk r.v r.hv r.cq r.hcq r.ck r.hck r.o r.ho r.lse r.hlse h0 h1 h2 h3 h4 h5 h6 h7 x.q x.k x.v x.cq x.ck)
      (out0_B_6 c i r.q r.hq r.k r.hk r.v r.hv r.cq r.hcq r.ck r.hck r.o r.ho r.lse r.hlse h0 h1 h2 h3 h4 h5 h6 h7 x.q x.k x.v x.cq x.ck))
    ∧ (∀ h0 h1 h2 h3 h4 h5 h6 h7, Reads i 2 (by decide) x
      (out0_C_5 c i r.q r.hq r.k r.hk r.v r.hv r.cq r.hcq r.ck r.hck r.o r.ho r.lse r.hlse h0 h1 h2 h3 h4 h5 h6 h7 x.q x.k x.v x.cq x.ck)
      (out0_C_6 c i r.q r.hq r.k r.hk r.v r.hv r.cq r.hcq r.ck r.hck r.o r.ho r.lse r.hlse h0 h1 h2 h3 h4 h5 h6 h7 x.q x.k x.v x.cq x.ck))
    ∧ (∀ h0 h1 h2 h3 h4 h5 h6 h7, Reads i 3 (by decide) x
      (out0_D_5 c i r.q r.hq r.k r.hk r.v r.hv r.cq r.hcq r.ck r.hck r.o r.ho r.lse r.hlse h0 h1 h2 h3 h4 h5 h6 h7 x.q x.k x.v x.cq x.ck)
      (out0_D_6 c i r.q r.hq r.k r.hk r.v r.hv r.cq r.hcq r.ck r.hck r.o r.ho r.lse r.hlse h0 h1 h2 h3 h4 h5 h6 h7 x.q x.k x.v x.cq x.ck))
    ∧ (∀ h0 h1 h2 h3 h4 h5 h6 h7, Reads i 4 (by decide) x
      (out0_E_5 c i r.q r.hq r.k r.hk r.v r.hv r.cq r.hcq r.ck r.hck r.o r.ho r.lse r.hlse h0 h1 h2 h3 h4 h5 h6 h7 x.q x.k x.v x.cq x.ck)
      (out0_E_6 c i r.q r.hq r.k r.hk r.v r.hv r.cq r.hcq r.ck r.hck r.o r.ho r.lse r.hlse h0 h1 h2 h3 h4 h5 h6 h7 x.q x.k x.v x.cq x.ck))
    ∧ (∀ h0 h1 h2 h3 h4 h5 h6 h7, Reads i 5 (by decide) x
      (out0_F_5 c i r.q r.hq r.k r.hk r.v r.hv r.cq r.hcq r.ck r.hck r.o r.ho r.lse r.hlse h0 h1 h2 h3 h4 h5 h6 h7 x.q x.k x.v x.cq x.ck)
      (out0_F_6 c i r.q r.hq r.k r.hk r.v r.hv r.cq r.hcq r.ck r.hck r.o r.ho r.lse r.hlse h0 h1 h2 h3 h4 h5 h6 h7 x.q x.k x.v x.cq x.ck))
    ∧ (∀ h0 h1 h2 h3 h4 h5 h6 h7, Reads i 6 (by decide) x
      (out0_G_5 c i r.q r.hq r.k r.hk r.v r.hv r.cq r.hcq r.ck r.hck r.o r.ho r.lse r.hlse h0 h1 h2 h3 h4 h5 h6 h7 x.q x.k x.v x.cq x.ck)
      (out0_G_6 c i r.q r.hq r.k r.hk r.v r.hv r.cq r.hcq r.ck r.hck r.o r.ho r.lse r.hlse h0 h1 h2 h3 h4 h5 h6 h7 x.q x.k x.v x.cq x.ck))
    ∧ (∀ h0 h1 h2 h3 h4 h5 h6 h7, Reads i 7 (by decide) x
      (out0_H_5 c i r.q r.hq r.k r.hk r.v r.hv r.cq r.hcq r.ck r.hck r.o r.ho r.lse r.hlse h0 h1 h2 h3 h4 h5 h6 h7 x.q x.k x.v x.cq x.ck)
      (out0_H_6 c i r.q r.hq r.k r.hk r.v r.hv r.cq r.hcq r.ck r.hck r.o r.ho r.lse r.hlse h0 h1 h2 h3 h4 h5 h6 h7 x.q x.k x.v x.cq x.ck)) := by
  refine ⟨fun _ _ _ _ _ _ _ _ => ⟨fun a d => ?_, fun a => ?_⟩,
    fun _ _ _ _ _ _ _ _ => ⟨fun a d => ?_, fun a => ?_⟩,
    fun _ _ _ _ _ _ _ _ => ⟨fun a d => ?_, fun a => ?_⟩,
    fun _ _ _ _ _ _ _ _ => ⟨fun a d => ?_, fun a => ?_⟩,
    fun _ _ _ _ _ _ _ _ => ⟨fun a d => ?_, fun a => ?_⟩,
    fun _ _ _ _ _ _ _ _ => ⟨fun a d => ?_, fun a => ?_⟩,
    fun _ _ _ _ _ _ _ _ => ⟨fun a d => ?_, fun a => ?_⟩,
    fun _ _ _ _ _ _ _ _ => ⟨fun a d => ?_, fun a => ?_⟩⟩
  all_goals simp only [numE, denE, topE, none_before, none_above]
  all_goals dsimp only [
      out0_A_5, out0_A_6, out0_B_5, out0_B_6, out0_C_5, out0_C_6, out0_D_5, out0_D_6, out0_E_5, out0_E_6, out0_F_5, out0_F_6, out0_G_5, out0_G_6,
      out0_H_5, out0_H_6, kernelRun0_A, kernelRun0_B, kernelRun0_C, kernelRun0_D, kernelRun0_E, kernelRun0_F, kernelRun0_G, kernelRun0_H]
  all_goals first
    | refine (View.read_writes_cons_unit_of_mem _ _ _ _ _ _ (ix3 0 a d) rfl (by intro e; fin_cases e <;> simp)).trans ?_
    | refine (View.read_writes_cons_unit_of_mem _ _ _ _ _ _ (ix3 0 a 0) rfl (by intro e; fin_cases e <;> simp)).trans ?_
  all_goals pointwise [
      k0_pay1, k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28, k0_pay29,
      k0_pay30, k0_pay31, k0_pay32, k0_pay33, k0_pay34, k0_pay35, k0_pay36, k0_pay37, k0_pay38, k0_pay39, k0_pay40, k0_pay41, k0_pay42, k0_pay43,
      k0_pay44, k0_pay45, k0_pay46, k0_pay47, k0_pay48, k0_pay49, k0_pay50, k0_pay51, k0_pay52, k0_pay53, k0_pay54, k0_pay55, k0_pay56, k0_pay57,
      k0_pay58, k0_pay59, k0_pay60, k0_pay61, k0_pay62, k0_pay63, k0_pay64, k0_pay65, k0_pay66, k0_pay67, k0_pay68, k0_pay69, k0_pay70, k0_pay71,
      k0_pay72, k0_pay73, k0_pay74, k0_pay75, k0_pay76, k0_pay77, kernelRun0_A.sl.r, kernelRun0_A.sl.r_1, kernelRun0_A.sl.r_2, kernelRun0_A.sl.v117,
      kernelRun0_A.sl.v118, kernelRun0_A.sl.v157, kernelRun0_A.sl.v158, kernelRun0_A.sl.v20, kernelRun0_A.sl.v21, kernelRun0_A.sl.v22,
      kernelRun0_A.sl.v23, kernelRun0_A.sl.v24, kernelRun0_A.sl.v25, kernelRun0_A.sl.v31, kernelRun0_A.sl.v32, kernelRun0_A.sl.v33,
      kernelRun0_A.sl.v34, kernelRun0_A.sl.v35, kernelRun0_A.sl.v36, kernelRun0_A.sl.v37, kernelRun0_A.sl.v38, kernelRun0_A.sl.v77,
      kernelRun0_A.sl.v78, kernelRun0_B.sl.cst_83, kernelRun0_B.sl.cst_84, kernelRun0_B.sl.cst_88, kernelRun0_B.sl.r, kernelRun0_B.sl.r_1,
      kernelRun0_B.sl.r_2, kernelRun0_B.sl.v117, kernelRun0_B.sl.v118, kernelRun0_B.sl.v157, kernelRun0_B.sl.v158, kernelRun0_B.sl.v197,
      kernelRun0_B.sl.v198, kernelRun0_B.sl.v199, kernelRun0_B.sl.v20, kernelRun0_B.sl.v200, kernelRun0_B.sl.v201, kernelRun0_B.sl.v203,
      kernelRun0_B.sl.v204, kernelRun0_B.sl.v205, kernelRun0_B.sl.v206, kernelRun0_B.sl.v207, kernelRun0_B.sl.v208, kernelRun0_B.sl.v209,
      kernelRun0_B.sl.v21, kernelRun0_B.sl.v210, kernelRun0_B.sl.v211, kernelRun0_B.sl.v212, kernelRun0_B.sl.v213, kernelRun0_B.sl.v214,
      kernelRun0_B.sl.v216, kernelRun0_B.sl.v217, kernelRun0_B.sl.v218, kernelRun0_B.sl.v219, kernelRun0_B.sl.v22, kernelRun0_B.sl.v220,
      kernelRun0_B.sl.v221, kernelRun0_B.sl.v222, kernelRun0_B.sl.v224, kernelRun0_B.sl.v225, kernelRun0_B.sl.v226, kernelRun0_B.sl.v227,
      kernelRun0_B.sl.v229, kernelRun0_B.sl.v23, kernelRun0_B.sl.v230, kernelRun0_B.sl.v232, kernelRun0_B.sl.v233, kernelRun0_B.sl.v24,
      kernelRun0_B.sl.v25, kernelRun0_B.sl.v31, kernelRun0_B.sl.v32, kernelRun0_B.sl.v33, kernelRun0_B.sl.v34, kernelRun0_B.sl.v35,
      kernelRun0_B.sl.v36, kernelRun0_B.sl.v37, kernelRun0_B.sl.v38, kernelRun0_B.sl.v77, kernelRun0_B.sl.v78, kernelRun0_C.sl.cst_83,
      kernelRun0_C.sl.cst_84, kernelRun0_C.sl.cst_88, kernelRun0_C.sl.r, kernelRun0_C.sl.r_1, kernelRun0_C.sl.r_2, kernelRun0_C.sl.v117,
      kernelRun0_C.sl.v118, kernelRun0_C.sl.v157, kernelRun0_C.sl.v158, kernelRun0_C.sl.v197, kernelRun0_C.sl.v198, kernelRun0_C.sl.v199,
      kernelRun0_C.sl.v20, kernelRun0_C.sl.v200, kernelRun0_C.sl.v201, kernelRun0_C.sl.v203, kernelRun0_C.sl.v204, kernelRun0_C.sl.v205,
      kernelRun0_C.sl.v206, kernelRun0_C.sl.v207, kernelRun0_C.sl.v208, kernelRun0_C.sl.v209, kernelRun0_C.sl.v21, kernelRun0_C.sl.v210,
      kernelRun0_C.sl.v211, kernelRun0_C.sl.v212, kernelRun0_C.sl.v213, kernelRun0_C.sl.v214, kernelRun0_C.sl.v216, kernelRun0_C.sl.v217,
      kernelRun0_C.sl.v218, kernelRun0_C.sl.v219, kernelRun0_C.sl.v22, kernelRun0_C.sl.v220, kernelRun0_C.sl.v221, kernelRun0_C.sl.v222,
      kernelRun0_C.sl.v224, kernelRun0_C.sl.v225, kernelRun0_C.sl.v226, kernelRun0_C.sl.v227, kernelRun0_C.sl.v229, kernelRun0_C.sl.v23,
      kernelRun0_C.sl.v230, kernelRun0_C.sl.v232, kernelRun0_C.sl.v233, kernelRun0_C.sl.v24, kernelRun0_C.sl.v25, kernelRun0_C.sl.v31,
      kernelRun0_C.sl.v32, kernelRun0_C.sl.v33, kernelRun0_C.sl.v34, kernelRun0_C.sl.v35, kernelRun0_C.sl.v36, kernelRun0_C.sl.v37,
      kernelRun0_C.sl.v38, kernelRun0_C.sl.v77, kernelRun0_C.sl.v78, kernelRun0_D.sl.cst_83, kernelRun0_D.sl.cst_84, kernelRun0_D.sl.cst_88,
      kernelRun0_D.sl.r, kernelRun0_D.sl.r_1, kernelRun0_D.sl.r_2, kernelRun0_D.sl.v117, kernelRun0_D.sl.v118, kernelRun0_D.sl.v157,
      kernelRun0_D.sl.v158, kernelRun0_D.sl.v197, kernelRun0_D.sl.v198, kernelRun0_D.sl.v199, kernelRun0_D.sl.v20, kernelRun0_D.sl.v200,
      kernelRun0_D.sl.v201, kernelRun0_D.sl.v203, kernelRun0_D.sl.v204, kernelRun0_D.sl.v205, kernelRun0_D.sl.v206, kernelRun0_D.sl.v207,
      kernelRun0_D.sl.v208, kernelRun0_D.sl.v209, kernelRun0_D.sl.v21, kernelRun0_D.sl.v210, kernelRun0_D.sl.v211, kernelRun0_D.sl.v212,
      kernelRun0_D.sl.v213, kernelRun0_D.sl.v214, kernelRun0_D.sl.v216, kernelRun0_D.sl.v217, kernelRun0_D.sl.v218, kernelRun0_D.sl.v219,
      kernelRun0_D.sl.v22, kernelRun0_D.sl.v220, kernelRun0_D.sl.v221, kernelRun0_D.sl.v222, kernelRun0_D.sl.v224, kernelRun0_D.sl.v225,
      kernelRun0_D.sl.v226, kernelRun0_D.sl.v227, kernelRun0_D.sl.v229, kernelRun0_D.sl.v23, kernelRun0_D.sl.v230, kernelRun0_D.sl.v232,
      kernelRun0_D.sl.v233, kernelRun0_D.sl.v24, kernelRun0_D.sl.v25, kernelRun0_D.sl.v31, kernelRun0_D.sl.v32, kernelRun0_D.sl.v33,
      kernelRun0_D.sl.v34, kernelRun0_D.sl.v35, kernelRun0_D.sl.v36, kernelRun0_D.sl.v37, kernelRun0_D.sl.v38, kernelRun0_D.sl.v77,
      kernelRun0_D.sl.v78, kernelRun0_E.sl.cst_83, kernelRun0_E.sl.cst_84, kernelRun0_E.sl.cst_88, kernelRun0_E.sl.r, kernelRun0_E.sl.r_1,
      kernelRun0_E.sl.r_2, kernelRun0_E.sl.v117, kernelRun0_E.sl.v118, kernelRun0_E.sl.v157, kernelRun0_E.sl.v158, kernelRun0_E.sl.v197,
      kernelRun0_E.sl.v198, kernelRun0_E.sl.v199, kernelRun0_E.sl.v20, kernelRun0_E.sl.v200, kernelRun0_E.sl.v201, kernelRun0_E.sl.v203,
      kernelRun0_E.sl.v204, kernelRun0_E.sl.v205, kernelRun0_E.sl.v206, kernelRun0_E.sl.v207, kernelRun0_E.sl.v208, kernelRun0_E.sl.v209,
      kernelRun0_E.sl.v21, kernelRun0_E.sl.v210, kernelRun0_E.sl.v211, kernelRun0_E.sl.v212, kernelRun0_E.sl.v213, kernelRun0_E.sl.v214,
      kernelRun0_E.sl.v216, kernelRun0_E.sl.v217, kernelRun0_E.sl.v218, kernelRun0_E.sl.v219, kernelRun0_E.sl.v22, kernelRun0_E.sl.v220,
      kernelRun0_E.sl.v221, kernelRun0_E.sl.v222, kernelRun0_E.sl.v224, kernelRun0_E.sl.v225, kernelRun0_E.sl.v226, kernelRun0_E.sl.v227,
      kernelRun0_E.sl.v229, kernelRun0_E.sl.v23, kernelRun0_E.sl.v230, kernelRun0_E.sl.v232, kernelRun0_E.sl.v233, kernelRun0_E.sl.v24,
      kernelRun0_E.sl.v25, kernelRun0_E.sl.v31, kernelRun0_E.sl.v32, kernelRun0_E.sl.v33, kernelRun0_E.sl.v34, kernelRun0_E.sl.v35,
      kernelRun0_E.sl.v36, kernelRun0_E.sl.v37, kernelRun0_E.sl.v38, kernelRun0_E.sl.v77, kernelRun0_E.sl.v78, kernelRun0_F.sl.cst_83,
      kernelRun0_F.sl.cst_84, kernelRun0_F.sl.cst_88, kernelRun0_F.sl.r, kernelRun0_F.sl.r_1, kernelRun0_F.sl.r_2, kernelRun0_F.sl.v117,
      kernelRun0_F.sl.v118, kernelRun0_F.sl.v157, kernelRun0_F.sl.v158, kernelRun0_F.sl.v197, kernelRun0_F.sl.v198, kernelRun0_F.sl.v199,
      kernelRun0_F.sl.v20, kernelRun0_F.sl.v200, kernelRun0_F.sl.v201, kernelRun0_F.sl.v203, kernelRun0_F.sl.v204, kernelRun0_F.sl.v205,
      kernelRun0_F.sl.v206, kernelRun0_F.sl.v207, kernelRun0_F.sl.v208, kernelRun0_F.sl.v209, kernelRun0_F.sl.v21, kernelRun0_F.sl.v210,
      kernelRun0_F.sl.v211, kernelRun0_F.sl.v212, kernelRun0_F.sl.v213, kernelRun0_F.sl.v214, kernelRun0_F.sl.v216, kernelRun0_F.sl.v217,
      kernelRun0_F.sl.v218, kernelRun0_F.sl.v219, kernelRun0_F.sl.v22, kernelRun0_F.sl.v220, kernelRun0_F.sl.v221, kernelRun0_F.sl.v222,
      kernelRun0_F.sl.v224, kernelRun0_F.sl.v225, kernelRun0_F.sl.v226, kernelRun0_F.sl.v227, kernelRun0_F.sl.v229, kernelRun0_F.sl.v23,
      kernelRun0_F.sl.v230, kernelRun0_F.sl.v232, kernelRun0_F.sl.v233, kernelRun0_F.sl.v24, kernelRun0_F.sl.v25, kernelRun0_F.sl.v31,
      kernelRun0_F.sl.v32, kernelRun0_F.sl.v33, kernelRun0_F.sl.v34, kernelRun0_F.sl.v35, kernelRun0_F.sl.v36, kernelRun0_F.sl.v37,
      kernelRun0_F.sl.v38, kernelRun0_F.sl.v77, kernelRun0_F.sl.v78, kernelRun0_G.sl.cst_83, kernelRun0_G.sl.cst_84, kernelRun0_G.sl.cst_88,
      kernelRun0_G.sl.r, kernelRun0_G.sl.r_1, kernelRun0_G.sl.r_2, kernelRun0_G.sl.v117, kernelRun0_G.sl.v118, kernelRun0_G.sl.v157,
      kernelRun0_G.sl.v158, kernelRun0_G.sl.v197, kernelRun0_G.sl.v198, kernelRun0_G.sl.v199, kernelRun0_G.sl.v20, kernelRun0_G.sl.v200,
      kernelRun0_G.sl.v201, kernelRun0_G.sl.v203, kernelRun0_G.sl.v204, kernelRun0_G.sl.v205, kernelRun0_G.sl.v206, kernelRun0_G.sl.v207,
      kernelRun0_G.sl.v208, kernelRun0_G.sl.v209, kernelRun0_G.sl.v21, kernelRun0_G.sl.v210, kernelRun0_G.sl.v211, kernelRun0_G.sl.v212,
      kernelRun0_G.sl.v213, kernelRun0_G.sl.v214, kernelRun0_G.sl.v216, kernelRun0_G.sl.v217, kernelRun0_G.sl.v218, kernelRun0_G.sl.v219,
      kernelRun0_G.sl.v22, kernelRun0_G.sl.v220, kernelRun0_G.sl.v221, kernelRun0_G.sl.v222, kernelRun0_G.sl.v224, kernelRun0_G.sl.v225,
      kernelRun0_G.sl.v226, kernelRun0_G.sl.v227, kernelRun0_G.sl.v229, kernelRun0_G.sl.v23, kernelRun0_G.sl.v230, kernelRun0_G.sl.v232,
      kernelRun0_G.sl.v233, kernelRun0_G.sl.v24, kernelRun0_G.sl.v25, kernelRun0_G.sl.v31, kernelRun0_G.sl.v32, kernelRun0_G.sl.v33,
      kernelRun0_G.sl.v34, kernelRun0_G.sl.v35, kernelRun0_G.sl.v36, kernelRun0_G.sl.v37, kernelRun0_G.sl.v38, kernelRun0_G.sl.v77,
      kernelRun0_G.sl.v78, kernelRun0_H.sl.r, kernelRun0_H.sl.r_1, kernelRun0_H.sl.r_2, kernelRun0_H.sl.v117, kernelRun0_H.sl.v118,
      kernelRun0_H.sl.v157, kernelRun0_H.sl.v158, kernelRun0_H.sl.v20, kernelRun0_H.sl.v21, kernelRun0_H.sl.v22, kernelRun0_H.sl.v23,
      kernelRun0_H.sl.v24, kernelRun0_H.sl.v25, kernelRun0_H.sl.v31, kernelRun0_H.sl.v32, kernelRun0_H.sl.v33, kernelRun0_H.sl.v34,
      kernelRun0_H.sl.v35, kernelRun0_H.sl.v36, kernelRun0_H.sl.v37, kernelRun0_H.sl.v38, kernelRun0_H.sl.v77, kernelRun0_H.sl.v78, Memref.IsWhole.readAt_unread, logitE, maskedE, early, own]
  all_goals rfl

end Cert.AttnfwdKernelIdeal.Hand

end
-- ==== Proof.Attnfwd.Tile.lean ====
module

public import proofs.«01_k».proof.Proof.Reals
public import proofs.«01_k».proof.Proof.Attn.Tile
public import proofs.«01_k».proof.Proof.Attnfwd.Reads

/-! # One point's stores over the reals

Where a tile's blocks are real, the maximum the body subtracts is a real, and what it leaves is the attention's output and
the logarithm of the row's sum, whichever real was subtracted. -/

@[expose] public section

set_option maxRecDepth 16384

noncomputable section

namespace Cert.AttnfwdKernelIdeal.Hand

open Cert.AttnfwdKernelIdeal Cert.AttnfwdKernelIdeal.Gen Cert.Reals Cert.Attn
open Idealize.ShloMosaic Idealize.ShloMosaic.TcCoe Idealize.ShloMosaic.Tactic
open Cert.AttnKernelIdeal.Hand (sum_parts)

/-- The blocks `x` hold the reals of tile `g` of the head `h`. -/
structure Of (h : Head) (g : ℕ) (hg : 256 * g + 256 ≤ 2048) (x : Ins) : Prop where
  q : ∀ a d, x.q (ix3 0 a d) = (h.q (own g hg a) d : EReal)
  k : ∀ j d, x.k (ix3 0 j d) = (h.k j d : EReal)
  v : ∀ j d, x.v (ix3 0 j d) = (h.v j d : EReal)
  cq : ∀ a, x.cq (ix3 0 a 0) = (h.c (own g hg a) : EReal)
  ck : ∀ j, x.ck (ix3 0 0 j) = (h.c j : EReal)

/-- The mask's stand-in is −∞. -/
theorem mask_bot : Named.named (F := Ideal) κ "mask" (φ := .f32) 4048155338#32 = (⊥ : EReal) := by
  simp [Named.named, κ]

variable {h : Head} {x : Ins} {i : grid0.Coords} {g : ℕ} {hg : 256 * g + 256 ≤ 2048}

theorem logitE_eq (hx : Of h g hg x) (a : Fin 256) (j : Fin 2048) : logitE x a j = (h.logit (own g hg a) j : EReal) := by
  unfold logitE Head.logit
  simp only [hx.q, hx.k, hx.ck, ofBits_scale, ← EReal.coe_mul, coe_sum, ← EReal.coe_sub]

theorem maskedE_eq (hx : Of h g hg x) (hi : (i 1).val = g) (a b : Fin 256) :
    maskedE i g hg x a b = if b.val ≤ a.val then (h.logit (own g hg a) (own g hg b) : EReal) else ⊥ := by
  unfold maskedE
  rw [logitE_eq hx, mask_bot, Scalar.select]
  exact if_congr (Cert.AttnKernelIdeal.Hand.mask_iff i g hi a b) rfl rfl

/-- The maximum is a real: no logit is +∞ and the query's own is real. -/
theorem top_real (hx : Of h g hg x) (hi : (i 1).val = g) (a : Fin 256) : ∃ M : ℝ, topE i g hg x a = (M : EReal) := by
  obtain ⟨M, hM⟩ := exists_max (fun b => maskedE i g hg x a b) (fun b => by
      rw [maskedE_eq hx hi]; split_ifs
      · exact EReal.coe_ne_top _
      · exact bot_ne_top) a (by rw [maskedE_eq hx hi, if_pos le_rfl]; exact EReal.coe_ne_bot _)
  have hlt : Finset.fold max ⊥ (fun b => logitE x a (early g hg b)) Finset.univ < ⊤ :=
    Finset.fold_max_lt _ |>.mpr ⟨bot_lt_top, fun b _ => by rw [logitE_eq hx]; exact EReal.coe_lt_top _⟩
  unfold topE
  rw [ofBits_ninf, hM]
  exact ⟨_, (EReal.coe_toReal (max_lt hlt (EReal.coe_lt_top M)).ne (lt_of_lt_of_le (EReal.bot_lt_coe M) (le_max_right _ _)).ne').symm⟩

section Sums

variable (hx : Of h g hg x) (hi : (i 1).val = g) (a : Fin 256) (M : ℝ) (hM : topE i g hg x a = (M : EReal))

include hx hM

/-- A key of an earlier tile stands before every query of this one. -/
theorem exp_early (b : Fin (256 * g)) : Ideal.exp (logitE x a (early g hg b) - topE i g hg x a) = (h.expo M (own g hg a) (early g hg b) : EReal) := by
  rw [logitE_eq hx, hM, ← EReal.coe_sub, Ideal.exp_coe, Head.expo, if_pos (by show b.val ≤ 256 * g + a.val; omega)]

include hi

theorem exp_own (b : Fin 256) : Ideal.exp (maskedE i g hg x a b - topE i g hg x a) = (h.expo M (own g hg a) (own g hg b) : EReal) := by
  rw [maskedE_eq hx hi, hM, Head.expo]
  by_cases hb : b.val ≤ a.val
  · rw [if_pos hb, if_pos (by show 256 * g + b.val ≤ 256 * g + a.val; omega), ← EReal.coe_sub, Ideal.exp_coe]
  · rw [if_neg hb, if_neg (by show ¬256 * g + b.val ≤ 256 * g + a.val; omega), EReal.bot_sub, Ideal.exp_bot]; rfl

omit hx hi hM in
theorem expo_after (j : Fin 2048) (hj : 256 * g + 256 ≤ j.val) : h.expo M (own g hg a) j = 0 :=
  if_neg (by show ¬j.val ≤ 256 * g + a.val; omega)

theorem denE_eq : denE i g hg x a = (h.den M (own g hg a) : EReal) := by
  unfold denE
  simp only [exp_early hx a M hM, exp_own hx hi a M hM, coe_sum, ← EReal.coe_add]
  exact congrArg _ (sum_parts (256 * g) hg (h.expo M (own g hg a)) (expo_after a M))

theorem numE_eq (d : Fin 64) : numE i g hg x a d = ((∑ j, h.expo M (own g hg a) j * h.v j d : ℝ) : EReal) := by
  unfold numE
  simp only [exp_early hx a M hM, exp_own hx hi a M hM, hx.v, ← EReal.coe_mul, coe_sum, ← EReal.coe_add]
  exact congrArg _ (sum_parts (256 * g) hg (fun j => h.expo M (own g hg a) j * h.v j d) fun j hj => by rw [expo_after a M j hj, zero_mul])

end Sums

/-- What the point leaves: the output's rows, and the logarithm of each row's sum with the query's decay put back. -/
theorem tile_out (hx : Of h g hg x) (hi : (i 1).val = g) {O : Vec Ideal S1x256x64 .f32} {L : Vec Ideal S1x256x1 .f32} (hr : Reads i g hg x O L) :
    (∀ a d, O (ix3 0 a d) = (h.out (own g hg a) d : EReal))
      ∧ ∀ a, L (ix3 0 a 0) = ((Real.log (h.den 0 (own g hg a)) + h.c (own g hg a) : ℝ) : EReal) := by
  refine ⟨fun a d => ?_, fun a => ?_⟩ <;> obtain ⟨M, hM⟩ := top_real hx hi a <;> have hp := h.den_pos M (own g hg a)
  · rw [hr.1, numE_eq hx hi a M hM, denE_eq hx hi a M hM, div_real hp.ne', Head.out, Finset.sum_div]
    congr 1
    exact Finset.sum_congr rfl fun j _ => by rw [h.prob_eq M]; ring
  · rw [hr.2, hM, denE_eq hx hi a M hM, hx.cq, Ideal.log_coe, if_neg (not_le.mpr hp), ← EReal.coe_add, ← EReal.coe_add,
      h.den_shift M, Real.log_mul (Real.exp_pos M).ne' hp.ne', Real.log_exp]

end Cert.AttnfwdKernelIdeal.Hand

end
-- ==== Proof.Attnfwd.Value.lean ====
module

public import proofs.«01_k».proof.Proof.Gen.AttnfwdKernelIdeal.Value
public import proofs.«01_k».proof.Proof.Attnfwd.Tile

/-! # What the call leaves in its arrays

Each tile's rows of the output and of the rows' logarithms, over the reals. -/

@[expose] public section

set_option maxRecDepth 16384

noncomputable section

namespace Cert.AttnfwdKernelIdeal.Hand

open Cert.AttnfwdKernelIdeal Cert.AttnfwdKernelIdeal.Gen Cert.Reals Cert.Attn
open Idealize.ShloMosaic Idealize.ShloMosaic.TcCoe Idealize.ShloMosaic.Tactic Idealize.ShloMosaic.StableHlo

/-- The head a point works on, -/
def head (t : Fin cfg0.N) : Fin 8 := ⟨t.val / 8, by have : t.val < 64 := t.isLt; omega⟩

/-- and its tile's queries. -/
def row (t : Fin cfg0.N) (a : Fin 256) : Fin 2048 := own (t.val % 8) (by omega) a

theorem idx : ∀ t : Fin cfg0.N, (win0_0.index t = ![t.val / 8, t.val % 8, 0] ∧ win0_1.index t = ![t.val / 8, 0, 0] ∧ win0_2.index t = ![t.val / 8, 0, 0])
    ∧ (win0_3.index t = ![t.val / 8, t.val % 8, 0] ∧ win0_4.index t = ![t.val / 8, 0, 0])
    ∧ (win0_5.index t = ![t.val / 8, t.val % 8, 0] ∧ win0_6.index t = ![t.val / 8, t.val % 8, 0]) :=
  (by decide +kernel : ∀ t : Fin grid0.N, _)

/-- The grid's second coordinate is the tile's number. -/
theorem tile : ∀ t : Fin cfg0.N, ((grid0.coords t) 1).val = t.val % 8 :=
  (by decide +kernel : ∀ t : Fin grid0.N, _)

/-- The decay as a column, -/
def colC (C : FVec Ideal S8x2048 .f32) : FVec Ideal S8x2048x1 .f32 := broadcastInDim S8x2048x1 ![0, 1] bcast_S8x2048_S8x2048x1_0_1 C

/-- and as a row. -/
def rowC (C : FVec Ideal S8x2048 .f32) : FVec Ideal S8x1x2048 .f32 := broadcastInDim S8x1x2048 ![0, 2] bcast_S8x2048_S8x1x2048_0_2 C

theorem colC_apply (C : FVec Ideal S8x2048 .f32) (e : Fin 8) (r : Fin 2048) : colC C (ix3 e r 0) = C (ix2 e r) := by
  pointwise [colC]

theorem rowC_apply (C : FVec Ideal S8x2048 .f32) (e : Fin 8) (j : Fin 2048) : rowC C (ix3 e 0 j) = C (ix2 e j) := by
  pointwise [rowC]

section Launch

variable {H : Fin 8 → Head} (m : (ℓ : Loc nD τ sig) → Buf (Elt Ideal) ℓ) (c : Dev nD)

theorem V_v0 : (V m c main_v0 : FVec Ideal S8x2048x1 .f32) = colC (m ((c : Thread nD τ).loc main_arg3)) := by
  simp only [V, List.flatten_cons, List.flatten_nil, List.cons_append, List.nil_append, hostOps0]
  after_results; rfl

theorem V_v1 : (V m c main_v1 : FVec Ideal S8x1x2048 .f32) = rowC (m ((c : Thread nD τ).loc main_arg3)) := by
  simp only [V, List.flatten_cons, List.flatten_nil, List.cons_append, List.nil_append, hostOps0]
  after_results; rfl

/-- The blocks at a point. -/
def ins (t : Fin cfg0.N) : Ins := ⟨iblk m c 0 t, iblk m c 1 t, iblk m c 2 t, iblk m c 3 t, iblk m c 4 t⟩

set_option maxHeartbeats 3200000 in
/-- What a point leaves, whichever tile it works on. -/
theorem reads_at (t : Fin cfg0.N) (g : ℕ) (hg : 256 * g + 256 ≤ 2048) (ht : t.val % 8 = g) :
    Reads (grid0.coords t) g hg (ins m c t) (outsAt0 m c t.val t.isLt).1 (outsAt0 m c t.val t.isLt).2 := by
  have R := reads c (grid0.coords t) ⟨ms0_0 t, hs0_0 t, ms0_1 t, hs0_1 t, ms0_2 t, hs0_2 t, ms0_3 t, hs0_3 t, ms0_4 t, hs0_4 t, ms0_5 t, hs0_5 t, ms0_6 t, hs0_6 t⟩
    ⟨iblk m c 0 t, iblk m c 1 t, iblk m c 2 t, iblk m c 3 t, iblk m c 4 t⟩
  dsimp only at R
  obtain ⟨rA, rB, rC, rD, rE, rF, rG, rH⟩ := R
  unfold ins
  match g, ht with
  | 0, ht =>
    rw [outsAt0_A m c t ht (by omega) (by omega) (by omega) (by omega) (by omega) (by omega) (by omega)]
    dsimp only
    exact rA _ _ _ _ _ _ _ _
  | 1, ht =>
    rw [outsAt0_B m c t (by omega) ht (by omega) (by omega) (by omega) (by omega) (by omega) (by omega)]
    dsimp only
    exact rB _ _ _ _ _ _ _ _
  | 2, ht =>
    rw [outsAt0_C m c t (by omega) (by omega) ht (by omega) (by omega) (by omega) (by omega) (by omega)]
    dsimp only
    exact rC _ _ _ _ _ _ _ _
  | 3, ht =>
    rw [outsAt0_D m c t (by omega) (by omega) (by omega) ht (by omega) (by omega) (by omega) (by omega)]
    dsimp only
    exact rD _ _ _ _ _ _ _ _
  | 4, ht =>
    rw [outsAt0_E m c t (by omega) (by omega) (by omega) (by omega) ht (by omega) (by omega) (by omega)]
    dsimp only
    exact rE _ _ _ _ _ _ _ _
  | 5, ht =>
    rw [outsAt0_F m c t (by omega) (by omega) (by omega) (by omega) (by omega) ht (by omega) (by omega)]
    dsimp only
    exact rF _ _ _ _ _ _ _ _
  | 6, ht =>
    rw [outsAt0_G m c t (by omega) (by omega) (by omega) (by omega) (by omega) (by omega) ht (by omega)]
    dsimp only
    exact rG _ _ _ _ _ _ _ _
  | 7, ht =>
    rw [outsAt0_H m c t (by omega) (by omega) (by omega) (by omega) (by omega) (by omega) (by omega) ht]
    dsimp only
    exact rH _ _ _ _ _ _ _ _
  | n + 8, _ => exact absurd hg (by omega)

variable {m c}

/-- Each input's block at a point, its array named. -/
theorem read_0 (t : Fin cfg0.N) (A : Buf (Elt Ideal) ((c : Thread nD τ).loc main_arg0)) (a : Fin 256) (d : Fin 64) :
    (win0_0.blk t).view.read (Elt Ideal) A (ix3 0 a d) = (A : FVec Ideal S8x2048x64 .f32) (ix3 (head t) (row t a) d) := by
  have e : (win0_0.blk t).view.emb (ix3 0 a d) = ix3 (head t) (row t a) d := by blk_ext [idx t, head, row, own]
  blk_simp; rw [e]

theorem read_1 (t : Fin cfg0.N) (A : Buf (Elt Ideal) ((c : Thread nD τ).loc main_arg1)) (j : Fin 2048) (d : Fin 64) :
    (win0_1.blk t).view.read (Elt Ideal) A (ix3 0 j d) = (A : FVec Ideal S8x2048x64 .f32) (ix3 (head t) j d) := by
  have e : (win0_1.blk t).view.emb (ix3 0 j d) = ix3 (head t) j d := by blk_ext [idx t, head, row, own]
  blk_simp; rw [e]

theorem read_2 (t : Fin cfg0.N) (A : Buf (Elt Ideal) ((c : Thread nD τ).loc main_arg2)) (j : Fin 2048) (d : Fin 64) :
    (win0_2.blk t).view.read (Elt Ideal) A (ix3 0 j d) = (A : FVec Ideal S8x2048x64 .f32) (ix3 (head t) j d) := by
  have e : (win0_2.blk t).view.emb (ix3 0 j d) = ix3 (head t) j d := by blk_ext [idx t, head, row, own]
  blk_simp; rw [e]

theorem read_3 (t : Fin cfg0.N) (A : Buf (Elt Ideal) ((c : Thread nD τ).loc main_v0)) (a : Fin 256) :
    (win0_3.blk t).view.read (Elt Ideal) A (ix3 0 a 0) = (A : FVec Ideal S8x2048x1 .f32) (ix3 (head t) (row t a) 0) := by
  have e : (win0_3.blk t).view.emb (ix3 0 a 0) = ix3 (head t) (row t a) 0 := by blk_ext [idx t, head, row, own]
  blk_simp; rw [e]

theorem read_4 (t : Fin cfg0.N) (A : Buf (Elt Ideal) ((c : Thread nD τ).loc main_v1)) (j : Fin 2048) :
    (win0_4.blk t).view.read (Elt Ideal) A (ix3 0 0 j) = (A : FVec Ideal S8x1x2048 .f32) (ix3 (head t) 0 j) := by
  have e : (win0_4.blk t).view.emb (ix3 0 0 j) = ix3 (head t) 0 j := by blk_ext [idx t, head, row, own]
  blk_simp; rw [e]

variable {CT : FVec Ideal S8x2048x64 .f32} (h : Holds H (m ((c : Thread nD τ).loc main_arg0)) (m ((c : Thread nD τ).loc main_arg1))
  (m ((c : Thread nD τ).loc main_arg2)) (m ((c : Thread nD τ).loc main_arg3)) CT)

include h

set_option maxHeartbeats 1600000 in
theorem ins_of (t : Fin cfg0.N) : Of (H (head t)) (t.val % 8) (by omega) (ins m c t) where
  q a d := by
    show (win0_0.blk t).view.read (Elt Ideal) (V m c main_arg0) (ix3 0 a d) = _
    rw [read_0, V_main_arg0]; exact h.q _ _ _
  k j d := by
    show (win0_1.blk t).view.read (Elt Ideal) (V m c main_arg1) (ix3 0 j d) = _
    rw [read_1, V_main_arg1]; exact h.k _ _ _
  v j d := by
    show (win0_2.blk t).view.read (Elt Ideal) (V m c main_arg2) (ix3 0 j d) = _
    rw [read_2, V_main_arg2]; exact h.v _ _ _
  cq a := by
    show (win0_3.blk t).view.read (Elt Ideal) (V m c main_v0) (ix3 0 a 0) = _
    rw [read_3, V_v0, colC_apply]; exact h.c _ _
  ck j := by
    show (win0_4.blk t).view.read (Elt Ideal) (V m c main_v1) (ix3 0 0 j) = _
    rw [read_4, V_v1, rowC_apply]; exact h.c _ _

/-- The output. -/
theorem final_o (G : FVec Ideal S8x2048x64 .f32) (hG : ∀ e r d, G (ix3 e r d) = ((H e).out r d : EReal)) :
    (dats m 0 c).arrAt 5 cfg0.N = G := by
  refine (dats m 0 c).arrAt_eq_of_covers 5 _ (by decide +kernel) fun t hf y => ?_
  blk_simp
  obtain ⟨a, d, rfl⟩ : ∃ (a : Fin 256) (d : Fin 64), y = ix3 0 a d := exists_ix3 y
  have e : (win0_5.blk t).view.emb (ix3 0 a d) = ix3 (head t) (row t a) d := by blk_ext [idx t, head, row, own]
  rw [e, hG, after0_5]
  exact (tile_out (ins_of h t) (tile t) (reads_at m c t _ _ rfl)).1 a d

/-- The logarithms of the rows' sums. -/
theorem final_lse (G : FVec Ideal S8x2048x1 .f32) (hG : ∀ e r, G (ix3 e r 0) = ((Real.log ((H e).den 0 r) + (H e).c r : ℝ) : EReal)) :
    (dats m 0 c).arrAt 6 cfg0.N = G := by
  refine (dats m 0 c).arrAt_eq_of_covers 6 _ (by decide +kernel) fun t hf y => ?_
  blk_simp
  obtain ⟨a, d, rfl⟩ : ∃ (a : Fin 256) (d : Fin 1), y = ix3 0 a d := exists_ix3 y
  obtain rfl : d = 0 := Subsingleton.elim _ _
  have e : (win0_6.blk t).view.emb (ix3 0 a 0) = ix3 (head t) (row t a) 0 := by blk_ext [idx t, head, row, own]
  rw [e, hG, after0_6]
  exact (tile_out (ins_of h t) (tile t) (reads_at m c t _ _ rfl)).2 a

end Launch

end Cert.AttnfwdKernelIdeal.Hand

end
-- ==== Proof.Attnfwd.Ref.lean ====
module

public import proofs.«01_k».proof.Proof.Gen.AttnfwdReferenceIdeal.Run
public import proofs.«01_k».proof.Proof.Attn.RefReads

/-! # The reference, read at an index

The softmax shares its stages with the reference of the gradient; the rows' logarithms are those of the sums of exponentials. -/

@[expose] public section

set_option maxRecDepth 16384

noncomputable section

namespace Cert.AttnfwdReferenceIdeal.Hand

open Cert.AttnfwdReferenceIdeal Cert.AttnfwdReferenceIdeal.Gen Cert.AttnfwdReferenceIdeal.Value Cert.Reals Cert.Attn
open Cert.AttnReferenceIdeal.Hand (logits causal rowMax rowMax₀ expos dens logits_real dens_real probs_real)
open Idealize.ShloMosaic Idealize.ShloMosaic.TcCoe Idealize.ShloMosaic.StableHlo Idealize.SL.Sem

/-- The attention's output from the exponentials. -/
def outs (E : FVec Ideal S8x2048x2048 .f32) (W : FVec Ideal S8x2048x64 .f32) : FVec Ideal S8x2048x64 .f32 :=
  Host.dotGeneral (φ₁ := .f32) (φ₂ := .f32) dot_S8x2048x2048_S8x2048x64_S8x2048x64_2_1_1_2_0_0 none
    (Host.divf E (broadcastInDim S8x2048x2048 ![0, 1, 2] bcast_S8x2048x1_S8x2048x2048_0_1_2 (dens E))) W

/-- The exponentials, nothing subtracted. -/
def exps (L : FVec Ideal S8x2048x2048 .f32) : FVec Ideal S8x2048x2048 .f32 := Host.exp L

/-- The logarithm of the rows' sums. -/
def lses (L : FVec Ideal S8x2048x2048 .f32) : FVec Ideal S8x2048x1 .f32 := Host.log (dens (exps L))

section Results

variable (m : (ℓ : Loc nD τ sig) → Buf (Elt Ideal) ℓ) (c : Dev nD)

theorem out0 : res_main_v28 m c = outs (expos (logits (m ((c.tc : Thread nD τ).loc main_arg0)) (m ((c.tc : Thread nD τ).loc main_arg1)) (m ((c.tc : Thread nD τ).loc main_arg3))))
    (m ((c.tc : Thread nD τ).loc main_arg2)) := by
  unfold res_main_v28 outs expos rowMax rowMax₀ dens logits causal; rfl

/-- The run, its results named. -/
theorem run_named (g : Dev nD → PrngReg) : θ_run (defs (F := Ideal)) (onTc (τ := τ) (main (F := Ideal))) ⟨m, fun _ => 0, g⟩ fun r => ∀ c : Dev nD,
    r.2.mem ((c.tc : Thread nD τ).loc main_v28) = outs (expos (logits (m ((c.tc : Thread nD τ).loc main_arg0)) (m ((c.tc : Thread nD τ).loc main_arg1)) (m ((c.tc : Thread nD τ).loc main_arg3))))
        (m ((c.tc : Thread nD τ).loc main_arg2))
      ∧ r.2.mem ((c.tc : Thread nD τ).loc main_v32) = lses (logits (m ((c.tc : Thread nD τ).loc main_arg0)) (m ((c.tc : Thread nD τ).loc main_arg1)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run _ _ _).mono (fun r h c => ⟨(h c).1.trans (out0 m c), (h c).2.1.trans (by unfold lses exps dens logits causal; rfl), (h c).2.2⟩)
    (Cert.AttnfwdReferenceIdeal.Value.run m g)

end Results

theorem outs_apply (E W) (e : Fin 8) (r : Fin 2048) (d : Fin 64) :
    outs E W (ix3 e r d) = ∑ j, Ideal.div (E (ix3 e r j)) (dens E (ix3 e r 0)) * W (ix3 e j d) := by
  pointwise [outs]

theorem exps_apply (L) (e : Fin 8) (r j : Fin 2048) : exps L (ix3 e r j) = Ideal.exp (L (ix3 e r j)) := by
  pointwise [exps]

theorem lses_apply (L) (e : Fin 8) (r : Fin 2048) : lses L (ix3 e r 0) = Ideal.log (dens (exps L) (ix3 e r 0)) := by
  rw [lses, log_at]

section Real

variable {H : Fin 8 → Head} {Q K W CT : FVec Ideal S8x2048x64 .f32} {C : FVec Ideal S8x2048 .f32} (h : Holds H Q K W C CT)

include h

theorem outs_real (e : Fin 8) (r : Fin 2048) (d : Fin 64) : outs (expos (logits Q K C)) W (ix3 e r d) = ((H e).out r d : EReal) := by
  rw [outs_apply]
  simp only [probs_real h, h.v, ← EReal.coe_mul, coe_sum]; rfl

theorem lses_real (e : Fin 8) (r : Fin 2048) : lses (logits Q K C) (ix3 e r 0) = ((Real.log ((H e).den 0 r) + (H e).c r : ℝ) : EReal) := by
  have hE : ∀ j, exps (logits Q K C) (ix3 e r j) = ((H e).expo (-(H e).c r) r j : EReal) := fun j => by
    rw [exps_apply, logits_real h, Head.expo]
    split_ifs
    · rw [Ideal.exp_coe, sub_neg_eq_add]
    · rw [Ideal.exp_bot]; rfl
  have hp := (H e).den_pos (-(H e).c r) r
  rw [lses_apply, dens_real _ e r _ hE, Ideal.log_coe, if_neg (not_le.mpr hp), (H e).den_shift (-(H e).c r),
    Real.log_mul (Real.exp_pos _).ne' hp.ne', Real.log_exp]
  congr 1; ring

end Real

end Cert.AttnfwdReferenceIdeal.Hand

end
-- ==== Proof.Attnfwd.Claim.lean ====
/- The kernel and the reference leave the same attention and the same logarithms of its rows' sums. -/
module

public import proofs.«01_k».proof.Defs
public import proofs.«01_k».proof.Proof.Gen.Pre_attnf_finite
public import proofs.«01_k».proof.Proof.Attnfwd.Value
public import proofs.«01_k».proof.Proof.Attnfwd.Ref

@[expose] public section

set_option maxRecDepth 16384

noncomputable section

open Idealize.ShloMosaic Idealize.ShloMosaic.TcCoe Idealize.SL.Sem
open Cert.Reals Cert.Attn

namespace Cert.Attnfwd

/-- The precondition, read: every argument is an array of reals; the output's gradient, which no result takes, is zero. -/
theorem reals_of_pre (A0 A1 A2 : FVec Ideal Cert.AttnfwdKernelIdeal.S8x2048x64 .f32) (A3 : FVec Ideal Cert.AttnfwdKernelIdeal.S8x2048 .f32)
    (h : ∀ i, Cert.Pre_attnf_finite.fn A0 A1 A2 A3 i = 1#1) :
    ∃ H : Fin 8 → Head, Holds H A0 A1 A2 A3 fun _ => ((0 : ℝ) : EReal) := by
  have h := h (fun a => a.elim0)
  dsimp only [Cert.Pre_attnf_finite.fn, Cert.Pre_attnf_finite.fn_part1, andi] at h
  obtain ⟨h, h3⟩ := IntOp.andi_eq_one.mp h
  obtain ⟨h, h2⟩ := IntOp.andi_eq_one.mp h
  obtain ⟨h0, h1⟩ := IntOp.andi_eq_one.mp h
  have : Subsingleton Cert.Pre_attnf_finite.S_.Idx := ⟨fun a b => funext fun i => i.elim0⟩
  obtain ⟨q, hq⟩ := exists_of_finite A0 _ (fun i => ofBits_inf) _ _ _ _ h0
  obtain ⟨k, hk⟩ := exists_of_finite A1 _ (fun i => ofBits_inf) _ _ _ _ h1
  obtain ⟨v, hv⟩ := exists_of_finite A2 _ (fun i => ofBits_inf) _ _ _ _ h2
  obtain ⟨d, hd⟩ := exists_of_finite A3 _ (fun i => ofBits_inf) _ _ _ _ h3
  exact ⟨fun e => ⟨fun r s => q (ix3 e r s), fun r s => k (ix3 e r s), fun r s => v (ix3 e r s), fun r => d (ix2 e r), fun _ _ => 0⟩,
    fun _ _ _ => hq _, fun _ _ _ => hk _, fun _ _ _ => hv _, fun _ _ => hd _, fun _ _ _ => rfl⟩

/-- The reference runs and keeps its arguments; it has no semaphore. -/
theorem ref_frame : Cert.quiescent_AttnfwdReferenceIdeal := fun m ρ _ =>
  (θ_run _ _ _).mono (fun _ h => ⟨fun c => (h c).2.2, sem_eq_zero_of_no_sems rfl _⟩) (Cert.AttnfwdReferenceIdeal.Value.run m ρ)

/-- The mask's constant is named −∞. -/
theorem preserves : Cert.preserves_AttnfwdKernel_AttnfwdKernelIdeal :=
  IdealRules.named_const.statement Cert.AttnfwdKernelIdeal.κ "mask" .f32 0xF149F2CA#32 ⊥ rfl

open Cert.AttnfwdKernelIdeal Cert.AttnfwdKernelIdeal.Gen Cert.AttnfwdKernelIdeal.Hand in
/-- The value claim. -/
theorem algebraic : Cert.algebraic_AttnfwdKernelIdeal_AttnfwdReferenceIdeal_pre_attnf_finite := by
  intro m g m' g' hpre hargs
  have hfin : ∀ c, ∃ H : Fin 8 → Head, _ := fun c => reals_of_pre _ _ _ _ fun i => congrFun (hpre c) i
  refine ⟨fun c => (dats m 0 c).arrAt 5 cfg0.N, fun c => (dats m 0 c).arrAt 6 cfg0.N,
    Cert.AttnfwdKernelIdeal.Value.run_blocks m g, (θ_run _ _ _).mono (fun r h c => ?_) (Cert.AttnfwdReferenceIdeal.Hand.run_named m' g')⟩
  obtain ⟨h0, h1, hkept⟩ := h c
  obtain ⟨H, hH⟩ := hfin c
  obtain ⟨a0, a1, a2, a3⟩ := hargs c
  have hR := hH
  rw [← a0, ← a1, ← a2, ← a3] at hR
  exact ⟨h0.trans (final_o hH _ fun e r d => Cert.AttnfwdReferenceIdeal.Hand.outs_real hR e r d).symm,
    h1.trans (final_lse hH _ fun e r => Cert.AttnfwdReferenceIdeal.Hand.lses_real hR e r).symm, hkept⟩

end Cert.Attnfwd

end
-- ==== Proof.Postfwd.Value.lean ====
/- The array the call leaves, as a real formula of the arguments. The body's operations are those with which the backward call
   rebuilds the value before the gate, so what is read of them there (`Post.Parts`) is used again. -/
module

public import proofs.«01_k».proof.Proof.Post.Value
public import proofs.«01_k».proof.Proof.Gen.PostfwdKernelIdeal.Value

@[expose] public section

set_option maxRecDepth 16384

noncomputable section

open Idealize.ShloMosaic Idealize.ShloMosaic.TcCoe Idealize.SL.Sem
open Cert.Reals Cert.HeadSums Cert.HeadNorm Cert.Tail Cert.PostfwdKernelIdeal Cert.PostfwdKernelIdeal.Gen

namespace Cert.Postfwd

open Cert.Post (cen rv inner Data tO tB tI tO_at tB_at tsg_at pay31_eq z0)

/-- The result at row `r` and column `k`, of the arguments (the field for the backward call's cotangent is not used). -/
abbrev result (D : Data) (r : Fin 2048) (k : Fin 512) : ℝ :=
  inner (D.y r) (D.r r) (D.k r) (D.v r) D.w D.b D.p k * (D.g r k * sg (D.g r k))

section Tile
variable (Y R K V G : Vec Ideal S256x512 .f32) (W B P : Vec Ideal S1x512 .f32)

/-- The square of the centred operand. -/
abbrev sq : FVec Ideal S256x512 .f32 := k0_pay9 Y k0_pay3 (k0_pay4 Y) (k0_pay6 Y) (k0_pay7 Y)
/-- The output of the norm. -/
abbrev norm : FVec Ideal S256x512 .f32 :=
  k0_pay19 W B (k0_pay8 Y k0_pay3 (k0_pay4 Y) (k0_pay6 Y) (k0_pay7 Y)) k0_pay10
    (k0_pay13 k0_pay10 (k0_pay11 Y k0_pay3 (k0_pay4 Y) (k0_pay6 Y) (k0_pay7 Y)) (k0_pay12 Y k0_pay3 (k0_pay4 Y) (k0_pay6 Y) (k0_pay7 Y)) (Scalar.ofBits .f32 0x00000000#32))
    (k0_pay14 (sq Y) k0_pay10) (k0_pay15 (sq Y) k0_pay10) (k0_pay17 (sq Y) k0_pay10) (k0_pay18 (sq Y) k0_pay10)
/-- What the body stores. -/
abbrev tile : FVec Ideal S256x512 .f32 :=
  k0_pay1 V G (norm Y W B) (k0_pay20 R K (k0_pay2 P)) k0_pay21 (k0_pay22 R K (k0_pay2 P)) (k0_pay23 R K (k0_pay2 P))

/-- The norm's output is the one the backward call computes. -/
theorem norm_eq : norm Y W B = tO Y W B := by rfl

/-- The gate times the norm's output and the bonus, over any such output. -/
theorem tile_eq (n : FVec Ideal S256x512 .f32) :
    k0_pay1 V G n (k0_pay20 R K (k0_pay2 P)) k0_pay21 (k0_pay22 R K (k0_pay2 P)) (k0_pay23 R K (k0_pay2 P))
      = mulf (addf n (mulf (tB R K P) V)) (mulf G (Cert.PostKernelIdeal.Gen.k0_pay34 G)) := by rfl

variable {Y R K V G W B P} {i : Fin 256} {y q k v g w b p : Fin 512 → ℝ}
  (hY : ∀ k, Y (ix2 i k) = (y k : EReal)) (hR : ∀ l, R (ix2 i l) = (q l : EReal)) (hK : ∀ l, K (ix2 i l) = (k l : EReal))
  (hV : ∀ l, V (ix2 i l) = (v l : EReal)) (hG : ∀ k, G (ix2 i k) = (g k : EReal)) (hW : ∀ k, W (ix2 0 k) = (w k : EReal))
  (hB : ∀ k, B (ix2 0 k) = (b k : EReal)) (hP : ∀ l, P (ix2 0 l) = (p l : EReal))

/-- A row of the product, over any row of the norm's output, the bonus and the sigmoid. -/
theorem gate_at (n t s : FVec Ideal S256x512 .f32) (l : Fin 512) :
    (mulf (addf n (mulf t V)) (mulf G s) : FVec Ideal S256x512 .f32) (ix2 i l) = (n (ix2 i l) + t (ix2 i l) * V (ix2 i l)) * (G (ix2 i l) * s (ix2 i l)) := by
  pointwise

include hY hR hK hV hG hW hB hP in
theorem tile_at (l) : tile Y R K V G W B P (ix2 i l) = ((inner y q k v w b p l * (g l * sg (g l)) : ℝ) : EReal) := by
  refine (congrFun (tile_eq R K V G P _) _).trans ?_
  rw [norm_eq]
  refine (gate_at _ _ _ l).trans ?_
  rw [tO_at hY hW hB, tB_at hR hK hP, tsg_at hG, hV, hG]
  simp only [← EReal.coe_mul, ← EReal.coe_add]
  rfl

end Tile

/-- Row `r` of the tile of point `t`. -/
abbrev row (t : Fin cfg0.N) (r : Fin 256) : Fin 2048 := ⟨256 * t.val + r, by have := t.isLt; change t.val < 8 at this; omega⟩

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0]) ∧ win0_5.index t = ![0, 0] ∧ win0_6.index t = ![0, 0] ∧ win0_7.index t = ![0, 0] ∧ win0_8.index t = ![t.val, 0] :=
  (by decide +kernel : ∀ t : Fin grid0.N, _)

section Blocks
variable (m : (ℓ : Loc nD τ sig) → Buf (Elt Ideal) ℓ) (c : Dev nD)

theorem V_v0 : (V m c main_v0 : FVec Ideal S1x512 .f32)
    = (shapeCast S1x512 (m ((c.tc : Thread nD τ).loc main_arg7) : FVec Ideal S8x64 .f32) shapeCasts_S8x64_S1x512 : FVec Ideal S1x512 .f32) := by
  simp only [V, List.flatten_cons, List.flatten_nil, List.cons_append, List.nil_append, hostOps0]
  after_results
  rfl

/-- The arguments are these reals. -/
structure Args (D : Data) : Prop where
  y : ∀ r k, (m ((c.tc : Thread nD τ).loc main_arg0) : FVec Ideal S2048x512 .f32) (ix2 r k) = (D.y r k : EReal)
  r : ∀ r k, (m ((c.tc : Thread nD τ).loc main_arg1) : FVec Ideal S2048x512 .f32) (ix2 r k) = (D.r r k : EReal)
  k : ∀ r k, (m ((c.tc : Thread nD τ).loc main_arg2) : FVec Ideal S2048x512 .f32) (ix2 r k) = (D.k r k : EReal)
  v : ∀ r k, (m ((c.tc : Thread nD τ).loc main_arg3) : FVec Ideal S2048x512 .f32) (ix2 r k) = (D.v r k : EReal)
  g : ∀ r k, (m ((c.tc : Thread nD τ).loc main_arg4) : FVec Ideal S2048x512 .f32) (ix2 r k) = (D.g r k : EReal)
  w : ∀ k, (m ((c.tc : Thread nD τ).loc main_arg5) : FVec Ideal S1x512 .f32) (ix2 0 k) = (D.w k : EReal)
  b : ∀ k, (m ((c.tc : Thread nD τ).loc main_arg6) : FVec Ideal S1x512 .f32) (ix2 0 k) = (D.b k : EReal)
  p : ∀ k, (m ((c.tc : Thread nD τ).loc main_arg7) : FVec Ideal S8x64 .f32) (ix2 (head k) (lane k)) = (D.p k : EReal)

variable {m c} {D : Data} (A : Args m c D) (t : Fin cfg0.N) (r : Fin 256) (k : Fin 512)
include A

theorem y_at : (iblk m c 0 t : Vec Ideal S256x512 .f32) (ix2 r k) = (D.y (row t r) k : EReal) := by rw [← A.y]; blk_ext! [iblk, V, idx t]
theorem r_at : (iblk m c 1 t : Vec Ideal S256x512 .f32) (ix2 r k) = (D.r (row t r) k : EReal) := by rw [← A.r]; blk_ext! [iblk, V, idx t]
theorem k_at : (iblk m c 2 t : Vec Ideal S256x512 .f32) (ix2 r k) = (D.k (row t r) k : EReal) := by rw [← A.k]; blk_ext! [iblk, V, idx t]
theorem v_at : (iblk m c 3 t : Vec Ideal S256x512 .f32) (ix2 r k) = (D.v (row t r) k : EReal) := by rw [← A.v]; blk_ext! [iblk, V, idx t]
theorem g_at : (iblk m c 4 t : Vec Ideal S256x512 .f32) (ix2 r k) = (D.g (row t r) k : EReal) := by rw [← A.g]; blk_ext! [iblk, V, idx t]
theorem w_at : (iblk m c 5 t : Vec Ideal S1x512 .f32) (ix2 0 k) = (D.w k : EReal) := by rw [← A.w]; blk_ext! [iblk, V, idx t]
theorem b_at : (iblk m c 6 t : Vec Ideal S1x512 .f32) (ix2 0 k) = (D.b k : EReal) := by rw [← A.b]; blk_ext! [iblk, V, idx t]
theorem p_at : (iblk m c 7 t : Vec Ideal S1x512 .f32) (ix2 0 k) = (D.p k : EReal) := by
  have e : (win0_7.blk t).view.emb (ix2 0 k) = ix2 0 k := by blk_ext [idx t]
  blk_simp [iblk]; rw [V_v0, e, ← A.p]; exact Cert.Post.flat_at _ k

/-- The whole array after the run. -/
theorem final (G : FVec Ideal S2048x512 .f32) (hG : ∀ r k, G (ix2 r k) = (result D r k : EReal)) : (dats m 0 c).arrAt 8 cfg0.N = G := by
  refine (dats m 0 c).arrAt_eq_of_covers 8 _ (by decide +kernel) fun t hf y => ?_
  blk_simp
  rw [after0_8]
  obtain ⟨r, l, rfl⟩ : ∃ (r : Fin 256) (l : Fin 512), y = ix2 r l := exists_ix2 y
  have e : (win0_8.blk t).view.emb (ix2 r l) = ix2 (row t r) l := by blk_ext [idx t]
  have key : tile (iblk m c 0 t) (iblk m c 1 t) (iblk m c 2 t) (iblk m c 3 t) (iblk m c 4 t) (iblk m c 5 t) (iblk m c 6 t) (iblk m c 7 t) (ix2 r l)
      = (result D (row t r) l : EReal) :=
    tile_at (y_at A t r) (r_at A t r) (k_at A t r) (v_at A t r) (g_at A t r) (w_at A t) (b_at A t) (p_at A t) l
  rw [e, hG]
  unfold_out out0_8
  frame_out
  exact key

end Blocks

end Cert.Postfwd
end
-- ==== Proof.Postfwd.Claim.lean ====
/- The kernel and the reference leave the same gated value after the head norm and the bonus. -/
module

public import proofs.«01_k».proof.Defs
public import proofs.«01_k».proof.Proof.Gen.Pre_postf_finite
public import proofs.«01_k».proof.Proof.Gen.PostfwdReferenceIdeal.Run
public import proofs.«01_k».proof.Proof.Post.RefReads
public import proofs.«01_k».proof.Proof.Postfwd.Value

@[expose] public section

set_option maxRecDepth 16384

noncomputable section

open Idealize.ShloMosaic Idealize.ShloMosaic.TcCoe Idealize.SL.Sem
open Cert.Reals Cert.Tail

namespace Cert.Postfwd

open Cert.Post (Data inner)
open Cert.FoxpreReferenceIdeal.Hand (col)
open Cert.PostReferenceIdeal.Hand (hR fR headsR wR cenR nR bonusR sigR hR_at fR_at headsR_at wR_at cenR_at nR_at bonusR_at sigR_at mul_at add_at)

section Reference
open Cert.PostfwdReferenceIdeal

/-- The reference's result, in the stages the backward call's reference has. -/
def outR (y r k v g : FVec Ideal S2048x512 .f32) (w b : FVec Ideal S1x512 .f32) (p : FVec Ideal S8x64 .f32) : FVec Ideal S2048x512 .f32 :=
  mulf (fR (addf (addf (mulf (nR (cenR (hR y))) (wR w)) (wR b)) (mulf (bonusR (hR r) (hR k) (headsR p)) (hR v)))) (mulf g (sigR g))

theorem outR_at {y r k v g : FVec Ideal S2048x512 .f32} {w b : FVec Ideal S1x512 .f32} {p : FVec Ideal S8x64 .f32} {D : Data}
    (hy : ∀ r k, y (ix2 r k) = (D.y r k : EReal)) (hr : ∀ i k, r (ix2 i k) = (D.r i k : EReal)) (hk : ∀ r i, k (ix2 r i) = (D.k r i : EReal))
    (hv : ∀ r k, v (ix2 r k) = (D.v r k : EReal)) (hg : ∀ r k, g (ix2 r k) = (D.g r k : EReal)) (hw : ∀ k, w (ix2 0 k) = (D.w k : EReal))
    (hb : ∀ k, b (ix2 0 k) = (D.b k : EReal)) (hp : ∀ h j, p (ix2 h j) = (D.p (col h j) : EReal)) (i : Fin 2048) (l : Fin 512) :
    outR y r k v g w b p (ix2 i l) = (result D i l : EReal) := by
  have hI : fR (addf (addf (mulf (nR (cenR (hR y))) (wR w)) (wR b)) (mulf (bonusR (hR r) (hR k) (headsR p)) (hR v))) (ix2 i l)
      = (inner (D.y i) (D.r i) (D.k i) (D.v i) D.w D.b D.p l : EReal) :=
    fR_at (add_at (add_at (mul_at (nR_at (cenR_at (hR_at (hy i)))) (wR_at hw i)) (wR_at hb i))
      (mul_at (bonusR_at (hR_at (hr i)) (hR_at (hk i)) (headsR_at hp i)) (hR_at (hv i)))) l
  refine (show outR y r k v g w b p (ix2 i l) = fR _ (ix2 i l) * (g (ix2 i l) * sigR g (ix2 i l)) from rfl).trans ?_
  rw [hI, hg, sigR_at (hg i)]
  simp only [← EReal.coe_mul]

variable (m : (ℓ : Loc nD τ sig) → Buf (Elt Ideal) ℓ) (ρ : Dev nD → PrngReg)

/-- The run, its result by this name and its arguments kept. -/
theorem run_named : θ_run defs (onTc (τ := τ) (main (F := Ideal))) ⟨m, fun _ => 0, ρ⟩ fun r => ∀ c : Dev nD,
    r.2.mem ((c.tc : Thread nD τ).loc main_v41) = outR (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run _ _ _).mono (fun _ h c => ⟨(h c).1.trans (by
      unfold outR fR nR Cert.PostReferenceIdeal.Hand.rvR Cert.PostReferenceIdeal.Hand.vrR cenR bonusR sigR wR headsR hR Cert.PostReferenceIdeal.Hand.oneR
        Cert.PostReferenceIdeal.Hand.c64 Cert.PostReferenceIdeal.Hand.red
      rfl), (h c).2⟩) (Cert.PostfwdReferenceIdeal.Value.run m ρ)

end Reference

open Cert.PostfwdKernelIdeal in
/-- The precondition, read: the arguments are arrays of reals. -/
theorem reals_of_pre (A0 A1 A2 A3 A4 : FVec Ideal S2048x512 .f32) (A5 A6 : FVec Ideal S1x512 .f32) (A7 : FVec Ideal S8x64 .f32)
    (h : ∀ i, Cert.Pre_postf_finite.fn A0 A1 A2 A3 A4 A5 A6 A7 i = 1#1) :
    ∃ D : Data, (∀ r k, A0 (ix2 r k) = (D.y r k : EReal)) ∧ (∀ r k, A1 (ix2 r k) = (D.r r k : EReal)) ∧ (∀ r k, A2 (ix2 r k) = (D.k r k : EReal))
      ∧ (∀ r k, A3 (ix2 r k) = (D.v r k : EReal)) ∧ (∀ r k, A4 (ix2 r k) = (D.g r k : EReal)) ∧ (∀ k, A5 (ix2 0 k) = (D.w k : EReal))
      ∧ (∀ k, A6 (ix2 0 k) = (D.b k : EReal)) ∧ ∀ k, A7 (ix2 (head k) (lane k)) = (D.p k : EReal) := by
  have h := h (fun a => a.elim0)
  dsimp only [Cert.Pre_postf_finite.fn, Cert.Pre_postf_finite.fn_part1, Cert.Pre_postf_finite.fn_part2, andi] at h
  obtain ⟨h, h7⟩ := IntOp.andi_eq_one.mp h
  obtain ⟨h, h6⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  have : Subsingleton Cert.Pre_postf_finite.S_.Idx := ⟨fun a b => funext fun i => i.elim0⟩
  obtain ⟨a0, e0⟩ := exists_of_finite A0 _ (fun i => ofBits_inf) _ _ _ _ h0
  obtain ⟨a1, e1⟩ := exists_of_finite A1 _ (fun i => ofBits_inf) _ _ _ _ h1
  obtain ⟨a2, e2⟩ := exists_of_finite A2 _ (fun i => ofBits_inf) _ _ _ _ h2
  obtain ⟨a3, e3⟩ := exists_of_finite A3 _ (fun i => ofBits_inf) _ _ _ _ h3
  obtain ⟨a4, e4⟩ := exists_of_finite A4 _ (fun i => ofBits_inf) _ _ _ _ h4
  obtain ⟨a5, e5⟩ := exists_of_finite A5 _ (fun i => ofBits_inf) _ _ _ _ h5
  obtain ⟨a6, e6⟩ := exists_of_finite A6 _ (fun i => ofBits_inf) _ _ _ _ h6
  obtain ⟨a7, e7⟩ := exists_of_finite A7 _ (fun i => ofBits_inf) _ _ _ _ h7
  exact ⟨⟨fun r k => a0 (ix2 r k), fun r k => a1 (ix2 r k), fun r k => a2 (ix2 r k), fun r k => a3 (ix2 r k), fun r k => a4 (ix2 r k), fun k => a5 (ix2 0 k),
      fun k => a6 (ix2 0 k), fun k => a7 (ix2 (head k) (lane k)), fun _ _ => 0⟩,
    fun _ _ => e0 _, fun _ _ => e1 _, fun _ _ => e2 _, fun _ _ => e3 _, fun _ _ => e4 _, fun _ => e5 _, fun _ => e6 _, fun _ => e7 _⟩

/-- The reference runs and keeps its arguments; it has no semaphore. -/
theorem ref_frame : Cert.quiescent_PostfwdReferenceIdeal := fun m ρ _ =>
  (θ_run _ _ _).mono (fun _ h => ⟨fun c => (h c).2, sem_eq_zero_of_no_sems rfl _⟩) (Cert.PostfwdReferenceIdeal.Value.run m ρ)

/-- The value claim. -/
theorem algebraic : Cert.algebraic_PostfwdKernelIdeal_PostfwdReferenceIdeal_pre_postf_finite := by
  intro m g m' g' hpre hargs
  have hfin := fun c => reals_of_pre _ _ _ _ _ _ _ _ fun i => congrFun (hpre c) i
  refine ⟨fun c => (Cert.PostfwdKernelIdeal.Gen.dats m 0 c).arrAt 8 _, Cert.PostfwdKernelIdeal.Value.run_blocks m g,
    (θ_run _ _ _).mono (fun r h c => ?_) (run_named m' g')⟩
  obtain ⟨h0, hkept⟩ := h c
  obtain ⟨D, e0, e1, e2, e3, e4, e5, e6, e7⟩ := hfin c
  obtain ⟨a0, a1, a2, a3, a4, a5, a6, a7⟩ := hargs c
  refine ⟨h0.trans (final (D := D) ⟨e0, e1, e2, e3, e4, e5, e6, e7⟩ _ (outR_at (fun r k => (congrFun a0 _).trans (e0 r k)) (fun r k => (congrFun a1 _).trans (e1 r k))
    (fun r k => (congrFun a2 _).trans (e2 r k)) (fun r k => (congrFun a3 _).trans (e3 r k)) (fun r k => (congrFun a4 _).trans (e4 r k))
    (fun k => (congrFun a5 _).trans (e5 k)) (fun k => (congrFun a6 _).trans (e6 k)) fun h j => (congrFun a7 _).trans ?_)).symm, hkept⟩
  rw [← e7]
  exact congrArg₂ (fun i j => (m ((c.tc : Thread _ _).loc Cert.PostfwdKernelIdeal.main_arg7) : FVec Ideal Cert.PostfwdKernelIdeal.S8x64 .f32) (ix2 i j))
    (Fin.ext (by simp only [head, col]; omega)) (Fin.ext (by simp only [lane, col]; omega))

end Cert.Postfwd

end
-- ==== Proof.Proj.Value.lean ====
/- The RMS norm fused with the input projection: the arrays the call leaves, read at an index. The readings hold for any
   arguments, infinite ones among them, since kernel and reference put the operations in the same order. -/
module

public import proofs.«01_k».proof.Proof.Gen.ProjKernelIdeal.Value
public import proofs.«01_k».proof.Proof.Reals

@[expose] public section

set_option maxRecDepth 16384

noncomputable section

open Idealize.ShloMosaic Idealize.ShloMosaic.TcCoe Idealize.SL.Sem
open Cert.Reals Cert.ProjKernelIdeal Cert.ProjKernelIdeal.Gen

namespace Cert.Proj

/-- A row's norm with its weights. -/
def nrm (x g : Fin 1024 → EReal) (k : Fin 1024) : EReal :=
  x k * Ideal.rsqrt (Ideal.div (∑ l, x l * x l) (Ideal.ofBits FTy.f32 0x44800000#32) + Ideal.ofBits FTy.f32 0x358637BD#32) * g k

section Tile
variable (X : Vec Ideal S256x1024 .f32) (G : Vec Ideal S1x1024 .f32) (r : Fin 256)

theorem pay2_at (k : Fin 1024) : k0_pay2 X G (ix2 r k) = nrm (fun l => X (ix2 r l)) (fun l => G (ix2 0 l)) k := by
  pointwise [k0_pay2]
  rfl

theorem pay3_at (W : Vec Ideal S2176x1024 .bf16) (k : Fin 2176) :
    k0_pay3 X G W (ix2 r k) = ∑ l, nrm (fun l => X (ix2 r l)) (fun l => G (ix2 0 l)) l * W (ix2 k l) := by
  pointwise [k0_pay3]
  exact Finset.sum_congr rfl fun l _ => by rw [pay2_at]

theorem pay4_at (W : Vec Ideal S2048x1024 .bf16) (k : Fin 2048) :
    k0_pay4 X G W (ix2 r k) = ∑ l, nrm (fun l => X (ix2 r l)) (fun l => G (ix2 0 l)) l * W (ix2 k l) := by
  pointwise [k0_pay4]
  exact Finset.sum_congr rfl fun l _ => by rw [pay2_at]

theorem pay5_at (W : Vec Ideal S2048x1024 .bf16) (k : Fin 2048) :
    k0_pay5 X G W (ix2 r k) = ∑ l, nrm (fun l => X (ix2 r l)) (fun l => G (ix2 0 l)) l * W (ix2 k l) := by
  pointwise [k0_pay5]
  exact Finset.sum_congr rfl fun l _ => by rw [pay2_at]

theorem pay1_at (L : FVec Ideal S256x1024 .bf16) (W : Vec Ideal S128x1024 .bf16) (k : Fin 128) :
    k0_pay1 L W (ix2 r k) = ∑ l, L (ix2 r l) * W (ix2 k l) := by
  pointwise [k0_pay1]

end Tile

/-- Row `r` of the tile of point `t`. -/
abbrev row (t : Fin cfg0.N) (r : Fin 256) : Fin 2048 := ⟨256 * t.val + r, by have : t.val < 8 := t.isLt; omega⟩

theorem idx : ∀ t : Fin cfg0.N, (win0_0.index t = ![t.val, 0] ∧ win0_1.index t = ![0, 0])
    ∧ (win0_2.index t = ![0, 0] ∧ win0_3.index t = ![0, 0] ∧ win0_4.index t = ![0, 0] ∧ win0_5.index t = ![0, 0])
    ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

theorem sitofp_zero (φ : FTy) : (FloatOps.sitofp φ 0#32 : Ideal φ) = (0 : EReal) := by
  simp [FloatOps.sitofp]

variable (m : (ℓ : Loc nD τ sig) → Buf (Elt Ideal) ℓ) (c : Dev nD)

/-- The arguments: the rows, the norm's weights, the projection's. -/
abbrev aX : FVec Ideal S2048x1024 .f32 := m ((c.tc : Thread nD τ).loc main_arg0)
abbrev aG : FVec Ideal S1x1024 .f32 := m ((c.tc : Thread nD τ).loc main_arg1)
abbrev aW : FVec Ideal S1024x6280 .f32 := m ((c.tc : Thread nD τ).loc main_arg2)

/-- The projection's weights, transposed. -/
def wT : FVec Ideal S6280x1024 .bf16 :=
  truncf .bf16 (transpose S6280x1024 [1, 0] (aW m c) transposes_S1024x6280_S6280x1024_1_0) bitsLt_bf16_f32

theorem V_v2 : (V m c main_v2 : FVec Ideal S2176x1024 .bf16) = extractStridedSlice S2176x1024 ![0, 0] (wT m c) slices_S6280x1024_S2176x1024_0_0 := by
  simp only [V, List.flatten_cons, List.flatten_nil, List.cons_append, List.nil_append, hostOps0, hostOps0_1]
  after_results
  rfl

theorem V_v3 : (V m c main_v3 : FVec Ideal S2048x1024 .bf16) = extractStridedSlice S2048x1024 ![2176, 0] (wT m c) slices_S6280x1024_S2048x1024_2176_0 := by
  simp only [V, List.flatten_cons, List.flatten_nil, List.cons_append, List.nil_append, hostOps0, hostOps0_1]
  after_results
  rfl

theorem V_v4 : (V m c main_v4 : FVec Ideal S2048x1024 .bf16) = extractStridedSlice S2048x1024 ![4232, 0] (wT m c) slices_S6280x1024_S2048x1024_4232_0 := by
  simp only [V, List.flatten_cons, List.flatten_nil, List.cons_append, List.nil_append, hostOps0, hostOps0_1]
  after_results
  rfl

theorem V_v6 : (V m c main_v6 : FVec Ideal S128x1024 .bf16)
    = pad S128x1024 ![0, 0] ![120, 0] ![0, 0] (extractStridedSlice S8x1024 ![4224, 0] (wT m c) slices_S6280x1024_S8x1024_4224_0)
        (sitofp .bf16 (constantI S_ 32 0#32)) pads_S8x1024_S128x1024_01200_000 h_S_ := by
  simp only [V, List.flatten_cons, List.flatten_nil, List.cons_append, List.nil_append, hostOps0, hostOps0_1]
  after_results
  rfl

section Blocks
variable (t : Fin cfg0.N)

theorem iblk0 (r : Fin 256) (k : Fin 1024) : (iblk m c 0 t : FVec Ideal S256x1024 .f32) (ix2 r k) = aX m c (ix2 (row t r) k) := by
  blk_ext! [iblk, V, idx t]

theorem iblk1 (k : Fin 1024) : (iblk m c 1 t : FVec Ideal S1x1024 .f32) (ix2 0 k) = aG m c (ix2 0 k) := by
  blk_ext! [iblk, V, idx t]

theorem iblk2 (k : Fin 2176) (l : Fin 1024) : (iblk m c 2 t : FVec Ideal S2176x1024 .bf16) (ix2 k l) = aW m c (ix2 l ⟨k, by omega⟩) := by
  have e : (win0_2.blk t).view.emb (ix2 k l) = ix2 k l := by blk_ext [idx t]
  blk_simp [iblk]
  rw [V_v2, e]
  pointwise [wT]

theorem iblk3 (k : Fin 2048) (l : Fin 1024) : (iblk m c 3 t : FVec Ideal S2048x1024 .bf16) (ix2 k l) = aW m c (ix2 l ⟨2176 + k, by omega⟩) := by
  have e : (win0_3.blk t).view.emb (ix2 k l) = ix2 k l := by blk_ext [idx t]
  blk_simp [iblk]
  rw [V_v3, e]
  pointwise [wT]

theorem iblk4 (k : Fin 2048) (l : Fin 1024) : (iblk m c 4 t : FVec Ideal S2048x1024 .bf16) (ix2 k l) = aW m c (ix2 l ⟨4232 + k, by omega⟩) := by
  have e : (win0_4.blk t).view.emb (ix2 k l) = ix2 k l := by blk_ext [idx t]
  blk_simp [iblk]
  rw [V_v4, e]
  pointwise [wT]

theorem iblk5 (k : Fin 128) (l : Fin 1024) : (iblk m c 5 t : FVec Ideal S128x1024 .bf16) (ix2 k l)
    = if h : k.val < 8 then aW m c (ix2 l ⟨4224 + k, by omega⟩) else (0 : EReal) := by
  have e : (win0_5.blk t).view.emb (ix2 k l) = ix2 k l := by blk_ext [idx t]
  blk_simp [iblk]
  rw [V_v6, e]
  pointwise [wT]
  split_ifs
  · rfl
  · exact sitofp_zero _

end Blocks

/-- A row of the norm's result. -/
abbrev nX (i : Fin 2048) : Fin 1024 → EReal := nrm (fun l => aX m c (ix2 i l)) (fun l => aG m c (ix2 0 l))

/-- The row's norm, from the blocks of its point. -/
theorem nrm_blk (t : Fin cfg0.N) (r : Fin 256) :
    nrm (fun l => (iblk m c 0 t : FVec Ideal S256x1024 .f32) (ix2 r l)) (fun l => (iblk m c 1 t : FVec Ideal S1x1024 .f32) (ix2 0 l)) = nX m c (row t r) := by
  simp only [iblk0, iblk1]

theorem final6 (H : FVec Ideal S2048x1024 .bf16) (hH : ∀ i k, H (ix2 i k) = nX m c i k) : (dats m 0 c).arrAt 6 cfg0.N = H := by
  refine (dats m 0 c).arrAt_eq_of_covers 6 _ (by decide +kernel) fun t hf y => ?_
  blk_simp
  rw [after0_6]
  obtain ⟨r, l, rfl⟩ : ∃ (r : Fin 256) (l : Fin 1024), y = ix2 r l := exists_ix2 y
  have e : (win0_6.blk t).view.emb (ix2 r l) = ix2 (row t r) l := by blk_ext [idx t]
  rw [e, hH]
  frame_out
  exact (pay2_at _ _ r l).trans (congrFun (nrm_blk m c t r) l)

theorem final7 (H : FVec Ideal S2048x2176 .f32) (hH : ∀ i (k : Fin 2176), H (ix2 i k) = ∑ l, nX m c i l * aW m c (ix2 l ⟨k, by omega⟩)) :
    (dats m 0 c).arrAt 7 cfg0.N = H := by
  refine (dats m 0 c).arrAt_eq_of_covers 7 _ (by decide +kernel) fun t hf y => ?_
  blk_simp
  rw [after0_7]
  obtain ⟨r, k, rfl⟩ : ∃ (r : Fin 256) (k : Fin 2176), y = ix2 r k := exists_ix2 y
  have e : (win0_7.blk t).view.emb (ix2 r k) = ix2 (row t r) k := by blk_ext [idx t]
  rw [e, hH]
  frame_out
  exact (pay3_at _ _ r _ k).trans (Finset.sum_congr rfl fun l _ => congrArg₂ (· * ·) (congrFun (nrm_blk m c t r) l) (iblk2 m c t k l))

theorem final8 (H : FVec Ideal S2048x2048 .f32) (hH : ∀ i (k : Fin 2048), H (ix2 i k) = ∑ l, nX m c i l * aW m c (ix2 l ⟨2176 + k, by omega⟩)) :
    (dats m 0 c).arrAt 8 cfg0.N = H := by
  refine (dats m 0 c).arrAt_eq_of_covers 8 _ (by decide +kernel) fun t hf y => ?_
  blk_simp
  rw [after0_8]
  obtain ⟨r, k, rfl⟩ : ∃ (r : Fin 256) (k : Fin 2048), y = ix2 r k := exists_ix2 y
  have e : (win0_8.blk t).view.emb (ix2 r k) = ix2 (row t r) k := by blk_ext [idx t]
  rw [e, hH]
  frame_out
  exact (pay4_at _ _ r _ k).trans (Finset.sum_congr rfl fun l _ => congrArg₂ (· * ·) (congrFun (nrm_blk m c t r) l) (iblk3 m c t k l))

theorem final9 (H : FVec Ideal S2048x2048 .f32) (hH : ∀ i (k : Fin 2048), H (ix2 i k) = ∑ l, nX m c i l * aW m c (ix2 l ⟨4232 + k, by omega⟩)) :
    (dats m 0 c).arrAt 9 cfg0.N = H := by
  refine (dats m 0 c).arrAt_eq_of_covers 9 _ (by decide +kernel) fun t hf y => ?_
  blk_simp
  rw [after0_9]
  obtain ⟨r, k, rfl⟩ : ∃ (r : Fin 256) (k : Fin 2048), y = ix2 r k := exists_ix2 y
  have e : (win0_9.blk t).view.emb (ix2 r k) = ix2 (row t r) k := by blk_ext [idx t]
  rw [e, hH]
  frame_out
  exact (pay5_at _ _ r _ k).trans (Finset.sum_congr rfl fun l _ => congrArg₂ (· * ·) (congrFun (nrm_blk m c t r) l) (iblk4 m c t k l))

/-- The forget gate's columns, zeros behind them: there the weights are zeros. -/
theorem final10 (H : FVec Ideal S2048x128 .f32)
    (hH : ∀ i (k : Fin 128), H (ix2 i k) = if h : k.val < 8 then ∑ l, nX m c i l * aW m c (ix2 l ⟨4224 + k, by omega⟩) else (0 : EReal)) :
    (dats m 0 c).arrAt 10 cfg0.N = H := by
  refine (dats m 0 c).arrAt_eq_of_covers 10 _ (by decide +kernel) fun t hf y => ?_
  blk_simp
  rw [after0_10]
  obtain ⟨r, k, rfl⟩ : ∃ (r : Fin 256) (k : Fin 128), y = ix2 r k := exists_ix2 y
  have e : (win0_10.blk t).view.emb (ix2 r k) = ix2 (row t r) k := by blk_ext [idx t]
  rw [e, hH]
  frame_out
  refine (pay1_at r _ _ k).trans ((Finset.sum_congr rfl fun l _ =>
    congrArg₂ (· * ·) ((pay2_at _ _ r l).trans (congrFun (nrm_blk m c t r) l)) (iblk5 m c t k l)).trans ?_)
  split_ifs
  · rfl
  · exact Finset.sum_eq_zero fun l _ => mul_zero _

end Cert.Proj
end
-- ==== Proof.Proj.Claim.lean ====
/- The kernel and the reference leave the same norm and projection. -/
module

public import proofs.«01_k».proof.Defs
public import proofs.«01_k».proof.Proof.Gen.ProjReferenceIdeal.Run
public import proofs.«01_k».proof.Proof.Proj.Value

@[expose] public section

set_option maxRecDepth 16384

noncomputable section

open Idealize.ShloMosaic Idealize.ShloMosaic.TcCoe Idealize.SL.Sem

namespace Cert.Proj

section Reference
open Cert.ProjReferenceIdeal Cert.ProjReferenceIdeal.Gen

/-- The reference's norm. -/
def normR (X : FVec Ideal S2048x1024 .f32) (G : FVec Ideal S1x1024 .f32) : FVec Ideal S2048x1024 .f32 :=
  mulf (mulf X (broadcastInDim S2048x1024 ![0, 1] bcast_S2048x1_S2048x1024_0_1 (Host.rsqrt (addf (Host.divf (broadcastInDim S2048x1 ![0] bcast_S2048_S2048x1_0 (Host.reduceAdd (mulf X X) (constant S_ .f32 0x00000000#32) reducesTo_S2048x1024_S2048_d1 h_S_)) (broadcastInDim S2048x1 ![] bcast_S_S2048x1 (constant S_ .f32 0x44800000#32))) (broadcastInDim S2048x1 ![] bcast_S_S2048x1 (constant S_ .f32 0x358637BD#32))))))
    (broadcastInDim S2048x1024 ![0, 1] bcast_S1x1024_S2048x1024_0_1 (broadcastInDim S1x1024 ![1] bcast_S1024_S1x1024_1 (shapeCast _ G shapeCasts_S1x1024_S1024)))

theorem normR_at (X G) (i : Fin 2048) (k : Fin 1024) : normR X G (ix2 i k) = nrm (fun l => X (ix2 i l)) (fun l => G (ix2 0 l)) k := by
  pointwise [normR]
  rfl

/-- The reference's projection. -/
def projR (L : FVec Ideal S2048x1024 .f32) (W : FVec Ideal S1024x6280 .f32) : FVec Ideal S2048x6280 .f32 :=
  Host.dotGeneral dot_S2048x1024_S1024x6280_S2048x6280_1_0_0_1_n_n none L W

theorem projR_at (L W) (i : Fin 2048) (k : Fin 6280) : projR L W (ix2 i k) = ∑ l, L (ix2 i l) * W (ix2 l k) := by
  pointwise [projR]

theorem cut_a (u : FVec Ideal S2048x6280 .f32) (i : Fin 2048) (k : Fin 2176) :
    (extractStridedSlice S2048x2176 ![0, 0] u slices_S2048x6280_S2048x2176_0_0 : FVec Ideal S2048x2176 .f32) (ix2 i k) = u (ix2 i ⟨k, by omega⟩) := by
  pointwise

theorem cut_b (u : FVec Ideal S2048x6280 .f32) (i : Fin 2048) (k : Fin 2048) :
    (extractStridedSlice S2048x2048 ![0, 2176] u slices_S2048x6280_S2048x2048_0_2176 : FVec Ideal S2048x2048 .f32) (ix2 i k) = u (ix2 i ⟨2176 + k, by omega⟩) := by
  pointwise

theorem cut_g (u : FVec Ideal S2048x6280 .f32) (i : Fin 2048) (k : Fin 2048) :
    (extractStridedSlice S2048x2048 ![0, 4232] u slices_S2048x6280_S2048x2048_0_4232 : FVec Ideal S2048x2048 .f32) (ix2 i k) = u (ix2 i ⟨4232 + k, by omega⟩) := by
  pointwise

theorem cut_f (u : FVec Ideal S2048x6280 .f32) (i : Fin 2048) (k : Fin 128) :
    (pad S2048x128 ![0, 0] ![0, 120] ![0, 0] (extractStridedSlice S2048x8 ![0, 4224] u slices_S2048x6280_S2048x8_0_4224) (sitofp .f32 (constantI S_ 32 0#32)) pads_S2048x8_S2048x128_000_01200 h_S_ : FVec Ideal S2048x128 .f32) (ix2 i k)
      = if h : k.val < 8 then u (ix2 i ⟨4224 + k, by omega⟩) else (0 : EReal) := by
  pointwise
  split_ifs
  · rfl
  · exact sitofp_zero _

end Reference

/-- The reference runs and keeps its arguments; it has no semaphore. -/
theorem ref_frame : Cert.quiescent_ProjReferenceIdeal := fun m ρ _ =>
  (θ_run _ _ _).mono (fun _ h => ⟨fun c => (h c).2.2.2.2.2, sem_eq_zero_of_no_sems rfl _⟩) (Cert.ProjReferenceIdeal.Value.run m ρ)

/-- The value claim. -/
theorem algebraic : Cert.algebraic_ProjKernelIdeal_ProjReferenceIdeal := by
  intro m g m' g' _ hargs
  refine ⟨fun c => (Cert.ProjKernelIdeal.Gen.dats m 0 c).arrAt 6 _, fun c => (Cert.ProjKernelIdeal.Gen.dats m 0 c).arrAt 7 _,
    fun c => (Cert.ProjKernelIdeal.Gen.dats m 0 c).arrAt 8 _, fun c => (Cert.ProjKernelIdeal.Gen.dats m 0 c).arrAt 9 _,
    fun c => (Cert.ProjKernelIdeal.Gen.dats m 0 c).arrAt 10 _, Cert.ProjKernelIdeal.Value.run_blocks m g,
    (θ_run _ _ _).mono (fun r h c => ?_) (Cert.ProjReferenceIdeal.Value.run m' g')⟩
  obtain ⟨h6, h7, h8, h9, h10, hkept⟩ := h c
  obtain ⟨a0, a1, a2⟩ := hargs c
  have hn : ∀ i k, normR (m' ((c.tc : Thread _ _).loc Cert.ProjReferenceIdeal.main_arg0)) (m' ((c.tc : Thread _ _).loc Cert.ProjReferenceIdeal.main_arg1)) (ix2 i k)
      = nX m c i k := fun i k => by rw [normR_at, a0, a1]
  have hu : ∀ i k, projR (normR (m' ((c.tc : Thread _ _).loc Cert.ProjReferenceIdeal.main_arg0)) (m' ((c.tc : Thread _ _).loc Cert.ProjReferenceIdeal.main_arg1)))
      (m' ((c.tc : Thread _ _).loc Cert.ProjReferenceIdeal.main_arg2)) (ix2 i k) = ∑ l, nX m c i l * aW m c (ix2 l k) := fun i k => by
    rw [projR_at, a2]; exact Finset.sum_congr rfl fun l _ => by rw [hn]
  refine ⟨h6.trans (final6 m c _ hn).symm, h7.trans (final7 m c _ fun i k => (cut_a _ i k).trans (hu i _)).symm,
    h8.trans (final8 m c _ fun i k => (cut_b _ i k).trans (hu i _)).symm, h9.trans (final9 m c _ fun i k => (cut_g _ i k).trans (hu i _)).symm,
    h10.trans (final10 m c _ fun i k => (cut_f _ i k).trans ?_).symm, hkept⟩
  split_ifs
  · exact hu i _
  · rfl

end Cert.Proj

end
-- ==== Proof.lean ====
module

public import proofs.«01_k».proof.Defs
public import proofs.«01_k».proof.Proof.Gen.XgradKernel
public import proofs.«01_k».proof.Proof.Gen.XgradKernel.Skeleton
public import proofs.«01_k».proof.Proof.Gen.XgradKernel.Launch
public import proofs.«01_k».proof.Proof.Gen.XgradKernel.Points
public import proofs.«01_k».proof.Proof.Gen.XgradKernel.Frame
public import proofs.«01_k».proof.Proof.Gen.XgradKernelIdeal
public import proofs.«01_k».proof.Proof.Gen.XgradKernelIdeal.Skeleton
public import proofs.«01_k».proof.Proof.Gen.XgradKernelIdeal.Launch
public import proofs.«01_k».proof.Proof.Gen.XgradKernelIdeal.Points
public import proofs.«01_k».proof.Proof.Gen.XgradKernelIdeal.Frame
public import proofs.«01_k».proof.Proof.Gen.XgradReferenceIdeal
public import proofs.«01_k».proof.Proof.Gen.Pre_xgrad_finite
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnReferenceIdeal
public import proofs.«01_k».proof.Proof.Gen.Pre_attn_finite
public import proofs.«01_k».proof.Proof.Gen.AttnReferenceIdeal.Run
public import proofs.«01_k».proof.Proof.Xgrad.Claim
public import proofs.«01_k».proof.Proof.Attn.Claim
public import proofs.«01_k».proof.Proof.Attn.Bits
public import proofs.«01_k».proof.Proof.Gen.TailKernel
public import proofs.«01_k».proof.Proof.Gen.TailKernel.Frame
public import proofs.«01_k».proof.Proof.Gen.Pre_tail_finite
public import proofs.«01_k».proof.Proof.Tail.Claim
public import proofs.«01_k».proof.Proof.Gen.FoxpreKernel
public import proofs.«01_k».proof.Proof.Gen.FoxpreKernel.Frame
public import proofs.«01_k».proof.Proof.Gen.Pre_foxpre_finite
public import proofs.«01_k».proof.Proof.Foxpre.Claim
public import proofs.«01_k».proof.Proof.Gen.PostKernel
public import proofs.«01_k».proof.Proof.Gen.PostKernel.Frame
public import proofs.«01_k».proof.Proof.Gen.Pre_post_finite
public import proofs.«01_k».proof.Proof.Post.Claim
public import proofs.«01_k».proof.Proof.Gen.AttnfwdKernel
public import proofs.«01_k».proof.Proof.Gen.AttnfwdKernel.Frame
public import proofs.«01_k».proof.Proof.Gen.Pre_attnf_finite
public import proofs.«01_k».proof.Proof.Attnfwd.Claim
public import proofs.«01_k».proof.Proof.Gen.PostfwdKernel
public import proofs.«01_k».proof.Proof.Gen.PostfwdKernel.Frame
public import proofs.«01_k».proof.Proof.Gen.Pre_postf_finite
public import proofs.«01_k».proof.Proof.Postfwd.Claim
public import proofs.«01_k».proof.Proof.Gen.ProjKernel
public import proofs.«01_k».proof.Proof.Gen.ProjKernel.Frame
public import proofs.«01_k».proof.Proof.Proj.Claim
public import Idealize.ShloMosaic.Adequacy
public import Idealize.ShloMosaic.Init

@[expose] public section

noncomputable section

namespace Cert.Proof

open Idealize.ShloMosaic Idealize.SL.Sem Cert.XgradKernel

theorem claim : Cert.Claim := ⟨Cert.XgradKernel.Gen.facts, Cert.XgradKernelIdeal.Gen.facts, Cert.XgradReferenceIdeal.Gen.facts,
  Cert.AttnKernel.Gen.facts, Cert.AttnKernelIdeal.Gen.facts, Cert.AttnReferenceIdeal.Gen.facts,
  Cert.TailKernel.Gen.facts, Cert.TailKernelIdeal.Gen.facts, Cert.TailReferenceIdeal.Gen.facts,
  Cert.FoxpreKernel.Gen.facts, Cert.FoxpreKernelIdeal.Gen.facts, Cert.FoxpreReferenceIdeal.Gen.facts,
  Cert.PostKernel.Gen.facts, Cert.PostKernelIdeal.Gen.facts, Cert.PostReferenceIdeal.Gen.facts,
  Cert.AttnfwdKernel.Gen.facts, Cert.AttnfwdKernelIdeal.Gen.facts, Cert.AttnfwdReferenceIdeal.Gen.facts,
  Cert.PostfwdKernel.Gen.facts, Cert.PostfwdKernelIdeal.Gen.facts, Cert.PostfwdReferenceIdeal.Gen.facts,
  Cert.ProjKernel.Gen.facts, Cert.ProjKernelIdeal.Gen.facts, Cert.ProjReferenceIdeal.Gen.facts,
  Cert.Pre_xgrad_finite.Gen.facts, Cert.Pre_attn_finite.Gen.facts, Cert.Pre_tail_finite.Gen.facts, Cert.Pre_foxpre_finite.Gen.facts, Cert.Pre_post_finite.Gen.facts, Cert.Pre_attnf_finite.Gen.facts,
  Cert.Pre_postf_finite.Gen.facts,
  fun m ρ _ => Cert.XgradKernel.Gen.frame m ρ,
  fun m ρ _ => Cert.XgradKernelIdeal.Gen.frame m ρ,
  fun m ρ _ => Cert.XgradKernelIdeal.Gen.frame m ρ,
  Cert.Xgrad.ref_frame,
  fun m ρ _ => Cert.Xgrad.ref_frame m ρ trivial,
  Cert.AttnKernel.Hand.bits_frame,
  fun m ρ _ => Cert.AttnKernelIdeal.Hand.frame (F := Ideal) m ρ,
  fun m ρ _ => Cert.AttnKernelIdeal.Hand.frame (F := Ideal) m ρ,
  Cert.Attn.ref_frame,
  fun m ρ _ => Cert.Attn.ref_frame m ρ trivial,
  fun m ρ _ => Cert.TailKernel.Gen.frame m ρ,
  fun m ρ _ => Cert.TailKernelIdeal.Gen.frame m ρ,
  fun m ρ _ => Cert.TailKernelIdeal.Gen.frame m ρ,
  Cert.Tail.ref_frame,
  fun m ρ _ => Cert.Tail.ref_frame m ρ trivial,
  fun m ρ _ => Cert.FoxpreKernel.Gen.frame m ρ,
  fun m ρ _ => Cert.FoxpreKernelIdeal.Gen.frame m ρ,
  fun m ρ _ => Cert.FoxpreKernelIdeal.Gen.frame m ρ,
  Cert.Foxpre.ref_frame,
  fun m ρ _ => Cert.Foxpre.ref_frame m ρ trivial,
  fun m ρ _ => Cert.PostKernel.Gen.frame m ρ,
  fun m ρ _ => Cert.PostKernelIdeal.Gen.frame m ρ,
  fun m ρ _ => Cert.PostKernelIdeal.Gen.frame m ρ,
  Cert.Post.ref_frame,
  fun m ρ _ => Cert.Post.ref_frame m ρ trivial,
  fun m ρ _ => Cert.AttnfwdKernel.Gen.frame m ρ,
  fun m ρ _ => Cert.AttnfwdKernelIdeal.Gen.frame m ρ,
  fun m ρ _ => Cert.AttnfwdKernelIdeal.Gen.frame m ρ,
  Cert.Attnfwd.ref_frame,
  fun m ρ _ => Cert.Attnfwd.ref_frame m ρ trivial,
  fun m ρ _ => Cert.PostfwdKernel.Gen.frame m ρ,
  fun m ρ _ => Cert.PostfwdKernelIdeal.Gen.frame m ρ,
  fun m ρ _ => Cert.PostfwdKernelIdeal.Gen.frame m ρ,
  Cert.Postfwd.ref_frame,
  fun m ρ _ => Cert.Postfwd.ref_frame m ρ trivial,
  fun m ρ _ => Cert.ProjKernel.Gen.frame m ρ,
  fun m ρ _ => Cert.ProjKernelIdeal.Gen.frame m ρ,
  Cert.Proj.ref_frame,
  trivial,
  Cert.Xgrad.algebraic,
  Cert.Attn.preserves,
  Cert.Attn.algebraic,
  trivial,
  Cert.Tail.algebraic,
  trivial,
  Cert.Foxpre.algebraic,
  trivial,
  Cert.Post.algebraic,
  Cert.Attnfwd.preserves,
  Cert.Attnfwd.algebraic,
  trivial,
  Cert.Postfwd.algebraic,
  trivial,
  Cert.Proj.algebraic⟩

end Cert.Proof

end
